-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite [hPre_finite : Cert.Pre_finite.Facts] (m : (ℓ : Loc Cert.LossIdeal.nD Cert.LossIdeal.τ Cert.LossIdeal.sig) → Buf (Elt Ideal) ℓ) : Prop :=
  ∀ c : Dev Cert.LossIdeal.nD,
    (Cert.Pre_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite [hPre_finite : Cert.Pre_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_H1 (m : (ℓ : Loc Cert.H1.nD Cert.H1.τ Cert.H1.sig) → Buf (Elt Bits) ℓ) : Prop :=
  True

def Pre_H1Ideal (m : (ℓ : Loc Cert.H1Ideal.nD Cert.H1Ideal.τ Cert.H1Ideal.sig) → Buf (Elt Ideal) ℓ) : Prop :=
  True

def Pre_H1Ideal_finite_h1 [hPre_finite_h1 : Cert.Pre_finite_h1.Facts] (m : (ℓ : Loc Cert.H1Ideal.nD Cert.H1Ideal.τ Cert.H1Ideal.sig) → Buf (Elt Ideal) ℓ) : Prop :=
  ∀ c : Dev Cert.H1Ideal.nD,
    (Cert.Pre_finite_h1.fn (F := Ideal) (m ((c.tc : Thread Cert.H1Ideal.nD Cert.H1Ideal.τ).loc Cert.H1Ideal.main_arg0)) (m ((c.tc : Thread Cert.H1Ideal.nD Cert.H1Ideal.τ).loc Cert.H1Ideal.main_arg1)) (m ((c.tc : Thread Cert.H1Ideal.nD Cert.H1Ideal.τ).loc Cert.H1Ideal.main_arg2)) (m ((c.tc : Thread Cert.H1Ideal.nD Cert.H1Ideal.τ).loc Cert.H1Ideal.main_arg3)) (m ((c.tc : Thread Cert.H1Ideal.nD Cert.H1Ideal.τ).loc Cert.H1Ideal.main_arg4))) = (fun _ => 1#1)

def Pre_H1RefIdeal (m : (ℓ : Loc Cert.H1RefIdeal.nD Cert.H1RefIdeal.τ Cert.H1RefIdeal.sig) → Buf (Elt Ideal) ℓ) : Prop :=
  True

def Pre_H1RefIdeal_finite_h1 [hPre_finite_h1 : Cert.Pre_finite_h1.Facts] (m : (ℓ : Loc Cert.H1RefIdeal.nD Cert.H1RefIdeal.τ Cert.H1RefIdeal.sig) → Buf (Elt Ideal) ℓ) : Prop :=
  ∀ c : Dev Cert.H1RefIdeal.nD,
    (Cert.Pre_finite_h1.fn (F := Ideal) (m ((c.tc : Thread Cert.H1RefIdeal.nD Cert.H1RefIdeal.τ).loc Cert.H1RefIdeal.main_arg0)) (m ((c.tc : Thread Cert.H1RefIdeal.nD Cert.H1RefIdeal.τ).loc Cert.H1RefIdeal.main_arg1)) (m ((c.tc : Thread Cert.H1RefIdeal.nD Cert.H1RefIdeal.τ).loc Cert.H1RefIdeal.main_arg2)) (m ((c.tc : Thread Cert.H1RefIdeal.nD Cert.H1RefIdeal.τ).loc Cert.H1RefIdeal.main_arg3)) (m ((c.tc : Thread Cert.H1RefIdeal.nD Cert.H1RefIdeal.τ).loc Cert.H1RefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_conv [hPre_finite_conv : Cert.Pre_finite_conv.Facts] (m : (ℓ : Loc Cert.ConvIdeal.nD Cert.ConvIdeal.τ Cert.ConvIdeal.sig) → Buf (Elt Ideal) ℓ) : Prop :=
  ∀ c : Dev Cert.ConvIdeal.nD,
    (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5)) (m ((c.tc : Thread Cert.ConvRefIdeal.nD Cert.ConvRefIdeal.τ).loc Cert.ConvRefIdeal.main_arg6))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdIdeal_finite_conv_fwd [hPre_finite_conv_fwd : Cert.Pre_finite_conv_fwd.Facts] (m : (ℓ : Loc Cert.ConvFwdIdeal.nD Cert.ConvFwdIdeal.τ Cert.ConvFwdIdeal.sig) → Buf (Elt Ideal) ℓ) : Prop :=
  ∀ c : Dev Cert.ConvFwdIdeal.nD,
    (Cert.Pre_finite_conv_fwd.fn (F := Ideal) (m ((c.tc : Thread Cert.ConvFwdIdeal.nD Cert.ConvFwdIdeal.τ).loc Cert.ConvFwdIdeal.main_arg0)) (m ((c.tc : Thread Cert.ConvFwdIdeal.nD Cert.ConvFwdIdeal.τ).loc Cert.ConvFwdIdeal.main_arg1)) (m ((c.tc : Thread Cert.ConvFwdIdeal.nD Cert.ConvFwdIdeal.τ).loc Cert.ConvFwdIdeal.main_arg2)) (m ((c.tc : Thread Cert.ConvFwdIdeal.nD Cert.ConvFwdIdeal.τ).loc Cert.ConvFwdIdeal.main_arg3)) (m ((c.tc : Thread Cert.ConvFwdIdeal.nD Cert.ConvFwdIdeal.τ).loc Cert.ConvFwdIdeal.main_arg4)) (m ((c.tc : Thread Cert.ConvFwdIdeal.nD Cert.ConvFwdIdeal.τ).loc Cert.ConvFwdIdeal.main_arg5))) = (fun _ => 1#1)

def Pre_ConvFwdRefIdeal (m : (ℓ : Loc Cert.ConvFwdRefIdeal.nD Cert.ConvFwdRefIdeal.τ Cert.ConvFwdRefIdeal.sig) → Buf (Elt Ideal) ℓ) : Prop :=
  True

def Pre_ConvFwdRefIdeal_finite_conv_fwd [hPre_finite_conv_fwd : Cert.Pre_finite_conv_fwd.Facts] (m : (ℓ : Loc Cert.ConvFwdRefIdeal.nD Cert.ConvFwdRefIdeal.τ Cert.ConvFwdRefIdeal.sig) → Buf (Elt Ideal) ℓ) : Prop :=
  ∀ c : Dev Cert.ConvFwdRefIdeal.nD,
    (Cert.Pre_finite_conv_fwd.fn (F := Ideal) (m ((c.tc : Thread Cert.ConvFwdRefIdeal.nD Cert.ConvFwdRefIdeal.τ).loc Cert.ConvFwdRefIdeal.main_arg0)) (m ((c.tc : Thread Cert.ConvFwdRefIdeal.nD Cert.ConvFwdRefIdeal.τ).loc Cert.ConvFwdRefIdeal.main_arg1)) (m ((c.tc : Thread Cert.ConvFwdRefIdeal.nD Cert.ConvFwdRefIdeal.τ).loc Cert.ConvFwdRefIdeal.main_arg2)) (m ((c.tc : Thread Cert.ConvFwdRefIdeal.nD Cert.ConvFwdRefIdeal.τ).loc Cert.ConvFwdRefIdeal.main_arg3)) (m ((c.tc : Thread Cert.ConvFwdRefIdeal.nD Cert.ConvFwdRefIdeal.τ).loc Cert.ConvFwdRefIdeal.main_arg4)) (m ((c.tc : Thread Cert.ConvFwdRefIdeal.nD Cert.ConvFwdRefIdeal.τ).loc Cert.ConvFwdRefIdeal.main_arg5))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite [hLossIdeal : Cert.LossIdeal.Facts] [hPre_finite : Cert.Pre_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite [hLossRefIdeal : Cert.LossRefIdeal.Facts] [hPre_finite : Cert.Pre_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_H1 [hH1 : Cert.H1.Facts] : Prop :=
  ∀ (m : (ℓ : Loc Cert.H1.nD Cert.H1.τ Cert.H1.sig) → Buf (Elt Bits) ℓ) (g : Dev Cert.H1.nD → PrngReg), Pre_H1 m →
    θ_run (Cert.H1.defs (F := Bits)) (onTc (τ := Cert.H1.τ) (Cert.H1.main (F := Bits))) ⟨m, fun _ => 0, g⟩ (fun r => (∀ c : Dev Cert.H1.nD,
      r.2.mem ((c.tc : Thread Cert.H1.nD Cert.H1.τ).loc Cert.H1.main_arg0) = m ((c.tc : Thread Cert.H1.nD Cert.H1.τ).loc Cert.H1.main_arg0)
      ∧ r.2.mem ((c.tc : Thread Cert.H1.nD Cert.H1.τ).loc Cert.H1.main_arg1) = m ((c.tc : Thread Cert.H1.nD Cert.H1.τ).loc Cert.H1.main_arg1)
      ∧ r.2.mem ((c.tc : Thread Cert.H1.nD Cert.H1.τ).loc Cert.H1.main_arg2) = m ((c.tc : Thread Cert.H1.nD Cert.H1.τ).loc Cert.H1.main_arg2)
      ∧ r.2.mem ((c.tc : Thread Cert.H1.nD Cert.H1.τ).loc Cert.H1.main_arg3) = m ((c.tc : Thread Cert.H1.nD Cert.H1.τ).loc Cert.H1.main_arg3)
      ∧ r.2.mem ((c.tc : Thread Cert.H1.nD Cert.H1.τ).loc Cert.H1.main_arg4) = m ((c.tc : Thread Cert.H1.nD Cert.H1.τ).loc Cert.H1.main_arg4))
      ∧ r.2.sem = fun _ => 0)

def quiescent_H1Ideal [hH1Ideal : Cert.H1Ideal.Facts] : Prop :=
  ∀ (m : (ℓ : Loc Cert.H1Ideal.nD Cert.H1Ideal.τ Cert.H1Ideal.sig) → Buf (Elt Ideal) ℓ) (g : Dev Cert.H1Ideal.nD → PrngReg), Pre_H1Ideal m →
    θ_run (Cert.H1Ideal.defs (F := Ideal)) (onTc (τ := Cert.H1Ideal.τ) (Cert.H1Ideal.main (F := Ideal))) ⟨m, fun _ => 0, g⟩ (fun r => (∀ c : Dev Cert.H1Ideal.nD,
      r.2.mem ((c.tc : Thread Cert.H1Ideal.nD Cert.H1Ideal.τ).loc Cert.H1Ideal.main_arg0) = m ((c.tc : Thread Cert.H1Ideal.nD Cert.H1Ideal.τ).loc Cert.H1Ideal.main_arg0)
      ∧ r.2.mem ((c.tc : Thread Cert.H1Ideal.nD Cert.H1Ideal.τ).loc Cert.H1Ideal.main_arg1) = m ((c.tc : Thread Cert.H1Ideal.nD Cert.H1Ideal.τ).loc Cert.H1Ideal.main_arg1)
      ∧ r.2.mem ((c.tc : Thread Cert.H1Ideal.nD Cert.H1Ideal.τ).loc Cert.H1Ideal.main_arg2) = m ((c.tc : Thread Cert.H1Ideal.nD Cert.H1Ideal.τ).loc Cert.H1Ideal.main_arg2)
      ∧ r.2.mem ((c.tc : Thread Cert.H1Ideal.nD Cert.H1Ideal.τ).loc Cert.H1Ideal.main_arg3) = m ((c.tc : Thread Cert.H1Ideal.nD Cert.H1Ideal.τ).loc Cert.H1Ideal.main_arg3)
      ∧ r.2.mem ((c.tc : Thread Cert.H1Ideal.nD Cert.H1Ideal.τ).loc Cert.H1Ideal.main_arg4) = m ((c.tc : Thread Cert.H1Ideal.nD Cert.H1Ideal.τ).loc Cert.H1Ideal.main_arg4))
      ∧ r.2.sem = fun _ => 0)

def quiescent_H1Ideal_pre_finite_h1 [hH1Ideal : Cert.H1Ideal.Facts] [hPre_finite_h1 : Cert.Pre_finite_h1.Facts] : Prop :=
  ∀ (m : (ℓ : Loc Cert.H1Ideal.nD Cert.H1Ideal.τ Cert.H1Ideal.sig) → Buf (Elt Ideal) ℓ) (g : Dev Cert.H1Ideal.nD → PrngReg), Pre_H1Ideal_finite_h1 m →
    θ_run (Cert.H1Ideal.defs (F := Ideal)) (onTc (τ := Cert.H1Ideal.τ) (Cert.H1Ideal.main (F := Ideal))) ⟨m, fun _ => 0, g⟩ (fun r => (∀ c : Dev Cert.H1Ideal.nD,
      r.2.mem ((c.tc : Thread Cert.H1Ideal.nD Cert.H1Ideal.τ).loc Cert.H1Ideal.main_arg0) = m ((c.tc : Thread Cert.H1Ideal.nD Cert.H1Ideal.τ).loc Cert.H1Ideal.main_arg0)
      ∧ r.2.mem ((c.tc : Thread Cert.H1Ideal.nD Cert.H1Ideal.τ).loc Cert.H1Ideal.main_arg1) = m ((c.tc : Thread Cert.H1Ideal.nD Cert.H1Ideal.τ).loc Cert.H1Ideal.main_arg1)
      ∧ r.2.mem ((c.tc : Thread Cert.H1Ideal.nD Cert.H1Ideal.τ).loc Cert.H1Ideal.main_arg2) = m ((c.tc : Thread Cert.H1Ideal.nD Cert.H1Ideal.τ).loc Cert.H1Ideal.main_arg2)
      ∧ r.2.mem ((c.tc : Thread Cert.H1Ideal.nD Cert.H1Ideal.τ).loc Cert.H1Ideal.main_arg3) = m ((c.tc : Thread Cert.H1Ideal.nD Cert.H1Ideal.τ).loc Cert.H1Ideal.main_arg3)
      ∧ r.2.mem ((c.tc : Thread Cert.H1Ideal.nD Cert.H1Ideal.τ).loc Cert.H1Ideal.main_arg4) = m ((c.tc : Thread Cert.H1Ideal.nD Cert.H1Ideal.τ).loc Cert.H1Ideal.main_arg4))
      ∧ r.2.sem = fun _ => 0)

def quiescent_H1RefIdeal [hH1RefIdeal : Cert.H1RefIdeal.Facts] : Prop :=
  ∀ (m : (ℓ : Loc Cert.H1RefIdeal.nD Cert.H1RefIdeal.τ Cert.H1RefIdeal.sig) → Buf (Elt Ideal) ℓ) (g : Dev Cert.H1RefIdeal.nD → PrngReg), Pre_H1RefIdeal m →
    θ_run (Cert.H1RefIdeal.defs (F := Ideal)) (onTc (τ := Cert.H1RefIdeal.τ) (Cert.H1RefIdeal.main (F := Ideal))) ⟨m, fun _ => 0, g⟩ (fun r => (∀ c : Dev Cert.H1RefIdeal.nD,
      r.2.mem ((c.tc : Thread Cert.H1RefIdeal.nD Cert.H1RefIdeal.τ).loc Cert.H1RefIdeal.main_arg0) = m ((c.tc : Thread Cert.H1RefIdeal.nD Cert.H1RefIdeal.τ).loc Cert.H1RefIdeal.main_arg0)
      ∧ r.2.mem ((c.tc : Thread Cert.H1RefIdeal.nD Cert.H1RefIdeal.τ).loc Cert.H1RefIdeal.main_arg1) = m ((c.tc : Thread Cert.H1RefIdeal.nD Cert.H1RefIdeal.τ).loc Cert.H1RefIdeal.main_arg1)
      ∧ r.2.mem ((c.tc : Thread Cert.H1RefIdeal.nD Cert.H1RefIdeal.τ).loc Cert.H1RefIdeal.main_arg2) = m ((c.tc : Thread Cert.H1RefIdeal.nD Cert.H1RefIdeal.τ).loc Cert.H1RefIdeal.main_arg2)
      ∧ r.2.mem ((c.tc : Thread Cert.H1RefIdeal.nD Cert.H1RefIdeal.τ).loc Cert.H1RefIdeal.main_arg3) = m ((c.tc : Thread Cert.H1RefIdeal.nD Cert.H1RefIdeal.τ).loc Cert.H1RefIdeal.main_arg3)
      ∧ r.2.mem ((c.tc : Thread Cert.H1RefIdeal.nD Cert.H1RefIdeal.τ).loc Cert.H1RefIdeal.main_arg4) = m ((c.tc : Thread Cert.H1RefIdeal.nD Cert.H1RefIdeal.τ).loc Cert.H1RefIdeal.main_arg4))
      ∧ r.2.sem = fun _ => 0)

def quiescent_H1RefIdeal_pre_finite_h1 [hH1RefIdeal : Cert.H1RefIdeal.Facts] [hPre_finite_h1 : Cert.Pre_finite_h1.Facts] : Prop :=
  ∀ (m : (ℓ : Loc Cert.H1RefIdeal.nD Cert.H1RefIdeal.τ Cert.H1RefIdeal.sig) → Buf (Elt Ideal) ℓ) (g : Dev Cert.H1RefIdeal.nD → PrngReg), Pre_H1RefIdeal_finite_h1 m →
    θ_run (Cert.H1RefIdeal.defs (F := Ideal)) (onTc (τ := Cert.H1RefIdeal.τ) (Cert.H1RefIdeal.main (F := Ideal))) ⟨m, fun _ => 0, g⟩ (fun r => (∀ c : Dev Cert.H1RefIdeal.nD,
      r.2.mem ((c.tc : Thread Cert.H1RefIdeal.nD Cert.H1RefIdeal.τ).loc Cert.H1RefIdeal.main_arg0) = m ((c.tc : Thread Cert.H1RefIdeal.nD Cert.H1RefIdeal.τ).loc Cert.H1RefIdeal.main_arg0)
      ∧ r.2.mem ((c.tc : Thread Cert.H1RefIdeal.nD Cert.H1RefIdeal.τ).loc Cert.H1RefIdeal.main_arg1) = m ((c.tc : Thread Cert.H1RefIdeal.nD Cert.H1RefIdeal.τ).loc Cert.H1RefIdeal.main_arg1)
      ∧ r.2.mem ((c.tc : Thread Cert.H1RefIdeal.nD Cert.H1RefIdeal.τ).loc Cert.H1RefIdeal.main_arg2) = m ((c.tc : Thread Cert.H1RefIdeal.nD Cert.H1RefIdeal.τ).loc Cert.H1RefIdeal.main_arg2)
      ∧ r.2.mem ((c.tc : Thread Cert.H1RefIdeal.nD Cert.H1RefIdeal.τ).loc Cert.H1RefIdeal.main_arg3) = m ((c.tc : Thread Cert.H1RefIdeal.nD Cert.H1RefIdeal.τ).loc Cert.H1RefIdeal.main_arg3)
      ∧ r.2.mem ((c.tc : Thread Cert.H1RefIdeal.nD Cert.H1RefIdeal.τ).loc Cert.H1RefIdeal.main_arg4) = m ((c.tc : Thread Cert.H1RefIdeal.nD Cert.H1RefIdeal.τ).loc Cert.H1RefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvIdeal_pre_finite_conv [hConvIdeal : Cert.ConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4)
      ∧ r.2.mem ((c.tc : Thread Cert.ConvFwd.nD Cert.ConvFwd.τ).loc Cert.ConvFwd.main_arg5) = m ((c.tc : Thread Cert.ConvFwd.nD Cert.ConvFwd.τ).loc Cert.ConvFwd.main_arg5))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
      ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ r.2.sem = fun _ => 0)

def quiescent_ConvFwdIdeal_pre_finite_conv_fwd [hConvFwdIdeal : Cert.ConvFwdIdeal.Facts] [hPre_finite_conv_fwd : Cert.Pre_finite_conv_fwd.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal_finite_conv_fwd m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
      ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4)
      ∧ r.2.mem ((c.tc : Thread Cert.ConvFwdRefIdeal.nD Cert.ConvFwdRefIdeal.τ).loc Cert.ConvFwdRefIdeal.main_arg5) = m ((c.tc : Thread Cert.ConvFwdRefIdeal.nD Cert.ConvFwdRefIdeal.τ).loc Cert.ConvFwdRefIdeal.main_arg5))
      ∧ r.2.sem = fun _ => 0)

def quiescent_ConvFwdRefIdeal_pre_finite_conv_fwd [hConvFwdRefIdeal : Cert.ConvFwdRefIdeal.Facts] [hPre_finite_conv_fwd : Cert.Pre_finite_conv_fwd.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal_finite_conv_fwd m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4)
      ∧ r.2.mem ((c.tc : Thread Cert.ConvFwdRefIdeal.nD Cert.ConvFwdRefIdeal.τ).loc Cert.ConvFwdRefIdeal.main_arg5) = m ((c.tc : Thread Cert.ConvFwdRefIdeal.nD Cert.ConvFwdRefIdeal.τ).loc Cert.ConvFwdRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def preserves_Loss_LossIdeal : Prop :=
  True

def algebraic_LossIdeal_LossRefIdeal_pre_finite [hLossIdeal : Cert.LossIdeal.Facts] [hLossRefIdeal : Cert.LossRefIdeal.Facts] [hPre_finite : Cert.Pre_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_v54) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_H1_H1Ideal : Prop :=
  True

def algebraic_H1Ideal_H1RefIdeal_pre_finite_h1 [hH1Ideal : Cert.H1Ideal.Facts] [hH1RefIdeal : Cert.H1RefIdeal.Facts] [hPre_finite_h1 : Cert.Pre_finite_h1.Facts] : Prop :=
  ∀ (m : (ℓ : Loc Cert.H1Ideal.nD Cert.H1Ideal.τ Cert.H1Ideal.sig) → Buf (Elt Ideal) ℓ) (g : Dev Cert.H1Ideal.nD → PrngReg)
    (m' : (ℓ : Loc Cert.H1RefIdeal.nD Cert.H1RefIdeal.τ Cert.H1RefIdeal.sig) → Buf (Elt Ideal) ℓ) (g' : Dev Cert.H1RefIdeal.nD → PrngReg), Pre_H1Ideal_finite_h1 m →
    (∀ c : Dev Cert.H1Ideal.nD,
      m' ((c.tc : Thread Cert.H1RefIdeal.nD Cert.H1RefIdeal.τ).loc Cert.H1RefIdeal.main_arg0) = m ((c.tc : Thread Cert.H1Ideal.nD Cert.H1Ideal.τ).loc Cert.H1Ideal.main_arg0)
      ∧ m' ((c.tc : Thread Cert.H1RefIdeal.nD Cert.H1RefIdeal.τ).loc Cert.H1RefIdeal.main_arg1) = m ((c.tc : Thread Cert.H1Ideal.nD Cert.H1Ideal.τ).loc Cert.H1Ideal.main_arg1)
      ∧ m' ((c.tc : Thread Cert.H1RefIdeal.nD Cert.H1RefIdeal.τ).loc Cert.H1RefIdeal.main_arg2) = m ((c.tc : Thread Cert.H1Ideal.nD Cert.H1Ideal.τ).loc Cert.H1Ideal.main_arg2)
      ∧ m' ((c.tc : Thread Cert.H1RefIdeal.nD Cert.H1RefIdeal.τ).loc Cert.H1RefIdeal.main_arg3) = m ((c.tc : Thread Cert.H1Ideal.nD Cert.H1Ideal.τ).loc Cert.H1Ideal.main_arg3)
      ∧ m' ((c.tc : Thread Cert.H1RefIdeal.nD Cert.H1RefIdeal.τ).loc Cert.H1RefIdeal.main_arg4) = m ((c.tc : Thread Cert.H1Ideal.nD Cert.H1Ideal.τ).loc Cert.H1Ideal.main_arg4)) →
    ∃ (v0 : (c : Dev Cert.H1Ideal.nD) → Buf (Elt Ideal) ((c.tc : Thread Cert.H1Ideal.nD Cert.H1Ideal.τ).loc Cert.H1Ideal.main_v6_0)) (v1 : (c : Dev Cert.H1Ideal.nD) → Buf (Elt Ideal) ((c.tc : Thread Cert.H1Ideal.nD Cert.H1Ideal.τ).loc Cert.H1Ideal.main_v6_1)) (v2 : (c : Dev Cert.H1Ideal.nD) → Buf (Elt Ideal) ((c.tc : Thread Cert.H1Ideal.nD Cert.H1Ideal.τ).loc Cert.H1Ideal.main_v6_2)),
      θ_run (Cert.H1Ideal.defs (F := Ideal)) (onTc (τ := Cert.H1Ideal.τ) (Cert.H1Ideal.main (F := Ideal))) ⟨m, fun _ => 0, g⟩ (fun r => ∀ c : Dev Cert.H1Ideal.nD,
          r.2.mem ((c.tc : Thread Cert.H1Ideal.nD Cert.H1Ideal.τ).loc Cert.H1Ideal.main_v6_0) = v0 c
          ∧ r.2.mem ((c.tc : Thread Cert.H1Ideal.nD Cert.H1Ideal.τ).loc Cert.H1Ideal.main_v6_1) = v1 c
          ∧ r.2.mem ((c.tc : Thread Cert.H1Ideal.nD Cert.H1Ideal.τ).loc Cert.H1Ideal.main_v6_2) = v2 c
          ∧ r.2.mem ((c.tc : Thread Cert.H1Ideal.nD Cert.H1Ideal.τ).loc Cert.H1Ideal.main_arg0) = m ((c.tc : Thread Cert.H1Ideal.nD Cert.H1Ideal.τ).loc Cert.H1Ideal.main_arg0)
          ∧ r.2.mem ((c.tc : Thread Cert.H1Ideal.nD Cert.H1Ideal.τ).loc Cert.H1Ideal.main_arg1) = m ((c.tc : Thread Cert.H1Ideal.nD Cert.H1Ideal.τ).loc Cert.H1Ideal.main_arg1)
          ∧ r.2.mem ((c.tc : Thread Cert.H1Ideal.nD Cert.H1Ideal.τ).loc Cert.H1Ideal.main_arg2) = m ((c.tc : Thread Cert.H1Ideal.nD Cert.H1Ideal.τ).loc Cert.H1Ideal.main_arg2)
          ∧ r.2.mem ((c.tc : Thread Cert.H1Ideal.nD Cert.H1Ideal.τ).loc Cert.H1Ideal.main_arg3) = m ((c.tc : Thread Cert.H1Ideal.nD Cert.H1Ideal.τ).loc Cert.H1Ideal.main_arg3)
          ∧ r.2.mem ((c.tc : Thread Cert.H1Ideal.nD Cert.H1Ideal.τ).loc Cert.H1Ideal.main_arg4) = m ((c.tc : Thread Cert.H1Ideal.nD Cert.H1Ideal.τ).loc Cert.H1Ideal.main_arg4))
      ∧ θ_run (Cert.H1RefIdeal.defs (F := Ideal)) (onTc (τ := Cert.H1RefIdeal.τ) (Cert.H1RefIdeal.main (F := Ideal))) ⟨m', fun _ => 0, g'⟩ (fun r => ∀ c : Dev Cert.H1RefIdeal.nD,
          r.2.mem ((c.tc : Thread Cert.H1RefIdeal.nD Cert.H1RefIdeal.τ).loc Cert.H1RefIdeal.main_v39) = v0 c
          ∧ r.2.mem ((c.tc : Thread Cert.H1RefIdeal.nD Cert.H1RefIdeal.τ).loc Cert.H1RefIdeal.main_v40) = v1 c
          ∧ r.2.mem ((c.tc : Thread Cert.H1RefIdeal.nD Cert.H1RefIdeal.τ).loc Cert.H1RefIdeal.main_v41) = v2 c
          ∧ r.2.mem ((c.tc : Thread Cert.H1RefIdeal.nD Cert.H1RefIdeal.τ).loc Cert.H1RefIdeal.main_arg0) = m' ((c.tc : Thread Cert.H1RefIdeal.nD Cert.H1RefIdeal.τ).loc Cert.H1RefIdeal.main_arg0)
          ∧ r.2.mem ((c.tc : Thread Cert.H1RefIdeal.nD Cert.H1RefIdeal.τ).loc Cert.H1RefIdeal.main_arg1) = m' ((c.tc : Thread Cert.H1RefIdeal.nD Cert.H1RefIdeal.τ).loc Cert.H1RefIdeal.main_arg1)
          ∧ r.2.mem ((c.tc : Thread Cert.H1RefIdeal.nD Cert.H1RefIdeal.τ).loc Cert.H1RefIdeal.main_arg2) = m' ((c.tc : Thread Cert.H1RefIdeal.nD Cert.H1RefIdeal.τ).loc Cert.H1RefIdeal.main_arg2)
          ∧ r.2.mem ((c.tc : Thread Cert.H1RefIdeal.nD Cert.H1RefIdeal.τ).loc Cert.H1RefIdeal.main_arg3) = m' ((c.tc : Thread Cert.H1RefIdeal.nD Cert.H1RefIdeal.τ).loc Cert.H1RefIdeal.main_arg3)
          ∧ r.2.mem ((c.tc : Thread Cert.H1RefIdeal.nD Cert.H1RefIdeal.τ).loc Cert.H1RefIdeal.main_arg4) = m' ((c.tc : Thread Cert.H1RefIdeal.nD Cert.H1RefIdeal.τ).loc Cert.H1RefIdeal.main_arg4))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v30_0)) (v1 : (c : Dev Cert.FfnIdeal.nD) → Buf (Elt Ideal) ((c.tc : Thread Cert.FfnIdeal.nD Cert.FfnIdeal.τ).loc Cert.FfnIdeal.main_v30_1)) (v2 : (c : Dev Cert.FfnIdeal.nD) → Buf (Elt Ideal) ((c.tc : Thread Cert.FfnIdeal.nD Cert.FfnIdeal.τ).loc Cert.FfnIdeal.main_v30_2)) (v3 : (c : Dev Cert.FfnIdeal.nD) → Buf (Elt Ideal) ((c.tc : Thread Cert.FfnIdeal.nD Cert.FfnIdeal.τ).loc Cert.FfnIdeal.main_v30_3)) (v4 : (c : Dev Cert.FfnIdeal.nD) → Buf (Elt Ideal) ((c.tc : Thread Cert.FfnIdeal.nD Cert.FfnIdeal.τ).loc Cert.FfnIdeal.main_v30_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v30_0) = v0 c
          ∧ r.2.mem ((c.tc : Thread Cert.FfnIdeal.nD Cert.FfnIdeal.τ).loc Cert.FfnIdeal.main_v30_1) = v1 c
          ∧ r.2.mem ((c.tc : Thread Cert.FfnIdeal.nD Cert.FfnIdeal.τ).loc Cert.FfnIdeal.main_v30_2) = v2 c
          ∧ r.2.mem ((c.tc : Thread Cert.FfnIdeal.nD Cert.FfnIdeal.τ).loc Cert.FfnIdeal.main_v30_3) = v3 c
          ∧ r.2.mem ((c.tc : Thread Cert.FfnIdeal.nD Cert.FfnIdeal.τ).loc Cert.FfnIdeal.main_v30_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v109) = v0 c
          ∧ r.2.mem ((c.tc : Thread Cert.FfnRefIdeal.nD Cert.FfnRefIdeal.τ).loc Cert.FfnRefIdeal.main_v111) = v1 c
          ∧ r.2.mem ((c.tc : Thread Cert.FfnRefIdeal.nD Cert.FfnRefIdeal.τ).loc Cert.FfnRefIdeal.main_v112) = v2 c
          ∧ r.2.mem ((c.tc : Thread Cert.FfnRefIdeal.nD Cert.FfnRefIdeal.τ).loc Cert.FfnRefIdeal.main_v113) = v3 c
          ∧ r.2.mem ((c.tc : Thread Cert.FfnRefIdeal.nD Cert.FfnRefIdeal.τ).loc Cert.FfnRefIdeal.main_v114) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Conv_ConvIdeal : Prop :=
  True

def algebraic_ConvIdeal_ConvRefIdeal_pre_finite_conv [hConvIdeal : Cert.ConvIdeal.Facts] [hConvRefIdeal : Cert.ConvRefIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_conv m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v20_0)) (v1 : (c : Dev Cert.ConvIdeal.nD) → Buf (Elt Ideal) ((c.tc : Thread Cert.ConvIdeal.nD Cert.ConvIdeal.τ).loc Cert.ConvIdeal.main_v20_1)) (v2 : (c : Dev Cert.ConvIdeal.nD) → Buf (Elt Ideal) ((c.tc : Thread Cert.ConvIdeal.nD Cert.ConvIdeal.τ).loc Cert.ConvIdeal.main_v20_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v20_0) = v0 c
          ∧ r.2.mem ((c.tc : Thread Cert.ConvIdeal.nD Cert.ConvIdeal.τ).loc Cert.ConvIdeal.main_v20_1) = v1 c
          ∧ r.2.mem ((c.tc : Thread Cert.ConvIdeal.nD Cert.ConvIdeal.τ).loc Cert.ConvIdeal.main_v20_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v131) = v0 c
          ∧ r.2.mem ((c.tc : Thread Cert.ConvRefIdeal.nD Cert.ConvRefIdeal.τ).loc Cert.ConvRefIdeal.main_v120) = v1 c
          ∧ r.2.mem ((c.tc : Thread Cert.ConvRefIdeal.nD Cert.ConvRefIdeal.τ).loc Cert.ConvRefIdeal.main_v132) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6))

def preserves_Attn_AttnIdeal : Prop :=
  True

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v24_0)) (v1 : (c : Dev Cert.FfnFwdIdeal.nD) → Buf (Elt Ideal) ((c.tc : Thread Cert.FfnFwdIdeal.nD Cert.FfnFwdIdeal.τ).loc Cert.FfnFwdIdeal.main_v24_1)) (v2 : (c : Dev Cert.FfnFwdIdeal.nD) → Buf (Elt Ideal) ((c.tc : Thread Cert.FfnFwdIdeal.nD Cert.FfnFwdIdeal.τ).loc Cert.FfnFwdIdeal.main_v24_2)) (v3 : (c : Dev Cert.FfnFwdIdeal.nD) → Buf (Elt Ideal) ((c.tc : Thread Cert.FfnFwdIdeal.nD Cert.FfnFwdIdeal.τ).loc Cert.FfnFwdIdeal.main_v24_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v24_0) = v0 c
          ∧ r.2.mem ((c.tc : Thread Cert.FfnFwdIdeal.nD Cert.FfnFwdIdeal.τ).loc Cert.FfnFwdIdeal.main_v24_1) = v1 c
          ∧ r.2.mem ((c.tc : Thread Cert.FfnFwdIdeal.nD Cert.FfnFwdIdeal.τ).loc Cert.FfnFwdIdeal.main_v24_2) = v2 c
          ∧ r.2.mem ((c.tc : Thread Cert.FfnFwdIdeal.nD Cert.FfnFwdIdeal.τ).loc Cert.FfnFwdIdeal.main_v24_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v63) = v0 c
          ∧ r.2.mem ((c.tc : Thread Cert.FfnFwdRefIdeal.nD Cert.FfnFwdRefIdeal.τ).loc Cert.FfnFwdRefIdeal.main_v65) = v1 c
          ∧ r.2.mem ((c.tc : Thread Cert.FfnFwdRefIdeal.nD Cert.FfnFwdRefIdeal.τ).loc Cert.FfnFwdRefIdeal.main_v59) = v2 c
          ∧ r.2.mem ((c.tc : Thread Cert.FfnFwdRefIdeal.nD Cert.FfnFwdRefIdeal.τ).loc Cert.FfnFwdRefIdeal.main_v62) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)) →
    ∃ (v0 : (c : Dev Cert.FfnLastIdeal.nD) → Buf (Elt Ideal) ((c.tc : Thread Cert.FfnLastIdeal.nD Cert.FfnLastIdeal.τ).loc Cert.FfnLastIdeal.main_v23_0)) (v1 : (c : Dev Cert.FfnLastIdeal.nD) → Buf (Elt Ideal) ((c.tc : Thread Cert.FfnLastIdeal.nD Cert.FfnLastIdeal.τ).loc Cert.FfnLastIdeal.main_v23_1)) (v2 : (c : Dev Cert.FfnLastIdeal.nD) → Buf (Elt Ideal) ((c.tc : Thread Cert.FfnLastIdeal.nD Cert.FfnLastIdeal.τ).loc Cert.FfnLastIdeal.main_v23_2)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v23_0) = v0 c
          ∧ r.2.mem ((c.tc : Thread Cert.FfnLastIdeal.nD Cert.FfnLastIdeal.τ).loc Cert.FfnLastIdeal.main_v23_1) = v1 c
          ∧ r.2.mem ((c.tc : Thread Cert.FfnLastIdeal.nD Cert.FfnLastIdeal.τ).loc Cert.FfnLastIdeal.main_v23_2) = v2 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v50) = v0 c
          ∧ r.2.mem ((c.tc : Thread Cert.FfnLastRefIdeal.nD Cert.FfnLastRefIdeal.τ).loc Cert.FfnLastRefIdeal.main_v46) = v1 c
          ∧ r.2.mem ((c.tc : Thread Cert.FfnLastRefIdeal.nD Cert.FfnLastRefIdeal.τ).loc Cert.FfnLastRefIdeal.main_v49) = v2 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4))

def preserves_ConvFwd_ConvFwdIdeal : Prop :=
  True

def algebraic_ConvFwdIdeal_ConvFwdRefIdeal_pre_finite_conv_fwd [hConvFwdIdeal : Cert.ConvFwdIdeal.Facts] [hConvFwdRefIdeal : Cert.ConvFwdRefIdeal.Facts] [hPre_finite_conv_fwd : Cert.Pre_finite_conv_fwd.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal_finite_conv_fwd m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)
      ∧ m' ((c.tc : Thread Cert.ConvFwdRefIdeal.nD Cert.ConvFwdRefIdeal.τ).loc Cert.ConvFwdRefIdeal.main_arg5) = m ((c.tc : Thread Cert.ConvFwdIdeal.nD Cert.ConvFwdIdeal.τ).loc Cert.ConvFwdIdeal.main_arg5)) →
    ∃ (v0 : (c : Dev Cert.ConvFwdIdeal.nD) → Buf (Elt Ideal) ((c.tc : Thread Cert.ConvFwdIdeal.nD Cert.ConvFwdIdeal.τ).loc Cert.ConvFwdIdeal.main_v18)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v18) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
          ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v63) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4)
          ∧ r.2.mem ((c.tc : Thread Cert.ConvFwdRefIdeal.nD Cert.ConvFwdRefIdeal.τ).loc Cert.ConvFwdRefIdeal.main_arg5) = m' ((c.tc : Thread Cert.ConvFwdRefIdeal.nD Cert.ConvFwdRefIdeal.τ).loc Cert.ConvFwdRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v6_0)) (v1 : (c : Dev Cert.MixIdeal.nD) → Buf (Elt Ideal) ((c.tc : Thread Cert.MixIdeal.nD Cert.MixIdeal.τ).loc Cert.MixIdeal.main_v6_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6_0) = v0 c
          ∧ r.2.mem ((c.tc : Thread Cert.MixIdeal.nD Cert.MixIdeal.τ).loc Cert.MixIdeal.main_v6_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v16) = v0 c
          ∧ r.2.mem ((c.tc : Thread Cert.MixRefIdeal.nD Cert.MixRefIdeal.τ).loc Cert.MixRefIdeal.main_v18) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v2) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v14) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v5)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v5) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v7_0)) (v1 : (c : Dev Cert.AdamIdeal.nD) → Buf (Elt Ideal) ((c.tc : Thread Cert.AdamIdeal.nD Cert.AdamIdeal.τ).loc Cert.AdamIdeal.main_v7_1)) (v2 : (c : Dev Cert.AdamIdeal.nD) → Buf (Elt Ideal) ((c.tc : Thread Cert.AdamIdeal.nD Cert.AdamIdeal.τ).loc Cert.AdamIdeal.main_v7_2)) (v3 : (c : Dev Cert.AdamIdeal.nD) → Buf (Elt Ideal) ((c.tc : Thread Cert.AdamIdeal.nD Cert.AdamIdeal.τ).loc Cert.AdamIdeal.main_v7_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v7_0) = v0 c
          ∧ r.2.mem ((c.tc : Thread Cert.AdamIdeal.nD Cert.AdamIdeal.τ).loc Cert.AdamIdeal.main_v7_1) = v1 c
          ∧ r.2.mem ((c.tc : Thread Cert.AdamIdeal.nD Cert.AdamIdeal.τ).loc Cert.AdamIdeal.main_v7_2) = v2 c
          ∧ r.2.mem ((c.tc : Thread Cert.AdamIdeal.nD Cert.AdamIdeal.τ).loc Cert.AdamIdeal.main_v7_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v29) = v0 c
          ∧ r.2.mem ((c.tc : Thread Cert.AdamRefIdeal.nD Cert.AdamRefIdeal.τ).loc Cert.AdamRefIdeal.main_v30) = v1 c
          ∧ r.2.mem ((c.tc : Thread Cert.AdamRefIdeal.nD Cert.AdamRefIdeal.τ).loc Cert.AdamRefIdeal.main_v31) = v2 c
          ∧ r.2.mem ((c.tc : Thread Cert.AdamRefIdeal.nD Cert.AdamRefIdeal.τ).loc Cert.AdamRefIdeal.main_v32) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_AttnFwd_AttnFwdIdeal : Prop :=
  True

def Claim : Prop :=
  ∃ (hLoss : Cert.Loss.Facts) (hLossIdeal : Cert.LossIdeal.Facts) (hLossRefIdeal : Cert.LossRefIdeal.Facts) (hH1 : Cert.H1.Facts) (hH1Ideal : Cert.H1Ideal.Facts) (hH1RefIdeal : Cert.H1RefIdeal.Facts) (hFfn : Cert.Ffn.Facts) (hFfnIdeal : Cert.FfnIdeal.Facts) (hFfnRefIdeal : Cert.FfnRefIdeal.Facts) (hConv : Cert.Conv.Facts) (hConvIdeal : Cert.ConvIdeal.Facts) (hConvRefIdeal : Cert.ConvRefIdeal.Facts) (hAttn : Cert.Attn.Facts) (hAttnIdeal : Cert.AttnIdeal.Facts) (hFfnFwd : Cert.FfnFwd.Facts) (hFfnFwdIdeal : Cert.FfnFwdIdeal.Facts) (hFfnFwdRefIdeal : Cert.FfnFwdRefIdeal.Facts) (hFfnLast : Cert.FfnLast.Facts) (hFfnLastIdeal : Cert.FfnLastIdeal.Facts) (hFfnLastRefIdeal : Cert.FfnLastRefIdeal.Facts) (hConvFwd : Cert.ConvFwd.Facts) (hConvFwdIdeal : Cert.ConvFwdIdeal.Facts) (hConvFwdRefIdeal : Cert.ConvFwdRefIdeal.Facts) (hMix : Cert.Mix.Facts) (hMixIdeal : Cert.MixIdeal.Facts) (hMixRefIdeal : Cert.MixRefIdeal.Facts) (hRms : Cert.Rms.Facts) (hRmsIdeal : Cert.RmsIdeal.Facts) (hRmsRefIdeal : Cert.RmsRefIdeal.Facts) (hUp : Cert.Up.Facts) (hUpIdeal : Cert.UpIdeal.Facts) (hUpRefIdeal : Cert.UpRefIdeal.Facts) (hAdam : Cert.Adam.Facts) (hAdamIdeal : Cert.AdamIdeal.Facts) (hAdamRefIdeal : Cert.AdamRefIdeal.Facts) (hAttnFwd : Cert.AttnFwd.Facts) (hAttnFwdIdeal : Cert.AttnFwdIdeal.Facts) (hPre_finite : Cert.Pre_finite.Facts) (hPre_finite_h1 : Cert.Pre_finite_h1.Facts) (hPre_finite_ffn : Cert.Pre_finite_ffn.Facts) (hPre_finite_conv : Cert.Pre_finite_conv.Facts) (hPre_finite_conv_fwd : Cert.Pre_finite_conv_fwd.Facts),
    quiescent_Loss (hLoss := hLoss)
    ∧ quiescent_LossIdeal (hLossIdeal := hLossIdeal)
    ∧ quiescent_LossIdeal_pre_finite (hLossIdeal := hLossIdeal) (hPre_finite := hPre_finite)
    ∧ quiescent_LossRefIdeal (hLossRefIdeal := hLossRefIdeal)
    ∧ quiescent_LossRefIdeal_pre_finite (hLossRefIdeal := hLossRefIdeal) (hPre_finite := hPre_finite)
    ∧ quiescent_H1 (hH1 := hH1)
    ∧ quiescent_H1Ideal (hH1Ideal := hH1Ideal)
    ∧ quiescent_H1Ideal_pre_finite_h1 (hH1Ideal := hH1Ideal) (hPre_finite_h1 := hPre_finite_h1)
    ∧ quiescent_H1RefIdeal (hH1RefIdeal := hH1RefIdeal)
    ∧ quiescent_H1RefIdeal_pre_finite_h1 (hH1RefIdeal := hH1RefIdeal) (hPre_finite_h1 := hPre_finite_h1)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Conv (hConv := hConv)
    ∧ quiescent_ConvIdeal (hConvIdeal := hConvIdeal)
    ∧ quiescent_ConvIdeal_pre_finite_conv (hConvIdeal := hConvIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_Attn (hAttn := hAttn)
    ∧ quiescent_AttnIdeal (hAttnIdeal := hAttnIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_ConvFwd (hConvFwd := hConvFwd)
    ∧ quiescent_ConvFwdIdeal (hConvFwdIdeal := hConvFwdIdeal)
    ∧ quiescent_ConvFwdIdeal_pre_finite_conv_fwd (hConvFwdIdeal := hConvFwdIdeal) (hPre_finite_conv_fwd := hPre_finite_conv_fwd)
    ∧ quiescent_ConvFwdRefIdeal (hConvFwdRefIdeal := hConvFwdRefIdeal)
    ∧ quiescent_ConvFwdRefIdeal_pre_finite_conv_fwd (hConvFwdRefIdeal := hConvFwdRefIdeal) (hPre_finite_conv_fwd := hPre_finite_conv_fwd)
    ∧ quiescent_Mix (hMix := hMix)
    ∧ quiescent_MixIdeal (hMixIdeal := hMixIdeal)
    ∧ quiescent_MixRefIdeal (hMixRefIdeal := hMixRefIdeal)
    ∧ quiescent_Rms (hRms := hRms)
    ∧ quiescent_RmsIdeal (hRmsIdeal := hRmsIdeal)
    ∧ quiescent_RmsRefIdeal (hRmsRefIdeal := hRmsRefIdeal)
    ∧ quiescent_Up (hUp := hUp)
    ∧ quiescent_UpIdeal (hUpIdeal := hUpIdeal)
    ∧ quiescent_UpRefIdeal (hUpRefIdeal := hUpRefIdeal)
    ∧ quiescent_Adam (hAdam := hAdam)
    ∧ quiescent_AdamIdeal (hAdamIdeal := hAdamIdeal)
    ∧ quiescent_AdamRefIdeal (hAdamRefIdeal := hAdamRefIdeal)
    ∧ quiescent_AttnFwd (hAttnFwd := hAttnFwd)
    ∧ quiescent_AttnFwdIdeal (hAttnFwdIdeal := hAttnFwdIdeal)
    ∧ preserves_Loss_LossIdeal
    ∧ algebraic_LossIdeal_LossRefIdeal_pre_finite (hLossIdeal := hLossIdeal) (hLossRefIdeal := hLossRefIdeal) (hPre_finite := hPre_finite)
    ∧ preserves_H1_H1Ideal
    ∧ algebraic_H1Ideal_H1RefIdeal_pre_finite_h1 (hH1Ideal := hH1Ideal) (hH1RefIdeal := hH1RefIdeal) (hPre_finite_h1 := hPre_finite_h1)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Conv_ConvIdeal
    ∧ algebraic_ConvIdeal_ConvRefIdeal_pre_finite_conv (hConvIdeal := hConvIdeal) (hConvRefIdeal := hConvRefIdeal) (hPre_finite_conv := hPre_finite_conv)
    ∧ preserves_Attn_AttnIdeal
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnLast_FfnLastIdeal
    ∧ algebraic_FfnLastIdeal_FfnLastRefIdeal (hFfnLastIdeal := hFfnLastIdeal) (hFfnLastRefIdeal := hFfnLastRefIdeal)
    ∧ preserves_ConvFwd_ConvFwdIdeal
    ∧ algebraic_ConvFwdIdeal_ConvFwdRefIdeal_pre_finite_conv_fwd (hConvFwdIdeal := hConvFwdIdeal) (hConvFwdRefIdeal := hConvFwdRefIdeal) (hPre_finite_conv_fwd := hPre_finite_conv_fwd)
    ∧ preserves_Mix_MixIdeal
    ∧ algebraic_MixIdeal_MixRefIdeal (hMixIdeal := hMixIdeal) (hMixRefIdeal := hMixRefIdeal)
    ∧ preserves_Rms_RmsIdeal
    ∧ algebraic_RmsIdeal_RmsRefIdeal (hRmsIdeal := hRmsIdeal) (hRmsRefIdeal := hRmsRefIdeal)
    ∧ preserves_Up_UpIdeal
    ∧ algebraic_UpIdeal_UpRefIdeal (hUpIdeal := hUpIdeal) (hUpRefIdeal := hUpRefIdeal)
    ∧ preserves_Adam_AdamIdeal
    ∧ algebraic_AdamIdeal_AdamRefIdeal (hAdamIdeal := hAdamIdeal) (hAdamRefIdeal := hAdamRefIdeal)
    ∧ preserves_AttnFwd_AttnFwdIdeal
-- ==== Pre_finite.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x2048x1024 .f32) (main_arg1 : FVec F S1024 .f32) (main_arg2 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  main_v13
-- ==== Pre_finite_conv.lean ====
abbrev S2x2048x1024 : Shape := ⟨3, ![2, 2048, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S4096x3072 : Shape := ⟨2, ![4096, 3072]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S3x512 : S_.BroadcastsInDim S3x512 (![] : Fin 0 → Fin S3x512.rank)
  reducesTo_S3x512_S_d0_1 : S3x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S2x2048x1024 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2x2048x1024 .f32 := Host.absf main_arg5
  let main_cst_8 : FVec F S_ .f32 := constant S_ .f32 0x7F800000#32
  let main_v25 : FVec F S2x2048x1024 .f32 := broadcastInDim S2x2048x1024 ![] bcast_S_S2x2048x1024 main_cst_8
  let main_v26 : IVec S2x2048x1024 1 := cmpf .olt main_v24 main_v25
  let main_c_9 : IVec S_ 1 := constantI S_ 1 1#1
  let main_v27 : IVec S_ 1 := (fun x v => Host.reduce IntOp.andi x v reducesTo_S2x2048x1024_S_d0_1_2 h_S_) main_v26 main_c_9
  let main_v28 : IVec S_ 1 := andi main_v23 main_v27
  main_v28

def fn {F : FTy → Type} [FloatOps F] (main_arg0 : FVec F S2x2048x1024 .f32) (main_arg1 : FVec F S1024 .f32) (main_arg2 : FVec F S1024x3072 .f32) (main_arg3 : FVec F S3x512 .f32) (main_arg4 : FVec F S512 .f32) (main_arg5 : FVec F S2x2048x1024 .f32) (main_arg6 : FVec F S4096x3072 .bf16) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_v13 main_v16
-- ==== Pre_finite_conv_fwd.lean ====
abbrev S2x2048x1024 : Shape := ⟨3, ![2, 2048, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S4096x1024 : Shape := ⟨2, ![4096, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S3x512 : S_.BroadcastsInDim S3x512 (![] : Fin 0 → Fin S3x512.rank)
  reducesTo_S3x512_S_d0_1 : S3x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S2x2048x1024 .f32) (main_arg1 : FVec F S1024 .f32) (main_arg2 : FVec F S1024x3072 .f32) (main_arg3 : FVec F S3x512 .f32) (main_arg4 : FVec F S512 .f32) (main_arg5 : FVec F S4096x1024 .bf16) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_v13 main_v16
-- ==== Pre_finite_ffn.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S2x2048x1024 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S2x2048x1024 .f32 := Host.absf main_arg5
  let main_cst_8 : FVec F S_ .f32 := constant S_ .f32 0x7F800000#32
  let main_v25 : FVec F S2x2048x1024 .f32 := broadcastInDim S2x2048x1024 ![] bcast_S_S2x2048x1024 main_cst_8
  let main_v26 : IVec S2x2048x1024 1 := cmpf .olt main_v24 main_v25
  let main_c_9 : IVec S_ 1 := constantI S_ 1 1#1
  let main_v27 : IVec S_ 1 := (fun x v => Host.reduce IntOp.andi x v reducesTo_S2x2048x1024_S_d0_1_2 h_S_) main_v26 main_c_9
  let main_v28 : IVec S_ 1 := andi main_v23 main_v27
  main_v28

def fn {F : FTy → Type} [FloatOps F] (main_arg0 : FVec F S2x2048x1024 .f32) (main_arg1 : FVec F S1024 .f32) (main_arg2 : FVec F S1024x5632 .f32) (main_arg3 : FVec F S3x5632 .f32) (main_arg4 : FVec F S2816x1024 .f32) (main_arg5 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg5 main_v13 main_v16
-- ==== Pre_finite_h1.lean ====
abbrev S2x2048x1024 : Shape := ⟨3, ![2, 2048, 1024]⟩
abbrev S1024 : Shape := ⟨1, ![1024]⟩
abbrev S1024x3072 : Shape := ⟨2, ![1024, 3072]⟩
abbrev S2x2048x3072 : Shape := ⟨3, ![2, 2048, 3072]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S2x2048x3072 : S_.BroadcastsInDim S2x2048x3072 (![] : Fin 0 → Fin S2x2048x3072.rank)
  reducesTo_S2x2048x3072_S_d0_1_2 : S2x2048x3072.ReducesTo [0, 1, 2] S_

variable [Facts]

def fn_part1 {F : FTy → Type} [FloatOps F] (main_v13 : IVec S_ 1) (main_v16 : IVec S2x2048x3072 1) : IVec S_ 1 :=
  let main_c_5 : IVec S_ 1 := constantI S_ 1 1#1
  let main_v17 : IVec S_ 1 := (fun x v => Host.reduce IntOp.andi x v reducesTo_S2x2048x3072_S_d0_1_2 h_S_) main_v16 main_c_5
  let main_v18 : IVec S_ 1 := andi main_v13 main_v17
  main_v18

def fn {F : FTy → Type} [FloatOps F] (main_arg0 : FVec F S2x2048x1024 .f32) (main_arg1 : FVec F S1024 .f32) (main_arg2 : FVec F S1024x3072 .f32) (main_arg3 : FVec F S2x2048x3072 .f32) (main_arg4 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S2x2048x3072 .f32 := Host.absf main_arg3
  let main_cst_4 : FVec F S_ .f32 := constant S_ .f32 0x7F800000#32
  let main_v15 : FVec F S2x2048x3072 .f32 := broadcastInDim S2x2048x3072 ![] bcast_S_S2x2048x3072 main_cst_4
  let main_v16 : IVec S2x2048x3072 1 := cmpf .olt main_v14 main_v15
  fn_part1 (F := F) main_v13 main_v16
-- ==== Loss.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x128, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_17 : BitVec 32 := 0#32
  let v49 : BitVec 1 := Scalar.cmpi .ne v48 c0_i32_17
  v49

def k0_cond2 (i : grid0.Coords) : BitVec 1 :=
  let arg0 : BitVec 32 := BitVec.ofNat 32 (i 0).val
  let c0_i32_18 : BitVec 32 := 0#32
  let v50 : BitVec 1 := Scalar.cmpi .sgt arg0 c0_i32_18
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x128 : Shape := ⟨2, ![1, 128]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S4096x1024, .f32⟩
  | .hbm, ⟨72, _⟩ => ⟨S1x128, .f32⟩
  | .hbm, ⟨73, _⟩ => ⟨S4096x1024, .bf16⟩
  | .hbm, ⟨74, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== H1.lean ====
abbrev S2x2048x1024 : Shape := ⟨3, ![2, 2048, 1024]⟩
abbrev S1024 : Shape := ⟨1, ![1024]⟩
abbrev S1024x3072 : Shape := ⟨2, ![1024, 3072]⟩
abbrev S2x2048x3072 : Shape := ⟨3, ![2, 2048, 3072]⟩
abbrev S4096x3072 : Shape := ⟨2, ![4096, 3072]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S2x2048x3072, .f32⟩
  | .hbm, ⟨4, _⟩ => ⟨S2x2048x1024, .f32⟩
  | .hbm, ⟨5, _⟩ => ⟨S4096x3072, .f32⟩
  | .hbm, ⟨6, _⟩ => ⟨S4096x3072, .bf16⟩
  | .hbm, ⟨7, _⟩ => ⟨S1024x3072, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_19 : BitVec 32 := 0#32
  let v42 : BitVec 1 := Scalar.cmpi .ne v41 c0_i32_19
  v42

def k0_cond2 (i : grid0.Coords) : BitVec 1 :=
  let arg0 : BitVec 32 := BitVec.ofNat 32 (i 0).val
  let c0_i32_20 : BitVec 32 := 0#32
  let v43 : BitVec 1 := Scalar.cmpi .sgt arg0 c0_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== H1RefIdeal.lean ====
abbrev S2x2048x1024 : Shape := ⟨3, ![2, 2048, 1024]⟩
abbrev S1024 : Shape := ⟨1, ![1024]⟩
abbrev S1024x3072 : Shape := ⟨2, ![1024, 3072]⟩
abbrev S2x2048x3072 : Shape := ⟨3, ![2, 2048, 3072]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x3072, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Ffn.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S3x8x704 : Shape := ⟨3, ![3, 8, 704]⟩
abbrev S8x3x704 : Shape := ⟨3, ![8, 3, 704]⟩
abbrev S2x4x3x704 : Shape := ⟨4, ![2, 4, 3, 704]⟩
abbrev S5632x1024 : Shape := ⟨2, ![5632, 1024]⟩
abbrev S8x704x1024 : Shape := ⟨3, ![8, 704, 1024]⟩
abbrev S4x704x1024 : Shape := ⟨3, ![4, 704, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x8x704 : Shape := ⟨3, ![4096, 8, 704]⟩
abbrev S8x4096x704 : Shape := ⟨3, ![8, 4096, 704]⟩
abbrev S2x4x4096x704 : Shape := ⟨4, ![2, 4, 4096, 704]⟩
abbrev S2x4x256x704 : Shape := ⟨4, ![2, 4, 256, 704]⟩
abbrev S2x4x16x704 : Shape := ⟨4, ![2, 4, 16, 704]⟩
abbrev S256x1024 : Shape := ⟨2, ![256, 1024]⟩
abbrev S16x1024 : Shape := ⟨2, ![16, 1024]⟩
abbrev S288x1024 : Shape := ⟨2, ![288, 1024]⟩
abbrev S272x1 : Shape := ⟨2, ![272, 1]⟩
abbrev S1x1x16x704 : Shape := ⟨4, ![1, 1, 16, 704]⟩
abbrev S16x704 : Shape := ⟨2, ![16, 704]⟩
abbrev S1x1x256x704 : Shape := ⟨4, ![1, 1, 256, 704]⟩
abbrev S256x704 : Shape := ⟨2, ![256, 704]⟩
abbrev S8x704 : Shape := ⟨2, ![8, 704]⟩
abbrev S272x704 : Shape := ⟨2, ![272, 704]⟩
abbrev S1x704x1024 : Shape := ⟨3, ![1, 704, 1024]⟩
abbrev S704x1024 : Shape := ⟨2, ![704, 1024]⟩
abbrev S288x704 : Shape := ⟨2, ![288, 704]⟩
abbrev S1x1x3x704 : Shape := ⟨4, ![1, 1, 3, 704]⟩
abbrev S3x704 : Shape := ⟨2, ![3, 704]⟩
abbrev S1x704 : Shape := ⟨2, ![1, 704]⟩
abbrev S704 : Shape := ⟨1, ![704]⟩
abbrev S256 : Shape := ⟨1, ![256]⟩
abbrev S256x1 : Shape := ⟨2, ![256, 1]⟩
abbrev S1x1x1x704 : Shape := ⟨4, ![1, 1, 1, 704]⟩

abbrev nBuf : Space → Nat
  | .hbm => 44
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S2x2048x1024, .f32⟩
  | .hbm, ⟨6, _⟩ => ⟨S3x8x704, .f32⟩
  | .hbm, ⟨7, _⟩ => ⟨S8x3x704, .f32⟩
  | .hbm, ⟨8, _⟩ => ⟨S2x4x3x704, .f32⟩
  | .hbm, ⟨9, _⟩ => ⟨S5632x1024, .f32⟩
  | .hbm, ⟨10, _⟩ => ⟨S8x704x1024, .f32⟩
  | .hbm, ⟨11, _⟩ => ⟨S8x704x1024, .bf16⟩
  | .hbm, ⟨12, _⟩ => ⟨S4x704x1024, .f32⟩
  | .hbm, ⟨13, _⟩ => ⟨S4x704x1024, .bf16⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x8x704, .f32⟩
  | .hbm, ⟨34, _⟩ => ⟨S8x4096x704, .f32⟩
  | .hbm, ⟨35, _⟩ => ⟨S2x4x4096x704, .f32⟩
  | .hbm, ⟨36, _⟩ => ⟨S2x4x4096x704, .bf16⟩
  | .hbm, ⟨37, _⟩ => ⟨S4096x1024, .bf16⟩
  | .hbm, ⟨38, _⟩ => ⟨S1x1024, .f32⟩
  | .hbm, ⟨39, _⟩ => ⟨S2x4x4096x704, .bf16⟩
  | .hbm, ⟨40, _⟩ => ⟨S2x4x3x704, .f32⟩
  | .hbm, ⟨41, _⟩ => ⟨S4096x1024, .f32⟩
  | .hbm, ⟨42, _⟩ => ⟨S4096x1024, .bf16⟩
  | .hbm, ⟨43, _⟩ => ⟨S1x1024, .f32⟩
  | .local _ .vmem, ⟨0, _⟩ => ⟨S2x4x256x704, .bf16⟩
  | .local _ .vmem, ⟨1, _⟩ => ⟨S2x4x256x704, .bf16⟩
  | .local _ .vmem, ⟨2, _⟩ => ⟨S2x4x16x704, .bf16⟩
  | .local _ .vmem, ⟨3, _⟩ => ⟨S2x4x16x704, .bf16⟩
  | .local _ .vmem, ⟨4, _⟩ => ⟨S2x4x16x704, .bf16⟩
  | .local _ .vmem, ⟨5, _⟩ => ⟨S2x4x16x704, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S2x4x3x704, .f32⟩
  | .local _ .vmem, ⟨13, _⟩ => ⟨S4x704x1024, .bf16⟩
  | .local _ .vmem, ⟨14, _⟩ => ⟨S8x704x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S2x4x256x704, .bf16⟩
  | .local _ .vmem, ⟨21, _⟩ => ⟨S2x4x256x704, .bf16⟩
  | .local _ .vmem, ⟨22, _⟩ => ⟨S2x4x3x704, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_333 : BitVec 32 := 0#32
  let v695 : BitVec 1 := Scalar.cmpi .eq arg0 c0_i32_333
  let v696 : BitVec 32 := Scalar.extui v695
  let c0_i32_334 : BitVec 32 := 0#32
  let v697 : BitVec 1 := Scalar.cmpi .ne v696 c0_i32_334
  v697

def k0_cond2 (i : grid0.Coords) : BitVec 1 :=
  let arg0 : BitVec 32 := BitVec.ofNat 32 (i 0).val
  let c0_i32_335 : BitVec 32 := 0#32
  let v698 : BitVec 1 := Scalar.cmpi .sgt arg0 c0_i32_335
  let v699 : BitVec 32 := Scalar.extui v698
  let c0_i32_336 : BitVec 32 := 0#32
  let v700 : BitVec 1 := Scalar.cmpi .ne v699 c0_i32_336
  v700

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v2.toNat, c0_i32_2.toNat]

def cc0_transform_2 (i : grid0.Coords) : Fin 4 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4x16x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x4x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2x4x3x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FfnRefIdeal.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2x5632 : Shape := ⟨3, ![2, 2, 5632]⟩
abbrev S2x2050x5632 : Shape := ⟨3, ![2, 2050, 5632]⟩
abbrev S1x5632 : Shape := ⟨2, ![1, 5632]⟩
abbrev S5632 : Shape := ⟨1, ![5632]⟩
abbrev S1x1x5632 : Shape := ⟨3, ![1, 1, 5632]⟩
abbrev S2x2048x2816 : Shape := ⟨3, ![2, 2048, 2816]⟩
abbrev S4096x2x4x704 : Shape := ⟨4, ![4096, 2, 4, 704]⟩
abbrev S2x4x4096x704 : Shape := ⟨4, ![2, 4, 4096, 704]⟩
abbrev S3x2x4x704 : Shape := ⟨4, ![3, 2, 4, 704]⟩
abbrev S2x4x3x704 : Shape := ⟨4, ![2, 4, 3, 704]⟩
abbrev S4096x1024 : Shape := ⟨2, ![4096, 1024]⟩
abbrev S1x1024 : Shape := ⟨2, ![1, 1024]⟩

abbrev nBuf : Space → Nat
  | .hbm => 160
  | .vmem => 0
  | .smem => 0
  | _ => 0

abbrev hbmTy0_0 (i : Nat) : BufTy := match i % 128 with
  | 0 => ⟨S2x2048x1024, .f32⟩
  | 1 => ⟨S1024, .f32⟩
  | 2 => ⟨S1024x5632, .f32⟩
  | 3 => ⟨S3x5632, .f32⟩
  | 4 => ⟨S2816x1024, .f32⟩
  | 5 => ⟨S2x2048x1024, .f32⟩
  | 6 => ⟨S2x2048x1024, .f32⟩
  | 7 => ⟨S_, .f32⟩
  | 8 => ⟨S2x2048, .f32⟩
  | 9 => ⟨S2x2048x1, .f32⟩
  | 10 => ⟨S_, .f32⟩
  | 11 => ⟨S2x2048x1, .f32⟩
  | 12 => ⟨S2x2048x1, .f32⟩
  | 13 => ⟨S_, .f32⟩
  | 14 => ⟨S2x2048x1, .f32⟩
  | 15 => ⟨S2x2048x1, .f32⟩
  | 16 => ⟨S2x2048x1, .f32⟩
  | 17 => ⟨S2x2048x1, .f32⟩
  | 18 => ⟨S_, .f32⟩
  | 19 => ⟨S2x2048x1, .f32⟩
  | 20 => ⟨S2x2048x1, .f32⟩
  | 21 => ⟨S2x2048x1024, .f32⟩
  | 22 => ⟨S2x2048x1024, .f32⟩
  | 23 => ⟨S1x1x1024, .f32⟩
  | 24 => ⟨S2x2048x1024, .f32⟩
  | 25 => ⟨S2x2048x1024, .f32⟩
  | 26 => ⟨S2x2048x5632, .f32⟩
  | 27 => ⟨S_, .f32⟩
  | 28 => ⟨S2x2x5632, .f32⟩
  | 29 => ⟨S2x2050x5632, .f32⟩
  | 30 => ⟨S_, .f32⟩
  | 31 => ⟨S2x2x5632, .f32⟩
  | 32 => ⟨S2x2048x5632, .f32⟩
  | 33 => ⟨S1x5632, .f32⟩
  | 34 => ⟨S5632, .f32⟩
  | 35 => ⟨S1x1x5632, .f32⟩
  | 36 => ⟨S2x2048x5632, .f32⟩
  | 37 => ⟨S2x2048x5632, .f32⟩
  | 38 => ⟨S_, .f32⟩
  | 39 => ⟨S2x2048x5632, .f32⟩
  | 40 => ⟨S2x2048x5632, .f32⟩
  | 41 => ⟨S2x2048x5632, .f32⟩
  | 42 => ⟨S1x5632, .f32⟩
  | 43 => ⟨S5632, .f32⟩
  | 44 => ⟨S1x1x5632, .f32⟩
  | 45 => ⟨S2x2048x5632, .f32⟩
  | 46 => ⟨S2x2048x5632, .f32⟩
  | 47 => ⟨S2x2048x5632, .f32⟩
  | 48 => ⟨S2x2048x5632, .f32⟩
  | 49 => ⟨S1x5632, .f32⟩
  | 50 => ⟨S5632, .f32⟩
  | 51 => ⟨S1x1x5632, .f32⟩
  | 52 => ⟨S2x2048x5632, .f32⟩
  | 53 => ⟨S2x2048x5632, .f32⟩
  | 54 => ⟨S2x2048x5632, .f32⟩
  | 55 => ⟨S2x2048x2816, .f32⟩
  | 56 => ⟨S2x2048x2816, .f32⟩
  | 57 => ⟨S2x2048x2816, .f32⟩
  | 58 => ⟨S2x2048x2816, .f32⟩
  | 59 => ⟨S_, .f32⟩
  | 60 => ⟨S2x2048x2816, .f32⟩
  | 61 => ⟨S2x2048x2816, .f32⟩
  | 62 => ⟨S_, .f32⟩
  | 63 => ⟨S2x2048x2816, .f32⟩
  | 64 => ⟨S2x2048x2816, .f32⟩
  | 65 => ⟨S_, .f32⟩
  | 66 => ⟨S2x2048x2816, .f32⟩
  | 67 => ⟨S2x2048x2816, .f32⟩
  | 68 => ⟨S2x2048x2816, .f32⟩
  | 69 => ⟨S2x2048x2816, .f32⟩
  | 70 => ⟨S2x2048x2816, .f32⟩
  | 71 => ⟨S2x2048x1024, .f32⟩
  | 72 => ⟨S2x2048x2816, .f32⟩
  | 73 => ⟨S2x2048x2816, .f32⟩
  | 74 => ⟨S2x2048x2816, .f32⟩
  | 75 => ⟨S2x2048x2816, .f32⟩
  | 76 => ⟨S2x2048x2816, .f32⟩
  | 77 => ⟨S2x2048x2816, .f32⟩
  | 78 => ⟨S2x2048x2816, .f32⟩
  | 79 => ⟨S2x2048x5632, .f32⟩
  | 80 => ⟨S2x2048x5632, .f32⟩
  | 81 => ⟨S_, .f32⟩
  | 82 => ⟨S5632, .f32⟩
  | 83 => ⟨S1x1x5632, .f32⟩
  | 84 => ⟨S2x2048x5632, .f32⟩
  | 85 => ⟨S2x2048x5632, .f32⟩
  | 86 => ⟨S_, .f32⟩
  | 87 => ⟨S5632, .f32⟩
  | 88 => ⟨S1x5632, .f32⟩
  | 89 => ⟨S_, .f32⟩
  | 90 => ⟨S3x5632, .f32⟩
  | 91 => ⟨S_, .f32⟩
  | 92 => ⟨S2x2050x5632, .f32⟩
  | 93 => ⟨S2x2048x5632, .f32⟩
  | 94 => ⟨S_, .f32⟩
  | 95 => ⟨S5632, .f32⟩
  | 96 => ⟨S1x1x5632, .f32⟩
  | 97 => ⟨S2x2048x5632, .f32⟩
  | 98 => ⟨S2x2048x5632, .f32⟩
  | 99 => ⟨S_, .f32⟩
  | 100 => ⟨S5632, .f32⟩
  | 101 => ⟨S1x5632, .f32⟩
  | 102 => ⟨S_, .f32⟩
  | 103 => ⟨S3x5632, .f32⟩
  | 104 => ⟨S3x5632, .f32⟩
  | 105 => ⟨S_, .f32⟩
  | 106 => ⟨S2x2050x5632, .f32⟩
  | 107 => ⟨S2x2050x5632, .f32⟩
  | 108 => ⟨S2x2048x5632, .f32⟩
  | 109 => ⟨S_, .f32⟩
  | 110 => ⟨S5632, .f32⟩
  | 111 => ⟨S1x1x5632, .f32⟩
  | 112 => ⟨S2x2048x5632, .f32⟩
  | 113 => ⟨S2x2048x5632, .f32⟩
  | 114 => ⟨S_, .f32⟩
  | 115 => ⟨S5632, .f32⟩
  | 116 => ⟨S1x5632, .f32⟩
  | 117 => ⟨S_, .f32⟩
  | 118 => ⟨S3x5632, .f32⟩
  | 119 => ⟨S3x5632, .f32⟩
  | 120 => ⟨S_, .f32⟩
  | 121 => ⟨S2x2050x5632, .f32⟩
  | 122 => ⟨S2x2050x5632, .f32⟩
  | 123 => ⟨S2x2x5632, .f32⟩
  | 124 => ⟨S2x2048x5632, .f32⟩
  | 125 => ⟨S2x2048x1024, .f32⟩
  | 126 => ⟨S2x2048x1024, .f32⟩
  | 127 => ⟨S_, .f32⟩
  | _ => ⟨S2x2048x1024, .f32⟩

abbrev hbmTy0_1 (i : Nat) : BufTy := match i % 128 with
  | 0 => ⟨S1024, .f32⟩
  | 1 => ⟨S1x1x1024, .f32⟩
  | 2 => ⟨S2x2048x1024, .f32⟩
  | 3 => ⟨S2x2048x1024, .f32⟩
  | 4 => ⟨S_, .f32⟩
  | 5 => ⟨S1024, .f32⟩
  | 6 => ⟨S2x2048x1024, .f32⟩
  | 7 => ⟨S_, .f32⟩
  | 8 => ⟨S2x2048, .f32⟩
  | 9 => ⟨S2x2048x1, .f32⟩
  | 10 => ⟨S2x2048x1024, .f32⟩
  | 11 => ⟨S2x2048x1024, .f32⟩
  | 12 => ⟨S2x2048x1024, .f32⟩
  | 13 => ⟨S2x2048x1, .f32⟩
  | 14 => ⟨S_, .f32⟩
  | 15 => ⟨S2x2048x1, .f32⟩
  | 16 => ⟨S2x2048x1, .f32⟩
  | 17 => ⟨S_, .f32⟩
  | 18 => ⟨S2x2048, .f32⟩
  | 19 => ⟨S2x2048x1024, .f32⟩
  | 20 => ⟨S2x2048x1024, .f32⟩
  | 21 => ⟨S2x2048x1024, .f32⟩
  | 22 => ⟨S2x2048x1024, .f32⟩
  | 23 => ⟨S2x2048x1024, .f32⟩
  | 24 => ⟨S4096x2x4x704, .f32⟩
  | 25 => ⟨S2x4x4096x704, .f32⟩
  | 26 => ⟨S2x4x4096x704, .bf16⟩
  | 27 => ⟨S3x2x4x704, .f32⟩
  | 28 => ⟨S2x4x3x704, .f32⟩
  | 29 => ⟨S4096x1024, .f32⟩
  | 30 => ⟨S4096x1024, .bf16⟩
  | 31 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v44_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v44_1 : Ref sig .tc := ⟨.hbm, 68, rfl⟩
abbrev main_v44_0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_cst_16 : Ref sig .tc := ⟨.hbm, 117, rfl⟩
abbrev main_v79 : Ref sig .tc := ⟨.hbm, 118, rfl⟩
abbrev main_v80 : Ref sig .tc := ⟨.hbm, 119, rfl⟩
abbrev main_cst_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_18 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_cst_20 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_21 : Ref sig .tc := ⟨.hbm, 142, rfl⟩
abbrev main_v99 : Ref sig .tc := ⟨.hbm, 143, rfl⟩
abbrev main_v100 : Ref sig .tc := ⟨.hbm, 144, rfl⟩
abbrev main_cst_22 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩

abbrev nD : Nat := 1
abbrev τ : Topo := Topo.v7x

variable {F : FTy → Type} [FloatOps F]
-- ==== Conv.lean ====
abbrev S2x2048x1024 : Shape := ⟨3, ![2, 2048, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S4096x3072 : Shape := ⟨2, ![4096, 3072]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x512 : Shape := ⟨2, ![1, 512]⟩
abbrev S2048x128 : Shape := ⟨2, ![2048, 128]⟩
abbrev S3x128 : Shape := ⟨2, ![3, 128]⟩
abbrev S1x128 : Shape := ⟨2, ![1, 128]⟩
abbrev S3x2048x128 : Shape := ⟨3, ![3, 2048, 128]⟩
abbrev S3 : Shape := ⟨1, ![3]⟩
abbrev S128x128 : Shape := ⟨2, ![128, 128]⟩
abbrev S16x128 : Shape := ⟨2, ![16, 128]⟩
abbrev S8x128 : Shape := ⟨2, ![8, 128]⟩
abbrev S512x128 : Shape := ⟨2, ![512, 128]⟩
abbrev S528x128 : Shape := ⟨2, ![528, 128]⟩
abbrev S128 : Shape := ⟨1, ![128]⟩
abbrev S1x512x128 : Shape := ⟨3, ![1, 512, 128]⟩
abbrev S1 : Shape := ⟨1, ![1]⟩
abbrev S1x2048x128 : Shape := ⟨3, ![1, 2048, 128]⟩

abbrev nBuf : Space → Nat
  | .hbm => 33
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S3x512, .f32⟩
  | .hbm, ⟨4, _⟩ => ⟨S512, .f32⟩
  | .hbm, ⟨5, _⟩ => ⟨S2x2048x1024, .f32⟩
  | .hbm, ⟨6, _⟩ => ⟨S4096x3072, .bf16⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1024x3072, .bf16⟩
  | .hbm, ⟨26, _⟩ => ⟨S4096x3072, .f32⟩
  | .hbm, ⟨27, _⟩ => ⟨S4096x1024, .f32⟩
  | .hbm, ⟨28, _⟩ => ⟨S4096x1024, .bf16⟩
  | .hbm, ⟨29, _⟩ => ⟨S1x512, .f32⟩
  | .hbm, ⟨30, _⟩ => ⟨S4096x3072, .bf16⟩
  | .hbm, ⟨31, _⟩ => ⟨S3x512, .f32⟩
  | .hbm, ⟨32, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S3x128, .f32⟩
  | .local _ .vmem, ⟨13, _⟩ => ⟨S3x128, .f32⟩
  | .local _ .vmem, ⟨14, _⟩ => ⟨S1x128, .f32⟩
  | .local _ .vmem, ⟨15, _⟩ => ⟨S1x128, .f32⟩
  | .local _ .vmem, ⟨16, _⟩ => ⟨S3x2048x128, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def k0_mult1 : BitVec 32 :=
  let c0_i32 : BitVec 32 := 0#32
  let c512_i32 : BitVec 32 := 512#32
  let v14 : BitVec 32 := Scalar.muli c0_i32 c512_i32
  v14
def k0_mult2 : BitVec 32 :=
  let c0_i32 : BitVec 32 := 0#32
  let c512_i32_4 : BitVec 32 := 512#32
  let v16 : BitVec 32 := Scalar.muli c0_i32 c512_i32_4
  v16
def k0_mult3 : BitVec 32 :=
  let c0_i32 : BitVec 32 := 0#32
  let c512_i32_4 : BitVec 32 := 512#32
  let v16 : BitVec 32 := Scalar.muli c0_i32 c512_i32_4
  let v17 : BitVec 32 := v16
  let c16_i32 : BitVec 32 := 16#32
  let v18 : BitVec 32 := Scalar.subi v17 c16_i32
  let c0_i32_5 : BitVec 32 := 0#32
  let v19 : BitVec 32 := Scalar.maxsi v18 c0_i32_5
  v19
def k0_off1 (c0_i32 : BitVec 32) : Fin 2 → Nat :=
  let c512_i32_4 : BitVec 32 := 512#32
  let v16 : BitVec 32 := Scalar.muli c0_i32 c512_i32_4
  let v17 : BitVec 32 := v16
  let c16_i32 : BitVec 32 := 16#32
  let v18 : BitVec 32 := Scalar.subi v17 c16_i32
  let c0_i32_5 : BitVec 32 := 0#32
  let v19 : BitVec 32 := Scalar.maxsi v18 c0_i32_5
  let v20 : BitVec 32 := v19
  let v21 : Index := Scalar.indexCast v20
  let c0_6 : Index := 0#32
  ![v21.toNat, 0]
def k0_off2 (c0_i32 : BitVec 32) : Fin 2 → Nat :=
  let c512_i32_4 : BitVec 32 := 512#32
  let v16 : BitVec 32 := Scalar.muli c0_i32 c512_i32_4
  let v17 : BitVec 32 := v16
  let v30 : Index := Scalar.indexCast v17
  let c0_8 : Index := 0#32
  ![v30.toNat, 0]
def k0_mult4 : BitVec 32 :=
  let c0_i32 : BitVec 32 := 0#32
  let c512_i32_4 : BitVec 32 := 512#32
  let v16 : BitVec 32 := Scalar.muli c0_i32 c512_i32_4
  let v17 : BitVec 32 := v16
  let c512_i32_9 : BitVec 32 := 512#32
  let v33 : BitVec 32 := Scalar.addi v17 c512_i32_9
  let c1536_i32 : BitVec 32 := 1536#32
  let v34 : BitVec 32 := Scalar.minsi v33 c1536_i32
  v34
def k0_off3 (c0_i32 : BitVec 32) : Fin 2 → Nat :=
  let c512_i32_4 : BitVec 32 := 512#32
  let v16 : BitVec 32 := Scalar.muli c0_i32 c512_i32_4
  let v17 : BitVec 32 := v16
  let c512_i32_9 : BitVec 32 := 512#32
  let v33 : BitVec 32 := Scalar.addi v17 c512_i32_9
  let c1536_i32 : BitVec 32 := 1536#32
  let v34 : BitVec 32 := Scalar.minsi v33 c1536_i32
  let v35 : BitVec 32 := v34
  let v36 : Index := Scalar.indexCast v35
  let c0_10 : Index := 0#32
  ![v36.toNat, 0]
def k0_mult5 : BitVec 32 :=
  let c0_i32 : BitVec 32 := 0#32
  let c512_i32_11 : BitVec 32 := 512#32
  let v46 : BitVec 32 := Scalar.muli c0_i32 c512_i32_11
  v46
def k0_mult6 : BitVec 32 :=
  let c0_i32 : BitVec 32 := 0#32
  let c512_i32_11 : BitVec 32 := 512#32
  let v46 : BitVec 32 := Scalar.muli c0_i32 c512_i32_11
  let v47 : BitVec 32 := v46
  let c16_i32_12 : BitVec 32 := 16#32
  let v48 : BitVec 32 := Scalar.subi v47 c16_i32_12
  let c0_i32_13 : BitVec 32 := 0#32
  let v49 : BitVec 32 := Scalar.maxsi v48 c0_i32_13
  v49
def k0_mult7 : BitVec 32 :=
  let c0_i32 : BitVec 32 := 0#32
  let c512_i32_11 : BitVec 32 := 512#32
  let v46 : BitVec 32 := Scalar.muli c0_i32 c512_i32_11
  let v47 : BitVec 32 := v46
  let c512_i32_17 : BitVec 32 := 512#32
  let v63 : BitVec 32 := Scalar.addi v47 c512_i32_17
  let c1536_i32_18 : BitVec 32 := 1536#32
  let v64 : BitVec 32 := Scalar.minsi v63 c1536_i32_18
  v64
def k0_mult8 : BitVec 32 :=
  let c0_i32 : BitVec 32 := 0#32
  let c512_i32_21 : BitVec 32 := 512#32
  let v76 : BitVec 32 := Scalar.muli c0_i32 c512_i32_21
  v76
def k0_mult9 : BitVec 32 :=
  let c0_i32 : BitVec 32 := 0#32
  let c512_i32_21 : BitVec 32 := 512#32
  let v76 : BitVec 32 := Scalar.muli c0_i32 c512_i32_21
  let v77 : BitVec 32 := v76
  let c16_i32_22 : BitVec 32 := 16#32
  let v78 : BitVec 32 := Scalar.subi v77 c16_i32_22
  let c0_i32_23 : BitVec 32 := 0#32
  let v79 : BitVec 32 := Scalar.maxsi v78 c0_i32_23
  v79
def k0_mult10 : BitVec 32 :=
  let c0_i32 : BitVec 32 := 0#32
  let c512_i32_21 : BitVec 32 := 512#32
  let v76 : BitVec 32 := Scalar.muli c0_i32 c512_i32_21
  let v77 : BitVec 32 := v76
  let c512_i32_27 : BitVec 32 := 512#32
  let v93 : BitVec 32 := Scalar.addi v77 c512_i32_27
  let c1536_i32_28 : BitVec 32 := 1536#32
  let v94 : BitVec 32 := Scalar.minsi v93 c1536_i32_28
  v94
def k0_mult11 : BitVec 32 :=
  let c0_i32 : BitVec 32 := 0#32
  let c512_i32_31 : BitVec 32 := 512#32
  let v106 : BitVec 32 := Scalar.muli c0_i32 c512_i32_31
  v106
def k0_mult12 : BitVec 32 :=
  let c0_i32 : BitVec 32 := 0#32
  let c512_i32_31 : BitVec 32 := 512#32
  let v106 : BitVec 32 := Scalar.muli c0_i32 c512_i32_31
  let v107 : BitVec 32 := v106
  let c16_i32_32 : BitVec 32 := 16#32
  let v108 : BitVec 32 := Scalar.subi v107 c16_i32_32
  let c0_i32_33 : BitVec 32 := 0#32
  let v109 : BitVec 32 := Scalar.maxsi v108 c0_i32_33
  v109
def k0_mult13 : BitVec 32 :=
  let c0_i32 : BitVec 32 := 0#32
  let c512_i32_31 : BitVec 32 := 512#32
  let v106 : BitVec 32 := Scalar.muli c0_i32 c512_i32_31
  let v107 : BitVec 32 := v106
  let c512_i32_37 : BitVec 32 := 512#32
  let v125 : BitVec 32 := Scalar.addi v107 c512_i32_37
  let c1536_i32_38 : BitVec 32 := 1536#32
  let v126 : BitVec 32 := Scalar.minsi v125 c1536_i32_38
  v126
def k0_off4 (c0_i32 : BitVec 32) : Fin 3 → Nat :=
  let c0_53 : Index := 0#32
  let c512_i32 : BitVec 32 := 512#32
  let v14 : BitVec 32 := Scalar.muli c0_i32 c512_i32
  let v15 : BitVec 32 := v14
  let v212 : Index := Scalar.indexCast v15
  let c0_54 : Index := 0#32
  ![0, v212.toNat, 0]
def k0_off5 (c0_i32 : BitVec 32) : Fin 3 → Nat :=
  let c1 : Index := 1#32
  let c512_i32 : BitVec 32 := 512#32
  let v14 : BitVec 32 := Scalar.muli c0_i32 c512_i32
  let v15 : BitVec 32 := v14
  let v219 : Index := Scalar.indexCast v15
  let c0_55 : Index := 0#32
  ![1, v219.toNat, 0]
def k0_off6 (c0_i32 : BitVec 32) : Fin 3 → Nat :=
  let c2 : Index := 2#32
  let c512_i32 : BitVec 32 := 512#32
  let v14 : BitVec 32 := Scalar.muli c0_i32 c512_i32
  let v15 : BitVec 32 := v14
  let v226 : Index := Scalar.indexCast v15
  let c0_56 : Index := 0#32
  ![2, v226.toNat, 0]
def k0_mult14 : BitVec 32 :=
  let c1_i32_58 : BitVec 32 := 1#32
  let c512_i32_59 : BitVec 32 := 512#32
  let v238 : BitVec 32 := Scalar.muli c1_i32_58 c512_i32_59
  v238
def k0_mult15 : BitVec 32 :=
  let c1_i32_58 : BitVec 32 := 1#32
  let c512_i32_60 : BitVec 32 := 512#32
  let v240 : BitVec 32 := Scalar.muli c1_i32_58 c512_i32_60
  v240
def k0_mult16 : BitVec 32 :=
  let c1_i32_58 : BitVec 32 := 1#32
  let c512_i32_60 : BitVec 32 := 512#32
  let v240 : BitVec 32 := Scalar.muli c1_i32_58 c512_i32_60
  let v241 : BitVec 32 := v240
  let c16_i32_61 : BitVec 32 := 16#32
  let v242 : BitVec 32 := Scalar.subi v241 c16_i32_61
  let c0_i32_62 : BitVec 32 := 0#32
  let v243 : BitVec 32 := Scalar.maxsi v242 c0_i32_62
  v243
def k0_mult17 : BitVec 32 :=
  let c1_i32_58 : BitVec 32 := 1#32
  let c512_i32_60 : BitVec 32 := 512#32
  let v240 : BitVec 32 := Scalar.muli c1_i32_58 c512_i32_60
  let v241 : BitVec 32 := v240
  let c512_i32_66 : BitVec 32 := 512#32
  let v257 : BitVec 32 := Scalar.addi v241 c512_i32_66
  let c1536_i32_67 : BitVec 32 := 1536#32
  let v258 : BitVec 32 := Scalar.minsi v257 c1536_i32_67
  v258
def k0_mult18 : BitVec 32 :=
  let c1_i32_58 : BitVec 32 := 1#32
  let c512_i32_70 : BitVec 32 := 512#32
  let v270 : BitVec 32 := Scalar.muli c1_i32_58 c512_i32_70
  v270
def k0_mult19 : BitVec 32 :=
  let c1_i32_58 : BitVec 32 := 1#32
  let c512_i32_70 : BitVec 32 := 512#32
  let v270 : BitVec 32 := Scalar.muli c1_i32_58 c512_i32_70
  let v271 : BitVec 32 := v270
  let c16_i32_71 : BitVec 32 := 16#32
  let v272 : BitVec 32 := Scalar.subi v271 c16_i32_71
  let c0_i32_72 : BitVec 32 := 0#32
  let v273 : BitVec 32 := Scalar.maxsi v272 c0_i32_72
  v273
def k0_mult20 : BitVec 32 :=
  let c1_i32_58 : BitVec 32 := 1#32
  let c512_i32_70 : BitVec 32 := 512#32
  let v270 : BitVec 32 := Scalar.muli c1_i32_58 c512_i32_70
  let v271 : BitVec 32 := v270
  let c512_i32_76 : BitVec 32 := 512#32
  let v287 : BitVec 32 := Scalar.addi v271 c512_i32_76
  let c1536_i32_77 : BitVec 32 := 1536#32
  let v288 : BitVec 32 := Scalar.minsi v287 c1536_i32_77
  v288
def k0_mult21 : BitVec 32 :=
  let c1_i32_58 : BitVec 32 := 1#32
  let c512_i32_80 : BitVec 32 := 512#32
  let v300 : BitVec 32 := Scalar.muli c1_i32_58 c512_i32_80
  v300
def k0_mult22 : BitVec 32 :=
  let c1_i32_58 : BitVec 32 := 1#32
  let c512_i32_80 : BitVec 32 := 512#32
  let v300 : BitVec 32 := Scalar.muli c1_i32_58 c512_i32_80
  let v301 : BitVec 32 := v300
  let c16_i32_81 : BitVec 32 := 16#32
  let v302 : BitVec 32 := Scalar.subi v301 c16_i32_81
  let c0_i32_82 : BitVec 32 := 0#32
  let v303 : BitVec 32 := Scalar.maxsi v302 c0_i32_82
  v303
def k0_mult23 : BitVec 32 :=
  let c1_i32_58 : BitVec 32 := 1#32
  let c512_i32_80 : BitVec 32 := 512#32
  let v300 : BitVec 32 := Scalar.muli c1_i32_58 c512_i32_80
  let v301 : BitVec 32 := v300
  let c512_i32_86 : BitVec 32 := 512#32
  let v317 : BitVec 32 := Scalar.addi v301 c512_i32_86
  let c1536_i32_87 : BitVec 32 := 1536#32
  let v318 : BitVec 32 := Scalar.minsi v317 c1536_i32_87
  v318
def k0_mult24 : BitVec 32 :=
  let c1_i32_58 : BitVec 32 := 1#32
  let c512_i32_90 : BitVec 32 := 512#32
  let v330 : BitVec 32 := Scalar.muli c1_i32_58 c512_i32_90
  v330
def k0_mult25 : BitVec 32 :=
  let c1_i32_58 : BitVec 32 := 1#32
  let c512_i32_90 : BitVec 32 := 512#32
  let v330 : BitVec 32 := Scalar.muli c1_i32_58 c512_i32_90
  let v331 : BitVec 32 := v330
  let c16_i32_91 : BitVec 32 := 16#32
  let v332 : BitVec 32 := Scalar.subi v331 c16_i32_91
  let c0_i32_92 : BitVec 32 := 0#32
  let v333 : BitVec 32 := Scalar.maxsi v332 c0_i32_92
  v333
def k0_mult26 : BitVec 32 :=
  let c1_i32_58 : BitVec 32 := 1#32
  let c512_i32_90 : BitVec 32 := 512#32
  let v330 : BitVec 32 := Scalar.muli c1_i32_58 c512_i32_90
  let v331 : BitVec 32 := v330
  let c512_i32_96 : BitVec 32 := 512#32
  let v349 : BitVec 32 := Scalar.addi v331 c512_i32_96
  let c1536_i32_97 : BitVec 32 := 1536#32
  let v350 : BitVec 32 := Scalar.minsi v349 c1536_i32_97
  v350
def k0_mult27 : BitVec 32 :=
  let c2_i32 : BitVec 32 := 2#32
  let c512_i32_121 : BitVec 32 := 512#32
  let v462 : BitVec 32 := Scalar.muli c2_i32 c512_i32_121
  v462
def k0_mult28 : BitVec 32 :=
  let c2_i32 : BitVec 32 := 2#32
  let c512_i32_122 : BitVec 32 := 512#32
  let v464 : BitVec 32 := Scalar.muli c2_i32 c512_i32_122
  v464
def k0_mult29 : BitVec 32 :=
  let c2_i32 : BitVec 32 := 2#32
  let c512_i32_122 : BitVec 32 := 512#32
  let v464 : BitVec 32 := Scalar.muli c2_i32 c512_i32_122
  let v465 : BitVec 32 := v464
  let c16_i32_123 : BitVec 32 := 16#32
  let v466 : BitVec 32 := Scalar.subi v465 c16_i32_123
  let c0_i32_124 : BitVec 32 := 0#32
  let v467 : BitVec 32 := Scalar.maxsi v466 c0_i32_124
  v467
def k0_mult30 : BitVec 32 :=
  let c2_i32 : BitVec 32 := 2#32
  let c512_i32_122 : BitVec 32 := 512#32
  let v464 : BitVec 32 := Scalar.muli c2_i32 c512_i32_122
  let v465 : BitVec 32 := v464
  let c512_i32_128 : BitVec 32 := 512#32
  let v481 : BitVec 32 := Scalar.addi v465 c512_i32_128
  let c1536_i32_129 : BitVec 32 := 1536#32
  let v482 : BitVec 32 := Scalar.minsi v481 c1536_i32_129
  v482
def k0_mult31 : BitVec 32 :=
  let c2_i32 : BitVec 32 := 2#32
  let c512_i32_132 : BitVec 32 := 512#32
  let v494 : BitVec 32 := Scalar.muli c2_i32 c512_i32_132
  v494
def k0_mult32 : BitVec 32 :=
  let c2_i32 : BitVec 32 := 2#32
  let c512_i32_132 : BitVec 32 := 512#32
  let v494 : BitVec 32 := Scalar.muli c2_i32 c512_i32_132
  let v495 : BitVec 32 := v494
  let c16_i32_133 : BitVec 32 := 16#32
  let v496 : BitVec 32 := Scalar.subi v495 c16_i32_133
  let c0_i32_134 : BitVec 32 := 0#32
  let v497 : BitVec 32 := Scalar.maxsi v496 c0_i32_134
  v497
def k0_mult33 : BitVec 32 :=
  let c2_i32 : BitVec 32 := 2#32
  let c512_i32_132 : BitVec 32 := 512#32
  let v494 : BitVec 32 := Scalar.muli c2_i32 c512_i32_132
  let v495 : BitVec 32 := v494
  let c512_i32_138 : BitVec 32 := 512#32
  let v511 : BitVec 32 := Scalar.addi v495 c512_i32_138
  let c1536_i32_139 : BitVec 32 := 1536#32
  let v512 : BitVec 32 := Scalar.minsi v511 c1536_i32_139
  v512
def k0_mult34 : BitVec 32 :=
  let c2_i32 : BitVec 32 := 2#32
  let c512_i32_142 : BitVec 32 := 512#32
  let v524 : BitVec 32 := Scalar.muli c2_i32 c512_i32_142
  v524
def k0_mult35 : BitVec 32 :=
  let c2_i32 : BitVec 32 := 2#32
  let c512_i32_142 : BitVec 32 := 512#32
  let v524 : BitVec 32 := Scalar.muli c2_i32 c512_i32_142
  let v525 : BitVec 32 := v524
  let c16_i32_143 : BitVec 32 := 16#32
  let v526 : BitVec 32 := Scalar.subi v525 c16_i32_143
  let c0_i32_144 : BitVec 32 := 0#32
  let v527 : BitVec 32 := Scalar.maxsi v526 c0_i32_144
  v527
def k0_mult36 : BitVec 32 :=
  let c2_i32 : BitVec 32 := 2#32
  let c512_i32_142 : BitVec 32 := 512#32
  let v524 : BitVec 32 := Scalar.muli c2_i32 c512_i32_142
  let v525 : BitVec 32 := v524
  let c512_i32_148 : BitVec 32 := 512#32
  let v541 : BitVec 32 := Scalar.addi v525 c512_i32_148
  let c1536_i32_149 : BitVec 32 := 1536#32
  let v542 : BitVec 32 := Scalar.minsi v541 c1536_i32_149
  v542
def k0_mult37 : BitVec 32 :=
  let c2_i32 : BitVec 32 := 2#32
  let c512_i32_152 : BitVec 32 := 512#32
  let v554 : BitVec 32 := Scalar.muli c2_i32 c512_i32_152
  v554
def k0_mult38 : BitVec 32 :=
  let c2_i32 : BitVec 32 := 2#32
  let c512_i32_152 : BitVec 32 := 512#32
  let v554 : BitVec 32 := Scalar.muli c2_i32 c512_i32_152
  let v555 : BitVec 32 := v554
  let c16_i32_153 : BitVec 32 := 16#32
  let v556 : BitVec 32 := Scalar.subi v555 c16_i32_153
  let c0_i32_154 : BitVec 32 := 0#32
  let v557 : BitVec 32 := Scalar.maxsi v556 c0_i32_154
  v557
def k0_mult39 : BitVec 32 :=
  let c2_i32 : BitVec 32 := 2#32
  let c512_i32_152 : BitVec 32 := 512#32
  let v554 : BitVec 32 := Scalar.muli c2_i32 c512_i32_152
  let v555 : BitVec 32 := v554
  let c512_i32_158 : BitVec 32 := 512#32
  let v573 : BitVec 32 := Scalar.addi v555 c512_i32_158
  let c1536_i32_159 : BitVec 32 := 1536#32
  let v574 : BitVec 32 := Scalar.minsi v573 c1536_i32_159
  v574
def k0_mult40 : BitVec 32 :=
  let c3_i32_183 : BitVec 32 := 3#32
  let c512_i32_184 : BitVec 32 := 512#32
  let v686 : BitVec 32 := Scalar.muli c3_i32_183 c512_i32_184
  v686
def k0_mult41 : BitVec 32 :=
  let c3_i32_183 : BitVec 32 := 3#32
  let c512_i32_185 : BitVec 32 := 512#32
  let v688 : BitVec 32 := Scalar.muli c3_i32_183 c512_i32_185
  v688
def k0_mult42 : BitVec 32 :=
  let c3_i32_183 : BitVec 32 := 3#32
  let c512_i32_185 : BitVec 32 := 512#32
  let v688 : BitVec 32 := Scalar.muli c3_i32_183 c512_i32_185
  let v689 : BitVec 32 := v688
  let c16_i32_186 : BitVec 32 := 16#32
  let v690 : BitVec 32 := Scalar.subi v689 c16_i32_186
  let c0_i32_187 : BitVec 32 := 0#32
  let v691 : BitVec 32 := Scalar.maxsi v690 c0_i32_187
  v691
def k0_mult43 : BitVec 32 :=
  let c3_i32_183 : BitVec 32 := 3#32
  let c512_i32_185 : BitVec 32 := 512#32
  let v688 : BitVec 32 := Scalar.muli c3_i32_183 c512_i32_185
  let v689 : BitVec 32 := v688
  let c512_i32_191 : BitVec 32 := 512#32
  let v705 : BitVec 32 := Scalar.addi v689 c512_i32_191
  let c1536_i32_192 : BitVec 32 := 1536#32
  let v706 : BitVec 32 := Scalar.minsi v705 c1536_i32_192
  v706
def k0_mult44 : BitVec 32 :=
  let c3_i32_183 : BitVec 32 := 3#32
  let c512_i32_195 : BitVec 32 := 512#32
  let v718 : BitVec 32 := Scalar.muli c3_i32_183 c512_i32_195
  v718
def k0_mult45 : BitVec 32 :=
  let c3_i32_183 : BitVec 32 := 3#32
  let c512_i32_195 : BitVec 32 := 512#32
  let v718 : BitVec 32 := Scalar.muli c3_i32_183 c512_i32_195
  let v719 : BitVec 32 := v718
  let c16_i32_196 : BitVec 32 := 16#32
  let v720 : BitVec 32 := Scalar.subi v719 c16_i32_196
  let c0_i32_197 : BitVec 32 := 0#32
  let v721 : BitVec 32 := Scalar.maxsi v720 c0_i32_197
  v721
def k0_mult46 : BitVec 32 :=
  let c3_i32_183 : BitVec 32 := 3#32
  let c512_i32_195 : BitVec 32 := 512#32
  let v718 : BitVec 32 := Scalar.muli c3_i32_183 c512_i32_195
  let v719 : BitVec 32 := v718
  let c512_i32_201 : BitVec 32 := 512#32
  let v735 : BitVec 32 := Scalar.addi v719 c512_i32_201
  let c1536_i32_202 : BitVec 32 := 1536#32
  let v736 : BitVec 32 := Scalar.minsi v735 c1536_i32_202
  v736
def k0_mult47 : BitVec 32 :=
  let c3_i32_183 : BitVec 32 := 3#32
  let c512_i32_205 : BitVec 32 := 512#32
  let v748 : BitVec 32 := Scalar.muli c3_i32_183 c512_i32_205
  v748
def k0_mult48 : BitVec 32 :=
  let c3_i32_183 : BitVec 32 := 3#32
  let c512_i32_205 : BitVec 32 := 512#32
  let v748 : BitVec 32 := Scalar.muli c3_i32_183 c512_i32_205
  let v749 : BitVec 32 := v748
  let c16_i32_206 : BitVec 32 := 16#32
  let v750 : BitVec 32 := Scalar.subi v749 c16_i32_206
  let c0_i32_207 : BitVec 32 := 0#32
  let v751 : BitVec 32 := Scalar.maxsi v750 c0_i32_207
  v751
def k0_mult49 : BitVec 32 :=
  let c3_i32_183 : BitVec 32 := 3#32
  let c512_i32_205 : BitVec 32 := 512#32
  let v748 : BitVec 32 := Scalar.muli c3_i32_183 c512_i32_205
  let v749 : BitVec 32 := v748
  let c512_i32_211 : BitVec 32 := 512#32
  let v765 : BitVec 32 := Scalar.addi v749 c512_i32_211
  let c1536_i32_212 : BitVec 32 := 1536#32
  let v766 : BitVec 32 := Scalar.minsi v765 c1536_i32_212
  v766
def k0_mult50 : BitVec 32 :=
  let c3_i32_183 : BitVec 32 := 3#32
  let c512_i32_215 : BitVec 32 := 512#32
  let v778 : BitVec 32 := Scalar.muli c3_i32_183 c512_i32_215
  v778
def k0_mult51 : BitVec 32 :=
  let c3_i32_183 : BitVec 32 := 3#32
  let c512_i32_215 : BitVec 32 := 512#32
  let v778 : BitVec 32 := Scalar.muli c3_i32_183 c512_i32_215
  let v779 : BitVec 32 := v778
  let c16_i32_216 : BitVec 32 := 16#32
  let v780 : BitVec 32 := Scalar.subi v779 c16_i32_216
  let c0_i32_217 : BitVec 32 := 0#32
  let v781 : BitVec 32 := Scalar.maxsi v780 c0_i32_217
  v781
def k0_mult52 : BitVec 32 :=
  let c3_i32_183 : BitVec 32 := 3#32
  let c512_i32_215 : BitVec 32 := 512#32
  let v778 : BitVec 32 := Scalar.muli c3_i32_183 c512_i32_215
  let v779 : BitVec 32 := v778
  let c512_i32_221 : BitVec 32 := 512#32
  let v797 : BitVec 32 := Scalar.addi v779 c512_i32_221
  let c1536_i32_222 : BitVec 32 := 1536#32
  let v798 : BitVec 32 := Scalar.minsi v797 c1536_i32_222
  v798
def k0_mult53 (i : grid0.Coords) : BitVec 32 :=
  let arg1 : BitVec 32 := BitVec.ofNat 32 (i 1).val
  let c2048_i32 : BitVec 32 := 2048#32
  let v916 : BitVec 32 := Scalar.muli arg1 c2048_i32
  v916
def k0_mult54 (i : grid0.Coords) : BitVec 32 :=
  let c12_i32 : BitVec 32 := 12#32
  let arg0 : BitVec 32 := BitVec.ofNat 32 (i 0).val
  let v917 : BitVec 32 := Scalar.addi c12_i32 arg0
  let c128_i32 : BitVec 32 := 128#32
  let v921 : BitVec 32 := Scalar.muli v917 c128_i32
  v921
def k0_mult55 (i : grid0.Coords) : BitVec 32 :=
  let c16_i32_250 : BitVec 32 := 16#32
  let arg0 : BitVec 32 := BitVec.ofNat 32 (i 0).val
  let v918 : BitVec 32 := Scalar.addi c16_i32_250 arg0
  let c128_i32_251 : BitVec 32 := 128#32
  let v923 : BitVec 32 := Scalar.muli v918 c128_i32_251
  v923
def k0_mult56 (i : grid0.Coords) : BitVec 32 :=
  let c20_i32 : BitVec 32 := 20#32
  let arg0 : BitVec 32 := BitVec.ofNat 32 (i 0).val
  let v919 : BitVec 32 := Scalar.addi c20_i32 arg0
  let c128_i32_252 : BitVec 32 := 128#32
  let v925 : BitVec 32 := Scalar.muli v919 c128_i32_252
  v925
def k0_off7 (i : grid0.Coords) (c12_i32 : BitVec 32) : Fin 2 → Nat :=
  let arg1 : BitVec 32 := BitVec.ofNat 32 (i 1).val
  let c2048_i32 : BitVec 32 := 2048#32
  let v916 : BitVec 32 := Scalar.muli arg1 c2048_i32
  let v920 : BitVec 32 := v916
  let arg0 : BitVec 32 := BitVec.ofNat 32 (i 0).val
  let v917 : BitVec 32 := Scalar.addi c12_i32 arg0
  let c128_i32 : BitVec 32 := 128#32
  let v921 : BitVec 32 := Scalar.muli v917 c128_i32
  let v922 : BitVec 32 := v921
  ![v920.toNat, v922.toNat]
def k0_cond1 (i : grid0.Coords) : BitVec 1 :=
  let arg1 : BitVec 32 := BitVec.ofNat 32 (i 1).val
  let c0_i32_246 : BitVec 32 := 0#32
  let v910 : BitVec 1 := Scalar.cmpi .eq arg1 c0_i32_246
  let v911 : BitVec 32 := Scalar.extui v910
  let c0_i32_247 : BitVec 32 := 0#32
  let v912 : BitVec 1 := Scalar.cmpi .ne v911 c0_i32_247
  v912

def k0_cond2 (i : grid0.Coords) : BitVec 1 :=
  let arg1 : BitVec 32 := BitVec.ofNat 32 (i 1).val
  let c0_i32_248 : BitVec 32 := 0#32
  let v913 : BitVec 1 := Scalar.cmpi .sgt arg1 c0_i32_248
  let v914 : BitVec 32 := Scalar.extui v913
  let c0_i32_249 : BitVec 32 := 0#32
  let v915 : BitVec 1 := Scalar.cmpi .ne v914 c0_i32_249
  v915

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg0 c20_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvRefIdeal.lean ====
abbrev S2x2048x1024 : Shape := ⟨3, ![2, 2048, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S4096x3072 : Shape := ⟨2, ![4096, 3072]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3072 : Shape := ⟨3, ![2, 2048, 3072]⟩
abbrev S2x2048x512 : Shape := ⟨3, ![2, 2048, 512]⟩
abbrev S2x2x512 : Shape := ⟨3, ![2, 2, 512]⟩
abbrev S2x2050x512 : Shape := ⟨3, ![2, 2050, 512]⟩
abbrev S1x512 : Shape := ⟨2, ![1, 512]⟩
abbrev S1x1x512 : Shape := ⟨3, ![1, 1, 512]⟩
abbrev S2x2048x8x64 : Shape := ⟨4, ![2, 2048, 8, 64]⟩
abbrev S8x64 : Shape := ⟨2, ![8, 64]⟩
abbrev S2x2048x8 : Shape := ⟨3, ![2, 2048, 8]⟩
abbrev S2x2048x8x1 : Shape := ⟨4, ![2, 2048, 8, 1]⟩
abbrev S1x1x8x64 : Shape := ⟨4, ![1, 1, 8, 64]⟩
abbrev S2x2048x1536 : Shape := ⟨3, ![2, 2048, 1536]⟩
abbrev S4096x1536 : Shape := ⟨2, ![4096, 1536]⟩

abbrev nBuf : Space → Nat
  | .hbm => 167
  | .vmem => 0
  | .smem => 0
  | _ => 0

abbrev hbmTy0_0 (i : Nat) : BufTy := match i % 128 with
  | 0 => ⟨S2x2048x1024, .f32⟩
  | 1 => ⟨S1024, .f32⟩
  | 2 => ⟨S1024x3072, .f32⟩
  | 3 => ⟨S3x512, .f32⟩
  | 4 => ⟨S512, .f32⟩
  | 5 => ⟨S2x2048x1024, .f32⟩
  | 6 => ⟨S4096x3072, .bf16⟩
  | 7 => ⟨S2x2048x1024, .f32⟩
  | 8 => ⟨S_, .f32⟩
  | 9 => ⟨S2x2048, .f32⟩
  | 10 => ⟨S2x2048x1, .f32⟩
  | 11 => ⟨S_, .f32⟩
  | 12 => ⟨S2x2048x1, .f32⟩
  | 13 => ⟨S2x2048x1, .f32⟩
  | 14 => ⟨S_, .f32⟩
  | 15 => ⟨S2x2048x1, .f32⟩
  | 16 => ⟨S2x2048x1, .f32⟩
  | 17 => ⟨S2x2048x1, .f32⟩
  | 18 => ⟨S2x2048x1024, .f32⟩
  | 19 => ⟨S2x2048x1024, .f32⟩
  | 20 => ⟨S1x1x1024, .f32⟩
  | 21 => ⟨S2x2048x1024, .f32⟩
  | 22 => ⟨S2x2048x1024, .f32⟩
  | 23 => ⟨S2x2048x3072, .f32⟩
  | 24 => ⟨S2x2048x512, .f32⟩
  | 25 => ⟨S2x2048x512, .f32⟩
  | 26 => ⟨S2x2048x512, .f32⟩
  | 27 => ⟨S2x2048x512, .f32⟩
  | 28 => ⟨S2x2048x512, .f32⟩
  | 29 => ⟨S2x2048x512, .f32⟩
  | 30 => ⟨S2x2048x512, .f32⟩
  | 31 => ⟨S_, .f32⟩
  | 32 => ⟨S2x2x512, .f32⟩
  | 33 => ⟨S2x2050x512, .f32⟩
  | 34 => ⟨S_, .f32⟩
  | 35 => ⟨S2x2x512, .f32⟩
  | 36 => ⟨S2x2048x512, .f32⟩
  | 37 => ⟨S1x512, .f32⟩
  | 38 => ⟨S512, .f32⟩
  | 39 => ⟨S1x1x512, .f32⟩
  | 40 => ⟨S2x2048x512, .f32⟩
  | 41 => ⟨S2x2048x512, .f32⟩
  | 42 => ⟨S_, .f32⟩
  | 43 => ⟨S2x2048x512, .f32⟩
  | 44 => ⟨S2x2048x512, .f32⟩
  | 45 => ⟨S2x2048x512, .f32⟩
  | 46 => ⟨S1x512, .f32⟩
  | 47 => ⟨S512, .f32⟩
  | 48 => ⟨S1x1x512, .f32⟩
  | 49 => ⟨S2x2048x512, .f32⟩
  | 50 => ⟨S2x2048x512, .f32⟩
  | 51 => ⟨S2x2048x512, .f32⟩
  | 52 => ⟨S2x2048x512, .f32⟩
  | 53 => ⟨S1x512, .f32⟩
  | 54 => ⟨S512, .f32⟩
  | 55 => ⟨S1x1x512, .f32⟩
  | 56 => ⟨S2x2048x512, .f32⟩
  | 57 => ⟨S2x2048x512, .f32⟩
  | 58 => ⟨S2x2048x512, .f32⟩
  | 59 => ⟨S2x2048x512, .f32⟩
  | 60 => ⟨S2x2048x8x64, .f32⟩
  | 61 => ⟨S8x64, .f32⟩
  | 62 => ⟨S2x2048x8x64, .f32⟩
  | 63 => ⟨S_, .f32⟩
  | 64 => ⟨S2x2048x8, .f32⟩
  | 65 => ⟨S2x2048x8x1, .f32⟩
  | 66 => ⟨S_, .f32⟩
  | 67 => ⟨S2x2048x8x1, .f32⟩
  | 68 => ⟨S2x2048x8x1, .f32⟩
  | 69 => ⟨S_, .f32⟩
  | 70 => ⟨S2x2048x8x1, .f32⟩
  | 71 => ⟨S2x2048x8x1, .f32⟩
  | 72 => ⟨S2x2048x8x1, .f32⟩
  | 73 => ⟨S2x2048x8x1, .f32⟩
  | 74 => ⟨S_, .f32⟩
  | 75 => ⟨S2x2048x8x1, .f32⟩
  | 76 => ⟨S2x2048x8x1, .f32⟩
  | 77 => ⟨S2x2048x8x64, .f32⟩
  | 78 => ⟨S2x2048x8x64, .f32⟩
  | 79 => ⟨S1x1x8x64, .f32⟩
  | 80 => ⟨S2x2048x8x64, .f32⟩
  | 81 => ⟨S2x2048x8x64, .f32⟩
  | 82 => ⟨S2x2048x512, .f32⟩
  | 83 => ⟨S2x2048x512, .f32⟩
  | 84 => ⟨S2x2048x8x64, .f32⟩
  | 85 => ⟨S2x2048x8x64, .f32⟩
  | 86 => ⟨S_, .f32⟩
  | 87 => ⟨S8x64, .f32⟩
  | 88 => ⟨S1x1x8x64, .f32⟩
  | 89 => ⟨S2x2048x8x64, .f32⟩
  | 90 => ⟨S2x2048x8x64, .f32⟩
  | 91 => ⟨S_, .f32⟩
  | 92 => ⟨S8x64, .f32⟩
  | 93 => ⟨S2x2048x8x64, .f32⟩
  | 94 => ⟨S_, .f32⟩
  | 95 => ⟨S2x2048x8, .f32⟩
  | 96 => ⟨S2x2048x8x1, .f32⟩
  | 97 => ⟨S2x2048x8x64, .f32⟩
  | 98 => ⟨S2x2048x8x64, .f32⟩
  | 99 => ⟨S2x2048x8x1, .f32⟩
  | 100 => ⟨S_, .f32⟩
  | 101 => ⟨S2x2048x8x1, .f32⟩
  | 102 => ⟨S2x2048x8x1, .f32⟩
  | 103 => ⟨S_, .f32⟩
  | 104 => ⟨S2x2048x8, .f32⟩
  | 105 => ⟨S2x2048x8x64, .f32⟩
  | 106 => ⟨S2x2048x8x64, .f32⟩
  | 107 => ⟨S2x2048x8x64, .f32⟩
  | 108 => ⟨S2x2048x8x64, .f32⟩
  | 109 => ⟨S2x2048x8x64, .f32⟩
  | 110 => ⟨S512, .f32⟩
  | 111 => ⟨S2x2048x512, .f32⟩
  | 112 => ⟨S2x2048x512, .f32⟩
  | 113 => ⟨S2x2048x512, .f32⟩
  | 114 => ⟨S2x2048x512, .f32⟩
  | 115 => ⟨S_, .f32⟩
  | 116 => ⟨S512, .f32⟩
  | 117 => ⟨S1x1x512, .f32⟩
  | 118 => ⟨S2x2048x512, .f32⟩
  | 119 => ⟨S2x2048x512, .f32⟩
  | 120 => ⟨S_, .f32⟩
  | 121 => ⟨S512, .f32⟩
  | 122 => ⟨S1x512, .f32⟩
  | 123 => ⟨S_, .f32⟩
  | 124 => ⟨S3x512, .f32⟩
  | 125 => ⟨S_, .f32⟩
  | 126 => ⟨S2x2050x512, .f32⟩
  | 127 => ⟨S2x2048x512, .f32⟩
  | _ => ⟨S2x2048x1024, .f32⟩

abbrev hbmTy0_1 (i : Nat) : BufTy := match i % 128 with
  | 0 => ⟨S_, .f32⟩
  | 1 => ⟨S512, .f32⟩
  | 2 => ⟨S1x1x512, .f32⟩
  | 3 => ⟨S2x2048x512, .f32⟩
  | 4 => ⟨S2x2048x512, .f32⟩
  | 5 => ⟨S_, .f32⟩
  | 6 => ⟨S512, .f32⟩
  | 7 => ⟨S1x512, .f32⟩
  | 8 => ⟨S_, .f32⟩
  | 9 => ⟨S3x512, .f32⟩
  | 10 => ⟨S3x512, .f32⟩
  | 11 => ⟨S_, .f32⟩
  | 12 => ⟨S2x2050x512, .f32⟩
  | 13 => ⟨S2x2050x512, .f32⟩
  | 14 => ⟨S2x2048x512, .f32⟩
  | 15 => ⟨S_, .f32⟩
  | 16 => ⟨S512, .f32⟩
  | 17 => ⟨S1x1x512, .f32⟩
  | 18 => ⟨S2x2048x512, .f32⟩
  | 19 => ⟨S2x2048x512, .f32⟩
  | 20 => ⟨S_, .f32⟩
  | 21 => ⟨S512, .f32⟩
  | 22 => ⟨S1x512, .f32⟩
  | 23 => ⟨S_, .f32⟩
  | 24 => ⟨S3x512, .f32⟩
  | 25 => ⟨S3x512, .f32⟩
  | 26 => ⟨S_, .f32⟩
  | 27 => ⟨S2x2050x512, .f32⟩
  | 28 => ⟨S2x2050x512, .f32⟩
  | 29 => ⟨S2x2x512, .f32⟩
  | 30 => ⟨S2x2048x512, .f32⟩
  | 31 => ⟨S2x2048x512, .f32⟩
  | 32 => ⟨S2x2048x512, .f32⟩
  | 33 => ⟨S2x2048x1536, .f32⟩
  | 34 => ⟨S4096x1536, .f32⟩
  | 35 => ⟨S4096x1536, .bf16⟩
  | 36 => ⟨S4096x1536, .bf16⟩
  | 37 => ⟨S4096x3072, .bf16⟩
  | 38 => ⟨S1x512, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_14 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_15 : Ref sig .tc := ⟨.hbm, 120, rfl⟩
abbrev main_v97 : Ref sig .tc := ⟨.hbm, 121, rfl⟩
abbrev main_v98 : Ref sig .tc := ⟨.hbm, 122, rfl⟩
abbrev main_cst_16 : Ref sig .tc := ⟨.hbm, 123, rfl⟩
abbrev main_v99 : Ref sig .tc := ⟨.hbm, 124, rfl⟩
abbrev main_cst_17 : Ref sig .tc := ⟨.hbm, 125, rfl⟩
abbrev main_v100 : Ref sig .tc := ⟨.hbm, 126, rfl⟩
abbrev main_v101 : Ref sig .tc := ⟨.hbm, 127, rfl⟩
abbrev main_cst_18 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_19 : Ref sig .tc := ⟨.hbm, 133, rfl⟩
abbrev main_v106 : Ref sig .tc := ⟨.hbm, 134, rfl⟩
abbrev main_v107 : Ref sig .tc := ⟨.hbm, 135, rfl⟩
abbrev main_cst_20 : Ref sig .tc := ⟨.hbm, 136, rfl⟩
abbrev main_v108 : Ref sig .tc := ⟨.hbm, 137, rfl⟩
abbrev main_v109 : Ref sig .tc := ⟨.hbm, 138, rfl⟩
abbrev main_cst_21 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_22 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_23 : Ref sig .tc := ⟨.hbm, 148, rfl⟩
abbrev main_v117 : Ref sig .tc := ⟨.hbm, 149, rfl⟩
abbrev main_v118 : Ref sig .tc := ⟨.hbm, 150, rfl⟩
abbrev main_cst_24 : Ref sig .tc := ⟨.hbm, 151, rfl⟩
abbrev main_v119 : Ref sig .tc := ⟨.hbm, 152, rfl⟩
abbrev main_v120 : Ref sig .tc := ⟨.hbm, 153, rfl⟩
abbrev main_cst_25 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩

abbrev nD : Nat := 1
abbrev τ : Topo := Topo.v7x

variable {F : FTy → Type} [FloatOps F]
-- ==== Attn.lean ====
abbrev S2x2048x1024 : Shape := ⟨3, ![2, 2048, 1024]⟩
abbrev S1024 : Shape := ⟨1, ![1024]⟩
abbrev S1024x3072 : Shape := ⟨2, ![1024, 3072]⟩
abbrev S512 : Shape := ⟨1, ![512]⟩
abbrev S3 : Shape := ⟨1, ![3]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S4096x512 : Shape := ⟨2, ![4096, 512]⟩
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S8 : Shape := ⟨1, ![8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S3x1x1 : Shape := ⟨3, ![3, 1, 1]⟩
abbrev S1x2048x2048 : Shape := ⟨3, ![1, 2048, 2048]⟩
abbrev S3x2048x2048 : Shape := ⟨3, ![3, 2048, 2048]⟩
abbrev S2x8x2048x2048 : Shape := ⟨4, ![2, 8, 2048, 2048]⟩
abbrev S8x1x1 : Shape := ⟨3, ![8, 1, 1]⟩
abbrev S8x2048x2048 : Shape := ⟨3, ![8, 2048, 2048]⟩
abbrev S1x8x2048x2048 : Shape := ⟨4, ![1, 8, 2048, 2048]⟩
abbrev S3x1x1x2048x2048 : Shape := ⟨5, ![3, 1, 1, 2048, 2048]⟩
abbrev S3x2x8x2048x2048 : Shape := ⟨5, ![3, 2, 8, 2048, 2048]⟩
abbrev S3x2x8x2048 : Shape := ⟨4, ![3, 2, 8, 2048]⟩
abbrev S3x2x8x2048x1 : Shape := ⟨5, ![3, 2, 8, 2048, 1]⟩
abbrev S2x8x2048 : Shape := ⟨3, ![2, 8, 2048]⟩
abbrev S1x2x8x2048 : Shape := ⟨4, ![1, 2, 8, 2048]⟩
abbrev S2x8x64x3x2048 : Shape := ⟨5, ![2, 8, 64, 3, 2048]⟩
abbrev S3x2x8x2048x64 : Shape := ⟨5, ![3, 2, 8, 2048, 64]⟩
abbrev S2x8x2048x1 : Shape := ⟨4, ![2, 8, 2048, 1]⟩
abbrev S1x512 : Shape := ⟨2, ![1, 512]⟩
abbrev S8x1 : Shape := ⟨2, ![8, 1]⟩
abbrev S8x256 : Shape := ⟨2, ![8, 256]⟩
abbrev S2048x128 : Shape := ⟨2, ![2048, 128]⟩
abbrev S1x128 : Shape := ⟨2, ![1, 128]⟩
abbrev S3x2048x128 : Shape := ⟨3, ![3, 2048, 128]⟩
abbrev S1x256 : Shape := ⟨2, ![1, 256]⟩
abbrev S128x128 : Shape := ⟨2, ![128, 128]⟩
abbrev S256x128 : Shape := ⟨2, ![256, 128]⟩
abbrev S128 : Shape := ⟨1, ![128]⟩
abbrev S128x256 : Shape := ⟨2, ![128, 256]⟩
abbrev S256x256 : Shape := ⟨2, ![256, 256]⟩
abbrev S128x1 : Shape := ⟨2, ![128, 1]⟩
abbrev S256x1 : Shape := ⟨2, ![256, 1]⟩
abbrev S128x512 : Shape := ⟨2, ![128, 512]⟩
abbrev S512x128 : Shape := ⟨2, ![512, 128]⟩
abbrev S1x256x128 : Shape := ⟨3, ![1, 256, 128]⟩
abbrev S1 : Shape := ⟨1, ![1]⟩
abbrev S1x2048x128 : Shape := ⟨3, ![1, 2048, 128]⟩

abbrev nBuf : Space → Nat
  | .hbm => 158
  | .vmem => 32
  | .smem => 0
  | _ => 0

abbrev hbmTy0_0 (i : Nat) : BufTy := match i % 128 with
  | 0 => ⟨S2x2048x1024, .f32⟩
  | 1 => ⟨S1024, .f32⟩
  | 2 => ⟨S1024x3072, .f32⟩
  | 3 => ⟨S512, .f32⟩
  | 4 => ⟨S2x2048x1024, .f32⟩
  | 5 => ⟨S3, .i32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .f32⟩
  | 19 => ⟨S4096x1024, .f32⟩
  | 20 => ⟨S1x1024, .f32⟩
  | 21 => ⟨S4096x1024, .f32⟩
  | 22 => ⟨S4096x1024, .f32⟩
  | 23 => ⟨S4096x1024, .bf16⟩
  | 24 => ⟨S1024x3072, .bf16⟩
  | 25 => ⟨S4096x3072, .f32⟩
  | 26 => ⟨S4096x512, .f32⟩
  | 27 => ⟨S2x2048x512, .f32⟩
  | 28 => ⟨S2x2048x8x64, .f32⟩
  | 29 => ⟨S2x8x2048x64, .f32⟩
  | 30 => ⟨S4096x512, .f32⟩
  | 31 => ⟨S2x2048x512, .f32⟩
  | 32 => ⟨S2x2048x8x64, .f32⟩
  | 33 => ⟨S2x8x2048x64, .f32⟩
  | 34 => ⟨S4096x512, .f32⟩
  | 35 => ⟨S2x2048x512, .f32⟩
  | 36 => ⟨S2x2048x8x64, .f32⟩
  | 37 => ⟨S2x8x2048x64, .f32⟩
  | 38 => ⟨S_, .f32⟩
  | 39 => ⟨S2x8x2048x64, .f32⟩
  | 40 => ⟨S2x8x2048x64, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S2048, .i32⟩
  | 55 => ⟨S2048x1, .i32⟩
  | 56 => ⟨S2048, .i32⟩
  | 57 => ⟨S1x2048, .i32⟩
  | 58 => ⟨S2048x2048, .i32⟩
  | 59 => ⟨S2048x2048, .i32⟩
  | 60 => ⟨S2048x2048, .i32⟩
  | 61 => ⟨S3x1x1, .i32⟩
  | 62 => ⟨S_, .i32⟩
  | 63 => ⟨S2048x2048, .i32⟩
  | 64 => ⟨S2048x2048, .i1⟩
  | 65 => ⟨S_, .i32⟩
  | 66 => ⟨S3x1x1, .i32⟩
  | 67 => ⟨S3x1x1, .i32⟩
  | 68 => ⟨S1x2048x2048, .i32⟩
  | 69 => ⟨S3x2048x2048, .i32⟩
  | 70 => ⟨S3x2048x2048, .i32⟩
  | 71 => ⟨S3x2048x2048, .i1⟩
  | 72 => ⟨S1x2048x2048, .i1⟩
  | 73 => ⟨S3x2048x2048, .i1⟩
  | 74 => ⟨S3x2048x2048, .i1⟩
  | 75 => ⟨S_, .i32⟩
  | 76 => ⟨S3x1x1, .i32⟩
  | 77 => ⟨S3x1x1, .i32⟩
  | 78 => ⟨S1x2048x2048, .i32⟩
  | 79 => ⟨S3x2048x2048, .i32⟩
  | 80 => ⟨S3x2048x2048, .i32⟩
  | 81 => ⟨S3x2048x2048, .i32⟩
  | 82 => ⟨S_, .i32⟩
  | 83 => ⟨S3x2048x2048, .i32⟩
  | 84 => ⟨S3x2048x2048, .i1⟩
  | 85 => ⟨S3x2048x2048, .i1⟩
  | 86 => ⟨S2x8x2048x2048, .f32⟩
  | 87 => ⟨S8x1x1, .f32⟩
  | 88 => ⟨S2048x2048, .f32⟩
  | 89 => ⟨S1x2048x2048, .f32⟩
  | 90 => ⟨S8x2048x2048, .f32⟩
  | 91 => ⟨S8x2048x2048, .f32⟩
  | 92 => ⟨S8x2048x2048, .f32⟩
  | 93 => ⟨S1x8x2048x2048, .f32⟩
  | 94 => ⟨S2x8x2048x2048, .f32⟩
  | 95 => ⟨S2x8x2048x2048, .f32⟩
  | 96 => ⟨S3x1x1x2048x2048, .i1⟩
  | 97 => ⟨S_, .f32⟩
  | 98 => ⟨S_, .f32⟩
  | 99 => ⟨S3x2x8x2048x2048, .i1⟩
  | 100 => ⟨S3x2x8x2048x2048, .f32⟩
  | 101 => ⟨S3x2x8x2048x2048, .f32⟩
  | 102 => ⟨S3x2x8x2048x2048, .f32⟩
  | 103 => ⟨S_, .f32⟩
  | 104 => ⟨S3x2x8x2048, .f32⟩
  | 105 => ⟨S3x2x8x2048x1, .f32⟩
  | 106 => ⟨S3x2x8x2048x2048, .f32⟩
  | 107 => ⟨S3x2x8x2048x2048, .f32⟩
  | 108 => ⟨S3x2x8x2048x2048, .f32⟩
  | 109 => ⟨S_, .f32⟩
  | 110 => ⟨S2x8x2048, .f32⟩
  | 111 => ⟨S1x2x8x2048, .f32⟩
  | 112 => ⟨S3x2x8x2048, .f32⟩
  | 113 => ⟨S3x2x8x2048, .f32⟩
  | 114 => ⟨S3x2x8x2048, .f32⟩
  | 115 => ⟨S2x8x64x3x2048, .f32⟩
  | 116 => ⟨S3x2x8x2048x64, .f32⟩
  | 117 => ⟨S3x2x8x2048x1, .f32⟩
  | 118 => ⟨S3x2x8x2048x64, .f32⟩
  | 119 => ⟨S3x2x8x2048x64, .f32⟩
  | 120 => ⟨S_, .f32⟩
  | 121 => ⟨S2x8x2048x64, .f32⟩
  | 122 => ⟨S_, .f32⟩
  | 123 => ⟨S3x2x8x2048, .f32⟩
  | 124 => ⟨S3x2x8x2048, .f32⟩
  | 125 => ⟨S_, .f32⟩
  | 126 => ⟨S2x8x2048, .f32⟩
  | 127 => ⟨S2x8x2048x1, .f32⟩
  | _ => ⟨S2x2048x1024, .f32⟩

abbrev hbmTy0_1 (i : Nat) : BufTy := match i % 128 with
  | 0 => ⟨S2x8x2048x64, .f32⟩
  | 1 => ⟨S2x8x2048x64, .f32⟩
  | 2 => ⟨S2x2048x8x64, .f32⟩
  | 3 => ⟨S4096x512, .f32⟩
  | 4 => ⟨S2x8x2048, .f32⟩
  | 5 => ⟨S2x8x2048, .f32⟩
  | 6 => ⟨S2x8x2048x1, .f32⟩
  | 7 => ⟨S2x8x2048x64, .f32⟩
  | 8 => ⟨S2x2048x8x64, .f32⟩
  | 9 => ⟨S4096x512, .f32⟩
  | 10 => ⟨S4096x1024, .f32⟩
  | 11 => ⟨S4096x1024, .bf16⟩
  | 12 => ⟨S1x512, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S8x1, .f32⟩
  | 27 => ⟨S8x256, .f32⟩
  | 28 => ⟨S4096x3072, .bf16⟩
  | 29 => ⟨S1x512, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S1x128, .f32⟩
  | .local _ .vmem, ⟨13, _⟩ => ⟨S1x128, .f32⟩
  | .local _ .vmem, ⟨14, _⟩ => ⟨S8x256, .f32⟩
  | .local _ .vmem, ⟨15, _⟩ => ⟨S1x128, .f32⟩
  | .local _ .vmem, ⟨16, _⟩ => ⟨S1x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S3x2048x128, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_7 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_14 : Ref sig .tc := ⟨.hbm, 120, rfl⟩
abbrev main_v95 : Ref sig .tc := ⟨.hbm, 121, rfl⟩
abbrev main_cst_15 : Ref sig .tc := ⟨.hbm, 122, rfl⟩
abbrev main_v96 : Ref sig .tc := ⟨.hbm, 123, rfl⟩
abbrev main_v97 : Ref sig .tc := ⟨.hbm, 124, rfl⟩
abbrev main_cst_16 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_17 : Ref sig .tc := ⟨.hbm, 142, rfl⟩
abbrev main_v114 : Ref sig .tc := ⟨.hbm, 143, rfl⟩
abbrev main_v115 : Ref sig .tc := ⟨.hbm, 144, rfl⟩
abbrev main_cst_18 : Ref sig .tc := ⟨.hbm, 145, rfl⟩
abbrev main_v116 : Ref sig .tc := ⟨.hbm, 146, rfl⟩
abbrev main_v117 : Ref sig .tc := ⟨.hbm, 147, rfl⟩
abbrev main_cst_19 : Ref sig .tc := ⟨.hbm, 148, rfl⟩
abbrev main_v118 : Ref sig .tc := ⟨.hbm, 149, rfl⟩
abbrev main_v119 : Ref sig .tc := ⟨.hbm, 150, rfl⟩
abbrev main_cst_20 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124_0 : Ref sig .tc := ⟨.hbm, 156, rfl⟩
abbrev main_v124_1 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_scratch13 : Ref sig .tc := ⟨.vmem, 30, rfl⟩
abbrev cc0_scratch14 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 2], ![false, false]⟩

def k0_off1 (i : grid0.Coords) (c0_i32 : BitVec 32) : Fin 2 → Nat :=
  let c2_i32 : BitVec 32 := 2#32
  let arg0 : BitVec 32 := BitVec.ofNat 32 (i 0).val
  let v9 : BitVec 32 := Scalar.muli c2_i32 arg0
  let v10 : BitVec 32 := Scalar.addi v9 c0_i32
  let v11 : Index := Scalar.indexCast v10
  let c0 : Index := 0#32
  ![v11.toNat, 0]
def k0_mult1 : BitVec 32 :=
  let c0_i32_6 : BitVec 32 := 0#32
  let c256_i32 : BitVec 32 := 256#32
  let v32 : BitVec 32 := Scalar.muli c0_i32_6 c256_i32
  v32
def k0_off2 (c0_i32_6 : BitVec 32) : Fin 2 → Nat :=
  let c256_i32 : BitVec 32 := 256#32
  let v32 : BitVec 32 := Scalar.muli c0_i32_6 c256_i32
  let v33 : BitVec 32 := v32
  let v34 : Index := Scalar.indexCast v33
  let c0_7 : Index := 0#32
  ![v34.toNat, 0]
def k0_mult2 : BitVec 32 :=
  let c1_i32_21 : BitVec 32 := 1#32
  let c256_i32_22 : BitVec 32 := 256#32
  let v90 : BitVec 32 := Scalar.muli c1_i32_21 c256_i32_22
  v90
def k0_mult3 : BitVec 32 :=
  let c2_i32_37 : BitVec 32 := 2#32
  let c256_i32_38 : BitVec 32 := 256#32
  let v148 : BitVec 32 := Scalar.muli c2_i32_37 c256_i32_38
  v148
def k0_mult4 : BitVec 32 :=
  let c3_i32 : BitVec 32 := 3#32
  let c256_i32_53 : BitVec 32 := 256#32
  let v206 : BitVec 32 := Scalar.muli c3_i32 c256_i32_53
  v206
def k0_mult5 : BitVec 32 :=
  let c4_i32 : BitVec 32 := 4#32
  let c256_i32_68 : BitVec 32 := 256#32
  let v264 : BitVec 32 := Scalar.muli c4_i32 c256_i32_68
  v264
def k0_mult6 : BitVec 32 :=
  let c5_i32 : BitVec 32 := 5#32
  let c256_i32_83 : BitVec 32 := 256#32
  let v322 : BitVec 32 := Scalar.muli c5_i32 c256_i32_83
  v322
def k0_mult7 : BitVec 32 :=
  let c6_i32_98 : BitVec 32 := 6#32
  let c256_i32_99 : BitVec 32 := 256#32
  let v380 : BitVec 32 := Scalar.muli c6_i32_98 c256_i32_99
  v380
def k0_mult8 : BitVec 32 :=
  let c7_i32 : BitVec 32 := 7#32
  let c256_i32_114 : BitVec 32 := 256#32
  let v438 : BitVec 32 := Scalar.muli c7_i32 c256_i32_114
  v438
@[reducible] def k0_t1_loop : Scf.Loop 32 :=
  let c0_i32_133 : BitVec 32 := 0#32
  let c8_i32_134 : BitVec 32 := 8#32
  let v502 : BitVec 32 := Scalar.addi c0_i32_133 c8_i32_134
  let c1_i32_135 : BitVec 32 := 1#32
  ⟨c0_i32_133, v502, c1_i32_135⟩
def k0_mult9 (k0_t1 : Fin k0_t1_loop.trips) : BitVec 32 :=
  let c0_i32_133 : BitVec 32 := 0#32
  let c1_i32_135 : BitVec 32 := 1#32
  let arg28 : BitVec 32 := Scf.iv c0_i32_133 c1_i32_135 k0_t1
  let c256_i32_2070 : BitVec 32 := 256#32
  let v5617 : BitVec 32 := Scalar.muli arg28 c256_i32_2070
  v5617
def k0_off3 (k0_t1 : Fin k0_t1_loop.trips) : Fin 2 → Nat :=
  let c0_i32_133 : BitVec 32 := 0#32
  let c1_i32_135 : BitVec 32 := 1#32
  let arg28 : BitVec 32 := Scf.iv c0_i32_133 c1_i32_135 k0_t1
  let c256_i32_2070 : BitVec 32 := 256#32
  let v5617 : BitVec 32 := Scalar.muli arg28 c256_i32_2070
  let v5618 : BitVec 32 := v5617
  let v5620 : Index := Scalar.indexCast v5618
  let c0_2072 : Index := 0#32
  ![v5620.toNat, 0]
def k0_mult10 : BitVec 32 :=
  let c0_i32_143 : BitVec 32 := 0#32
  c0_i32_143
def k0_mult11 : BitVec 32 :=
  let c0_i32_163 : BitVec 32 := 0#32
  let c1_i32_162 : BitVec 32 := 1#32
  let v611 : BitVec 32 := Scalar.addi c0_i32_163 c1_i32_162
  let c128_i32_164 : BitVec 32 := 128#32
  let v612 : BitVec 32 := Scalar.muli v611 c128_i32_164
  v612
def k0_mult12 : BitVec 32 :=
  let c0_i32_165 : BitVec 32 := 0#32
  let c1_i32_162 : BitVec 32 := 1#32
  let v614 : BitVec 32 := Scalar.addi c0_i32_165 c1_i32_162
  let c1_i32_166 : BitVec 32 := 1#32
  let v615 : BitVec 32 := Scalar.subi v614 c1_i32_166
  let c128_i32_167 : BitVec 32 := 128#32
  let v616 : BitVec 32 := Scalar.muli v615 c128_i32_167
  v616
def k0_off4 (c1_i32_162 : BitVec 32) : Fin 2 → Nat :=
  let c0_i32_163 : BitVec 32 := 0#32
  let v611 : BitVec 32 := Scalar.addi c0_i32_163 c1_i32_162
  let c128_i32_164 : BitVec 32 := 128#32
  let v612 : BitVec 32 := Scalar.muli v611 c128_i32_164
  let v613 : BitVec 32 := v612
  let v618 : Index := Scalar.indexCast v613
  let c0_168 : Index := 0#32
  ![v618.toNat, 0]
def k0_off5 (c1_i32_162 : BitVec 32) : Fin 2 → Nat :=
  let c0_i32_165 : BitVec 32 := 0#32
  let v614 : BitVec 32 := Scalar.addi c0_i32_165 c1_i32_162
  let c1_i32_166 : BitVec 32 := 1#32
  let v615 : BitVec 32 := Scalar.subi v614 c1_i32_166
  let c128_i32_167 : BitVec 32 := 128#32
  let v616 : BitVec 32 := Scalar.muli v615 c128_i32_167
  let v617 : BitVec 32 := v616
  let v637 : Index := Scalar.indexCast v617
  let c0_171 : Index := 0#32
  ![v637.toNat, 0]
def k0_mult13 : BitVec 32 :=
  let c0_i32_187 : BitVec 32 := 0#32
  let c2_i32_186 : BitVec 32 := 2#32
  let v700 : BitVec 32 := Scalar.addi c0_i32_187 c2_i32_186
  let c128_i32_188 : BitVec 32 := 128#32
  let v701 : BitVec 32 := Scalar.muli v700 c128_i32_188
  v701
def k0_mult14 : BitVec 32 :=
  let c0_i32_189 : BitVec 32 := 0#32
  let c2_i32_186 : BitVec 32 := 2#32
  let v703 : BitVec 32 := Scalar.addi c0_i32_189 c2_i32_186
  let c1_i32_190 : BitVec 32 := 1#32
  let v704 : BitVec 32 := Scalar.subi v703 c1_i32_190
  let c128_i32_191 : BitVec 32 := 128#32
  let v705 : BitVec 32 := Scalar.muli v704 c128_i32_191
  v705
def k0_mult15 : BitVec 32 :=
  let c0_i32_211 : BitVec 32 := 0#32
  let c3_i32_210 : BitVec 32 := 3#32
  let v789 : BitVec 32 := Scalar.addi c0_i32_211 c3_i32_210
  let c128_i32_212 : BitVec 32 := 128#32
  let v790 : BitVec 32 := Scalar.muli v789 c128_i32_212
  v790
def k0_mult16 : BitVec 32 :=
  let c0_i32_213 : BitVec 32 := 0#32
  let c3_i32_210 : BitVec 32 := 3#32
  let v792 : BitVec 32 := Scalar.addi c0_i32_213 c3_i32_210
  let c1_i32_214 : BitVec 32 := 1#32
  let v793 : BitVec 32 := Scalar.subi v792 c1_i32_214
  let c128_i32_215 : BitVec 32 := 128#32
  let v794 : BitVec 32 := Scalar.muli v793 c128_i32_215
  v794
def k0_mult17 : BitVec 32 :=
  let c0_i32_235 : BitVec 32 := 0#32
  let c4_i32_234 : BitVec 32 := 4#32
  let v878 : BitVec 32 := Scalar.addi c0_i32_235 c4_i32_234
  let c128_i32_236 : BitVec 32 := 128#32
  let v879 : BitVec 32 := Scalar.muli v878 c128_i32_236
  v879
def k0_mult18 : BitVec 32 :=
  let c0_i32_237 : BitVec 32 := 0#32
  let c4_i32_234 : BitVec 32 := 4#32
  let v881 : BitVec 32 := Scalar.addi c0_i32_237 c4_i32_234
  let c1_i32_238 : BitVec 32 := 1#32
  let v882 : BitVec 32 := Scalar.subi v881 c1_i32_238
  let c128_i32_239 : BitVec 32 := 128#32
  let v883 : BitVec 32 := Scalar.muli v882 c128_i32_239
  v883
def k0_mult19 : BitVec 32 :=
  let c0_i32_259 : BitVec 32 := 0#32
  let c5_i32_258 : BitVec 32 := 5#32
  let v967 : BitVec 32 := Scalar.addi c0_i32_259 c5_i32_258
  let c128_i32_260 : BitVec 32 := 128#32
  let v968 : BitVec 32 := Scalar.muli v967 c128_i32_260
  v968
def k0_mult20 : BitVec 32 :=
  let c0_i32_261 : BitVec 32 := 0#32
  let c5_i32_258 : BitVec 32 := 5#32
  let v970 : BitVec 32 := Scalar.addi c0_i32_261 c5_i32_258
  let c1_i32_262 : BitVec 32 := 1#32
  let v971 : BitVec 32 := Scalar.subi v970 c1_i32_262
  let c128_i32_263 : BitVec 32 := 128#32
  let v972 : BitVec 32 := Scalar.muli v971 c128_i32_263
  v972
def k0_mult21 : BitVec 32 :=
  let c0_i32_283 : BitVec 32 := 0#32
  let c6_i32_282 : BitVec 32 := 6#32
  let v1056 : BitVec 32 := Scalar.addi c0_i32_283 c6_i32_282
  let c128_i32_284 : BitVec 32 := 128#32
  let v1057 : BitVec 32 := Scalar.muli v1056 c128_i32_284
  v1057
def k0_mult22 : BitVec 32 :=
  let c0_i32_285 : BitVec 32 := 0#32
  let c6_i32_282 : BitVec 32 := 6#32
  let v1059 : BitVec 32 := Scalar.addi c0_i32_285 c6_i32_282
  let c1_i32_286 : BitVec 32 := 1#32
  let v1060 : BitVec 32 := Scalar.subi v1059 c1_i32_286
  let c128_i32_287 : BitVec 32 := 128#32
  let v1061 : BitVec 32 := Scalar.muli v1060 c128_i32_287
  v1061
def k0_mult23 : BitVec 32 :=
  let c0_i32_307 : BitVec 32 := 0#32
  let c7_i32_306 : BitVec 32 := 7#32
  let v1145 : BitVec 32 := Scalar.addi c0_i32_307 c7_i32_306
  let c128_i32_308 : BitVec 32 := 128#32
  let v1146 : BitVec 32 := Scalar.muli v1145 c128_i32_308
  v1146
def k0_mult24 : BitVec 32 :=
  let c0_i32_309 : BitVec 32 := 0#32
  let c7_i32_306 : BitVec 32 := 7#32
  let v1148 : BitVec 32 := Scalar.addi c0_i32_309 c7_i32_306
  let c1_i32_310 : BitVec 32 := 1#32
  let v1149 : BitVec 32 := Scalar.subi v1148 c1_i32_310
  let c128_i32_311 : BitVec 32 := 128#32
  let v1150 : BitVec 32 := Scalar.muli v1149 c128_i32_311
  v1150
def k0_mult25 : BitVec 32 :=
  let c0_i32_331 : BitVec 32 := 0#32
  let c8_i32_330 : BitVec 32 := 8#32
  let v1234 : BitVec 32 := Scalar.addi c0_i32_331 c8_i32_330
  let c128_i32_332 : BitVec 32 := 128#32
  let v1235 : BitVec 32 := Scalar.muli v1234 c128_i32_332
  v1235
def k0_mult26 : BitVec 32 :=
  let c0_i32_333 : BitVec 32 := 0#32
  let c8_i32_330 : BitVec 32 := 8#32
  let v1237 : BitVec 32 := Scalar.addi c0_i32_333 c8_i32_330
  let c1_i32_334 : BitVec 32 := 1#32
  let v1238 : BitVec 32 := Scalar.subi v1237 c1_i32_334
  let c128_i32_335 : BitVec 32 := 128#32
  let v1239 : BitVec 32 := Scalar.muli v1238 c128_i32_335
  v1239
def k0_mult27 : BitVec 32 :=
  let c0_i32_354 : BitVec 32 := 0#32
  let c9_i32 : BitVec 32 := 9#32
  let v1323 : BitVec 32 := Scalar.addi c0_i32_354 c9_i32
  let c128_i32_355 : BitVec 32 := 128#32
  let v1324 : BitVec 32 := Scalar.muli v1323 c128_i32_355
  v1324
def k0_mult28 : BitVec 32 :=
  let c0_i32_356 : BitVec 32 := 0#32
  let c9_i32 : BitVec 32 := 9#32
  let v1326 : BitVec 32 := Scalar.addi c0_i32_356 c9_i32
  let c1_i32_357 : BitVec 32 := 1#32
  let v1327 : BitVec 32 := Scalar.subi v1326 c1_i32_357
  let c128_i32_358 : BitVec 32 := 128#32
  let v1328 : BitVec 32 := Scalar.muli v1327 c128_i32_358
  v1328
def k0_mult29 : BitVec 32 :=
  let c0_i32_377 : BitVec 32 := 0#32
  let c10_i32 : BitVec 32 := 10#32
  let v1412 : BitVec 32 := Scalar.addi c0_i32_377 c10_i32
  let c128_i32_378 : BitVec 32 := 128#32
  let v1413 : BitVec 32 := Scalar.muli v1412 c128_i32_378
  v1413
def k0_mult30 : BitVec 32 :=
  let c0_i32_379 : BitVec 32 := 0#32
  let c10_i32 : BitVec 32 := 10#32
  let v1415 : BitVec 32 := Scalar.addi c0_i32_379 c10_i32
  let c1_i32_380 : BitVec 32 := 1#32
  let v1416 : BitVec 32 := Scalar.subi v1415 c1_i32_380
  let c128_i32_381 : BitVec 32 := 128#32
  let v1417 : BitVec 32 := Scalar.muli v1416 c128_i32_381
  v1417
def k0_mult31 : BitVec 32 :=
  let c0_i32_400 : BitVec 32 := 0#32
  let c11_i32 : BitVec 32 := 11#32
  let v1501 : BitVec 32 := Scalar.addi c0_i32_400 c11_i32
  let c128_i32_401 : BitVec 32 := 128#32
  let v1502 : BitVec 32 := Scalar.muli v1501 c128_i32_401
  v1502
def k0_mult32 : BitVec 32 :=
  let c0_i32_402 : BitVec 32 := 0#32
  let c11_i32 : BitVec 32 := 11#32
  let v1504 : BitVec 32 := Scalar.addi c0_i32_402 c11_i32
  let c1_i32_403 : BitVec 32 := 1#32
  let v1505 : BitVec 32 := Scalar.subi v1504 c1_i32_403
  let c128_i32_404 : BitVec 32 := 128#32
  let v1506 : BitVec 32 := Scalar.muli v1505 c128_i32_404
  v1506
def k0_mult33 : BitVec 32 :=
  let c0_i32_423 : BitVec 32 := 0#32
  let c12_i32 : BitVec 32 := 12#32
  let v1590 : BitVec 32 := Scalar.addi c0_i32_423 c12_i32
  let c128_i32_424 : BitVec 32 := 128#32
  let v1591 : BitVec 32 := Scalar.muli v1590 c128_i32_424
  v1591
def k0_mult34 : BitVec 32 :=
  let c0_i32_425 : BitVec 32 := 0#32
  let c12_i32 : BitVec 32 := 12#32
  let v1593 : BitVec 32 := Scalar.addi c0_i32_425 c12_i32
  let c1_i32_426 : BitVec 32 := 1#32
  let v1594 : BitVec 32 := Scalar.subi v1593 c1_i32_426
  let c128_i32_427 : BitVec 32 := 128#32
  let v1595 : BitVec 32 := Scalar.muli v1594 c128_i32_427
  v1595
def k0_mult35 : BitVec 32 :=
  let c0_i32_446 : BitVec 32 := 0#32
  let c13_i32 : BitVec 32 := 13#32
  let v1679 : BitVec 32 := Scalar.addi c0_i32_446 c13_i32
  let c128_i32_447 : BitVec 32 := 128#32
  let v1680 : BitVec 32 := Scalar.muli v1679 c128_i32_447
  v1680
def k0_mult36 : BitVec 32 :=
  let c0_i32_448 : BitVec 32 := 0#32
  let c13_i32 : BitVec 32 := 13#32
  let v1682 : BitVec 32 := Scalar.addi c0_i32_448 c13_i32
  let c1_i32_449 : BitVec 32 := 1#32
  let v1683 : BitVec 32 := Scalar.subi v1682 c1_i32_449
  let c128_i32_450 : BitVec 32 := 128#32
  let v1684 : BitVec 32 := Scalar.muli v1683 c128_i32_450
  v1684
def k0_mult37 : BitVec 32 :=
  let c0_i32_469 : BitVec 32 := 0#32
  let c14_i32 : BitVec 32 := 14#32
  let v1768 : BitVec 32 := Scalar.addi c0_i32_469 c14_i32
  let c128_i32_470 : BitVec 32 := 128#32
  let v1769 : BitVec 32 := Scalar.muli v1768 c128_i32_470
  v1769
def k0_mult38 : BitVec 32 :=
  let c0_i32_471 : BitVec 32 := 0#32
  let c14_i32 : BitVec 32 := 14#32
  let v1771 : BitVec 32 := Scalar.addi c0_i32_471 c14_i32
  let c1_i32_472 : BitVec 32 := 1#32
  let v1772 : BitVec 32 := Scalar.subi v1771 c1_i32_472
  let c128_i32_473 : BitVec 32 := 128#32
  let v1773 : BitVec 32 := Scalar.muli v1772 c128_i32_473
  v1773
def k0_mult39 : BitVec 32 :=
  let c0_i32_492 : BitVec 32 := 0#32
  let c15_i32 : BitVec 32 := 15#32
  let v1857 : BitVec 32 := Scalar.addi c0_i32_492 c15_i32
  let c128_i32_493 : BitVec 32 := 128#32
  let v1858 : BitVec 32 := Scalar.muli v1857 c128_i32_493
  v1858
def k0_mult40 : BitVec 32 :=
  let c0_i32_494 : BitVec 32 := 0#32
  let c15_i32 : BitVec 32 := 15#32
  let v1860 : BitVec 32 := Scalar.addi c0_i32_494 c15_i32
  let c1_i32_495 : BitVec 32 := 1#32
  let v1861 : BitVec 32 := Scalar.subi v1860 c1_i32_495
  let c128_i32_496 : BitVec 32 := 128#32
  let v1862 : BitVec 32 := Scalar.muli v1861 c128_i32_496
  v1862
@[reducible] def k0_t2_loop : Scf.Loop 32 :=
  let c0_i32_606 : BitVec 32 := 0#32
  let c8_i32_607 : BitVec 32 := 8#32
  let v2058 : BitVec 32 := Scalar.addi c0_i32_606 c8_i32_607
  let c1_i32_608 : BitVec 32 := 1#32
  ⟨c0_i32_606, v2058, c1_i32_608⟩
def k0_mult41 (k0_t2 : Fin k0_t2_loop.trips) : BitVec 32 :=
  let c0_i32_606 : BitVec 32 := 0#32
  let c1_i32_608 : BitVec 32 := 1#32
  let arg28 : BitVec 32 := Scf.iv c0_i32_606 c1_i32_608 k0_t2
  let c256_i32_2070 : BitVec 32 := 256#32
  let v5617 : BitVec 32 := Scalar.muli arg28 c256_i32_2070
  v5617
def k0_off6 (k0_t2 : Fin k0_t2_loop.trips) : Fin 2 → Nat :=
  let c0_i32_606 : BitVec 32 := 0#32
  let c1_i32_608 : BitVec 32 := 1#32
  let arg28 : BitVec 32 := Scf.iv c0_i32_606 c1_i32_608 k0_t2
  let c256_i32_2070 : BitVec 32 := 256#32
  let v5617 : BitVec 32 := Scalar.muli arg28 c256_i32_2070
  let v5618 : BitVec 32 := v5617
  let v5620 : Index := Scalar.indexCast v5618
  let c0_2072 : Index := 0#32
  ![v5620.toNat, 0]
def k0_mult42 : BitVec 32 :=
  let c0_i32_617 : BitVec 32 := 0#32
  let c4_i32_618 : BitVec 32 := 4#32
  let v2083 : BitVec 32 := Scalar.muli c0_i32_617 c4_i32_618
  let c128_i32_619 : BitVec 32 := 128#32
  let v2084 : BitVec 32 := Scalar.muli v2083 c128_i32_619
  v2084
def k0_off7 (c0_i32_617 : BitVec 32) (c4_i32_618 : BitVec 32) : Fin 2 → Nat :=
  let v2083 : BitVec 32 := Scalar.muli c0_i32_617 c4_i32_618
  let c128_i32_619 : BitVec 32 := 128#32
  let v2084 : BitVec 32 := Scalar.muli v2083 c128_i32_619
  let v2085 : BitVec 32 := v2084
  let v2086 : Index := Scalar.indexCast v2085
  let c0_620 : Index := 0#32
  ![v2086.toNat, 0]
def k0_off7_at (r : Fin 20) : BitVec 32 × BitVec 32 :=
  if r.val < 10 then
    if r.val < 5 then
      if r.val < 2 then
        if r.val < 1 then
          (0#32, 4#32)
        else
          (1#32, 4#32)
      else
        if r.val < 3 then
          (2#32, 4#32)
        else
          if r.val < 4 then
            (3#32, 4#32)
          else
            (0#32, 1#32)
    else
      if r.val < 7 then
        if r.val < 6 then
          (1#32, 1#32)
        else
          (2#32, 1#32)
      else
        if r.val < 8 then
          (3#32, 1#32)
        else
          if r.val < 9 then
            (4#32, 1#32)
          else
            (5#32, 1#32)
  else
    if r.val < 15 then
      if r.val < 12 then
        if r.val < 11 then
          (6#32, 1#32)
        else
          (7#32, 1#32)
      else
        if r.val < 13 then
          (8#32, 1#32)
        else
          if r.val < 14 then
            (9#32, 1#32)
          else
            (10#32, 1#32)
    else
      if r.val < 17 then
        if r.val < 16 then
          (11#32, 1#32)
        else
          (12#32, 1#32)
      else
        if r.val < 18 then
          (13#32, 1#32)
        else
          if r.val < 19 then
            (14#32, 1#32)
          else
            (15#32, 1#32)
def k0_mult43 : BitVec 32 :=
  let c0_i32_617 : BitVec 32 := 0#32
  let c4_i32_618 : BitVec 32 := 4#32
  let v2083 : BitVec 32 := Scalar.muli c0_i32_617 c4_i32_618
  let c1_i32_638 : BitVec 32 := 1#32
  let v2165 : BitVec 32 := Scalar.addi v2083 c1_i32_638
  let c128_i32_639 : BitVec 32 := 128#32
  let v2166 : BitVec 32 := Scalar.muli v2165 c128_i32_639
  v2166
def k0_mult44 : BitVec 32 :=
  let c0_i32_617 : BitVec 32 := 0#32
  let c4_i32_618 : BitVec 32 := 4#32
  let v2083 : BitVec 32 := Scalar.muli c0_i32_617 c4_i32_618
  let c1_i32_638 : BitVec 32 := 1#32
  let v2168 : BitVec 32 := Scalar.addi v2083 c1_i32_638
  let c1_i32_640 : BitVec 32 := 1#32
  let v2169 : BitVec 32 := Scalar.subi v2168 c1_i32_640
  let c128_i32_641 : BitVec 32 := 128#32
  let v2170 : BitVec 32 := Scalar.muli v2169 c128_i32_641
  v2170
def k0_off8 (c0_i32_617 : BitVec 32) (c1_i32_638 : BitVec 32) : Fin 2 → Nat :=
  let c4_i32_618 : BitVec 32 := 4#32
  let v2083 : BitVec 32 := Scalar.muli c0_i32_617 c4_i32_618
  let v2165 : BitVec 32 := Scalar.addi v2083 c1_i32_638
  let c128_i32_639 : BitVec 32 := 128#32
  let v2166 : BitVec 32 := Scalar.muli v2165 c128_i32_639
  let v2167 : BitVec 32 := v2166
  let v2172 : Index := Scalar.indexCast v2167
  let c0_642 : Index := 0#32
  ![v2172.toNat, 0]
def k0_off9 (c0_i32_617 : BitVec 32) (c1_i32_638 : BitVec 32) : Fin 2 → Nat :=
  let c4_i32_618 : BitVec 32 := 4#32
  let v2083 : BitVec 32 := Scalar.muli c0_i32_617 c4_i32_618
  let v2168 : BitVec 32 := Scalar.addi v2083 c1_i32_638
  let c1_i32_640 : BitVec 32 := 1#32
  let v2169 : BitVec 32 := Scalar.subi v2168 c1_i32_640
  let c128_i32_641 : BitVec 32 := 128#32
  let v2170 : BitVec 32 := Scalar.muli v2169 c128_i32_641
  let v2171 : BitVec 32 := v2170
  let v2190 : Index := Scalar.indexCast v2171
  let c0_645 : Index := 0#32
  ![v2190.toNat, 0]
def k0_mult45 : BitVec 32 :=
  let c0_i32_617 : BitVec 32 := 0#32
  let c4_i32_618 : BitVec 32 := 4#32
  let v2083 : BitVec 32 := Scalar.muli c0_i32_617 c4_i32_618
  let c2_i32_660 : BitVec 32 := 2#32
  let v2250 : BitVec 32 := Scalar.addi v2083 c2_i32_660
  let c128_i32_661 : BitVec 32 := 128#32
  let v2251 : BitVec 32 := Scalar.muli v2250 c128_i32_661
  v2251
def k0_mult46 : BitVec 32 :=
  let c0_i32_617 : BitVec 32 := 0#32
  let c4_i32_618 : BitVec 32 := 4#32
  let v2083 : BitVec 32 := Scalar.muli c0_i32_617 c4_i32_618
  let c2_i32_660 : BitVec 32 := 2#32
  let v2253 : BitVec 32 := Scalar.addi v2083 c2_i32_660
  let c1_i32_662 : BitVec 32 := 1#32
  let v2254 : BitVec 32 := Scalar.subi v2253 c1_i32_662
  let c128_i32_663 : BitVec 32 := 128#32
  let v2255 : BitVec 32 := Scalar.muli v2254 c128_i32_663
  v2255
def k0_mult47 : BitVec 32 :=
  let c0_i32_617 : BitVec 32 := 0#32
  let c4_i32_618 : BitVec 32 := 4#32
  let v2083 : BitVec 32 := Scalar.muli c0_i32_617 c4_i32_618
  let c3_i32_682 : BitVec 32 := 3#32
  let v2335 : BitVec 32 := Scalar.addi v2083 c3_i32_682
  let c128_i32_683 : BitVec 32 := 128#32
  let v2336 : BitVec 32 := Scalar.muli v2335 c128_i32_683
  v2336
def k0_mult48 : BitVec 32 :=
  let c0_i32_617 : BitVec 32 := 0#32
  let c4_i32_618 : BitVec 32 := 4#32
  let v2083 : BitVec 32 := Scalar.muli c0_i32_617 c4_i32_618
  let c3_i32_682 : BitVec 32 := 3#32
  let v2338 : BitVec 32 := Scalar.addi v2083 c3_i32_682
  let c1_i32_684 : BitVec 32 := 1#32
  let v2339 : BitVec 32 := Scalar.subi v2338 c1_i32_684
  let c128_i32_685 : BitVec 32 := 128#32
  let v2340 : BitVec 32 := Scalar.muli v2339 c128_i32_685
  v2340
def k0_mult49 : BitVec 32 :=
  let c1_i32_705 : BitVec 32 := 1#32
  let c4_i32_706 : BitVec 32 := 4#32
  let v2420 : BitVec 32 := Scalar.muli c1_i32_705 c4_i32_706
  let c128_i32_707 : BitVec 32 := 128#32
  let v2421 : BitVec 32 := Scalar.muli v2420 c128_i32_707
  v2421
def k0_mult50 : BitVec 32 :=
  let c1_i32_705 : BitVec 32 := 1#32
  let c4_i32_706 : BitVec 32 := 4#32
  let v2420 : BitVec 32 := Scalar.muli c1_i32_705 c4_i32_706
  let c1_i32_726 : BitVec 32 := 1#32
  let v2502 : BitVec 32 := Scalar.addi v2420 c1_i32_726
  let c128_i32_727 : BitVec 32 := 128#32
  let v2503 : BitVec 32 := Scalar.muli v2502 c128_i32_727
  v2503
def k0_mult51 : BitVec 32 :=
  let c1_i32_705 : BitVec 32 := 1#32
  let c4_i32_706 : BitVec 32 := 4#32
  let v2420 : BitVec 32 := Scalar.muli c1_i32_705 c4_i32_706
  let c1_i32_726 : BitVec 32 := 1#32
  let v2505 : BitVec 32 := Scalar.addi v2420 c1_i32_726
  let c1_i32_728 : BitVec 32 := 1#32
  let v2506 : BitVec 32 := Scalar.subi v2505 c1_i32_728
  let c128_i32_729 : BitVec 32 := 128#32
  let v2507 : BitVec 32 := Scalar.muli v2506 c128_i32_729
  v2507
def k0_mult52 : BitVec 32 :=
  let c1_i32_705 : BitVec 32 := 1#32
  let c4_i32_706 : BitVec 32 := 4#32
  let v2420 : BitVec 32 := Scalar.muli c1_i32_705 c4_i32_706
  let c2_i32_748 : BitVec 32 := 2#32
  let v2587 : BitVec 32 := Scalar.addi v2420 c2_i32_748
  let c128_i32_749 : BitVec 32 := 128#32
  let v2588 : BitVec 32 := Scalar.muli v2587 c128_i32_749
  v2588
def k0_mult53 : BitVec 32 :=
  let c1_i32_705 : BitVec 32 := 1#32
  let c4_i32_706 : BitVec 32 := 4#32
  let v2420 : BitVec 32 := Scalar.muli c1_i32_705 c4_i32_706
  let c2_i32_748 : BitVec 32 := 2#32
  let v2590 : BitVec 32 := Scalar.addi v2420 c2_i32_748
  let c1_i32_750 : BitVec 32 := 1#32
  let v2591 : BitVec 32 := Scalar.subi v2590 c1_i32_750
  let c128_i32_751 : BitVec 32 := 128#32
  let v2592 : BitVec 32 := Scalar.muli v2591 c128_i32_751
  v2592
def k0_mult54 : BitVec 32 :=
  let c1_i32_705 : BitVec 32 := 1#32
  let c4_i32_706 : BitVec 32 := 4#32
  let v2420 : BitVec 32 := Scalar.muli c1_i32_705 c4_i32_706
  let c3_i32_770 : BitVec 32 := 3#32
  let v2672 : BitVec 32 := Scalar.addi v2420 c3_i32_770
  let c128_i32_771 : BitVec 32 := 128#32
  let v2673 : BitVec 32 := Scalar.muli v2672 c128_i32_771
  v2673
def k0_mult55 : BitVec 32 :=
  let c1_i32_705 : BitVec 32 := 1#32
  let c4_i32_706 : BitVec 32 := 4#32
  let v2420 : BitVec 32 := Scalar.muli c1_i32_705 c4_i32_706
  let c3_i32_770 : BitVec 32 := 3#32
  let v2675 : BitVec 32 := Scalar.addi v2420 c3_i32_770
  let c1_i32_772 : BitVec 32 := 1#32
  let v2676 : BitVec 32 := Scalar.subi v2675 c1_i32_772
  let c128_i32_773 : BitVec 32 := 128#32
  let v2677 : BitVec 32 := Scalar.muli v2676 c128_i32_773
  v2677
def k0_mult56 : BitVec 32 :=
  let c2_i32_793 : BitVec 32 := 2#32
  let c4_i32_794 : BitVec 32 := 4#32
  let v2757 : BitVec 32 := Scalar.muli c2_i32_793 c4_i32_794
  let c128_i32_795 : BitVec 32 := 128#32
  let v2758 : BitVec 32 := Scalar.muli v2757 c128_i32_795
  v2758
def k0_mult57 : BitVec 32 :=
  let c2_i32_793 : BitVec 32 := 2#32
  let c4_i32_794 : BitVec 32 := 4#32
  let v2757 : BitVec 32 := Scalar.muli c2_i32_793 c4_i32_794
  let c1_i32_814 : BitVec 32 := 1#32
  let v2839 : BitVec 32 := Scalar.addi v2757 c1_i32_814
  let c128_i32_815 : BitVec 32 := 128#32
  let v2840 : BitVec 32 := Scalar.muli v2839 c128_i32_815
  v2840
def k0_mult58 : BitVec 32 :=
  let c2_i32_793 : BitVec 32 := 2#32
  let c4_i32_794 : BitVec 32 := 4#32
  let v2757 : BitVec 32 := Scalar.muli c2_i32_793 c4_i32_794
  let c1_i32_814 : BitVec 32 := 1#32
  let v2842 : BitVec 32 := Scalar.addi v2757 c1_i32_814
  let c1_i32_816 : BitVec 32 := 1#32
  let v2843 : BitVec 32 := Scalar.subi v2842 c1_i32_816
  let c128_i32_817 : BitVec 32 := 128#32
  let v2844 : BitVec 32 := Scalar.muli v2843 c128_i32_817
  v2844
def k0_mult59 : BitVec 32 :=
  let c2_i32_793 : BitVec 32 := 2#32
  let c4_i32_794 : BitVec 32 := 4#32
  let v2757 : BitVec 32 := Scalar.muli c2_i32_793 c4_i32_794
  let c2_i32_836 : BitVec 32 := 2#32
  let v2924 : BitVec 32 := Scalar.addi v2757 c2_i32_836
  let c128_i32_837 : BitVec 32 := 128#32
  let v2925 : BitVec 32 := Scalar.muli v2924 c128_i32_837
  v2925
def k0_mult60 : BitVec 32 :=
  let c2_i32_793 : BitVec 32 := 2#32
  let c4_i32_794 : BitVec 32 := 4#32
  let v2757 : BitVec 32 := Scalar.muli c2_i32_793 c4_i32_794
  let c2_i32_836 : BitVec 32 := 2#32
  let v2927 : BitVec 32 := Scalar.addi v2757 c2_i32_836
  let c1_i32_838 : BitVec 32 := 1#32
  let v2928 : BitVec 32 := Scalar.subi v2927 c1_i32_838
  let c128_i32_839 : BitVec 32 := 128#32
  let v2929 : BitVec 32 := Scalar.muli v2928 c128_i32_839
  v2929
def k0_mult61 : BitVec 32 :=
  let c2_i32_793 : BitVec 32 := 2#32
  let c4_i32_794 : BitVec 32 := 4#32
  let v2757 : BitVec 32 := Scalar.muli c2_i32_793 c4_i32_794
  let c3_i32_858 : BitVec 32 := 3#32
  let v3009 : BitVec 32 := Scalar.addi v2757 c3_i32_858
  let c128_i32_859 : BitVec 32 := 128#32
  let v3010 : BitVec 32 := Scalar.muli v3009 c128_i32_859
  v3010
def k0_mult62 : BitVec 32 :=
  let c2_i32_793 : BitVec 32 := 2#32
  let c4_i32_794 : BitVec 32 := 4#32
  let v2757 : BitVec 32 := Scalar.muli c2_i32_793 c4_i32_794
  let c3_i32_858 : BitVec 32 := 3#32
  let v3012 : BitVec 32 := Scalar.addi v2757 c3_i32_858
  let c1_i32_860 : BitVec 32 := 1#32
  let v3013 : BitVec 32 := Scalar.subi v3012 c1_i32_860
  let c128_i32_861 : BitVec 32 := 128#32
  let v3014 : BitVec 32 := Scalar.muli v3013 c128_i32_861
  v3014
def k0_mult63 : BitVec 32 :=
  let c3_i32_881 : BitVec 32 := 3#32
  let c4_i32_882 : BitVec 32 := 4#32
  let v3094 : BitVec 32 := Scalar.muli c3_i32_881 c4_i32_882
  let c128_i32_883 : BitVec 32 := 128#32
  let v3095 : BitVec 32 := Scalar.muli v3094 c128_i32_883
  v3095
def k0_mult64 : BitVec 32 :=
  let c3_i32_881 : BitVec 32 := 3#32
  let c4_i32_882 : BitVec 32 := 4#32
  let v3094 : BitVec 32 := Scalar.muli c3_i32_881 c4_i32_882
  let c1_i32_902 : BitVec 32 := 1#32
  let v3176 : BitVec 32 := Scalar.addi v3094 c1_i32_902
  let c128_i32_903 : BitVec 32 := 128#32
  let v3177 : BitVec 32 := Scalar.muli v3176 c128_i32_903
  v3177
def k0_mult65 : BitVec 32 :=
  let c3_i32_881 : BitVec 32 := 3#32
  let c4_i32_882 : BitVec 32 := 4#32
  let v3094 : BitVec 32 := Scalar.muli c3_i32_881 c4_i32_882
  let c1_i32_902 : BitVec 32 := 1#32
  let v3179 : BitVec 32 := Scalar.addi v3094 c1_i32_902
  let c1_i32_904 : BitVec 32 := 1#32
  let v3180 : BitVec 32 := Scalar.subi v3179 c1_i32_904
  let c128_i32_905 : BitVec 32 := 128#32
  let v3181 : BitVec 32 := Scalar.muli v3180 c128_i32_905
  v3181
def k0_mult66 : BitVec 32 :=
  let c3_i32_881 : BitVec 32 := 3#32
  let c4_i32_882 : BitVec 32 := 4#32
  let v3094 : BitVec 32 := Scalar.muli c3_i32_881 c4_i32_882
  let c2_i32_924 : BitVec 32 := 2#32
  let v3261 : BitVec 32 := Scalar.addi v3094 c2_i32_924
  let c128_i32_925 : BitVec 32 := 128#32
  let v3262 : BitVec 32 := Scalar.muli v3261 c128_i32_925
  v3262
def k0_mult67 : BitVec 32 :=
  let c3_i32_881 : BitVec 32 := 3#32
  let c4_i32_882 : BitVec 32 := 4#32
  let v3094 : BitVec 32 := Scalar.muli c3_i32_881 c4_i32_882
  let c2_i32_924 : BitVec 32 := 2#32
  let v3264 : BitVec 32 := Scalar.addi v3094 c2_i32_924
  let c1_i32_926 : BitVec 32 := 1#32
  let v3265 : BitVec 32 := Scalar.subi v3264 c1_i32_926
  let c128_i32_927 : BitVec 32 := 128#32
  let v3266 : BitVec 32 := Scalar.muli v3265 c128_i32_927
  v3266
def k0_mult68 : BitVec 32 :=
  let c3_i32_881 : BitVec 32 := 3#32
  let c4_i32_882 : BitVec 32 := 4#32
  let v3094 : BitVec 32 := Scalar.muli c3_i32_881 c4_i32_882
  let c3_i32_946 : BitVec 32 := 3#32
  let v3346 : BitVec 32 := Scalar.addi v3094 c3_i32_946
  let c128_i32_947 : BitVec 32 := 128#32
  let v3347 : BitVec 32 := Scalar.muli v3346 c128_i32_947
  v3347
def k0_mult69 : BitVec 32 :=
  let c3_i32_881 : BitVec 32 := 3#32
  let c4_i32_882 : BitVec 32 := 4#32
  let v3094 : BitVec 32 := Scalar.muli c3_i32_881 c4_i32_882
  let c3_i32_946 : BitVec 32 := 3#32
  let v3349 : BitVec 32 := Scalar.addi v3094 c3_i32_946
  let c1_i32_948 : BitVec 32 := 1#32
  let v3350 : BitVec 32 := Scalar.subi v3349 c1_i32_948
  let c128_i32_949 : BitVec 32 := 128#32
  let v3351 : BitVec 32 := Scalar.muli v3350 c128_i32_949
  v3351
@[reducible] def k0_t3_loop : Scf.Loop 32 :=
  let c0_i32_1402 : BitVec 32 := 0#32
  let c8_i32_1403 : BitVec 32 := 8#32
  let v3951 : BitVec 32 := Scalar.addi c0_i32_1402 c8_i32_1403
  let c1_i32_1404 : BitVec 32 := 1#32
  ⟨c0_i32_1402, v3951, c1_i32_1404⟩
def k0_mult70 (k0_t3 : Fin k0_t3_loop.trips) : BitVec 32 :=
  let c0_i32_1402 : BitVec 32 := 0#32
  let c1_i32_1404 : BitVec 32 := 1#32
  let arg28 : BitVec 32 := Scf.iv c0_i32_1402 c1_i32_1404 k0_t3
  let c256_i32_2070 : BitVec 32 := 256#32
  let v5617 : BitVec 32 := Scalar.muli arg28 c256_i32_2070
  v5617
def k0_off10 (k0_t3 : Fin k0_t3_loop.trips) : Fin 2 → Nat :=
  let c0_i32_1402 : BitVec 32 := 0#32
  let c1_i32_1404 : BitVec 32 := 1#32
  let arg28 : BitVec 32 := Scf.iv c0_i32_1402 c1_i32_1404 k0_t3
  let c256_i32_2070 : BitVec 32 := 256#32
  let v5617 : BitVec 32 := Scalar.muli arg28 c256_i32_2070
  let v5618 : BitVec 32 := v5617
  let v5620 : Index := Scalar.indexCast v5618
  let c0_2072 : Index := 0#32
  ![v5620.toNat, 0]
def k0_mult71 : BitVec 32 :=
  let c0_i32_1413 : BitVec 32 := 0#32
  let c1_i32_1414 : BitVec 32 := 1#32
  let v3976 : BitVec 32 := Scalar.muli c0_i32_1413 c1_i32_1414
  let c128_i32_1415 : BitVec 32 := 128#32
  let v3977 : BitVec 32 := Scalar.muli v3976 c128_i32_1415
  v3977
def k0_mult72 : BitVec 32 :=
  let c1_i32_1434 : BitVec 32 := 1#32
  let c1_i32_1435 : BitVec 32 := 1#32
  let v4058 : BitVec 32 := Scalar.muli c1_i32_1434 c1_i32_1435
  let c128_i32_1436 : BitVec 32 := 128#32
  let v4059 : BitVec 32 := Scalar.muli v4058 c128_i32_1436
  v4059
def k0_mult73 : BitVec 32 :=
  let c2_i32_1455 : BitVec 32 := 2#32
  let c1_i32_1456 : BitVec 32 := 1#32
  let v4140 : BitVec 32 := Scalar.muli c2_i32_1455 c1_i32_1456
  let c128_i32_1457 : BitVec 32 := 128#32
  let v4141 : BitVec 32 := Scalar.muli v4140 c128_i32_1457
  v4141
def k0_mult74 : BitVec 32 :=
  let c3_i32_1476 : BitVec 32 := 3#32
  let c1_i32_1477 : BitVec 32 := 1#32
  let v4222 : BitVec 32 := Scalar.muli c3_i32_1476 c1_i32_1477
  let c128_i32_1478 : BitVec 32 := 128#32
  let v4223 : BitVec 32 := Scalar.muli v4222 c128_i32_1478
  v4223
def k0_mult75 : BitVec 32 :=
  let c4_i32_1497 : BitVec 32 := 4#32
  let c1_i32_1498 : BitVec 32 := 1#32
  let v4304 : BitVec 32 := Scalar.muli c4_i32_1497 c1_i32_1498
  let c128_i32_1499 : BitVec 32 := 128#32
  let v4305 : BitVec 32 := Scalar.muli v4304 c128_i32_1499
  v4305
def k0_mult76 : BitVec 32 :=
  let c5_i32_1518 : BitVec 32 := 5#32
  let c1_i32_1519 : BitVec 32 := 1#32
  let v4386 : BitVec 32 := Scalar.muli c5_i32_1518 c1_i32_1519
  let c128_i32_1520 : BitVec 32 := 128#32
  let v4387 : BitVec 32 := Scalar.muli v4386 c128_i32_1520
  v4387
def k0_mult77 : BitVec 32 :=
  let c6_i32_1539 : BitVec 32 := 6#32
  let c1_i32_1540 : BitVec 32 := 1#32
  let v4468 : BitVec 32 := Scalar.muli c6_i32_1539 c1_i32_1540
  let c128_i32_1541 : BitVec 32 := 128#32
  let v4469 : BitVec 32 := Scalar.muli v4468 c128_i32_1541
  v4469
def k0_mult78 : BitVec 32 :=
  let c7_i32_1560 : BitVec 32 := 7#32
  let c1_i32_1561 : BitVec 32 := 1#32
  let v4550 : BitVec 32 := Scalar.muli c7_i32_1560 c1_i32_1561
  let c128_i32_1562 : BitVec 32 := 128#32
  let v4551 : BitVec 32 := Scalar.muli v4550 c128_i32_1562
  v4551
def k0_mult79 : BitVec 32 :=
  let c8_i32_1581 : BitVec 32 := 8#32
  let c1_i32_1582 : BitVec 32 := 1#32
  let v4632 : BitVec 32 := Scalar.muli c8_i32_1581 c1_i32_1582
  let c128_i32_1583 : BitVec 32 := 128#32
  let v4633 : BitVec 32 := Scalar.muli v4632 c128_i32_1583
  v4633
def k0_mult80 : BitVec 32 :=
  let c9_i32_1602 : BitVec 32 := 9#32
  let c1_i32_1603 : BitVec 32 := 1#32
  let v4714 : BitVec 32 := Scalar.muli c9_i32_1602 c1_i32_1603
  let c128_i32_1604 : BitVec 32 := 128#32
  let v4715 : BitVec 32 := Scalar.muli v4714 c128_i32_1604
  v4715
def k0_mult81 : BitVec 32 :=
  let c10_i32_1623 : BitVec 32 := 10#32
  let c1_i32_1624 : BitVec 32 := 1#32
  let v4796 : BitVec 32 := Scalar.muli c10_i32_1623 c1_i32_1624
  let c128_i32_1625 : BitVec 32 := 128#32
  let v4797 : BitVec 32 := Scalar.muli v4796 c128_i32_1625
  v4797
def k0_mult82 : BitVec 32 :=
  let c11_i32_1644 : BitVec 32 := 11#32
  let c1_i32_1645 : BitVec 32 := 1#32
  let v4878 : BitVec 32 := Scalar.muli c11_i32_1644 c1_i32_1645
  let c128_i32_1646 : BitVec 32 := 128#32
  let v4879 : BitVec 32 := Scalar.muli v4878 c128_i32_1646
  v4879
def k0_mult83 : BitVec 32 :=
  let c12_i32_1665 : BitVec 32 := 12#32
  let c1_i32_1666 : BitVec 32 := 1#32
  let v4960 : BitVec 32 := Scalar.muli c12_i32_1665 c1_i32_1666
  let c128_i32_1667 : BitVec 32 := 128#32
  let v4961 : BitVec 32 := Scalar.muli v4960 c128_i32_1667
  v4961
def k0_mult84 : BitVec 32 :=
  let c13_i32_1686 : BitVec 32 := 13#32
  let c1_i32_1687 : BitVec 32 := 1#32
  let v5042 : BitVec 32 := Scalar.muli c13_i32_1686 c1_i32_1687
  let c128_i32_1688 : BitVec 32 := 128#32
  let v5043 : BitVec 32 := Scalar.muli v5042 c128_i32_1688
  v5043
def k0_mult85 : BitVec 32 :=
  let c14_i32_1707 : BitVec 32 := 14#32
  let c1_i32_1708 : BitVec 32 := 1#32
  let v5124 : BitVec 32 := Scalar.muli c14_i32_1707 c1_i32_1708
  let c128_i32_1709 : BitVec 32 := 128#32
  let v5125 : BitVec 32 := Scalar.muli v5124 c128_i32_1709
  v5125
def k0_mult86 : BitVec 32 :=
  let c15_i32_1728 : BitVec 32 := 15#32
  let c1_i32_1729 : BitVec 32 := 1#32
  let v5206 : BitVec 32 := Scalar.muli c15_i32_1728 c1_i32_1729
  let c128_i32_1730 : BitVec 32 := 128#32
  let v5207 : BitVec 32 := Scalar.muli v5206 c128_i32_1730
  v5207
@[reducible] def k0_t4_loop : Scf.Loop 32 :=
  let c0_i32_2037 : BitVec 32 := 0#32
  let c8_i32_2038 : BitVec 32 := 8#32
  let v5576 : BitVec 32 := Scalar.addi c0_i32_2037 c8_i32_2038
  let c1_i32_2039 : BitVec 32 := 1#32
  ⟨c0_i32_2037, v5576, c1_i32_2039⟩
def k0_mult87 (k0_t4 : Fin k0_t4_loop.trips) : BitVec 32 :=
  let c0_i32_2037 : BitVec 32 := 0#32
  let c1_i32_2039 : BitVec 32 := 1#32
  let arg28 : BitVec 32 := Scf.iv c0_i32_2037 c1_i32_2039 k0_t4
  let c256_i32_2070 : BitVec 32 := 256#32
  let v5617 : BitVec 32 := Scalar.muli arg28 c256_i32_2070
  v5617
def k0_off11 (k0_t4 : Fin k0_t4_loop.trips) : Fin 2 → Nat :=
  let c0_i32_2037 : BitVec 32 := 0#32
  let c1_i32_2039 : BitVec 32 := 1#32
  let arg28 : BitVec 32 := Scf.iv c0_i32_2037 c1_i32_2039 k0_t4
  let c256_i32_2070 : BitVec 32 := 256#32
  let v5617 : BitVec 32 := Scalar.muli arg28 c256_i32_2070
  let v5618 : BitVec 32 := v5617
  let v5619 : Index := Scalar.indexCast v5618
  let c0_2071 : Index := 0#32
  ![v5619.toNat, 0]
def k0_off12 (k0_t4 : Fin k0_t4_loop.trips) : Fin 3 → Nat :=
  let c0_2073 : Index := 0#32
  let c0_i32_2037 : BitVec 32 := 0#32
  let c1_i32_2039 : BitVec 32 := 1#32
  let arg28 : BitVec 32 := Scf.iv c0_i32_2037 c1_i32_2039 k0_t4
  let c256_i32_2070 : BitVec 32 := 256#32
  let v5617 : BitVec 32 := Scalar.muli arg28 c256_i32_2070
  let v5618 : BitVec 32 := v5617
  let v5624 : Index := Scalar.indexCast v5618
  let c0_2074 : Index := 0#32
  ![0, v5624.toNat, 0]
def k0_off13 (k0_t4 : Fin k0_t4_loop.trips) : Fin 3 → Nat :=
  let c1_2076 : Index := 1#32
  let c0_i32_2037 : BitVec 32 := 0#32
  let c1_i32_2039 : BitVec 32 := 1#32
  let arg28 : BitVec 32 := Scf.iv c0_i32_2037 c1_i32_2039 k0_t4
  let c256_i32_2070 : BitVec 32 := 256#32
  let v5617 : BitVec 32 := Scalar.muli arg28 c256_i32_2070
  let v5618 : BitVec 32 := v5617
  let v5631 : Index := Scalar.indexCast v5618
  let c0_2077 : Index := 0#32
  ![1, v5631.toNat, 0]
def k0_off14 (k0_t4 : Fin k0_t4_loop.trips) : Fin 3 → Nat :=
  let c2_2079 : Index := 2#32
  let c0_i32_2037 : BitVec 32 := 0#32
  let c1_i32_2039 : BitVec 32 := 1#32
  let arg28 : BitVec 32 := Scf.iv c0_i32_2037 c1_i32_2039 k0_t4
  let c256_i32_2070 : BitVec 32 := 256#32
  let v5617 : BitVec 32 := Scalar.muli arg28 c256_i32_2070
  let v5618 : BitVec 32 := v5617
  let v5638 : Index := Scalar.indexCast v5618
  let c0_2080 : Index := 0#32
  ![2, v5638.toNat, 0]
def k0_mult88 (i : grid0.Coords) : BitVec 32 :=
  let arg1 : BitVec 32 := BitVec.ofNat 32 (i 1).val
  let c2048_i32 : BitVec 32 := 2048#32
  let v5577 : BitVec 32 := Scalar.muli arg1 c2048_i32
  v5577
def k0_mult89 (i : grid0.Coords) : BitVec 32 :=
  let arg0 : BitVec 32 := BitVec.ofNat 32 (i 0).val
  let c128_i32_2043 : BitVec 32 := 128#32
  let v5581 : BitVec 32 := Scalar.muli arg0 c128_i32_2043
  v5581
def k0_mult90 (i : grid0.Coords) : BitVec 32 :=
  let c4_i32_2041 : BitVec 32 := 4#32
  let arg0 : BitVec 32 := BitVec.ofNat 32 (i 0).val
  let v5578 : BitVec 32 := Scalar.addi c4_i32_2041 arg0
  let c128_i32_2044 : BitVec 32 := 128#32
  let v5583 : BitVec 32 := Scalar.muli v5578 c128_i32_2044
  v5583
def k0_mult91 (i : grid0.Coords) : BitVec 32 :=
  let c8_i32_2042 : BitVec 32 := 8#32
  let arg0 : BitVec 32 := BitVec.ofNat 32 (i 0).val
  let v5579 : BitVec 32 := Scalar.addi c8_i32_2042 arg0
  let c128_i32_2045 : BitVec 32 := 128#32
  let v5585 : BitVec 32 := Scalar.muli v5579 c128_i32_2045
  v5585
def k0_off15 (i : grid0.Coords) : Fin 2 → Nat :=
  let arg1 : BitVec 32 := BitVec.ofNat 32 (i 1).val
  let c2048_i32 : BitVec 32 := 2048#32
  let v5577 : BitVec 32 := Scalar.muli arg1 c2048_i32
  let v5580 : BitVec 32 := v5577
  let arg0 : BitVec 32 := BitVec.ofNat 32 (i 0).val
  let c128_i32_2043 : BitVec 32 := 128#32
  let v5581 : BitVec 32 := Scalar.muli arg0 c128_i32_2043
  let v5582 : BitVec 32 := v5581
  ![v5580.toNat, v5582.toNat]
def k0_off16 (i : grid0.Coords) (c4_i32_2041 : BitVec 32) : Fin 2 → Nat :=
  let arg1 : BitVec 32 := BitVec.ofNat 32 (i 1).val
  let c2048_i32 : BitVec 32 := 2048#32
  let v5577 : BitVec 32 := Scalar.muli arg1 c2048_i32
  let v5580 : BitVec 32 := v5577
  let arg0 : BitVec 32 := BitVec.ofNat 32 (i 0).val
  let v5578 : BitVec 32 := Scalar.addi c4_i32_2041 arg0
  let c128_i32_2044 : BitVec 32 := 128#32
  let v5583 : BitVec 32 := Scalar.muli v5578 c128_i32_2044
  let v5584 : BitVec 32 := v5583
  ![v5580.toNat, v5584.toNat]
def k0_cond1 (i : grid0.Coords) : BitVec 1 :=
  let arg1 : BitVec 32 := BitVec.ofNat 32 (i 1).val
  let c0_i32_129 : BitVec 32 := 0#32
  let v496 : BitVec 1 := Scalar.cmpi .eq arg1 c0_i32_129
  let v497 : BitVec 32 := Scalar.extui v496
  let c0_i32_130 : BitVec 32 := 0#32
  let v498 : BitVec 1 := Scalar.cmpi .ne v497 c0_i32_130
  v498

def k0_cond2 (i : grid0.Coords) : BitVec 1 :=
  let arg1 : BitVec 32 := BitVec.ofNat 32 (i 1).val
  let c0_i32_131 : BitVec 32 := 0#32
  let v499 : BitVec 1 := Scalar.cmpi .sgt arg1 c0_i32_131
  let v500 : BitVec 32 := Scalar.extui v499
  let c0_i32_132 : BitVec 32 := 0#32
  let v501 : BitVec 1 := Scalar.cmpi .ne v500 c0_i32_132
  v501

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFwd.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S3x8x704 : Shape := ⟨3, ![3, 8, 704]⟩
abbrev S8x3x704 : Shape := ⟨3, ![8, 3, 704]⟩
abbrev S2x4x3x704 : Shape := ⟨4, ![2, 4, 3, 704]⟩
abbrev S5632x1024 : Shape := ⟨2, ![5632, 1024]⟩
abbrev S8x704x1024 : Shape := ⟨3, ![8, 704, 1024]⟩
abbrev S4x704x1024 : Shape := ⟨3, ![4, 704, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x4096x704 : Shape := ⟨3, ![4, 4096, 704]⟩
abbrev S2x4x4096x704 : Shape := ⟨4, ![2, 4, 4096, 704]⟩
abbrev S256x1024 : Shape := ⟨2, ![256, 1024]⟩
abbrev S16x1024 : Shape := ⟨2, ![16, 1024]⟩
abbrev S4x256x704 : Shape := ⟨3, ![4, 256, 704]⟩
abbrev S2x4x256x704 : Shape := ⟨4, ![2, 4, 256, 704]⟩
abbrev S264x1 : Shape := ⟨2, ![264, 1]⟩
abbrev S272x1024 : Shape := ⟨2, ![272, 1024]⟩
abbrev S1x704x1024 : Shape := ⟨3, ![1, 704, 1024]⟩
abbrev S704x1024 : Shape := ⟨2, ![704, 1024]⟩
abbrev S272x704 : Shape := ⟨2, ![272, 704]⟩
abbrev S256x704 : Shape := ⟨2, ![256, 704]⟩
abbrev S1x1x256x704 : Shape := ⟨4, ![1, 1, 256, 704]⟩
abbrev S264x704 : Shape := ⟨2, ![264, 704]⟩
abbrev S1x1x3x704 : Shape := ⟨4, ![1, 1, 3, 704]⟩
abbrev S3x704 : Shape := ⟨2, ![3, 704]⟩
abbrev S1x704 : Shape := ⟨2, ![1, 704]⟩
abbrev S1x256x704 : Shape := ⟨3, ![1, 256, 704]⟩
abbrev S256 : Shape := ⟨1, ![256]⟩
abbrev S256x1 : Shape := ⟨2, ![256, 1]⟩

abbrev nBuf : Space → Nat
  | .hbm => 37
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S3x8x704, .f32⟩
  | .hbm, ⟨7, _⟩ => ⟨S8x3x704, .f32⟩
  | .hbm, ⟨8, _⟩ => ⟨S2x4x3x704, .f32⟩
  | .hbm, ⟨9, _⟩ => ⟨S5632x1024, .f32⟩
  | .hbm, ⟨10, _⟩ => ⟨S8x704x1024, .f32⟩
  | .hbm, ⟨11, _⟩ => ⟨S8x704x1024, .bf16⟩
  | .hbm, ⟨12, _⟩ => ⟨S4x704x1024, .f32⟩
  | .hbm, ⟨13, _⟩ => ⟨S4x704x1024, .bf16⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S1x1024, .f32⟩
  | .hbm, ⟨33, _⟩ => ⟨S4096x1024, .f32⟩
  | .hbm, ⟨34, _⟩ => ⟨S4096x1024, .bf16⟩
  | .hbm, ⟨35, _⟩ => ⟨S4x4096x704, .bf16⟩
  | .hbm, ⟨36, _⟩ => ⟨S2x4x4096x704, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S8x704x1024, .bf16⟩
  | .local _ .vmem, ⟨5, _⟩ => ⟨S2x4x3x704, .f32⟩
  | .local _ .vmem, ⟨6, _⟩ => ⟨S4x704x1024, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S4x256x704, .bf16⟩
  | .local _ .vmem, ⟨15, _⟩ => ⟨S4x256x704, .bf16⟩
  | .local _ .vmem, ⟨16, _⟩ => ⟨S2x4x256x704, .bf16⟩
  | .local _ .vmem, ⟨17, _⟩ => ⟨S2x4x256x704, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnFwdRefIdeal.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2x5632 : Shape := ⟨3, ![2, 2, 5632]⟩
abbrev S2x2050x5632 : Shape := ⟨3, ![2, 2050, 5632]⟩
abbrev S1x5632 : Shape := ⟨2, ![1, 5632]⟩
abbrev S5632 : Shape := ⟨1, ![5632]⟩
abbrev S1x1x5632 : Shape := ⟨3, ![1, 1, 5632]⟩
abbrev S2x2048x2816 : Shape := ⟨3, ![2, 2048, 2816]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩
abbrev S4096x1024 : Shape := ⟨2, ![4096, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x5632, .f32⟩
  | .hbm, ⟨23, _⟩ => ⟨S_, .f32⟩
  | .hbm, ⟨24, _⟩ => ⟨S2x2x5632, .f32⟩
  | .hbm, ⟨25, _⟩ => ⟨S2x2050x5632, .f32⟩
  | .hbm, ⟨26, _⟩ => ⟨S2x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x2048x5632, .f32⟩
  | .hbm, ⟨31, _⟩ => ⟨S2x2048x5632, .f32⟩
  | .hbm, ⟨32, _⟩ => ⟨S_, .f32⟩
  | .hbm, ⟨33, _⟩ => ⟨S2x2048x5632, .f32⟩
  | .hbm, ⟨34, _⟩ => ⟨S2x2048x5632, .f32⟩
  | .hbm, ⟨35, _⟩ => ⟨S2x2048x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S2x2048x5632, .f32⟩
  | .hbm, ⟨40, _⟩ => ⟨S2x2048x5632, .f32⟩
  | .hbm, ⟨41, _⟩ => ⟨S2x2048x5632, .f32⟩
  | .hbm, ⟨42, _⟩ => ⟨S2x2048x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S2x2048x5632, .f32⟩
  | .hbm, ⟨47, _⟩ => ⟨S2x2048x5632, .f32⟩
  | .hbm, ⟨48, _⟩ => ⟨S2x2048x5632, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S_, .f32⟩
  | .hbm, ⟨54, _⟩ => ⟨S2x2048x2816, .f32⟩
  | .hbm, ⟨55, _⟩ => ⟨S2x2048x2816, .f32⟩
  | .hbm, ⟨56, _⟩ => ⟨S_, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S_, .f32⟩
  | .hbm, ⟨65, _⟩ => ⟨S2x2048, .f32⟩
  | .hbm, ⟨66, _⟩ => ⟨S2x2048x1, .f32⟩
  | .hbm, ⟨67, _⟩ => ⟨S_, .f32⟩
  | .hbm, ⟨68, _⟩ => ⟨S2x2048x1, .f32⟩
  | .hbm, ⟨69, _⟩ => ⟨S2x2048x1, .f32⟩
  | .hbm, ⟨70, _⟩ => ⟨S_, .f32⟩
  | .hbm, ⟨71, _⟩ => ⟨S2x2048x1, .f32⟩
  | .hbm, ⟨72, _⟩ => ⟨S2x2048x1, .f32⟩
  | .hbm, ⟨73, _⟩ => ⟨S2x2048x1, .f32⟩
  | .hbm, ⟨74, _⟩ => ⟨S2x2048x1024, .f32⟩
  | .hbm, ⟨75, _⟩ => ⟨S2x2048x1024, .f32⟩
  | .hbm, ⟨76, _⟩ => ⟨S1x1x1024, .f32⟩
  | .hbm, ⟨77, _⟩ => ⟨S2x2048x1024, .f32⟩
  | .hbm, ⟨78, _⟩ => ⟨S2x2048x1024, .f32⟩
  | .hbm, ⟨79, _⟩ => ⟨S4096x4x704, .f32⟩
  | .hbm, ⟨80, _⟩ => ⟨S4x4096x704, .f32⟩
  | .hbm, ⟨81, _⟩ => ⟨S4x4096x704, .bf16⟩
  | .hbm, ⟨82, _⟩ => ⟨S4096x2x4x704, .f32⟩
  | .hbm, ⟨83, _⟩ => ⟨S2x4x4096x704, .f32⟩
  | .hbm, ⟨84, _⟩ => ⟨S2x4x4096x704, .bf16⟩
  | .hbm, ⟨85, _⟩ => ⟨S4096x1024, .f32⟩
  | .hbm, ⟨86, _⟩ => ⟨S4096x1024, .f32⟩
  | .hbm, ⟨87, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== FfnLast.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S3x8x704 : Shape := ⟨3, ![3, 8, 704]⟩
abbrev S8x3x704 : Shape := ⟨3, ![8, 3, 704]⟩
abbrev S2x4x3x704 : Shape := ⟨4, ![2, 4, 3, 704]⟩
abbrev S5632x1024 : Shape := ⟨2, ![5632, 1024]⟩
abbrev S8x704x1024 : Shape := ⟨3, ![8, 704, 1024]⟩
abbrev S4x704x1024 : Shape := ⟨3, ![4, 704, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x4096x704 : Shape := ⟨3, ![4, 4096, 704]⟩
abbrev S2x4x4096x704 : Shape := ⟨4, ![2, 4, 4096, 704]⟩
abbrev S256x1024 : Shape := ⟨2, ![256, 1024]⟩
abbrev S16x1024 : Shape := ⟨2, ![16, 1024]⟩
abbrev S4x256x704 : Shape := ⟨3, ![4, 256, 704]⟩
abbrev S2x4x256x704 : Shape := ⟨4, ![2, 4, 256, 704]⟩
abbrev S264x1 : Shape := ⟨2, ![264, 1]⟩
abbrev S272x1024 : Shape := ⟨2, ![272, 1024]⟩
abbrev S1x704x1024 : Shape := ⟨3, ![1, 704, 1024]⟩
abbrev S704x1024 : Shape := ⟨2, ![704, 1024]⟩
abbrev S272x704 : Shape := ⟨2, ![272, 704]⟩
abbrev S256x704 : Shape := ⟨2, ![256, 704]⟩
abbrev S1x1x256x704 : Shape := ⟨4, ![1, 1, 256, 704]⟩
abbrev S264x704 : Shape := ⟨2, ![264, 704]⟩
abbrev S1x1x3x704 : Shape := ⟨4, ![1, 1, 3, 704]⟩
abbrev S3x704 : Shape := ⟨2, ![3, 704]⟩
abbrev S1x704 : Shape := ⟨2, ![1, 704]⟩
abbrev S1x256x704 : Shape := ⟨3, ![1, 256, 704]⟩

abbrev nBuf : Space → Nat
  | .hbm => 34
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S3x8x704, .f32⟩
  | .hbm, ⟨6, _⟩ => ⟨S8x3x704, .f32⟩
  | .hbm, ⟨7, _⟩ => ⟨S2x4x3x704, .f32⟩
  | .hbm, ⟨8, _⟩ => ⟨S5632x1024, .f32⟩
  | .hbm, ⟨9, _⟩ => ⟨S8x704x1024, .f32⟩
  | .hbm, ⟨10, _⟩ => ⟨S8x704x1024, .bf16⟩
  | .hbm, ⟨11, _⟩ => ⟨S4x704x1024, .f32⟩
  | .hbm, ⟨12, _⟩ => ⟨S4x704x1024, .bf16⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .f32⟩
  | .hbm, ⟨32, _⟩ => ⟨S4x4096x704, .bf16⟩
  | .hbm, ⟨33, _⟩ => ⟨S2x4x4096x704, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S8x704x1024, .bf16⟩
  | .local _ .vmem, ⟨5, _⟩ => ⟨S2x4x3x704, .f32⟩
  | .local _ .vmem, ⟨6, _⟩ => ⟨S4x704x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S4x256x704, .bf16⟩
  | .local _ .vmem, ⟨12, _⟩ => ⟨S4x256x704, .bf16⟩
  | .local _ .vmem, ⟨13, _⟩ => ⟨S2x4x256x704, .bf16⟩
  | .local _ .vmem, ⟨14, _⟩ => ⟨S2x4x256x704, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnLastRefIdeal.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2x5632 : Shape := ⟨3, ![2, 2, 5632]⟩
abbrev S2x2050x5632 : Shape := ⟨3, ![2, 2050, 5632]⟩
abbrev S1x5632 : Shape := ⟨2, ![1, 5632]⟩
abbrev S5632 : Shape := ⟨1, ![5632]⟩
abbrev S1x1x5632 : Shape := ⟨3, ![1, 1, 5632]⟩
abbrev S2x2048x2816 : Shape := ⟨3, ![2, 2048, 2816]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩
abbrev S4096x1024 : Shape := ⟨2, ![4096, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x5632, .f32⟩
  | .hbm, ⟨22, _⟩ => ⟨S_, .f32⟩
  | .hbm, ⟨23, _⟩ => ⟨S2x2x5632, .f32⟩
  | .hbm, ⟨24, _⟩ => ⟨S2x2050x5632, .f32⟩
  | .hbm, ⟨25, _⟩ => ⟨S2x2048x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S2x2048x5632, .f32⟩
  | .hbm, ⟨30, _⟩ => ⟨S2x2048x5632, .f32⟩
  | .hbm, ⟨31, _⟩ => ⟨S_, .f32⟩
  | .hbm, ⟨32, _⟩ => ⟨S2x2048x5632, .f32⟩
  | .hbm, ⟨33, _⟩ => ⟨S2x2048x5632, .f32⟩
  | .hbm, ⟨34, _⟩ => ⟨S2x2048x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S2x2048x5632, .f32⟩
  | .hbm, ⟨39, _⟩ => ⟨S2x2048x5632, .f32⟩
  | .hbm, ⟨40, _⟩ => ⟨S2x2048x5632, .f32⟩
  | .hbm, ⟨41, _⟩ => ⟨S2x2048x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S2x2048x5632, .f32⟩
  | .hbm, ⟨46, _⟩ => ⟨S2x2048x5632, .f32⟩
  | .hbm, ⟨47, _⟩ => ⟨S2x2048x5632, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S_, .f32⟩
  | .hbm, ⟨53, _⟩ => ⟨S2x2048x2816, .f32⟩
  | .hbm, ⟨54, _⟩ => ⟨S2x2048x2816, .f32⟩
  | .hbm, ⟨55, _⟩ => ⟨S_, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x1024, .f32⟩
  | .hbm, ⟨61, _⟩ => ⟨S2x2048x1024, .f32⟩
  | .hbm, ⟨62, _⟩ => ⟨S4096x4x704, .f32⟩
  | .hbm, ⟨63, _⟩ => ⟨S4x4096x704, .f32⟩
  | .hbm, ⟨64, _⟩ => ⟨S4x4096x704, .bf16⟩
  | .hbm, ⟨65, _⟩ => ⟨S4096x2x4x704, .f32⟩
  | .hbm, ⟨66, _⟩ => ⟨S2x4x4096x704, .f32⟩
  | .hbm, ⟨67, _⟩ => ⟨S2x4x4096x704, .bf16⟩
  | .hbm, ⟨68, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== ConvFwd.lean ====
abbrev S2x2048x1024 : Shape := ⟨3, ![2, 2048, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S1x512 : Shape := ⟨2, ![1, 512]⟩
abbrev S2048x128 : Shape := ⟨2, ![2048, 128]⟩
abbrev S3x128 : Shape := ⟨2, ![3, 128]⟩
abbrev S1x128 : Shape := ⟨2, ![1, 128]⟩
abbrev S128x128 : Shape := ⟨2, ![128, 128]⟩
abbrev S16x128 : Shape := ⟨2, ![16, 128]⟩
abbrev S8x128 : Shape := ⟨2, ![8, 128]⟩
abbrev S512x128 : Shape := ⟨2, ![512, 128]⟩
abbrev S520x128 : Shape := ⟨2, ![520, 128]⟩

abbrev nBuf : Space → Nat
  | .hbm => 28
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S3x512, .f32⟩
  | .hbm, ⟨4, _⟩ => ⟨S512, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x3072, .bf16⟩
  | .hbm, ⟨25, _⟩ => ⟨S4096x3072, .f32⟩
  | .hbm, ⟨26, _⟩ => ⟨S1x512, .f32⟩
  | .hbm, ⟨27, _⟩ => ⟨S4096x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S2048x128, .bf16⟩
  | .local _ .vmem, ⟨11, _⟩ => ⟨S2048x128, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_mult1 : BitVec 32 :=
  let c0_i32 : BitVec 32 := 0#32
  let c512_i32 : BitVec 32 := 512#32
  let v13 : BitVec 32 := Scalar.muli c0_i32 c512_i32
  v13
def k0_mult2 : BitVec 32 :=
  let c0_i32 : BitVec 32 := 0#32
  let c512_i32_4 : BitVec 32 := 512#32
  let v15 : BitVec 32 := Scalar.muli c0_i32 c512_i32_4
  v15
def k0_mult3 : BitVec 32 :=
  let c0_i32 : BitVec 32 := 0#32
  let c512_i32_4 : BitVec 32 := 512#32
  let v15 : BitVec 32 := Scalar.muli c0_i32 c512_i32_4
  let v16 : BitVec 32 := v15
  let c16_i32 : BitVec 32 := 16#32
  let v17 : BitVec 32 := Scalar.subi v16 c16_i32
  let c0_i32_5 : BitVec 32 := 0#32
  let v18 : BitVec 32 := Scalar.maxsi v17 c0_i32_5
  v18
def k0_off1 (c0_i32 : BitVec 32) : Fin 2 → Nat :=
  let c512_i32_4 : BitVec 32 := 512#32
  let v15 : BitVec 32 := Scalar.muli c0_i32 c512_i32_4
  let v16 : BitVec 32 := v15
  let c16_i32 : BitVec 32 := 16#32
  let v17 : BitVec 32 := Scalar.subi v16 c16_i32
  let c0_i32_5 : BitVec 32 := 0#32
  let v18 : BitVec 32 := Scalar.maxsi v17 c0_i32_5
  let v19 : BitVec 32 := v18
  let v20 : Index := Scalar.indexCast v19
  let c0_6 : Index := 0#32
  ![v20.toNat, 0]
def k0_off2 (c0_i32 : BitVec 32) : Fin 2 → Nat :=
  let c512_i32_4 : BitVec 32 := 512#32
  let v15 : BitVec 32 := Scalar.muli c0_i32 c512_i32_4
  let v16 : BitVec 32 := v15
  let v29 : Index := Scalar.indexCast v16
  let c0_8 : Index := 0#32
  ![v29.toNat, 0]
def k0_mult4 : BitVec 32 :=
  let c0_i32 : BitVec 32 := 0#32
  let c512_i32_9 : BitVec 32 := 512#32
  let v33 : BitVec 32 := Scalar.muli c0_i32 c512_i32_9
  v33
def k0_mult5 : BitVec 32 :=
  let c0_i32 : BitVec 32 := 0#32
  let c512_i32_9 : BitVec 32 := 512#32
  let v33 : BitVec 32 := Scalar.muli c0_i32 c512_i32_9
  let v34 : BitVec 32 := v33
  let c16_i32_10 : BitVec 32 := 16#32
  let v35 : BitVec 32 := Scalar.subi v34 c16_i32_10
  let c0_i32_11 : BitVec 32 := 0#32
  let v36 : BitVec 32 := Scalar.maxsi v35 c0_i32_11
  v36
def k0_mult6 : BitVec 32 :=
  let c1_i32_21 : BitVec 32 := 1#32
  let c512_i32_22 : BitVec 32 := 512#32
  let v89 : BitVec 32 := Scalar.muli c1_i32_21 c512_i32_22
  v89
def k0_mult7 : BitVec 32 :=
  let c1_i32_21 : BitVec 32 := 1#32
  let c512_i32_23 : BitVec 32 := 512#32
  let v91 : BitVec 32 := Scalar.muli c1_i32_21 c512_i32_23
  v91
def k0_mult8 : BitVec 32 :=
  let c1_i32_21 : BitVec 32 := 1#32
  let c512_i32_23 : BitVec 32 := 512#32
  let v91 : BitVec 32 := Scalar.muli c1_i32_21 c512_i32_23
  let v92 : BitVec 32 := v91
  let c16_i32_24 : BitVec 32 := 16#32
  let v93 : BitVec 32 := Scalar.subi v92 c16_i32_24
  let c0_i32_25 : BitVec 32 := 0#32
  let v94 : BitVec 32 := Scalar.maxsi v93 c0_i32_25
  v94
def k0_mult9 : BitVec 32 :=
  let c1_i32_21 : BitVec 32 := 1#32
  let c512_i32_29 : BitVec 32 := 512#32
  let v109 : BitVec 32 := Scalar.muli c1_i32_21 c512_i32_29
  v109
def k0_mult10 : BitVec 32 :=
  let c1_i32_21 : BitVec 32 := 1#32
  let c512_i32_29 : BitVec 32 := 512#32
  let v109 : BitVec 32 := Scalar.muli c1_i32_21 c512_i32_29
  let v110 : BitVec 32 := v109
  let c16_i32_30 : BitVec 32 := 16#32
  let v111 : BitVec 32 := Scalar.subi v110 c16_i32_30
  let c0_i32_31 : BitVec 32 := 0#32
  let v112 : BitVec 32 := Scalar.maxsi v111 c0_i32_31
  v112
def k0_mult11 : BitVec 32 :=
  let c2_i32 : BitVec 32 := 2#32
  let c512_i32_43 : BitVec 32 := 512#32
  let v165 : BitVec 32 := Scalar.muli c2_i32 c512_i32_43
  v165
def k0_mult12 : BitVec 32 :=
  let c2_i32 : BitVec 32 := 2#32
  let c512_i32_44 : BitVec 32 := 512#32
  let v167 : BitVec 32 := Scalar.muli c2_i32 c512_i32_44
  v167
def k0_mult13 : BitVec 32 :=
  let c2_i32 : BitVec 32 := 2#32
  let c512_i32_44 : BitVec 32 := 512#32
  let v167 : BitVec 32 := Scalar.muli c2_i32 c512_i32_44
  let v168 : BitVec 32 := v167
  let c16_i32_45 : BitVec 32 := 16#32
  let v169 : BitVec 32 := Scalar.subi v168 c16_i32_45
  let c0_i32_46 : BitVec 32 := 0#32
  let v170 : BitVec 32 := Scalar.maxsi v169 c0_i32_46
  v170
def k0_mult14 : BitVec 32 :=
  let c2_i32 : BitVec 32 := 2#32
  let c512_i32_50 : BitVec 32 := 512#32
  let v185 : BitVec 32 := Scalar.muli c2_i32 c512_i32_50
  v185
def k0_mult15 : BitVec 32 :=
  let c2_i32 : BitVec 32 := 2#32
  let c512_i32_50 : BitVec 32 := 512#32
  let v185 : BitVec 32 := Scalar.muli c2_i32 c512_i32_50
  let v186 : BitVec 32 := v185
  let c16_i32_51 : BitVec 32 := 16#32
  let v187 : BitVec 32 := Scalar.subi v186 c16_i32_51
  let c0_i32_52 : BitVec 32 := 0#32
  let v188 : BitVec 32 := Scalar.maxsi v187 c0_i32_52
  v188
def k0_mult16 : BitVec 32 :=
  let c3_i32 : BitVec 32 := 3#32
  let c512_i32_64 : BitVec 32 := 512#32
  let v241 : BitVec 32 := Scalar.muli c3_i32 c512_i32_64
  v241
def k0_mult17 : BitVec 32 :=
  let c3_i32 : BitVec 32 := 3#32
  let c512_i32_65 : BitVec 32 := 512#32
  let v243 : BitVec 32 := Scalar.muli c3_i32 c512_i32_65
  v243
def k0_mult18 : BitVec 32 :=
  let c3_i32 : BitVec 32 := 3#32
  let c512_i32_65 : BitVec 32 := 512#32
  let v243 : BitVec 32 := Scalar.muli c3_i32 c512_i32_65
  let v244 : BitVec 32 := v243
  let c16_i32_66 : BitVec 32 := 16#32
  let v245 : BitVec 32 := Scalar.subi v244 c16_i32_66
  let c0_i32_67 : BitVec 32 := 0#32
  let v246 : BitVec 32 := Scalar.maxsi v245 c0_i32_67
  v246
def k0_mult19 : BitVec 32 :=
  let c3_i32 : BitVec 32 := 3#32
  let c512_i32_71 : BitVec 32 := 512#32
  let v261 : BitVec 32 := Scalar.muli c3_i32 c512_i32_71
  v261
def k0_mult20 : BitVec 32 :=
  let c3_i32 : BitVec 32 := 3#32
  let c512_i32_71 : BitVec 32 := 512#32
  let v261 : BitVec 32 := Scalar.muli c3_i32 c512_i32_71
  let v262 : BitVec 32 := v261
  let c16_i32_72 : BitVec 32 := 16#32
  let v263 : BitVec 32 := Scalar.subi v262 c16_i32_72
  let c0_i32_73 : BitVec 32 := 0#32
  let v264 : BitVec 32 := Scalar.maxsi v263 c0_i32_73
  v264
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvFwdRefIdeal.lean ====
abbrev S2x2048x1024 : Shape := ⟨3, ![2, 2048, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S4096x1024 : Shape := ⟨2, ![4096, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3072 : Shape := ⟨3, ![2, 2048, 3072]⟩
abbrev S2x2048x1536 : Shape := ⟨3, ![2, 2048, 1536]⟩
abbrev S2x2048x512 : Shape := ⟨3, ![2, 2048, 512]⟩
abbrev S2x2x512 : Shape := ⟨3, ![2, 2, 512]⟩
abbrev S2x2050x512 : Shape := ⟨3, ![2, 2050, 512]⟩
abbrev S1x512 : Shape := ⟨2, ![1, 512]⟩
abbrev S1x1x512 : Shape := ⟨3, ![1, 1, 512]⟩
abbrev S2x2048x8x64 : Shape := ⟨4, ![2, 2048, 8, 64]⟩
abbrev S8x64 : Shape := ⟨2, ![8, 64]⟩
abbrev S2x2048x8 : Shape := ⟨3, ![2, 2048, 8]⟩
abbrev S2x2048x8x1 : Shape := ⟨4, ![2, 2048, 8, 1]⟩
abbrev S1x1x8x64 : Shape := ⟨4, ![1, 1, 8, 64]⟩
abbrev S4096x512 : Shape := ⟨2, ![4096, 512]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S3x512, .f32⟩
  | .hbm, ⟨4, _⟩ => ⟨S512, .f32⟩
  | .hbm, ⟨5, _⟩ => ⟨S4096x1024, .bf16⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x3072, .f32⟩
  | .hbm, ⟨23, _⟩ => ⟨S2x2048x1536, .f32⟩
  | .hbm, ⟨24, _⟩ => ⟨S2x2048x512, .f32⟩
  | .hbm, ⟨25, _⟩ => ⟨S2x2048x512, .f32⟩
  | .hbm, ⟨26, _⟩ => ⟨S2x2048x512, .f32⟩
  | .hbm, ⟨27, _⟩ => ⟨S2x2048x512, .f32⟩
  | .hbm, ⟨28, _⟩ => ⟨S_, .f32⟩
  | .hbm, ⟨29, _⟩ => ⟨S2x2x512, .f32⟩
  | .hbm, ⟨30, _⟩ => ⟨S2x2050x512, .f32⟩
  | .hbm, ⟨31, _⟩ => ⟨S2x2048x512, .f32⟩
  | .hbm, ⟨32, _⟩ => ⟨S1x512, .f32⟩
  | .hbm, ⟨33, _⟩ => ⟨S512, .f32⟩
  | .hbm, ⟨34, _⟩ => ⟨S1x1x512, .f32⟩
  | .hbm, ⟨35, _⟩ => ⟨S2x2048x512, .f32⟩
  | .hbm, ⟨36, _⟩ => ⟨S2x2048x512, .f32⟩
  | .hbm, ⟨37, _⟩ => ⟨S_, .f32⟩
  | .hbm, ⟨38, _⟩ => ⟨S2x2048x512, .f32⟩
  | .hbm, ⟨39, _⟩ => ⟨S2x2048x512, .f32⟩
  | .hbm, ⟨40, _⟩ => ⟨S2x2048x512, .f32⟩
  | .hbm, ⟨41, _⟩ => ⟨S1x512, .f32⟩
  | .hbm, ⟨42, _⟩ => ⟨S512, .f32⟩
  | .hbm, ⟨43, _⟩ => ⟨S1x1x512, .f32⟩
  | .hbm, ⟨44, _⟩ => ⟨S2x2048x512, .f32⟩
  | .hbm, ⟨45, _⟩ => ⟨S2x2048x512, .f32⟩
  | .hbm, ⟨46, _⟩ => ⟨S2x2048x512, .f32⟩
  | .hbm, ⟨47, _⟩ => ⟨S2x2048x512, .f32⟩
  | .hbm, ⟨48, _⟩ => ⟨S1x512, .f32⟩
  | .hbm, ⟨49, _⟩ => ⟨S512, .f32⟩
  | .hbm, ⟨50, _⟩ => ⟨S1x1x512, .f32⟩
  | .hbm, ⟨51, _⟩ => ⟨S2x2048x512, .f32⟩
  | .hbm, ⟨52, _⟩ => ⟨S2x2048x512, .f32⟩
  | .hbm, ⟨53, _⟩ => ⟨S2x2048x512, .f32⟩
  | .hbm, ⟨54, _⟩ => ⟨S2x2048x512, .f32⟩
  | .hbm, ⟨55, _⟩ => ⟨S2x2048x8x64, .f32⟩
  | .hbm, ⟨56, _⟩ => ⟨S8x64, .f32⟩
  | .hbm, ⟨57, _⟩ => ⟨S2x2048x8x64, .f32⟩
  | .hbm, ⟨58, _⟩ => ⟨S_, .f32⟩
  | .hbm, ⟨59, _⟩ => ⟨S2x2048x8, .f32⟩
  | .hbm, ⟨60, _⟩ => ⟨S2x2048x8x1, .f32⟩
  | .hbm, ⟨61, _⟩ => ⟨S_, .f32⟩
  | .hbm, ⟨62, _⟩ => ⟨S2x2048x8x1, .f32⟩
  | .hbm, ⟨63, _⟩ => ⟨S2x2048x8x1, .f32⟩
  | .hbm, ⟨64, _⟩ => ⟨S_, .f32⟩
  | .hbm, ⟨65, _⟩ => ⟨S2x2048x8x1, .f32⟩
  | .hbm, ⟨66, _⟩ => ⟨S2x2048x8x1, .f32⟩
  | .hbm, ⟨67, _⟩ => ⟨S2x2048x8x1, .f32⟩
  | .hbm, ⟨68, _⟩ => ⟨S2x2048x8x64, .f32⟩
  | .hbm, ⟨69, _⟩ => ⟨S2x2048x8x64, .f32⟩
  | .hbm, ⟨70, _⟩ => ⟨S1x1x8x64, .f32⟩
  | .hbm, ⟨71, _⟩ => ⟨S2x2048x8x64, .f32⟩
  | .hbm, ⟨72, _⟩ => ⟨S2x2048x8x64, .f32⟩
  | .hbm, ⟨73, _⟩ => ⟨S2x2048x512, .f32⟩
  | .hbm, ⟨74, _⟩ => ⟨S4096x512, .bf16⟩
  | .hbm, ⟨75, _⟩ => ⟨S4096x512, .f32⟩
  | .hbm, ⟨76, _⟩ => ⟨S4096x512, .bf16⟩
  | .hbm, ⟨77, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Mix.lean ====
abbrev S2x2048x512 : Shape := ⟨3, ![2, 2048, 512]⟩
abbrev S1024x1024 : Shape := ⟨2, ![1024, 1024]⟩
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1024x1024, .f32⟩
  | .hbm, ⟨3, _⟩ => ⟨S2x2048x1024, .f32⟩
  | .hbm, ⟨4, _⟩ => ⟨S1024, .f32⟩
  | .hbm, ⟨5, _⟩ => ⟨S2x2048x1024, .f32⟩
  | .hbm, ⟨6, _⟩ => ⟨S4096x1024, .f32⟩
  | .hbm, ⟨7, _⟩ => ⟨S4096x1024, .bf16⟩
  | .hbm, ⟨8, _⟩ => ⟨S1024x1024, .bf16⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixRefIdeal.lean ====
abbrev S2x2048x512 : Shape := ⟨3, ![2, 2048, 512]⟩
abbrev S1024x1024 : Shape := ⟨2, ![1024, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1024x1024, .f32⟩
  | .hbm, ⟨3, _⟩ => ⟨S2x2048x1024, .f32⟩
  | .hbm, ⟨4, _⟩ => ⟨S1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Rms.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S_, .f32⟩
  | .hbm, ⟨4, _⟩ => ⟨S2x2048, .f32⟩
  | .hbm, ⟨5, _⟩ => ⟨S2x2048x1, .f32⟩
  | .hbm, ⟨6, _⟩ => ⟨S_, .f32⟩
  | .hbm, ⟨7, _⟩ => ⟨S2x2048x1, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S2x2048x1, .f32⟩
  | .hbm, ⟨13, _⟩ => ⟨S2x2048x1024, .f32⟩
  | .hbm, ⟨14, _⟩ => ⟨S2x2048x1024, .f32⟩
  | .hbm, ⟨15, _⟩ => ⟨S1x1x1024, .f32⟩
  | .hbm, ⟨16, _⟩ => ⟨S2x2048x1024, .f32⟩
  | .hbm, ⟨17, _⟩ => ⟨S2x2048x1024, .f32⟩
  | .hbm, ⟨18, _⟩ => ⟨S4096x1024, .f32⟩
  | .hbm, ⟨19, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Up.lean ====
abbrev S2x2048x1024 : Shape := ⟨3, ![2, 2048, 1024]⟩
abbrev S2x2048x5632 : Shape := ⟨3, ![2, 2048, 5632]⟩
abbrev S4096x8x704 : Shape := ⟨3, ![4096, 8, 704]⟩
abbrev S8x4096x704 : Shape := ⟨3, ![8, 4096, 704]⟩
abbrev S4096x1024 : Shape := ⟨2, ![4096, 1024]⟩
abbrev S8x704x1024 : Shape := ⟨3, ![8, 704, 1024]⟩
abbrev S1x4096x704 : Shape := ⟨3, ![1, 4096, 704]⟩
abbrev S1x704x1024 : Shape := ⟨3, ![1, 704, 1024]⟩
abbrev S1x1024x704 : Shape := ⟨3, ![1, 1024, 704]⟩
abbrev S1024x704 : Shape := ⟨2, ![1024, 704]⟩
abbrev S1024x1024 : Shape := ⟨2, ![1024, 1024]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S4096x8x704, .f32⟩
  | .hbm, ⟨3, _⟩ => ⟨S8x4096x704, .f32⟩
  | .hbm, ⟨4, _⟩ => ⟨S8x4096x704, .bf16⟩
  | .hbm, ⟨5, _⟩ => ⟨S4096x1024, .f32⟩
  | .hbm, ⟨6, _⟩ => ⟨S4096x1024, .bf16⟩
  | .hbm, ⟨7, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== UpRefIdeal.lean ====
abbrev S2x2048x1024 : Shape := ⟨3, ![2, 2048, 1024]⟩
abbrev S2x2048x5632 : Shape := ⟨3, ![2, 2048, 5632]⟩
abbrev S4096x5632 : Shape := ⟨2, ![4096, 5632]⟩
abbrev S5632x4096 : Shape := ⟨2, ![5632, 4096]⟩
abbrev S4096x1024 : Shape := ⟨2, ![4096, 1024]⟩
abbrev S5632x1024 : Shape := ⟨2, ![5632, 1024]⟩
abbrev S8x704x1024 : Shape := ⟨3, ![8, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S4096x5632, .f32⟩
  | .hbm, ⟨3, _⟩ => ⟨S5632x4096, .f32⟩
  | .hbm, ⟨4, _⟩ => ⟨S4096x1024, .f32⟩
  | .hbm, ⟨5, _⟩ => ⟨S5632x1024, .f32⟩
  | .hbm, ⟨6, _⟩ => ⟨S8x704x1024, .f32⟩
  | .hbm, ⟨7, _⟩ => ⟨S8x704x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Adam.lean ====
abbrev S8x1024x704 : Shape := ⟨3, ![8, 1024, 704]⟩
abbrev S2x1024x704 : Shape := ⟨3, ![2, 1024, 704]⟩
abbrev S8x704x1024 : Shape := ⟨3, ![8, 704, 1024]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x1024x704, .f32⟩
  | .hbm, ⟨1, _⟩ => ⟨S8x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x704x1024, .f32⟩
  | .hbm, ⟨6, _⟩ => ⟨S8x704x1024, .bf16⟩
  | .hbm, ⟨7, _⟩ => ⟨S8x704x1024, .f32⟩
  | .hbm, ⟨8, _⟩ => ⟨S8x704x1024, .bf16⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamRefIdeal.lean ====
abbrev S8x1024x704 : Shape := ⟨3, ![8, 1024, 704]⟩
abbrev S2x1024x704 : Shape := ⟨3, ![2, 1024, 704]⟩
abbrev S_ : Shape := ⟨0, ![]⟩
abbrev S1024x704 : Shape := ⟨2, ![1024, 704]⟩
abbrev S1x1024x704 : Shape := ⟨3, ![1, 1024, 704]⟩
abbrev S2x704x1024 : Shape := ⟨3, ![2, 704, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S8x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1x1024x704, .f32⟩
  | .hbm, ⟨10, _⟩ => ⟨S1x1024x704, .f32⟩
  | .hbm, ⟨11, _⟩ => ⟨S2x1024x704, .f32⟩
  | .hbm, ⟨12, _⟩ => ⟨S_, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x1024x704, .f32⟩
  | .hbm, ⟨38, _⟩ => ⟨S_, .f32⟩
  | .hbm, ⟨39, _⟩ => ⟨S2x1024x704, .f32⟩
  | .hbm, ⟨40, _⟩ => ⟨S2x1024x704, .f32⟩
  | .hbm, ⟨41, _⟩ => ⟨S2x1024x704, .f32⟩
  | .hbm, ⟨42, _⟩ => ⟨S_, .f32⟩
  | .hbm, ⟨43, _⟩ => ⟨S2x1024x704, .f32⟩
  | .hbm, ⟨44, _⟩ => ⟨S2x1024x704, .f32⟩
  | .hbm, ⟨45, _⟩ => ⟨S2x704x1024, .f32⟩
  | .hbm, ⟨46, _⟩ => ⟨S2x704x1024, .f32⟩
  | .hbm, ⟨47, _⟩ => ⟨S2x704x1024, .f32⟩
  | .hbm, ⟨48, _⟩ => ⟨S2x704x1024, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AttnFwd.lean ====
abbrev S2x2048x1024 : Shape := ⟨3, ![2, 2048, 1024]⟩
abbrev S1024 : Shape := ⟨1, ![1024]⟩
abbrev S1024x3072 : Shape := ⟨2, ![1024, 3072]⟩
abbrev S512 : Shape := ⟨1, ![512]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S1x512 : Shape := ⟨2, ![1, 512]⟩
abbrev S8 : Shape := ⟨1, ![8]⟩
abbrev S8x1 : Shape := ⟨2, ![8, 1]⟩
abbrev S8x256 : Shape := ⟨2, ![8, 256]⟩
abbrev S4096x512 : Shape := ⟨2, ![4096, 512]⟩
abbrev S2048x128 : Shape := ⟨2, ![2048, 128]⟩
abbrev S1x128 : Shape := ⟨2, ![1, 128]⟩
abbrev S1x256 : Shape := ⟨2, ![1, 256]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S128x1 : Shape := ⟨2, ![128, 1]⟩
abbrev S128x512 : Shape := ⟨2, ![128, 512]⟩
abbrev S512x128 : Shape := ⟨2, ![512, 128]⟩

abbrev nBuf : Space → Nat
  | .hbm => 43
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S512, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x3072, .bf16⟩
  | .hbm, ⟨23, _⟩ => ⟨S4096x3072, .f32⟩
  | .hbm, ⟨24, _⟩ => ⟨S1x512, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8x1, .f32⟩
  | .hbm, ⟨39, _⟩ => ⟨S8x256, .f32⟩
  | .hbm, ⟨40, _⟩ => ⟨S4096x512, .f32⟩
  | .hbm, ⟨41, _⟩ => ⟨S4096x512, .f32⟩
  | .hbm, ⟨42, _⟩ => ⟨S4096x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S8x256, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .bf16⟩
  | .local _ .vmem, ⟨14, _⟩ => ⟨S2048x128, .bf16⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_off1 (i : grid0.Coords) (c0_i32 : BitVec 32) : Fin 2 → Nat :=
  let c2_i32 : BitVec 32 := 2#32
  let arg1 : BitVec 32 := BitVec.ofNat 32 (i 1).val
  let v9 : BitVec 32 := Scalar.muli c2_i32 arg1
  let v10 : BitVec 32 := Scalar.addi v9 c0_i32
  let v11 : Index := Scalar.indexCast v10
  let c0 : Index := 0#32
  ![v11.toNat, 0]
def k0_mult1 : BitVec 32 :=
  let c0_i32_8 : BitVec 32 := 0#32
  c0_i32_8
def k0_mult2 : BitVec 32 :=
  let c0_i32_21 : BitVec 32 := 0#32
  let c1_i32_20 : BitVec 32 := 1#32
  let v113 : BitVec 32 := Scalar.addi c0_i32_21 c1_i32_20
  let c128_i32_22 : BitVec 32 := 128#32
  let v114 : BitVec 32 := Scalar.muli v113 c128_i32_22
  v114
def k0_mult3 : BitVec 32 :=
  let c0_i32_23 : BitVec 32 := 0#32
  let c1_i32_20 : BitVec 32 := 1#32
  let v116 : BitVec 32 := Scalar.addi c0_i32_23 c1_i32_20
  let c1_i32_24 : BitVec 32 := 1#32
  let v117 : BitVec 32 := Scalar.subi v116 c1_i32_24
  let c128_i32_25 : BitVec 32 := 128#32
  let v118 : BitVec 32 := Scalar.muli v117 c128_i32_25
  v118
def k0_off2 (c1_i32_20 : BitVec 32) : Fin 2 → Nat :=
  let c0_i32_21 : BitVec 32 := 0#32
  let v113 : BitVec 32 := Scalar.addi c0_i32_21 c1_i32_20
  let c128_i32_22 : BitVec 32 := 128#32
  let v114 : BitVec 32 := Scalar.muli v113 c128_i32_22
  let v115 : BitVec 32 := v114
  let v120 : Index := Scalar.indexCast v115
  let c0_26 : Index := 0#32
  ![v120.toNat, 0]
def k0_off3 (c1_i32_20 : BitVec 32) : Fin 2 → Nat :=
  let c0_i32_23 : BitVec 32 := 0#32
  let v116 : BitVec 32 := Scalar.addi c0_i32_23 c1_i32_20
  let c1_i32_24 : BitVec 32 := 1#32
  let v117 : BitVec 32 := Scalar.subi v116 c1_i32_24
  let c128_i32_25 : BitVec 32 := 128#32
  let v118 : BitVec 32 := Scalar.muli v117 c128_i32_25
  let v119 : BitVec 32 := v118
  let v131 : Index := Scalar.indexCast v119
  let c0_28 : Index := 0#32
  ![v131.toNat, 0]
def k0_mult4 : BitVec 32 :=
  let c0_i32_40 : BitVec 32 := 0#32
  let c2_i32_39 : BitVec 32 := 2#32
  let v196 : BitVec 32 := Scalar.addi c0_i32_40 c2_i32_39
  let c128_i32_41 : BitVec 32 := 128#32
  let v197 : BitVec 32 := Scalar.muli v196 c128_i32_41
  v197
def k0_mult5 : BitVec 32 :=
  let c0_i32_42 : BitVec 32 := 0#32
  let c2_i32_39 : BitVec 32 := 2#32
  let v199 : BitVec 32 := Scalar.addi c0_i32_42 c2_i32_39
  let c1_i32_43 : BitVec 32 := 1#32
  let v200 : BitVec 32 := Scalar.subi v199 c1_i32_43
  let c128_i32_44 : BitVec 32 := 128#32
  let v201 : BitVec 32 := Scalar.muli v200 c128_i32_44
  v201
def k0_mult6 : BitVec 32 :=
  let c0_i32_58 : BitVec 32 := 0#32
  let c3_i32 : BitVec 32 := 3#32
  let v279 : BitVec 32 := Scalar.addi c0_i32_58 c3_i32
  let c128_i32_59 : BitVec 32 := 128#32
  let v280 : BitVec 32 := Scalar.muli v279 c128_i32_59
  v280
def k0_mult7 : BitVec 32 :=
  let c0_i32_60 : BitVec 32 := 0#32
  let c3_i32 : BitVec 32 := 3#32
  let v282 : BitVec 32 := Scalar.addi c0_i32_60 c3_i32
  let c1_i32_61 : BitVec 32 := 1#32
  let v283 : BitVec 32 := Scalar.subi v282 c1_i32_61
  let c128_i32_62 : BitVec 32 := 128#32
  let v284 : BitVec 32 := Scalar.muli v283 c128_i32_62
  v284
def k0_mult8 : BitVec 32 :=
  let c0_i32_76 : BitVec 32 := 0#32
  let c4_i32 : BitVec 32 := 4#32
  let v362 : BitVec 32 := Scalar.addi c0_i32_76 c4_i32
  let c128_i32_77 : BitVec 32 := 128#32
  let v363 : BitVec 32 := Scalar.muli v362 c128_i32_77
  v363
def k0_mult9 : BitVec 32 :=
  let c0_i32_78 : BitVec 32 := 0#32
  let c4_i32 : BitVec 32 := 4#32
  let v365 : BitVec 32 := Scalar.addi c0_i32_78 c4_i32
  let c1_i32_79 : BitVec 32 := 1#32
  let v366 : BitVec 32 := Scalar.subi v365 c1_i32_79
  let c128_i32_80 : BitVec 32 := 128#32
  let v367 : BitVec 32 := Scalar.muli v366 c128_i32_80
  v367
def k0_mult10 : BitVec 32 :=
  let c0_i32_94 : BitVec 32 := 0#32
  let c5_i32 : BitVec 32 := 5#32
  let v445 : BitVec 32 := Scalar.addi c0_i32_94 c5_i32
  let c128_i32_95 : BitVec 32 := 128#32
  let v446 : BitVec 32 := Scalar.muli v445 c128_i32_95
  v446
def k0_mult11 : BitVec 32 :=
  let c0_i32_96 : BitVec 32 := 0#32
  let c5_i32 : BitVec 32 := 5#32
  let v448 : BitVec 32 := Scalar.addi c0_i32_96 c5_i32
  let c1_i32_97 : BitVec 32 := 1#32
  let v449 : BitVec 32 := Scalar.subi v448 c1_i32_97
  let c128_i32_98 : BitVec 32 := 128#32
  let v450 : BitVec 32 := Scalar.muli v449 c128_i32_98
  v450
def k0_mult12 : BitVec 32 :=
  let c0_i32_112 : BitVec 32 := 0#32
  let c6_i32 : BitVec 32 := 6#32
  let v528 : BitVec 32 := Scalar.addi c0_i32_112 c6_i32
  let c128_i32_113 : BitVec 32 := 128#32
  let v529 : BitVec 32 := Scalar.muli v528 c128_i32_113
  v529
def k0_mult13 : BitVec 32 :=
  let c0_i32_114 : BitVec 32 := 0#32
  let c6_i32 : BitVec 32 := 6#32
  let v531 : BitVec 32 := Scalar.addi c0_i32_114 c6_i32
  let c1_i32_115 : BitVec 32 := 1#32
  let v532 : BitVec 32 := Scalar.subi v531 c1_i32_115
  let c128_i32_116 : BitVec 32 := 128#32
  let v533 : BitVec 32 := Scalar.muli v532 c128_i32_116
  v533
def k0_mult14 : BitVec 32 :=
  let c0_i32_130 : BitVec 32 := 0#32
  let c7_i32 : BitVec 32 := 7#32
  let v611 : BitVec 32 := Scalar.addi c0_i32_130 c7_i32
  let c128_i32_131 : BitVec 32 := 128#32
  let v612 : BitVec 32 := Scalar.muli v611 c128_i32_131
  v612
def k0_mult15 : BitVec 32 :=
  let c0_i32_132 : BitVec 32 := 0#32
  let c7_i32 : BitVec 32 := 7#32
  let v614 : BitVec 32 := Scalar.addi c0_i32_132 c7_i32
  let c1_i32_133 : BitVec 32 := 1#32
  let v615 : BitVec 32 := Scalar.subi v614 c1_i32_133
  let c128_i32_134 : BitVec 32 := 128#32
  let v616 : BitVec 32 := Scalar.muli v615 c128_i32_134
  v616
def k0_mult16 : BitVec 32 :=
  let c0_i32_148 : BitVec 32 := 0#32
  let c8_i32 : BitVec 32 := 8#32
  let v694 : BitVec 32 := Scalar.addi c0_i32_148 c8_i32
  let c128_i32_149 : BitVec 32 := 128#32
  let v695 : BitVec 32 := Scalar.muli v694 c128_i32_149
  v695
def k0_mult17 : BitVec 32 :=
  let c0_i32_150 : BitVec 32 := 0#32
  let c8_i32 : BitVec 32 := 8#32
  let v697 : BitVec 32 := Scalar.addi c0_i32_150 c8_i32
  let c1_i32_151 : BitVec 32 := 1#32
  let v698 : BitVec 32 := Scalar.subi v697 c1_i32_151
  let c128_i32_152 : BitVec 32 := 128#32
  let v699 : BitVec 32 := Scalar.muli v698 c128_i32_152
  v699
def k0_mult18 : BitVec 32 :=
  let c0_i32_166 : BitVec 32 := 0#32
  let c9_i32 : BitVec 32 := 9#32
  let v777 : BitVec 32 := Scalar.addi c0_i32_166 c9_i32
  let c128_i32_167 : BitVec 32 := 128#32
  let v778 : BitVec 32 := Scalar.muli v777 c128_i32_167
  v778
def k0_mult19 : BitVec 32 :=
  let c0_i32_168 : BitVec 32 := 0#32
  let c9_i32 : BitVec 32 := 9#32
  let v780 : BitVec 32 := Scalar.addi c0_i32_168 c9_i32
  let c1_i32_169 : BitVec 32 := 1#32
  let v781 : BitVec 32 := Scalar.subi v780 c1_i32_169
  let c128_i32_170 : BitVec 32 := 128#32
  let v782 : BitVec 32 := Scalar.muli v781 c128_i32_170
  v782
def k0_mult20 : BitVec 32 :=
  let c0_i32_184 : BitVec 32 := 0#32
  let c10_i32 : BitVec 32 := 10#32
  let v860 : BitVec 32 := Scalar.addi c0_i32_184 c10_i32
  let c128_i32_185 : BitVec 32 := 128#32
  let v861 : BitVec 32 := Scalar.muli v860 c128_i32_185
  v861
def k0_mult21 : BitVec 32 :=
  let c0_i32_186 : BitVec 32 := 0#32
  let c10_i32 : BitVec 32 := 10#32
  let v863 : BitVec 32 := Scalar.addi c0_i32_186 c10_i32
  let c1_i32_187 : BitVec 32 := 1#32
  let v864 : BitVec 32 := Scalar.subi v863 c1_i32_187
  let c128_i32_188 : BitVec 32 := 128#32
  let v865 : BitVec 32 := Scalar.muli v864 c128_i32_188
  v865
def k0_mult22 : BitVec 32 :=
  let c0_i32_202 : BitVec 32 := 0#32
  let c11_i32 : BitVec 32 := 11#32
  let v943 : BitVec 32 := Scalar.addi c0_i32_202 c11_i32
  let c128_i32_203 : BitVec 32 := 128#32
  let v944 : BitVec 32 := Scalar.muli v943 c128_i32_203
  v944
def k0_mult23 : BitVec 32 :=
  let c0_i32_204 : BitVec 32 := 0#32
  let c11_i32 : BitVec 32 := 11#32
  let v946 : BitVec 32 := Scalar.addi c0_i32_204 c11_i32
  let c1_i32_205 : BitVec 32 := 1#32
  let v947 : BitVec 32 := Scalar.subi v946 c1_i32_205
  let c128_i32_206 : BitVec 32 := 128#32
  let v948 : BitVec 32 := Scalar.muli v947 c128_i32_206
  v948
def k0_mult24 : BitVec 32 :=
  let c0_i32_220 : BitVec 32 := 0#32
  let c12_i32 : BitVec 32 := 12#32
  let v1026 : BitVec 32 := Scalar.addi c0_i32_220 c12_i32
  let c128_i32_221 : BitVec 32 := 128#32
  let v1027 : BitVec 32 := Scalar.muli v1026 c128_i32_221
  v1027
def k0_mult25 : BitVec 32 :=
  let c0_i32_222 : BitVec 32 := 0#32
  let c12_i32 : BitVec 32 := 12#32
  let v1029 : BitVec 32 := Scalar.addi c0_i32_222 c12_i32
  let c1_i32_223 : BitVec 32 := 1#32
  let v1030 : BitVec 32 := Scalar.subi v1029 c1_i32_223
  let c128_i32_224 : BitVec 32 := 128#32
  let v1031 : BitVec 32 := Scalar.muli v1030 c128_i32_224
  v1031
def k0_mult26 : BitVec 32 :=
  let c0_i32_238 : BitVec 32 := 0#32
  let c13_i32 : BitVec 32 := 13#32
  let v1109 : BitVec 32 := Scalar.addi c0_i32_238 c13_i32
  let c128_i32_239 : BitVec 32 := 128#32
  let v1110 : BitVec 32 := Scalar.muli v1109 c128_i32_239
  v1110
def k0_mult27 : BitVec 32 :=
  let c0_i32_240 : BitVec 32 := 0#32
  let c13_i32 : BitVec 32 := 13#32
  let v1112 : BitVec 32 := Scalar.addi c0_i32_240 c13_i32
  let c1_i32_241 : BitVec 32 := 1#32
  let v1113 : BitVec 32 := Scalar.subi v1112 c1_i32_241
  let c128_i32_242 : BitVec 32 := 128#32
  let v1114 : BitVec 32 := Scalar.muli v1113 c128_i32_242
  v1114
def k0_mult28 : BitVec 32 :=
  let c0_i32_256 : BitVec 32 := 0#32
  let c14_i32 : BitVec 32 := 14#32
  let v1192 : BitVec 32 := Scalar.addi c0_i32_256 c14_i32
  let c128_i32_257 : BitVec 32 := 128#32
  let v1193 : BitVec 32 := Scalar.muli v1192 c128_i32_257
  v1193
def k0_mult29 : BitVec 32 :=
  let c0_i32_258 : BitVec 32 := 0#32
  let c14_i32 : BitVec 32 := 14#32
  let v1195 : BitVec 32 := Scalar.addi c0_i32_258 c14_i32
  let c1_i32_259 : BitVec 32 := 1#32
  let v1196 : BitVec 32 := Scalar.subi v1195 c1_i32_259
  let c128_i32_260 : BitVec 32 := 128#32
  let v1197 : BitVec 32 := Scalar.muli v1196 c128_i32_260
  v1197
def k0_mult30 : BitVec 32 :=
  let c0_i32_274 : BitVec 32 := 0#32
  let c15_i32 : BitVec 32 := 15#32
  let v1275 : BitVec 32 := Scalar.addi c0_i32_274 c15_i32
  let c128_i32_275 : BitVec 32 := 128#32
  let v1276 : BitVec 32 := Scalar.muli v1275 c128_i32_275
  v1276
def k0_mult31 : BitVec 32 :=
  let c0_i32_276 : BitVec 32 := 0#32
  let c15_i32 : BitVec 32 := 15#32
  let v1278 : BitVec 32 := Scalar.addi c0_i32_276 c15_i32
  let c1_i32_277 : BitVec 32 := 1#32
  let v1279 : BitVec 32 := Scalar.subi v1278 c1_i32_277
  let c128_i32_278 : BitVec 32 := 128#32
  let v1280 : BitVec 32 := Scalar.muli v1279 c128_i32_278
  v1280
def k0_mult32 : BitVec 32 :=
  let c0_i32_342 : BitVec 32 := 0#32
  let c4_i32_343 : BitVec 32 := 4#32
  let v1442 : BitVec 32 := Scalar.muli c0_i32_342 c4_i32_343
  let c128_i32_344 : BitVec 32 := 128#32
  let v1443 : BitVec 32 := Scalar.muli v1442 c128_i32_344
  v1443
def k0_off4 (c0_i32_342 : BitVec 32) (c4_i32_343 : BitVec 32) : Fin 2 → Nat :=
  let v1442 : BitVec 32 := Scalar.muli c0_i32_342 c4_i32_343
  let c128_i32_344 : BitVec 32 := 128#32
  let v1443 : BitVec 32 := Scalar.muli v1442 c128_i32_344
  let v1444 : BitVec 32 := v1443
  let v1445 : Index := Scalar.indexCast v1444
  let c0_345 : Index := 0#32
  ![v1445.toNat, 0]
def k0_off4_at (r : Fin 20) : BitVec 32 × BitVec 32 :=
  if r.val < 10 then
    if r.val < 5 then
      if r.val < 2 then
        if r.val < 1 then
          (0#32, 4#32)
        else
          (1#32, 4#32)
      else
        if r.val < 3 then
          (2#32, 4#32)
        else
          if r.val < 4 then
            (3#32, 4#32)
          else
            (0#32, 1#32)
    else
      if r.val < 7 then
        if r.val < 6 then
          (1#32, 1#32)
        else
          (2#32, 1#32)
      else
        if r.val < 8 then
          (3#32, 1#32)
        else
          if r.val < 9 then
            (4#32, 1#32)
          else
            (5#32, 1#32)
  else
    if r.val < 15 then
      if r.val < 12 then
        if r.val < 11 then
          (6#32, 1#32)
        else
          (7#32, 1#32)
      else
        if r.val < 13 then
          (8#32, 1#32)
        else
          if r.val < 14 then
            (9#32, 1#32)
          else
            (10#32, 1#32)
    else
      if r.val < 17 then
        if r.val < 16 then
          (11#32, 1#32)
        else
          (12#32, 1#32)
      else
        if r.val < 18 then
          (13#32, 1#32)
        else
          if r.val < 19 then
            (14#32, 1#32)
          else
            (15#32, 1#32)
def k0_mult33 : BitVec 32 :=
  let c0_i32_342 : BitVec 32 := 0#32
  let c4_i32_343 : BitVec 32 := 4#32
  let v1442 : BitVec 32 := Scalar.muli c0_i32_342 c4_i32_343
  let c1_i32_356 : BitVec 32 := 1#32
  let v1511 : BitVec 32 := Scalar.addi v1442 c1_i32_356
  let c128_i32_357 : BitVec 32 := 128#32
  let v1512 : BitVec 32 := Scalar.muli v1511 c128_i32_357
  v1512
def k0_mult34 : BitVec 32 :=
  let c0_i32_342 : BitVec 32 := 0#32
  let c4_i32_343 : BitVec 32 := 4#32
  let v1442 : BitVec 32 := Scalar.muli c0_i32_342 c4_i32_343
  let c1_i32_356 : BitVec 32 := 1#32
  let v1514 : BitVec 32 := Scalar.addi v1442 c1_i32_356
  let c1_i32_358 : BitVec 32 := 1#32
  let v1515 : BitVec 32 := Scalar.subi v1514 c1_i32_358
  let c128_i32_359 : BitVec 32 := 128#32
  let v1516 : BitVec 32 := Scalar.muli v1515 c128_i32_359
  v1516
def k0_off5 (c0_i32_342 : BitVec 32) (c1_i32_356 : BitVec 32) : Fin 2 → Nat :=
  let c4_i32_343 : BitVec 32 := 4#32
  let v1442 : BitVec 32 := Scalar.muli c0_i32_342 c4_i32_343
  let v1511 : BitVec 32 := Scalar.addi v1442 c1_i32_356
  let c128_i32_357 : BitVec 32 := 128#32
  let v1512 : BitVec 32 := Scalar.muli v1511 c128_i32_357
  let v1513 : BitVec 32 := v1512
  let v1518 : Index := Scalar.indexCast v1513
  let c0_360 : Index := 0#32
  ![v1518.toNat, 0]
def k0_off6 (c0_i32_342 : BitVec 32) (c1_i32_356 : BitVec 32) : Fin 2 → Nat :=
  let c4_i32_343 : BitVec 32 := 4#32
  let v1442 : BitVec 32 := Scalar.muli c0_i32_342 c4_i32_343
  let v1514 : BitVec 32 := Scalar.addi v1442 c1_i32_356
  let c1_i32_358 : BitVec 32 := 1#32
  let v1515 : BitVec 32 := Scalar.subi v1514 c1_i32_358
  let c128_i32_359 : BitVec 32 := 128#32
  let v1516 : BitVec 32 := Scalar.muli v1515 c128_i32_359
  let v1517 : BitVec 32 := v1516
  let v1528 : Index := Scalar.indexCast v1517
  let c0_362 : Index := 0#32
  ![v1528.toNat, 0]
def k0_mult35 : BitVec 32 :=
  let c0_i32_342 : BitVec 32 := 0#32
  let c4_i32_343 : BitVec 32 := 4#32
  let v1442 : BitVec 32 := Scalar.muli c0_i32_342 c4_i32_343
  let c2_i32_373 : BitVec 32 := 2#32
  let v1589 : BitVec 32 := Scalar.addi v1442 c2_i32_373
  let c128_i32_374 : BitVec 32 := 128#32
  let v1590 : BitVec 32 := Scalar.muli v1589 c128_i32_374
  v1590
def k0_mult36 : BitVec 32 :=
  let c0_i32_342 : BitVec 32 := 0#32
  let c4_i32_343 : BitVec 32 := 4#32
  let v1442 : BitVec 32 := Scalar.muli c0_i32_342 c4_i32_343
  let c2_i32_373 : BitVec 32 := 2#32
  let v1592 : BitVec 32 := Scalar.addi v1442 c2_i32_373
  let c1_i32_375 : BitVec 32 := 1#32
  let v1593 : BitVec 32 := Scalar.subi v1592 c1_i32_375
  let c128_i32_376 : BitVec 32 := 128#32
  let v1594 : BitVec 32 := Scalar.muli v1593 c128_i32_376
  v1594
def k0_mult37 : BitVec 32 :=
  let c0_i32_342 : BitVec 32 := 0#32
  let c4_i32_343 : BitVec 32 := 4#32
  let v1442 : BitVec 32 := Scalar.muli c0_i32_342 c4_i32_343
  let c3_i32_390 : BitVec 32 := 3#32
  let v1667 : BitVec 32 := Scalar.addi v1442 c3_i32_390
  let c128_i32_391 : BitVec 32 := 128#32
  let v1668 : BitVec 32 := Scalar.muli v1667 c128_i32_391
  v1668
def k0_mult38 : BitVec 32 :=
  let c0_i32_342 : BitVec 32 := 0#32
  let c4_i32_343 : BitVec 32 := 4#32
  let v1442 : BitVec 32 := Scalar.muli c0_i32_342 c4_i32_343
  let c3_i32_390 : BitVec 32 := 3#32
  let v1670 : BitVec 32 := Scalar.addi v1442 c3_i32_390
  let c1_i32_392 : BitVec 32 := 1#32
  let v1671 : BitVec 32 := Scalar.subi v1670 c1_i32_392
  let c128_i32_393 : BitVec 32 := 128#32
  let v1672 : BitVec 32 := Scalar.muli v1671 c128_i32_393
  v1672
def k0_mult39 : BitVec 32 :=
  let c1_i32_408 : BitVec 32 := 1#32
  let c4_i32_409 : BitVec 32 := 4#32
  let v1745 : BitVec 32 := Scalar.muli c1_i32_408 c4_i32_409
  let c128_i32_410 : BitVec 32 := 128#32
  let v1746 : BitVec 32 := Scalar.muli v1745 c128_i32_410
  v1746
def k0_mult40 : BitVec 32 :=
  let c1_i32_408 : BitVec 32 := 1#32
  let c4_i32_409 : BitVec 32 := 4#32
  let v1745 : BitVec 32 := Scalar.muli c1_i32_408 c4_i32_409
  let c1_i32_422 : BitVec 32 := 1#32
  let v1814 : BitVec 32 := Scalar.addi v1745 c1_i32_422
  let c128_i32_423 : BitVec 32 := 128#32
  let v1815 : BitVec 32 := Scalar.muli v1814 c128_i32_423
  v1815
def k0_mult41 : BitVec 32 :=
  let c1_i32_408 : BitVec 32 := 1#32
  let c4_i32_409 : BitVec 32 := 4#32
  let v1745 : BitVec 32 := Scalar.muli c1_i32_408 c4_i32_409
  let c1_i32_422 : BitVec 32 := 1#32
  let v1817 : BitVec 32 := Scalar.addi v1745 c1_i32_422
  let c1_i32_424 : BitVec 32 := 1#32
  let v1818 : BitVec 32 := Scalar.subi v1817 c1_i32_424
  let c128_i32_425 : BitVec 32 := 128#32
  let v1819 : BitVec 32 := Scalar.muli v1818 c128_i32_425
  v1819
def k0_mult42 : BitVec 32 :=
  let c1_i32_408 : BitVec 32 := 1#32
  let c4_i32_409 : BitVec 32 := 4#32
  let v1745 : BitVec 32 := Scalar.muli c1_i32_408 c4_i32_409
  let c2_i32_439 : BitVec 32 := 2#32
  let v1892 : BitVec 32 := Scalar.addi v1745 c2_i32_439
  let c128_i32_440 : BitVec 32 := 128#32
  let v1893 : BitVec 32 := Scalar.muli v1892 c128_i32_440
  v1893
def k0_mult43 : BitVec 32 :=
  let c1_i32_408 : BitVec 32 := 1#32
  let c4_i32_409 : BitVec 32 := 4#32
  let v1745 : BitVec 32 := Scalar.muli c1_i32_408 c4_i32_409
  let c2_i32_439 : BitVec 32 := 2#32
  let v1895 : BitVec 32 := Scalar.addi v1745 c2_i32_439
  let c1_i32_441 : BitVec 32 := 1#32
  let v1896 : BitVec 32 := Scalar.subi v1895 c1_i32_441
  let c128_i32_442 : BitVec 32 := 128#32
  let v1897 : BitVec 32 := Scalar.muli v1896 c128_i32_442
  v1897
def k0_mult44 : BitVec 32 :=
  let c1_i32_408 : BitVec 32 := 1#32
  let c4_i32_409 : BitVec 32 := 4#32
  let v1745 : BitVec 32 := Scalar.muli c1_i32_408 c4_i32_409
  let c3_i32_456 : BitVec 32 := 3#32
  let v1970 : BitVec 32 := Scalar.addi v1745 c3_i32_456
  let c128_i32_457 : BitVec 32 := 128#32
  let v1971 : BitVec 32 := Scalar.muli v1970 c128_i32_457
  v1971
def k0_mult45 : BitVec 32 :=
  let c1_i32_408 : BitVec 32 := 1#32
  let c4_i32_409 : BitVec 32 := 4#32
  let v1745 : BitVec 32 := Scalar.muli c1_i32_408 c4_i32_409
  let c3_i32_456 : BitVec 32 := 3#32
  let v1973 : BitVec 32 := Scalar.addi v1745 c3_i32_456
  let c1_i32_458 : BitVec 32 := 1#32
  let v1974 : BitVec 32 := Scalar.subi v1973 c1_i32_458
  let c128_i32_459 : BitVec 32 := 128#32
  let v1975 : BitVec 32 := Scalar.muli v1974 c128_i32_459
  v1975
def k0_mult46 : BitVec 32 :=
  let c2_i32_474 : BitVec 32 := 2#32
  let c4_i32_475 : BitVec 32 := 4#32
  let v2048 : BitVec 32 := Scalar.muli c2_i32_474 c4_i32_475
  let c128_i32_476 : BitVec 32 := 128#32
  let v2049 : BitVec 32 := Scalar.muli v2048 c128_i32_476
  v2049
def k0_mult47 : BitVec 32 :=
  let c2_i32_474 : BitVec 32 := 2#32
  let c4_i32_475 : BitVec 32 := 4#32
  let v2048 : BitVec 32 := Scalar.muli c2_i32_474 c4_i32_475
  let c1_i32_488 : BitVec 32 := 1#32
  let v2117 : BitVec 32 := Scalar.addi v2048 c1_i32_488
  let c128_i32_489 : BitVec 32 := 128#32
  let v2118 : BitVec 32 := Scalar.muli v2117 c128_i32_489
  v2118
def k0_mult48 : BitVec 32 :=
  let c2_i32_474 : BitVec 32 := 2#32
  let c4_i32_475 : BitVec 32 := 4#32
  let v2048 : BitVec 32 := Scalar.muli c2_i32_474 c4_i32_475
  let c1_i32_488 : BitVec 32 := 1#32
  let v2120 : BitVec 32 := Scalar.addi v2048 c1_i32_488
  let c1_i32_490 : BitVec 32 := 1#32
  let v2121 : BitVec 32 := Scalar.subi v2120 c1_i32_490
  let c128_i32_491 : BitVec 32 := 128#32
  let v2122 : BitVec 32 := Scalar.muli v2121 c128_i32_491
  v2122
def k0_mult49 : BitVec 32 :=
  let c2_i32_474 : BitVec 32 := 2#32
  let c4_i32_475 : BitVec 32 := 4#32
  let v2048 : BitVec 32 := Scalar.muli c2_i32_474 c4_i32_475
  let c2_i32_505 : BitVec 32 := 2#32
  let v2195 : BitVec 32 := Scalar.addi v2048 c2_i32_505
  let c128_i32_506 : BitVec 32 := 128#32
  let v2196 : BitVec 32 := Scalar.muli v2195 c128_i32_506
  v2196
def k0_mult50 : BitVec 32 :=
  let c2_i32_474 : BitVec 32 := 2#32
  let c4_i32_475 : BitVec 32 := 4#32
  let v2048 : BitVec 32 := Scalar.muli c2_i32_474 c4_i32_475
  let c2_i32_505 : BitVec 32 := 2#32
  let v2198 : BitVec 32 := Scalar.addi v2048 c2_i32_505
  let c1_i32_507 : BitVec 32 := 1#32
  let v2199 : BitVec 32 := Scalar.subi v2198 c1_i32_507
  let c128_i32_508 : BitVec 32 := 128#32
  let v2200 : BitVec 32 := Scalar.muli v2199 c128_i32_508
  v2200
def k0_mult51 : BitVec 32 :=
  let c2_i32_474 : BitVec 32 := 2#32
  let c4_i32_475 : BitVec 32 := 4#32
  let v2048 : BitVec 32 := Scalar.muli c2_i32_474 c4_i32_475
  let c3_i32_522 : BitVec 32 := 3#32
  let v2273 : BitVec 32 := Scalar.addi v2048 c3_i32_522
  let c128_i32_523 : BitVec 32 := 128#32
  let v2274 : BitVec 32 := Scalar.muli v2273 c128_i32_523
  v2274
def k0_mult52 : BitVec 32 :=
  let c2_i32_474 : BitVec 32 := 2#32
  let c4_i32_475 : BitVec 32 := 4#32
  let v2048 : BitVec 32 := Scalar.muli c2_i32_474 c4_i32_475
  let c3_i32_522 : BitVec 32 := 3#32
  let v2276 : BitVec 32 := Scalar.addi v2048 c3_i32_522
  let c1_i32_524 : BitVec 32 := 1#32
  let v2277 : BitVec 32 := Scalar.subi v2276 c1_i32_524
  let c128_i32_525 : BitVec 32 := 128#32
  let v2278 : BitVec 32 := Scalar.muli v2277 c128_i32_525
  v2278
def k0_mult53 : BitVec 32 :=
  let c3_i32_540 : BitVec 32 := 3#32
  let c4_i32_541 : BitVec 32 := 4#32
  let v2351 : BitVec 32 := Scalar.muli c3_i32_540 c4_i32_541
  let c128_i32_542 : BitVec 32 := 128#32
  let v2352 : BitVec 32 := Scalar.muli v2351 c128_i32_542
  v2352
def k0_mult54 : BitVec 32 :=
  let c3_i32_540 : BitVec 32 := 3#32
  let c4_i32_541 : BitVec 32 := 4#32
  let v2351 : BitVec 32 := Scalar.muli c3_i32_540 c4_i32_541
  let c1_i32_554 : BitVec 32 := 1#32
  let v2420 : BitVec 32 := Scalar.addi v2351 c1_i32_554
  let c128_i32_555 : BitVec 32 := 128#32
  let v2421 : BitVec 32 := Scalar.muli v2420 c128_i32_555
  v2421
def k0_mult55 : BitVec 32 :=
  let c3_i32_540 : BitVec 32 := 3#32
  let c4_i32_541 : BitVec 32 := 4#32
  let v2351 : BitVec 32 := Scalar.muli c3_i32_540 c4_i32_541
  let c1_i32_554 : BitVec 32 := 1#32
  let v2423 : BitVec 32 := Scalar.addi v2351 c1_i32_554
  let c1_i32_556 : BitVec 32 := 1#32
  let v2424 : BitVec 32 := Scalar.subi v2423 c1_i32_556
  let c128_i32_557 : BitVec 32 := 128#32
  let v2425 : BitVec 32 := Scalar.muli v2424 c128_i32_557
  v2425
def k0_mult56 : BitVec 32 :=
  let c3_i32_540 : BitVec 32 := 3#32
  let c4_i32_541 : BitVec 32 := 4#32
  let v2351 : BitVec 32 := Scalar.muli c3_i32_540 c4_i32_541
  let c2_i32_571 : BitVec 32 := 2#32
  let v2498 : BitVec 32 := Scalar.addi v2351 c2_i32_571
  let c128_i32_572 : BitVec 32 := 128#32
  let v2499 : BitVec 32 := Scalar.muli v2498 c128_i32_572
  v2499
def k0_mult57 : BitVec 32 :=
  let c3_i32_540 : BitVec 32 := 3#32
  let c4_i32_541 : BitVec 32 := 4#32
  let v2351 : BitVec 32 := Scalar.muli c3_i32_540 c4_i32_541
  let c2_i32_571 : BitVec 32 := 2#32
  let v2501 : BitVec 32 := Scalar.addi v2351 c2_i32_571
  let c1_i32_573 : BitVec 32 := 1#32
  let v2502 : BitVec 32 := Scalar.subi v2501 c1_i32_573
  let c128_i32_574 : BitVec 32 := 128#32
  let v2503 : BitVec 32 := Scalar.muli v2502 c128_i32_574
  v2503
def k0_mult58 : BitVec 32 :=
  let c3_i32_540 : BitVec 32 := 3#32
  let c4_i32_541 : BitVec 32 := 4#32
  let v2351 : BitVec 32 := Scalar.muli c3_i32_540 c4_i32_541
  let c3_i32_588 : BitVec 32 := 3#32
  let v2576 : BitVec 32 := Scalar.addi v2351 c3_i32_588
  let c128_i32_589 : BitVec 32 := 128#32
  let v2577 : BitVec 32 := Scalar.muli v2576 c128_i32_589
  v2577
def k0_mult59 : BitVec 32 :=
  let c3_i32_540 : BitVec 32 := 3#32
  let c4_i32_541 : BitVec 32 := 4#32
  let v2351 : BitVec 32 := Scalar.muli c3_i32_540 c4_i32_541
  let c3_i32_588 : BitVec 32 := 3#32
  let v2579 : BitVec 32 := Scalar.addi v2351 c3_i32_588
  let c1_i32_590 : BitVec 32 := 1#32
  let v2580 : BitVec 32 := Scalar.subi v2579 c1_i32_590
  let c128_i32_591 : BitVec 32 := 128#32
  let v2581 : BitVec 32 := Scalar.muli v2580 c128_i32_591
  v2581
def k0_mult60 : BitVec 32 :=
  let c0_i32_854 : BitVec 32 := 0#32
  let c1_i32_855 : BitVec 32 := 1#32
  let v3022 : BitVec 32 := Scalar.muli c0_i32_854 c1_i32_855
  let c128_i32_856 : BitVec 32 := 128#32
  let v3023 : BitVec 32 := Scalar.muli v3022 c128_i32_856
  v3023
def k0_mult61 : BitVec 32 :=
  let c1_i32_868 : BitVec 32 := 1#32
  let c1_i32_869 : BitVec 32 := 1#32
  let v3091 : BitVec 32 := Scalar.muli c1_i32_868 c1_i32_869
  let c128_i32_870 : BitVec 32 := 128#32
  let v3092 : BitVec 32 := Scalar.muli v3091 c128_i32_870
  v3092
def k0_mult62 : BitVec 32 :=
  let c2_i32_882 : BitVec 32 := 2#32
  let c1_i32_883 : BitVec 32 := 1#32
  let v3160 : BitVec 32 := Scalar.muli c2_i32_882 c1_i32_883
  let c128_i32_884 : BitVec 32 := 128#32
  let v3161 : BitVec 32 := Scalar.muli v3160 c128_i32_884
  v3161
def k0_mult63 : BitVec 32 :=
  let c3_i32_896 : BitVec 32 := 3#32
  let c1_i32_897 : BitVec 32 := 1#32
  let v3229 : BitVec 32 := Scalar.muli c3_i32_896 c1_i32_897
  let c128_i32_898 : BitVec 32 := 128#32
  let v3230 : BitVec 32 := Scalar.muli v3229 c128_i32_898
  v3230
def k0_mult64 : BitVec 32 :=
  let c4_i32_910 : BitVec 32 := 4#32
  let c1_i32_911 : BitVec 32 := 1#32
  let v3298 : BitVec 32 := Scalar.muli c4_i32_910 c1_i32_911
  let c128_i32_912 : BitVec 32 := 128#32
  let v3299 : BitVec 32 := Scalar.muli v3298 c128_i32_912
  v3299
def k0_mult65 : BitVec 32 :=
  let c5_i32_924 : BitVec 32 := 5#32
  let c1_i32_925 : BitVec 32 := 1#32
  let v3367 : BitVec 32 := Scalar.muli c5_i32_924 c1_i32_925
  let c128_i32_926 : BitVec 32 := 128#32
  let v3368 : BitVec 32 := Scalar.muli v3367 c128_i32_926
  v3368
def k0_mult66 : BitVec 32 :=
  let c6_i32_938 : BitVec 32 := 6#32
  let c1_i32_939 : BitVec 32 := 1#32
  let v3436 : BitVec 32 := Scalar.muli c6_i32_938 c1_i32_939
  let c128_i32_940 : BitVec 32 := 128#32
  let v3437 : BitVec 32 := Scalar.muli v3436 c128_i32_940
  v3437
def k0_mult67 : BitVec 32 :=
  let c7_i32_952 : BitVec 32 := 7#32
  let c1_i32_953 : BitVec 32 := 1#32
  let v3505 : BitVec 32 := Scalar.muli c7_i32_952 c1_i32_953
  let c128_i32_954 : BitVec 32 := 128#32
  let v3506 : BitVec 32 := Scalar.muli v3505 c128_i32_954
  v3506
def k0_mult68 : BitVec 32 :=
  let c8_i32_966 : BitVec 32 := 8#32
  let c1_i32_967 : BitVec 32 := 1#32
  let v3574 : BitVec 32 := Scalar.muli c8_i32_966 c1_i32_967
  let c128_i32_968 : BitVec 32 := 128#32
  let v3575 : BitVec 32 := Scalar.muli v3574 c128_i32_968
  v3575
def k0_mult69 : BitVec 32 :=
  let c9_i32_980 : BitVec 32 := 9#32
  let c1_i32_981 : BitVec 32 := 1#32
  let v3643 : BitVec 32 := Scalar.muli c9_i32_980 c1_i32_981
  let c128_i32_982 : BitVec 32 := 128#32
  let v3644 : BitVec 32 := Scalar.muli v3643 c128_i32_982
  v3644
def k0_mult70 : BitVec 32 :=
  let c10_i32_994 : BitVec 32 := 10#32
  let c1_i32_995 : BitVec 32 := 1#32
  let v3712 : BitVec 32 := Scalar.muli c10_i32_994 c1_i32_995
  let c128_i32_996 : BitVec 32 := 128#32
  let v3713 : BitVec 32 := Scalar.muli v3712 c128_i32_996
  v3713
def k0_mult71 : BitVec 32 :=
  let c11_i32_1008 : BitVec 32 := 11#32
  let c1_i32_1009 : BitVec 32 := 1#32
  let v3781 : BitVec 32 := Scalar.muli c11_i32_1008 c1_i32_1009
  let c128_i32_1010 : BitVec 32 := 128#32
  let v3782 : BitVec 32 := Scalar.muli v3781 c128_i32_1010
  v3782
def k0_mult72 : BitVec 32 :=
  let c12_i32_1022 : BitVec 32 := 12#32
  let c1_i32_1023 : BitVec 32 := 1#32
  let v3850 : BitVec 32 := Scalar.muli c12_i32_1022 c1_i32_1023
  let c128_i32_1024 : BitVec 32 := 128#32
  let v3851 : BitVec 32 := Scalar.muli v3850 c128_i32_1024
  v3851
def k0_mult73 : BitVec 32 :=
  let c13_i32_1036 : BitVec 32 := 13#32
  let c1_i32_1037 : BitVec 32 := 1#32
  let v3919 : BitVec 32 := Scalar.muli c13_i32_1036 c1_i32_1037
  let c128_i32_1038 : BitVec 32 := 128#32
  let v3920 : BitVec 32 := Scalar.muli v3919 c128_i32_1038
  v3920
def k0_mult74 : BitVec 32 :=
  let c14_i32_1050 : BitVec 32 := 14#32
  let c1_i32_1051 : BitVec 32 := 1#32
  let v3988 : BitVec 32 := Scalar.muli c14_i32_1050 c1_i32_1051
  let c128_i32_1052 : BitVec 32 := 128#32
  let v3989 : BitVec 32 := Scalar.muli v3988 c128_i32_1052
  v3989
def k0_mult75 : BitVec 32 :=
  let c15_i32_1064 : BitVec 32 := 15#32
  let c1_i32_1065 : BitVec 32 := 1#32
  let v4057 : BitVec 32 := Scalar.muli c15_i32_1064 c1_i32_1065
  let c128_i32_1066 : BitVec 32 := 128#32
  let v4058 : BitVec 32 := Scalar.muli v4057 c128_i32_1066
  v4058
def k0_mult76 : BitVec 32 :=
  let c0_i32_1370 : BitVec 32 := 0#32
  let c256_i32 : BitVec 32 := 256#32
  let v4554 : BitVec 32 := Scalar.muli c0_i32_1370 c256_i32
  v4554
def k0_off7 (c0_i32_1370 : BitVec 32) : Fin 2 → Nat :=
  let c256_i32 : BitVec 32 := 256#32
  let v4554 : BitVec 32 := Scalar.muli c0_i32_1370 c256_i32
  let v4555 : BitVec 32 := v4554
  let v4556 : Index := Scalar.indexCast v4555
  let c0_1371 : Index := 0#32
  ![v4556.toNat, 0]
def k0_mult77 : BitVec 32 :=
  let c1_i32_1381 : BitVec 32 := 1#32
  let c256_i32_1382 : BitVec 32 := 256#32
  let v4588 : BitVec 32 := Scalar.muli c1_i32_1381 c256_i32_1382
  v4588
def k0_mult78 : BitVec 32 :=
  let c2_i32_1393 : BitVec 32 := 2#32
  let c256_i32_1394 : BitVec 32 := 256#32
  let v4622 : BitVec 32 := Scalar.muli c2_i32_1393 c256_i32_1394
  v4622
def k0_mult79 : BitVec 32 :=
  let c3_i32_1405 : BitVec 32 := 3#32
  let c256_i32_1406 : BitVec 32 := 256#32
  let v4656 : BitVec 32 := Scalar.muli c3_i32_1405 c256_i32_1406
  v4656
def k0_mult80 : BitVec 32 :=
  let c4_i32_1417 : BitVec 32 := 4#32
  let c256_i32_1418 : BitVec 32 := 256#32
  let v4690 : BitVec 32 := Scalar.muli c4_i32_1417 c256_i32_1418
  v4690
def k0_mult81 : BitVec 32 :=
  let c5_i32_1429 : BitVec 32 := 5#32
  let c256_i32_1430 : BitVec 32 := 256#32
  let v4724 : BitVec 32 := Scalar.muli c5_i32_1429 c256_i32_1430
  v4724
def k0_mult82 : BitVec 32 :=
  let c6_i32_1441 : BitVec 32 := 6#32
  let c256_i32_1442 : BitVec 32 := 256#32
  let v4758 : BitVec 32 := Scalar.muli c6_i32_1441 c256_i32_1442
  v4758
def k0_mult83 : BitVec 32 :=
  let c7_i32_1453 : BitVec 32 := 7#32
  let c256_i32_1454 : BitVec 32 := 256#32
  let v4792 : BitVec 32 := Scalar.muli c7_i32_1453 c256_i32_1454
  v4792
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.Lib.Reals.lean ====
/- Facts about extended reals that every value proof of this certificate uses: an operation of real arguments is
   the real operation, a sum of reals is the real sum, a constant's pattern is the rational it denotes, and an
   array of which `|x| < ∞` holds everywhere is an array of reals. -/
module

public import Idealize.ShloMosaic.Lib.Pointwise
public import Idealize.ShloMosaic.Lib.ReduceAll
public import Idealize.ShloMosaic.Lib.IdealHost

@[expose] public section

set_option maxRecDepth 16384

noncomputable section

namespace Cert.Reals

open Idealize.ShloMosaic
open scoped BigOperators

/-- A sum of reals, as an extended real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem add_coe (x y : ℝ) : (x : EReal) + y = ((x + y : ℝ) : EReal) := (EReal.coe_add x y).symm
theorem sub_coe (x y : ℝ) : (x : EReal) - y = ((x - y : ℝ) : EReal) := (EReal.coe_sub x y).symm
theorem mul_coe (x y : ℝ) : (x : EReal) * y = ((x * y : ℝ) : EReal) := (EReal.coe_mul x y).symm
theorem neg_coe (x : ℝ) : -(x : EReal) = ((-x : ℝ) : EReal) := (EReal.coe_neg x).symm

/-- A quotient of reals by a nonzero real. -/
theorem div_coe (x : ℝ) {y : ℝ} (h : y ≠ 0) : Ideal.div (x : EReal) (y : EReal) = ((x / y : ℝ) : EReal) := by
  rw [Ideal.div_coe h, mul_coe, mul_one_div]

/-- The reciprocal square root of a positive real. -/
theorem rsqrt_coe {x : ℝ} (h : 0 < x) : Ideal.rsqrt (x : EReal) = (((Real.sqrt x)⁻¹ : ℝ) : EReal) := by
  rw [Ideal.rsqrt_coe, if_neg (not_lt.mpr h.le), if_neg h.ne']

/-! ### The constants -/

/-- The rational the kernels' `1e-6` denotes. -/
def eps : ℝ := 8796093 / 8796093022208

theorem eps_pos : 0 < eps := by unfold eps; norm_num

theorem ofBits_eps : Ideal.ofBits .f32 0x358637BD#32 = ((eps : ℝ) : EReal) := by
  simp [Ideal.ofBits, Ideal.ieee, eps]
  norm_num [← EReal.coe_mul]

theorem ofBits_1024 : Ideal.ofBits .f32 0x44800000#32 = ((1024 : ℝ) : EReal) := by
  simp [Ideal.ofBits, Ideal.ieee]
  norm_num [← EReal.coe_mul]

theorem ofBits_inv1024 : Ideal.ofBits .f32 0x3A800000#32 = ((1 / 1024 : ℝ) : EReal) := by
  simp [Ideal.ofBits, Ideal.ieee, zpow_neg]
  norm_num [← EReal.coe_mul]

theorem ofBits_inv2048 : Ideal.ofBits .f32 0x3A000000#32 = ((1 / 2048 : ℝ) : EReal) := by
  simp [Ideal.ofBits, Ideal.ieee, zpow_neg]
  norm_num [← EReal.coe_mul]

theorem ofBits_half : Ideal.ofBits .f32 0x3F000000#32 = ((1 / 2 : ℝ) : EReal) := by
  simp [Ideal.ofBits, Ideal.ieee, zpow_neg]
  norm_num [← EReal.coe_mul]

theorem ofBits_neg_half : Ideal.ofBits .f32 0xBF000000#32 = ((-1 / 2 : ℝ) : EReal) := by
  simp [Ideal.ofBits, Ideal.ieee, zpow_neg]
  norm_num [← EReal.coe_mul]

theorem ofBits_two : Ideal.ofBits .f32 0x40000000#32 = ((2 : ℝ) : EReal) := by
  simp [Ideal.ofBits, Ideal.ieee]
  norm_num [← EReal.coe_mul]

theorem ofBits_zero : Ideal.ofBits .f32 0x00000000#32 = ((0 : ℝ) : EReal) := by simp

theorem ofBits_one : Ideal.ofBits .f32 0x3F800000#32 = ((1 : ℝ) : EReal) := by simp

theorem ofBits_inf : Ideal.ofBits .f32 0x7F800000#32 = ⊤ := by
  simp [Ideal.ofBits, Ideal.ieee]

/-! ### Finite arrays -/

/-- An extended real whose absolute value is below `⊤` is a real. -/
theorem exists_of_abs_lt {a : EReal} (h : max a (-a) < ⊤) : ∃ r : ℝ, a = (r : EReal) := by
  induction a with
  | bot => simp at h
  | top => simp at h
  | coe r => exact ⟨r, rfl⟩

/-- `jnp.all(jnp.abs(x) < jnp.inf)` holds: every element of `x` is a real. -/
theorem real_of_all {s t u v : Shape} {axes : List (Fin s.rank)} [Subsingleton t.Idx] {bd : Fin v.rank → Fin s.rank}
    (x : FVec Ideal s .f32) (hb : v.BroadcastsInDim s bd) (init : u.Idx → BitVec 1)
    (h : s.ReducesTo axes t) (hu : 0 < u.numel) (j : t.Idx)
    (e : Host.reduce IntOp.andi (cmpf .olt (Host.absf x) (broadcastInDim s bd hb (constant v .f32 0x7F800000#32))) init h hu j = 1#1)
    (i : s.Idx) : ∃ r : ℝ, x i = (r : EReal) := by
  have h1 := Host.reduce_andi_all _ init h hu j e i
  have h2 : Ideal.cmp .olt (max (x i) (-(x i))) (Ideal.ofBits .f32 0x7F800000#32) = 1#1 := h1
  rw [ofBits_inf] at h2
  refine exists_of_abs_lt ?_
  by_contra hn
  simp [Ideal.cmp, hn] at h2

/-- A conjunction of bits is one: both are. -/
theorem andi_eq_one {s : Shape} {x y : IVec s 1} {i : s.Idx} (h : andi x y i = 1#1) : x i = 1#1 ∧ y i = 1#1 := by
  have h' : x i &&& y i = 1#1 := h
  generalize x i = a at h' ⊢
  generalize y i = b at h' ⊢
  revert a b; decide

/-- The real an extended real is (the value at an infinity is immaterial). -/
abbrev re (a : EReal) : ℝ := a.toReal

theorem coe_re {a : EReal} (h : ∃ r : ℝ, a = (r : EReal)) : a = ((re a : ℝ) : EReal) := by
  obtain ⟨r, rfl⟩ := h; simp [re]

/-! ### The host's sum over the two leading axes of three -/

/-- `jnp.sum(v, axis=(0, 1))` at `k` is the initial value plus the double sum. -/
theorem hostReduceAdd_r3_a01 {n0 n1 n2 : ℕ} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  have hk : ∀ i : (⟨3, ![n0, n1, n2]⟩ : Shape).Idx, h.drop i = ix1 k ↔ ∃ p : Fin n0 × Fin n1, ix3 p.1 p.2 k = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, Nat.one_pos⟩)).symm
    · rintro ⟨p, rfl⟩
      funext b
      apply Fin.ext
      match b with
      | ⟨0, _⟩ => rfl
  refine congrArg (init + ·) ?_
  refine (Finset.sum_filter_eq_sum_of_fiber _ (fun p : Fin n0 × Fin n1 => (ix3 p.1 p.2 k : (⟨3, ![n0, n1, n2]⟩ : Shape).Idx))
    (fun _ _ e => Prod.ext (congrFun e 0) (congrFun e 1)) hk v).trans ?_
  simp only [Fintype.sum_prod_type]

end Cert.Reals

end
-- ==== Proof.Lib.Norm.lean ====
/- The root-mean-square norm of a row of 1024 reals, and its gradient in the two forms programs write it in. -/
module

public import proofs.«01_k».proof.Proof.Lib.Reals

@[expose] public section

noncomputable section

namespace Cert.Norm

open Idealize.ShloMosaic Cert.Reals
open scoped BigOperators

variable (x u : Fin 1024 → ℝ)

/-- The mean square of a row, with the constant added. -/
def ms : ℝ := (∑ k, x k * x k) / 1024 + eps

theorem ms_pos : 0 < ms x :=
  add_pos_of_nonneg_of_pos (div_nonneg (Finset.sum_nonneg fun k _ => mul_self_nonneg (x k)) (by norm_num)) eps_pos

/-- The row's reciprocal root mean square. -/
def rs : ℝ := (Real.sqrt (ms x))⁻¹

theorem rs_sq : rs x * rs x * ms x = 1 := by
  unfold rs
  rw [← mul_inv, Real.mul_self_sqrt (ms_pos x).le, inv_mul_cancel₀ (ms_pos x).ne']

/-- The gradient of the row from the cotangent `u` of its normalised form. -/
def back (k : Fin 1024) : ℝ := rs x * (u k - x k * rs x * ((∑ l, u l * (x l * rs x)) / 1024))

/-- The same gradient as differentiation writes it: through the reciprocal root, and twice through the square. -/
theorem back_eq (k : Fin 1024) :
    u k * rs x + x k * ((∑ l, x l * u l) * (-1 / 2 * (rs x / ms x)) / 1024)
      + (∑ l, x l * u l) * (-1 / 2 * (rs x / ms x)) / 1024 * x k = back x u k := by
  have e : ∑ l, u l * (x l * rs x) = (∑ l, x l * u l) * rs x := by
    rw [Finset.sum_mul]; exact Finset.sum_congr rfl fun l _ => by ring
  have e2 : rs x / ms x = rs x * rs x * rs x := by
    rw [div_eq_iff (ms_pos x).ne']; linear_combination (-rs x) * rs_sq x
  unfold back
  rw [e, e2]
  ring

/-! ### Rows of a batch of two sequences of 2048 -/

/-- Row `i` of the flattened batch, as reals. -/
def row {n : ℕ} (X : FVec Ideal ⟨3, ![2, 2048, n]⟩ .f32) (i : Fin 4096) (k : Fin n) : ℝ :=
  re (X (ix3 ⟨i.val / 2048, by omega⟩ ⟨i.val % 2048, by omega⟩ k))

/-- A vector, as reals. -/
def vec {n : ℕ} (G : FVec Ideal ⟨1, ![n]⟩ .f32) (k : Fin n) : ℝ := re (G (ix1 k))

/-- A matrix, as reals. -/
def mat {n k : ℕ} (W : FVec Ideal ⟨2, ![n, k]⟩ .f32) (i : Fin n) (j : Fin k) : ℝ := re (W (ix2 i j))

/-- A sum over the batch and the sequence is the sum over all rows. -/
theorem sum_rows (f : Fin 4096 → ℝ) : ∑ b : Fin 2, ∑ s : Fin 2048, f ⟨b.val * 2048 + s.val, by omega⟩ = ∑ i, f i :=
  (Fin.sum_univ_tiles 2 2048 rfl f).symm

/-- What holds of an index pair holds at its place among the rows. -/
theorem at_row {β : Sort*} (f : Fin 2 → Fin 2048 → β) (b : Fin 2) (s : Fin 2048) :
    f ⟨(b.val * 2048 + s.val) / 2048, by omega⟩ ⟨(b.val * 2048 + s.val) % 2048, by omega⟩ = f b s :=
  congrArg₂ f (Fin.ext (by show (b.val * 2048 + s.val) / 2048 = b.val; omega))
    (Fin.ext (by show (b.val * 2048 + s.val) % 2048 = s.val; omega))

theorem row_eq {n : ℕ} (X : FVec Ideal ⟨3, ![2, 2048, n]⟩ .f32) (b : Fin 2) (s : Fin 2048) :
    row X ⟨b.val * 2048 + s.val, by omega⟩ = fun k => re (X (ix3 b s k)) :=
  at_row (fun b s k => re (X (ix3 b s k))) b s

end Cert.Norm

end
-- ==== Proof.Loss.Pay.lean ====
/- The loss head over the reals: what one row of the loss and of its gradients is, and that the kernel's payloads
   over blocks of reals are these. -/
module

public import proofs.«01_k».proof.Proof.Gen.LossIdeal.Skeleton
public import proofs.«01_k».proof.Proof.Lib.Norm

@[expose] public section

set_option maxRecDepth 16384

noncomputable section

namespace Cert.LossMath

open Idealize.ShloMosaic Cert.Reals Cert.Norm
open scoped BigOperators

variable (x g t : Fin 1024 → ℝ)

/-- The error against the target. -/
def err (k : Fin 1024) : ℝ := x k * rs x * g k - t k

/-- The cotangent of the normalised row's product with the gain. -/
def dy (k : Fin 1024) : ℝ := err x g t k * (1 / 1024)

/-- The row's contribution to the gain's gradient. -/
def dg (k : Fin 1024) : ℝ := dy x g t k * (x k * rs x)

/-- The gradient of the row. -/
def dx (k : Fin 1024) : ℝ :=
  rs x * (dy x g t k * g k - x k * rs x * ((∑ l, dy x g t l * g l * (x l * rs x)) / 1024))

/-- The sum of the squared errors of the row. -/
def sq : ℝ := ∑ k, err x g t k * err x g t k

end Cert.LossMath

namespace Cert.LossIdeal.Pay

open Idealize.ShloMosaic Cert.LossIdeal Cert.LossIdeal.Gen Cert.Reals Cert.Norm Cert.LossMath
open scoped BigOperators

variable {X T : FVec Ideal S512x1024 .f32} {G : FVec Ideal S1x1024 .f32}
variable {x t : Fin 512 → Fin 1024 → ℝ} {g : Fin 1024 → ℝ}

theorem pay6 (hx : ∀ p k, X (ix2 p k) = (x p k : EReal)) (p : Fin 512) :
    k0_pay6 (F := Ideal) X (ix2 p 0) = ((rs (x p) : ℝ) : EReal) := by
  pointwise [k0_pay6, k0_pay5]
  simp only [hx, mul_coe, coe_sum, ofBits_1024, ofBits_eps, add_coe, div_coe _ (by norm_num : (1024 : ℝ) ≠ 0)]
  exact rsqrt_coe (ms_pos (x p))

theorem pay7 (hx : ∀ p k, X (ix2 p k) = (x p k : EReal)) (p : Fin 512) (k : Fin 1024) :
    k0_pay7 (F := Ideal) X (ix2 p k) = ((x p k * rs (x p) : ℝ) : EReal) := by
  pointwise [k0_pay7, k0_pay5]
  rw [pay6 hx, hx, mul_coe]

theorem pay9 (hx : ∀ p k, X (ix2 p k) = (x p k : EReal)) (hg : ∀ k, G (ix2 0 k) = (g k : EReal))
    (ht : ∀ p k, T (ix2 p k) = (t p k : EReal)) (p : Fin 512) (k : Fin 1024) :
    k0_pay9 (F := Ideal) X G T (ix2 p k) = ((err (x p) g (t p) k : ℝ) : EReal) := by
  pointwise [k0_pay9, k0_pay8]
  rw [pay7 hx, hg, ht, mul_coe, sub_coe, err]

theorem pay11 (hx : ∀ p k, X (ix2 p k) = (x p k : EReal)) (hg : ∀ k, G (ix2 0 k) = (g k : EReal))
    (ht : ∀ p k, T (ix2 p k) = (t p k : EReal)) (p : Fin 512) (k : Fin 1024) :
    k0_pay11 (F := Ideal) X G T (ix2 p k) = ((dy (x p) g (t p) k : ℝ) : EReal) := by
  pointwise [k0_pay11]
  rw [pay9 hx hg ht, ofBits_inv1024, mul_coe, dy]

theorem pay12 (hx : ∀ p k, X (ix2 p k) = (x p k : EReal)) (hg : ∀ k, G (ix2 0 k) = (g k : EReal))
    (ht : ∀ p k, T (ix2 p k) = (t p k : EReal)) (p : Fin 512) (k : Fin 1024) :
    k0_pay12 (F := Ideal) X G T (ix2 p k) = ((dx (x p) g (t p) k : ℝ) : EReal) := by
  pointwise [k0_pay12, k0_pay8]
  simp only [pay11 hx hg ht, pay7 hx, pay6 hx, hg, mul_coe, coe_sum, ofBits_1024, sub_coe,
    div_coe _ (by norm_num : (1024 : ℝ) ≠ 0)]
  rfl

/-- The block's part of the loss. -/
theorem pay10 (hx : ∀ p k, X (ix2 p k) = (x p k : EReal)) (hg : ∀ k, G (ix2 0 k) = (g k : EReal))
    (ht : ∀ p k, T (ix2 p k) = (t p k : EReal)) (l : Fin 128) :
    k0_pay10 (F := Ideal) X G T (ix2 0 l) = ((1 / 2048 * ∑ p, sq (x p) g (t p) : ℝ) : EReal) := by
  pointwise [k0_pay10]
  simp only [pay9 hx hg ht, mul_coe, coe_sum, ofBits_inv2048]
  rfl

/-- The block's part of the gain's gradient. -/
theorem pay2 (hx : ∀ p k, X (ix2 p k) = (x p k : EReal)) (hg : ∀ k, G (ix2 0 k) = (g k : EReal))
    (ht : ∀ p k, T (ix2 p k) = (t p k : EReal)) (k : Fin 1024) :
    k0_pay2 (F := Ideal) (k0_pay7 X) (k0_pay11 X G T) (ix2 0 k) = ((∑ p, dg (x p) g (t p) k : ℝ) : EReal) := by
  pointwise [k0_pay2]
  simp only [pay11 hx hg ht, pay7 hx, mul_coe, coe_sum]
  rfl

theorem pay3 (A B : FVec Ideal S512x1024 .f32) (P : FVec Ideal S1x1024 .f32) (k : Fin 1024) :
    k0_pay3 (F := Ideal) A B P (ix2 0 k) = P (ix2 0 k) + k0_pay2 (F := Ideal) A B (ix2 0 k) := by
  pointwise [k0_pay3]

theorem pay4 (A P : FVec Ideal S1x128 .f32) (l : Fin 128) :
    k0_pay4 (F := Ideal) A P (ix2 0 l) = P (ix2 0 l) + A (ix2 0 l) := by
  pointwise [k0_pay4]

end Cert.LossIdeal.Pay

end
-- ==== Proof.Loss.Block.lean ====
/- The loss head's windows: the input blocks of each grid point as reals. -/
module

public import proofs.«01_k».proof.Proof.Gen.LossIdeal.Frame
public import proofs.«01_k».proof.Proof.Loss.Pay
public import Idealize.ShloMosaic.Lib.Claim
public import Idealize.ShloMosaic.Lib.Pipeline.ValueKit

@[expose] public section

set_option maxRecDepth 16384

noncomputable section

namespace Cert.LossIdeal.Block

open Idealize.ShloMosaic Idealize.ShloMosaic.TcCoe Idealize.SL.Sem
open Idealize.ShloMosaic.Pipeline (Dat)
open Cert.LossIdeal Cert.LossIdeal.Gen Cert.Reals Cert.Norm Cert.LossMath
open scoped BigOperators

variable (m : (ℓ : Loc nD τ sig) → Buf (Elt Ideal) ℓ)

/-- The arguments. -/
abbrev argX (c : Dev nD) : FVec Ideal S2x2048x1024 .f32 := m ((c : Thread nD τ).loc main_arg0)
abbrev argG (c : Dev nD) : FVec Ideal S1024 .f32 := m ((c : Thread nD τ).loc main_arg1)
abbrev argT (c : Dev nD) : FVec Ideal S2x2048x1024 .f32 := m ((c : Thread nD τ).loc main_arg2)

/-- The block index of every window. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ t.val < 8 :=
  (by decide +kernel : ∀ t : Fin grid0.N, _)

/-- Row `p` of grid point `t`'s block. -/
def at512 (t : Fin cfg0.N) (p : Fin 512) : Fin 4096 := ⟨t.val * 512 + p.val, by have := (idx t).2.2.2.2.2.2.2; omega⟩

theorem blk0 (c : Dev nD) (hX : ∀ i, ∃ r : ℝ, argX m c i = (r : EReal)) (t : Fin cfg0.N) (p : Fin 512) (k : Fin 1024) :
    (show FVec Ideal S512x1024 .f32 from iblk m c 0 t) (ix2 p k) = ((row (argX m c) (at512 t p) k : ℝ) : EReal) := by
  rw [row, ← coe_re (hX _)]
  blk_simp [iblk]
  entry_read
  pointwise
  blk_ext [at512, idx t]

theorem blk2 (c : Dev nD) (hT : ∀ i, ∃ r : ℝ, argT m c i = (r : EReal)) (t : Fin cfg0.N) (p : Fin 512) (k : Fin 1024) :
    (show FVec Ideal S512x1024 .f32 from iblk m c 2 t) (ix2 p k) = ((row (argT m c) (at512 t p) k : ℝ) : EReal) := by
  rw [row, ← coe_re (hT _)]
  blk_simp [iblk]
  entry_read
  pointwise
  blk_ext [at512, idx t]

theorem blk1 (c : Dev nD) (hG : ∀ i, ∃ r : ℝ, argG m c i = (r : EReal)) (t : Fin cfg0.N) (k : Fin 1024) :
    (show FVec Ideal S1x1024 .f32 from iblk m c 1 t) (ix2 0 k) = ((vec (argG m c) k : ℝ) : EReal) := by
  rw [vec, ← coe_re (hG _)]
  blk_simp [iblk]
  entry_read
  pointwise
  blk_ext [idx t]

end Cert.LossIdeal.Block

end
-- ==== Proof.Loss.Array.lean ====
/- The loss head's four result arrays after the run, as reals of the arguments. -/
module

public import proofs.«01_k».proof.Proof.Loss.Block

@[expose] public section

set_option maxRecDepth 16384

noncomputable section

namespace Cert.LossIdeal.Block

open Idealize.ShloMosaic Idealize.ShloMosaic.TcCoe Idealize.SL.Sem
open Idealize.ShloMosaic.Pipeline (Dat)
open Cert.LossIdeal Cert.LossIdeal.Gen Cert.LossIdeal.Pay Cert.Reals Cert.Norm Cert.LossMath
open scoped BigOperators

variable (m : (ℓ : Loc nD τ sig) → Buf (Elt Ideal) ℓ)

/-- The gradient of the activations at row `i`. -/
def DX (X : FVec Ideal S2x2048x1024 .f32) (G : FVec Ideal S1024 .f32) (T : FVec Ideal S2x2048x1024 .f32)
    (i : S4096x1024.Idx) : EReal := ((dx (row X (i 0)) (vec G) (row T (i 0)) (i 1) : ℝ) : EReal)

/-- The gradient of the gain. -/
def DG (X : FVec Ideal S2x2048x1024 .f32) (G : FVec Ideal S1024 .f32) (T : FVec Ideal S2x2048x1024 .f32)
    (i : S1x1024.Idx) : EReal := ((∑ p : Fin 4096, dg (row X p) (vec G) (row T p) (i 1) : ℝ) : EReal)

/-- The loss, in each of its lanes. -/
def LS (X : FVec Ideal S2x2048x1024 .f32) (G : FVec Ideal S1024 .f32) (T : FVec Ideal S2x2048x1024 .f32)
    (i : S1x128.Idx) : EReal := ((1 / 2048 * ∑ p : Fin 4096, sq (row X p) (vec G) (row T p) : ℝ) : EReal)

/-- Eight blocks of 512 rows are 4096 rows. -/
theorem sum_blocks (f : Fin 4096 → ℝ) : ∑ t : Fin cfg0.N, ∑ p : Fin 512, f (at512 t p) = ∑ i, f i :=
  (Fin.sum_univ_tiles 8 512 rfl f).symm

variable {m} {c : Dev nD} (hX : ∀ i, ∃ r : ℝ, argX m c i = (r : EReal)) (hG : ∀ i, ∃ r : ℝ, argG m c i = (r : EReal))
  (hT : ∀ i, ∃ r : ℝ, argT m c i = (r : EReal))
include hX hG hT

theorem out4 (t : Fin cfg0.N) (y : S512x1024.Idx) :
    (outsAt0 m c t.val t.isLt).2.1 y = DX (argX m c) (argG m c) (argT m c) (((cfg0.win 4).blk t).view.emb y) := by
  have h8 : t.val < 8 := (idx t).2.2.2.2.2.2.2
  have e : (outsAt0 m c t.val t.isLt).2.1 = k0_pay12 (F := Ideal) (iblk m c 0 t) (iblk m c 1 t) (iblk m c 2 t) := by
    by_cases h0 : t.val % 8 = 0
    · rw [outsAt0_A m c t h0 (by omega)]; frame_out
    · rw [outsAt0_B m c t h0 (by omega)]; frame_out
  rw [e]
  idx_vars y
  refine (pay12 (blk0 m c hX t) (blk1 m c hG t) (blk2 m c hT t) y0 y1).trans ?_
  refine congrArg (fun i : S4096x1024.Idx => DX (argX m c) (argG m c) (argT m c) i)
    (a₁ := (ix2 (at512 t y0) y1 : S4096x1024.Idx)) ?_
  blk_ext [at512, idx t]

theorem final4 : (dats m 0 c).arrAt 4 (cfgs 0).N = DX (argX m c) (argG m c) (argT m c) := by
  refine (dats m 0 c).arrAt_eq_of_covers 4 _ (by decide +kernel) fun t _ y => ?_
  blk_simp
  rw [after0_4]
  exact out4 hX hG hT t y

theorem out5 (t : Fin cfg0.N) (y : S512x1024.Idx) :
    (outsAt0 m c t.val t.isLt).2.2.1 y = DX (argX m c) (argG m c) (argT m c) (((cfg0.win 5).blk t).view.emb y) := by
  have h8 : t.val < 8 := (idx t).2.2.2.2.2.2.2
  have e : (outsAt0 m c t.val t.isLt).2.2.1 = k0_pay1 (F := Ideal) (k0_pay12 (iblk m c 0 t) (iblk m c 1 t) (iblk m c 2 t)) := by
    by_cases h0 : t.val % 8 = 0
    · rw [outsAt0_A m c t h0 (by omega)]; frame_out
    · rw [outsAt0_B m c t h0 (by omega)]; frame_out
  rw [e]
  idx_vars y
  refine (pay12 (blk0 m c hX t) (blk1 m c hG t) (blk2 m c hT t) y0 y1).trans ?_
  refine congrArg (fun i : S4096x1024.Idx => DX (argX m c) (argG m c) (argT m c) i)
    (a₁ := (ix2 (at512 t y0) y1 : S4096x1024.Idx)) ?_
  blk_ext [at512, idx t]

theorem final5 : (dats m 0 c).arrAt 5 (cfgs 0).N = DX (argX m c) (argG m c) (argT m c) := by
  refine (dats m 0 c).arrAt_eq_of_covers 5 _ (by decide +kernel) fun t _ y => ?_
  blk_simp
  rw [after0_5]
  exact out5 hX hG hT t y

/-- What grid point `t` adds to the gain's gradient. -/
def part6 (m : (ℓ : Loc nD τ sig) → Buf (Elt Ideal) ℓ) (c : Dev nD) (t : Fin cfg0.N) (j : S1x1024.Idx) : EReal :=
  ((∑ p : Fin 512, dg (row (argX m c) (at512 t p)) (vec (argG m c)) (row (argT m c) (at512 t p)) (j 1) : ℝ) : EReal)

/-- What grid point `t` adds to the loss. -/
def part3 (m : (ℓ : Loc nD τ sig) → Buf (Elt Ideal) ℓ) (c : Dev nD) (t : Fin cfg0.N) (_ : S1x128.Idx) : EReal :=
  ((1 / 2048 * ∑ p : Fin 512, sq (row (argX m c) (at512 t p)) (vec (argG m c)) (row (argT m c) (at512 t p)) : ℝ) : EReal)

omit hX hG hT in
theorem part6_apply (t : Fin cfg0.N) (k : Fin 1024) : part6 m c t (ix2 0 k)
    = ((∑ p : Fin 512, dg (row (argX m c) (at512 t p)) (vec (argG m c)) (row (argT m c) (at512 t p)) k : ℝ) : EReal) := rfl

theorem sum6 (j : S1x1024.Idx) : (outsAt0 m c t0_7.val t0_7.isLt).2.2.2 j = ∑ t, part6 m c t j := by
  rw [Pipeline.eq_sum_fin_of_reset_step_apply_last (fun n h => (outsAt0 m c n h).2.2.2) 8 (fun _ => 0) (part6 m c)
    (fun t h j => by
      rw [outsAt0_A m c t h (by have := (idx t).2.2.2.2.2.2.2; omega)]; frame_out
      idx_vars j
      obtain rfl : j0 = 0 := Subsingleton.elim _ _
      exact (pay2 (blk0 m c hX t) (blk1 m c hG t) (blk2 m c hT t) j1).trans (zero_add _).symm)
    (fun t h j => by
      rw [outsAt0_B m c t h (by have := (idx t).2.2.2.2.2.2.2; omega)]; frame_out
      idx_vars j
      obtain rfl : j0 = 0 := Subsingleton.elim _ _
      rw [pay3, pay2 (blk0 m c hX t) (blk1 m c hG t) (blk2 m c hT t) j1, part6_apply])
    (le_of_eq N_0) t0_7 rfl j, zero_add]

theorem sum3 (j : S1x128.Idx) : (outsAt0 m c t0_7.val t0_7.isLt).1 j = ∑ t, part3 m c t j := by
  rw [Pipeline.eq_sum_fin_of_reset_step_apply_last (fun n h => (outsAt0 m c n h).1) 8 (fun _ => 0) (part3 m c)
    (fun t h j => by
      rw [outsAt0_A m c t h (by have := (idx t).2.2.2.2.2.2.2; omega)]; frame_out
      idx_vars j
      obtain rfl : j0 = 0 := Subsingleton.elim _ _
      exact (pay10 (blk0 m c hX t) (blk1 m c hG t) (blk2 m c hT t) j1).trans (zero_add _).symm)
    (fun t h j => by
      rw [outsAt0_B m c t h (by have := (idx t).2.2.2.2.2.2.2; omega)]; frame_out
      idx_vars j
      obtain rfl : j0 = 0 := Subsingleton.elim _ _
      rw [pay4, pay10 (blk0 m c hX t) (blk1 m c hG t) (blk2 m c hT t) j1, part3])
    (le_of_eq N_0) t0_7 rfl j, zero_add]

theorem final6 : (dats m 0 c).arrAt 6 (cfgs 0).N = DG (argX m c) (argG m c) (argT m c) := by
  refine (dats m 0 c).arrAt_eq_of_after_last 6 t0_7 (by decide +kernel) _ fun j => ?_
  blk_simp
  rw [after0_6]
  refine (sum6 hX hG hT j).trans ?_
  unfold part6
  rw [coe_sum]
  exact congrArg _ (sum_blocks fun p => dg (row (argX m c) p) (vec (argG m c)) (row (argT m c) p) (j 1))

theorem final3 : (dats m 0 c).arrAt 3 (cfgs 0).N = LS (argX m c) (argG m c) (argT m c) := by
  refine (dats m 0 c).arrAt_eq_of_after_last 3 t0_7 (by decide +kernel) _ fun j => ?_
  blk_simp
  rw [after0_3]
  refine (sum3 hX hG hT j).trans ?_
  unfold part3
  rw [coe_sum, ← Finset.mul_sum]
  exact congrArg (fun r : ℝ => ((1 / 2048 * r : ℝ) : EReal)) (sum_blocks fun p => sq (row (argX m c) p) (vec (argG m c)) (row (argT m c) p))

end Cert.LossIdeal.Block

end
-- ==== Proof.Loss.Ref.lean ====
/- The loss head's reference, stage by stage, over the reals. -/
module

public import proofs.«01_k».proof.Proof.Gen.LossRefIdeal.Read
public import proofs.«01_k».proof.Proof.Loss.Array

@[expose] public section

set_option maxRecDepth 16384

noncomputable section

namespace Cert.LossRefIdeal.Stage

open Idealize.ShloMosaic Cert.LossRefIdeal Cert.LossRefIdeal.Gen Cert.LossRefIdeal.Read Cert.Reals Cert.Norm Cert.LossMath
open scoped BigOperators

variable {X T : FVec Ideal S2x2048x1024 .f32} {G : FVec Ideal S1024 .f32}
variable {x t : Fin 2 → Fin 2048 → Fin 1024 → ℝ} {g : Fin 1024 → ℝ}

theorem v6 (hx : ∀ b s k, X (ix3 b s k) = (x b s k : EReal)) (b : Fin 2) (s : Fin 2048) :
    val_main_v6 (F := Ideal) X (ix3 b s 0) = ((ms (x b s) : ℝ) : EReal) := by
  pointwise [val_main_v6, val_main_v5, val_main_v4, val_main_v3, val_main_v2, val_main_v1, val_main_v0, val_main_cst, val_main_cst_0, val_main_cst_1]
  simp only [hx, mul_coe, coe_sum, ofBits_1024, ofBits_eps, add_coe, div_coe _ (by norm_num : (1024 : ℝ) ≠ 0)]
  rfl

theorem v7 (hx : ∀ b s k, X (ix3 b s k) = (x b s k : EReal)) (b : Fin 2) (s : Fin 2048) :
    val_main_v7 (F := Ideal) X (ix3 b s 0) = ((rs (x b s) : ℝ) : EReal) := by
  pointwise [val_main_v7]
  rw [v6 hx]
  exact rsqrt_coe (ms_pos (x b s))

theorem v10 (hx : ∀ b s k, X (ix3 b s k) = (x b s k : EReal)) (b : Fin 2) (s : Fin 2048) :
    val_main_v10 (F := Ideal) X (ix3 b s 0) = ((-1 / 2 * (rs (x b s) / ms (x b s)) : ℝ) : EReal) := by
  pointwise [val_main_v10, val_main_v9, val_main_v8, val_main_cst_2]
  simp only [v6 hx, v7 hx, div_coe _ (ms_pos (x b s)).ne', ofBits_neg_half, mul_coe]

theorem v12 (hx : ∀ b s k, X (ix3 b s k) = (x b s k : EReal)) (b : Fin 2) (s : Fin 2048) (k : Fin 1024) :
    val_main_v12 (F := Ideal) X (ix3 b s k) = ((x b s k * rs (x b s) : ℝ) : EReal) := by
  pointwise [val_main_v12, val_main_v11]
  rw [v7 hx, hx, mul_coe]

theorem v16 (hx : ∀ b s k, X (ix3 b s k) = (x b s k : EReal)) (hg : ∀ k, G (ix1 k) = (g k : EReal))
    (ht : ∀ b s k, T (ix3 b s k) = (t b s k : EReal)) (b : Fin 2) (s : Fin 2048) (k : Fin 1024) :
    val_main_v16 (F := Ideal) X G T (ix3 b s k) = ((err (x b s) g (t b s) k : ℝ) : EReal) := by
  pointwise [val_main_v16, val_main_v15, val_main_v14, val_main_v13]
  simp only [v12 hx, hg, ht, mul_coe, sub_coe]
  rfl

/-- The loss. -/
theorem v52 (hx : ∀ b s k, X (ix3 b s k) = (x b s k : EReal)) (hg : ∀ k, G (ix1 k) = (g k : EReal))
    (ht : ∀ b s k, T (ix3 b s k) = (t b s k : EReal)) (l : Fin 128) :
    val_main_v52 (F := Ideal) X G T (ix2 0 l)
      = ((1 / 2048 * ∑ b, ∑ s, LossMath.sq (x b s) g (t b s) : ℝ) : EReal) := by
  pointwise [val_main_v52, val_main_v24, val_main_v23, val_main_v22, val_main_v21, val_main_v20, val_main_v17, val_main_cst_4, val_main_cst_5, val_main_cst_6, val_main_cst_7]
  simp only [v16 hx hg ht, mul_coe, coe_sum, ofBits_1024, ofBits_half, div_coe _ (by norm_num : (1024 : ℝ) ≠ 0)]
  refine congrArg Real.toEReal ?_
  simp only [LossMath.sq, Finset.mul_sum, Finset.sum_div]
  exact Finset.sum_congr rfl fun b _ => Finset.sum_congr rfl fun s _ => Finset.sum_congr rfl fun k _ => by ring

/-- The cotangent of the normalised row's product with the gain. -/
theorem v30 (hx : ∀ b s k, X (ix3 b s k) = (x b s k : EReal)) (hg : ∀ k, G (ix1 k) = (g k : EReal))
    (ht : ∀ b s k, T (ix3 b s k) = (t b s k : EReal)) (b : Fin 2) (s : Fin 2048) (k : Fin 1024) :
    val_main_v30 (F := Ideal) X G T (ix3 b s k) = ((dy (x b s) g (t b s) k : ℝ) : EReal) := by
  pointwise [val_main_v30, val_main_v29, val_main_v28, val_main_v27, val_main_v26, val_main_v25, val_main_v19, val_main_v18, val_main_cst_10, val_main_cst_9, val_main_cst_8, val_main_cst_3]
  simp only [v16 hx hg ht, mul_coe, ofBits_half, ofBits_one, ofBits_two, ofBits_1024, div_coe _ (by norm_num : (1024 : ℝ) ≠ 0)]
  refine congrArg Real.toEReal ?_
  unfold dy; ring

theorem v54 (hx : ∀ b s k, X (ix3 b s k) = (x b s k : EReal)) (hg : ∀ k, G (ix1 k) = (g k : EReal))
    (ht : ∀ b s k, T (ix3 b s k) = (t b s k : EReal)) (k : Fin 1024) :
    val_main_v54 (F := Ideal) X G T (ix2 0 k) = ((∑ b, ∑ s, dg (x b s) g (t b s) k : ℝ) : EReal) := by
  pointwise [val_main_v54]
  refine (hostReduceAdd_r3_a01 reducesTo_S1x1x1024_S1024_d0_1 (val_main_v33 (F := Ideal) X G T) _ k).trans ?_
  rw [Fin.sum_univ_one, Fin.sum_univ_one]
  pointwise [val_main_v33]
  refine (congrArg (_ + ·) (hostReduceAdd_r3_a01 reducesTo_S2x2048x1024_S1024_d0_1 (val_main_v31 (F := Ideal) X G T) _ k)).trans ?_
  pointwise [val_main_v31, val_main_cst_11, val_main_cst_12]
  simp only [v12 hx, v30 hx hg ht, mul_coe, coe_sum]
  refine congrArg Real.toEReal ?_
  exact Finset.sum_congr rfl fun b _ => Finset.sum_congr rfl fun s _ => mul_comm _ _

theorem v35 (hx : ∀ b s k, X (ix3 b s k) = (x b s k : EReal)) (hg : ∀ k, G (ix1 k) = (g k : EReal))
    (ht : ∀ b s k, T (ix3 b s k) = (t b s k : EReal)) (b : Fin 2) (s : Fin 2048) (k : Fin 1024) :
    val_main_v35 (F := Ideal) X G T (ix3 b s k) = ((dy (x b s) g (t b s) k * g k : ℝ) : EReal) := by
  pointwise [val_main_v35, val_main_v34, val_main_v13]
  rw [v30 hx hg ht, hg, mul_coe]

theorem v46 (hx : ∀ b s k, X (ix3 b s k) = (x b s k : EReal)) (hg : ∀ k, G (ix1 k) = (g k : EReal))
    (ht : ∀ b s k, T (ix3 b s k) = (t b s k : EReal)) (b : Fin 2) (s : Fin 2048) (k : Fin 1024) :
    val_main_v46 (F := Ideal) X G T (ix3 b s k)
      = (((∑ l, x b s l * (dy (x b s) g (t b s) l * g l)) * (-1 / 2 * (rs (x b s) / ms (x b s))) / 1024 : ℝ) : EReal) := by
  pointwise [val_main_v46, val_main_v45, val_main_v44, val_main_v43, val_main_v42, val_main_v39, val_main_v38, val_main_v37, val_main_cst_13, val_main_cst_14, val_main_cst_15]
  simp only [v35 hx hg ht, v10 hx, hx, mul_coe, coe_sum, ofBits_1024, div_coe _ (by norm_num : (1024 : ℝ) ≠ 0)]
  rw [Fin.sum_univ_one, v10 hx, mul_coe, div_coe _ (by norm_num : (1024 : ℝ) ≠ 0)]

theorem v50 (hx : ∀ b s k, X (ix3 b s k) = (x b s k : EReal)) (hg : ∀ k, G (ix1 k) = (g k : EReal))
    (ht : ∀ b s k, T (ix3 b s k) = (t b s k : EReal)) (b : Fin 2) (s : Fin 2048) (k : Fin 1024) :
    val_main_v50 (F := Ideal) X G T (ix3 b s k) = ((dx (x b s) g (t b s) k : ℝ) : EReal) := by
  pointwise [val_main_v50, val_main_v49, val_main_v48, val_main_v47, val_main_v41, val_main_v40]
  simp only [v46 hx hg ht, v35 hx hg ht, v7 hx, hx, mul_coe, add_coe]
  refine congrArg Real.toEReal ?_
  exact back_eq (x b s) (fun l => dy (x b s) g (t b s) l * g l) k

/-! ### The results are the kernel's -/

section
open Cert.LossIdeal.Block (DX DG LS)

variable (hX : ∀ i, ∃ r : ℝ, X i = (r : EReal)) (hG : ∀ i, ∃ r : ℝ, G i = (r : EReal)) (hT : ∀ i, ∃ r : ℝ, T i = (r : EReal))

include hX hG hT

theorem res0 : val_main_v52 (F := Ideal) X G T = LS X G T := by
  funext i
  idx_vars i
  obtain rfl : i0 = 0 := Subsingleton.elim _ _
  refine (v52 (fun b s k => coe_re (hX _)) (fun k => coe_re (hG _)) (fun b s k => coe_re (hT _)) i1).trans ?_
  refine congrArg (fun r : ℝ => ((1 / 2048 * r : ℝ) : EReal)) ?_
  refine Eq.trans ?_ (sum_rows fun p => LossMath.sq (row X p) (vec G) (row T p))
  refine Finset.sum_congr rfl fun b _ => Finset.sum_congr rfl fun s _ => ?_
  rw [row_eq, row_eq]; rfl

theorem res3 : val_main_v54 (F := Ideal) X G T = DG X G T := by
  funext i
  idx_vars i
  obtain rfl : i0 = 0 := Subsingleton.elim _ _
  refine (v54 (fun b s k => coe_re (hX _)) (fun k => coe_re (hG _)) (fun b s k => coe_re (hT _)) i1).trans ?_
  refine congrArg Real.toEReal ?_
  refine Eq.trans ?_ (sum_rows fun p => dg (row X p) (vec G) (row T p) i1)
  refine Finset.sum_congr rfl fun b _ => Finset.sum_congr rfl fun s _ => ?_
  rw [row_eq, row_eq]; rfl

theorem res1 : val_main_v51 (F := Ideal) X G T = DX X G T := by
  funext i
  idx_vars i
  pointwise [val_main_v51]
  rw [v50 (fun b s k => coe_re (hX _)) (fun k => coe_re (hG _)) (fun b s k => coe_re (hT _))]
  rfl

theorem res2 : val_main_v53 (F := Ideal) X G T = DX X G T := by
  rw [← res1 hX hG hT]
  funext i
  pointwise [val_main_v53]

end

end Cert.LossRefIdeal.Stage

end
-- ==== Proof.Loss.Claim.lean ====
/- The loss head: the kernel's four results and the gradient of the plain loss are equal wherever the arguments are finite. -/
module

public import proofs.«01_k».proof.Defs
public import proofs.«01_k».proof.Proof.Loss.Ref
public import Idealize.ShloMosaic.Adequacy
public import Idealize.ShloMosaic.Init

@[expose] public section

noncomputable section

namespace Cert.Proof

open Idealize.ShloMosaic Idealize.SL.Sem

instance pre_finite : Cert.Pre_finite.Facts where
  bcast_S_S2x2048x1024 := by decide
  reducesTo_S2x2048x1024_S_d0_1_2 := by decide
  h_S_ := by decide
  bcast_S_S1024 := by decide
  reducesTo_S1024_S_d0 := by decide

/-- Where the condition holds, every element of every argument is a real. -/
theorem reals_of_finite {X T : FVec Ideal Cert.Pre_finite.S2x2048x1024 .f32} {G : FVec Ideal Cert.Pre_finite.S1024 .f32}
    (h : Cert.Pre_finite.fn (F := Ideal) X G T = fun _ => 1#1) :
    (∀ i, ∃ r : ℝ, X i = (r : EReal)) ∧ (∀ i, ∃ r : ℝ, G i = (r : EReal)) ∧ (∀ i, ∃ r : ℝ, T i = (r : EReal)) := by
  have h0 := congrFun h fun a => a.elim0
  obtain ⟨h1, hT⟩ := Cert.Reals.andi_eq_one h0
  obtain ⟨hX, hG⟩ := Cert.Reals.andi_eq_one h1
  exact ⟨Cert.Reals.real_of_all X _ _ _ _ _ hX, Cert.Reals.real_of_all G _ _ _ _ _ hG, Cert.Reals.real_of_all T _ _ _ _ _ hT⟩

theorem loss_algebraic : Cert.algebraic_LossIdeal_LossRefIdeal_pre_finite := by
  pair_intro
  · run_from Cert.LossIdeal.Gen.run_main m g
  · run_from Cert.LossRefIdeal.Value.run m' g'
    all_goals obtain ⟨hX, hG, hT⟩ := reals_of_finite (hpre c)
    all_goals obtain ⟨h0, h1, h2⟩ := hagree c
    · rw [Cert.LossIdeal.Block.final3 hX hG hT]
      exact (Cert.LossRefIdeal.Read.val_main_v52_eq _ _ _).trans (Cert.LossRefIdeal.Stage.res0 hX hG hT)
    · rw [Cert.LossIdeal.Block.final4 hX hG hT]
      exact (Cert.LossRefIdeal.Read.val_main_v51_eq _ _).trans (by rw [h0, h1, h2]; exact Cert.LossRefIdeal.Stage.res1 hX hG hT)
    · rw [Cert.LossIdeal.Block.final5 hX hG hT]
      exact (Cert.LossRefIdeal.Read.val_main_v53_eq _ _).trans (by rw [h0, h1, h2]; exact Cert.LossRefIdeal.Stage.res2 hX hG hT)
    · rw [Cert.LossIdeal.Block.final6 hX hG hT]
      exact (Cert.LossRefIdeal.Read.val_main_v54_eq _ _ _).trans (Cert.LossRefIdeal.Stage.res3 hX hG hT)

/-- The reference leaves its arguments unchanged; it declares no semaphore. -/
theorem loss_ref_frame : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run m ρ)

end Cert.Proof

end
-- ==== Proof.H1.Pay.lean ====
/- The gradient through a norm and a projection, over the reals: one row of it, and that the kernel's payloads over
   blocks of reals are these. -/
module

public import proofs.«01_k».proof.Proof.Gen.H1Ideal.Skeleton
public import proofs.«01_k».proof.Proof.Lib.Norm

@[expose] public section

set_option maxRecDepth 16384

noncomputable section

namespace Cert.H1Ideal.Pay

open Idealize.ShloMosaic Cert.H1Ideal Cert.H1Ideal.Gen Cert.Reals Cert.Norm
open scoped BigOperators

/-- A row's cotangent before the projection. -/
def dh (d : Fin 3072 → ℝ) (w : Fin 1024 → Fin 3072 → ℝ) (k : Fin 1024) : ℝ := ∑ l, d l * w k l

variable {D : FVec Ideal S512x3072 .bf16} {W : FVec Ideal S1024x3072 .bf16} {X R : FVec Ideal S512x1024 .f32}
  {G : FVec Ideal S1x1024 .f32}
variable {d : Fin 512 → Fin 3072 → ℝ} {w : Fin 1024 → Fin 3072 → ℝ} {x : Fin 512 → Fin 1024 → ℝ} {g : Fin 1024 → ℝ}

theorem pay3 (hd : ∀ p l, D (ix2 p l) = (d p l : EReal)) (hw : ∀ k l, W (ix2 k l) = (w k l : EReal)) (p : Fin 512) (k : Fin 1024) :
    k0_pay3 (F := Ideal) D W (ix2 p k) = ((dh (d p) w k : ℝ) : EReal) := by
  pointwise [k0_pay3]
  simp only [hd, hw, mul_coe, coe_sum]
  rfl

theorem pay5 (hx : ∀ p k, X (ix2 p k) = (x p k : EReal)) (p : Fin 512) :
    k0_pay5 (F := Ideal) X (ix2 p 0) = ((rs (x p) : ℝ) : EReal) := by
  pointwise [k0_pay5, k0_pay4]
  simp only [hx, mul_coe, coe_sum, ofBits_1024, ofBits_eps, add_coe, div_coe _ (by norm_num : (1024 : ℝ) ≠ 0)]
  exact rsqrt_coe (ms_pos (x p))

theorem pay6 (hx : ∀ p k, X (ix2 p k) = (x p k : EReal)) (p : Fin 512) (k : Fin 1024) :
    k0_pay6 (F := Ideal) X (ix2 p k) = ((x p k * rs (x p) : ℝ) : EReal) := by
  pointwise [k0_pay6, k0_pay4]
  rw [pay5 hx, hx, mul_coe]

theorem pay7 (hd : ∀ p l, D (ix2 p l) = (d p l : EReal)) (hw : ∀ k l, W (ix2 k l) = (w k l : EReal))
    (hx : ∀ p k, X (ix2 p k) = (x p k : EReal)) (hg : ∀ k, G (ix2 0 k) = (g k : EReal)) (p : Fin 512) (k : Fin 1024) :
    k0_pay7 (F := Ideal) D W X G R (ix2 p k)
      = ((back (x p) (fun l => dh (d p) w l * g l) k : ℝ) : EReal) + R (ix2 p k) := by
  pointwise [k0_pay7]
  simp only [pay3 hd hw, pay6 hx, pay5 hx, hg, mul_coe, coe_sum, ofBits_1024, sub_coe,
    div_coe _ (by norm_num : (1024 : ℝ) ≠ 0)]
  rfl

/-- The block's part of the gain's gradient. -/
theorem pay1 (hd : ∀ p l, D (ix2 p l) = (d p l : EReal)) (hw : ∀ k l, W (ix2 k l) = (w k l : EReal))
    (hx : ∀ p k, X (ix2 p k) = (x p k : EReal)) (k : Fin 1024) :
    k0_pay1 (F := Ideal) (k0_pay3 D W) (k0_pay6 X) (ix2 0 k)
      = ((∑ p, dh (d p) w k * (x p k * rs (x p)) : ℝ) : EReal) := by
  pointwise [k0_pay1]
  simp only [pay3 hd hw, pay6 hx, mul_coe, coe_sum]

theorem pay2 (A B : FVec Ideal S512x1024 .f32) (P : FVec Ideal S1x1024 .f32) (k : Fin 1024) :
    k0_pay2 (F := Ideal) A B P (ix2 0 k) = P (ix2 0 k) + k0_pay1 (F := Ideal) A B (ix2 0 k) := by
  pointwise [k0_pay2]

end Cert.H1Ideal.Pay

end
-- ==== Proof.H1.Array.lean ====
/- The gradient through a norm and a projection: its three result arrays after the run, as reals of the arguments. -/
module

public import proofs.«01_k».proof.Proof.Gen.H1Ideal.Frame
public import proofs.«01_k».proof.Proof.H1.Pay
public import Idealize.ShloMosaic.Lib.Claim
public import Idealize.ShloMosaic.Lib.Pipeline.ValueKit

@[expose] public section

set_option maxRecDepth 16384

noncomputable section

namespace Cert.H1Ideal.Block

open Idealize.ShloMosaic Idealize.ShloMosaic.TcCoe Idealize.SL.Sem
open Idealize.ShloMosaic.Pipeline (Dat)
open Cert.H1Ideal Cert.H1Ideal.Gen Cert.H1Ideal.Pay Cert.Reals Cert.Norm
open scoped BigOperators

variable (m : (ℓ : Loc nD τ sig) → Buf (Elt Ideal) ℓ)

/-- The arguments. -/
abbrev argX (c : Dev nD) : FVec Ideal S2x2048x1024 .f32 := m ((c : Thread nD τ).loc main_arg0)
abbrev argG (c : Dev nD) : FVec Ideal S1024 .f32 := m ((c : Thread nD τ).loc main_arg1)
abbrev argW (c : Dev nD) : FVec Ideal S1024x3072 .f32 := m ((c : Thread nD τ).loc main_arg2)
abbrev argD (c : Dev nD) : FVec Ideal S2x2048x3072 .f32 := m ((c : Thread nD τ).loc main_arg3)
abbrev argR (c : Dev nD) : FVec Ideal S2x2048x1024 .f32 := m ((c : Thread nD τ).loc main_arg4)

/-- The block index of every window. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ t.val < 8 :=
  (by decide +kernel : ∀ t : Fin grid0.N, _)

/-- Row `p` of grid point `t`'s block. -/
def at512 (t : Fin cfg0.N) (p : Fin 512) : Fin 4096 := ⟨t.val * 512 + p.val, by have := (idx t).2.2.2.2.2.2.2.2; omega⟩

theorem blk0 (c : Dev nD) (hD : ∀ i, ∃ r : ℝ, argD m c i = (r : EReal)) (t : Fin cfg0.N) (p : Fin 512) (k : Fin 3072) :
    (show FVec Ideal S512x3072 .bf16 from iblk m c 0 t) (ix2 p k) = ((row (argD m c) (at512 t p) k : ℝ) : EReal) := by
  rw [row, ← coe_re (hD _)]
  blk_simp [iblk]
  entry_read
  pointwise
  blk_ext [at512, idx t]

theorem blk1 (c : Dev nD) (hW : ∀ i, ∃ r : ℝ, argW m c i = (r : EReal)) (t : Fin cfg0.N) (p : Fin 1024) (k : Fin 3072) :
    (show FVec Ideal S1024x3072 .bf16 from iblk m c 1 t) (ix2 p k) = ((mat (argW m c) p k : ℝ) : EReal) := by
  rw [mat, ← coe_re (hW _)]
  blk_simp [iblk]
  entry_read
  pointwise
  blk_ext [idx t]

theorem blk2 (c : Dev nD) (hX : ∀ i, ∃ r : ℝ, argX m c i = (r : EReal)) (t : Fin cfg0.N) (p : Fin 512) (k : Fin 1024) :
    (show FVec Ideal S512x1024 .f32 from iblk m c 2 t) (ix2 p k) = ((row (argX m c) (at512 t p) k : ℝ) : EReal) := by
  rw [row, ← coe_re (hX _)]
  blk_simp [iblk]
  entry_read
  pointwise
  blk_ext [at512, idx t]

theorem blk3 (c : Dev nD) (hG : ∀ i, ∃ r : ℝ, argG m c i = (r : EReal)) (t : Fin cfg0.N) (k : Fin 1024) :
    (show FVec Ideal S1x1024 .f32 from iblk m c 3 t) (ix2 0 k) = ((vec (argG m c) k : ℝ) : EReal) := by
  rw [vec, ← coe_re (hG _)]
  blk_simp [iblk]
  entry_read
  pointwise
  blk_ext [idx t]

/-- The residual's cotangent at row `i`, whatever it is. -/
def res (R : FVec Ideal S2x2048x1024 .f32) (i : Fin 4096) (k : Fin 1024) : EReal :=
  R (ix3 ⟨i.val / 2048, by omega⟩ ⟨i.val % 2048, by omega⟩ k)

theorem blk4 (c : Dev nD) (t : Fin cfg0.N) (p : Fin 512) (k : Fin 1024) :
    (show FVec Ideal S512x1024 .f32 from iblk m c 4 t) (ix2 p k) = res (argR m c) (at512 t p) k := by
  rw [res]
  blk_simp [iblk]
  entry_read
  pointwise
  blk_ext [at512, idx t]

/-- The gradient of the activations at row `i`: through the norm, and the residual's. -/
def DX (X : FVec Ideal S2x2048x1024 .f32) (G : FVec Ideal S1024 .f32) (W : FVec Ideal S1024x3072 .f32)
    (D : FVec Ideal S2x2048x3072 .f32) (R : FVec Ideal S2x2048x1024 .f32) (i : S4096x1024.Idx) : EReal :=
  ((back (row X (i 0)) (fun l => dh (row D (i 0)) (mat W) l * vec G l) (i 1) : ℝ) : EReal) + res R (i 0) (i 1)

/-- What a row adds to the gain's gradient. -/
def dg (X : FVec Ideal S2x2048x1024 .f32) (W : FVec Ideal S1024x3072 .f32) (D : FVec Ideal S2x2048x3072 .f32) (k : Fin 1024)
    (p : Fin 4096) : ℝ := dh (row D p) (mat W) k * (row X p k * rs (row X p))

/-- The gradient of the gain. -/
def DG (X : FVec Ideal S2x2048x1024 .f32) (W : FVec Ideal S1024x3072 .f32) (D : FVec Ideal S2x2048x3072 .f32)
    (i : S1x1024.Idx) : EReal := ((∑ p : Fin 4096, dg X W D (i 1) p : ℝ) : EReal)

/-- Eight blocks of 512 rows are 4096 rows. -/
theorem sum_blocks (f : Fin 4096 → ℝ) : ∑ t : Fin cfg0.N, ∑ p : Fin 512, f (at512 t p) = ∑ i, f i :=
  (Fin.sum_univ_tiles 8 512 rfl f).symm

variable {m} {c : Dev nD} (hX : ∀ i, ∃ r : ℝ, argX m c i = (r : EReal)) (hG : ∀ i, ∃ r : ℝ, argG m c i = (r : EReal))
  (hW : ∀ i, ∃ r : ℝ, argW m c i = (r : EReal)) (hD : ∀ i, ∃ r : ℝ, argD m c i = (r : EReal))
include hX hG hW hD

/-- Both copies of the activations' gradient are the same payload. -/
theorem pay (t : Fin cfg0.N) (p : Fin 512) (k : Fin 1024) :
    k0_pay7 (F := Ideal) (iblk m c 0 t) (iblk m c 1 t) (iblk m c 2 t) (iblk m c 3 t) (iblk m c 4 t) (ix2 p k)
      = DX (argX m c) (argG m c) (argW m c) (argD m c) (argR m c) (ix2 (at512 t p) k) := by
  refine (pay7 (blk0 m c hD t) (blk1 m c hW t) (blk2 m c hX t) (blk3 m c hG t) p k).trans ?_
  exact congrArg (_ + ·) (blk4 m c t p k)

theorem out5 (t : Fin cfg0.N) (y : S512x1024.Idx) :
    (outsAt0 m c t.val t.isLt).1 y = DX (argX m c) (argG m c) (argW m c) (argD m c) (argR m c) (((cfg0.win 5).blk t).view.emb y) := by
  have h8 : t.val < 8 := (idx t).2.2.2.2.2.2.2.2
  have e : (outsAt0 m c t.val t.isLt).1
      = k0_pay7 (F := Ideal) (iblk m c 0 t) (iblk m c 1 t) (iblk m c 2 t) (iblk m c 3 t) (iblk m c 4 t) := by
    by_cases h0 : t.val % 8 = 0
    · rw [outsAt0_A m c t h0 (by omega)]; frame_out
    · rw [outsAt0_B m c t h0 (by omega)]; frame_out
  rw [e]
  idx_vars y
  refine (pay hX hG hW hD t y0 y1).trans ?_
  refine congrArg (fun i : S4096x1024.Idx => DX (argX m c) (argG m c) (argW m c) (argD m c) (argR m c) i)
    (a₁ := (ix2 (at512 t y0) y1 : S4096x1024.Idx)) ?_
  blk_ext [at512, idx t]

theorem final5 : (dats m 0 c).arrAt 5 (cfgs 0).N = DX (argX m c) (argG m c) (argW m c) (argD m c) (argR m c) := by
  refine (dats m 0 c).arrAt_eq_of_covers 5 _ (by decide +kernel) fun t _ y => ?_
  blk_simp
  rw [after0_5]
  exact out5 hX hG hW hD t y

theorem out6 (t : Fin cfg0.N) (y : S512x1024.Idx) :
    (outsAt0 m c t.val t.isLt).2.1 y = DX (argX m c) (argG m c) (argW m c) (argD m c) (argR m c) (((cfg0.win 6).blk t).view.emb y) := by
  have h8 : t.val < 8 := (idx t).2.2.2.2.2.2.2.2
  have e : (outsAt0 m c t.val t.isLt).2.1
      = k0_pay8 (F := Ideal) (iblk m c 0 t) (iblk m c 1 t) (iblk m c 2 t) (iblk m c 3 t) (iblk m c 4 t) := by
    by_cases h0 : t.val % 8 = 0
    · rw [outsAt0_A m c t h0 (by omega)]; frame_out
    · rw [outsAt0_B m c t h0 (by omega)]; frame_out
  rw [e]
  idx_vars y
  refine (pay hX hG hW hD t y0 y1).trans ?_
  refine congrArg (fun i : S4096x1024.Idx => DX (argX m c) (argG m c) (argW m c) (argD m c) (argR m c) i)
    (a₁ := (ix2 (at512 t y0) y1 : S4096x1024.Idx)) ?_
  blk_ext [at512, idx t]

theorem final6 : (dats m 0 c).arrAt 6 (cfgs 0).N = DX (argX m c) (argG m c) (argW m c) (argD m c) (argR m c) := by
  refine (dats m 0 c).arrAt_eq_of_covers 6 _ (by decide +kernel) fun t _ y => ?_
  blk_simp
  rw [after0_6]
  exact out6 hX hG hW hD t y

/-- What grid point `t` adds to the gain's gradient. -/
def part7 (m : (ℓ : Loc nD τ sig) → Buf (Elt Ideal) ℓ) (c : Dev nD) (t : Fin cfg0.N) (j : S1x1024.Idx) : EReal :=
  ((∑ p : Fin 512, dg (argX m c) (argW m c) (argD m c) (j 1) (at512 t p) : ℝ) : EReal)

theorem pay_part (t : Fin cfg0.N) (k : Fin 1024) :
    k0_pay1 (F := Ideal) (k0_pay3 (iblk m c 0 t) (iblk m c 1 t)) (k0_pay6 (iblk m c 2 t)) (ix2 0 k) = part7 m c t (ix2 0 k) :=
  pay1 (blk0 m c hD t) (blk1 m c hW t) (blk2 m c hX t) k

theorem sum7 (j : S1x1024.Idx) : (outsAt0 m c t0_7.val t0_7.isLt).2.2 j = ∑ t, part7 m c t j := by
  rw [Pipeline.eq_sum_fin_of_reset_step_apply_last (fun n h => (outsAt0 m c n h).2.2) 8 (fun _ => 0) (part7 m c)
    (fun t h j => by
      rw [outsAt0_A m c t h (by have := (idx t).2.2.2.2.2.2.2.2; omega)]; frame_out
      idx_vars j
      obtain rfl : j0 = 0 := Subsingleton.elim _ _
      exact (pay_part hX hG hW hD t j1).trans (zero_add _).symm)
    (fun t h j => by
      rw [outsAt0_B m c t h (by have := (idx t).2.2.2.2.2.2.2.2; omega)]; frame_out
      idx_vars j
      obtain rfl : j0 = 0 := Subsingleton.elim _ _
      rw [pay2, pay_part hX hG hW hD t j1])
    (le_of_eq N_0) t0_7 rfl j, zero_add]

theorem final7 : (dats m 0 c).arrAt 7 (cfgs 0).N = DG (argX m c) (argW m c) (argD m c) := by
  refine (dats m 0 c).arrAt_eq_of_after_last 7 t0_7 (by decide +kernel) _ fun j => ?_
  blk_simp
  rw [after0_7]
  refine (sum7 hX hG hW hD j).trans ?_
  unfold part7
  rw [coe_sum]
  exact congrArg _ (sum_blocks fun p => dg (argX m c) (argW m c) (argD m c) (j 1) p)

end Cert.H1Ideal.Block

end
-- ==== Proof.H1.Ref.lean ====
/- The reference of the gradient through a norm and a projection, stage by stage, over the reals. -/
module

public import proofs.«01_k».proof.Proof.Gen.H1RefIdeal.Read
public import proofs.«01_k».proof.Proof.H1.Array

@[expose] public section

set_option maxRecDepth 16384

noncomputable section

namespace Cert.H1RefIdeal.Stage

open Idealize.ShloMosaic Cert.H1RefIdeal Cert.H1RefIdeal.Gen Cert.H1RefIdeal.Read Cert.Reals Cert.Norm Cert.H1Ideal.Pay
open scoped BigOperators

variable {X R : FVec Ideal S2x2048x1024 .f32} {G : FVec Ideal S1024 .f32} {W : FVec Ideal S1024x3072 .f32}
  {D : FVec Ideal S2x2048x3072 .f32}
variable {x : Fin 2 → Fin 2048 → Fin 1024 → ℝ} {g : Fin 1024 → ℝ} {w : Fin 1024 → Fin 3072 → ℝ}
  {d : Fin 2 → Fin 2048 → Fin 3072 → ℝ}

theorem v6 (hx : ∀ b s k, X (ix3 b s k) = (x b s k : EReal)) (b : Fin 2) (s : Fin 2048) :
    val_main_v6 (F := Ideal) X (ix3 b s 0) = ((ms (x b s) : ℝ) : EReal) := by
  pointwise [val_main_v6, val_main_v5, val_main_v4, val_main_v3, val_main_v2, val_main_v1, val_main_v0, val_main_cst, val_main_cst_0, val_main_cst_1]
  simp only [hx, mul_coe, coe_sum, ofBits_1024, ofBits_eps, add_coe, div_coe _ (by norm_num : (1024 : ℝ) ≠ 0)]
  rfl

theorem v7 (hx : ∀ b s k, X (ix3 b s k) = (x b s k : EReal)) (b : Fin 2) (s : Fin 2048) :
    val_main_v7 (F := Ideal) X (ix3 b s 0) = ((rs (x b s) : ℝ) : EReal) := by
  pointwise [val_main_v7]
  rw [v6 hx]
  exact rsqrt_coe (ms_pos (x b s))

theorem v10 (hx : ∀ b s k, X (ix3 b s k) = (x b s k : EReal)) (b : Fin 2) (s : Fin 2048) :
    val_main_v10 (F := Ideal) X (ix3 b s 0) = ((-1 / 2 * (rs (x b s) / ms (x b s)) : ℝ) : EReal) := by
  pointwise [val_main_v10, val_main_v9, val_main_v8, val_main_cst_2]
  simp only [v6 hx, v7 hx, div_coe _ (ms_pos (x b s)).ne', ofBits_neg_half, mul_coe]

theorem v12 (hx : ∀ b s k, X (ix3 b s k) = (x b s k : EReal)) (b : Fin 2) (s : Fin 2048) (k : Fin 1024) :
    val_main_v12 (F := Ideal) X (ix3 b s k) = ((x b s k * rs (x b s) : ℝ) : EReal) := by
  pointwise [val_main_v12, val_main_v11]
  rw [v7 hx, hx, mul_coe]

theorem v17 (hw : ∀ k l, W (ix2 k l) = (w k l : EReal)) (hd : ∀ b s l, D (ix3 b s l) = (d b s l : EReal))
    (b : Fin 2) (s : Fin 2048) (k : Fin 1024) :
    val_main_v17 (F := Ideal) W D (ix3 b s k) = ((dh (d b s) w k : ℝ) : EReal) := by
  pointwise [val_main_v17]
  simp only [hw, hd, mul_coe, coe_sum]
  rfl

theorem v22 (hg : ∀ k, G (ix1 k) = (g k : EReal)) (hw : ∀ k l, W (ix2 k l) = (w k l : EReal))
    (hd : ∀ b s l, D (ix3 b s l) = (d b s l : EReal)) (b : Fin 2) (s : Fin 2048) (k : Fin 1024) :
    val_main_v22 (F := Ideal) G W D (ix3 b s k) = ((dh (d b s) w k * g k : ℝ) : EReal) := by
  pointwise [val_main_v22, val_main_v21, val_main_v13]
  rw [v17 hw hd, hg, mul_coe]

/-- The gain's gradient. -/
theorem v41 (hx : ∀ b s k, X (ix3 b s k) = (x b s k : EReal)) (hw : ∀ k l, W (ix2 k l) = (w k l : EReal))
    (hd : ∀ b s l, D (ix3 b s l) = (d b s l : EReal)) (k : Fin 1024) :
    val_main_v41 (F := Ideal) X W D (ix2 0 k)
      = ((∑ b, ∑ s, dh (d b s) w k * (x b s k * rs (x b s)) : ℝ) : EReal) := by
  pointwise [val_main_v41]
  refine (hostReduceAdd_r3_a01 reducesTo_S1x1x1024_S1024_d0_1 (val_main_v20 (F := Ideal) X W D) _ k).trans ?_
  rw [Fin.sum_univ_one, Fin.sum_univ_one]
  pointwise [val_main_v20]
  refine (congrArg (_ + ·) (hostReduceAdd_r3_a01 reducesTo_S2x2048x1024_S1024_d0_1 (val_main_v18 (F := Ideal) X W D) _ k)).trans ?_
  pointwise [val_main_v18, val_main_cst_3, val_main_cst_4]
  simp only [v12 hx, v17 hw hd, mul_coe, coe_sum]
  refine congrArg Real.toEReal ?_
  exact Finset.sum_congr rfl fun b _ => Finset.sum_congr rfl fun s _ => mul_comm _ _

theorem v33 (hx : ∀ b s k, X (ix3 b s k) = (x b s k : EReal)) (hg : ∀ k, G (ix1 k) = (g k : EReal))
    (hw : ∀ k l, W (ix2 k l) = (w k l : EReal)) (hd : ∀ b s l, D (ix3 b s l) = (d b s l : EReal))
    (b : Fin 2) (s : Fin 2048) :
    val_main_v33 (F := Ideal) X G W D (ix2 b s)
      = (((∑ l, x b s l * (dh (d b s) w l * g l)) * (-1 / 2 * (rs (x b s) / ms (x b s))) / 1024 : ℝ) : EReal) := by
  pointwise [val_main_v33, val_main_v32, val_main_v31, val_main_v30, val_main_v26, val_main_v25, val_main_v24, val_main_cst_5, val_main_cst_6, val_main_cst_7]
  simp only [v22 hg hw hd, v10 hx, hx, mul_coe, coe_sum, ofBits_1024, div_coe _ (by norm_num : (1024 : ℝ) ≠ 0)]
  rw [Fin.sum_univ_one, v10 hx, mul_coe, div_coe _ (by norm_num : (1024 : ℝ) ≠ 0)]

theorem v38 (hx : ∀ b s k, X (ix3 b s k) = (x b s k : EReal)) (hg : ∀ k, G (ix1 k) = (g k : EReal))
    (hw : ∀ k l, W (ix2 k l) = (w k l : EReal)) (hd : ∀ b s l, D (ix3 b s l) = (d b s l : EReal))
    (b : Fin 2) (s : Fin 2048) (k : Fin 1024) :
    val_main_v38 (F := Ideal) X G W D R (ix3 b s k)
      = ((back (x b s) (fun l => dh (d b s) w l * g l) k : ℝ) : EReal) + R (ix3 b s k) := by
  pointwise [val_main_v38, val_main_v37, val_main_v36, val_main_v35, val_main_v34, val_main_v29, val_main_v28, val_main_v27]
  simp only [v33 hx hg hw hd, v22 hg hw hd, v7 hx, hx, mul_coe]
  rw [add_assoc, add_assoc, add_comm]
  refine congrArg (· + _) ?_
  rw [add_coe, add_coe, ← add_assoc]
  exact congrArg Real.toEReal (back_eq (x b s) (fun l => dh (d b s) w l * g l) k)

/-! ### The results are the kernel's -/

section
open Cert.H1Ideal.Block (DX DG dg)

variable (hX : ∀ i, ∃ r : ℝ, X i = (r : EReal)) (hG : ∀ i, ∃ r : ℝ, G i = (r : EReal))
  (hW : ∀ i, ∃ r : ℝ, W i = (r : EReal)) (hD : ∀ i, ∃ r : ℝ, D i = (r : EReal))
include hX hG hW hD

theorem res2 : val_main_v41 (F := Ideal) X W D = DG X W D := by
  funext i
  idx_vars i
  obtain rfl : i0 = 0 := Subsingleton.elim _ _
  refine (v41 (fun b s k => coe_re (hX _)) (fun k l => coe_re (hW _)) (fun b s l => coe_re (hD _)) i1).trans ?_
  refine congrArg Real.toEReal ?_
  refine Eq.trans ?_ (sum_rows fun p => dg X W D i1 p)
  refine Finset.sum_congr rfl fun b _ => Finset.sum_congr rfl fun s _ => ?_
  simp only [dg, row_eq]
  rfl

theorem res0 : val_main_v39 (F := Ideal) X G W D R = DX X G W D R := by
  funext i
  idx_vars i
  pointwise [val_main_v39]
  rw [v38 (fun b s k => coe_re (hX _)) (fun k => coe_re (hG _)) (fun k l => coe_re (hW _)) (fun b s l => coe_re (hD _))]
  rfl

theorem res1 : val_main_v40 (F := Ideal) X G W D R = DX X G W D R := by
  rw [← res0 hX hG hW hD]
  funext i
  pointwise [val_main_v40]

end

end Cert.H1RefIdeal.Stage

end
-- ==== Proof.H1.Claim.lean ====
/- The gradient through a norm and a projection: the kernel's three results and the reference's are equal wherever the
   arguments but the residual's cotangent are finite. -/
module

public import proofs.«01_k».proof.Defs
public import proofs.«01_k».proof.Proof.H1.Ref
public import proofs.«01_k».proof.Proof.Gen.H1Ideal.Value
public import proofs.«01_k».proof.Proof.Gen.H1RefIdeal.Run
public import Idealize.ShloMosaic.Adequacy
public import Idealize.ShloMosaic.Init

@[expose] public section

noncomputable section

namespace Cert.Proof

open Idealize.ShloMosaic Idealize.SL.Sem

instance pre_finite_h1 : Cert.Pre_finite_h1.Facts where
  bcast_S_S2x2048x1024 := by decide
  reducesTo_S2x2048x1024_S_d0_1_2 := by decide
  h_S_ := by decide
  bcast_S_S1024 := by decide
  reducesTo_S1024_S_d0 := by decide
  bcast_S_S1024x3072 := by decide
  reducesTo_S1024x3072_S_d0_1 := by decide
  bcast_S_S2x2048x3072 := by decide
  reducesTo_S2x2048x3072_S_d0_1_2 := by decide

/-- Where the condition holds, every element of the arguments it names is a real. -/
theorem reals_of_finite_h1 {X R : FVec Ideal Cert.Pre_finite_h1.S2x2048x1024 .f32} {G : FVec Ideal Cert.Pre_finite_h1.S1024 .f32}
    {W : FVec Ideal Cert.Pre_finite_h1.S1024x3072 .f32} {D : FVec Ideal Cert.Pre_finite_h1.S2x2048x3072 .f32}
    (h : Cert.Pre_finite_h1.fn (F := Ideal) X G W D R = fun _ => 1#1) :
    (∀ i, ∃ r : ℝ, X i = (r : EReal)) ∧ (∀ i, ∃ r : ℝ, G i = (r : EReal)) ∧ (∀ i, ∃ r : ℝ, W i = (r : EReal))
      ∧ (∀ i, ∃ r : ℝ, D i = (r : EReal)) := by
  have h0 := congrFun h fun a => a.elim0
  obtain ⟨h1, hD⟩ := Cert.Reals.andi_eq_one h0
  obtain ⟨h2, hW⟩ := Cert.Reals.andi_eq_one h1
  obtain ⟨hX, hG⟩ := Cert.Reals.andi_eq_one h2
  exact ⟨Cert.Reals.real_of_all X _ _ _ _ _ hX, Cert.Reals.real_of_all G _ _ _ _ _ hG, Cert.Reals.real_of_all W _ _ _ _ _ hW,
    Cert.Reals.real_of_all D _ _ _ _ _ hD⟩

theorem h1_algebraic : Cert.algebraic_H1Ideal_H1RefIdeal_pre_finite_h1 := by
  pair_intro
  · run_from Cert.H1Ideal.Gen.run_main m g
  · run_from Cert.H1RefIdeal.Value.run m' g'
    all_goals obtain ⟨hX, hG, hW, hD⟩ := reals_of_finite_h1 (hpre c)
    all_goals obtain ⟨h0, h1, h2, h3, h4⟩ := hagree c
    · rw [Cert.H1Ideal.Block.final5 hX hG hW hD]
      exact (Cert.H1RefIdeal.Read.val_main_v39_eq _ _).trans (by rw [h0, h1, h2, h3, h4]; exact Cert.H1RefIdeal.Stage.res0 hX hG hW hD)
    · rw [Cert.H1Ideal.Block.final6 hX hG hW hD]
      exact (Cert.H1RefIdeal.Read.val_main_v40_eq _ _).trans (by rw [h0, h1, h2, h3, h4]; exact Cert.H1RefIdeal.Stage.res1 hX hG hW hD)
    · rw [Cert.H1Ideal.Block.final7 hX hG hW hD]
      exact (Cert.H1RefIdeal.Read.val_main_v41_eq _ _ _).trans (Cert.H1RefIdeal.Stage.res2 hX hG hW hD)

/-- The reference leaves its arguments unchanged; it declares no semaphore. -/
theorem h1_ref_frame : Cert.quiescent_H1RefIdeal := fun m ρ _ =>
  (θ_run Cert.H1RefIdeal.defs _ _).mono (fun r h => ⟨fun c => (h c).2.2.2, sem_eq_zero_of_no_sems (by decide) r.2⟩)
    (Cert.H1RefIdeal.Value.run m ρ)

end Cert.Proof

end
-- ==== Proof.Ffn.Block.lean ====
module

public import proofs.«01_k».proof.Proof.Gen.FfnIdeal.Frame
public import Idealize.ShloMosaic.Lib.Claim
public import Idealize.ShloMosaic.Lib.Pipeline.ValueKit

/-! What one grid point of the feed-forward gradient kernel computes, stated once for the four
pairs of feed-forward blocks.  A point reads a window of 272 rows around its 256 rows; `wpre` is
that window of the saved pre-activations, `act` its convolution, `dz` the gradient of the
convolved rows, `back` the gradient of the pre-activations, `wsum` the point's part of the
gradient of the convolution weights, `dh` the gradient of the normalised rows. -/

@[expose] public section
set_option maxRecDepth 16384
noncomputable section
namespace Cert.FfnIdeal.Block

open Idealize.ShloMosaic Idealize.ShloMosaic.TcCoe Idealize.SL.Sem
open Idealize.ShloMosaic.Pipeline (Dat)
open Cert.FfnIdeal Cert.FfnIdeal.Gen
variable (m : (ℓ : Loc nD τ sig) → Buf (Elt Ideal) ℓ) (c : Dev nD) (t : Fin cfg0.N)

/-- One where the point is not the first of its sequence, else zero. -/
def lo : Ideal .f32 := k0_pay54 (grid0.coords t)
/-- One where the point is not the last of its sequence, else zero. -/
def hi : Ideal .f32 := k0_pay55 (grid0.coords t)
/-- The window of 288 rows of the gradient that comes in. -/
def rows288 : FVec Ideal S288x1024 .bf16 := k0_pay56 (iblk m c 4 t) (iblk m c 3 t) (iblk m c 5 t)
/-- The window's rows outside the sequence at zero, the others at one. -/
def edge : FVec Ideal S272x1 .f32 :=
  k0_pay59 (lo t) (hi t) (iota .tc S272x1 32 [0] iota_S272x1_d0_w32) k0_pay57 k0_pay58

theorem inb4 {a b : ℕ} (s : Fin 2) (p : Fin 4) (k : Fin 4) :
    (![(s : ℕ), (p : ℕ), 0, 0] : Fin 4 → ℕ) k + (![1, 1, a, b] : Fin 4 → ℕ) k ≤ (![2, 4, a, b] : Fin 4 → ℕ) k := by
  have := s.isLt
  have := p.isLt
  match k with
  | 0 => show (s : ℕ) + 1 ≤ 2; omega
  | 1 => show (p : ℕ) + 1 ≤ 4; omega
  | 2 => show 0 + a ≤ a; omega
  | 3 => show 0 + b ≤ b; omega
theorem inb41 {b : ℕ} (s : Fin 2) (p : Fin 4) (j : Fin 3) (k : Fin 4) :
    (![(s : ℕ), (p : ℕ), (j : ℕ), 0] : Fin 4 → ℕ) k + (![1, 1, 1, b] : Fin 4 → ℕ) k ≤
      (![2, 4, 3, b] : Fin 4 → ℕ) k := by
  have := s.isLt
  have := p.isLt
  have := j.isLt
  match k with
  | 0 => show (s : ℕ) + 1 ≤ 2; omega
  | 1 => show (p : ℕ) + 1 ≤ 4; omega
  | 2 => show (j : ℕ) + 1 ≤ 3; omega
  | 3 => show 0 + b ≤ b; omega
theorem inb3 {n a b : ℕ} (p : Fin n) (k : Fin 3) :
    (![(p : ℕ), 0, 0] : Fin 3 → ℕ) k + (![1, a, b] : Fin 3 → ℕ) k ≤ (![n, a, b] : Fin 3 → ℕ) k := by
  have := p.isLt
  match k with
  | 0 => show (p : ℕ) + 1 ≤ n; omega
  | 1 => show 0 + a ≤ a; omega
  | 2 => show 0 + b ≤ b; omega

/-- One half and one pair of the saved rows before the point. -/
def prev (s : Fin 2) (p : Fin 4) : Vec Ideal S1x1x16x704 .bf16 :=
  View.ld (Val := Elt Ideal) (iblk m c 1 t) (Rect.unit ![s, p, 0, 0] ![1, 1, 16, 704] (inb4 s p))
/-- One half and one pair of the point's own saved rows. -/
def main (s : Fin 2) (p : Fin 4) : Vec Ideal S1x1x256x704 .bf16 :=
  View.ld (Val := Elt Ideal) (iblk m c 0 t) (Rect.unit ![s, p, 0, 0] ![1, 1, 256, 704] (inb4 s p))
/-- One half and one pair of the saved rows after the point. -/
def next (s : Fin 2) (p : Fin 4) : Vec Ideal S1x1x16x704 .bf16 :=
  View.ld (Val := Elt Ideal) (iblk m c 2 t) (Rect.unit ![s, p, 0, 0] ![1, 1, 16, 704] (inb4 s p))
/-- The convolution weights of one half and one pair. -/
def cw (s : Fin 2) (p : Fin 4) : Vec Ideal S1x1x3x704 .f32 :=
  View.ld (Val := Elt Ideal) (iblk m c 6 t) (Rect.unit ![s, p, 0, 0] ![1, 1, 3, 704] (inb4 s p))
/-- The pair's rows of the down matrix. -/
def wd (p : Fin 4) : Vec Ideal S1x704x1024 .bf16 :=
  View.ld (Val := Elt Ideal) (iblk m c 7 t) (Rect.unit ![p, 0, 0] ![1, 704, 1024] (inb3 p))
/-- One block of the up matrix. -/
def wu (q : Fin 8) : Vec Ideal S1x704x1024 .bf16 :=
  View.ld (Val := Elt Ideal) (iblk m c 8 t) (Rect.unit ![q, 0, 0] ![1, 704, 1024] (inb3 q))

/-- The window of the saved rows. -/
def wpre (s : Fin 2) (p : Fin 4) : FVec Ideal S272x704 .f32 :=
  k0_pay61 (lo t) (hi t) (prev m c t s p) (main m c t s p) (next m c t s p)
/-- The convolved window. -/
def act (s : Fin 2) (p : Fin 4) : FVec Ideal S272x704 .f32 := k0_pay67 (wpre m c t s p) (cw m c t s p)
/-- The gradient of the gated rows. -/
def dact (p : Fin 4) : FVec Ideal S272x704 .f32 := k0_pay66 (rows288 m c t) (edge t) (wd m c t p)
/-- Half of the convolved gate. -/
def half (p : Fin 4) : FVec Ideal S272x704 .f32 :=
  mulf (broadcast S272x704 (Scalar.ofBits .f32 0x3F000000#32)) (act m c t 0 p)
/-- The gradient of the convolved rows. -/
def dz (s : Fin 2) (p : Fin 4) : FVec Ideal S272x704 .f32 :=
  match s with
  | 0 => k0_pay72 (dact m c t p) (act m c t 0 p) (act m c t 1 p) (half m c t p)
  | 1 => k0_pay79 (dact m c t p) (act m c t 0 p) (half m c t p)
/-- The window moved up by one row. -/
def up (d : FVec Ideal S272x704 .f32) : FVec Ideal S272x704 .f32 :=
  dynamicRotate 0 271#32 none d rotates_S272x704_d0
/-- The gradient of the saved rows. -/
def back (s : Fin 2) (p : Fin 4) : FVec Ideal S256x704 .bf16 :=
  k0_pay87 (dz m c t s p) (k0_pay80 (cw m c t s p)) (up (dz m c t s p)) (up (up (dz m c t s p)))
/-- The gradient of the saved rows, as stored. -/
def stored (s : Fin 2) (p : Fin 4) : FVec Ideal S1x1x256x704 .bf16 :=
  shapeCast S1x1x256x704 (back m c t s p) shapeCasts_S256x704_S1x1x256x704

/-- The point's part of the gradient of one row of convolution weights. -/
def wsum (s : Fin 2) (p : Fin 4) (j : Fin 3) : FVec Ideal S1x704 .f32 :=
  k0_pay85 (wpre m c t s p) (match j with
    | 0 => up (up (dz m c t s p))
    | 1 => up (dz m c t s p)
    | 2 => dz m c t s p)
/-- That row as the first point stores it. -/
def row0 (s : Fin 2) (p : Fin 4) (j : Fin 3) : FVec Ideal S1x1x1x704 .f32 :=
  shapeCast S1x1x1x704 (wsum m c t s p j) shapeCasts_S1x704_S1x1x1x704
/-- That row as a later point stores it over what the earlier points left. -/
def rowN (B : Vec Ideal S2x4x3x704 .f32) (s : Fin 2) (p : Fin 4) (j : Fin 3) : FVec Ideal S1x1x1x704 .f32 :=
  shapeCast S1x1x1x704 (addf (shapeCast S1x704
    (View.ld (Val := Elt Ideal) B (Rect.unit ![s, p, j, 0] ![1, 1, 1, 704] (inb41 s p j)))
    shapeCasts_S1x1x1x704_S1x704) (wsum m c t s p j)) shapeCasts_S1x704_S1x1x1x704
/-- The gradient of the normalised rows after one more pair of blocks. -/
def dhStep (a : FVec Ideal S256x1024 .f32) (p : Fin 4) : FVec Ideal S256x1024 .f32 :=
  k0_pay92 (back m c t 1 p) (k0_pay92 (back m c t 0 p) a (k0_pay91 (wu m c t ⟨p, by omega⟩)) (constant S256x1024 .f32 0x00000000#32))
    (k0_pay91 (wu m c t ⟨4 + p, by omega⟩)) (constant S256x1024 .f32 0x00000000#32)
/-- The gradient of the normalised rows. -/
def dh : FVec Ideal S256x1024 .f32 :=
  dhStep m c t (dhStep m c t (dhStep m c t (dhStep m c t k0_pay60 0) 1) 2) 3

/-- A piece of a family with one half and one pair in each piece, read at the index of the whole. -/
theorem of_piece {G : Fin 2 → Fin 4 → Vec Ideal S1x1x256x704 .bf16} {P : Vec Ideal S1x1x256x704 .bf16}
    {y : S2x4x256x704.Idx} {x : S1x1x256x704.Idx} {a b : ℕ}
    (h0 : (y 0 : ℕ) = a) (h1 : (y 1 : ℕ) = b) (h2 : (y 2 : ℕ) = x 2) (h3 : (y 3 : ℕ) = x 3)
    (h : ∀ (ha : a < 2) (hb : b < 4), P = G ⟨a, ha⟩ ⟨b, hb⟩) :
    P x = G (y 0) (y 1) (ix4 0 0 (y 2) (y 3)) := by
  have x0 : (x 0 : ℕ) < 1 := (x 0).isLt
  have x1 : (x 1 : ℕ) < 1 := (x 1).isLt
  have e : ix4 0 0 (y 2) (y 3) = x := by
    funext a
    match a with
    | 0 => exact Fin.ext (show 0 = (x 0 : ℕ) by omega)
    | 1 => exact Fin.ext (show 0 = (x 1 : ℕ) by omega)
    | 2 => exact Fin.ext h2
    | 3 => exact Fin.ext h3
  subst h0 h1
  exact (congrFun (h (y 0).isLt (y 1).isLt) x).trans (congrArg _ e.symm)
/-- The same for a family with one row in each piece. -/
theorem of_row {G : Fin 2 → Fin 4 → Fin 3 → Vec Ideal S1x1x1x704 .f32} {P : Vec Ideal S1x1x1x704 .f32}
    {y : S2x4x3x704.Idx} {x : S1x1x1x704.Idx} {a b d : ℕ}
    (h0 : (y 0 : ℕ) = a) (h1 : (y 1 : ℕ) = b) (h2 : (y 2 : ℕ) = d) (h3 : (y 3 : ℕ) = x 3)
    (h : ∀ (ha : a < 2) (hb : b < 4) (hd : d < 3), P = G ⟨a, ha⟩ ⟨b, hb⟩ ⟨d, hd⟩) :
    P x = G (y 0) (y 1) (y 2) (ix4 0 0 0 (y 3)) := by
  have x0 : (x 0 : ℕ) < 1 := (x 0).isLt
  have x1 : (x 1 : ℕ) < 1 := (x 1).isLt
  have x2 : (x 2 : ℕ) < 1 := (x 2).isLt
  have e : ix4 0 0 0 (y 3) = x := by
    funext a
    match a with
    | 0 => exact Fin.ext (show 0 = (x 0 : ℕ) by omega)
    | 1 => exact Fin.ext (show 0 = (x 1 : ℕ) by omega)
    | 2 => exact Fin.ext (show 0 = (x 2 : ℕ) by omega)
    | 3 => exact Fin.ext h3
  subst h0 h1 h2
  exact (congrFun (h (y 0).isLt (y 1).isLt (y 2).isLt) x).trans (congrArg _ e.symm)

theorem out12 (y : S2x4x256x704.Idx) :
    (outsAt0 m c t.val t.isLt).1 y = stored m c t (y 0) (y 1) (ix4 0 0 (y 2) (y 3)) := by
  have ht : t.val < 16 := lt_of_lt_of_eq t.isLt N_0
  by_cases g : 1 ≤ t.val
  · rw [outsAt0_B m c t (by omega) g]; frame_out
    canon_tiles x h
    all_goals
      rw [show (x 0 : ℕ) = 0 by omega] at h0
      rw [show (x 1 : ℕ) = 0 by omega] at h1
      exact of_piece h0 h1 h2 h3 fun _ _ => rfl
  · rw [outsAt0_A m c t (by omega) g]; frame_out
    canon_tiles x h
    all_goals
      rw [show (x 0 : ℕ) = 0 by omega] at h0
      rw [show (x 1 : ℕ) = 0 by omega] at h1
      exact of_piece h0 h1 h2 h3 fun _ _ => rfl

theorem out13_A (h0 : t.val % 16 = 0) (h1 : ¬ 1 ≤ t.val) (y : S2x4x3x704.Idx) :
    (outsAt0 m c t.val t.isLt).2.1 y = row0 m c t (y 0) (y 1) (y 2) (ix4 0 0 0 (y 3)) := by
  rw [outsAt0_A m c t h0 h1]; frame_out
  canon_tiles x h
  all_goals
    rw [show (x 0 : ℕ) = 0 by omega] at h0
    rw [show (x 1 : ℕ) = 0 by omega] at h1
    rw [show (x 2 : ℕ) = 0 by omega] at h2
    exact of_row h0 h1 h2 h3 fun _ _ _ => rfl

theorem out13_B (h0 : ¬ t.val % 16 = 0) (h1 : 1 ≤ t.val) (y : S2x4x3x704.Idx) :
    (outsAt0 m c t.val t.isLt).2.1 y =
      rowN m c t (outsAt0 m c (t.val - 1) (by omega)).2.1 (y 0) (y 1) (y 2) (ix4 0 0 0 (y 3)) := by
  rw [outsAt0_B m c t h0 h1]; frame_out
  canon_tiles x h
  all_goals
    rw [show (x 0 : ℕ) = 0 by omega] at h0
    rw [show (x 1 : ℕ) = 0 by omega] at h1
    rw [show (x 2 : ℕ) = 0 by omega] at h2
    exact of_row (G := rowN m c t _) h0 h1 h2 h3 fun _ _ _ => rfl

/-- The gradient of the rows the call was given. -/
def dx : FVec Ideal S256x1024 .f32 :=
  k0_pay180 (dh m c t) (k0_pay178 (iblk m c 9 t)) (k0_pay179 (iblk m c 9 t)) (iblk m c 10 t) (iblk m c 11 t)
/-- The point's part of the gradient of the gain. -/
def gsum : FVec Ideal S1x1024 .f32 := k0_pay182 (dh m c t) (k0_pay179 (iblk m c 9 t))

theorem out14 : (outsAt0 m c t.val t.isLt).2.2.1 = dx m c t := by
  have ht : t.val < 16 := lt_of_lt_of_eq t.isLt N_0
  by_cases g : 1 ≤ t.val
  · rw [outsAt0_B m c t (by omega) g]; frame_out; rfl
  · rw [outsAt0_A m c t (by omega) g]; frame_out; rfl

theorem out15 : (outsAt0 m c t.val t.isLt).2.2.2.1 = truncf (F := Ideal) .bf16 (dx m c t) bitsLt_bf16_f32 := by
  have ht : t.val < 16 := lt_of_lt_of_eq t.isLt N_0
  by_cases g : 1 ≤ t.val
  · rw [outsAt0_B m c t (by omega) g]; frame_out; rfl
  · rw [outsAt0_A m c t (by omega) g]; frame_out; rfl

theorem out16_A (h0 : t.val % 16 = 0) (h1 : ¬ 1 ≤ t.val) :
    (outsAt0 m c t.val t.isLt).2.2.2.2 = gsum m c t := by
  rw [outsAt0_A m c t h0 h1]; frame_out; rfl

theorem out16_B (h0 : ¬ t.val % 16 = 0) (h1 : 1 ≤ t.val) :
    (outsAt0 m c t.val t.isLt).2.2.2.2 =
      addf (F := Ideal) (outsAt0 m c (t.val - 1) (by omega)).2.2.2.2 (gsum m c t) := by
  rw [outsAt0_B m c t h0 h1]; frame_out
  refine Eq.trans (b := k0_pay24 (F := Ideal) (gsum m c t) _) rfl ?_
  funext y
  pointwise [k0_pay24]

end Cert.FfnIdeal.Block

end
-- ==== Proof.Lib.Seq.lean ====
/- Two sequences of 2048 rows, a causal convolution of three taps along each, the gate `silu a * v` of two convolved
   columns, and the gradients of both, over the reals.  A position `q` of a sequence is counted from eight rows before
   its first row, so that a convolution's rows before the sequence have a position too. -/
module

public import proofs.«01_k».proof.Proof.Lib.Norm

@[expose] public section

noncomputable section

namespace Cert.Seq

open Idealize.ShloMosaic Cert.Reals Cert.Norm
open scoped BigOperators

/-- A column of the batch at position `q` of sequence `b`: zero outside the sequence. -/
def pad (f : Fin 4096 → ℝ) (b q : ℕ) : ℝ :=
  if h : b < 2 ∧ 8 ≤ q ∧ q < 2056 then f ⟨b * 2048 + (q - 8), by omega⟩ else 0

theorem pad_row (f : Fin 4096 → ℝ) (i : Fin 4096) : pad f (i.val / 2048) (i.val % 2048 + 8) = f i := by
  unfold pad
  rw [dif_pos (by omega)]
  exact congrArg f (Fin.ext (by show i.val / 2048 * 2048 + (i.val % 2048 + 8 - 8) = i.val; omega))

theorem pad_lt (f : Fin 4096 → ℝ) {b q : ℕ} (h : q < 8) : pad f b q = 0 := dif_neg (by omega)
theorem pad_ge (f : Fin 4096 → ℝ) {b q : ℕ} (h : 2056 ≤ q) : pad f b q = 0 := dif_neg (by omega)
theorem pad_eq (f : Fin 4096 → ℝ) {b q : ℕ} (i : Fin 4096) (h8 : 8 ≤ q) (hq : q < 2056) (h : i.val + 8 = b * 2048 + q) :
    pad f b q = f i := by
  unfold pad
  rw [dif_pos (by omega)]
  exact congrArg f (Fin.ext (by show b * 2048 + (q - 8) = i.val; omega))

/-- The convolution's value at a position. -/
def conv (w : Fin 3 → ℝ) (f : Fin 4096 → ℝ) (b q : ℕ) : ℝ :=
  w 0 * pad f b (q - 2) + w 1 * pad f b (q - 1) + w 2 * pad f b q

/-- The convolution's gradient at a position, from the gradient `d` of its values. -/
def back (w : Fin 3 → ℝ) (d : ℕ → ℝ) (q : ℕ) : ℝ := w 2 * d q + w 1 * d (q + 1) + w 0 * d (q + 2)

/-- The logistic function. -/
def sg (a : ℝ) : ℝ := (1 + Real.exp (-a))⁻¹

/-- The logistic function through the hyperbolic tangent. -/
theorem sg_eq (a : ℝ) : 1 / 2 * Real.tanh (1 / 2 * a) + 1 / 2 = sg a := by
  have e : Real.exp (-a) = Real.exp (-(1 / 2 * a)) * Real.exp (-(1 / 2 * a)) := by rw [← Real.exp_add]; ring_nf
  have h : Real.exp (1 / 2 * a) * Real.exp (-(1 / 2 * a)) = 1 := by rw [← Real.exp_add]; simp
  have p1 := Real.exp_pos (1 / 2 * a)
  have p2 := Real.exp_pos (-(1 / 2 * a))
  unfold sg
  rw [Real.tanh_eq_sinh_div_cosh, Real.sinh_eq, Real.cosh_eq, e]
  generalize Real.exp (1 / 2 * a) = u at *
  generalize Real.exp (-(1 / 2 * a)) = v at *
  have hu : u = 1 / v := by field_simp; linarith
  subst hu
  field_simp
  ring

/-- The gradient of the convolved gate (`s = 0`) and of the convolved value (`s = 1`), from the gradient of the gated
    column. -/
def gate (s : Fin 2) (d a v : ℝ) : ℝ :=
  match s with
  | 0 => d * v * (sg a + a * sg a - a * sg a * sg a)
  | 1 => d * (a * sg a)

/-- That gradient at a position: zero outside the sequence. -/
def dz (s : Fin 2) (p : Fin 2 → Fin 4096 → ℝ) (w : Fin 2 → Fin 3 → ℝ) (d : Fin 4096 → ℝ) (b q : ℕ) : ℝ :=
  gate s (pad d b q) (conv (w 0) (p 0) b q) (conv (w 1) (p 1) b q)

theorem gate_zero (s : Fin 2) (a v : ℝ) : gate s 0 a v = 0 := by
  match s with
  | 0 => show 0 * v * _ = (0 : ℝ); ring
  | 1 => show 0 * _ = (0 : ℝ); ring

theorem dz_ge (s : Fin 2) (p : Fin 2 → Fin 4096 → ℝ) (w : Fin 2 → Fin 3 → ℝ) (d : Fin 4096 → ℝ) {b q : ℕ} (h : 2056 ≤ q) :
    dz s p w d b q = 0 := by unfold dz; rw [pad_ge d h, gate_zero]

/-- A product summed along a sequence may be moved by `e` positions where what falls out of the sequence is zero. -/
theorem sum_shift (F G : ℕ → ℝ) (e : ℕ) (he : e ≤ 8) (hF : ∀ q, 2056 ≤ q → F q = 0) (hG : ∀ q, q < 8 → G q = 0) :
    ∑ q : Fin 2048, F (q.val + 8 + e) * G (q.val + 8) = ∑ q : Fin 2048, F (q.val + 8) * G (q.val + 8 - e) := by
  rw [Fin.sum_univ_eq_sum_range (fun q => F (q + 8 + e) * G (q + 8)) 2048,
    Fin.sum_univ_eq_sum_range (fun q => F (q + 8) * G (q + 8 - e)) 2048]
  have h1 := Finset.sum_range_add (fun q => F (q + 8) * G (q + 8 - e)) e 2048
  have h2 := Finset.sum_range_add (fun q => F (q + 8) * G (q + 8 - e)) 2048 e
  have z1 : ∑ q ∈ Finset.range e, F (q + 8) * G (q + 8 - e) = 0 :=
    Finset.sum_eq_zero fun q hq => by
      have := Finset.mem_range.mp hq
      rw [hG _ (by omega), mul_zero]
  have z2 : ∑ q ∈ Finset.range e, F (2048 + q + 8) * G (2048 + q + 8 - e) = 0 :=
    Finset.sum_eq_zero fun q _ => by rw [hF _ (by omega), zero_mul]
  have h3 : ∑ q ∈ Finset.range 2048, F (e + q + 8) * G (e + q + 8 - e)
      = ∑ q ∈ Finset.range 2048, F (q + 8 + e) * G (q + 8) :=
    Finset.sum_congr rfl fun q _ => by
      rw [show e + q + 8 = q + 8 + e by omega, show q + 8 + e - e = q + 8 by omega]
  rw [add_comm e 2048] at h1
  rw [z1, zero_add, h3] at h1
  rw [z2, add_zero] at h2
  exact h1.symm.trans h2

/-- Row `s` of sequence `b` among all rows. -/
def at2 (b : Fin 2) (s : Fin 2048) : Fin 4096 := ⟨b.val * 2048 + s.val, by omega⟩

theorem at2_div (b : Fin 2) (s : Fin 2048) : (at2 b s).val / 2048 = b.val := by
  show (b.val * 2048 + s.val) / 2048 = b.val
  omega
theorem at2_mod (b : Fin 2) (s : Fin 2048) : (at2 b s).val % 2048 = s.val := by
  show (b.val * 2048 + s.val) % 2048 = s.val
  omega

theorem at2_row (i : Fin 4096) : at2 ⟨i.val / 2048, by omega⟩ ⟨i.val % 2048, by omega⟩ = i :=
  Fin.ext (by show i.val / 2048 * 2048 + i.val % 2048 = i.val; omega)

theorem row_at {n : ℕ} {X : FVec Ideal ⟨3, ![2, 2048, n]⟩ .f32} (hX : ∀ i, ∃ r : ℝ, X i = (r : EReal)) (b : Fin 2) (s : Fin 2048)
    (k : Fin n) : X (ix3 b s k) = ((row X (at2 b s) k : ℝ) : EReal) := by
  refine (coe_re (hX _)).trans (congrArg Real.toEReal ?_)
  exact (congrFun (row_eq X b s) k).symm

/-- A column at a place of its sequence. -/
theorem pad_at (f : Fin 4096 → ℝ) (b : Fin 2) (s : Fin 2048) : Seq.pad f b.val (s.val + 8) = f (at2 b s) := by
  rw [← at2_div b s, ← at2_mod b s, pad_row]

end Cert.Seq

end
-- ==== Proof.Ffn.Math.lean ====
/- The gradient of the feed-forward part of a layer, over the reals: what the kernel and the reference both compute. -/
module

public import proofs.«01_k».proof.Proof.Lib.Norm
public import proofs.«01_k».proof.Proof.Lib.Seq

@[expose] public section

noncomputable section

namespace Cert.FfnMath

open Idealize.ShloMosaic Cert.Reals Cert.Norm Cert.Seq
open scoped BigOperators

/-- The six arguments: rows, gain, up matrix, convolution weights, down matrix and the gradient that comes in. -/
structure Args where
  x : FVec Ideal ⟨3, ![2, 2048, 1024]⟩ .f32
  g : FVec Ideal ⟨1, ![1024]⟩ .f32
  u : FVec Ideal ⟨2, ![1024, 5632]⟩ .f32
  w : FVec Ideal ⟨2, ![3, 5632]⟩ .f32
  d : FVec Ideal ⟨2, ![2816, 1024]⟩ .f32
  y : FVec Ideal ⟨3, ![2, 2048, 1024]⟩ .f32

/-- Every entry of every argument is a real. -/
structure Args.Real (A : Args) : Prop where
  x : ∀ i, ∃ r : ℝ, A.x i = (r : EReal)
  g : ∀ i, ∃ r : ℝ, A.g i = (r : EReal)
  u : ∀ i, ∃ r : ℝ, A.u i = (r : EReal)
  w : ∀ i, ∃ r : ℝ, A.w i = (r : EReal)
  d : ∀ i, ∃ r : ℝ, A.d i = (r : EReal)
  y : ∀ i, ∃ r : ℝ, A.y i = (r : EReal)

/-- A column of the gated rows, from its block. -/
def fcol (p : Fin 4) (k : Fin 704) : Fin 2816 := ⟨p.val * 704 + k.val, by omega⟩
/-- A column of the pre-activations, from its half and its column in the half. -/
def half (s : Fin 2) (f : Fin 2816) : Fin 5632 := ⟨s.val * 2816 + f.val, by omega⟩

variable (A : Args)

/-- The normalised rows. -/
def xn (i : Fin 4096) (k : Fin 1024) : ℝ := row A.x i k * rs (row A.x i) * vec A.g k
/-- The pre-activations. -/
def pre (s : Fin 2) (f : Fin 2816) (i : Fin 4096) : ℝ := ∑ k, xn A i k * mat A.u k (half s f)
/-- The gradient of the gated rows. -/
def dact (f : Fin 2816) (i : Fin 4096) : ℝ := ∑ k, row A.y i k * mat A.d f k
/-- The convolution weights of a column. -/
def cw (s : Fin 2) (f : Fin 2816) (j : Fin 3) : ℝ := mat A.w j (half s f)
/-- The gradient of the convolved column at a position. -/
def dzc (s : Fin 2) (f : Fin 2816) (b q : ℕ) : ℝ := dz s (pre A · f) (cw A · f) (dact A f) b q
/-- The gradient of the pre-activations. -/
def dpre (s : Fin 2) (f : Fin 2816) (i : Fin 4096) : ℝ :=
  back (cw A s f) (dzc A s f (i.val / 2048)) (i.val % 2048 + 8)
/-- What a row adds to the gradient of the convolution weights. -/
def dwr (s : Fin 2) (f : Fin 2816) (j : Fin 3) (i : Fin 4096) : ℝ :=
  dzc A s f (i.val / 2048) (i.val % 2048 + 8 + (2 - j.val)) * pre A s f i
/-- The gradient of the convolution weights. -/
def dw (s : Fin 2) (f : Fin 2816) (j : Fin 3) : ℝ := ∑ i, dwr A s f j i
/-- The gradient of the normalised rows. -/
def dh (i : Fin 4096) (k : Fin 1024) : ℝ :=
  ∑ p : Fin 4, ∑ s : Fin 2, ∑ l : Fin 704, dpre A s (fcol p l) i * mat A.u k (half s (fcol p l))
/-- The gradient of the rows. -/
def dx (i : Fin 4096) (k : Fin 1024) : ℝ := Norm.back (row A.x i) (fun l => dh A i l * vec A.g l) k + row A.y i k
/-- What a row adds to the gradient of the gain. -/
def dgr (k : Fin 1024) (i : Fin 4096) : ℝ := dh A i k * (row A.x i k * rs (row A.x i))
/-- The gradient of the gain. -/
def dg (k : Fin 1024) : ℝ := ∑ i, dgr A k i

/-- The five results. -/
def DPre (i : Shape.Idx ⟨4, ![2, 4, 4096, 704]⟩) : EReal := ((dpre A (i 0) (fcol (i 1) (i 3)) (i 2) : ℝ) : EReal)
def DW (i : Shape.Idx ⟨4, ![2, 4, 3, 704]⟩) : EReal := ((dw A (i 0) (fcol (i 1) (i 3)) (i 2) : ℝ) : EReal)
def DX (i : Shape.Idx ⟨2, ![4096, 1024]⟩) : EReal := ((dx A (i 0) (i 1) : ℝ) : EReal)
def DG (i : Shape.Idx ⟨2, ![1, 1024]⟩) : EReal := ((dg A (i 1) : ℝ) : EReal)

/-- The gradient of the weights with the pre-activations moved instead of the gradient. -/
theorem dw_eq (s : Fin 2) (f : Fin 2816) (j : Fin 3) :
    dw A s f j = ∑ b : Fin 2, ∑ q : Fin 2048, dzc A s f b.val (q.val + 8) * pad (pre A s f) b.val (q.val + 8 - (2 - j.val)) := by
  rw [dw, ← sum_rows]
  refine Finset.sum_congr rfl fun b _ => ?_
  rw [← sum_shift (dzc A s f b.val) (pad (pre A s f) b.val) (2 - j.val) (by omega) (fun q h => dz_ge _ _ _ _ h)
    (fun q h => pad_lt _ h)]
  refine Finset.sum_congr rfl fun q _ => ?_
  have e1 : (b.val * 2048 + q.val) / 2048 = b.val := by omega
  have e2 : (b.val * 2048 + q.val) % 2048 = q.val := by omega
  unfold dwr
  dsimp only
  rw [e1, e2]
  refine congrArg _ ?_
  rw [pad_eq _ ⟨b.val * 2048 + q.val, by omega⟩ (by omega) (by omega) (by show b.val * 2048 + q.val + 8 = _; omega)]

/-- The gradient of the normalised rows, as one sum over the columns. -/
theorem dh_eq (i : Fin 4096) (k : Fin 1024) (F : Fin 5632 → ℝ) (hF : ∀ s f, F (half s f) = dpre A s f i) :
    ∑ c, F c * mat A.u k c = dh A i k := by
  rw [Fin.sum_univ_tiles 2 2816 rfl]
  unfold dh
  refine Eq.trans ?_ Finset.sum_comm
  refine Finset.sum_congr rfl fun s _ => ?_
  rw [Fin.sum_univ_tiles 4 704 rfl]
  refine Finset.sum_congr rfl fun p _ => Finset.sum_congr rfl fun l _ => ?_
  rw [← hF]
  rfl

end Cert.FfnMath

end
-- ==== Proof.Ffn.Pay.lean ====
/- One grid point of the feed-forward gradient kernel, over the reals. -/
module

public import proofs.«01_k».proof.Proof.Ffn.Block
public import proofs.«01_k».proof.Proof.Ffn.Math

@[expose] public section

set_option maxRecDepth 16384

noncomputable section

namespace Cert.FfnIdeal.Block

open Idealize.ShloMosaic Idealize.ShloMosaic.TcCoe Idealize.SL.Sem
open Cert.FfnIdeal Cert.FfnIdeal.Gen Cert.Reals Cert.Norm Cert.Seq Cert.FfnMath
open scoped BigOperators

variable (m : (ℓ : Loc nD τ sig) → Buf (Elt Ideal) ℓ) (c : Dev nD) (t : Fin cfg0.N)

/-- The arguments. -/
def args : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- The block index of every window. -/
theorem idx : ∀ t : Fin cfg0.N, win0_0.index t = ![0, 0, t.val, 0] ∧ win0_1.index t = ![0, 0, 16 * t.val - 1, 0]
    ∧ win0_2.index t = ![0, 0, min (16 * t.val + 16) 255, 0] ∧ win0_3.index t = ![t.val, 0]
    ∧ win0_4.index t = ![16 * t.val - 1, 0] ∧ win0_5.index t = ![min (16 * t.val + 16) 255, 0]
    ∧ win0_6.index t = ![0, 0, 0, 0] ∧ win0_7.index t = ![0, 0, 0] ∧ win0_8.index t = ![0, 0, 0]
    ∧ win0_9.index t = ![t.val, 0] ∧ win0_10.index t = ![0, 0] ∧ win0_11.index t = ![t.val, 0]
    ∧ win0_12.index t = ![0, 0, t.val, 0] ∧ win0_13.index t = ![0, 0, 0, 0] ∧ win0_14.index t = ![t.val, 0]
    ∧ win0_15.index t = ![t.val, 0] ∧ win0_16.index t = ![0, 0] ∧ t.val < 16 :=
  (by decide +kernel : ∀ t : Fin grid0.N, _)

theorem lt16 : t.val < 16 := (idx t).2.2.2.2.2.2.2.2.2.2.2.2.2.2.2.2.2

/-- Row `p` of the point's own rows, of the sixteen before them and of the sixteen after them. -/
def rowAt (p : Fin 256) : Fin 4096 := ⟨t.val * 256 + p.val, by have := lt16 t; omega⟩
def rowBefore (p : Fin 16) : Fin 4096 := ⟨(16 * t.val - 1) * 16 + p.val, by have := lt16 t; omega⟩
def rowAfter (p : Fin 16) : Fin 4096 := ⟨min (16 * t.val + 16) 255 * 16 + p.val, by have := lt16 t; omega⟩

/-- The two factors for rows of a neighbouring sequence. -/
def loR : ℝ := if t.val % 8 = 0 then 0 else 1
def hiR : ℝ := if t.val % 8 = 7 then 0 else 1

theorem sitofp_zero : (Scalar.sitofp .f32 0#32 : Ideal .f32) = ((0 : ℝ) : EReal) := by
  exact (Ideal.scalar_sitofp_def _).trans (by simp)
theorem sitofp_one : (Scalar.sitofp .f32 1#32 : Ideal .f32) = ((1 : ℝ) : EReal) := by
  exact (Ideal.scalar_sitofp_def _).trans (by simp)

theorem lo_at : lo t = ((loR t : ℝ) : EReal) := by
  have e : lo t = (Scalar.sitofp .f32 (if t.val % 8 = 0 then 0#32 else 1#32) : Ideal .f32) :=
    congrArg (Scalar.sitofp (F := Ideal) .f32) (by revert t; decide +kernel)
  rw [e, loR]
  split
  · exact sitofp_zero
  · exact sitofp_one

theorem hi_at : hi t = ((hiR t : ℝ) : EReal) := by
  have e : hi t = (Scalar.sitofp .f32 (if t.val % 8 = 7 then 0#32 else 1#32) : Ideal .f32) :=
    congrArg (Scalar.sitofp (F := Ideal) .f32) (by revert t; decide +kernel)
  rw [e, hiR]
  split
  · exact sitofp_zero
  · exact sitofp_one

/-- Three pieces of rows, those of a neighbouring sequence at zero, are a column at its positions. -/
theorem pad_pieces (f : Fin 4096 → ℝ) (j : Fin 272) :
    (if h : j.val < 8 then f (rowBefore t ⟨8 + j.val, by omega⟩) * loR t
      else if h : j.val - 8 < 256 then f (rowAt t ⟨j.val - 8, h⟩)
      else f (rowAfter t ⟨j.val - 8 - 256, by omega⟩) * hiR t)
      = pad f (t.val / 8) (256 * (t.val % 8) + j.val) := by
  have ht := lt16 t
  unfold loR hiR
  split_ifs with h1 h2 h3 h4
  · rw [pad_lt _ (by omega), mul_zero]
  · rw [mul_one]
    refine (pad_eq f _ (by omega) (by omega) ?_).symm
    show (16 * t.val - 1) * 16 + (8 + j.val) + 8 = _
    omega
  · refine (pad_eq f _ (by omega) (by omega) ?_).symm
    show t.val * 256 + (j.val - 8) + 8 = _
    omega
  · rw [pad_ge _ (by omega), mul_zero]
  · rw [mul_one]
    refine (pad_eq f _ (by omega) (by omega) ?_).symm
    show min (16 * t.val + 16) 255 * 16 + (j.val - 8 - 256) + 8 = _
    omega

/-- The pre-activation of a row, as the host lines compute it. -/
theorem pre_val {A : Args} (hA : A.Real) (i : Fin 4096) (l : Fin 5632) {s : Fin 2} {f : Fin 2816} (h : l = FfnMath.half s f) :
    ∑ x, A.x (ix3 ⟨i.val / 2048, by omega⟩ ⟨i.val % 2048, by omega⟩ x) * Ideal.rsqrt (Ideal.div
        (∑ x, A.x (ix3 ⟨i.val / 2048, by omega⟩ ⟨i.val % 2048, by omega⟩ x)
          * A.x (ix3 ⟨i.val / 2048, by omega⟩ ⟨i.val % 2048, by omega⟩ x)) (Ideal.ofBits .f32 1149239296#32)
        + Ideal.ofBits .f32 897988541#32) * A.g (ix1 x) * A.u (ix2 x l) = ((pre A s f i : ℝ) : EReal) := by
  have hx : ∀ x, A.x (ix3 ⟨i.val / 2048, by omega⟩ ⟨i.val % 2048, by omega⟩ x) = ((row A.x i x : ℝ) : EReal) :=
    fun x => coe_re (hA.x _)
  have hg : ∀ x, A.g (ix1 x) = ((vec A.g x : ℝ) : EReal) := fun x => coe_re (hA.g _)
  have hu : ∀ x, A.u (ix2 x l) = ((mat A.u x l : ℝ) : EReal) := fun x => coe_re (hA.u _)
  have hr : Ideal.rsqrt (Ideal.div (∑ x, ((row A.x i x : ℝ) : EReal) * ((row A.x i x : ℝ) : EReal))
      (Ideal.ofBits .f32 1149239296#32) + Ideal.ofBits .f32 897988541#32) = ((rs (row A.x i) : ℝ) : EReal) := by
    simp only [mul_coe, coe_sum, ofBits_1024, ofBits_eps, add_coe, div_coe _ (by norm_num : (1024 : ℝ) ≠ 0)]
    exact rsqrt_coe (ms_pos (row A.x i))
  subst h
  simp only [hx, hg, hu]
  rw [hr]
  simp only [mul_coe, coe_sum]
  rfl

theorem main_blk (hA : (args m c).Real) (s : Fin 2) (p : Fin 4) (r : Fin 256) (k : Fin 704) :
    (show Vec Ideal S2x4x256x704 .bf16 from iblk m c 0 t) (ix4 s p r k) = ((pre (args m c) s (fcol p k) (rowAt t r) : ℝ) : EReal) := by
  blk_simp [iblk]
  entry_read
  pointwise
  refine (pre_val hA (((View.whole main_v27).slice (win0_0.rect t)).emb (ix4 s p r k) 2) _ (s := s) (f := fcol p k) ?_).trans ?_
  · refine Fin.ext ?_
    blk_simp [idx t, fcol, FfnMath.half]
    show (s.val * 4 + p.val) * 704 + k.val = s.val * 2816 + (p.val * 704 + k.val)
    omega
  · refine congrArg (fun i => ((pre (args m c) s (fcol p k) i : ℝ) : EReal)) (Fin.ext ?_)
    blk_simp [rowAt, idx t]
theorem main_at (hA : (args m c).Real) (s : Fin 2) (p : Fin 4) (r : Fin 256) (k : Fin 704) :
    main m c t s p (ix4 0 0 r k) = ((pre (args m c) s (fcol p k) (rowAt t r) : ℝ) : EReal) := by
  unfold main
  rw [View.ld_apply]
  refine Eq.trans (congrArg (show Vec Ideal S2x4x256x704 .bf16 from iblk m c 0 t) ?_) (main_blk m c t hA s p r k)
  funext a
  match a with
  | 0 => exact Fin.ext (show s.val + 1 * 0 = s.val by omega)
  | 1 => exact Fin.ext (show p.val + 1 * 0 = p.val by omega)
  | 2 => exact Fin.ext (show 0 + 1 * r.val = r.val by omega)
  | 3 => exact Fin.ext (show 0 + 1 * k.val = k.val by omega)

theorem prev_blk (hA : (args m c).Real) (s : Fin 2) (p : Fin 4) (r : Fin 16) (k : Fin 704) :
    (show Vec Ideal S2x4x16x704 .bf16 from iblk m c 1 t) (ix4 s p r k) = ((pre (args m c) s (fcol p k) (rowBefore t r) : ℝ) : EReal) := by
  blk_simp [iblk]
  entry_read
  pointwise
  refine (pre_val hA (((View.whole main_v27).slice (win0_1.rect t)).emb (ix4 s p r k) 2) _ (s := s) (f := fcol p k) ?_).trans ?_
  · refine Fin.ext ?_
    blk_simp [idx t, fcol, FfnMath.half]
    show (s.val * 4 + p.val) * 704 + k.val = s.val * 2816 + (p.val * 704 + k.val)
    omega
  · refine congrArg (fun i => ((pre (args m c) s (fcol p k) i : ℝ) : EReal)) (Fin.ext ?_)
    blk_simp [rowBefore, idx t]
theorem prev_at (hA : (args m c).Real) (s : Fin 2) (p : Fin 4) (r : Fin 16) (k : Fin 704) :
    prev m c t s p (ix4 0 0 r k) = ((pre (args m c) s (fcol p k) (rowBefore t r) : ℝ) : EReal) := by
  unfold prev
  rw [View.ld_apply]
  refine Eq.trans (congrArg (show Vec Ideal S2x4x16x704 .bf16 from iblk m c 1 t) ?_) (prev_blk m c t hA s p r k)
  funext a
  match a with
  | 0 => exact Fin.ext (show s.val + 1 * 0 = s.val by omega)
  | 1 => exact Fin.ext (show p.val + 1 * 0 = p.val by omega)
  | 2 => exact Fin.ext (show 0 + 1 * r.val = r.val by omega)
  | 3 => exact Fin.ext (show 0 + 1 * k.val = k.val by omega)

theorem next_blk (hA : (args m c).Real) (s : Fin 2) (p : Fin 4) (r : Fin 16) (k : Fin 704) :
    (show Vec Ideal S2x4x16x704 .bf16 from iblk m c 2 t) (ix4 s p r k) = ((pre (args m c) s (fcol p k) (rowAfter t r) : ℝ) : EReal) := by
  blk_simp [iblk]
  entry_read
  pointwise
  refine (pre_val hA (((View.whole main_v27).slice (win0_2.rect t)).emb (ix4 s p r k) 2) _ (s := s) (f := fcol p k) ?_).trans ?_
  · refine Fin.ext ?_
    blk_simp [idx t, fcol, FfnMath.half]
    show (s.val * 4 + p.val) * 704 + k.val = s.val * 2816 + (p.val * 704 + k.val)
    omega
  · refine congrArg (fun i => ((pre (args m c) s (fcol p k) i : ℝ) : EReal)) (Fin.ext ?_)
    blk_simp [rowAfter, idx t]
theorem next_at (hA : (args m c).Real) (s : Fin 2) (p : Fin 4) (r : Fin 16) (k : Fin 704) :
    next m c t s p (ix4 0 0 r k) = ((pre (args m c) s (fcol p k) (rowAfter t r) : ℝ) : EReal) := by
  unfold next
  rw [View.ld_apply]
  refine Eq.trans (congrArg (show Vec Ideal S2x4x16x704 .bf16 from iblk m c 2 t) ?_) (next_blk m c t hA s p r k)
  funext a
  match a with
  | 0 => exact Fin.ext (show s.val + 1 * 0 = s.val by omega)
  | 1 => exact Fin.ext (show p.val + 1 * 0 = p.val by omega)
  | 2 => exact Fin.ext (show 0 + 1 * r.val = r.val by omega)
  | 3 => exact Fin.ext (show 0 + 1 * k.val = k.val by omega)

theorem dy_at (hA : (args m c).Real) (r : Fin 256) (k : Fin 1024) :
    (show Vec Ideal S256x1024 .bf16 from iblk m c 3 t) (ix2 r k) = ((row (args m c).y (rowAt t r) k : ℝ) : EReal) := by
  rw [row, ← coe_re (hA.y _)]
  blk_simp [iblk]
  entry_read
  pointwise
  blk_ext [rowAt, idx t]
theorem dyp_at (hA : (args m c).Real) (r : Fin 16) (k : Fin 1024) :
    (show Vec Ideal S16x1024 .bf16 from iblk m c 4 t) (ix2 r k) = ((row (args m c).y (rowBefore t r) k : ℝ) : EReal) := by
  rw [row, ← coe_re (hA.y _)]
  blk_simp [iblk]
  entry_read
  pointwise
  blk_ext [rowBefore, idx t]
theorem dyn_at (hA : (args m c).Real) (r : Fin 16) (k : Fin 1024) :
    (show Vec Ideal S16x1024 .bf16 from iblk m c 5 t) (ix2 r k) = ((row (args m c).y (rowAfter t r) k : ℝ) : EReal) := by
  rw [row, ← coe_re (hA.y _)]
  blk_simp [iblk]
  entry_read
  pointwise
  blk_ext [rowAfter, idx t]
theorem cw_at (hA : (args m c).Real) (s : Fin 2) (p : Fin 4) (j : Fin 3) (k : Fin 704) :
    (show Vec Ideal S2x4x3x704 .f32 from iblk m c 6 t) (ix4 s p j k) = ((FfnMath.cw (args m c) s (fcol p k) j : ℝ) : EReal) := by
  rw [FfnMath.cw, mat, ← coe_re (hA.w _)]
  blk_simp [iblk]
  entry_read
  pointwise
  blk_ext [idx t, fcol, FfnMath.half]
theorem wd_at (hA : (args m c).Real) (p : Fin 4) (k : Fin 704) (l : Fin 1024) :
    (show Vec Ideal S4x704x1024 .bf16 from iblk m c 7 t) (ix3 p k l) = ((mat (args m c).d (fcol p k) l : ℝ) : EReal) := by
  rw [mat, ← coe_re (hA.d _)]
  blk_simp [iblk]
  entry_read
  pointwise
  blk_ext [idx t, fcol]
theorem wu_at (hA : (args m c).Real) (q : Fin 8) (k : Fin 704) (l : Fin 1024) :
    (show Vec Ideal S8x704x1024 .bf16 from iblk m c 8 t) (ix3 q k l) = ((mat (args m c).u l ⟨q.val * 704 + k.val, by omega⟩ : ℝ) : EReal) := by
  rw [mat, ← coe_re (hA.u _)]
  blk_simp [iblk]
  entry_read
  pointwise
  blk_ext [idx t, fcol]
theorem x_at (hA : (args m c).Real) (r : Fin 256) (k : Fin 1024) :
    (show Vec Ideal S256x1024 .f32 from iblk m c 9 t) (ix2 r k) = ((row (args m c).x (rowAt t r) k : ℝ) : EReal) := by
  rw [row, ← coe_re (hA.x _)]
  blk_simp [iblk]
  entry_read
  pointwise
  blk_ext [rowAt, idx t]
theorem g_at (hA : (args m c).Real) (k : Fin 1024) :
    (show Vec Ideal S1x1024 .f32 from iblk m c 10 t) (ix2 0 k) = ((vec (args m c).g k : ℝ) : EReal) := by
  rw [vec, ← coe_re (hA.g _)]
  blk_simp [iblk]
  entry_read
  pointwise
  blk_ext [idx t]
theorem r_at (hA : (args m c).Real) (r : Fin 256) (k : Fin 1024) :
    (show Vec Ideal S256x1024 .f32 from iblk m c 11 t) (ix2 r k) = ((row (args m c).y (rowAt t r) k : ℝ) : EReal) := by
  rw [row, ← coe_re (hA.y _)]
  blk_simp [iblk]
  entry_read
  pointwise
  blk_ext [rowAt, idx t]

variable {m c}

/-- Position of row `j` of the point's window in the point's sequence. -/
def pos (j : ℕ) : ℕ := 256 * (t.val % 8) + j

theorem wpre_at (hA : (args m c).Real) (s : Fin 2) (p : Fin 4) (j : Fin 272) (k : Fin 704) :
    wpre m c t s p (ix2 j k) = ((pad (pre (args m c) s (fcol p k)) (t.val / 8) (pos t j) : ℝ) : EReal) := by
  unfold wpre pos
  rw [← pad_pieces]
  pointwise [k0_pay61]
  simp only [main_at m c t hA, prev_at m c t hA, next_at m c t hA, lo_at, hi_at, mul_coe]
  split_ifs <;> rfl

theorem rows288_at (hA : (args m c).Real) (j : Fin 288) (l : Fin 1024) : rows288 m c t (ix2 j l) =
    ((if h : j.val < 16 then row (args m c).y (rowBefore t ⟨j.val, h⟩) l
      else if h : j.val - 16 < 256 then row (args m c).y (rowAt t ⟨j.val - 16, h⟩) l
      else row (args m c).y (rowAfter t ⟨j.val - 16 - 256, by omega⟩) l : ℝ) : EReal) := by
  have h4 : ∀ r, iblk m c 4 t (ix2 r l) = ((row (args m c).y (rowBefore t r) l : ℝ) : EReal) := fun r => dyp_at m c t hA r l
  have h3 : ∀ r, iblk m c 3 t (ix2 r l) = ((row (args m c).y (rowAt t r) l : ℝ) : EReal) := fun r => dy_at m c t hA r l
  have h5 : ∀ r, iblk m c 5 t (ix2 r l) = ((row (args m c).y (rowAfter t r) l : ℝ) : EReal) := fun r => dyn_at m c t hA r l
  unfold rows288
  pointwise [k0_pay56]
  simp only [h3, h4, h5]
  split_ifs <;> rfl

theorem edge_at (j : Fin 272) : edge t (ix2 j 0) =
    ((if j.val < 8 then loR t else if j.val - 8 < 256 then 1 else hiR t : ℝ) : EReal) := by
  unfold edge
  pointwise [k0_pay59, k0_pay57, k0_pay58]
  have h1 : IntOp.cmpi .slt (BitVec.ofNat 32 j.val) 8#32 = if j.val < 8 then 1#1 else 0#1 := by
    revert j; decide +kernel
  have h2 : IntOp.cmpi .sge (BitVec.ofNat 32 j.val) 264#32 = if 264 ≤ j.val then 1#1 else 0#1 := by
    revert j; decide +kernel
  rw [h1, h2, lo_at, hi_at]
  by_cases a : j.val < 8
  · simp only [if_pos a]
    rfl
  · by_cases b : 264 ≤ j.val
    · simp only [if_neg a, if_pos b, if_neg (show ¬ j.val - 8 < 256 by omega)]
      rfl
    · simp only [if_neg a, if_neg b, if_pos (show j.val - 8 < 256 by omega)]
      exact EReal.coe_one.symm

theorem wd_ld (hA : (args m c).Real) (p : Fin 4) (k : Fin 704) (l : Fin 1024) :
    wd m c t p (ix3 0 k l) = ((mat (args m c).d (fcol p k) l : ℝ) : EReal) := by
  unfold wd
  rw [View.ld_apply]
  refine Eq.trans (congrArg (show Vec Ideal S4x704x1024 .bf16 from iblk m c 7 t) ?_) (wd_at m c t hA p k l)
  funext a
  match a with
  | 0 => exact Fin.ext (show p.val + 1 * 0 = p.val by omega)
  | 1 => exact Fin.ext (show 0 + 1 * k.val = k.val by omega)
  | 2 => exact Fin.ext (show 0 + 1 * l.val = l.val by omega)

theorem wu_ld (hA : (args m c).Real) (s : Fin 2) (p : Fin 4) (q : Fin 8) (hq : q.val = 4 * s.val + p.val) (k : Fin 704)
    (l : Fin 1024) : wu m c t q (ix3 0 k l) = ((mat (args m c).u l (FfnMath.half s (fcol p k)) : ℝ) : EReal) := by
  unfold wu
  rw [View.ld_apply]
  refine Eq.trans (congrArg (show Vec Ideal S8x704x1024 .bf16 from iblk m c 8 t) ?_) ((wu_at m c t hA q k l).trans ?_)
  · funext a
    match a with
    | 0 => exact Fin.ext (show q.val + 1 * 0 = q.val by omega)
    | 1 => exact Fin.ext (show 0 + 1 * k.val = k.val by omega)
    | 2 => exact Fin.ext (show 0 + 1 * l.val = l.val by omega)
  · refine congrArg (fun x => ((mat (args m c).u l x : ℝ) : EReal)) (Fin.ext ?_)
    show q.val * 704 + k.val = s.val * 2816 + (p.val * 704 + k.val)
    omega

theorem dact_at (hA : (args m c).Real) (p : Fin 4) (j : Fin 272) (k : Fin 704) :
    Block.dact m c t p (ix2 j k) = ((pad (FfnMath.dact (args m c) (fcol p k)) (t.val / 8) (pos t j) : ℝ) : EReal) := by
  unfold Block.dact pos
  rw [← pad_pieces]
  pointwise [k0_pay66]
  simp only [rows288_at t hA, wd_ld t hA, edge_at, mul_coe, coe_sum]
  by_cases a : j.val < 8
  · have a' : 8 + j.val < 16 := by omega
    simp only [dif_pos a, if_pos a, dif_pos a']
    rfl
  · have a' : ¬ 8 + j.val < 16 := by omega
    have e : 8 + j.val - 16 = j.val - 8 := by omega
    by_cases b : j.val - 8 < 256
    · simp only [dif_neg a, if_neg a, dif_neg a', e, dif_pos b, if_pos b, mul_one]
      rfl
    · simp only [dif_neg a, if_neg a, dif_neg a', e, dif_neg b, if_neg b]
      rfl

theorem act_at (hA : (args m c).Real) (s : Fin 2) (p : Fin 4) (j : Fin 272) (hj : 2 ≤ j.val) (k : Fin 704) :
    act m c t s p (ix2 j k) = ((conv (FfnMath.cw (args m c) s (fcol p k)) (pre (args m c) s (fcol p k)) (t.val / 8) (pos t j) : ℝ) : EReal) := by
  have hc : ∀ i, iblk m c 6 t (ix4 s p i k) = ((FfnMath.cw (args m c) s (fcol p k) i : ℝ) : EReal) :=
    fun i => cw_at m c t hA s p i k
  unfold act
  pointwise [k0_pay67, Block.cw]
  simp only [wpre_at t hA, hc, mul_coe, add_coe]
  unfold conv pos
  rw [show ((j.val + 272 - 1) % 272 + 272 - 1) % 272 = j.val - 2 by omega, show (j.val + 272 - 1) % 272 = j.val - 1 by omega,
    show 256 * (t.val % 8) + (j.val - 2) = 256 * (t.val % 8) + j.val - 2 by omega,
    show 256 * (t.val % 8) + (j.val - 1) = 256 * (t.val % 8) + j.val - 1 by omega]

theorem dz_at (hA : (args m c).Real) (s : Fin 2) (p : Fin 4) (j : Fin 272) (hj : 2 ≤ j.val) (k : Fin 704) :
    Block.dz m c t s p (ix2 j k) = ((dzc (args m c) s (fcol p k) (t.val / 8) (pos t j) : ℝ) : EReal) := by
  match s with
  | 0 =>
    unfold Block.dz
    pointwise [k0_pay72, k0_pay70, k0_pay71, Block.half]
    simp only [dact_at t hA, act_at t hA _ _ _ hj, ofBits_half, Ideal.tanh_coe, mul_coe, add_coe, sub_coe, sg_eq]
    rfl
  | 1 =>
    unfold Block.dz
    pointwise [k0_pay79, k0_pay71, k0_pay70, Block.half]
    simp only [dact_at t hA, act_at t hA _ _ _ hj, ofBits_half, Ideal.tanh_coe, mul_coe, add_coe, sub_coe, sg_eq]
    rfl

theorem dz_nat (hA : (args m c).Real) (s : Fin 2) (p : Fin 4) (k : Fin 704) (j : ℕ) (hj : 2 ≤ j) (h : j < 272) :
    Block.dz m c t s p (ix2 ⟨j, h⟩ k) = ((dzc (args m c) s (fcol p k) (t.val / 8) (pos t j) : ℝ) : EReal) :=
  dz_at t hA s p ⟨j, h⟩ hj k

theorem up_at (d : FVec Ideal S272x704 .f32) (j : Fin 272) (h : j.val + 1 < 272) (k : Fin 704) :
    up d (ix2 j k) = d (ix2 ⟨j.val + 1, h⟩ k) := by
  pointwise [up]
  refine congrArg (fun i => d (ix2 i k)) (Fin.ext ?_)
  show (j.val + 272 - 271) % 272 = j.val + 1
  omega

theorem rowAt_div (r : Fin 256) : (rowAt t r).val / 2048 = t.val / 8 := by
  show (t.val * 256 + r.val) / 2048 = _
  omega
theorem rowAt_mod (r : Fin 256) : (rowAt t r).val % 2048 + 8 = pos t (8 + r.val) := by
  show (t.val * 256 + r.val) % 2048 + 8 = 256 * (t.val % 8) + (8 + r.val)
  omega

theorem back_at (hA : (args m c).Real) (s : Fin 2) (p : Fin 4) (r : Fin 256) (k : Fin 704) :
    Block.back m c t s p (ix2 r k) = ((dpre (args m c) s (fcol p k) (rowAt t r) : ℝ) : EReal) := by
  have hc : ∀ i, iblk m c 6 t (ix4 s p i k) = ((FfnMath.cw (args m c) s (fcol p k) i : ℝ) : EReal) :=
    fun i => cw_at m c t hA s p i k
  unfold Block.back
  pointwise [k0_pay87, k0_pay80, Block.cw]
  rw [up_at _ _ (by show 8 + r.val + 1 < 272; omega), up_at _ _ (by show 8 + r.val + 1 < 272; omega),
    up_at _ _ (by show 8 + r.val + 1 + 1 < 272; omega)]
  simp only [dz_nat t hA s p k (8 + r.val) (by omega), dz_nat t hA s p k (8 + r.val + 1) (by omega),
    dz_nat t hA s p k (8 + r.val + 1 + 1) (by omega), hc, mul_coe, add_coe]
  unfold dpre
  rw [rowAt_div, rowAt_mod]
  rfl

theorem wsum_at (hA : (args m c).Real) (s : Fin 2) (p : Fin 4) (j : Fin 3) (k : Fin 704) :
    wsum m c t s p j (ix2 0 k) = ((∑ r, dwr (args m c) s (fcol p k) j (rowAt t r) : ℝ) : EReal) := by
  have hp : ∀ r : Fin 256, pre (args m c) s (fcol p k) (rowAt t r)
      = pad (pre (args m c) s (fcol p k)) (t.val / 8) (pos t (8 + r.val)) := fun r => by
    rw [← rowAt_div t r, ← rowAt_mod t r, pad_row]
  unfold dwr
  simp only [hp, rowAt_div, rowAt_mod]
  match j with
  | 0 =>
    unfold wsum
    pointwise [k0_pay85]
    refine Eq.trans (Finset.sum_congr rfl fun r _ => ?_) (coe_sum _ _)
    rw [up_at _ _ (by show 8 + r.val + 1 < 272; omega), up_at _ _ (by show 8 + r.val + 1 + 1 < 272; omega),
      dz_nat t hA _ p k (8 + r.val + 1 + 1) (by omega), wpre_at t hA, mul_coe]
    rfl
  | 1 =>
    unfold wsum
    pointwise [k0_pay85]
    refine Eq.trans (Finset.sum_congr rfl fun r _ => ?_) (coe_sum _ _)
    rw [up_at _ _ (by show 8 + r.val + 1 < 272; omega),
      dz_nat t hA _ p k (8 + r.val + 1) (by omega), wpre_at t hA, mul_coe]
    rfl
  | 2 =>
    unfold wsum
    pointwise [k0_pay85]
    refine Eq.trans (Finset.sum_congr rfl fun r _ => ?_) (coe_sum _ _)
    rw [dz_nat t hA _ p k (8 + r.val) (by omega), wpre_at t hA, mul_coe]

/-- One pair of blocks adds its columns. -/
theorem dhStep_at (hA : (args m c).Real) (a : FVec Ideal S256x1024 .f32) (p : Fin 4) (r : Fin 256) (k : Fin 1024) (v : ℝ)
    (h : a (ix2 r k) = (v : EReal)) : dhStep m c t a p (ix2 r k) =
      ((v + ∑ s : Fin 2, ∑ l : Fin 704, dpre (args m c) s (fcol p l) (rowAt t r) * mat (args m c).u k (FfnMath.half s (fcol p l)) : ℝ) : EReal) := by
  unfold dhStep
  pointwise [k0_pay92, k0_pay91]
  rw [h]
  simp only [back_at t hA, wu_ld t hA 0 p ⟨p.val, by omega⟩ (by simp), wu_ld t hA 1 p ⟨4 + p.val, by omega⟩ (by simp),
    mul_coe, coe_sum, add_coe]
  rw [Fin.sum_univ_two, add_assoc]

theorem dh_at (hA : (args m c).Real) (r : Fin 256) (k : Fin 1024) :
    Block.dh m c t (ix2 r k) = ((FfnMath.dh (args m c) (rowAt t r) k : ℝ) : EReal) := by
  unfold Block.dh
  have h0 : (k0_pay60 (F := Ideal)) (ix2 r k) = ((0 : ℝ) : EReal) := by
    pointwise [k0_pay60]
    rfl
  rw [dhStep_at t hA _ 3 r k _ (dhStep_at t hA _ 2 r k _ (dhStep_at t hA _ 1 r k _ (dhStep_at t hA _ 0 r k _ h0)))]
  unfold FfnMath.dh
  rw [Fin.sum_univ_four, zero_add]

theorem rs_at (hA : (args m c).Real) (r : Fin 256) :
    Ideal.rsqrt (Ideal.div (∑ x, ((row (args m c).x (rowAt t r) x : ℝ) : EReal) * ((row (args m c).x (rowAt t r) x : ℝ) : EReal))
      (Ideal.ofBits .f32 1149239296#32) + Ideal.ofBits .f32 897988541#32) = ((rs (row (args m c).x (rowAt t r)) : ℝ) : EReal) := by
  simp only [mul_coe, coe_sum, ofBits_1024, ofBits_eps, add_coe, div_coe _ (by norm_num : (1024 : ℝ) ≠ 0)]
  exact rsqrt_coe (ms_pos _)

theorem dx_at (hA : (args m c).Real) (r : Fin 256) (k : Fin 1024) :
    Block.dx m c t (ix2 r k) = ((FfnMath.dx (args m c) (rowAt t r) k : ℝ) : EReal) := by
  have hx : ∀ x, iblk m c 9 t (ix2 r x) = ((row (args m c).x (rowAt t r) x : ℝ) : EReal) := fun x => x_at m c t hA r x
  have hg : ∀ x, iblk m c 10 t (ix2 0 x) = ((vec (args m c).g x : ℝ) : EReal) := fun x => g_at m c t hA x
  have hr : iblk m c 11 t (ix2 r k) = ((row (args m c).y (rowAt t r) k : ℝ) : EReal) := r_at m c t hA r k
  unfold Block.dx
  pointwise [k0_pay180, k0_pay178, k0_pay179, k0_pay177]
  simp only [dh_at t hA, hx, hg, hr]
  rw [rs_at t hA]
  simp only [mul_coe, coe_sum, ofBits_1024, sub_coe, add_coe, div_coe _ (by norm_num : (1024 : ℝ) ≠ 0)]
  rfl

theorem gsum_at (hA : (args m c).Real) (k : Fin 1024) :
    gsum m c t (ix2 0 k) = ((∑ r, dgr (args m c) k (rowAt t r) : ℝ) : EReal) := by
  have hx : ∀ r x, iblk m c 9 t (ix2 r x) = ((row (args m c).x (rowAt t r) x : ℝ) : EReal) := fun r x => x_at m c t hA r x
  unfold gsum
  pointwise [k0_pay182, k0_pay178, k0_pay179, k0_pay177]
  refine Eq.trans (Finset.sum_congr rfl fun r _ => ?_) (coe_sum _ _)
  simp only [dh_at t hA, hx]
  rw [rs_at t hA, mul_coe, mul_coe]
  rfl

end Cert.FfnIdeal.Block

end
-- ==== Proof.Ffn.Array.lean ====
/- The gradient of the feed-forward part: the kernel's five result arrays after the run, as reals of the arguments. -/
module

public import proofs.«01_k».proof.Proof.Ffn.Pay

@[expose] public section

set_option maxRecDepth 16384

noncomputable section

namespace Cert.FfnIdeal.Block

open Idealize.ShloMosaic Idealize.ShloMosaic.TcCoe Idealize.SL.Sem
open Cert.FfnIdeal Cert.FfnIdeal.Gen Cert.Reals Cert.Norm Cert.FfnMath
open scoped BigOperators

/-- Sixteen blocks of 256 rows are 4096 rows. -/
theorem sum_blocks (f : Fin 4096 → ℝ) : ∑ t : Fin cfg0.N, ∑ r : Fin 256, f (rowAt t r) = ∑ i, f i :=
  (Fin.sum_univ_tiles 16 256 rfl f).symm

variable {m : (ℓ : Loc nD τ sig) → Buf (Elt Ideal) ℓ} {c : Dev nD} (hA : (args m c).Real)
include hA

theorem final12 : (dats m 0 c).arrAt 12 (cfgs 0).N = DPre (args m c) := by
  refine (dats m 0 c).arrAt_eq_of_covers 12 _ (by decide +kernel) fun t _ y => ?_
  blk_simp
  rw [after0_12]
  refine (out12 m c t y).trans ?_
  idx_vars y
  unfold stored
  pointwise
  refine (back_at t hA y0 y1 y2 y3).trans ?_
  refine congrArg (fun i : S2x4x4096x704.Idx => DPre (args m c) i) (a₁ := (ix4 y0 y1 (rowAt t y2) y3 : S2x4x4096x704.Idx)) ?_
  blk_ext [rowAt, idx t]

theorem final14 : (dats m 0 c).arrAt 14 (cfgs 0).N = DX (args m c) := by
  refine (dats m 0 c).arrAt_eq_of_covers 14 _ (by decide +kernel) fun t _ y => ?_
  blk_simp
  rw [after0_14]
  refine (congrFun (out14 m c t) y).trans ?_
  idx_vars y
  refine (dx_at t hA y0 y1).trans ?_
  refine congrArg (fun i : S4096x1024.Idx => DX (args m c) i) (a₁ := (ix2 (rowAt t y0) y1 : S4096x1024.Idx)) ?_
  blk_ext [rowAt, idx t]

theorem final15 : (dats m 0 c).arrAt 15 (cfgs 0).N = DX (args m c) := by
  refine (dats m 0 c).arrAt_eq_of_covers 15 _ (by decide +kernel) fun t _ y => ?_
  blk_simp
  rw [after0_15]
  refine (congrFun (out15 m c t) y).trans ?_
  idx_vars y
  refine (dx_at t hA y0 y1).trans ?_
  refine congrArg (fun i : S4096x1024.Idx => DX (args m c) i) (a₁ := (ix2 (rowAt t y0) y1 : S4096x1024.Idx)) ?_
  blk_ext [rowAt, idx t]

/-- What grid point `t` adds to the gradient of the convolution weights. -/
def part13 (m : (ℓ : Loc nD τ sig) → Buf (Elt Ideal) ℓ) (c : Dev nD) (t : Fin cfg0.N) (j : S2x4x3x704.Idx) : EReal :=
  ((∑ r, dwr (args m c) (j 0) (fcol (j 1) (j 3)) (j 2) (rowAt t r) : ℝ) : EReal)

theorem sum13 (j : S2x4x3x704.Idx) : (outsAt0 m c t0_15.val t0_15.isLt).2.1 j = ∑ t, part13 m c t j := by
  rw [Pipeline.eq_sum_fin_of_reset_step_apply_last (fun n h => (outsAt0 m c n h).2.1) 16 (fun _ => 0) (part13 m c)
    (fun t h j => by
      have := lt16 t
      rw [out13_A m c t h (by omega)]
      idx_vars j
      unfold row0
      pointwise
      exact wsum_at t hA j0 j1 j2 j3)
    (fun t h j => by
      have := lt16 t
      rw [out13_B m c t h (by omega)]
      idx_vars j
      unfold rowN
      pointwise
      rw [wsum_at t hA j0 j1 j2 j3]
      rfl)
    (le_of_eq N_0) t0_15 rfl j, zero_add]

theorem final13 : (dats m 0 c).arrAt 13 (cfgs 0).N = DW (args m c) := by
  refine (dats m 0 c).arrAt_eq_of_after_last 13 t0_15 (by decide +kernel) _ fun j => ?_
  blk_simp
  rw [after0_13]
  refine (sum13 hA j).trans ?_
  unfold part13
  rw [coe_sum]
  exact congrArg _ (sum_blocks fun i => dwr (args m c) (j 0) (fcol (j 1) (j 3)) (j 2) i)

/-- What grid point `t` adds to the gradient of the gain. -/
def part16 (m : (ℓ : Loc nD τ sig) → Buf (Elt Ideal) ℓ) (c : Dev nD) (t : Fin cfg0.N) (j : S1x1024.Idx) : EReal :=
  ((∑ r, dgr (args m c) (j 1) (rowAt t r) : ℝ) : EReal)

theorem sum16 (j : S1x1024.Idx) : (outsAt0 m c t0_15.val t0_15.isLt).2.2.2.2 j = ∑ t, part16 m c t j := by
  rw [Pipeline.eq_sum_fin_of_reset_step_apply_last (fun n h => (outsAt0 m c n h).2.2.2.2) 16 (fun _ => 0) (part16 m c)
    (fun t h j => by
      have := lt16 t
      rw [out16_A m c t h (by omega)]
      idx_vars j
      obtain rfl : j0 = 0 := Subsingleton.elim _ _
      exact (gsum_at t hA j1).trans (zero_add _).symm)
    (fun t h j => by
      have := lt16 t
      rw [out16_B m c t h (by omega)]
      idx_vars j
      obtain rfl : j0 = 0 := Subsingleton.elim _ _
      exact congrArg (_ + ·) (gsum_at t hA j1))
    (le_of_eq N_0) t0_15 rfl j, zero_add]

theorem final16 : (dats m 0 c).arrAt 16 (cfgs 0).N = DG (args m c) := by
  refine (dats m 0 c).arrAt_eq_of_after_last 16 t0_15 (by decide +kernel) _ fun j => ?_
  blk_simp
  rw [after0_16]
  refine (sum16 hA j).trans ?_
  unfold part16
  rw [coe_sum]
  exact congrArg _ (sum_blocks fun i => dgr (args m c) (j 1) i)

end Cert.FfnIdeal.Block

end
-- ==== Proof.Ffn.Ref.lean ====
/- The reference of the gradient of the feed-forward part, stage by stage, over the reals. -/
module

public import proofs.«01_k».proof.Proof.Gen.FfnRefIdeal.Read
public import proofs.«01_k».proof.Proof.Ffn.Math

@[expose] public section

set_option maxRecDepth 16384

noncomputable section

namespace Cert.FfnRefIdeal.Stage

open Idealize.ShloMosaic Cert.FfnRefIdeal Cert.FfnRefIdeal.Gen Cert.FfnRefIdeal.Read Cert.Reals Cert.Norm Cert.Seq Cert.FfnMath
open scoped BigOperators

variable {A : Args} (hA : A.Real)
include hA

theorem v6 (b : Fin 2) (s : Fin 2048) : val_main_v6 (F := Ideal) A.x (ix3 b s 0) = ((ms (row A.x (at2 b s)) : ℝ) : EReal) := by
  pointwise [val_main_v6, val_main_v5, val_main_v4, val_main_v3, val_main_v2, val_main_v1, val_main_v0, val_main_cst, val_main_cst_0, val_main_cst_1]
  simp only [row_at hA.x, mul_coe, coe_sum, ofBits_1024, ofBits_eps, add_coe, div_coe _ (by norm_num : (1024 : ℝ) ≠ 0)]
  rfl

theorem v7 (b : Fin 2) (s : Fin 2048) : val_main_v7 (F := Ideal) A.x (ix3 b s 0) = ((rs (row A.x (at2 b s)) : ℝ) : EReal) := by
  pointwise [val_main_v7]
  rw [v6 hA]
  exact rsqrt_coe (ms_pos _)

theorem v10 (b : Fin 2) (s : Fin 2048) : val_main_v10 (F := Ideal) A.x (ix3 b s 0)
    = ((-1 / 2 * (rs (row A.x (at2 b s)) / ms (row A.x (at2 b s))) : ℝ) : EReal) := by
  pointwise [val_main_v10, val_main_v9, val_main_v8, val_main_cst_2]
  simp only [v6 hA, v7 hA, div_coe _ (ms_pos _).ne', ofBits_neg_half, mul_coe]

theorem v12 (b : Fin 2) (s : Fin 2048) (k : Fin 1024) : val_main_v12 (F := Ideal) A.x (ix3 b s k)
    = ((row A.x (at2 b s) k * rs (row A.x (at2 b s)) : ℝ) : EReal) := by
  pointwise [val_main_v12, val_main_v11]
  rw [v7 hA, row_at hA.x, mul_coe]

theorem g_at (k : Fin 1024) : A.g (ix1 k) = ((vec A.g k : ℝ) : EReal) := coe_re (hA.g _)
theorem u_at (k : Fin 1024) (l : Fin 5632) : A.u (ix2 k l) = ((mat A.u k l : ℝ) : EReal) := coe_re (hA.u _)
theorem w_at (j : Fin 3) (l : Fin 5632) : A.w (ix2 j l) = ((mat A.w j l : ℝ) : EReal) := coe_re (hA.w _)
theorem d_at (f : Fin 2816) (k : Fin 1024) : A.d (ix2 f k) = ((mat A.d f k : ℝ) : EReal) := coe_re (hA.d _)

/-- The pre-activations. -/
theorem v16 (b : Fin 2) (s : Fin 2048) (h : Fin 2) (f : Fin 2816) :
    val_main_v16 (F := Ideal) A.x A.g A.u (ix3 b s (half h f)) = ((pre A h f (at2 b s) : ℝ) : EReal) := by
  pointwise [val_main_v16, val_main_v15, val_main_v14, val_main_v13]
  simp only [v12 hA, g_at hA, u_at hA, mul_coe, coe_sum]
  rfl

/-- The pre-activations with two rows of zeros before each sequence. -/
theorem v18 (b : Fin 2) (q : Fin 2050) (h : Fin 2) (f : Fin 2816) :
    val_main_v18 (F := Ideal) A.x A.g A.u (ix3 b q (half h f)) = ((pad (pre A h f) b.val (q.val + 6) : ℝ) : EReal) := by
  pointwise [val_main_v18, val_main_v17, val_main_cst_3]
  by_cases hq : q.val < 2
  · rw [dif_pos hq, pad_lt _ (by omega)]
    rfl
  · rw [dif_neg hq, v16 hA]
    have e : q.val + 6 = (q.val - 2) + 8 := by omega
    rw [e, pad_at (pre A h f) b ⟨q.val - 2, by omega⟩]

theorem v41 (b : Fin 2) (s : Fin 2048) (h : Fin 2) (f : Fin 2816) :
    val_main_v41 (F := Ideal) A.x A.g A.u A.w (ix3 b s (half h f))
      = ((conv (cw A h f) (pre A h f) b.val (s.val + 8) : ℝ) : EReal) := by
  pointwise [val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_v23,
    val_main_v22, val_main_v21, val_main_v20, val_main_cst_5]
  simp only [v18 hA, w_at hA, mul_coe, add_coe]
  unfold conv
  rw [show s.val + 8 - 2 = s.val + 6 by omega, show s.val + 8 - 1 = 1 + s.val + 6 by omega, show 2 + s.val + 6 = s.val + 8 by omega]
  unfold cw
  refine congrArg Real.toEReal ?_
  ring

theorem v47 (b : Fin 2) (s : Fin 2048) (f : Fin 2816) :
    val_main_v47 (F := Ideal) A.d A.y (ix3 b s f) = ((dact A f (at2 b s) : ℝ) : EReal) := by
  pointwise [val_main_v47]
  simp only [row_at hA.y, d_at hA, mul_coe, coe_sum]
  rfl

omit hA in
theorem sg_coe (a : ℝ) : Ideal.div 1 (1 + Ideal.exp (-(a : EReal))) = ((sg a : ℝ) : EReal) := by
  rw [neg_coe, Ideal.exp_coe, ← EReal.coe_one, add_coe, div_coe _ (by positivity)]
  exact congrArg Real.toEReal (one_div _)

/-- The gradient of the convolved rows. -/
theorem v51 (b : Fin 2) (s : Fin 2048) (h : Fin 2) (f : Fin 2816) :
    val_main_v51 (F := Ideal) A.x A.g A.u A.w A.d A.y (ix3 b s (half h f)) = ((dzc A h f b.val (s.val + 8) : ℝ) : EReal) := by
  have ha : ∀ l : Fin 5632, l = half 0 f → val_main_v41 (F := Ideal) A.x A.g A.u A.w (ix3 b s l)
      = ((conv (cw A 0 f) (pre A 0 f) b.val (s.val + 8) : ℝ) : EReal) := fun l e => by rw [e, v41 hA]
  have hv : ∀ l : Fin 5632, l = half 1 f → val_main_v41 (F := Ideal) A.x A.g A.u A.w (ix3 b s l)
      = ((conv (cw A 1 f) (pre A 1 f) b.val (s.val + 8) : ℝ) : EReal) := fun l e => by rw [e, v41 hA]
  unfold dzc dz
  rw [pad_at]
  pointwise [val_main_v51, val_main_v50, val_main_v49, val_main_v48, val_main_v44_0, val_main_v44_1, val_main_v44_2,
    val_main_call1_v0, val_main_call1_v1, val_main_call1_v2, val_main_call0_v7, val_main_call0_v6, val_main_call0_v4, val_main_call0_v3,
    val_main_call0_v2, val_main_call0_v1, val_main_call0_v0, val_main_call0_cst, val_main_call0_cst_0, val_main_call0_cst_1, val_main_v42, val_main_v43]
  match h with
  | 0 =>
    have l0 : (half 0 f).val = f.val := by show 0 * 2816 + f.val = f.val; omega
    rw [dif_pos (by rw [l0]; exact f.isLt), ha _ rfl, hv _ (Fin.ext (by show 2816 + (0 * 2816 + f.val) = 1 * 2816 + f.val; omega)), sg_coe,
      show (⟨(half 0 f).val, by rw [l0]; exact f.isLt⟩ : Fin 2816) = f from Fin.ext l0, v47 hA, ← EReal.coe_one, sub_coe]
    simp only [mul_coe, add_coe]
    refine congrArg Real.toEReal ?_
    unfold gate
    ring
  | 1 =>
    have l1 : (half 1 f).val - 2816 = f.val := by show 1 * 2816 + f.val - 2816 = f.val; omega
    rw [dif_neg (by show ¬ 1 * 2816 + f.val < 2816; omega),
      ha _ (Fin.ext (by show 1 * 2816 + f.val - 2816 = 0 * 2816 + f.val; omega)), sg_coe,
      show (⟨(half 1 f).val - 2816, by rw [l1]; exact f.isLt⟩ : Fin 2816) = f from Fin.ext l1, v47 hA]
    simp only [mul_coe]
    refine congrArg Real.toEReal ?_
    unfold gate
    ring

/-- The gradient of the pre-activations. -/
theorem v84 (b : Fin 2) (s : Fin 2048) (h : Fin 2) (f : Fin 2816) :
    val_main_v84 (F := Ideal) A.x A.g A.u A.w A.d A.y (ix3 b s (half h f)) = ((dpre A h f (at2 b s) : ℝ) : EReal) := by
  have hz : ∀ n, dzc A h f b.val (n + 2056) = 0 := fun n => dz_ge _ _ _ _ (by omega)
  pointwise [val_main_v84, val_main_v82, val_main_v81, val_main_v76, val_main_v75, val_main_v23, val_main_v22, val_main_v21, val_main_v71,
    val_main_v70, val_main_v65, val_main_v64, val_main_v31, val_main_v30, val_main_v29, val_main_v60, val_main_v56, val_main_v55, val_main_v38,
    val_main_v37, val_main_v36, val_main_cst_9, val_main_cst_13, val_main_cst_17]
  simp only [v51 hA, w_at hA, mul_coe]
  unfold dpre Seq.back
  rw [at2_div, at2_mod]
  have e1 : (if h_1 : 1 ≤ 2 + s.val ∧ 2 + s.val - 1 < 2048 then
      ((dzc A h f b.val (2 + s.val - 1 + 8) * mat A.w 1 (half h f) : ℝ) : EReal) else 0)
      = ((dzc A h f b.val (s.val + 8 + 1) * mat A.w 1 (half h f) : ℝ) : EReal) := by
    split
    · rw [show 2 + s.val - 1 + 8 = s.val + 8 + 1 by omega]
    · rw [show s.val + 8 + 1 = (s.val - 2047) + 2056 by omega, hz, zero_mul, EReal.coe_zero]
  have e2 : (if h_1 : 2 + s.val < 2048 then
      ((dzc A h f b.val (2 + s.val + 8) * mat A.w 0 (half h f) : ℝ) : EReal) else 0)
      = ((dzc A h f b.val (s.val + 8 + 2) * mat A.w 0 (half h f) : ℝ) : EReal) := by
    split
    · rw [show 2 + s.val + 8 = s.val + 8 + 2 by omega]
    · rw [show s.val + 8 + 2 = (s.val - 2046) + 2056 by omega, hz, zero_mul, EReal.coe_zero]
  rw [e1, e2, add_coe, add_coe]
  refine congrArg Real.toEReal ?_
  unfold cw
  ring

/-! The three rows of the gradient of the convolution weights. -/

theorem v57 (h : Fin 2) (f : Fin 2816) : val_main_v57 (F := Ideal) A.x A.g A.u A.w A.d A.y (ix1 (half h f))
    = ((dw A h f 2 : ℝ) : EReal) := by
  refine (hostReduceAdd_r3_a01 reducesTo_S1x1x5632_S5632_d0_1 (val_main_v54 (F := Ideal) A.x A.g A.u A.w A.d A.y) _ _).trans ?_
  rw [Fin.sum_univ_one, Fin.sum_univ_one]
  pointwise [val_main_v54]
  refine (congrArg (_ + ·) (hostReduceAdd_r3_a01 reducesTo_S2x2048x5632_S5632_d0_1 (val_main_v52 (F := Ideal) A.x A.g A.u A.w A.d A.y) _ _)).trans ?_
  pointwise [val_main_v52, val_main_v35, val_main_cst_6, val_main_cst_7]
  simp only [v51 hA, v18 hA, mul_coe, coe_sum]
  refine congrArg Real.toEReal ?_
  rw [dw_eq]
  refine Finset.sum_congr rfl fun b _ => Finset.sum_congr rfl fun q _ => ?_
  rw [mul_comm]
  refine congrArg (dzc A h f b.val (q.val + 8) * ·) (congrArg (pad (pre A h f) b.val) ?_)
  show 2 + q.val + 6 = q.val + 8 - 0
  omega

theorem v66 (h : Fin 2) (f : Fin 2816) : val_main_v66 (F := Ideal) A.x A.g A.u A.w A.d A.y (ix1 (half h f))
    = ((dw A h f 1 : ℝ) : EReal) := by
  refine (hostReduceAdd_r3_a01 reducesTo_S1x1x5632_S5632_d0_1 (val_main_v63 (F := Ideal) A.x A.g A.u A.w A.d A.y) _ _).trans ?_
  rw [Fin.sum_univ_one, Fin.sum_univ_one]
  pointwise [val_main_v63]
  refine (congrArg (_ + ·) (hostReduceAdd_r3_a01 reducesTo_S2x2048x5632_S5632_d0_1 (val_main_v61 (F := Ideal) A.x A.g A.u A.w A.d A.y) _ _)).trans ?_
  pointwise [val_main_v61, val_main_v28, val_main_cst_10, val_main_cst_11]
  simp only [v51 hA, v18 hA, mul_coe, coe_sum]
  refine congrArg Real.toEReal ?_
  rw [dw_eq]
  refine Finset.sum_congr rfl fun b _ => Finset.sum_congr rfl fun q _ => ?_
  rw [mul_comm]
  refine congrArg (dzc A h f b.val (q.val + 8) * ·) (congrArg (pad (pre A h f) b.val) ?_)
  show 1 + q.val + 6 = q.val + 8 - 1
  omega

theorem v77 (h : Fin 2) (f : Fin 2816) : val_main_v77 (F := Ideal) A.x A.g A.u A.w A.d A.y (ix1 (half h f))
    = ((dw A h f 0 : ℝ) : EReal) := by
  refine (hostReduceAdd_r3_a01 reducesTo_S1x1x5632_S5632_d0_1 (val_main_v74 (F := Ideal) A.x A.g A.u A.w A.d A.y) _ _).trans ?_
  rw [Fin.sum_univ_one, Fin.sum_univ_one]
  pointwise [val_main_v74]
  refine (congrArg (_ + ·) (hostReduceAdd_r3_a01 reducesTo_S2x2048x5632_S5632_d0_1 (val_main_v72 (F := Ideal) A.x A.g A.u A.w A.d A.y) _ _)).trans ?_
  pointwise [val_main_v72, val_main_v20, val_main_cst_14, val_main_cst_15]
  simp only [v51 hA, v18 hA, mul_coe, coe_sum]
  refine congrArg Real.toEReal ?_
  rw [dw_eq]
  refine Finset.sum_congr rfl fun b _ => Finset.sum_congr rfl fun q _ => ?_
  rw [mul_comm]
  refine congrArg (dzc A h f b.val (q.val + 8) * ·) (congrArg (pad (pre A h f) b.val) ?_)
  show q.val + 6 = q.val + 8 - 2
  omega

theorem v80 (j : Fin 3) (h : Fin 2) (f : Fin 2816) :
    val_main_v80 (F := Ideal) A.x A.g A.u A.w A.d A.y (ix2 j (half h f)) = ((dw A h f j : ℝ) : EReal) := by
  pointwise [val_main_v80, val_main_v79, val_main_v78, val_main_v69, val_main_v68, val_main_v59, val_main_v58, val_main_v67, val_main_cst_8, val_main_cst_12, val_main_cst_16]
  rw [v57 hA, v66 hA, v77 hA]
  match j with
  | 0 => simp
  | 1 => simp
  | 2 => simp

/-- The gradient of the normalised rows. -/
theorem v85 (b : Fin 2) (s : Fin 2048) (k : Fin 1024) :
    val_main_v85 (F := Ideal) A.x A.g A.u A.w A.d A.y (ix3 b s k) = ((dh A (at2 b s) k : ℝ) : EReal) := by
  have e : ∀ l : Fin 5632, val_main_v84 (F := Ideal) A.x A.g A.u A.w A.d A.y (ix3 b s l)
      = ((dpre A ⟨l.val / 2816, by omega⟩ ⟨l.val % 2816, by omega⟩ (at2 b s) : ℝ) : EReal) := fun l => by
    rw [← v84 hA]
    refine congrArg (fun l => val_main_v84 (F := Ideal) A.x A.g A.u A.w A.d A.y (ix3 b s l)) (Fin.ext ?_)
    show l.val = l.val / 2816 * 2816 + l.val % 2816
    omega
  pointwise [val_main_v85]
  simp only [e, u_at hA, mul_coe, coe_sum]
  refine congrArg Real.toEReal (dh_eq A (at2 b s) k (fun l => dpre A ⟨l.val / 2816, by omega⟩ ⟨l.val % 2816, by omega⟩ (at2 b s)) fun h f => ?_)
  have e1 : (⟨(half h f).val / 2816, by omega⟩ : Fin 2) = h := Fin.ext (by show (h.val * 2816 + f.val) / 2816 = h.val; omega)
  have e2 : (⟨(half h f).val % 2816, by omega⟩ : Fin 2816) = f := Fin.ext (by show (h.val * 2816 + f.val) % 2816 = f.val; omega)
  rw [e1, e2]

theorem v90 (b : Fin 2) (s : Fin 2048) (k : Fin 1024) :
    val_main_v90 (F := Ideal) A.x A.g A.u A.w A.d A.y (ix3 b s k) = ((dh A (at2 b s) k * vec A.g k : ℝ) : EReal) := by
  pointwise [val_main_v90, val_main_v89, val_main_v13]
  rw [v85 hA, g_at hA, mul_coe]

/-- The gradient of the gain. -/
theorem v91 (k : Fin 1024) : val_main_v91 (F := Ideal) A.x A.g A.u A.w A.d A.y (ix1 k) = ((dg A k : ℝ) : EReal) := by
  refine (hostReduceAdd_r3_a01 reducesTo_S1x1x1024_S1024_d0_1 (val_main_v88 (F := Ideal) A.x A.g A.u A.w A.d A.y) _ k).trans ?_
  rw [Fin.sum_univ_one, Fin.sum_univ_one]
  pointwise [val_main_v88]
  refine (congrArg (_ + ·) (hostReduceAdd_r3_a01 reducesTo_S2x2048x1024_S1024_d0_1 (val_main_v86 (F := Ideal) A.x A.g A.u A.w A.d A.y) _ k)).trans ?_
  pointwise [val_main_v86, val_main_cst_18, val_main_cst_19]
  simp only [v12 hA, v85 hA, mul_coe, coe_sum]
  refine congrArg Real.toEReal ?_
  refine Eq.trans ?_ (sum_rows fun i => dgr A k i)
  exact Finset.sum_congr rfl fun b _ => Finset.sum_congr rfl fun s _ => mul_comm _ _

theorem v101 (b : Fin 2) (s : Fin 2048) : val_main_v101 (F := Ideal) A.x A.g A.u A.w A.d A.y (ix2 b s)
    = (((∑ l, row A.x (at2 b s) l * (dh A (at2 b s) l * vec A.g l))
        * (-1 / 2 * (rs (row A.x (at2 b s)) / ms (row A.x (at2 b s)))) / 1024 : ℝ) : EReal) := by
  pointwise [val_main_v101, val_main_v100, val_main_v99, val_main_v98, val_main_v94, val_main_v93, val_main_v92, val_main_cst_20, val_main_cst_21, val_main_cst_22]
  simp only [v90 hA, v10 hA, row_at hA.x, mul_coe, coe_sum, ofBits_1024, div_coe _ (by norm_num : (1024 : ℝ) ≠ 0)]
  rw [Fin.sum_univ_one, v10 hA, mul_coe, div_coe _ (by norm_num : (1024 : ℝ) ≠ 0)]

/-- The gradient of the rows. -/
theorem v106 (b : Fin 2) (s : Fin 2048) (k : Fin 1024) :
    val_main_v106 (F := Ideal) A.x A.g A.u A.w A.d A.y (ix3 b s k) = ((dx A (at2 b s) k : ℝ) : EReal) := by
  pointwise [val_main_v106, val_main_v105, val_main_v104, val_main_v103, val_main_v102, val_main_v97, val_main_v96, val_main_v95]
  simp only [v101 hA, v90 hA, v7 hA, row_at hA.x, row_at hA.y, mul_coe, add_coe]
  refine congrArg Real.toEReal ?_
  unfold dx
  rw [← back_eq]
  ring

/-! ### The results -/

theorem resDPre : val_main_v109 (F := Ideal) A.x A.g A.u A.w A.d A.y = DPre A := by
  funext i
  idx_vars i
  pointwise [val_main_v109, val_main_v108, val_main_v107]
  refine Eq.trans (congrArg (fun l => val_main_v84 (F := Ideal) A.x A.g A.u A.w A.d A.y (ix3 _ _ l))
    (a₂ := half i0 (fcol i1 i3)) (Fin.ext (by show i0.val * 2816 + i1.val * 704 + i3.val = i0.val * 2816 + (i1.val * 704 + i3.val); omega))) ?_
  rw [v84 hA]
  exact congrArg (fun i => ((dpre A i0 (fcol i1 i3) i : ℝ) : EReal)) (at2_row i2)

theorem resDW : val_main_v111 (F := Ideal) A.x A.g A.u A.w A.d A.y = DW A := by
  funext i
  idx_vars i
  pointwise [val_main_v111, val_main_v110]
  refine Eq.trans (congrArg (fun l => val_main_v80 (F := Ideal) A.x A.g A.u A.w A.d A.y (ix2 _ l))
    (a₂ := half i0 (fcol i1 i3)) (Fin.ext (by show i0.val * 2816 + i1.val * 704 + i3.val = i0.val * 2816 + (i1.val * 704 + i3.val); omega))) ?_
  rw [v80 hA]
  rfl

theorem resDX : val_main_v112 (F := Ideal) A.x A.g A.u A.w A.d A.y = DX A := by
  funext i
  idx_vars i
  pointwise [val_main_v112]
  rw [v106 hA]
  exact congrArg (fun i => ((dx A i i1 : ℝ) : EReal)) (at2_row i0)

theorem resDXb : val_main_v113 (F := Ideal) A.x A.g A.u A.w A.d A.y = DX A := by
  rw [← resDX hA]
  funext i
  pointwise [val_main_v113]

theorem resDG : val_main_v114 (F := Ideal) A.x A.g A.u A.w A.d A.y = DG A := by
  funext i
  idx_vars i
  pointwise [val_main_v114]
  rw [v91 hA]
  rfl

end Cert.FfnRefIdeal.Stage

end
-- ==== Proof.Ffn.Claim.lean ====
/- The gradient of the feed-forward part: the kernel's five results and the reference's are equal wherever the arguments
   are finite. -/
module

public import proofs.«01_k».proof.Defs
public import proofs.«01_k».proof.Proof.Ffn.Array
public import proofs.«01_k».proof.Proof.Ffn.Ref
public import proofs.«01_k».proof.Proof.Gen.FfnIdeal.Value
public import proofs.«01_k».proof.Proof.Gen.FfnRefIdeal.Run
public import Idealize.ShloMosaic.Adequacy
public import Idealize.ShloMosaic.Init

@[expose] public section

noncomputable section

namespace Cert.Proof

open Idealize.ShloMosaic Idealize.SL.Sem

instance pre_finite_ffn : Cert.Pre_finite_ffn.Facts where
  bcast_S_S2x2048x1024 := by decide
  reducesTo_S2x2048x1024_S_d0_1_2 := by decide
  h_S_ := by decide
  bcast_S_S1024 := by decide
  reducesTo_S1024_S_d0 := by decide
  bcast_S_S1024x5632 := by decide
  reducesTo_S1024x5632_S_d0_1 := by decide
  bcast_S_S3x5632 := by decide
  reducesTo_S3x5632_S_d0_1 := by decide
  bcast_S_S2816x1024 := by decide
  reducesTo_S2816x1024_S_d0_1 := by decide

/-- Where the condition holds, every element of the arguments is a real. -/
theorem reals_of_finite_ffn {A : Cert.FfnMath.Args}
    (h : Cert.Pre_finite_ffn.fn (F := Ideal) A.x A.g A.u A.w A.d A.y = fun _ => 1#1) : A.Real := by
  have h0 := congrFun h fun a => a.elim0
  obtain ⟨h1, hy⟩ := Cert.Reals.andi_eq_one h0
  obtain ⟨h2, hd⟩ := Cert.Reals.andi_eq_one h1
  obtain ⟨h3, hw⟩ := Cert.Reals.andi_eq_one h2
  obtain ⟨h4, hu⟩ := Cert.Reals.andi_eq_one h3
  obtain ⟨hx, hg⟩ := Cert.Reals.andi_eq_one h4
  exact ⟨Cert.Reals.real_of_all A.x _ _ _ _ _ hx, Cert.Reals.real_of_all A.g _ _ _ _ _ hg, Cert.Reals.real_of_all A.u _ _ _ _ _ hu,
    Cert.Reals.real_of_all A.w _ _ _ _ _ hw, Cert.Reals.real_of_all A.d _ _ _ _ _ hd, Cert.Reals.real_of_all A.y _ _ _ _ _ hy⟩

/-- The reference's arguments, where they agree with the kernel's. -/
theorem args_eq {m : (ℓ : Loc Cert.FfnIdeal.nD Cert.FfnIdeal.τ Cert.FfnIdeal.sig) → Buf (Elt Ideal) ℓ}
    {m' : (ℓ : Loc Cert.FfnRefIdeal.nD Cert.FfnRefIdeal.τ Cert.FfnRefIdeal.sig) → Buf (Elt Ideal) ℓ} {c : Dev Cert.FfnRefIdeal.nD}
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4))
    (h5 : m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) :
    (⟨StableHlo.launchContents m' c (Proc.tc.devRef Cert.FfnRefIdeal.main_arg0),
      StableHlo.launchContents m' c (Proc.tc.devRef Cert.FfnRefIdeal.main_arg1),
      StableHlo.launchContents m' c (Proc.tc.devRef Cert.FfnRefIdeal.main_arg2),
      StableHlo.launchContents m' c (Proc.tc.devRef Cert.FfnRefIdeal.main_arg3),
      StableHlo.launchContents m' c (Proc.tc.devRef Cert.FfnRefIdeal.main_arg4),
      StableHlo.launchContents m' c (Proc.tc.devRef Cert.FfnRefIdeal.main_arg5)⟩ : Cert.FfnMath.Args) = Cert.FfnIdeal.Block.args m c := by
  unfold Cert.FfnIdeal.Block.args
  rw [← h0, ← h1, ← h2, ← h3, ← h4, ← h5]

/-- The reference's arguments as launched. -/
def refArgs (m' : (ℓ : Loc Cert.FfnRefIdeal.nD Cert.FfnRefIdeal.τ Cert.FfnRefIdeal.sig) → Buf (Elt Ideal) ℓ) (c : Dev Cert.FfnRefIdeal.nD) :
    Cert.FfnMath.Args :=
  ⟨StableHlo.launchContents m' c (Proc.tc.devRef Cert.FfnRefIdeal.main_arg0),
    StableHlo.launchContents m' c (Proc.tc.devRef Cert.FfnRefIdeal.main_arg1),
    StableHlo.launchContents m' c (Proc.tc.devRef Cert.FfnRefIdeal.main_arg2),
    StableHlo.launchContents m' c (Proc.tc.devRef Cert.FfnRefIdeal.main_arg3),
    StableHlo.launchContents m' c (Proc.tc.devRef Cert.FfnRefIdeal.main_arg4),
    StableHlo.launchContents m' c (Proc.tc.devRef Cert.FfnRefIdeal.main_arg5)⟩

theorem ffn_algebraic : Cert.algebraic_FfnIdeal_FfnRefIdeal_pre_finite_ffn := by
  intro m g m' g' hpre hagree
  have hA : ∀ c, (Cert.FfnIdeal.Block.args m c).Real := fun c => reals_of_finite_ffn (hpre c)
  have e : ∀ c, refArgs m' c = Cert.FfnIdeal.Block.args m c := fun c =>
    args_eq (hagree c).1 (hagree c).2.1 (hagree c).2.2.1 (hagree c).2.2.2.1 (hagree c).2.2.2.2.1 (hagree c).2.2.2.2.2
  have hB : ∀ c, (refArgs m' c).Real := fun c => (e c).symm ▸ hA c
  refine ⟨fun c => Cert.FfnMath.DPre (Cert.FfnIdeal.Block.args m c), fun c => Cert.FfnMath.DW (Cert.FfnIdeal.Block.args m c),
    fun c => Cert.FfnMath.DX (Cert.FfnIdeal.Block.args m c), fun c => Cert.FfnMath.DX (Cert.FfnIdeal.Block.args m c),
    fun c => Cert.FfnMath.DG (Cert.FfnIdeal.Block.args m c), ?_, ?_⟩
  · refine (θ_run Cert.FfnIdeal.defs _ _).mono (fun r h c => ?_) (Cert.FfnIdeal.Value.run_blocks m g)
    obtain ⟨h1, h2, h3, h4, h5, hk⟩ := h c
    exact ⟨h1.trans (Cert.FfnIdeal.Block.final12 (hA c)), h2.trans (Cert.FfnIdeal.Block.final13 (hA c)),
      h3.trans (Cert.FfnIdeal.Block.final14 (hA c)), h4.trans (Cert.FfnIdeal.Block.final15 (hA c)),
      h5.trans (Cert.FfnIdeal.Block.final16 (hA c)), hk⟩
  · refine (θ_run Cert.FfnRefIdeal.defs _ _).mono (fun r h c => ?_) (Cert.FfnRefIdeal.Value.run m' g')
    obtain ⟨h1, h2, h3, h4, h5, hk⟩ := h c
    have e := e c
    have q1 := (Cert.FfnRefIdeal.Stage.resDPre (hB c)).trans (congrArg Cert.FfnMath.DPre e)
    have q2 := (Cert.FfnRefIdeal.Stage.resDW (hB c)).trans (congrArg Cert.FfnMath.DW e)
    have q3 := (Cert.FfnRefIdeal.Stage.resDX (hB c)).trans (congrArg Cert.FfnMath.DX e)
    have q4 := (Cert.FfnRefIdeal.Stage.resDXb (hB c)).trans (congrArg Cert.FfnMath.DX e)
    have q5 := (Cert.FfnRefIdeal.Stage.resDG (hB c)).trans (congrArg Cert.FfnMath.DG e)
    have p1 := h1.trans (Cert.FfnRefIdeal.Read.val_main_v109_eq (StableHlo.launchContents m' c))
    have p2 := h2.trans (Cert.FfnRefIdeal.Read.val_main_v111_eq (StableHlo.launchContents m' c))
    have p3 := h3.trans (Cert.FfnRefIdeal.Read.val_main_v112_eq (StableHlo.launchContents m' c))
    have p4 := h4.trans (Cert.FfnRefIdeal.Read.val_main_v113_eq (StableHlo.launchContents m' c))
    have p5 := h5.trans (Cert.FfnRefIdeal.Read.val_main_v114_eq (StableHlo.launchContents m' c))
    exact ⟨p1.trans q1, p2.trans q2, p3.trans q3, p4.trans q4, p5.trans q5, hk⟩

/-- The reference leaves its arguments unchanged; it declares no semaphore. -/
theorem ffn_ref_frame : Cert.quiescent_FfnRefIdeal := fun m ρ _ =>
  (θ_run Cert.FfnRefIdeal.defs _ _).mono (fun r h => ⟨fun c => (h c).2.2.2.2.2, sem_eq_zero_of_no_sems (by decide) r.2⟩)
    (Cert.FfnRefIdeal.Value.run m ρ)

end Cert.Proof

end
-- ==== Proof.Conv.Run.lean ====
/- The body of the mixing backward kernel, run once per case of its grid point.

   On whole staging buffers the body computes the three projection gradients of its block into the
   scratch buffer, stores (or adds) the two weight gradients and starts three copies of the scratch
   into the result in HBM, all three in flight before the first is waited for. -/
module

public import proofs.«01_k».proof.Proof.Gen.ConvIdeal.Launch
public import proofs.«01_k».proof.Proof.Gen.ConvIdeal.Points
public import proofs.«01_k».proof.Proof.Gen.ConvIdeal.Skeleton
public import Idealize.ShloMosaic.Lib.Pipeline.FrameBody
public import Idealize.ShloMosaic.Lib.Pipeline.FrameValue
public import Idealize.ShloMosaic.Lib.Tactic
public import Idealize.ShloMosaic.Lib.WordCmp

@[expose] public section

set_option maxRecDepth 16384

noncomputable section

namespace Cert.ConvIdeal.Body

open Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The window of the result that a block's copy number `r` fills. -/
abbrev win (M : Memref sig .tc .hbm S4096x3072 .bf16) (i : grid0.Coords) (r : Fin 3) : Memref sig .tc .hbm S2048x128 .bf16 :=
  M.slice (Rect.unit (s := S4096x3072) (k0_off7 i (BitVec.ofNat 32 (12 + 4 * r.val))) S2048x128.size (k0_off7_inb i r)) (fun _ => rfl)

theorem row_inb (r : Fin 3) : ∀ a, (![r.val, 0, 0] : Fin 3 → ℕ) a + S1x2048x128.size a ≤ S3x2048x128.size a := by
  fin_cases r <;> decide

/-- The plane of the scratch that copy number `r` reads. -/
abbrev plane (M : Memref sig .tc .vmem S3x2048x128 .bf16) (r : Fin 3) : Memref sig .tc .vmem S2048x128 .bf16 :=
  (M.slice (Rect.unit (s := S3x2048x128) ![r.val, 0, 0] S1x2048x128.size (row_inb r)) (fun _ => rfl)).squeeze S2048x128 squeezes_S1x2048x128_S2048x128

/-- The result after a block's copy number `r`, the scratch holding `g`. -/
def copy1 (c : Dev nD) (i : grid0.Coords) (M : Memref sig .tc .hbm S4096x3072 .bf16) (N : Memref sig .tc .vmem S3x2048x128 .bf16)
    (g : Buf (Elt F) (N.view.loc (c : Thread nD τ))) (r : Fin 3) (f : Buf (Elt F) (M.view.loc (c : Thread nD τ))) :
    Buf (Elt F) (M.view.loc (c : Thread nD τ)) :=
  View.write (Elt F) (win M i r).view f ((plane N r).view.read (Elt F) g) Finset.univ

/-- The result after a block's three copies. -/
def copied (c : Dev nD) (i : grid0.Coords) (M : Memref sig .tc .hbm S4096x3072 .bf16) (N : Memref sig .tc .vmem S3x2048x128 .bf16)
    (g : Buf (Elt F) (N.view.loc (c : Thread nD τ))) (f : Buf (Elt F) (M.view.loc (c : Thread nD τ))) :
    Buf (Elt F) (M.view.loc (c : Thread nD τ)) :=
  copy1 c i M N g 2 (copy1 c i M N g 1 (copy1 c i M N g 0 f))

set_option maxHeartbeats 4000000 in
/-- The body at the first batch of a column block: the weight gradients are stored over whatever
    their buffers held. -/
noncomputable def runA (c : Dev nD) (i : grid0.Coords)
    (arg2 : Memref sig .tc .vmem S2048x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S2048x128 .bf16) (harg5 : arg5.IsWhole)
    (arg6 : Memref sig .tc .vmem S3x128 .f32) (harg6 : arg6.IsWhole)
    (arg7 : Memref sig .tc .vmem S1x128 .f32) (harg7 : arg7.IsWhole)
    (arg10 : Memref sig .tc .vmem S3x128 .f32) (harg10 : arg10.IsWhole)
    (arg11 : Memref sig .tc .vmem S1x128 .f32) (harg11 : arg11.IsWhole)
    (arg9 : Memref sig .tc .hbm S4096x3072 .bf16) (harg9 : arg9.IsWhole)
    (arg12 : Memref sig .tc .vmem S3x2048x128 .bf16) (harg12 : arg12.IsWhole)
    (hc1 : k0_cond1 i = 1#1) (hc2 : ¬ k0_cond2 i = 1#1)
    (hd10 : Disjoint (win arg9 i 1).view.set (win arg9 i 0).view.set) (hd20 : Disjoint (win arg9 i 2).view.set (win arg9 i 0).view.set)
    (hd21 : Disjoint (win arg9 i 2).view.set (win arg9 i 1).view.set)
    (x0 x1 x2 : Vec F S2048x128 .f32) (x3 : Vec F S2048x128 .bf16) (x4 : Vec F S3x128 .f32) (x5 : Vec F S1x128 .f32) :
    Σ' (L6 : List (View.Piece (Elt F) S3x128 .f32)), Σ' (L7 : List (View.Piece (Elt F) S1x128 .f32)), { L12 : List (View.Piece (Elt F) S3x2048x128 .bf16) //
      ∀ (W : Waits sig Unit) (f12 : Buf (Elt F) (arg12.view.loc (c : Thread nD τ))) (f9 : Buf (Elt F) (arg9.view.loc (c : Thread nD τ))) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg10 fullShare d) ∗ (∃ d, owns (c : Thread nD τ) arg11 fullShare d)
            ∗ (arg12.view.loc (c : Thread nD τ) ↦[arg12.view.set]{fullShare} f12) ∗ (arg9.view.loc (c : Thread nD τ) ↦[arg9.view.set]{fullShare} f9)
            ∗ semVal ((c : Thread nD τ), SemLoc.dma 16) 0 ∗ semVal ((c : Thread nD τ), SemLoc.dma 17) 0 ∗ semVal ((c : Thread nD τ), SemLoc.dma 18) 0
            ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg10.view.loc (c : Thread nD τ) ↦[arg10.view.set]{fullShare} arg10.view.writes (Elt F) f L6)
                ∗ (∃ f, arg11.view.loc (c : Thread nD τ) ↦[arg11.view.set]{fullShare} arg11.view.writes (Elt F) f L7)
                ∗ (arg12.view.loc (c : Thread nD τ) ↦[arg12.view.set]{fullShare} arg12.view.writes (Elt F) f12 L12) ∗ (arg9.view.loc (c : Thread nD τ) ↦[arg9.view.set]{fullShare} copied c i arg9 arg12 (arg12.view.writes (Elt F) f12 L12) f9)
                ∗ semVal ((c : Thread nD τ), SemLoc.dma 16) 0 ∗ semVal ((c : Thread nD τ), SemLoc.dma 17) 0 ∗ semVal ((c : Thread nD τ), SemLoc.dma 18) 0
                ∗ (∃ W', owes (c : Thread nD τ) 0 W')) -∗ K ⟨⟩))
          ⊢ wp frame (wpE (defs₀ (F := F)) Variants.none c none) Set.univ
              (cc0_convmix_bwd i arg2 harg2 arg3 harg3 arg4 harg4 arg5 harg5 arg6 harg6 arg7 harg7 arg9 harg9 arg9 harg9 arg10 harg10 arg11 harg11 arg12 harg12 cc0_scratch1) K } := by
  refine ⟨?_, ?_, ?_, fun W f12 f9 K => ?run⟩
  case run =>
    simp only [cc0_convmix_bwd_eq_skeleton]; unfold cc0_convmix_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HS, HB, Hq0, Hq1, Hq2, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS]; · iexact HS
    isplitl [HB]; · iexact HB
    isplitl [Hq0]; · iexact Hq0
    isplitl [Hq1]; · iexact Hq1
    isplitl [Hq2]; · iexact Hq2
    iexists _; iexact HW

set_option maxHeartbeats 4000000 in
/-- The body at the second batch of a column block: the weight gradients are added to what the
    first batch left. -/
noncomputable def runB (c : Dev nD) (i : grid0.Coords)
    (arg2 : Memref sig .tc .vmem S2048x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S2048x128 .bf16) (harg5 : arg5.IsWhole)
    (arg6 : Memref sig .tc .vmem S3x128 .f32) (harg6 : arg6.IsWhole)
    (arg7 : Memref sig .tc .vmem S1x128 .f32) (harg7 : arg7.IsWhole)
    (arg10 : Memref sig .tc .vmem S3x128 .f32) (harg10 : arg10.IsWhole)
    (arg11 : Memref sig .tc .vmem S1x128 .f32) (harg11 : arg11.IsWhole)
    (arg9 : Memref sig .tc .hbm S4096x3072 .bf16) (harg9 : arg9.IsWhole)
    (arg12 : Memref sig .tc .vmem S3x2048x128 .bf16) (harg12 : arg12.IsWhole)
    (hc1 : ¬ k0_cond1 i = 1#1) (hc2 : k0_cond2 i = 1#1)
    (hd10 : Disjoint (win arg9 i 1).view.set (win arg9 i 0).view.set) (hd20 : Disjoint (win arg9 i 2).view.set (win arg9 i 0).view.set)
    (hd21 : Disjoint (win arg9 i 2).view.set (win arg9 i 1).view.set)
    (x0 x1 x2 : Vec F S2048x128 .f32) (x3 : Vec F S2048x128 .bf16) (x4 : Vec F S3x128 .f32) (x5 : Vec F S1x128 .f32) (xo6 : Vec F S3x128 .f32) (xo7 : Vec F S1x128 .f32) :
    Σ' (L6 : List (View.Piece (Elt F) S3x128 .f32)), Σ' (L7 : List (View.Piece (Elt F) S1x128 .f32)), { L12 : List (View.Piece (Elt F) S3x2048x128 .bf16) //
      ∀ (W : Waits sig Unit) (f12 : Buf (Elt F) (arg12.view.loc (c : Thread nD τ))) (f9 : Buf (Elt F) (arg9.view.loc (c : Thread nD τ))) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg10 fullShare xo6 ∗ owns (c : Thread nD τ) arg11 fullShare xo7
            ∗ (arg12.view.loc (c : Thread nD τ) ↦[arg12.view.set]{fullShare} f12) ∗ (arg9.view.loc (c : Thread nD τ) ↦[arg9.view.set]{fullShare} f9)
            ∗ semVal ((c : Thread nD τ), SemLoc.dma 16) 0 ∗ semVal ((c : Thread nD τ), SemLoc.dma 17) 0 ∗ semVal ((c : Thread nD τ), SemLoc.dma 18) 0
            ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg10.view.loc (c : Thread nD τ) ↦[arg10.view.set]{fullShare} arg10.view.writes (Elt F) f L6)
                ∗ (∃ f, arg11.view.loc (c : Thread nD τ) ↦[arg11.view.set]{fullShare} arg11.view.writes (Elt F) f L7)
                ∗ (arg12.view.loc (c : Thread nD τ) ↦[arg12.view.set]{fullShare} arg12.view.writes (Elt F) f12 L12) ∗ (arg9.view.loc (c : Thread nD τ) ↦[arg9.view.set]{fullShare} copied c i arg9 arg12 (arg12.view.writes (Elt F) f12 L12) f9)
                ∗ semVal ((c : Thread nD τ), SemLoc.dma 16) 0 ∗ semVal ((c : Thread nD τ), SemLoc.dma 17) 0 ∗ semVal ((c : Thread nD τ), SemLoc.dma 18) 0
                ∗ (∃ W', owes (c : Thread nD τ) 0 W')) -∗ K ⟨⟩))
          ⊢ wp frame (wpE (defs₀ (F := F)) Variants.none c none) Set.univ
              (cc0_convmix_bwd i arg2 harg2 arg3 harg3 arg4 harg4 arg5 harg5 arg6 harg6 arg7 harg7 arg9 harg9 arg9 harg9 arg10 harg10 arg11 harg11 arg12 harg12 cc0_scratch1) K } := by
  refine ⟨?_, ?_, ?_, fun W f12 f9 K => ?run⟩
  case run =>
    simp only [cc0_convmix_bwd_eq_skeleton]; unfold cc0_convmix_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HS, HB, Hq0, Hq1, Hq2, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf6; obtain rfl := harg11.eq_unread hf7
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS]; · iexact HS
    isplitl [HB]; · iexact HB
    isplitl [Hq0]; · iexact Hq0
    isplitl [Hq1]; · iexact Hq1
    isplitl [Hq2]; · iexact Hq2
    iexists _; iexact HW

end Cert.ConvIdeal.Body

end
-- ==== Proof.Conv.Frame.lean ====
/- The mixing backward kernel runs to its end: what each grid point leaves in its buffers, the
   result in HBM after each point, the run of the whole program.

   Eight points: four column blocks, two batches each. The first batch of a block stores the weight
   gradients, the second adds to them. Every point writes three windows of the result in HBM, by
   copies of its own that it waits for, so between points the result stands at named contents. -/
module

public import proofs.«01_k».proof.Proof.Conv.Run
public import proofs.«01_k».proof.Proof.Gen.ConvIdeal.Frame
public import Idealize.ShloMosaic.Lib.Pipeline.TableIdle
public import Idealize.ShloMosaic.Lib.ViewIndex

@[expose] public section

set_option maxRecDepth 16384

noncomputable section

namespace Cert.ConvIdeal.Body

open Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The grid points and the windows of the result -/

theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)
theorem cond2_iff : ∀ t : Fin cfg0.N, k0_cond2 (grid0.coords t) = 1#1 ↔ t.val % 2 = 1 :=
  (by decide +kernel : ∀ t : Fin grid0.N, k0_cond2 (grid0.coords t) = 1#1 ↔ t.val % 2 = 1)

theorem cols_apart : ∀ (i : grid0.Coords) (r s : Fin 3), s < r →
    k0_off7 i (BitVec.ofNat 32 (12 + 4 * s.val)) 1 + 128 ≤ k0_off7 i (BitVec.ofNat 32 (12 + 4 * r.val)) 1 := by decide +kernel

/-- Two windows of one point lie in different columns. -/
theorem win_disjoint (M : Memref sig .tc .hbm S4096x3072 .bf16) (i : grid0.Coords) (r s : Fin 3) (h : s < r) :
    Disjoint (win M i r).view.set (win M i s).view.set :=
  View.disjoint_slice (Rect.unit_disjoint 1 (Or.inr (cols_apart i r s h)))

/-- The result in HBM and the scratch. -/
abbrev hbM : Memref sig .tc .hbm S4096x3072 .bf16 := Memref.whole main_v20_0
abbrev scM : Memref sig .tc .vmem S3x2048x128 .bf16 := Memref.whole cc0_scratch0

abbrev wh0 (t : Fin cfg0.N) : (st0_0 t).IsWhole := hstage0_0 ((cfg0.slots t 0).cast nbuf0_0)
abbrev wh1 (t : Fin cfg0.N) : (st0_1 t).IsWhole := hstage0_1 ((cfg0.slots t 1).cast nbuf0_1)
abbrev wh2 (t : Fin cfg0.N) : (st0_2 t).IsWhole := hstage0_2 ((cfg0.slots t 2).cast nbuf0_2)
abbrev wh3 (t : Fin cfg0.N) : (st0_3 t).IsWhole := hstage0_3 ((cfg0.slots t 3).cast nbuf0_3)
abbrev wh4 (t : Fin cfg0.N) : (st0_4 t).IsWhole := hstage0_4 ((cfg0.slots t 4).cast nbuf0_4)
abbrev wh5 (t : Fin cfg0.N) : (st0_5 t).IsWhole := hstage0_5 ((cfg0.slots t 5).cast nbuf0_5)
abbrev wh6 (t : Fin cfg0.N) : (st0_6 t).IsWhole := hstage0_6 ((cfg0.slots t 6).cast nbuf0_6)
abbrev wh7 (t : Fin cfg0.N) : (st0_7 t).IsWhole := hstage0_7 ((cfg0.slots t 7).cast nbuf0_7)

/-! ## The two cases at a grid point -/

/-- The run at a first batch. -/
abbrev atA (c : Dev nD) (t : Fin cfg0.N) (h : t.val % 2 = 0) :=
  runA (F := F) c (grid0.coords t) (st0_0 t) (wh0 t) (st0_1 t) (wh1 t) (st0_2 t) (wh2 t) (st0_3 t) (wh3 t) (st0_4 t) (wh4 t)
    (st0_5 t) (wh5 t) (st0_6 t) (wh6 t) (st0_7 t) (wh7 t) hbM (Memref.isWhole_whole _) scM (Memref.isWhole_whole _)
    ((cond1_iff t).mpr h) (fun e => by have := (cond2_iff t).mp e; omega)
    (win_disjoint _ _ 1 0 (by decide)) (win_disjoint _ _ 2 0 (by decide)) (win_disjoint _ _ 2 1 (by decide))
    (iblk m c 0 t) (iblk m c 1 t) (iblk m c 2 t) (iblk m c 3 t) (iblk m c 4 t) (iblk m c 5 t)

/-- The run at a second batch, the weight gradients so far being `o6` and `o7`. -/
abbrev atB (c : Dev nD) (t : Fin cfg0.N) (h : t.val % 2 = 1) (o6 : Vec F S3x128 .f32) (o7 : Vec F S1x128 .f32) :=
  runB (F := F) c (grid0.coords t) (st0_0 t) (wh0 t) (st0_1 t) (wh1 t) (st0_2 t) (wh2 t) (st0_3 t) (wh3 t) (st0_4 t) (wh4 t)
    (st0_5 t) (wh5 t) (st0_6 t) (wh6 t) (st0_7 t) (wh7 t) hbM (Memref.isWhole_whole _) scM (Memref.isWhole_whole _)
    (fun e => by have := (cond1_iff t).mp e; omega) ((cond2_iff t).mpr h)
    (win_disjoint _ _ 1 0 (by decide)) (win_disjoint _ _ 2 0 (by decide)) (win_disjoint _ _ 2 1 (by decide))
    (iblk m c 0 t) (iblk m c 1 t) (iblk m c 2 t) (iblk m c 3 t) (iblk m c 4 t) (iblk m c 5 t) o6 o7

abbrev VO6 : View sig .tc .vmem S3x128 .f32 := (Memref.whole cc0_stg6_0 : Memref sig .tc .vmem S3x128 .f32).view
abbrev VO7 : View sig .tc .vmem S1x128 .f32 := (Memref.whole cc0_stg7_0 : Memref sig .tc .vmem S1x128 .f32).view

theorem coverA6 (c : Dev nD) (t : Fin cfg0.N) (h : t.val % 2 = 0) (y : S3x128.Idx) : ∃ p ∈ (atA m c t h).1, y ∈ p.1.set :=
  View.cover_of_tiledL (atA m c t h).1 S1x128.size (by sl_kernel_rfl) y
theorem coverA7 (c : Dev nD) (t : Fin cfg0.N) (h : t.val % 2 = 0) (y : S1x128.Idx) : ∃ p ∈ (atA m c t h).2.1, y ∈ p.1.set :=
  View.cover_of_tiledL (atA m c t h).2.1 S1x128.size (by sl_kernel_rfl) y
theorem coverA12 (c : Dev nD) (t : Fin cfg0.N) (h : t.val % 2 = 0) (y : S3x2048x128.Idx) : ∃ p ∈ (atA m c t h).2.2.1, y ∈ p.1.set :=
  View.cover_of_tiledL (atA m c t h).2.2.1 S1x512x128.size (by sl_kernel_rfl) y
theorem coverB6 (c : Dev nD) (t : Fin cfg0.N) (h : t.val % 2 = 1) (o6 : Vec F S3x128 .f32) (o7 : Vec F S1x128 .f32) (y : S3x128.Idx) :
    ∃ p ∈ (atB m c t h o6 o7).1, y ∈ p.1.set :=
  View.cover_of_tiledL (atB m c t h o6 o7).1 S1x128.size (by sl_kernel_rfl) y
theorem coverB7 (c : Dev nD) (t : Fin cfg0.N) (h : t.val % 2 = 1) (o6 : Vec F S3x128 .f32) (o7 : Vec F S1x128 .f32) (y : S1x128.Idx) :
    ∃ p ∈ (atB m c t h o6 o7).2.1, y ∈ p.1.set :=
  View.cover_of_tiledL (atB m c t h o6 o7).2.1 S1x128.size (by sl_kernel_rfl) y
theorem coverB12 (c : Dev nD) (t : Fin cfg0.N) (h : t.val % 2 = 1) (o6 : Vec F S3x128 .f32) (o7 : Vec F S1x128 .f32) (y : S3x2048x128.Idx) :
    ∃ p ∈ (atB m c t h o6 o7).2.2.1, y ∈ p.1.set :=
  View.cover_of_tiledL (atB m c t h o6 o7).2.2.1 S1x512x128.size (by sl_kernel_rfl) y

/-- What a first batch leaves: the two weight gradients and the three planes of the scratch. -/
def outA (c : Dev nD) (t : Fin cfg0.N) (h : t.val % 2 = 0) : Vec F S3x128 .f32 × Vec F S1x128 .f32 × Vec F S3x2048x128 .bf16 :=
  (VO6.read (Elt F) (VO6.writes (Elt F) VO6.junk (atA m c t h).1), VO7.read (Elt F) (VO7.writes (Elt F) VO7.junk (atA m c t h).2.1),
    scM.view.read (Elt F) (scM.view.writes (Elt F) scM.view.junk (atA m c t h).2.2.1))

/-- What a second batch leaves over `o6` and `o7`. -/
def outB (c : Dev nD) (t : Fin cfg0.N) (h : t.val % 2 = 1) (o6 : Vec F S3x128 .f32) (o7 : Vec F S1x128 .f32) :
    Vec F S3x128 .f32 × Vec F S1x128 .f32 × Vec F S3x2048x128 .bf16 :=
  (VO6.read (Elt F) (VO6.writes (Elt F) VO6.junk (atB m c t h o6 o7).1), VO7.read (Elt F) (VO7.writes (Elt F) VO7.junk (atB m c t h o6 o7).2.1),
    scM.view.read (Elt F) (scM.view.writes (Elt F) scM.view.junk (atB m c t h o6 o7).2.2.1))

/-- The point before. -/
abbrev before (t : Fin cfg0.N) : Fin cfg0.N := ⟨t.val - 1, Nat.lt_of_le_of_lt (Nat.sub_le _ _) t.isLt⟩

/-- What a point leaves. -/
def outs (c : Dev nD) (t : Fin cfg0.N) : Vec F S3x128 .f32 × Vec F S1x128 .f32 × Vec F S3x2048x128 .bf16 :=
  if h : t.val % 2 = 0 then outA m c t h
  else outB m c t (by omega) (outA m c (before t) (by show (t.val - 1) % 2 = 0; omega)).1
    (outA m c (before t) (by show (t.val - 1) % 2 = 0; omega)).2.1

theorem outs_A (c : Dev nD) (t : Fin cfg0.N) (h : t.val % 2 = 0) : outs m c t = outA m c t h := dif_pos h
theorem outs_B (c : Dev nD) (t : Fin cfg0.N) (h : t.val % 2 = 1) :
    outs m c t = outB m c t h (outs m c (before t)).1 (outs m c (before t)).2.1 := by
  have h0 : (before t).val % 2 = 0 := by show (t.val - 1) % 2 = 0; omega
  rw [outs_A m c (before t) h0]
  exact dif_neg (by omega)

/-- The result in HBM before point `n`. -/
def hb (c : Dev nD) : ℕ → Buf (Elt F) ((c : Thread nD τ).loc main_v20_0)
  | 0 => V m c main_v20_0
  | n + 1 => if h : n < cfg0.N then
      copied c (grid0.coords ⟨n, h⟩) hbM scM ((Memref.isWhole_whole cc0_scratch0).unread (outs m c ⟨n, h⟩).2.2) (hb c n)
    else hb c n

theorem hb_succ (c : Dev nD) (t : Fin cfg0.N) :
    hb m c (t.val + 1) = copied c (grid0.coords t) hbM scM ((Memref.isWhole_whole cc0_scratch0).unread (outs m c t).2.2) (hb m c t.val) :=
  dif_pos t.isLt

/-- The host buffers before point `n`: the result as the points so far left it. -/
def at' (n : ℕ) (c : Dev nD) : (b : Ref sig .tc) → Buf (Elt F) ((c : Thread nD τ).loc b) :=
  Function.update (V m c) main_v20_0 (hb m c n)

theorem at_zero : at' m 0 = V m := funext fun c => Function.update_eq_self _ _

/-! ## The proof data -/

abbrev osem0 : Fin 3 → SemLoc sig := fun j => (![SemLoc.dma 16, SemLoc.dma 17, SemLoc.dma 18] : Fin 3 → SemLoc sig) j
theorem osem_facts : Pipeline.OwnSemFacts spec0 osem0 := by decide
/-- The body writes one buffer of the host itself and reads none. -/
def R0 : Finset (Ref sig .tc) := {main_v20_0}
theorem none_sub : (∅ : Finset (Ref sig .tc)) ⊆ Pipeline.restRefs sig spec0 := Finset.empty_subset _
theorem R0_sub : R0 ⊆ Pipeline.restRefs sig spec0 \ ∅ := by decide

theorem invariant_eq (c : Dev nD) (n : ℕ) :
    (Pipeline.ΦDRG osem0 spec0 ∅ R0 (V m) (at' m n) c : sProp 𝕄)
      = iprop((∃ f : Buf (Elt F) ((c : Thread nD τ).loc cc0_scratch0), ((c : Thread nD τ).loc cc0_scratch0) ↦{fullShare} f)
          ∗ (∃ r, prngReg c r)
          ∗ iprop(semVal ((c : Thread nD τ), SemLoc.dma 16) 0 ∗ semVal ((c : Thread nD τ), SemLoc.dma 17) 0
                  ∗ semVal ((c : Thread nD τ), SemLoc.dma 18) 0)
          ∗ emp ∗ ((c : Thread nD τ).loc main_v20_0) ↦{fullShare} hb m c n) := by
  have h1 : (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0
          ∗ semVal ((c : Thread nD τ), SemLoc.dma 18) 0) := by
    rw [Pipeline.ownSems0_eq_of_list c osem0 [0, 1, 2] (by decide) (by decide)]; rfl
  have h2 : (Pipeline.routed R0 c (at' m n c) : sProp 𝕄) = ((c : Thread nD τ).loc main_v20_0) ↦{fullShare} hb m c n := by
    unfold Pipeline.routed R0
    rw [BI.bigSep_singleton]
    unfold at'; rw [Function.update_self]
  rw [Pipeline.ΦDRG_eq, scopedRest0_eq, h1, h2, BI.bigSep_empty]; rfl

/-- The proof data: the inputs' buffers at their blocks, the outputs' at `outs`, the result in HBM at `hb`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t).1
    | ⟨7, _⟩ => (outs m c t).2.1
    | ⟨_ + 8, h⟩ => absurd h (Nat.not_lt.2 (Nat.le_add_left _ _))
  Φ t := Pipeline.ΦDRG osem0 spec0 ∅ R0 (V m) (at' m t.val) c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outs m c t).1 := by dsimp only [dats]
theorem after0_7 (c : Dev nD) (t : Fin cfg0.N) : (dats m 0 c).after 7 t = (outs m c t).2.1 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)

theorem live : ∀ (w : Fin cfg0.W) (t : Fin cfg0.N), cfg0.idle w (grid0.coords t) = false := by decide +kernel

/-- Whether the weight gradients' buffers hold nothing yet: before each first batch. -/
theorem fresh_eq (w : Fin cfg0.W) (hw : ∀ t : Fin cfg0.N, ((t.val + 1) % 2 == 0) = ((cfg0.win w).flush t || (cfg0.idle w (cfg0.grid.coords t) && (t.val % 2 == 0))))
    (t : Fin cfg0.N) : cfg0.fresh w t.val = (t.val % 2 == 0) :=
  Pipeline.Cfg.fresh_tab cfg0 w (fun n => n % 2 == 0) rfl hw t.val (Nat.le_of_lt t.isLt)

theorem before0_6 (c : Dev nD) (t : Fin cfg0.N) (h : t.val % 2 = 1) (d) : (dats m 0 c).before 6 t d = (outs m c (before t)).1 := by
  have hf : cfg0.fresh 6 t.val = false := (fresh_eq 6 (by decide +kernel) t).trans (by rw [h]; rfl)
  rw [Dat.before_out_traj _ 6 rfl (fun _ _ => rfl) (fun t _ hi _ => absurd ((live 6 t).symm.trans hi) Bool.false_ne_true) t.val t rfl d,
    if_neg (by rw [hf]; exact Bool.false_ne_true)]
  dsimp only [dats]
theorem before0_7 (c : Dev nD) (t : Fin cfg0.N) (h : t.val % 2 = 1) (d) : (dats m 0 c).before 7 t d = (outs m c (before t)).2.1 := by
  have hf : cfg0.fresh 7 t.val = false := (fresh_eq 7 (by decide +kernel) t).trans (by rw [h]; rfl)
  rw [Dat.before_out_traj _ 7 rfl (fun _ _ => rfl) (fun t _ hi _ => absurd ((live 7 t).symm.trans hi) Bool.false_ne_true) t.val t rfl d,
    if_neg (by rw [hf]; exact Bool.false_ne_true)]
  dsimp only [dats]

/-! ## The body at a point -/

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

/-- The scratch and the result, held whole, in the form the run takes them. -/
theorem held (c : Dev nD) (b : Ref sig .tc) (f : Buf (Elt F) ((c : Thread nD τ).loc b)) :
    (((c : Thread nD τ).loc b ↦{fullShare} f) : sProp 𝕄)
      = ((Memref.whole b).view.loc (c : Thread nD τ) ↦[(Memref.whole b).view.set]{fullShare} f) := by
  have e : (Memref.whole b).view.set = Finset.univ := View.set_whole b
  show _ = (((c : Thread nD τ).loc b) ↦[(Memref.whole b).view.set]{fullShare} f)
  rw [e]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- The scratch after all its stores is what `outs` says. -/
theorem stack_eq (L : List (View.Piece (Elt F) S3x2048x128 .bf16)) (c : Dev nD) (f : Buf (Elt F) ((c : Thread nD τ).loc cc0_scratch0))
    (h : ∀ y : S3x2048x128.Idx, ∃ p ∈ L, y ∈ p.1.set) :
    scM.view.writes (Elt F) f L = (Memref.isWhole_whole cc0_scratch0).unread (scM.view.read (Elt F) (scM.view.writes (Elt F) scM.view.junk L)) :=
  (Memref.isWhole_whole cc0_scratch0).eq_unread (View.read_writes_of_cover _ _ _ _ _ h)

/-- What a run at a point takes: the inputs' blocks, the weight gradients' buffers as `P6` and `P7` say, the scratch and
    the result, the three counters at zero, the debt, and `R`. -/
abbrev entry (c : Dev nD) (t : Fin cfg0.N) (P6 P7 : sProp 𝕄) (W : Waits sig Unit) (f12 : Buf (Elt F) (scM.view.loc (c : Thread nD τ)))
    (f9 : Buf (Elt F) (hbM.view.loc (c : Thread nD τ))) (R : sProp 𝕄) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ P6 ∗ P7
    ∗ (scM.view.loc (c : Thread nD τ) ↦[scM.view.set]{fullShare} f12) ∗ (hbM.view.loc (c : Thread nD τ) ↦[hbM.view.set]{fullShare} f9)
    ∗ semVal ((c : Thread nD τ), SemLoc.dma 16) 0 ∗ semVal ((c : Thread nD τ), SemLoc.dma 17) 0 ∗ semVal ((c : Thread nD τ), SemLoc.dma 18) 0
    ∗ owes (c : Thread nD τ) 0 W ∗ R)

/-- What it gives back: the same, with the buffers it writes as `Q6`, `Q7` and `QS` say, and the result at `g9`. -/
abbrev exit (c : Dev nD) (t : Fin cfg0.N) (Q6 Q7 QS : sProp 𝕄) (g9 : Buf (Elt F) (hbM.view.loc (c : Thread nD τ))) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ Q6 ∗ Q7 ∗ QS ∗ (hbM.view.loc (c : Thread nD τ) ↦[hbM.view.set]{fullShare} g9)
    ∗ semVal ((c : Thread nD τ), SemLoc.dma 16) 0 ∗ semVal ((c : Thread nD τ), SemLoc.dma 17) 0 ∗ semVal ((c : Thread nD τ), SemLoc.dma 18) 0
    ∗ (∃ W', owes (c : Thread nD τ) 0 W'))

/-- A run at a point, its pieces covering the three buffers it stores to, is the pipeline's step at that point: the weight
    gradients and the scratch are then what the pieces say, whatever the buffers held. -/
theorem step_of_run (c : Dev nD) (t : Fin cfg0.N) (P6 P7 : sProp 𝕄)
    (L6 : List (View.Piece (Elt F) S3x128 .f32)) (L7 : List (View.Piece (Elt F) S1x128 .f32))
    (L12 : List (View.Piece (Elt F) S3x2048x128 .bf16))
    (c6 : ∀ y : S3x128.Idx, ∃ p ∈ L6, y ∈ p.1.set) (c7 : ∀ y : S1x128.Idx, ∃ p ∈ L7, y ∈ p.1.set)
    (c12 : ∀ y : S3x2048x128.Idx, ∃ p ∈ L12, y ∈ p.1.set)
    (o : Vec F S3x128 .f32 × Vec F S1x128 .f32 × Vec F S3x2048x128 .bf16)
    (ho : o = (VO6.read (Elt F) (VO6.writes (Elt F) VO6.junk L6), VO7.read (Elt F) (VO7.writes (Elt F) VO7.junk L7),
      scM.view.read (Elt F) (scM.view.writes (Elt F) scM.view.junk L12)))
    (run : ∀ W f12 f9 K, entry m c t P6 P7 W f12 f9 iprop(exit m c t
        iprop(∃ f, (st0_6 t).view.loc (c : Thread nD τ) ↦[(st0_6 t).view.set]{fullShare} (st0_6 t).view.writes (Elt F) f L6)
        iprop(∃ f, (st0_7 t).view.loc (c : Thread nD τ) ↦[(st0_7 t).view.set]{fullShare} (st0_7 t).view.writes (Elt F) f L7)
        (scM.view.loc (c : Thread nD τ) ↦[scM.view.set]{fullShare} scM.view.writes (Elt F) f12 L12)
        (copied c (grid0.coords t) hbM scM (scM.view.writes (Elt F) f12 L12) f9) -∗ K ⟨⟩)
      ⊢ wp frame (wpE (defs₀ (F := F)) Variants.none c none) Set.univ (bodyAt0 t) K) (W f12 f9 K) :
    entry m c t P6 P7 W f12 f9 iprop(exit m c t
        (owns (c : Thread nD τ) (st0_6 t) fullShare o.1) (owns (c : Thread nD τ) (st0_7 t) fullShare o.2.1)
        iprop(∃ f, scM.view.loc (c : Thread nD τ) ↦[scM.view.set]{fullShare} f)
        (copied c (grid0.coords t) hbM scM ((Memref.isWhole_whole cc0_scratch0).unread o.2.2) f9) -∗ K ⟨⟩)
      ⊢ wp frame (wpE (defs₀ (F := F)) Variants.none c none) Set.univ (bodyAt0 t) K := by
  subst ho
  refine BIBase.Entails.trans ?_ (run W f12 f9 K)
  rw [stack_eq L12 c f12 c12]
  iintro ⟨H0, H1, H2, H3, H4, H5, H6, H7, HS, Hr, Hq0, Hq1, Hq2, HW, HK⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [Hr]; · iexact Hr
  isplitl [Hq0]; · iexact Hq0
  isplitl [Hq1]; · iexact Hq1
  isplitl [Hq2]; · iexact Hq2
  isplitl [HW]; · iexact HW
  iintro ⟨H0, H1, H2, H3, H4, H5, ⟨%e6, H6⟩, ⟨%e7, H7⟩, HS, Hr, Hq0, Hq1, Hq2, HW'⟩
  iapply HK
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover (st0_6 t).view e6 VO6 VO6.junk L6 c6
  isplitl [H7]
  · unfold owns; iexists _; isplitr
    swap; · iexact H7
    ipureintro; exact View.read_writes_of_cover (st0_7 t).view e7 VO7 VO7.junk L7 c7
  isplitl [HS]; · iexists _; iexact HS
  isplitl [Hr]; · iexact Hr
  isplitl [Hq0]; · iexact Hq0
  isplitl [Hq1]; · iexact Hq1
  isplitl [Hq2]; · iexact Hq2
  iexact HW'

/-- The step at a point. -/
theorem step (c : Dev nD) (t : Fin cfg0.N) (d6 d7) (W f12 f9 K) :
    entry m c t (owns (c : Thread nD τ) (st0_6 t) fullShare ((dats m 0 c).before 6 t d6))
        (owns (c : Thread nD τ) (st0_7 t) fullShare ((dats m 0 c).before 7 t d7)) W f12 f9 iprop(exit m c t
        (owns (c : Thread nD τ) (st0_6 t) fullShare (outs m c t).1) (owns (c : Thread nD τ) (st0_7 t) fullShare (outs m c t).2.1)
        iprop(∃ f, scM.view.loc (c : Thread nD τ) ↦[scM.view.set]{fullShare} f)
        (copied c (grid0.coords t) hbM scM ((Memref.isWhole_whole cc0_scratch0).unread (outs m c t).2.2) f9) -∗ K ⟨⟩)
      ⊢ wp frame (wpE (defs₀ (F := F)) Variants.none c none) Set.univ (bodyAt0 t) K := by
  by_cases h : t.val % 2 = 0
  · have run := step_of_run m c t iprop(∃ d, owns (c : Thread nD τ) (st0_6 t) fullShare d) iprop(∃ d, owns (c : Thread nD τ) (st0_7 t) fullShare d)
      (atA m c t h).1 (atA m c t h).2.1 (atA m c t h).2.2.1 (coverA6 m c t h) (coverA7 m c t h) (coverA12 m c t h)
      (outs m c t) (outs_A m c t h) (atA m c t h).2.2.2 W f12 f9 K
    refine BIBase.Entails.trans ?_ run
    iintro ⟨H0, H1, H2, H3, H4, H5, H6, H7, Hrest⟩
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexact Hrest
  · have h1 : t.val % 2 = 1 := by omega
    rw [before0_6 m c t h1, before0_7 m c t h1]
    exact step_of_run m c t _ _ (atB m c t h1 _ _).1 (atB m c t h1 _ _).2.1 (atB m c t h1 _ _).2.2.1
      (coverB6 m c t h1 _ _) (coverB7 m c t h1 _ _) (coverB12 m c t h1 _ _)
      (outs m c t) (outs_B m c t h1) (atB m c t h1 _ _).2.2.2 W f12 f9 K

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).Φ t.succ = Pipeline.ΦDRG osem0 spec0 ∅ R0 (V m) (at' m (t.val + 1)) c from rfl,
    show (dats m 0 c).Φ t.castSucc = Pipeline.ΦDRG osem0 spec0 ∅ R0 (V m) (at' m t.val) c from rfl, invariant_eq, invariant_eq]
  unfold Dat.owesAt Pipeline.owesWithin
  rw [show (dats m 0 c).owed t.castSucc = 0 from rfl, show (dats m 0 c).owed t.succ = 0 from rfl]
  simp only [leaves_eq, after0_0, after0_1, after0_2, after0_3, after0_4, after0_5, after0_6, after0_7, held]
  rw [hb_succ]
  iintro ⟨⟨⟨%fs, HS⟩, Hg, ⟨Hq0, Hq1, Hq2⟩, He, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (step m c t d6 d7 W fs (hb m c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [Hr]; · iexact Hr
  isplitl [Hq0]; · iexact Hq0
  isplitl [Hq1]; · iexact Hq1
  isplitl [Hq2]; · iexact Hq2
  isplitl [HW]; · iexact HW
  iintro ⟨H0, H1, H2, H3, H4, H5, H6, H7, ⟨%fs', HS⟩, Hr, Hq0, Hq1, Hq2, ⟨%W', HW'⟩⟩
  isplitl [HS Hg Hq0 Hq1 Hq2 He Hr]
  · isplitl [HS]; · iexists _; iexact HS
    isplitl [Hg]; · iexact Hg
    isplitl [Hq0 Hq1 Hq2]
    · isplitl [Hq0]; · iexact Hq0
      isplitl [Hq1]; · iexact Hq1
      iexact Hq2
    isplitl [He]; · iexact He
    iexact Hr
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The host's lines before the launch. -/
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

theorem enters (c : Dev nD) : (Pipeline.ΦDRG osem0 spec0 ∅ R0 (V m) (V m) c : sProp 𝕄) ⊢ (dats m 0 c).Φ 0 := by
  refine Entails.of_eq ?_
  show _ = Pipeline.ΦDRG osem0 spec0 ∅ R0 (V m) (at' m 0) c
  rw [at_zero]

theorem leaves (c : Dev nD) : (dats m 0 c).Φ (Fin.last cfg0.N) ⊢ (Pipeline.ΦDRG osem0 spec0 ∅ R0 (V m) (at' m cfg0.N) c : sProp 𝕄) := .rfl

set_option backward.isDefEq.respectTransparency.types false in
/-- Every run ends with the pipeline's arrays at what the library computes from `dats`, the result in HBM at `hb` after the
    last point, the other buffers as the host left them and every counter at zero. -/
theorem run_main : θ_run defs (onTc (τ := τ) (main (F := F))) ⟨m, fun _ => 0, ρ⟩
    (fun r => Pipeline.FramePostRG cfgs (dats m) 0 R0 (V m) (at' m cfg0.N) r ∧ r.2.sem = fun _ => 0) :=
  Pipeline.θ_run_frame_dmaRG_shared (Q' := _) cfgs (dats m) (0 : Fin 1) launch₀0 osem0 defs₀ Variants.none osem_facts ∅ R0 none_sub R0_sub m ρ main
    (hbody := fun c => (body_obligation m c).loose) (hq := fun _ _ _ => rfl)
    (howed := fun _ _ => rfl) (V := V m) (hmain := hmainD m) (hA := A_eq m) (G := at' m cfg0.N)
    (hin := enters m) (hout := leaves m)

/-- An array the launch neither reads nor writes is left as the host left it. -/
theorem rest_eq {r : PUnit × MemSt nD τ sig (Elt F)} (h : Pipeline.FramePostR cfgs (dats m) 0 R0 (V m) r) (c : Dev nD)
    (b : Ref sig .tc) (hb : b ∈ Pipeline.restRefs sig spec0 \ R0) : r.2.mem ((c : Thread nD τ).loc b) = V m c b := (h c).2 b hb

/-- The arguments are as they were. -/
theorem kept {r : PUnit × MemSt nD τ sig (Elt F)} (h : Pipeline.FramePostR cfgs (dats m) 0 R0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(rest_eq m h c main_arg0 (by decide)).trans (V_main_arg0 m c),
   (rest_eq m h c main_arg1 (by decide)).trans (V_main_arg1 m c),
   (rest_eq m h c main_arg2 (by decide)).trans (V_main_arg2 m c),
   ((h c).1 4).trans (((dats m 0 c).arrAt_in 4 rfl _).trans ((A_eq m c 4).trans (V_main_arg3 m c))),
   (rest_eq m h c main_arg4 (by decide)).trans (V_main_arg4 m c),
   (rest_eq m h c main_arg5 (by decide)).trans (V_main_arg5 m c),
   (rest_eq m h c main_arg6 (by decide)).trans (V_main_arg6 m c)⟩

/-- The frame: the kernel's program runs to its end, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨kept m h.1.toR, h.2⟩) (run_main m ρ)

end Cert.ConvIdeal.Body

end
-- ==== Proof.Conv.Block.lean ====
/- What one grid point of the mixing backward kernel computes, stated once for its four chunks of 512 rows.

   A chunk reads a window of 528 rows: eight before it, its own 512, eight after it, those outside the sequence at
   zero. On the window stand the convolution, its gated product `y`, the group norm of `y` and the gradients of all
   of them; what a chunk keeps is its own 512 rows. -/
module

public import proofs.«01_k».proof.Proof.Conv.Frame
public import Idealize.ShloMosaic.Lib.Claim
public import Idealize.ShloMosaic.Lib.Pipeline.ValueKit

@[expose] public section

set_option maxRecDepth 16384

noncomputable section

namespace Cert.ConvIdeal.Block

open Cert.ConvIdeal.Gen Cert.ConvIdeal.Body
open Idealize.ShloMosaic Idealize.ShloMosaic.TcCoe Idealize.SL.Sem

/-- A window of 528 rows. -/
abbrev Win := FVec Ideal S528x128 .f32

/-! ## The chunk's arithmetic, from its windows -/

/-- The window moved down or up by one row. -/
def down (v : Win) : Win := dynamicRotate 0 1#32 none v rotates_S528x128_d0
def up (v : Win) : Win := dynamicRotate 0 527#32 none v rotates_S528x128_d0

/-- One row of the convolution weights, along the window. -/
def tap (w : Vec Ideal S3x128 .f32) (j : Fin 3) : Win :=
  match j with
  | 0 => broadcastTo S528x128 (extractStridedSlice S1x128 ![0, 0] w slices_S3x128_o0_0_S1x128) broadcasts_S1x128_S528x128
  | 1 => broadcastTo S528x128 (extractStridedSlice S1x128 ![1, 0] w slices_S3x128_o1_0_S1x128) broadcasts_S1x128_S528x128
  | 2 => broadcastTo S528x128 (extractStridedSlice S1x128 ![2, 0] w slices_S3x128_o2_0_S1x128) broadcasts_S1x128_S528x128

/-- The convolution along the window. -/
def conv (w : Vec Ideal S3x128 .f32) (z : Win) : Win :=
  addf (addf (mulf (tap w 0) (down (down z))) (mulf (tap w 1) (down z))) (mulf (tap w 2) z)
/-- The gradient of the convolved rows. -/
def convBack (w : Vec Ideal S3x128 .f32) (d : Win) : Win :=
  addf (addf (mulf (tap w 2) d) (mulf (tap w 1) (up d))) (mulf (tap w 0) (up (up d)))

/-- A product with the matrix of the two groups. -/
def dot (v : FVec Ideal S528x128 .bf16) : Win :=
  matmul dot_S528x128_S128x128_S528x128_1_0_0_1_n_n none v k0_pay1 (constant S528x128 .f32 0x00000000#32)
/-- The mean over each group of 64 columns, in two halves of the value's precision. -/
def mean (v : Win) : Win :=
  mulf (addf (dot (truncf .bf16 v bitsLt_bf16_f32))
      (dot (truncf .bf16 (subf v (extf .f32 (truncf .bf16 v bitsLt_bf16_f32) bitsLt_bf16_f32)) bitsLt_bf16_f32)))
    (broadcast S528x128 (Scalar.ofBits .f32 0x3C800000#32))

/-- The reciprocal root mean square of each group. -/
def rsq (y : Win) : Win := rsqrt (addf (mean (mulf y y)) (broadcast S528x128 (Scalar.ofBits .f32 0x358637BD#32)))
/-- The gradient of `y` from the gradient `d` of its normalised form. -/
def normBack (y d : Win) : Win := mulf (rsq y) (subf d (mulf (mulf y (rsq y)) (mean (mulf d (mulf y (rsq y))))))

/-- A chunk's own rows, as stored. -/
def staged (v : Win) : FVec Ideal S1x512x128 .bf16 :=
  shapeCast S1x512x128 (truncf .bf16 (extractStridedSlice S512x128 ![8, 0] v slices_S528x128_o8_0_S512x128) bitsLt_bf16_f32)
    shapeCasts_S512x128_S1x512x128
/-- The sum over a chunk's own rows. -/
def total (v : Win) : FVec Ideal S1x128 .f32 :=
  shapeCast S1x128 (multiReduction .add [0] S128 (extractStridedSlice S512x128 ![8, 0] v slices_S528x128_o8_0_S512x128)
    0x00000000#32 reduces_S512x128_S128 (.inl rfl) rfl) shapeCasts_S128_S1x128

/-! ## A point's windows -/

variable (m : (ℓ : Loc nD τ sig) → Buf (Elt Ideal) ℓ) (c : Dev nD) (t : Fin cfg0.N)

theorem inb_prev (n : Fin 4) (a : Fin 2) : (![n.val * 512 - 16, 0] : Fin 2 → ℕ) a + S16x128.size a ≤ S2048x128.size a := by
  fin_cases n <;> fin_cases a <;> decide
theorem inb_own (n : Fin 4) (a : Fin 2) : (![n.val * 512, 0] : Fin 2 → ℕ) a + S512x128.size a ≤ S2048x128.size a := by
  fin_cases n <;> fin_cases a <;> decide
theorem inb_next (n : Fin 4) (a : Fin 2) : (![min (n.val * 512 + 512) 1536, 0] : Fin 2 → ℕ) a + S16x128.size a ≤ S2048x128.size a := by
  fin_cases n <;> fin_cases a <;> decide

section
variable {e : EltTy} (x : Vec Ideal S2048x128 e) (n : Fin 4)
/-- The sixteen rows before a chunk, its own rows and the sixteen after it. -/
def prev : Vec Ideal S16x128 e := View.ld (Val := Elt Ideal) x (Rect.unit ![n.val * 512 - 16, 0] S16x128.size (inb_prev n))
def own : Vec Ideal S512x128 e := View.ld (Val := Elt Ideal) x (Rect.unit ![n.val * 512, 0] S512x128.size (inb_own n))
def next : Vec Ideal S16x128 e :=
  View.ld (Val := Elt Ideal) x (Rect.unit ![min (n.val * 512 + 512) 1536, 0] S16x128.size (inb_next n))
end

/-- A chunk's window of a column block. -/
def win32 (x : Vec Ideal S2048x128 .f32) (n : Fin 4) : Win :=
  k0_pay10 (BitVec.ofNat 32 n.val) (k0_pay9 (prev x n)) (own x n) (next x n)
/-- The same of a block in half precision. -/
def win16 (x : Vec Ideal S2048x128 .bf16) (n : Fin 4) : Win :=
  k0_pay13 (BitVec.ofNat 32 n.val) (k0_pay11 (BitVec.ofNat 32 n.val) (prev x n)) (k0_pay12 (own x n)) (next x n)

/-- The three factors and the incoming gradient on a chunk's window. -/
def gb (n : Fin 4) : Win := win32 (iblk m c 0 t) n
def gc (n : Fin 4) : Win := win32 (iblk m c 1 t) n
def gu (n : Fin 4) : Win := win32 (iblk m c 2 t) n
def gd (n : Fin 4) : Win := win16 (iblk m c 3 t) n

/-- The product the convolution runs over. -/
def z (n : Fin 4) : Win := mulf (gc m c t n) (gu m c t n)
/-- The convolved rows. -/
def cv (n : Fin 4) : Win := conv (iblk m c 4 t) (z m c t n)
/-- The gated product. -/
def y (n : Fin 4) : Win := mulf (gb m c t n) (cv m c t n)
/-- The gradient of the gated product. -/
def dy (n : Fin 4) : Win :=
  normBack (y m c t n) (mulf (gd m c t n) (broadcastTo S528x128 (k0_pay2 (iblk m c 5 t)) broadcasts_S1x128_S528x128))
/-- The gradient of the convolved rows. -/
def dcv (n : Fin 4) : Win := mulf (dy m c t n) (gb m c t n)
/-- The gradient of the product the convolution runs over. -/
def dz (n : Fin 4) : Win := convBack (iblk m c 4 t) (dcv m c t n)

/-- What a chunk stages for one of the three results. -/
def plane (p : Fin 3) (n : Fin 4) : FVec Ideal S1x512x128 .bf16 :=
  match p with
  | 0 => staged (mulf (dy m c t n) (cv m c t n))
  | 1 => staged (mulf (dz m c t n) (gu m c t n))
  | 2 => staged (mulf (dz m c t n) (gc m c t n))

/-- What a chunk adds to one row of the convolution weights' gradient, and to the gain's. -/
def wsum (j : Fin 3) (n : Fin 4) : FVec Ideal S1x128 .f32 :=
  match j with
  | 0 => total (mulf (up (up (dcv m c t n))) (z m c t n))
  | 1 => total (mulf (up (dcv m c t n)) (z m c t n))
  | 2 => total (mulf (dcv m c t n) (z m c t n))
def gsum (n : Fin 4) : FVec Ideal S1x128 .f32 := total (mulf (gd m c t n) (mulf (y m c t n) (rsq (y m c t n))))

/-- The sum of the four chunks. -/
def sum4 (f : Fin 4 → FVec Ideal S1x128 .f32) : FVec Ideal S1x128 .f32 :=
  addf (addf (addf (addf k0_pay3 (f 0)) (f 1)) (f 2)) (f 3)

/-! ## What a point leaves -/

/-- A piece of a family with one plane and one chunk in each piece, read at the index of the whole. -/
theorem of_plane {G : Fin 3 → Fin 4 → FVec Ideal S1x512x128 .bf16} {P : FVec Ideal S1x512x128 .bf16}
    {y : S3x2048x128.Idx} {x : S1x512x128.Idx} {p n : ℕ} (h0 : (y 0 : ℕ) = p) (h1 : (y 1 : ℕ) = n * 512 + x 1) (h2 : (y 2 : ℕ) = x 2)
    (h : ∀ (hp : p < 3) (hn : n < 4), P = G ⟨p, hp⟩ ⟨n, hn⟩) :
    P x = G (y 0) ⟨(y 1).val / 512, by have : (y 1 : ℕ) < 2048 := (y 1).isLt; omega⟩
      (ix3 0 ⟨(y 1).val % 512, by omega⟩ (y 2)) := by
  have x0 : (x 0 : ℕ) < 1 := (x 0).isLt
  have x1 : (x 1 : ℕ) < 512 := (x 1).isLt
  have y1 : (y 1 : ℕ) < 2048 := (y 1).isLt
  have e : ix3 0 ⟨(y 1).val % 512, by omega⟩ (y 2) = x := by
    funext a
    match a with
    | 0 => exact Fin.ext (show 0 = (x 0 : ℕ) by omega)
    | 1 => exact Fin.ext (show (y 1 : ℕ) % 512 = (x 1 : ℕ) by omega)
    | 2 => exact Fin.ext h2
  have en : n = (y 1).val / 512 := by omega
  subst h0 en
  exact (congrFun (h (y 0).isLt (by omega)) x).trans (congrArg _ e.symm)

theorem out12 (i : S3x2048x128.Idx) : (outs m c t).2.2 i =
    plane m c t (i 0) ⟨(i 1).val / 512, by have : (i 1 : ℕ) < 2048 := (i 1).isLt; omega⟩ (ix3 0 ⟨(i 1).val % 512, by omega⟩ (i 2)) := by
  by_cases g : t.val % 2 = 0
  · rw [outs_A m c t g]
    unfold outA atA
    frame_out
    canon_tiles x h
    all_goals
      rw [show (x 0 : ℕ) = 0 by omega] at h0
      first
        | (have e : (i 1 : ℕ) = 0 * 512 + x 1 := by omega); exact of_plane h0 e h2 fun _ _ => by sl_kernel_rfl
        | (have e : (i 1 : ℕ) = 1 * 512 + x 1 := by omega); exact of_plane h0 e h2 fun _ _ => by sl_kernel_rfl
        | (have e : (i 1 : ℕ) = 2 * 512 + x 1 := by omega); exact of_plane h0 e h2 fun _ _ => by sl_kernel_rfl
        | (have e : (i 1 : ℕ) = 3 * 512 + x 1 := by omega); exact of_plane h0 e h2 fun _ _ => by sl_kernel_rfl
  · rw [outs_B m c t (by omega)]
    unfold outB atB
    frame_out
    canon_tiles x h
    all_goals
      rw [show (x 0 : ℕ) = 0 by omega] at h0
      first
        | (have e : (i 1 : ℕ) = 0 * 512 + x 1 := by omega); exact of_plane h0 e h2 fun _ _ => by sl_kernel_rfl
        | (have e : (i 1 : ℕ) = 1 * 512 + x 1 := by omega); exact of_plane h0 e h2 fun _ _ => by sl_kernel_rfl
        | (have e : (i 1 : ℕ) = 2 * 512 + x 1 := by omega); exact of_plane h0 e h2 fun _ _ => by sl_kernel_rfl
        | (have e : (i 1 : ℕ) = 3 * 512 + x 1 := by omega); exact of_plane h0 e h2 fun _ _ => by sl_kernel_rfl

/-- A piece of a family with one row in each piece, read at the index of the whole. -/
theorem of_row {G : Fin 3 → FVec Ideal S1x128 .f32} {P : FVec Ideal S1x128 .f32} {y : S3x128.Idx} {x : S1x128.Idx} {j : ℕ}
    (h0 : (y 0 : ℕ) = j) (h1 : (y 1 : ℕ) = x 1) (h : ∀ hj : j < 3, P = G ⟨j, hj⟩) : P x = G (y 0) (ix2 0 (y 1)) := by
  have x0 : (x 0 : ℕ) < 1 := (x 0).isLt
  have e : ix2 0 (y 1) = x := by
    funext a
    match a with
    | 0 => exact Fin.ext (show 0 = (x 0 : ℕ) by omega)
    | 1 => exact Fin.ext h1
  subst h0
  exact (congrFun (h (y 0).isLt) x).trans (congrArg _ e.symm)

theorem out6_A (h : t.val % 2 = 0) (i : S3x128.Idx) : (outs m c t).1 i = sum4 (wsum m c t (i 0)) (ix2 0 (i 1)) := by
  rw [outs_A m c t h]
  unfold outA atA
  frame_out
  canon_tiles x h
  all_goals
    rw [show (x 0 : ℕ) = 0 by omega] at h0
    exact of_row (G := fun j => sum4 (wsum m c t j)) h0 h1 fun _ => by sl_kernel_rfl

theorem inb_row (j : Fin 3) (a : Fin 2) : (![j.val, 0] : Fin 2 → ℕ) a + S1x128.size a ≤ S3x128.size a := by
  fin_cases j <;> fin_cases a <;> decide
/-- One row of the convolution weights' gradient, added to what the point before left. -/
def rowB (B : Vec Ideal S3x128 .f32) (j : Fin 3) : FVec Ideal S1x128 .f32 :=
  addf (shapeCast S1x128 (View.ld (Val := Elt Ideal) B (Rect.unit ![j.val, 0] S1x128.size (inb_row j))) shapeCasts_S1x128_S1x128)
    (sum4 (wsum m c t j))

theorem out6_B (h : t.val % 2 = 1) (i : S3x128.Idx) :
    (outs m c t).1 i = rowB m c t (outs m c (before t)).1 (i 0) (ix2 0 (i 1)) := by
  rw [outs_B m c t h]
  unfold outB atB
  generalize (outs m c (before t)).1 = B
  generalize (outs m c (before t)).2.1 = B'
  frame_out
  canon_tiles x h
  all_goals
    rw [show (x 0 : ℕ) = 0 by omega] at h0
    exact of_row (G := rowB m c t B) h0 h1 fun _ => by sl_kernel_rfl

theorem out7_A (h : t.val % 2 = 0) : (outs m c t).2.1 = sum4 (gsum m c t) := by
  rw [outs_A m c t h]
  unfold outA atA
  frame_out
  rfl

theorem out7_B (h : t.val % 2 = 1) :
    (outs m c t).2.1 = addf (shapeCast S1x128 (outs m c (before t)).2.1 shapeCasts_S1x128_S1x128) (sum4 (gsum m c t)) := by
  rw [outs_B m c t h]
  unfold outB atB
  generalize (outs m c (before t)).1 = B
  generalize (outs m c (before t)).2.1 = B'
  frame_out
  rfl

end Cert.ConvIdeal.Block

end
-- ==== Proof.Lib.Group.lean ====
/- The root-mean-square norm of a group of 64 reals, and its gradient in the two forms programs write it in. -/
module

public import proofs.«01_k».proof.Proof.Lib.Reals

@[expose] public section

noncomputable section

namespace Cert.Group

open Cert.Reals Idealize.ShloMosaic
open scoped BigOperators

theorem ofBits_inv64 : Ideal.ofBits .f32 0x3C800000#32 = ((1 / 64 : ℝ) : EReal) := by
  simp [Ideal.ofBits, Ideal.ieee, zpow_neg]
  norm_num [← EReal.coe_mul]
theorem ofBits_64 : Ideal.ofBits .f32 0x42800000#32 = ((64 : ℝ) : EReal) := by
  simp [Ideal.ofBits, Ideal.ieee]
  norm_num [← EReal.coe_mul]

variable (x u : Fin 64 → ℝ)

/-- The mean square of a group, with the constant added. -/
def ms : ℝ := (∑ k, x k * x k) / 64 + eps

theorem ms_pos : 0 < ms x :=
  add_pos_of_nonneg_of_pos (div_nonneg (Finset.sum_nonneg fun k _ => mul_self_nonneg (x k)) (by norm_num)) eps_pos

/-- The group's reciprocal root mean square. -/
def rs : ℝ := (Real.sqrt (ms x))⁻¹

theorem rs_sq : rs x * rs x * ms x = 1 := by
  unfold rs
  rw [← mul_inv, Real.mul_self_sqrt (ms_pos x).le, inv_mul_cancel₀ (ms_pos x).ne']

/-- The gradient of the group from the cotangent `u` of its normalised form. -/
def back (k : Fin 64) : ℝ := rs x * (u k - x k * rs x * ((∑ l, u l * (x l * rs x)) / 64))

/-- The same gradient as differentiation writes it. -/
theorem back_eq (k : Fin 64) :
    u k * rs x + x k * ((∑ l, x l * u l) * (-1 / 2 * (rs x / ms x)) / 64)
      + (∑ l, x l * u l) * (-1 / 2 * (rs x / ms x)) / 64 * x k = back x u k := by
  have e : ∑ l, u l * (x l * rs x) = (∑ l, x l * u l) * rs x := by
    rw [Finset.sum_mul]; exact Finset.sum_congr rfl fun l _ => by ring
  have e2 : rs x / ms x = rs x * rs x * rs x := by
    rw [div_eq_iff (ms_pos x).ne']; linear_combination (-rs x) * rs_sq x
  unfold back
  rw [e, e2]
  ring

/-! ### The host's sum over the two leading axes of four -/

/-- `jnp.sum(v, axis=(0, 1))` at `(k, l)` is the initial value plus the double sum. -/
theorem hostReduceAdd_r4_a01 {n0 n1 n2 n3 : ℕ} (h : (⟨4, ![n0, n1, n2, n3]⟩ : Shape).ReducesTo [0, 1] ⟨2, ![n2, n3]⟩)
    (v : (⟨4, ![n0, n1, n2, n3]⟩ : Shape).Idx → EReal) (init : EReal) (k : Fin n2) (l : Fin n3) :
    Ideal.hostReduceAdd h v init (ix2 k l) = init + ∑ a : Fin n0, ∑ b : Fin n1, v (ix4 a b k l) := by
  have hk : ∀ i : (⟨4, ![n0, n1, n2, n3]⟩ : Shape).Idx, h.drop i = ix2 k l ↔ ∃ p : Fin n0 × Fin n1, ix4 p.1 p.2 k l = i := by
    intro i
    constructor
    · intro e
      refine ⟨(i 0, i 1), ?_⟩
      funext a
      match a with
      | 0 => rfl
      | 1 => rfl
      | 2 => exact Fin.ext (congrArg Fin.val (congrFun e (0 : Fin 2))).symm
      | 3 => exact Fin.ext (congrArg Fin.val (congrFun e (1 : Fin 2))).symm
    · rintro ⟨p, rfl⟩
      funext b
      match b with
      | 0 => rfl
      | 1 => rfl
  refine congrArg (init + ·) ?_
  refine (Finset.sum_filter_eq_sum_of_fiber _ (fun p : Fin n0 × Fin n1 => (ix4 p.1 p.2 k l : (⟨4, ![n0, n1, n2, n3]⟩ : Shape).Idx))
    (fun _ _ e => Prod.ext (congrFun e 0) (congrFun e 1)) hk v).trans ?_
  simp only [Fintype.sum_prod_type]

end Cert.Group

end
-- ==== Proof.Conv.Math.lean ====
/- The gradient of the short gated convolution and its group norm, over the reals: what the kernel and the reference
   both compute. -/
module

public import proofs.«01_k».proof.Proof.Lib.Norm
public import proofs.«01_k».proof.Proof.Lib.Seq
public import proofs.«01_k».proof.Proof.Lib.Group

@[expose] public section

noncomputable section

namespace Cert.ConvMath

open Idealize.ShloMosaic Cert.Reals Cert.Norm Cert.Seq
open scoped BigOperators

/-- The seven arguments: rows, gain, projection matrix, convolution weights, gain of the group norm, the gradient that
    comes in, and the array whose last columns the result replaces. -/
structure Args where
  x : FVec Ideal ⟨3, ![2, 2048, 1024]⟩ .f32
  g : FVec Ideal ⟨1, ![1024]⟩ .f32
  u : FVec Ideal ⟨2, ![1024, 3072]⟩ .f32
  w : FVec Ideal ⟨2, ![3, 512]⟩ .f32
  h : FVec Ideal ⟨1, ![512]⟩ .f32
  y : FVec Ideal ⟨3, ![2, 2048, 1024]⟩ .f32
  p : FVec Ideal ⟨2, ![4096, 3072]⟩ .bf16

/-- Every entry of every argument but the last is a real. -/
structure Args.Real (A : Args) : Prop where
  x : ∀ i, ∃ r : ℝ, A.x i = (r : EReal)
  g : ∀ i, ∃ r : ℝ, A.g i = (r : EReal)
  u : ∀ i, ∃ r : ℝ, A.u i = (r : EReal)
  w : ∀ i, ∃ r : ℝ, A.w i = (r : EReal)
  h : ∀ i, ∃ r : ℝ, A.h i = (r : EReal)
  y : ∀ i, ∃ r : ℝ, A.y i = (r : EReal)

/-- A column of the projection, from its factor and its column in the factor. -/
def pcol (s : Fin 3) (l : Fin 512) : Fin 3072 := ⟨1536 + s.val * 512 + l.val, by omega⟩
/-- A column of the gradient that comes in. -/
def ycol (l : Fin 512) : Fin 1024 := ⟨512 + l.val, by omega⟩
/-- A column of the group a column lies in, and the column's place in it. -/
def gcol (l : Fin 512) (j : Fin 64) : Fin 512 := ⟨l.val / 64 * 64 + j.val, by omega⟩
def place (l : Fin 512) : Fin 64 := ⟨l.val % 64, by omega⟩

theorem gcol_place (l : Fin 512) : gcol l (place l) = l := Fin.ext (by show l.val / 64 * 64 + l.val % 64 = l.val; omega)
theorem gcol_gcol (l : Fin 512) (j k : Fin 64) : gcol (gcol l j) k = gcol l k :=
  Fin.ext (by show (l.val / 64 * 64 + j.val) / 64 * 64 + k.val = l.val / 64 * 64 + k.val; omega)

variable (A : Args)

/-- The normalised rows. -/
def xn (i : Fin 4096) (k : Fin 1024) : ℝ := row A.x i k * rs (row A.x i) * vec A.g k
/-- The three factors. -/
def pj (s : Fin 3) (l : Fin 512) (i : Fin 4096) : ℝ := ∑ k, xn A i k * mat A.u k (pcol s l)
/-- The product the convolution runs over. -/
def z (l : Fin 512) (i : Fin 4096) : ℝ := pj A 1 l i * pj A 2 l i
/-- The convolution weights of a column. -/
def cw (l : Fin 512) (j : Fin 3) : ℝ := mat A.w j l
/-- The convolved column at a position. -/
def cv (l : Fin 512) (b q : ℕ) : ℝ := conv (cw A l) (z A l) b q
/-- The gated product at a position. -/
def gy (l : Fin 512) (b q : ℕ) : ℝ := pad (pj A 0 l) b q * cv A l b q
/-- Its group. -/
def grp (l : Fin 512) (b q : ℕ) (j : Fin 64) : ℝ := gy A (gcol l j) b q
/-- The gradient of the normalised product. -/
def dn (l : Fin 512) (b q : ℕ) : ℝ := pad (fun i => row A.y i (ycol l)) b q * vec A.h l
/-- The gradient of the gated product. -/
def dgy (l : Fin 512) (b q : ℕ) : ℝ := Group.back (grp A l b q) (fun j => dn A (gcol l j) b q) (place l)
/-- The gradient of the convolved column. -/
def dcv (l : Fin 512) (b q : ℕ) : ℝ := dgy A l b q * pad (pj A 0 l) b q
/-- The gradient of the product the convolution runs over. -/
def dz (l : Fin 512) (b q : ℕ) : ℝ := Seq.back (cw A l) (dcv A l b) q
/-- The gradients of the three factors at a position. -/
def dpj (s : Fin 3) (l : Fin 512) (b q : ℕ) : ℝ :=
  match s with
  | 0 => dgy A l b q * cv A l b q
  | 1 => dz A l b q * pad (pj A 2 l) b q
  | 2 => dz A l b q * pad (pj A 1 l) b q
/-- What a position adds to the gradient of the convolution weights, and to that of the gain. -/
def dwr (l : Fin 512) (j : Fin 3) (b q : ℕ) : ℝ := dcv A l b (q + (2 - j.val)) * pad (z A l) b q
def dhr (l : Fin 512) (b q : ℕ) : ℝ :=
  pad (fun i => row A.y i (ycol l)) b q * (gy A l b q * Group.rs (grp A l b q))
/-- The gradients of the convolution weights and of the gain. -/
def dw (l : Fin 512) (j : Fin 3) : ℝ := ∑ b : Fin 2, ∑ q : Fin 2048, dwr A l j b.val (q.val + 8)
def dh (l : Fin 512) : ℝ := ∑ b : Fin 2, ∑ q : Fin 2048, dhr A l b.val (q.val + 8)

/-- The three results. -/
def DP (i : Shape.Idx ⟨2, ![4096, 3072]⟩) : EReal :=
  if h : (i 1).val < 1536 then A.p i
  else ((dpj A ⟨((i 1).val - 1536) / 512, by have : (i 1).val < 3072 := (i 1).isLt; omega⟩
    ⟨((i 1).val - 1536) % 512, by omega⟩ ((i 0).val / 2048) ((i 0).val % 2048 + 8) : ℝ) : EReal)
def DW (i : Shape.Idx ⟨2, ![3, 512]⟩) : EReal := ((dw A (i 1) (i 0) : ℝ) : EReal)
def DH (i : Shape.Idx ⟨2, ![1, 512]⟩) : EReal := ((dh A (i 1) : ℝ) : EReal)

theorem DP_lo (i : Fin 4096) (l : Fin 3072) (h : l.val < 1536) : DP A (ix2 i l) = A.p (ix2 i l) := dif_pos h
theorem DP_hi (i : Fin 4096) (l : Fin 3072) (h : ¬ l.val < 1536) : DP A (ix2 i l) =
    ((dpj A ⟨(l.val - 1536) / 512, by omega⟩ ⟨(l.val - 1536) % 512, by omega⟩ (i.val / 2048) (i.val % 2048 + 8) : ℝ) : EReal) := dif_neg h

theorem dcv_ge (l : Fin 512) {b q : ℕ} (h : 2056 ≤ q) : dcv A l b q = 0 := by unfold dcv; rw [pad_ge _ h, mul_zero]

/-- The gradient of the weights with the product moved instead of the gradient. -/
theorem dw_eq (l : Fin 512) (j : Fin 3) :
    dw A l j = ∑ b : Fin 2, ∑ q : Fin 2048, dcv A l b.val (q.val + 8) * pad (z A l) b.val (q.val + 8 - (2 - j.val)) :=
  Finset.sum_congr rfl fun b _ =>
    sum_shift (dcv A l b.val) (pad (z A l) b.val) (2 - j.val) (by omega) (fun q h => dcv_ge A l h) (fun q h => pad_lt _ h)

theorem pad_mul (f g : Fin 4096 → ℝ) (b q : ℕ) : pad (fun i => f i * g i) b q = pad f b q * pad g b q := by
  unfold Seq.pad
  split
  · rfl
  · rw [mul_zero]

theorem grp_gcol (l : Fin 512) (b q : ℕ) (j : Fin 64) : grp A (gcol l j) b q = grp A l b q :=
  funext fun k => by unfold grp; rw [gcol_gcol]
theorem grp_place (l : Fin 512) (b q : ℕ) : grp A l b q (place l) = gy A l b q := by unfold grp; rw [gcol_place]

end Cert.ConvMath

end
-- ==== Proof.Conv.Pay.lean ====
/- One grid point of the mixing backward kernel, over the reals. -/
module

public import proofs.«01_k».proof.Proof.Conv.Block
public import proofs.«01_k».proof.Proof.Conv.Math

@[expose] public section

set_option maxRecDepth 16384

noncomputable section

namespace Cert.ConvIdeal.Block

open Cert.ConvIdeal.Gen Cert.ConvIdeal.Body
open Idealize.ShloMosaic Idealize.ShloMosaic.TcCoe Idealize.SL.Sem
open Cert.Reals Cert.Norm Cert.Seq Cert.ConvMath
open scoped BigOperators

variable (m : (ℓ : Loc nD τ sig) → Buf (Elt Ideal) ℓ) (c : Dev nD) (t : Fin cfg0.N)

/-- The arguments. -/
def args : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6)⟩

/-- The block index of every window. -/
theorem idx : ∀ t : Fin cfg0.N, win0_0.index t = ![t.val % 2, 12 + t.val / 2] ∧ win0_1.index t = ![t.val % 2, 16 + t.val / 2]
    ∧ win0_2.index t = ![t.val % 2, 20 + t.val / 2] ∧ win0_3.index t = ![t.val % 2, 4 + t.val / 2]
    ∧ win0_4.index t = ![0, t.val / 2] ∧ win0_5.index t = ![0, t.val / 2]
    ∧ win0_6.index t = ![0, t.val / 2] ∧ win0_7.index t = ![0, t.val / 2] ∧ t.val < 8 :=
  (by decide +kernel : ∀ t : Fin grid0.N, _)

theorem lt8 : t.val < 8 := (idx t).2.2.2.2.2.2.2.2

/-- A row of the point's sequence among all rows, and a column of its block among all columns. -/
def rowAt (r : Fin 2048) : Fin 4096 := ⟨t.val % 2 * 2048 + r.val, by omega⟩
def colAt (k : Fin 128) : Fin 512 := ⟨t.val / 2 * 128 + k.val, by have := lt8 t; omega⟩

/-- A factor of a row, as the host lines compute it. -/
theorem pj_val {A : Args} (hA : A.Real) (i : Fin 4096) (l : Fin 3072) {s : Fin 3} {f : Fin 512} (h : l = pcol s f) :
    ∑ x, A.x (ix3 ⟨i.val / 2048, by omega⟩ ⟨i.val % 2048, by omega⟩ x) * Ideal.rsqrt (Ideal.div
        (∑ x, A.x (ix3 ⟨i.val / 2048, by omega⟩ ⟨i.val % 2048, by omega⟩ x)
          * A.x (ix3 ⟨i.val / 2048, by omega⟩ ⟨i.val % 2048, by omega⟩ x)) (Ideal.ofBits .f32 1149239296#32)
        + Ideal.ofBits .f32 897988541#32) * A.g (ix1 x) * A.u (ix2 x l) = ((pj A s f i : ℝ) : EReal) := by
  have hx : ∀ x, A.x (ix3 ⟨i.val / 2048, by omega⟩ ⟨i.val % 2048, by omega⟩ x) = ((row A.x i x : ℝ) : EReal) :=
    fun x => coe_re (hA.x _)
  have hg : ∀ x, A.g (ix1 x) = ((vec A.g x : ℝ) : EReal) := fun x => coe_re (hA.g _)
  have hu : ∀ x, A.u (ix2 x l) = ((mat A.u x l : ℝ) : EReal) := fun x => coe_re (hA.u _)
  have hr : Ideal.rsqrt (Ideal.div (∑ x, ((row A.x i x : ℝ) : EReal) * ((row A.x i x : ℝ) : EReal))
      (Ideal.ofBits .f32 1149239296#32) + Ideal.ofBits .f32 897988541#32) = ((rs (row A.x i) : ℝ) : EReal) := by
    simp only [mul_coe, coe_sum, ofBits_1024, ofBits_eps, add_coe, div_coe _ (by norm_num : (1024 : ℝ) ≠ 0)]
    exact rsqrt_coe (ms_pos (row A.x i))
  subst h
  simp only [hx, hg, hu]
  rw [hr]
  simp only [mul_coe, coe_sum]
  rfl

theorem gb_blk (hA : (args m c).Real) (r : Fin 2048) (k : Fin 128) :
    (show Vec Ideal S2048x128 .f32 from iblk m c 0 t) (ix2 r k) = ((pj (args m c) 0 (colAt t k) (rowAt t r) : ℝ) : EReal) := by
  blk_simp [iblk]
  entry_read
  pointwise
  refine (pj_val hA (((View.whole main_v16).slice (win0_0.rect t)).emb (ix2 r k) 0) _ (s := 0) (f := colAt t k) ?_).trans ?_
  · refine Fin.ext ?_
    blk_simp [idx t, colAt, pcol]
    show (12 + t.val / 2) * 128 + k.val = 1536 + 0 * 512 + (t.val / 2 * 128 + k.val)
    omega
  · refine congrArg (fun i => ((pj (args m c) 0 (colAt t k) i : ℝ) : EReal)) (Fin.ext ?_)
    blk_simp [rowAt, idx t]
theorem gc_blk (hA : (args m c).Real) (r : Fin 2048) (k : Fin 128) :
    (show Vec Ideal S2048x128 .f32 from iblk m c 1 t) (ix2 r k) = ((pj (args m c) 1 (colAt t k) (rowAt t r) : ℝ) : EReal) := by
  blk_simp [iblk]
  entry_read
  pointwise
  refine (pj_val hA (((View.whole main_v16).slice (win0_1.rect t)).emb (ix2 r k) 0) _ (s := 1) (f := colAt t k) ?_).trans ?_
  · refine Fin.ext ?_
    blk_simp [idx t, colAt, pcol]
    show (16 + t.val / 2) * 128 + k.val = 1536 + 1 * 512 + (t.val / 2 * 128 + k.val)
    omega
  · refine congrArg (fun i => ((pj (args m c) 1 (colAt t k) i : ℝ) : EReal)) (Fin.ext ?_)
    blk_simp [rowAt, idx t]
theorem gu_blk (hA : (args m c).Real) (r : Fin 2048) (k : Fin 128) :
    (show Vec Ideal S2048x128 .f32 from iblk m c 2 t) (ix2 r k) = ((pj (args m c) 2 (colAt t k) (rowAt t r) : ℝ) : EReal) := by
  blk_simp [iblk]
  entry_read
  pointwise
  refine (pj_val hA (((View.whole main_v16).slice (win0_2.rect t)).emb (ix2 r k) 0) _ (s := 2) (f := colAt t k) ?_).trans ?_
  · refine Fin.ext ?_
    blk_simp [idx t, colAt, pcol]
    show (20 + t.val / 2) * 128 + k.val = 1536 + 2 * 512 + (t.val / 2 * 128 + k.val)
    omega
  · refine congrArg (fun i => ((pj (args m c) 2 (colAt t k) i : ℝ) : EReal)) (Fin.ext ?_)
    blk_simp [rowAt, idx t]
theorem gd_blk (hA : (args m c).Real) (r : Fin 2048) (k : Fin 128) :
    (show Vec Ideal S2048x128 .bf16 from iblk m c 3 t) (ix2 r k) =
      ((row (args m c).y (rowAt t r) (ycol (colAt t k)) : ℝ) : EReal) := by
  rw [row, ← coe_re (hA.y _)]
  blk_simp [iblk]
  entry_read
  pointwise
  blk_ext [rowAt, colAt, ycol, idx t]
theorem w_blk (hA : (args m c).Real) (j : Fin 3) (k : Fin 128) :
    (show Vec Ideal S3x128 .f32 from iblk m c 4 t) (ix2 j k) = ((cw (args m c) (colAt t k) j : ℝ) : EReal) := by
  rw [cw, mat, ← coe_re (hA.w _)]
  blk_simp [iblk]
  entry_read
  pointwise
  blk_ext [colAt, idx t]
theorem h_blk (hA : (args m c).Real) (k : Fin 128) :
    (show Vec Ideal S1x128 .f32 from iblk m c 5 t) (ix2 0 k) = ((vec (args m c).h (colAt t k) : ℝ) : EReal) := by
  rw [vec, ← coe_re (hA.h _)]
  blk_simp [iblk]
  entry_read
  pointwise
  blk_ext [colAt, idx t]

variable {m c}

/-- The factors for the rows before and after a chunk: zero where they lie outside the sequence. -/
def loR (n : Fin 4) : ℝ := if n.val = 0 then 0 else 1
def hiR (n : Fin 4) : ℝ := if n.val = 3 then 0 else 1

theorem lo_at (n : Fin 4) : (((Scalar.extui (Scalar.cmpi .sgt (BitVec.ofNat 32 n.val) 0#32) : BitVec 32).toInt : ℝ)) = loR n := by
  have e : (Scalar.extui (Scalar.cmpi .sgt (BitVec.ofNat 32 n.val) 0#32) : BitVec 32).toInt = if n.val = 0 then 0 else 1 := by
    revert n; decide +kernel
  rw [e, loR]
  split <;> simp
theorem hi_at (n : Fin 4) : (((Scalar.extui (Scalar.cmpi .slt (BitVec.ofNat 32 n.val) 3#32) : BitVec 32).toInt : ℝ)) = hiR n := by
  have e : (Scalar.extui (Scalar.cmpi .slt (BitVec.ofNat 32 n.val) 3#32) : BitVec 32).toInt = if n.val = 3 then 0 else 1 := by
    revert n; decide +kernel
  rw [e, hiR]
  split <;> simp

section
variable {e : EltTy} (x : Vec Ideal S2048x128 e) (n : Fin 4) (k : Fin 128)
theorem prev_at (r : Fin 16) : prev x n (ix2 r k) = x (ix2 ⟨n.val * 512 - 16 + r.val, by omega⟩ k) := by
  unfold prev
  rw [View.ld_apply]
  refine congrArg x ?_
  funext a
  match a with
  | 0 => exact Fin.ext (show n.val * 512 - 16 + 1 * r.val = n.val * 512 - 16 + r.val by omega)
  | 1 => exact Fin.ext (show 0 + 1 * k.val = k.val by omega)
theorem own_at (r : Fin 512) : own x n (ix2 r k) = x (ix2 ⟨n.val * 512 + r.val, by omega⟩ k) := by
  unfold own
  rw [View.ld_apply]
  refine congrArg x ?_
  funext a
  match a with
  | 0 => exact Fin.ext (show n.val * 512 + 1 * r.val = n.val * 512 + r.val by omega)
  | 1 => exact Fin.ext (show 0 + 1 * k.val = k.val by omega)
theorem next_at (r : Fin 16) : next x n (ix2 r k) = x (ix2 ⟨min (n.val * 512 + 512) 1536 + r.val, by omega⟩ k) := by
  unfold next
  rw [View.ld_apply]
  refine congrArg x ?_
  funext a
  match a with
  | 0 => exact Fin.ext (show min (n.val * 512 + 512) 1536 + 1 * r.val = min (n.val * 512 + 512) 1536 + r.val by omega)
  | 1 => exact Fin.ext (show 0 + 1 * k.val = k.val by omega)
end

/-- Three pieces of rows, those outside the sequence at zero, are a column at its positions. -/
theorem pad_pieces (f : Fin 4096 → ℝ) (n : Fin 4) (j : Fin 528) :
    (if h : j.val < 8 then f (rowAt t ⟨n.val * 512 - 16 + (8 + j.val), by omega⟩) * loR n
      else if h : j.val - 8 < 512 then f (rowAt t ⟨n.val * 512 + (j.val - 8), by omega⟩)
      else f (rowAt t ⟨min (n.val * 512 + 512) 1536 + (j.val - 8 - 512), by omega⟩) * hiR n)
      = Seq.pad f (t.val % 2) (n.val * 512 + j.val) := by
  unfold loR hiR
  split_ifs with h1 h2 h3 h4
  · rw [pad_lt _ (by omega), mul_zero]
  · rw [mul_one]
    refine (pad_eq f _ (by omega) (by omega) ?_).symm
    show t.val % 2 * 2048 + (n.val * 512 - 16 + (8 + j.val)) + 8 = _
    omega
  · refine (pad_eq f _ (by omega) (by omega) ?_).symm
    show t.val % 2 * 2048 + (n.val * 512 + (j.val - 8)) + 8 = _
    omega
  · rw [pad_ge _ (by omega), mul_zero]
  · rw [mul_one]
    refine (pad_eq f _ (by omega) (by omega) ?_).symm
    show t.val % 2 * 2048 + (min (n.val * 512 + 512) 1536 + (j.val - 8 - 512)) + 8 = _
    omega

theorem win32_at {x : Vec Ideal S2048x128 .f32} {f : Fin 4096 → ℝ} {k : Fin 128}
    (hx : ∀ r : Fin 2048, x (ix2 r k) = ((f (rowAt t r) : ℝ) : EReal)) (n : Fin 4) (j : Fin 528) :
    win32 x n (ix2 j k) = ((Seq.pad f (t.val % 2) (n.val * 512 + j.val) : ℝ) : EReal) := by
  unfold win32
  rw [← pad_pieces]
  pointwise [k0_pay10, k0_pay9]
  simp only [prev_at, own_at, next_at, hx, lo_at, hi_at, mul_coe]
  split_ifs <;> rfl
theorem win16_at {x : Vec Ideal S2048x128 .bf16} {f : Fin 4096 → ℝ} {k : Fin 128}
    (hx : ∀ r : Fin 2048, x (ix2 r k) = ((f (rowAt t r) : ℝ) : EReal)) (n : Fin 4) (j : Fin 528) :
    win16 x n (ix2 j k) = ((Seq.pad f (t.val % 2) (n.val * 512 + j.val) : ℝ) : EReal) := by
  unfold win16
  rw [← pad_pieces]
  pointwise [k0_pay13, k0_pay11, k0_pay12]
  simp only [prev_at, own_at, next_at, hx, lo_at, hi_at, mul_coe]
  split_ifs <;> rfl

/-! ## The arithmetic of a window -/

theorem down_at (v : Win) (j : Fin 528) (k : Fin 128) (h : 1 ≤ j.val) : down v (ix2 j k) = v (ix2 ⟨j.val - 1, by omega⟩ k) := by
  unfold down
  pointwise
  exact congrArg (fun i => v (ix2 i k)) (Fin.ext (by show (j.val + 528 - 1) % 528 = j.val - 1; omega))
theorem up_at (v : Win) (j : Fin 528) (k : Fin 128) (h : j.val + 1 < 528) : up v (ix2 j k) = v (ix2 ⟨j.val + 1, h⟩ k) := by
  unfold up
  pointwise
  exact congrArg (fun i => v (ix2 i k)) (Fin.ext (by show (j.val + 528 - 527) % 528 = j.val + 1; omega))
theorem tap_at {w : Vec Ideal S3x128 .f32} (i : Fin 3) (j : Fin 528) (k : Fin 128) : tap w i (ix2 j k) = w (ix2 i k) := by
  match i with
  | 0 => unfold tap; pointwise
  | 1 => unfold tap; pointwise
  | 2 => unfold tap; pointwise

theorem conv_at (w : Vec Ideal S3x128 .f32) (v : Win) (j : Fin 528) (k : Fin 128) (h : 2 ≤ j.val) : conv w v (ix2 j k) =
    w (ix2 0 k) * v (ix2 ⟨j.val - 2, by omega⟩ k) + w (ix2 1 k) * v (ix2 ⟨j.val - 1, by omega⟩ k) + w (ix2 2 k) * v (ix2 j k) := by
  unfold conv
  pointwise
  rw [tap_at, tap_at, tap_at, down_at _ _ _ (by omega), down_at _ _ _ (by show 1 ≤ j.val - 1; omega), down_at _ _ _ (by omega)]
  rfl
theorem convBack_at (w : Vec Ideal S3x128 .f32) (v : Win) (j : Fin 528) (k : Fin 128) (h : j.val + 2 < 528) :
    convBack w v (ix2 j k) =
      w (ix2 2 k) * v (ix2 j k) + w (ix2 1 k) * v (ix2 ⟨j.val + 1, by omega⟩ k) + w (ix2 0 k) * v (ix2 ⟨j.val + 2, h⟩ k) := by
  unfold convBack
  pointwise
  rw [tap_at, tap_at, tap_at, up_at _ _ _ (by omega), up_at _ _ _ (by omega), up_at _ _ _ (by show j.val + 1 + 1 < 528; omega)]

/-- The matrix of the groups: one where two columns lie in one group. -/
theorem pay1_at (a b : Fin 128) : (k0_pay1 (F := Ideal)) (ix2 a b) = if a.val / 64 = b.val / 64 then (1 : EReal) else 0 := by
  have h6 : ∀ a : Fin 128, IntOp.shrsi .vector (BitVec.ofNat 32 a.val) 6#32 = BitVec.ofNat 32 (a.val / 64) := by decide +kernel
  have h2 : ∀ a b : Fin 2, BitVec.setWidth 32 (IntOp.cmpi .eq (BitVec.ofNat 32 a.val) (BitVec.ofNat 32 b.val))
      = if a.val = b.val then 1#32 else 0#32 := by decide +kernel
  pointwise [k0_pay1]
  rw [h6, h6, h2 ⟨a.val / 64, by omega⟩ ⟨b.val / 64, by omega⟩]
  dsimp only
  split
  · exact (Ideal.scalar_sitofp_def (φ := .f32) 1#32).trans (by simp)
  · exact (Ideal.scalar_sitofp_def (φ := .f32) 0#32).trans (by simp)

theorem dot_at (v : FVec Ideal S528x128 .bf16) (j : Fin 528) (k : Fin 128) :
    dot v (ix2 j k) = ∑ l : Fin 64, v (ix2 j ⟨k.val / 64 * 64 + l.val, by omega⟩) := by
  unfold dot
  pointwise
  rw [Fin.sum_univ_tiles 2 64 rfl]
  rw [Finset.sum_eq_single (⟨k.val / 64, by omega⟩ : Fin 2)]
  · refine Finset.sum_congr rfl fun l _ => ?_
    rw [pay1_at, if_pos (by show (k.val / 64 * 64 + l.val) / 64 = k.val / 64; omega), mul_one]
  · intro p _ hp
    refine Finset.sum_eq_zero fun l _ => ?_
    rw [pay1_at, if_neg, mul_zero]
    intro e
    refine hp (Fin.ext ?_)
    have e' : (p.val * 64 + l.val) / 64 = k.val / 64 := e
    show p.val = k.val / 64
    omega
  · intro h
    exact absurd (Finset.mem_univ _) h

/-- The mean over a group, of reals. -/
theorem mean_at {v : Win} {j : Fin 528} {k : Fin 128} {f : Fin 64 → ℝ}
    (hv : ∀ l : Fin 64, v (ix2 j ⟨k.val / 64 * 64 + l.val, by omega⟩) = ((f l : ℝ) : EReal)) :
    mean v (ix2 j k) = (((∑ l, f l) / 64 : ℝ) : EReal) := by
  have h1 : ∀ l : Fin 64, (truncf .bf16 v bitsLt_bf16_f32 : FVec Ideal S528x128 .bf16) (ix2 j ⟨k.val / 64 * 64 + l.val, by omega⟩)
      = ((f l : ℝ) : EReal) := fun l => by pointwise; exact hv l
  have h2 : ∀ l : Fin 64, (truncf .bf16 (subf v (extf .f32 (truncf .bf16 v bitsLt_bf16_f32) bitsLt_bf16_f32)) bitsLt_bf16_f32 :
      FVec Ideal S528x128 .bf16) (ix2 j ⟨k.val / 64 * 64 + l.val, by omega⟩) = ((0 : ℝ) : EReal) := fun l => by
    pointwise
    rw [hv l, sub_coe, sub_self]
  unfold mean
  pointwise
  rw [dot_at, dot_at]
  simp only [h1, h2]
  rw [coe_sum, coe_sum, Group.ofBits_inv64, add_coe, mul_coe, Finset.sum_const_zero, add_zero, mul_one_div]

theorem staged_at (v : Win) (r : Fin 512) (k : Fin 128) : staged v (ix3 0 r k) = v (ix2 ⟨r.val + 8, by omega⟩ k) := by
  unfold staged
  pointwise
  exact congrArg (fun i => v (ix2 i k)) (Fin.ext (Nat.add_comm 8 r.val))
theorem total_at (v : Win) (k : Fin 128) : total v (ix2 0 k) = ∑ r : Fin 512, v (ix2 ⟨r.val + 8, by omega⟩ k) := by
  unfold total
  pointwise
  exact Finset.sum_congr rfl fun r _ => congrArg (fun i => v (ix2 i k)) (Fin.ext (Nat.add_comm 8 r.val))
theorem sum4_at {f : Fin 4 → FVec Ideal S1x128 .f32} {k : Fin 128} {g : Fin 4 → ℝ}
    (h : ∀ n, f n (ix2 0 k) = ((g n : ℝ) : EReal)) : sum4 f (ix2 0 k) = ((∑ n, g n : ℝ) : EReal) := by
  unfold sum4
  pointwise [k0_pay3]
  rw [h, h, h, h, add_coe, add_coe, add_coe, Fin.sum_univ_four]

/-! ## The chunk's windows, over the reals -/

variable (hA : (args m c).Real) (n : Fin 4) (j : Fin 528) (k : Fin 128)
include hA

theorem gb_at : gb m c t n (ix2 j k) = ((Seq.pad (pj (args m c) 0 (colAt t k)) (t.val % 2) (n.val * 512 + j.val) : ℝ) : EReal) :=
  win32_at t (fun r => gb_blk m c t hA r k) n j
theorem gc_at : gc m c t n (ix2 j k) = ((Seq.pad (pj (args m c) 1 (colAt t k)) (t.val % 2) (n.val * 512 + j.val) : ℝ) : EReal) :=
  win32_at t (fun r => gc_blk m c t hA r k) n j
theorem gu_at : gu m c t n (ix2 j k) = ((Seq.pad (pj (args m c) 2 (colAt t k)) (t.val % 2) (n.val * 512 + j.val) : ℝ) : EReal) :=
  win32_at t (fun r => gu_blk m c t hA r k) n j
theorem gd_at : gd m c t n (ix2 j k) =
    ((Seq.pad (fun i => row (args m c).y i (ycol (colAt t k))) (t.val % 2) (n.val * 512 + j.val) : ℝ) : EReal) :=
  win16_at t (f := fun i => row (args m c).y i (ycol (colAt t k))) (fun r => gd_blk m c t hA r k) n j

theorem z_at : z m c t n (ix2 j k) = ((Seq.pad (ConvMath.z (args m c) (colAt t k)) (t.val % 2) (n.val * 512 + j.val) : ℝ) : EReal) := by
  unfold z
  pointwise
  rw [gc_at t hA, gu_at t hA, mul_coe]
  exact congrArg _ (pad_mul _ _ _ _).symm

theorem cv_at (h : 2 ≤ j.val) : cv m c t n (ix2 j k) =
    ((ConvMath.cv (args m c) (colAt t k) (t.val % 2) (n.val * 512 + j.val) : ℝ) : EReal) := by
  have hw : ∀ i, (iblk m c 4 t : Vec Ideal S3x128 .f32) (ix2 i k) = ((cw (args m c) (colAt t k) i : ℝ) : EReal) := fun i => w_blk m c t hA i k
  unfold cv
  rw [conv_at _ _ _ _ h, hw, hw, hw, z_at t hA, z_at t hA, z_at t hA]
  simp only [mul_coe, add_coe]
  unfold ConvMath.cv Seq.conv
  rw [Nat.add_sub_assoc h, Nat.add_sub_assoc (by omega : 1 ≤ j.val)]

theorem y_at (h : 2 ≤ j.val) : y m c t n (ix2 j k) =
    ((gy (args m c) (colAt t k) (t.val % 2) (n.val * 512 + j.val) : ℝ) : EReal) := by
  unfold y
  pointwise
  rw [gb_at t hA, cv_at t hA n j k h, mul_coe]
  rfl

omit hA in
theorem col_group (l : Fin 64) : colAt t ⟨k.val / 64 * 64 + l.val, by omega⟩ = gcol (colAt t k) l :=
  Fin.ext (by show t.val / 2 * 128 + (k.val / 64 * 64 + l.val) = (t.val / 2 * 128 + k.val) / 64 * 64 + l.val; omega)

theorem rsq_at (h : 2 ≤ j.val) : rsq (y m c t n) (ix2 j k) =
    ((Group.rs (grp (args m c) (colAt t k) (t.val % 2) (n.val * 512 + j.val)) : ℝ) : EReal) := by
  unfold rsq
  pointwise
  rw [mean_at (f := fun l => grp (args m c) (colAt t k) (t.val % 2) (n.val * 512 + j.val) l
    * grp (args m c) (colAt t k) (t.val % 2) (n.val * 512 + j.val) l) fun l => ?_]
  · rw [ofBits_eps, add_coe]
    exact rsqrt_coe (Group.ms_pos _)
  · pointwise
    rw [y_at t hA n j _ h, col_group, mul_coe]
    rfl

theorem dn_at : mulf (gd m c t n) (broadcastTo S528x128 (k0_pay2 (iblk m c 5 t)) broadcasts_S1x128_S528x128) (ix2 j k)
    = ((dn (args m c) (colAt t k) (t.val % 2) (n.val * 512 + j.val) : ℝ) : EReal) := by
  pointwise [k0_pay2]
  have hh : (iblk m c 5 t : Vec Ideal S1x128 .f32) (ix2 0 k) = ((vec (args m c).h (colAt t k) : ℝ) : EReal) := h_blk m c t hA k
  rw [gd_at t hA, hh, mul_coe]
  rfl

theorem dy_at (h : 2 ≤ j.val) : dy m c t n (ix2 j k) =
    ((dgy (args m c) (colAt t k) (t.val % 2) (n.val * 512 + j.val) : ℝ) : EReal) := by
  unfold dy normBack
  have hd := dn_at t hA n j
  generalize mulf (gd m c t n) (broadcastTo S528x128 (k0_pay2 (iblk m c 5 t)) broadcasts_S1x128_S528x128) = d at hd ⊢
  pointwise
  rw [mean_at (f := fun l => dn (args m c) (gcol (colAt t k) l) (t.val % 2) (n.val * 512 + j.val)
      * (grp (args m c) (colAt t k) (t.val % 2) (n.val * 512 + j.val) l
        * Group.rs (grp (args m c) (colAt t k) (t.val % 2) (n.val * 512 + j.val)))) fun l => ?_]
  · rw [rsq_at t hA n j k h, y_at t hA n j k h, hd]
    simp only [mul_coe, sub_coe]
    unfold dgy Group.back
    beta_reduce
    rw [gcol_place, grp_place]
  · pointwise
    rw [rsq_at t hA n j _ h, y_at t hA n j _ h, hd, col_group, grp_gcol]
    simp only [mul_coe]
    rfl

theorem dcv_at (h : 2 ≤ j.val) : dcv m c t n (ix2 j k) =
    ((ConvMath.dcv (args m c) (colAt t k) (t.val % 2) (n.val * 512 + j.val) : ℝ) : EReal) := by
  unfold dcv
  pointwise
  rw [dy_at t hA n j k h, gb_at t hA, mul_coe]
  rfl

theorem dz_at (h : 2 ≤ j.val) (h' : j.val + 2 < 528) : dz m c t n (ix2 j k) =
    ((ConvMath.dz (args m c) (colAt t k) (t.val % 2) (n.val * 512 + j.val) : ℝ) : EReal) := by
  have hw : ∀ i, (iblk m c 4 t : Vec Ideal S3x128 .f32) (ix2 i k) = ((cw (args m c) (colAt t k) i : ℝ) : EReal) := fun i => w_blk m c t hA i k
  unfold dz
  rw [convBack_at _ _ _ _ h', hw, hw, hw, dcv_at t hA n j k h,
    dcv_at t hA n _ k (by show 2 ≤ j.val + 1; omega), dcv_at t hA n _ k (by show 2 ≤ j.val + 2; omega)]
  simp only [mul_coe, add_coe]
  rfl

/-! ## What a point leaves, over the reals -/

theorem plane_at (p : Fin 3) (r : Fin 512) : plane m c t p n (ix3 0 r k) =
    ((dpj (args m c) p (colAt t k) (t.val % 2) (n.val * 512 + r.val + 8) : ℝ) : EReal) := by
  match p with
  | 0 =>
    show staged (mulf (dy m c t n) (cv m c t n)) (ix3 0 r k) = _
    rw [staged_at]
    pointwise
    rw [dy_at t hA n _ k (by show 2 ≤ r.val + 8; omega), cv_at t hA n _ k (by show 2 ≤ r.val + 8; omega), mul_coe]
    rfl
  | 1 =>
    show staged (mulf (dz m c t n) (gu m c t n)) (ix3 0 r k) = _
    rw [staged_at]
    pointwise
    rw [dz_at t hA n _ k (by show 2 ≤ r.val + 8; omega) (by show r.val + 8 + 2 < 528; omega), gu_at t hA, mul_coe]
    rfl
  | 2 =>
    show staged (mulf (dz m c t n) (gc m c t n)) (ix3 0 r k) = _
    rw [staged_at]
    pointwise
    rw [dz_at t hA n _ k (by show 2 ≤ r.val + 8; omega) (by show r.val + 8 + 2 < 528; omega), gc_at t hA, mul_coe]
    rfl

theorem wsum_at (i : Fin 3) : wsum m c t i n (ix2 0 k) =
    ((∑ r : Fin 512, dwr (args m c) (colAt t k) i (t.val % 2) (n.val * 512 + r.val + 8) : ℝ) : EReal) := by
  rw [← coe_sum]
  match i with
  | 0 =>
    show total (mulf (up (up (dcv m c t n))) (z m c t n)) (ix2 0 k) = _
    rw [total_at]
    refine Finset.sum_congr rfl fun r _ => ?_
    pointwise
    rw [up_at _ _ _ (by show r.val + 8 + 1 < 528; omega), up_at _ _ _ (by show r.val + 8 + 1 + 1 < 528; omega),
      dcv_at t hA n _ k (by show 2 ≤ r.val + 8 + 1 + 1; omega), z_at t hA, mul_coe]
    rfl
  | 1 =>
    show total (mulf (up (dcv m c t n)) (z m c t n)) (ix2 0 k) = _
    rw [total_at]
    refine Finset.sum_congr rfl fun r _ => ?_
    pointwise
    rw [up_at _ _ _ (by show r.val + 8 + 1 < 528; omega), dcv_at t hA n _ k (by show 2 ≤ r.val + 8 + 1; omega), z_at t hA, mul_coe]
    rfl
  | 2 =>
    show total (mulf (dcv m c t n) (z m c t n)) (ix2 0 k) = _
    rw [total_at]
    refine Finset.sum_congr rfl fun r _ => ?_
    pointwise
    rw [dcv_at t hA n _ k (by show 2 ≤ r.val + 8; omega), z_at t hA, mul_coe]
    rfl

theorem gsum_at : gsum m c t n (ix2 0 k) =
    ((∑ r : Fin 512, dhr (args m c) (colAt t k) (t.val % 2) (n.val * 512 + r.val + 8) : ℝ) : EReal) := by
  rw [← coe_sum]
  unfold gsum
  rw [total_at]
  refine Finset.sum_congr rfl fun r _ => ?_
  pointwise
  rw [rsq_at t hA n _ k (by show 2 ≤ r.val + 8; omega), y_at t hA n _ k (by show 2 ≤ r.val + 8; omega), gd_at t hA]
  simp only [mul_coe]
  rfl

omit hA in
theorem sum_rows (f : ℕ → ℝ) : ∑ n : Fin 4, ∑ r : Fin 512, f (n.val * 512 + r.val + 8) = ∑ q : Fin 2048, f (q.val + 8) :=
  (Fin.sum_univ_tiles 4 512 rfl fun q : Fin 2048 => f (q.val + 8)).symm

/-- What a point adds to the two sums: its sequence's. -/
theorem wsum4_at (i : Fin 3) : sum4 (wsum m c t i) (ix2 0 k) =
    ((∑ q : Fin 2048, dwr (args m c) (colAt t k) i (t.val % 2) (q.val + 8) : ℝ) : EReal) := by
  rw [sum4_at fun n => wsum_at t hA n k i, sum_rows fun q => dwr (args m c) (colAt t k) i (t.val % 2) q]
theorem gsum4_at : sum4 (gsum m c t) (ix2 0 k) =
    ((∑ q : Fin 2048, dhr (args m c) (colAt t k) (t.val % 2) (q.val + 8) : ℝ) : EReal) := by
  rw [sum4_at fun n => gsum_at t hA n k, sum_rows fun q => dhr (args m c) (colAt t k) (t.val % 2) q]

end Cert.ConvIdeal.Block

end
-- ==== Proof.Conv.Array.lean ====
/- The gradient of the short gated convolution: the kernel's three result arrays after the run, as reals of the
   arguments. -/
module

public import proofs.«01_k».proof.Proof.Conv.Pay

@[expose] public section

set_option maxRecDepth 16384

noncomputable section

namespace Cert.ConvIdeal.Block

open Cert.ConvIdeal.Gen Cert.ConvIdeal.Body
open Idealize.ShloMosaic Idealize.ShloMosaic.TcCoe Idealize.SL.Sem
open Cert.Reals Cert.Norm Cert.Seq Cert.ConvMath
open scoped BigOperators

variable {m : (ℓ : Loc nD τ sig) → Buf (Elt Ideal) ℓ} {c : Dev nD} (t : Fin cfg0.N)

theorem before_div (h : t.val % 2 = 1) : (before t).val / 2 = t.val / 2 := by show (t.val - 1) / 2 = t.val / 2; omega
theorem before_mod (h : t.val % 2 = 1) : (before t).val % 2 = 0 := by show (t.val - 1) % 2 = 0; omega
theorem before_col (h : t.val % 2 = 1) (k : Fin 128) : colAt (before t) k = colAt t k :=
  Fin.ext (by show (before t).val / 2 * 128 + k.val = t.val / 2 * 128 + k.val; rw [before_div t h])

/-- The results leave at the second batch of each column block. -/
theorem flush6 : ∀ t : Fin cfg0.N, (cfg0.win 6).flush t = true → t.val % 2 = 1 := by decide +kernel
theorem flush7 : ∀ t : Fin cfg0.N, (cfg0.win 7).flush t = true → t.val % 2 = 1 := by decide +kernel

section
variable (hA : (args m c).Real)
include hA

theorem dw_at (h : t.val % 2 = 1) (i : Fin 3) (k : Fin 128) : (outs m c t).1 (ix2 i k) = ((dw (args m c) (colAt t k) i : ℝ) : EReal) := by
  have h0 := before_mod t h
  have hb : (outs m c (before t)).1 (ix2 i k) =
      ((∑ q : Fin 2048, dwr (args m c) (colAt t k) i 0 (q.val + 8) : ℝ) : EReal) := by
    refine (out6_A m c (before t) h0 (ix2 i k)).trans ?_
    refine (wsum4_at (before t) hA k i).trans ?_
    rw [before_col t h, h0]
  refine (out6_B m c t h (ix2 i k)).trans ?_
  show rowB m c t (outs m c (before t)).1 i (ix2 0 k) = _
  generalize (outs m c (before t)).1 = B at hb ⊢
  unfold rowB
  have hw := wsum4_at t hA k i
  rw [h] at hw
  generalize sum4 (wsum m c t i) = S at hw ⊢
  have hl : (View.ld (Val := Elt Ideal) B (Rect.unit ![i.val, 0] S1x128.size (inb_row i)) : Vec Ideal S1x128 .f32) (ix2 0 k) = B (ix2 i k) := by
    rw [View.ld_apply]
    refine congrArg B ?_
    funext a
    match a with
    | 0 => exact Fin.ext (show i.val + 1 * 0 = i.val by omega)
    | 1 => exact Fin.ext (show 0 + 1 * k.val = k.val by omega)
  generalize (View.ld (Val := Elt Ideal) B (Rect.unit ![i.val, 0] S1x128.size (inb_row i)) : Vec Ideal S1x128 .f32) = L at hl ⊢
  pointwise
  rw [hl, hb, hw, add_coe]
  unfold dw
  rw [Fin.sum_univ_two]
  rfl

theorem dh_at (h : t.val % 2 = 1) (k : Fin 128) : (outs m c t).2.1 (ix2 0 k) = ((dh (args m c) (colAt t k) : ℝ) : EReal) := by
  have h0 := before_mod t h
  have hb : (outs m c (before t)).2.1 (ix2 0 k) =
      ((∑ q : Fin 2048, dhr (args m c) (colAt t k) 0 (q.val + 8) : ℝ) : EReal) := by
    rw [out7_A m c (before t) h0]
    refine (gsum4_at (before t) hA k).trans ?_
    rw [before_col t h, h0]
  rw [out7_B m c t h]
  generalize (outs m c (before t)).2.1 = B at hb ⊢
  have hw := gsum4_at t hA k
  rw [h] at hw
  generalize sum4 (gsum m c t) = S at hw ⊢
  pointwise
  rw [hb, hw, add_coe]
  unfold dh
  rw [Fin.sum_univ_two]
  rfl

theorem final6 : (dats m 0 c).arrAt 6 (cfgs 0).N = DW (args m c) := by
  refine (dats m 0 c).arrAt_eq_of_covers 6 _ (by decide +kernel) fun t ht y => ?_
  blk_simp
  rw [after0_6]
  idx_vars y
  refine (dw_at t hA (flush6 t ht) y0 y1).trans ?_
  refine congrArg (fun i : S3x512.Idx => DW (args m c) i) (a₁ := (ix2 y0 (colAt t y1) : S3x512.Idx)) ?_
  blk_ext [colAt, idx t]

theorem final7 : (dats m 0 c).arrAt 7 (cfgs 0).N = DH (args m c) := by
  refine (dats m 0 c).arrAt_eq_of_covers 7 _ (by decide +kernel) fun t ht y => ?_
  blk_simp
  rw [after0_7]
  idx_vars y
  obtain rfl : y0 = 0 := Subsingleton.elim _ _
  refine (dh_at t hA (flush7 t ht) y1).trans ?_
  refine congrArg (fun i : S1x512.Idx => DH (args m c) i) (a₁ := (ix2 0 (colAt t y1) : S1x512.Idx)) ?_
  blk_ext [colAt, idx t]
end

/-! ## The result the kernel copies to itself -/

theorem off_eq : ∀ (t : Fin cfg0.N) (r : Fin 3), k0_off7 (grid0.coords t) (BitVec.ofNat 32 (12 + 4 * r.val))
    = ![t.val % 2 * 2048, (12 + 4 * r.val + t.val / 2) * 128] := by decide +kernel

/-- Where an element of a copy's window lies in the result. -/
theorem win_emb (r : Fin 3) (x : S2048x128.Idx) : (win hbM (grid0.coords t) r).view.emb x =
    (ix2 ⟨t.val % 2 * 2048 + (x 0).val, by have : (x 0).val < 2048 := (x 0).isLt; omega⟩
      ⟨(12 + 4 * r.val + t.val / 2) * 128 + (x 1).val, by have : (x 1).val < 128 := (x 1).isLt; have := lt8 t; omega⟩ : S4096x3072.Idx) := by
  have ho := off_eq t r
  funext a
  match a with
  | 0 => exact Fin.ext (show k0_off7 (grid0.coords t) (BitVec.ofNat 32 (12 + 4 * r.val)) 0 + 1 * (x 0).val = _ by rw [ho, one_mul]; rfl)
  | 1 => exact Fin.ext (show k0_off7 (grid0.coords t) (BitVec.ofNat 32 (12 + 4 * r.val)) 1 + 1 * (x 1).val = _ by rw [ho, one_mul]; rfl)

/-- A plane of the scratch, read. -/
theorem plane_read (r : Fin 3) (S : Vec Ideal S3x2048x128 .bf16) (x : S2048x128.Idx) :
    (Body.plane scM r).view.read (Elt Ideal) ((Memref.isWhole_whole cc0_scratch0).unread S) x = S (ix3 r (x 0) (x 1)) := by
  have e : (Memref.isWhole_whole cc0_scratch0).unread (Val := Elt Ideal) S = S := (Memref.isWhole_whole cc0_scratch0).read_unread S
  rw [e]
  show S ((Body.plane scM r).view.emb x) = _
  refine congrArg S ?_
  idx_vars x
  show (scM.view.slice (Rect.unit (s := S3x2048x128) ![r.val, 0, 0] S1x2048x128.size (row_inb r))).emb (Shape.reshapeEquiv _ (ix2 x0 x1)) = _
  rw [Shape.reshapeEquiv_eq_of_rowMajor (y := (ix3 (0 : Fin 1) x0 x1 : S1x2048x128.Idx)) _ (by
    rw [Shape.rowMajor_val_three, Shape.rowMajor_val_two]
    show (0 * 2048 + x0.val) * 128 + x1.val = x0.val * 128 + x1.val
    omega)]
  funext a
  match a with
  | 0 => exact Fin.ext (show r.val + 1 * 0 = r.val by omega)
  | 1 => exact Fin.ext (show 0 + 1 * x0.val = x0.val by omega)
  | 2 => exact Fin.ext (show 0 + 1 * x1.val = x1.val by omega)

/-- An element of the result after one copy: the scratch's where the copy's window lies, else as before. -/
theorem copy1_at (r : Fin 3) (S : Vec Ideal S3x2048x128 .bf16) (f : Buf (Elt Ideal) ((c : Thread nD τ).loc main_v20_0))
    (i : Fin 4096) (l : Fin 3072) :
    copy1 c (grid0.coords t) hbM scM ((Memref.isWhole_whole cc0_scratch0).unread S) r f (ix2 i l) =
      if i.val / 2048 = t.val % 2 ∧ l.val / 128 = 12 + 4 * r.val + t.val / 2
      then S (ix3 r ⟨i.val % 2048, by omega⟩ ⟨l.val % 128, by omega⟩) else f (ix2 i l) := by
  have h8 := lt8 t
  unfold copy1
  split
  · rename_i h
    have e : (win hbM (grid0.coords t) r).view.emb (ix2 ⟨i.val % 2048, by omega⟩ ⟨l.val % 128, by omega⟩ : S2048x128.Idx) = (ix2 i l : S4096x3072.Idx) := by
      rw [win_emb]
      funext a
      match a with
      | 0 => exact Fin.ext (show t.val % 2 * 2048 + i.val % 2048 = i.val by omega)
      | 1 => exact Fin.ext (show (12 + 4 * r.val + t.val / 2) * 128 + l.val % 128 = l.val by omega)
    rw [← e]
    exact (View.write_emb_of_mem _ _ (Finset.mem_univ _)).trans (plane_read r S _)
  · rename_i h
    refine View.write_of_not_mem _ _ _ fun hm => h ?_
    obtain ⟨x, -, hx⟩ := Finset.mem_map.mp hm
    have x0 : (x 0).val < 2048 := (x 0).isLt
    have x1 : (x 1).val < 128 := (x 1).isLt
    rw [win_emb] at hx
    have h0 : t.val % 2 * 2048 + (x 0).val = i.val := congrArg Fin.val (congrFun hx 0)
    have h1 : (12 + 4 * r.val + t.val / 2) * 128 + (x 1).val = l.val := congrArg Fin.val (congrFun hx 1)
    omega

/-- The grid point that leaves an element: its column block's, at its batch. -/
def point (i : Fin 4096) (l : Fin 3072) : ℕ := 2 * ((l.val - 1536) % 512 / 128) + i.val / 2048

/-- What a point's scratch holds is the result's window. -/
theorem scratch_at (hA : (args m c).Real) (r : Fin 3) (i : Fin 4096) (l : Fin 3072) (h0 : i.val / 2048 = t.val % 2)
    (h1 : l.val / 128 = 12 + 4 * r.val + t.val / 2) :
    (outs m c t).2.2 (ix3 r ⟨i.val % 2048, by omega⟩ ⟨l.val % 128, by omega⟩) = DP (args m c) (ix2 i l) := by
  have h8 := lt8 t
  rw [out12, DP_hi _ _ _ (by omega)]
  refine (plane_at t hA ⟨i.val % 2048 / 512, by omega⟩ ⟨l.val % 128, by omega⟩ r ⟨i.val % 2048 % 512, by omega⟩).trans ?_
  have e0 : (⟨(l.val - 1536) / 512, by omega⟩ : Fin 3) = r := Fin.ext (by show (l.val - 1536) / 512 = r.val; omega)
  have e1 : (⟨(l.val - 1536) % 512, by omega⟩ : Fin 512) = colAt t ⟨l.val % 128, by omega⟩ :=
    Fin.ext (by show (l.val - 1536) % 512 = t.val / 2 * 128 + l.val % 128; omega)
  have e2 : i.val % 2048 / 512 * 512 + i.val % 2048 % 512 + 8 = i.val % 2048 + 8 := by omega
  show ((dpj (args m c) r (colAt t ⟨l.val % 128, _⟩) (t.val % 2) (i.val % 2048 / 512 * 512 + i.val % 2048 % 512 + 8) : ℝ) : EReal) = _
  rw [e0, e1, e2, h0]

theorem hb_at (hA : (args m c).Real) (n : ℕ) (hn : n ≤ 8) (i : Fin 4096) (l : Fin 3072) :
    hb m c n (ix2 i l) = if l.val < 1536 ∨ point i l < n then DP (args m c) (ix2 i l) else hb m c 0 (ix2 i l) := by
  induction n with
  | zero =>
    split
    · rename_i h
      rw [DP_lo _ _ _ (h.resolve_right (Nat.not_lt_zero _))]
      show V m c main_v20_0 (ix2 i l) = _
      entry_read
      rfl
    · rfl
  | succ n ih =>
    have hN : n < cfg0.N := by show n < 8; omega
    rw [hb_succ m c ⟨n, hN⟩]
    unfold copied
    rw [copy1_at, copy1_at, copy1_at, ih (by omega)]
    have hs := scratch_at ⟨n, hN⟩ hA
    unfold point
    dsimp only at hs ⊢
    have v2 : ((2 : Fin 3) : ℕ) = 2 := rfl
    have v1 : ((1 : Fin 3) : ℕ) = 1 := rfl
    have v0 : ((0 : Fin 3) : ℕ) = 0 := rfl
    have hl := l.isLt
    by_cases h2 : i.val / 2048 = n % 2 ∧ l.val / 128 = 12 + 4 * (2 : Fin 3).val + n / 2
    · rw [if_pos h2, if_pos (by omega), hs 2 i l h2.1 h2.2]
    by_cases h1 : i.val / 2048 = n % 2 ∧ l.val / 128 = 12 + 4 * (1 : Fin 3).val + n / 2
    · rw [if_neg h2, if_pos h1, if_pos (by omega), hs 1 i l h1.1 h1.2]
    by_cases h0 : i.val / 2048 = n % 2 ∧ l.val / 128 = 12 + 4 * (0 : Fin 3).val + n / 2
    · rw [if_neg h2, if_neg h1, if_pos h0, if_pos (by omega), hs 0 i l h0.1 h0.2]
    rw [if_neg h2, if_neg h1, if_neg h0]
    exact if_congr (by omega) rfl rfl

theorem final_hb (hA : (args m c).Real) : hb m c 8 = DP (args m c) := by
  funext i
  have e := hb_at hA 8 le_rfl (i 0) (i 1)
  have h0 : (i 0).val < 4096 := (i 0).isLt
  have h1 : (i 1).val < 3072 := (i 1).isLt
  have hi : (ix2 (i 0) (i 1) : S4096x3072.Idx) = i := by
    funext a
    match a with
    | 0 => rfl
    | 1 => rfl
  rw [if_pos (Or.inr (by unfold point; omega))] at e
  rw [← hi]
  exact e

end Cert.ConvIdeal.Block

end
-- ==== Proof.Conv.Ref.lean ====
/- The reference of the gradient of the short gated convolution, stage by stage, over the reals. -/
module

public import proofs.«01_k».proof.Proof.Gen.ConvRefIdeal.Read
public import proofs.«01_k».proof.Proof.Conv.Math

@[expose] public section

set_option maxRecDepth 16384

noncomputable section

namespace Cert.ConvRefIdeal.Stage

open Idealize.ShloMosaic Cert.ConvRefIdeal Cert.ConvRefIdeal.Gen Cert.ConvRefIdeal.Read Cert.Reals Cert.Norm Cert.Seq Cert.ConvMath
open scoped BigOperators

/-- Column `k` of group `e` among all columns. -/
def gl (e : Fin 8) (k : Fin 64) : Fin 512 := ⟨e.val * 64 + k.val, by omega⟩

theorem gcol_gl (e : Fin 8) (k j : Fin 64) : gcol (gl e k) j = gl e j :=
  Fin.ext (by show (e.val * 64 + k.val) / 64 * 64 + j.val = e.val * 64 + j.val; omega)
theorem place_gl (e : Fin 8) (k : Fin 64) : place (gl e k) = k := Fin.ext (by show (e.val * 64 + k.val) % 64 = k.val; omega)
theorem gl_div (l : Fin 512) : gl ⟨l.val / 64, by omega⟩ ⟨l.val % 64, by omega⟩ = l :=
  Fin.ext (by show l.val / 64 * 64 + l.val % 64 = l.val; omega)

variable {A : Args} (hA : A.Real)

/-- A group of the gated product, and of its normalised form's gradient. -/
def gv (A : Args) (e : Fin 8) (b q : ℕ) (j : Fin 64) : ℝ := gy A (gl e j) b q
def du (A : Args) (e : Fin 8) (b q : ℕ) (j : Fin 64) : ℝ := dn A (gl e j) b q

theorem grp_gl (e : Fin 8) (k : Fin 64) (b q : ℕ) : grp A (gl e k) b q = gv A e b q :=
  funext fun j => by unfold grp gv; rw [gcol_gl]
theorem dgy_gl (e : Fin 8) (k : Fin 64) (b q : ℕ) : dgy A (gl e k) b q = Group.back (gv A e b q) (du A e b q) k := by
  unfold dgy
  rw [grp_gl, place_gl]
  exact congrArg (fun u => Group.back (gv A e b q) u k) (funext fun j => by rw [gcol_gl]; rfl)

include hA

theorem v7 (b : Fin 2) (s : Fin 2048) : val_main_v7 (F := Ideal) A.x (ix3 b s 0) = ((rs (row A.x (at2 b s)) : ℝ) : EReal) := by
  pointwise [val_main_v7, val_main_v6, val_main_v5, val_main_v4, val_main_v3, val_main_v2, val_main_v1, val_main_v0, val_main_cst, val_main_cst_0, val_main_cst_1]
  simp only [row_at hA.x, mul_coe, coe_sum, ofBits_1024, ofBits_eps, add_coe, div_coe _ (by norm_num : (1024 : ℝ) ≠ 0)]
  exact rsqrt_coe (ms_pos _)

theorem g_at (k : Fin 1024) : A.g (ix1 k) = ((vec A.g k : ℝ) : EReal) := coe_re (hA.g _)
theorem u_at (k : Fin 1024) (l : Fin 3072) : A.u (ix2 k l) = ((mat A.u k l : ℝ) : EReal) := coe_re (hA.u _)
theorem w_at (j : Fin 3) (l : Fin 512) : A.w (ix2 j l) = ((cw A l j : ℝ) : EReal) := coe_re (hA.w _)
theorem h_at (l : Fin 512) : A.h (ix1 l) = ((vec A.h l : ℝ) : EReal) := coe_re (hA.h _)

/-- The three factors. -/
theorem v13 (b : Fin 2) (s : Fin 2048) (r : Fin 3) (f : Fin 512) (l : Fin 3072) (h : l = pcol r f) :
    val_main_v13 (F := Ideal) A.x A.g A.u (ix3 b s l) = ((pj A r f (at2 b s) : ℝ) : EReal) := by
  subst h
  pointwise [val_main_v13, val_main_v12, val_main_v11, val_main_v10, val_main_v9, val_main_v8]
  simp only [v7 hA, row_at hA.x, g_at hA, u_at hA, mul_coe, coe_sum]
  rfl

theorem v17 (b : Fin 2) (s : Fin 2048) (f : Fin 512) :
    val_main_v17 (F := Ideal) A.x A.g A.u (ix3 b s f) = ((pj A 0 f (at2 b s) : ℝ) : EReal) := by
  pointwise [val_main_v17]
  exact v13 hA b s 0 f _ (Fin.ext (by show 1536 + f.val = 1536 + 0 * 512 + f.val; omega))
theorem v18 (b : Fin 2) (s : Fin 2048) (f : Fin 512) :
    val_main_v18 (F := Ideal) A.x A.g A.u (ix3 b s f) = ((pj A 1 f (at2 b s) : ℝ) : EReal) := by
  pointwise [val_main_v18]
  exact v13 hA b s 1 f _ (Fin.ext (by show 2048 + f.val = 1536 + 1 * 512 + f.val; omega))
theorem v19 (b : Fin 2) (s : Fin 2048) (f : Fin 512) :
    val_main_v19 (F := Ideal) A.x A.g A.u (ix3 b s f) = ((pj A 2 f (at2 b s) : ℝ) : EReal) := by
  pointwise [val_main_v19]
  exact v13 hA b s 2 f _ (Fin.ext (by show 2560 + f.val = 1536 + 2 * 512 + f.val; omega))

/-- The product the convolution runs over, with two rows of zeros before each sequence. -/
theorem v22 (b : Fin 2) (q : Fin 2050) (f : Fin 512) :
    val_main_v22 (F := Ideal) A.x A.g A.u (ix3 b q f) = ((Seq.pad (ConvMath.z A f) b.val (q.val + 6) : ℝ) : EReal) := by
  pointwise [val_main_v22, val_main_v21, val_main_v20, val_main_cst_2]
  by_cases hq : q.val < 2
  · rw [dif_pos hq, pad_lt _ (by omega)]
    rfl
  · rw [dif_neg hq, v18 hA, v19 hA, mul_coe]
    have e : q.val + 6 = (q.val - 2) + 8 := by omega
    rw [e, pad_at (ConvMath.z A f) b ⟨q.val - 2, by omega⟩]
    rfl

/-- The convolved columns. -/
theorem v45 (b : Fin 2) (s : Fin 2048) (f : Fin 512) :
    val_main_v45 (F := Ideal) A.x A.g A.u A.w (ix3 b s f) = ((ConvMath.cv A f b.val (s.val + 8) : ℝ) : EReal) := by
  pointwise [val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v27,
    val_main_v26, val_main_v25, val_main_v24, val_main_cst_4]
  simp only [v22 hA, w_at hA, mul_coe, add_coe]
  unfold ConvMath.cv Seq.conv
  rw [show s.val + 8 - 2 = s.val + 6 by omega, show s.val + 8 - 1 = 1 + s.val + 6 by omega, show 2 + s.val + 6 = s.val + 8 by omega]
  refine congrArg Real.toEReal ?_
  ring

/-- The gated product in its groups. -/
theorem v47 (b : Fin 2) (s : Fin 2048) (e : Fin 8) (k : Fin 64) :
    val_main_v47 (F := Ideal) A.x A.g A.u A.w (ix4 b s e k) = ((gv A e b.val (s.val + 8) k : ℝ) : EReal) := by
  pointwise [val_main_v47, val_main_v46]
  refine (congrArg₂ (· * ·) (v17 hA b s (gl e k)) (v45 hA b s (gl e k))).trans ?_
  rw [mul_coe]
  unfold gv gy
  rw [pad_at]

theorem v55 (b : Fin 2) (s : Fin 2048) (e : Fin 8) :
    val_main_v55 (F := Ideal) A.x A.g A.u A.w (ix4 b s e 0) = ((Group.ms (gv A e b.val (s.val + 8)) : ℝ) : EReal) := by
  pointwise [val_main_v55, val_main_v54, val_main_v53, val_main_v52, val_main_v51, val_main_v50, val_main_v49, val_main_cst_5, val_main_cst_6, val_main_cst_7]
  simp only [v47 hA, mul_coe, coe_sum, Group.ofBits_64, ofBits_eps, add_coe, div_coe _ (by norm_num : (64 : ℝ) ≠ 0)]
  rfl

theorem v56 (b : Fin 2) (s : Fin 2048) (e : Fin 8) :
    val_main_v56 (F := Ideal) A.x A.g A.u A.w (ix4 b s e 0) = ((Group.rs (gv A e b.val (s.val + 8)) : ℝ) : EReal) := by
  pointwise [val_main_v56]
  rw [v55 hA]
  exact rsqrt_coe (Group.ms_pos _)

theorem v59 (b : Fin 2) (s : Fin 2048) (e : Fin 8) : val_main_v59 (F := Ideal) A.x A.g A.u A.w (ix4 b s e 0)
    = ((-1 / 2 * (Group.rs (gv A e b.val (s.val + 8)) / Group.ms (gv A e b.val (s.val + 8))) : ℝ) : EReal) := by
  pointwise [val_main_v59, val_main_v58, val_main_v57, val_main_cst_8]
  simp only [v55 hA, v56 hA, div_coe _ (Group.ms_pos _).ne', ofBits_neg_half, mul_coe]

theorem v67 (b : Fin 2) (s : Fin 2048) (e : Fin 8) (k : Fin 64) :
    val_main_v67 (F := Ideal) A.y (ix4 b s e k) = ((row A.y (at2 b s) (ycol (gl e k)) : ℝ) : EReal) := by
  pointwise [val_main_v67, val_main_v66]
  exact row_at hA.y b s (ycol (gl e k))

theorem v72 (b : Fin 2) (s : Fin 2048) (e : Fin 8) (k : Fin 64) :
    val_main_v72 (F := Ideal) A.h A.y (ix4 b s e k) = ((du A e b.val (s.val + 8) k : ℝ) : EReal) := by
  pointwise [val_main_v72, val_main_v71, val_main_v62, val_main_v48]
  rw [v67 hA]
  refine (congrArg (_ * ·) (h_at hA (gl e k))).trans ?_
  rw [mul_coe]
  unfold du dn
  rw [pad_at]

theorem v83 (b : Fin 2) (s : Fin 2048) (e : Fin 8) (k : Fin 64) :
    val_main_v83 (F := Ideal) A.x A.g A.u A.w A.h A.y (ix4 b s e k)
    = (((∑ l, gv A e b.val (s.val + 8) l * du A e b.val (s.val + 8) l)
        * (-1 / 2 * (Group.rs (gv A e b.val (s.val + 8)) / Group.ms (gv A e b.val (s.val + 8)))) / 64 : ℝ) : EReal) := by
  pointwise [val_main_v83, val_main_v82, val_main_v81, val_main_v80, val_main_v79, val_main_v76, val_main_v75, val_main_v74, val_main_cst_11, val_main_cst_12, val_main_cst_13]
  simp only [v47 hA, v72 hA, mul_coe, coe_sum, Group.ofBits_64]
  rw [Fin.sum_univ_one, v59 hA, mul_coe, div_coe _ (by norm_num : (64 : ℝ) ≠ 0)]

/-- The gradient of the gated product. -/
theorem v89 (b : Fin 2) (s : Fin 2048) (l : Fin 512) :
    val_main_v89 (F := Ideal) A.x A.g A.u A.w A.h A.y (ix3 b s l) = ((dgy A l b.val (s.val + 8) : ℝ) : EReal) := by
  pointwise [val_main_v89, val_main_v87, val_main_v86, val_main_v85, val_main_v84, val_main_v78, val_main_v77]
  rw [v72 hA, v56 hA, v47 hA, v83 hA]
  simp only [mul_coe, add_coe]
  refine congrArg Real.toEReal ((Eq.trans ?_ (Group.back_eq (x := gv A ⟨l.val / 64, by omega⟩ b.val (s.val + 8))
    (u := du A ⟨l.val / 64, by omega⟩ b.val (s.val + 8)) ⟨l.val % 64, by omega⟩)).trans ?_)
  · ring
  · rw [← dgy_gl, gl_div]

/-- The gradient of the convolved columns. -/
theorem v90 (b : Fin 2) (s : Fin 2048) (l : Fin 512) :
    val_main_v90 (F := Ideal) A.x A.g A.u A.w A.h A.y (ix3 b s l) = ((ConvMath.dcv A l b.val (s.val + 8) : ℝ) : EReal) := by
  pointwise [val_main_v90]
  rw [v17 hA, v89 hA, mul_coe]
  unfold ConvMath.dcv
  rw [pad_at, mul_comm]

/-- The gradient of the product the convolution runs over. -/
theorem v124 (b : Fin 2) (s : Fin 2048) (l : Fin 512) :
    val_main_v124 (F := Ideal) A.x A.g A.u A.w A.h A.y (ix3 b s l) = ((ConvMath.dz A l b.val (s.val + 8) : ℝ) : EReal) := by
  have hz : ∀ n, ConvMath.dcv A l b.val (n + 2056) = 0 := fun n => dcv_ge _ _ (by omega)
  pointwise [val_main_v124, val_main_v122, val_main_v121, val_main_v116, val_main_v115, val_main_v27, val_main_v26, val_main_v25, val_main_v111,
    val_main_v110, val_main_v105, val_main_v104, val_main_v35, val_main_v34, val_main_v33, val_main_v100, val_main_v96, val_main_v95, val_main_v42,
    val_main_v41, val_main_v40, val_main_cst_17, val_main_cst_21, val_main_cst_25]
  simp only [v90 hA, w_at hA, mul_coe]
  have e1 : (if h_1 : 1 ≤ 2 + s.val ∧ 2 + s.val - 1 < 2048 then
      ((ConvMath.dcv A l b.val (2 + s.val - 1 + 8) * cw A l 1 : ℝ) : EReal) else 0)
      = ((ConvMath.dcv A l b.val (s.val + 8 + 1) * cw A l 1 : ℝ) : EReal) := by
    split
    · rw [show 2 + s.val - 1 + 8 = s.val + 8 + 1 by omega]
    · rw [show s.val + 8 + 1 = (s.val - 2047) + 2056 by omega, hz, zero_mul, EReal.coe_zero]
  have e2 : (if h_1 : 2 + s.val < 2048 then
      ((ConvMath.dcv A l b.val (2 + s.val + 8) * cw A l 0 : ℝ) : EReal) else 0)
      = ((ConvMath.dcv A l b.val (s.val + 8 + 2) * cw A l 0 : ℝ) : EReal) := by
    split
    · rw [show 2 + s.val + 8 = s.val + 8 + 2 by omega]
    · rw [show s.val + 8 + 2 = (s.val - 2046) + 2056 by omega, hz, zero_mul, EReal.coe_zero]
  rw [e1, e2, add_coe, add_coe]
  refine congrArg Real.toEReal ?_
  unfold ConvMath.dz Seq.back
  ring

/-! The three rows of the gradient of the convolution weights: the two sums of the reference are one. -/

theorem twice {v : S2x2048x512.Idx → EReal} {w : S1x1x512.Idx → EReal} {c c' : EReal} (hc : c = 0) (hc' : c' = 0) (l : Fin 512)
    (hw : w (ix3 0 0 l) = Ideal.hostReduceAdd reducesTo_S2x2048x512_S512_d0_1 v c' (ix1 l)) (j : Fin 3)
    (hv : ∀ (b : Fin 2) (q : Fin 2048), v (ix3 b q l) = ((Seq.pad (ConvMath.z A l) b.val (j.val + q.val + 6) * ConvMath.dcv A l b.val (q.val + 8) : ℝ) : EReal)) :
    Ideal.hostReduceAdd reducesTo_S1x1x512_S512_d0_1 w c (ix1 l) = ((ConvMath.dw A l j : ℝ) : EReal) := by
  rw [hostReduceAdd_r3_a01, Fin.sum_univ_one, Fin.sum_univ_one, hw, hostReduceAdd_r3_a01, hc, hc', zero_add, zero_add]
  simp only [hv, coe_sum]
  refine congrArg Real.toEReal ?_
  rw [dw_eq]
  refine Finset.sum_congr rfl fun b _ => Finset.sum_congr rfl fun q _ => ?_
  rw [mul_comm]
  refine congrArg (ConvMath.dcv A l b.val (q.val + 8) * ·) (congrArg (Seq.pad (ConvMath.z A l) b.val) ?_)
  omega

theorem v97 (l : Fin 512) : val_main_v97 (F := Ideal) A.x A.g A.u A.w A.h A.y (ix1 l) = ((ConvMath.dw A l 2 : ℝ) : EReal) := by
  refine twice hA (v := val_main_v92 (F := Ideal) A.x A.g A.u A.w A.h A.y) (w := val_main_v94 (F := Ideal) A.x A.g A.u A.w A.h A.y)
    (c' := val_main_cst_14 (F := Ideal) (Shape.Idx.first h_S_)) ?_ ?_ l ?_ 2 fun b q => ?_
  · pointwise [val_main_cst_15]
  · pointwise [val_main_cst_14]
  · pointwise [val_main_v94]
    rfl
  · pointwise [val_main_v92, val_main_v39]
    rw [v90 hA, v22 hA, mul_coe]

theorem v106 (l : Fin 512) : val_main_v106 (F := Ideal) A.x A.g A.u A.w A.h A.y (ix1 l) = ((ConvMath.dw A l 1 : ℝ) : EReal) := by
  refine twice hA (v := val_main_v101 (F := Ideal) A.x A.g A.u A.w A.h A.y) (w := val_main_v103 (F := Ideal) A.x A.g A.u A.w A.h A.y)
    (c' := val_main_cst_18 (F := Ideal) (Shape.Idx.first h_S_)) ?_ ?_ l ?_ 1 fun b q => ?_
  · pointwise [val_main_cst_19]
  · pointwise [val_main_cst_18]
  · pointwise [val_main_v103]
    rfl
  · pointwise [val_main_v101, val_main_v32]
    rw [v90 hA, v22 hA, mul_coe]

theorem v117 (l : Fin 512) : val_main_v117 (F := Ideal) A.x A.g A.u A.w A.h A.y (ix1 l) = ((ConvMath.dw A l 0 : ℝ) : EReal) := by
  refine twice hA (v := val_main_v112 (F := Ideal) A.x A.g A.u A.w A.h A.y) (w := val_main_v114 (F := Ideal) A.x A.g A.u A.w A.h A.y)
    (c' := val_main_cst_22 (F := Ideal) (Shape.Idx.first h_S_)) ?_ ?_ l ?_ 0 fun b q => ?_
  · pointwise [val_main_cst_23]
  · pointwise [val_main_cst_22]
  · pointwise [val_main_v114]
    rfl
  · pointwise [val_main_v112, val_main_v24]
    rw [v90 hA, v22 hA, mul_coe]

theorem v120 (j : Fin 3) (l : Fin 512) :
    val_main_v120 (F := Ideal) A.x A.g A.u A.w A.h A.y (ix2 j l) = ((ConvMath.dw A l j : ℝ) : EReal) := by
  pointwise [val_main_v120, val_main_v119, val_main_v118, val_main_v109, val_main_v108, val_main_v107, val_main_v99, val_main_v98, val_main_cst_16, val_main_cst_20, val_main_cst_24]
  rw [v97 hA, v106 hA, v117 hA]
  match j with
  | 0 => simp
  | 1 => simp
  | 2 => simp

/-- The gradient of the gain. -/
theorem v73 (e : Fin 8) (k : Fin 64) : val_main_v73 (F := Ideal) A.x A.g A.u A.w A.y (ix2 e k) = ((ConvMath.dh A (gl e k) : ℝ) : EReal) := by
  refine (Group.hostReduceAdd_r4_a01 reducesTo_S1x1x8x64_S8x64_d0_1 (val_main_v70 (F := Ideal) A.x A.g A.u A.w A.y) _ e k).trans ?_
  rw [Fin.sum_univ_one, Fin.sum_univ_one]
  pointwise [val_main_v70]
  refine (congrArg (_ + ·) (Group.hostReduceAdd_r4_a01 reducesTo_S2x2048x8x64_S8x64_d0_1 (val_main_v68 (F := Ideal) A.x A.g A.u A.w A.y) _ e k)).trans ?_
  pointwise [val_main_v68, val_main_v61, val_main_v60, val_main_cst_9, val_main_cst_10]
  simp only [v47 hA, v56 hA, v67 hA, mul_coe, coe_sum]
  refine congrArg Real.toEReal ?_
  unfold ConvMath.dh dhr
  refine Finset.sum_congr rfl fun b _ => Finset.sum_congr rfl fun q _ => ?_
  rw [pad_at, grp_gl, mul_comm]
  rfl

/-! ### The results -/

theorem v127 (b : Fin 2) (s : Fin 2048) (r : Fin 3) (f : Fin 512) (l : Fin 1536) (h : l.val = r.val * 512 + f.val) :
    val_main_v127 (F := Ideal) A.x A.g A.u A.w A.h A.y (ix3 b s l) = ((dpj A r f b.val (s.val + 8) : ℝ) : EReal) := by
  pointwise [val_main_v127, val_main_v91, val_main_v125, val_main_v126]
  have e : ∀ n (hn : n < 512), n = f.val → (⟨n, hn⟩ : Fin 512) = f := fun n hn h => Fin.ext h
  match r with
  | 0 =>
    have h' : l.val = f.val := h.trans (by show 0 * 512 + f.val = f.val; omega)
    rw [dif_pos (by omega), e _ _ h', v89 hA, v45 hA, mul_coe]
    rfl
  | 1 =>
    have h' : l.val = 512 + f.val := h.trans (by show 1 * 512 + f.val = 512 + f.val; omega)
    rw [dif_neg (by omega), dif_pos (by omega), e _ _ (by omega), v124 hA, v19 hA, mul_coe]
    show _ = ((ConvMath.dz A f b.val (s.val + 8) * Seq.pad (pj A 2 f) b.val (s.val + 8) : ℝ) : EReal)
    rw [pad_at]
  | 2 =>
    have h' : l.val = 1024 + f.val := h.trans (by show 2 * 512 + f.val = 1024 + f.val; omega)
    rw [dif_neg (by omega), dif_neg (by omega), e _ _ (by omega), v124 hA, v18 hA, mul_coe, mul_comm]
    show _ = ((ConvMath.dz A f b.val (s.val + 8) * Seq.pad (pj A 1 f) b.val (s.val + 8) : ℝ) : EReal)
    rw [pad_at]

theorem resDP : val_main_v131 (F := Ideal) A.x A.g A.u A.w A.h A.y A.p = DP A := by
  funext i
  idx_vars i
  pointwise [val_main_v131, val_main_v130, val_main_v129, val_main_v128]
  by_cases h : i1.val < 1536
  · rw [dif_pos h]
    exact (DP_lo A i0 i1 h).symm
  · rw [dif_neg h, v127 hA _ _ ⟨(i1.val - 1536) / 512, by omega⟩ ⟨(i1.val - 1536) % 512, by omega⟩ _
      (by show i1.val - 1536 = (i1.val - 1536) / 512 * 512 + (i1.val - 1536) % 512; omega)]
    exact (DP_hi A i0 i1 h).symm

theorem resDW : val_main_v120 (F := Ideal) A.x A.g A.u A.w A.h A.y = DW A := by
  funext i
  idx_vars i
  exact v120 hA i0 i1

theorem resDH : val_main_v132 (F := Ideal) A.x A.g A.u A.w A.y = DH A := by
  funext i
  idx_vars i
  pointwise [val_main_v132, val_main_v88]
  rw [v73 hA, gl_div]
  rfl

end Cert.ConvRefIdeal.Stage

end
-- ==== Proof.Conv.Claim.lean ====
/- The gradient of the short gated convolution: the kernel's three results and the reference's are equal wherever the
   arguments are finite. -/
module

public import proofs.«01_k».proof.Defs
public import proofs.«01_k».proof.Proof.Conv.Array
public import proofs.«01_k».proof.Proof.Conv.Ref
public import proofs.«01_k».proof.Proof.Gen.Conv
public import proofs.«01_k».proof.Proof.Gen.ConvRefIdeal.Run
public import Idealize.ShloMosaic.Adequacy
public import Idealize.ShloMosaic.Init

@[expose] public section

noncomputable section

namespace Cert.Proof

open Idealize.ShloMosaic Idealize.SL.Sem

instance pre_finite_conv : Cert.Pre_finite_conv.Facts where
  bcast_S_S2x2048x1024 := by decide
  reducesTo_S2x2048x1024_S_d0_1_2 := by decide
  h_S_ := by decide
  bcast_S_S1024 := by decide
  reducesTo_S1024_S_d0 := by decide
  bcast_S_S1024x3072 := by decide
  reducesTo_S1024x3072_S_d0_1 := by decide
  bcast_S_S3x512 := by decide
  reducesTo_S3x512_S_d0_1 := by decide
  bcast_S_S512 := by decide
  reducesTo_S512_S_d0 := by decide

/-- Where the condition holds, every element of the arguments is a real; the array written into may hold anything. -/
theorem reals_of_finite_conv {A : Cert.ConvMath.Args}
    (h : Cert.Pre_finite_conv.fn (F := Ideal) A.x A.g A.u A.w A.h A.y A.p = fun _ => 1#1) : A.Real := by
  have h0 := congrFun h fun a => a.elim0
  obtain ⟨h1, hy⟩ := Cert.Reals.andi_eq_one h0
  obtain ⟨h2, hh⟩ := Cert.Reals.andi_eq_one h1
  obtain ⟨h3, hw⟩ := Cert.Reals.andi_eq_one h2
  obtain ⟨h4, hu⟩ := Cert.Reals.andi_eq_one h3
  obtain ⟨hx, hg⟩ := Cert.Reals.andi_eq_one h4
  exact ⟨Cert.Reals.real_of_all A.x _ _ _ _ _ hx, Cert.Reals.real_of_all A.g _ _ _ _ _ hg, Cert.Reals.real_of_all A.u _ _ _ _ _ hu,
    Cert.Reals.real_of_all A.w _ _ _ _ _ hw, Cert.Reals.real_of_all A.h _ _ _ _ _ hh, Cert.Reals.real_of_all A.y _ _ _ _ _ hy⟩

/-- The reference's arguments as launched. -/
def convRefArgs (m' : (ℓ : Loc Cert.ConvRefIdeal.nD Cert.ConvRefIdeal.τ Cert.ConvRefIdeal.sig) → Buf (Elt Ideal) ℓ) (c : Dev Cert.ConvRefIdeal.nD) :
    Cert.ConvMath.Args :=
  ⟨StableHlo.launchContents m' c (Proc.tc.devRef Cert.ConvRefIdeal.main_arg0),
    StableHlo.launchContents m' c (Proc.tc.devRef Cert.ConvRefIdeal.main_arg1),
    StableHlo.launchContents m' c (Proc.tc.devRef Cert.ConvRefIdeal.main_arg2),
    StableHlo.launchContents m' c (Proc.tc.devRef Cert.ConvRefIdeal.main_arg3),
    StableHlo.launchContents m' c (Proc.tc.devRef Cert.ConvRefIdeal.main_arg4),
    StableHlo.launchContents m' c (Proc.tc.devRef Cert.ConvRefIdeal.main_arg5),
    StableHlo.launchContents m' c (Proc.tc.devRef Cert.ConvRefIdeal.main_arg6)⟩

/-- They are the kernel's, where the launches agree. -/
theorem convRefArgs_eq {m : (ℓ : Loc Cert.ConvIdeal.nD Cert.ConvIdeal.τ Cert.ConvIdeal.sig) → Buf (Elt Ideal) ℓ}
    {m' : (ℓ : Loc Cert.ConvRefIdeal.nD Cert.ConvRefIdeal.τ Cert.ConvRefIdeal.sig) → Buf (Elt Ideal) ℓ} {c : Dev Cert.ConvRefIdeal.nD}
    (h0 : m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0))
    (h1 : m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1))
    (h2 : m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2))
    (h3 : m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3))
    (h4 : m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4))
    (h5 : m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5))
    (h6 : m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)) :
    convRefArgs m' c = Cert.ConvIdeal.Block.args m c := by
  unfold Cert.ConvIdeal.Block.args
  rw [← h0, ← h1, ← h2, ← h3, ← h4, ← h5, ← h6]
  rfl

theorem conv_algebraic : Cert.algebraic_ConvIdeal_ConvRefIdeal_pre_finite_conv := by
  intro m g m' g' hpre hagree
  have hA : ∀ c, (Cert.ConvIdeal.Block.args m c).Real := fun c => reals_of_finite_conv (hpre c)
  have e : ∀ c, convRefArgs m' c = Cert.ConvIdeal.Block.args m c := fun c =>
    convRefArgs_eq (hagree c).1 (hagree c).2.1 (hagree c).2.2.1 (hagree c).2.2.2.1 (hagree c).2.2.2.2.1 (hagree c).2.2.2.2.2.1
      (hagree c).2.2.2.2.2.2
  have hB : ∀ c, (convRefArgs m' c).Real := fun c => (e c).symm ▸ hA c
  refine ⟨fun c => Cert.ConvMath.DP (Cert.ConvIdeal.Block.args m c), fun c => Cert.ConvMath.DW (Cert.ConvIdeal.Block.args m c),
    fun c => Cert.ConvMath.DH (Cert.ConvIdeal.Block.args m c), ?_, ?_⟩
  · refine (θ_run Cert.ConvIdeal.defs _ _).mono (fun r h c => ?_) (Cert.ConvIdeal.Body.run_main m g)
    have h1 := (h.1.written c (b := Cert.ConvIdeal.main_v20_0) (Finset.mem_singleton_self _)).trans
      ((Function.update_self _ _ _).trans (Cert.ConvIdeal.Block.final_hb (hA c)))
    have h2 := ((h.1.toR c).1 6).trans (Cert.ConvIdeal.Block.final6 (hA c))
    have h3 := ((h.1.toR c).1 7).trans (Cert.ConvIdeal.Block.final7 (hA c))
    exact ⟨h1, h2, h3, Cert.ConvIdeal.Body.kept m h.1.toR c⟩
  · refine (θ_run Cert.ConvRefIdeal.defs _ _).mono (fun r h c => ?_) (Cert.ConvRefIdeal.Value.run m' g')
    obtain ⟨h1, h2, h3, hk⟩ := h c
    have e := e c
    have q1 := (Cert.ConvRefIdeal.Stage.resDP (hB c)).trans (congrArg Cert.ConvMath.DP e)
    have q2 := (Cert.ConvRefIdeal.Stage.resDW (hB c)).trans (congrArg Cert.ConvMath.DW e)
    have q3 := (Cert.ConvRefIdeal.Stage.resDH (hB c)).trans (congrArg Cert.ConvMath.DH e)
    have p1 := h1.trans (Cert.ConvRefIdeal.Read.val_main_v131_eq (StableHlo.launchContents m' c))
    have p2 := h2.trans (Cert.ConvRefIdeal.Read.val_main_v120_eq (StableHlo.launchContents m' c))
    have p3 := h3.trans (Cert.ConvRefIdeal.Read.val_main_v132_eq (StableHlo.launchContents m' c))
    exact ⟨p1.trans q1, p2.trans q2, p3.trans q3, hk⟩

/-- The kernel's two programs have the same text. -/
theorem conv_defs : Cert.Conv.defs (F := Bits) = Cert.ConvIdeal.defs (F := Bits) := by sl_kernel_rfl

theorem conv_frame : Cert.quiescent_Conv := fun m ρ _ => by
  have h := Cert.ConvIdeal.Body.frame (F := Bits) m ρ
  rw [← conv_defs] at h
  exact h

/-- The reference leaves its arguments unchanged; it declares no semaphore. -/
theorem conv_ref_frame : Cert.quiescent_ConvRefIdeal := fun m ρ _ =>
  (θ_run Cert.ConvRefIdeal.defs _ _).mono (fun r h => ⟨fun c => (h c).2.2.2, sem_eq_zero_of_no_sems (by decide) r.2⟩)
    (Cert.ConvRefIdeal.Value.run m ρ)

end Cert.Proof

end
-- ==== Proof.Lib.Safe.lean ====
/- Programs of loads and stores that only need their buffers held, whatever these hold.

   Such a program, run on resources from which each buffer it touches can be taken and given back,
   ends with the same resources: its loads find something, its stores leave something. The claim is
   closed under sequence, choice and counted loops, so that a long straight line is gone through one
   operation at a time, with nothing kept of the contents. -/
module

public import Idealize.ShloMosaic.Lib.Exec
public import Idealize.ShloMosaic.Lib.Tactic
public import Idealize.ShloMosaic.Lib.Pipeline.Kit

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

/-- From `S` the buffer of `m` can be taken at some contents, and given back as it was. -/
class Reads (c : Thread nD τ) (S : sProp 𝕄) {sp : Space} {s : Shape} {e : EltTy} (m : Memref sig c.2.kind sp s e) : Prop where
  take : S ⊢ iprop(∃ f, (m.view.loc c ↦[m.view.set]{fullShare} f) ∗ ((m.view.loc c ↦[m.view.set]{fullShare} f) -∗ S))

/-- From `S` the buffer of `m` can be taken at some contents, and given back at any. -/
class Holds (c : Thread nD τ) (S : sProp 𝕄) {sp : Space} {s : Shape} {e : EltTy} (m : Memref sig c.2.kind sp s e) : Prop where
  take : S ⊢ iprop(∃ f, (m.view.loc c ↦[m.view.set]{fullShare} f) ∗ (∀ g, (m.view.loc c ↦[m.view.set]{fullShare} g) -∗ S))

/-- The buffer of `m` at some contents. -/
def some' (c : Thread nD τ) {sp : Space} {s : Shape} {e : EltTy} (m : Memref sig c.2.kind sp s e) : sProp 𝕄 :=
  iprop(∃ f, m.view.loc c ↦[m.view.set]{fullShare} f)

section Take

variable {c : Thread nD τ} {sp : Space} {s : Shape} {e : EltTy} {m : Memref sig c.2.kind sp s e}

instance holds_some : Holds c (some' c m : sProp 𝕄) m where
  take := by
    unfold some'
    iintro ⟨%f, H⟩
    iexists f
    isplitl [H]; · iexact H
    iintro %g H
    iexists g; iexact H

instance reads_owns (X : s.Idx → Val e) : Reads c (owns c m fullShare X : sProp 𝕄) m where
  take := by
    unfold owns
    iintro ⟨%f, %hf, H⟩
    iexists f
    isplitl [H]; · iexact H
    iintro H
    iexists f
    isplitr; · ipureintro; exact hf
    iexact H

instance reads_some : Reads c (some' c m : sProp 𝕄) m where
  take := by
    unfold some'
    iintro ⟨%f, H⟩
    iexists f
    isplitl [H]; · iexact H
    iintro H
    iexists f; iexact H

instance (priority := 200) reads_left {P Q : sProp 𝕄} [h : Reads c P m] : Reads c iprop(P ∗ Q) m where
  take := by
    iintro ⟨HP, HQ⟩
    icases h.take $$ HP with ⟨%f, H, HK⟩
    iexists f
    isplitl [H]; · iexact H
    iintro H
    isplitr [HQ]; · iapply HK; iexact H
    iexact HQ

instance (priority := low) reads_right {P Q : sProp 𝕄} [h : Reads c Q m] : Reads c iprop(P ∗ Q) m where
  take := by
    iintro ⟨HP, HQ⟩
    icases h.take $$ HQ with ⟨%f, H, HK⟩
    iexists f
    isplitl [H]; · iexact H
    iintro H
    isplitl [HP]; · iexact HP
    iapply HK; iexact H

instance (priority := 200) holds_left {P Q : sProp 𝕄} [h : Holds c P m] : Holds c iprop(P ∗ Q) m where
  take := by
    iintro ⟨HP, HQ⟩
    icases h.take $$ HP with ⟨%f, H, HK⟩
    iexists f
    isplitl [H]; · iexact H
    iintro %g H
    isplitr [HQ]; · iapply HK; iexact H
    iexact HQ

instance (priority := low) holds_right {P Q : sProp 𝕄} [h : Holds c Q m] : Holds c iprop(P ∗ Q) m where
  take := by
    iintro ⟨HP, HQ⟩
    icases h.take $$ HQ with ⟨%f, H, HK⟩
    iexists f
    isplitl [H]; · iexact H
    iintro %g H
    isplitl [HP]; · iexact HP
    iapply HK; iexact H

end Take

variable (defs : Defs nD τ sig Val Λ) (𝒱 : Variants) (c : Thread nD τ)

/-- `p`, run on `S`, ends and gives `S` back. -/
def Safe (S : sProp 𝕄) {α : Type} (p : Prog (TpuEff nD τ sig Val Λ c.2) α) : Prop :=
  S ⊢ wp frame (wpE defs 𝒱 c none) Set.univ p (fun _ => S)

variable {defs 𝒱 c} {α β : Type}

theorem Safe.pure {S : sProp 𝕄} (a : α) : Safe (Ix := Ix) (Name := Name) (U := U) (Lvl := Lvl) defs 𝒱 c S (Pure.pure a : Prog (TpuEff nD τ sig Val Λ c.2) α) := by
  unfold Safe; exact le_wp_ret _ _ _ a (fun _ => S)

theorem Safe.bind {S : sProp 𝕄} {p : Prog (TpuEff nD τ sig Val Λ c.2) α} {k : α → Prog (TpuEff nD τ sig Val Λ c.2) β}
    (hp : Safe (Ix := Ix) (Name := Name) (U := U) (Lvl := Lvl) defs 𝒱 c S p) (hk : ∀ a, Safe (Ix := Ix) (Name := Name) (U := U) (Lvl := Lvl) defs 𝒱 c S (k a)) : Safe (Ix := Ix) (Name := Name) (U := U) (Lvl := Lvl) defs 𝒱 c S (p >>= k) := by
  unfold Safe; rw [wp_bind]
  unfold Safe at hp hk; exact hp.trans (wp_mono _ _ _ hk)

theorem Safe.load {S : sProp 𝕄} {cs : CoreSpace} {s : Shape} {e : EltTy} (m : Memref sig c.2.kind cs s e) (r : LoadRect s) (hl : m.view.LoadsAt r)
    [h : Reads c S m] : Safe (Ix := Ix) (Name := Name) (U := U) (Lvl := Lvl) defs 𝒱 c S (Prog.lift (.load m r hl)) := by
  unfold Safe
  refine h.take.trans ?_
  iintro ⟨%f, H, HK⟩
  iapply (wp_load (Ix := Ix) (Name := Name) (U := U) (Lvl := Lvl) (defs := defs) 𝒱 c none Set.univ (Γ := .empty) (m := m) (r := r) (hl := hl)
    (k := Prog.ret) (Q := fun _ => S) (f := f) (q := fullShare) (View.setOn_subset_set _ _)) $$ H
  iintro H
  iapply (le_wp_ret _ _ _ _ (fun _ => S))
  iapply HK; iexact H

theorem Safe.store {S : sProp 𝕄} {cs : CoreSpace} {s : Shape} {e : EltTy} (m : Memref sig c.2.kind cs s e) (r : Rect s) (w : r.shape.Idx → Val e)
    (Mk : Finset r.shape.Idx) (hx : (m.access r).Stores Mk) (hm : Mk = Finset.univ ∨ ∀ a, r.stride a = 1)
    [h : Holds c S m] : Safe (Ix := Ix) (Name := Name) (U := U) (Lvl := Lvl) defs 𝒱 c S (Prog.lift (.store m r w Mk hx hm)) := by
  unfold Safe
  refine h.take.trans ?_
  iintro ⟨%f, H, HK⟩
  iapply (wp_store (Ix := Ix) (Name := Name) (U := U) (Lvl := Lvl) (defs := defs) 𝒱 c none Set.univ (Γ := .empty) (m := m) (r := r) (w := w)
    (Mk := Mk) (hx := hx) (hm := hm) (k := Prog.ret) (Q := fun _ => S) (f := f) (S := m.view.set) ((View.setOn_subset_set _ _).trans (View.set_slice_subset _ _))) $$ H
  iintro H
  iapply (le_wp_ret _ _ _ _ (fun _ => S))
  iapply HK; iexact H

theorem Safe.for {S : sProp 𝕄} {w : ℕ} {σ : Type} (lb ub st : BitVec w) (hok : Scf.OK lb ub st) (init : σ)
    (body : Fin (Scf.trips lb ub st) → σ → Prog (TpuEff nD τ sig Val Λ c.2) σ) (hb : ∀ k a, Safe (Ix := Ix) (Name := Name) (U := U) (Lvl := Lvl) defs 𝒱 c S (body k a)) :
    Safe (Ix := Ix) (Name := Name) (U := U) (Lvl := Lvl) defs 𝒱 c S (Scf.for lb ub st hok init body) := by
  unfold Safe at hb ⊢
  iintro H
  iapply (Scf.wp_for _ _ _ lb ub st hok init body (fun _ _ => S) hb)
  isplitl [H]; · iexact H
  iintro %a H; iexact H

theorem Safe.dite {S : sProp 𝕄} {q : Prop} [Decidable q] {a : q → Prog (TpuEff nD τ sig Val Λ c.2) α} {b : ¬ q → Prog (TpuEff nD τ sig Val Λ c.2) α}
    (ha : ∀ h, Safe (Ix := Ix) (Name := Name) (U := U) (Lvl := Lvl) defs 𝒱 c S (a h))
    (hb : ∀ h, Safe (Ix := Ix) (Name := Name) (U := U) (Lvl := Lvl) defs 𝒱 c S (b h)) :
    Safe (Ix := Ix) (Name := Name) (U := U) (Lvl := Lvl) defs 𝒱 c S (if h : q then a h else b h) := by
  by_cases h : q
  · rw [dif_pos h]; exact ha h
  · rw [dif_neg h]; exact hb h

/-- A first part that gives `S` back, before what follows it. -/
theorem Safe.step {S : sProp 𝕄} {p : Prog (TpuEff nD τ sig Val Λ c.2) α} {k : α → Prog (TpuEff nD τ sig Val Λ c.2) β} {K : β → sProp 𝕄}
    (hp : Safe (Ix := Ix) (Name := Name) (U := U) (Lvl := Lvl) defs 𝒱 c S p)
    (hk : ∀ a, S ⊢ wp frame (wpE defs 𝒱 c none) Set.univ (k a) K) :
    S ⊢ wp frame (wpE defs 𝒱 c none) Set.univ (p >>= k) K := by
  unfold Safe at hp
  rw [wp_bind]; exact hp.trans (wp_mono _ _ _ hk)

end Cert.Safe

end
-- ==== Proof.Attn.Run.lean ====
/- The attention backward kernel's body at a grid point: it runs to its end and gives every buffer back.

   Nothing is said of what it computes. The inputs' buffers are only read; the scratch buffers, the gain's
   gradient and the result in HBM are held before and after at contents left open. -/
module

public import proofs.«01_k».proof.Proof.Lib.Safe
public import proofs.«01_k».proof.Proof.Gen.AttnIdeal.Launch
public import proofs.«01_k».proof.Proof.Gen.AttnIdeal.Points
public import proofs.«01_k».proof.Proof.Gen.AttnIdeal.Skeleton
public import Idealize.ShloMosaic.Lib.Pipeline.FrameBody
public import Idealize.ShloMosaic.Lib.Tactic

@[expose] public section

set_option maxRecDepth 65536

noncomputable section

namespace Cert.AttnIdeal.Body

open Cert.AttnIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S2048x128 .f32) (harg6 : arg6.IsWhole)
  (arg7 : Memref sig .tc .vmem S2048x128 .bf16) (harg7 : arg7.IsWhole)
  (arg8 : Memref sig .tc .vmem S1x128 .f32) (harg8 : arg8.IsWhole)
  (arg9 : Memref sig .tc .vmem S8x256 .f32) (harg9 : arg9.IsWhole)
  (arg10 : Memref sig .tc .hbm S4096x3072 .bf16) (harg10 : arg10.IsWhole)
  (arg11 : Memref sig .tc .vmem S1x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x128 .f32) (harg14 : arg14.IsWhole)
  (arg15 : Memref sig .tc .vmem S2048x128 .f32) (harg15 : arg15.IsWhole)
  (arg16 : Memref sig .tc .vmem S2048x128 .f32) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S2048x128 .f32) (harg19 : arg19.IsWhole)
  (arg20 : Memref sig .tc .vmem S2048x128 .f32) (harg20 : arg20.IsWhole)
  (arg21 : Memref sig .tc .vmem S2048x128 .f32) (harg21 : arg21.IsWhole)
  (arg22 : Memref sig .tc .vmem S2048x128 .f32) (harg22 : arg22.IsWhole)
  (arg23 : Memref sig .tc .vmem S2048x128 .f32) (harg23 : arg23.IsWhole)
  (arg24 : Memref sig .tc .vmem S2048x128 .f32) (harg24 : arg24.IsWhole)
  (arg25 : Memref sig .tc .vmem S2048x128 .f32) (harg25 : arg25.IsWhole)
  (arg26 : Memref sig .tc .vmem S3x2048x128 .bf16) (harg26 : arg26.IsWhole)
  (x2 x3 x4 x5 x6 : Vec F S2048x128 .f32) (x7 : Vec F S2048x128 .bf16) (x8 : Vec F S1x128 .f32) (x9 : Vec F S8x256 .f32)

/-- What the body holds throughout: the inputs' buffers at their blocks, the others at some contents, the copies' counters
    at zero and the debt. -/
def kept : sProp 𝕄 :=
  iprop(owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ some' (c : Thread nD τ) arg11
    ∗ some' (c : Thread nD τ) arg12
    ∗ some' (c : Thread nD τ) arg13
    ∗ some' (c : Thread nD τ) arg14
    ∗ some' (c : Thread nD τ) arg15
    ∗ some' (c : Thread nD τ) arg16
    ∗ some' (c : Thread nD τ) arg17
    ∗ some' (c : Thread nD τ) arg18
    ∗ some' (c : Thread nD τ) arg19
    ∗ some' (c : Thread nD τ) arg20
    ∗ some' (c : Thread nD τ) arg21
    ∗ some' (c : Thread nD τ) arg22
    ∗ some' (c : Thread nD τ) arg23
    ∗ some' (c : Thread nD τ) arg24
    ∗ some' (c : Thread nD τ) arg25
    ∗ some' (c : Thread nD τ) arg26
    ∗ some' (c : Thread nD τ) arg10
    ∗ semVal ((c : Thread nD τ), SemLoc.dma 17) 0 ∗ semVal ((c : Thread nD τ), SemLoc.dma 18) 0 ∗ semVal ((c : Thread nD τ), SemLoc.dma 19) 0 ∗ ∃ W, owes (c : Thread nD τ) 0 W)

/-- A program of the kernel's core that runs on what the body holds and gives it back. -/
abbrev Kept {α : Type} (p : Prog (TpuEff nD τ sig (Elt F) Λ₀ .tc) α) : Prop :=
  Safe (Ix := Unit) (Name := ℕ) (U := Pipeline.UD sig nD τ) (Lvl := ℕ) (defs₀ (F := F)) Variants.none (c : Thread nD τ)
    (kept c arg2 arg3 arg4 arg5 arg6 arg7 arg8 arg9 arg10 arg11 arg12 arg13 arg14 arg15 arg16 arg17 arg18 arg19 arg20 arg21 arg22 arg23 arg24 arg25 arg26 x2 x3 x4 x5 x6 x7 x8 x9) p

/-- The window of the result that the first copy fills: the queries' gradient. -/
abbrev win0 (M : Memref sig .tc .hbm S4096x3072 .bf16) (i : grid0.Coords) : Memref sig .tc .hbm S2048x128 .bf16 :=
  M.slice (Rect.unit (s := S4096x3072) (k0_off15 i) S2048x128.size (k0_off15_inb i)) (fun _ => rfl)

/-- The windows that the second and third copies fill: the keys' and the values' gradients. -/
abbrev win1 (M : Memref sig .tc .hbm S4096x3072 .bf16) (i : grid0.Coords) (r : Fin 2) : Memref sig .tc .hbm S2048x128 .bf16 :=
  M.slice (Rect.unit (s := S4096x3072) (k0_off16 i (BitVec.ofNat 32 (4 + 4 * r.val))) S2048x128.size (k0_off16_inb i r)) (fun _ => rfl)

set_option maxHeartbeats 4000000 in
/-- The body's first third gives back what it holds. -/
theorem part135_safe :
    Kept c arg2 arg3 arg4 arg5 arg6 arg7 arg8 arg9 arg10 arg11 arg12 arg13 arg14 arg15 arg16 arg17 arg18 arg19 arg20 arg21 arg22 arg23 arg24 arg25 arg26 x2 x3 x4 x5 x6 x7 x8 x9
      (k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch15 ) := by
  unfold Kept kept
  rw [k0_part135_eq_skeleton]; unfold k0_part135_skel
  repeat first
    | with_reducible exact Safe.pure _
    | with_reducible exact Safe.load _ _ _
    | with_reducible exact Safe.store _ _ _ _ _ _
    | with_reducible refine Safe.bind ?_ (fun _ => ?_)
    | with_reducible refine Safe.dite (fun _ => ?_) (fun _ => ?_)
    | with_reducible refine Safe.for _ _ _ _ _ _ (fun _ _ => ?_)
    | (rw [k0_part12_eq_skeleton]; unfold k0_part12_skel)
    | refine Safe.bind ?_ (fun _ => ?_)
    | exact Safe.pure _

set_option maxHeartbeats 4000000 in
/-- Its second third too. -/
theorem part136_safe (v4 v8 v13 v18 v2082 v2674 v2678 v2680 v2681) :
    Kept c arg2 arg3 arg4 arg5 arg6 arg7 arg8 arg9 arg10 arg11 arg12 arg13 arg14 arg15 arg16 arg17 arg18 arg19 arg20 arg21 arg22 arg23 arg24 arg25 arg26 x2 x3 x4 x5 x6 x7 x8 x9
      (k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch15 v4 v8 v13 v18 v2082 v2674 v2678 v2680 v2681) := by
  unfold Kept kept
  rw [k0_part136_eq_skeleton]; unfold k0_part136_skel
  repeat first
    | with_reducible exact Safe.pure _
    | with_reducible exact Safe.load _ _ _
    | with_reducible exact Safe.store _ _ _ _ _ _
    | with_reducible refine Safe.bind ?_ (fun _ => ?_)
    | with_reducible refine Safe.dite (fun _ => ?_) (fun _ => ?_)
    | with_reducible refine Safe.for _ _ _ _ _ _ (fun _ _ => ?_)
    | (rw [k0_part12_eq_skeleton]; unfold k0_part12_skel)
    | refine Safe.bind ?_ (fun _ => ?_)
    | exact Safe.pure _

set_option maxHeartbeats 4000000 in
/-- The whole body. Its last lines copy the three gradients to the result, in windows apart from one another,
    and wait for the copies. -/
theorem run (hd10 : Disjoint (win1 arg10 i 0).view.set (win0 arg10 i).view.set) (hd20 : Disjoint (win1 arg10 i 1).view.set (win0 arg10 i).view.set)
    (hd21 : Disjoint (win1 arg10 i 1).view.set (win1 arg10 i 0).view.set) :
    Kept c arg2 arg3 arg4 arg5 arg6 arg7 arg8 arg9 arg10 arg11 arg12 arg13 arg14 arg15 arg16 arg17 arg18 arg19 arg20 arg21 arg22 arg23 arg24 arg25 arg26 x2 x3 x4 x5 x6 x7 x8 x9
      (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch15) := by
  unfold Kept
  rw [cc0_attn_bwd_eq_skeleton]; unfold cc0_attn_bwd_skel
  refine Safe.bind (by apply part135_safe) (fun _ => ?_)
  refine Safe.bind (by apply part136_safe) (fun _ => ?_)
  rw [k0_part137_eq_skeleton]; unfold k0_part137_skel Safe
  rw [wp_bind]
  unfold kept
  iterate 14
    refine Safe.step ?_ (fun _ => ?_)
    · repeat first
        | with_reducible exact Safe.pure _
        | with_reducible exact Safe.load _ _ _
        | with_reducible exact Safe.store _ _ _ _ _ _
        | with_reducible refine Safe.bind ?_ (fun _ => ?_)
        | with_reducible refine Safe.dite (fun _ => ?_) (fun _ => ?_)
        | with_reducible refine Safe.for _ _ _ _ _ _ (fun _ _ => ?_)
        | (rw [k0_part12_eq_skeleton]; unfold k0_part12_skel)
        | refine Safe.bind ?_ (fun _ => ?_)
        | exact Safe.pure _
  rw [← wp_bind]
  simp only [bind_assoc, pure_bind]
  unfold owns some'
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩,
    ⟨%f22, H22⟩, ⟨%f23, H23⟩, ⟨%f24, H24⟩, ⟨%f25, H25⟩, ⟨%f26, H26⟩, ⟨%f10, H10⟩, Hq0, Hq1, Hq2, ⟨%W, HW⟩⟩
  sl_exec
  sl_step
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H10]; · iexists _; iexact H10
  isplitl [Hq0]; · iexact Hq0
  isplitl [Hq1]; · iexact Hq1
  isplitl [Hq2]; · iexact Hq2
  iexists _; iexact HW

end Cert.AttnIdeal.Body

end
-- ==== Proof.Attn.Frame.lean ====
/- The attention backward kernel runs to its end, whatever it computes.

   Eight points. Each takes the inputs' blocks and gives them back, and leaves the gain's gradient, its scratch
   buffers and the result in HBM at contents left open; so each is held between points at some contents. -/
module

public import proofs.«01_k».proof.Proof.Attn.Run
public import proofs.«01_k».proof.Proof.Gen.AttnIdeal.Frame
public import Idealize.ShloMosaic.Lib.ViewIndex

@[expose] public section

set_option maxRecDepth 16384

noncomputable section

namespace Cert.AttnIdeal.Body

open Cert.AttnIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The windows of the result -/

theorem cols_apart0 : ∀ (i : grid0.Coords) (r : Fin 2), k0_off15 i 1 + 128 ≤ k0_off16 i (BitVec.ofNat 32 (4 + 4 * r.val)) 1 := by decide +kernel
theorem cols_apart1 : ∀ i : grid0.Coords,
    k0_off16 i (BitVec.ofNat 32 (4 + 4 * (0 : Fin 2).val)) 1 + 128 ≤ k0_off16 i (BitVec.ofNat 32 (4 + 4 * (1 : Fin 2).val)) 1 := by decide +kernel

/-- The windows of one point lie in different columns. -/
theorem win_disjoint0 (M : Memref sig .tc .hbm S4096x3072 .bf16) (i : grid0.Coords) (r : Fin 2) :
    Disjoint (win1 M i r).view.set (win0 M i).view.set :=
  View.disjoint_slice (Rect.unit_disjoint 1 (Or.inr (cols_apart0 i r)))
theorem win_disjoint1 (M : Memref sig .tc .hbm S4096x3072 .bf16) (i : grid0.Coords) :
    Disjoint (win1 M i 1).view.set (win1 M i 0).view.set :=
  View.disjoint_slice (Rect.unit_disjoint 1 (Or.inr (cols_apart1 i)))

/-! ## Whole buffers at some contents -/

/-- A whole buffer at some contents, in the form the body holds it. -/
theorem some_whole (c : Dev nD) (b : Ref sig .tc) :
    (iprop(∃ f : Buf (Elt F) ((c : Thread nD τ).loc b), ((c : Thread nD τ).loc b) ↦{fullShare} f) : sProp 𝕄)
      = some' (c : Thread nD τ) (Memref.whole b) := by
  have e : (Memref.whole b).view.set = Finset.univ := View.set_whole b
  unfold some'
  show _ = iprop(∃ f : Buf (Elt F) ((c : Thread nD τ).loc b), ((c : Thread nD τ).loc b) ↦[(Memref.whole b).view.set]{fullShare} f)
  rw [e]

/-- A buffer at some contents, read as values or not. -/
theorem some_owns (c : Dev nD) {sp : Space} {s : Shape} {e : EltTy} (M : Memref sig .tc sp s e) :
    (some' (c : Thread nD τ) M : sProp 𝕄) ⊢ iprop(∃ X, owns (c : Thread nD τ) M fullShare X) := by
  unfold some' owns
  iintro ⟨%f, H⟩
  iexists _; iexists f
  isplitr; · ipureintro; rfl
  iexact H
theorem owns_some (c : Dev nD) {sp : Space} {s : Shape} {e : EltTy} (M : Memref sig .tc sp s e) (X : s.Idx → Elt F e) :
    (owns (c : Thread nD τ) M fullShare X : sProp 𝕄) ⊢ some' (c : Thread nD τ) M := by
  unfold some' owns
  iintro ⟨%f, -, H⟩
  iexists f; iexact H

/-! ## The proof data -/

abbrev osem0 : Fin 3 → SemLoc sig := fun j => (![SemLoc.dma 17, SemLoc.dma 18, SemLoc.dma 19] : Fin 3 → SemLoc sig) j
theorem osem_facts : Pipeline.OwnSemFacts spec0 osem0 := by decide
/-- The body writes one buffer of the host itself and reads none. -/
def R0 : Finset (Ref sig .tc) := {main_v124_0}
theorem none_sub : (∅ : Finset (Ref sig .tc)) ⊆ Pipeline.restRefs sig spec0 := Finset.empty_subset _
theorem result_rest : main_v124_0 ∈ Pipeline.restRefs sig spec0 := Pipeline.mem_restRefs_of main_v124_0 (by decide) (by decide)
theorem R0_sub : R0 ⊆ Pipeline.restRefs sig spec0 \ ∅ := by
  rw [Finset.sdiff_empty]; exact Finset.singleton_subset_iff.2 result_rest

/-- The scratch buffers at some contents. -/
def scratch (c : Dev nD) : sProp 𝕄 :=
  iprop(some' (c : Thread nD τ) (Memref.whole cc0_scratch0)
    ∗ some' (c : Thread nD τ) (Memref.whole cc0_scratch1)
    ∗ some' (c : Thread nD τ) (Memref.whole cc0_scratch2)
    ∗ some' (c : Thread nD τ) (Memref.whole cc0_scratch3)
    ∗ some' (c : Thread nD τ) (Memref.whole cc0_scratch4)
    ∗ some' (c : Thread nD τ) (Memref.whole cc0_scratch5)
    ∗ some' (c : Thread nD τ) (Memref.whole cc0_scratch6)
    ∗ some' (c : Thread nD τ) (Memref.whole cc0_scratch7)
    ∗ some' (c : Thread nD τ) (Memref.whole cc0_scratch8)
    ∗ some' (c : Thread nD τ) (Memref.whole cc0_scratch9)
    ∗ some' (c : Thread nD τ) (Memref.whole cc0_scratch10)
    ∗ some' (c : Thread nD τ) (Memref.whole cc0_scratch11)
    ∗ some' (c : Thread nD τ) (Memref.whole cc0_scratch12)
    ∗ some' (c : Thread nD τ) (Memref.whole cc0_scratch13)
    ∗ some' (c : Thread nD τ) (Memref.whole cc0_scratch14))

theorem invariant_eq (c : Dev nD) :
    (Pipeline.ΦDR osem0 spec0 ∅ R0 (V m) c : sProp 𝕄)
      = iprop(scratch (F := F) c ∗ (∃ r, prngReg c r)
          ∗ iprop(semVal ((c : Thread nD τ), SemLoc.dma 17) 0 ∗ semVal ((c : Thread nD τ), SemLoc.dma 18) 0
                  ∗ semVal ((c : Thread nD τ), SemLoc.dma 19) 0)
          ∗ emp ∗ some' (c : Thread nD τ) (Memref.whole main_v124_0)) := by
  have h1 : (Pipeline.ownSems0 (Ix := Unit) (Name := ℕ) (U := Pipeline.UD sig nD τ) (Lvl := ℕ) (Val := Elt F) (τ := τ) osem0 c : sProp 𝕄)
      = iprop(semVal ((c : Thread nD τ), SemLoc.dma 17) 0 ∗ semVal ((c : Thread nD τ), SemLoc.dma 18) 0
          ∗ semVal ((c : Thread nD τ), SemLoc.dma 19) 0) := by
    rw [Pipeline.ownSems0_eq_of_list c osem0 [0, 1, 2] (by decide) (by decide)]; rfl
  have h2 : (Pipeline.owned R0 c : sProp 𝕄) = some' (c : Thread nD τ) (Memref.whole main_v124_0) := by
    unfold Pipeline.owned R0
    rw [BI.bigSep_singleton, some_whole]
  have h3 : (Pipeline.scopedRest (Ix := Unit) (Name := ℕ) (U := Pipeline.UD sig nD τ) (Lvl := ℕ) (Val := Elt F) spec0 c : sProp 𝕄) = scratch (F := F) c := by
    rw [scopedRest0_eq]; simp only [some_whole]; rfl
  rw [Pipeline.ΦDR_eq, h3, h1, h2, BI.bigSep_empty]; rfl

/-- The proof data: the inputs' buffers at their blocks, the gain's gradient unnamed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed (cfg := cfg0) 8 t
    | ⟨_ + 9, h⟩ => absurd h (Nat.not_lt.2 (Nat.le_add_left _ _))
  Φ _ := Pipeline.ΦDR osem0 spec0 ∅ R0 (V m) c
  q w := Pipeline.shareOf spec0 w
  owed _ := 0

/-- The windows nothing is said of: the gain's gradient. -/
def open8 : Fin cfg0.W → Bool := ![false, false, false, false, false, false, false, false, true]

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]) t d).trans
    (by unfold Dat.fetched Dat.blockOf iblk; rw [A_eq]; try rfl)

theorem live : ∀ (w : Fin cfg0.W) (t : Fin cfg0.N), cfg0.idle w (grid0.coords t) = false := by decide +kernel

/-! ## The body at a point -/

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

/-- What the body holds at point `t`. -/
abbrev at' (c : Dev nD) (t : Fin cfg0.N) : sProp 𝕄 :=
  kept c (st0_0 t) (st0_1 t) (st0_2 t) (st0_3 t) (st0_4 t) (st0_5 t) (st0_6 t) (st0_7 t) (Memref.whole main_v124_0) (st0_8 t)
    (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14)
    (iblk m c 0 t) (iblk m c 1 t) (iblk m c 2 t) (iblk m c 3 t) (iblk m c 4 t) (iblk m c 5 t) (iblk m c 6 t) (iblk m c 7 t)

theorem step (c : Dev nD) (t : Fin cfg0.N) :
    at' m c t ⊢ wp frame (wpE (defs₀ (F := F)) Variants.none c none) Set.univ (bodyAt0 t) (fun _ => at' m c t) := by
  have h := run (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole main_v124_0) (Memref.isWhole_whole _) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _)
    (iblk m c 0 t) (iblk m c 1 t) (iblk m c 2 t) (iblk m c 3 t) (iblk m c 4 t) (iblk m c 5 t) (iblk m c 6 t) (iblk m c 7 t)
    (win_disjoint0 _ _ 0) (win_disjoint0 _ _ 1) (win_disjoint1 _ _)
  unfold Kept Safe at h
  exact h

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t
    ∗ (∃ X, owns (c : Thread nD τ) (st0_8 t) fullShare X))

theorem sound_body (c : Dev nD) (t : Fin cfg0.N) :
    bodyPre m c t ⊢ wp frame (wpE (defs₀ (F := F)) Variants.none c none) Set.univ (bodyAt0 t) (fun _ => bodyPost m c t) := by
  have enter : bodyPre m c t ⊢ iprop((∃ r, prngReg c r) ∗ at' m c t) := by
    unfold bodyPre at' kept
    simp only [before0_0, before0_1, before0_2, before0_3, before0_4, before0_5, before0_6, before0_7]
    rw [show (dats m 0 c).Φ t.castSucc = Pipeline.ΦDR osem0 spec0 ∅ R0 (V m) c from rfl, invariant_eq]
    unfold Dat.owesAt Pipeline.owesWithin scratch
    rw [show (dats m 0 c).owed t.castSucc = 0 from rfl]
    iintro ⟨⟨⟨S0, S1, S2, S3, S4, S5, S6, S7, S8, S9, S10, S11, S12, S13, S14⟩, Hg, ⟨Hq0, Hq1, Hq2⟩, -, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%X, H8⟩⟩
    isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (owns_some c (st0_8 t) X); iexact H8
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [Hr]; · iexact Hr
    isplitl [Hq0]; · iexact Hq0
    isplitl [Hq1]; · iexact Hq1
    isplitl [Hq2]; · iexact Hq2
    iexists W; iexact HW
  have leave : iprop((∃ r, prngReg c r) ∗ at' m c t) ⊢ bodyPost m c t := by
    unfold bodyPost at' kept
    simp only [leaves_eq, after0_0, after0_1, after0_2, after0_3, after0_4, after0_5, after0_6, after0_7]
    rw [show (dats m 0 c).Φ t.succ = Pipeline.ΦDR osem0 spec0 ∅ R0 (V m) c from rfl, invariant_eq]
    unfold Dat.owesAt Pipeline.owesWithin scratch
    rw [show (dats m 0 c).owed t.succ = 0 from rfl]
    iintro ⟨Hg, H0, H1, H2, H3, H4, H5, H6, H7, H8, S0, S1, S2, S3, S4, S5, S6, S7, S8, S9, S10, S11, S12, S13, S14, Hr, Hq0, Hq1, Hq2, ⟨%W, HW⟩⟩
    isplitl [S0 S1 S2 S3 S4 S5 S6 S7 S8 S9 S10 S11 S12 S13 S14 Hg Hq0 Hq1 Hq2 Hr]
    · isplitl [S0 S1 S2 S3 S4 S5 S6 S7 S8 S9 S10 S11 S12 S13 S14]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        iexact S14
      isplitl [Hg]; · iexact Hg
      isplitl [Hq0 Hq1 Hq2]
      · isplitl [Hq0]; · iexact Hq0
        isplitl [Hq1]; · iexact Hq1
        iexact Hq2
      isplitr
      · iempintro
      iexact Hr
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (some_owns c (st0_8 t)); iexact H8
  refine enter.trans (BIBase.Entails.trans ?_ (wp_mono _ _ _ fun _ => leave))
  exact (sep_mono .rfl (step m c t)).trans (wp_frame_l _ _ _)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ open8 := fun t => by
  rw [bigSep_W0, bigSep_W0, defs₀_row]
  exact triple_restated (sound_body m c t) rfl .rfl fun _ => .rfl

/-! ## The run and the frame -/

/-- The host's lines before the launch. -/
theorem hmainD : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
/-- Every run ends, with the host's buffers other than the results as the host left them and every counter at zero. -/
theorem run_main : θ_run defs (onTc (τ := τ) (main (F := F))) ⟨m, fun _ => 0, ρ⟩
    (fun r => Pipeline.RDat.FramePostR (cfgs 0) (fun c => (dats m 0 c).toRForget open8) R0 (V m) r ∧ r.2.sem = fun _ => 0) :=
  Pipeline.θ_run_frame_dmaR_forget_shared (Q' := _) cfgs (dats m) (0 : Fin 1) launch₀0 osem0 defs₀ Variants.none open8 osem_facts ∅ R0 none_sub R0_sub m ρ main
    (hbody := fun c => (body_obligation m c).loose) (hq := fun _ _ _ => rfl)
    (howed := fun _ _ => rfl) (V := V m) (hmain := hmainD m) (hA := A_eq m)
    (hin := fun _ => .rfl) (hout := fun _ => .rfl)

/-- A buffer of the host that the launch neither reads nor writes is left as the host left it. -/
theorem rest_eq {r : PUnit × MemSt nD τ sig (Elt F)}
    (h : Pipeline.RDat.FramePostR (cfgs 0) (fun c => (dats m 0 c).toRForget open8) R0 (V m) r) (c : Dev nD)
    (b : Ref sig .tc) (hb : b ∈ Pipeline.restRefs sig spec0) (hr : b ≠ main_v124_0) : r.2.mem ((c : Thread nD τ).loc b) = V m c b :=
  (h c).2 b (Finset.mem_sdiff.2 ⟨hb, fun e => hr (Finset.mem_singleton.1 e)⟩)

/-- The frame: the kernel's program runs to its end, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(rest_eq m h.1 c main_arg0 (Pipeline.mem_restRefs_of main_arg0 (by decide) (by decide)) (by decide)).trans (V_main_arg0 m c),
     (rest_eq m h.1 c main_arg1 (Pipeline.mem_restRefs_of main_arg1 (by decide) (by decide)) (by decide)).trans (V_main_arg1 m c),
     (rest_eq m h.1 c main_arg2 (Pipeline.mem_restRefs_of main_arg2 (by decide) (by decide)) (by decide)).trans (V_main_arg2 m c),
     (rest_eq m h.1 c main_arg3 (Pipeline.mem_restRefs_of main_arg3 (by decide) (by decide)) (by decide)).trans (V_main_arg3 m c),
     (rest_eq m h.1 c main_arg4 (Pipeline.mem_restRefs_of main_arg4 (by decide) (by decide)) (by decide)).trans (V_main_arg4 m c)⟩, h.2⟩) (run_main m ρ)

end Cert.AttnIdeal.Body

end
-- ==== Proof.Attn.Claim.lean ====
/- The claims of the attention backward call: its two programs run to their ends. -/
module

public import proofs.«01_k».proof.Defs
public import proofs.«01_k».proof.Proof.Attn.Frame
public import proofs.«01_k».proof.Proof.Gen.Attn

@[expose] public section

set_option maxRecDepth 65536

noncomputable section

namespace Cert.Proof

open Idealize.ShloMosaic Idealize.ShloMosaic.TcCoe Idealize.ShloMosaic.Tactic Idealize.SL.Sem

/-- The kernel's two programs have the same text. -/
theorem attn_defs : Cert.Attn.defs (F := Bits) = Cert.AttnIdeal.defs (F := Bits) := by sl_kernel_rfl
theorem attn_main : Cert.Attn.main (F := Bits) = Cert.AttnIdeal.main (F := Bits) := by sl_kernel_rfl

theorem attn_frame : Cert.quiescent_Attn := fun m ρ _ => by
  have h := Cert.AttnIdeal.Body.frame (F := Bits) m ρ
  rw [← attn_defs, ← attn_main] at h
  exact h

theorem attn_ideal_frame : Cert.quiescent_AttnIdeal := fun m ρ _ => Cert.AttnIdeal.Body.frame (F := Ideal) m ρ

end Cert.Proof

end
-- ==== Proof.Lib.Rows.lean ====
/- The root-mean-square norm of a row of 1024 extended reals, and the rows of a batch of two sequences of 2048. -/
module

public import proofs.«01_k».proof.Proof.Lib.Seq

@[expose] public section

noncomputable section

namespace Cert.Rows

open Idealize.ShloMosaic Cert.Seq
open scoped BigOperators

/-- A row's reciprocal root mean square. -/
def rinv (v : Fin 1024 → EReal) : EReal :=
  Ideal.rsqrt (Ideal.div (∑ k, v k * v k) (Ideal.ofBits .f32 0x44800000#32) + Ideal.ofBits .f32 0x358637BD#32)

/-- The normalised row times a gain. -/
def nrm (v g : Fin 1024 → EReal) (k : Fin 1024) : EReal := v k * rinv v * g k

/-- Row `i` of the flattened batch. -/
def row {n : ℕ} (X : FVec Ideal ⟨3, ![2, 2048, n]⟩ .f32) (i : Fin 4096) (k : Fin n) : EReal :=
  X (ix3 ⟨i.val / 2048, by omega⟩ ⟨i.val % 2048, by omega⟩ k)

/-- A vector's entries. -/
def vec {n : ℕ} (G : FVec Ideal ⟨1, ![n]⟩ .f32) (k : Fin n) : EReal := G (ix1 k)

/-- A matrix's entries. -/
def mat {n k : ℕ} (W : FVec Ideal ⟨2, ![n, k]⟩ .f32) (i : Fin n) (j : Fin k) : EReal := W (ix2 i j)

theorem row_at2 {n : ℕ} (X : FVec Ideal ⟨3, ![2, 2048, n]⟩ .f32) (b : Fin 2) (s : Fin 2048) (k : Fin n) :
    row X (at2 b s) k = X (ix3 b s k) :=
  Norm.at_row (fun b s => X (ix3 b s k)) b s

/-! ### A column along each sequence -/

/-- A column of the batch at position `q` of sequence `b`, positions counted from eight rows before the sequence's first
    row: zero outside the sequence. -/
def pad (f : Fin 4096 → EReal) (b q : ℕ) : EReal :=
  if h : b < 2 ∧ 8 ≤ q ∧ q < 2056 then f ⟨b * 2048 + (q - 8), by omega⟩ else 0

theorem pad_lt (f : Fin 4096 → EReal) {b q : ℕ} (h : q < 8) : pad f b q = 0 := dif_neg (by omega)
theorem pad_eq (f : Fin 4096 → EReal) {b q : ℕ} (i : Fin 4096) (h8 : 8 ≤ q) (hq : q < 2056) (h : i.val + 8 = b * 2048 + q) :
    pad f b q = f i := by
  unfold pad
  rw [dif_pos (by omega)]
  exact congrArg f (Fin.ext (by show b * 2048 + (q - 8) = i.val; omega))
theorem pad_at (f : Fin 4096 → EReal) (b : Fin 2) (s : Fin 2048) : pad f b.val (s.val + 8) = f (at2 b s) :=
  pad_eq f _ (by omega) (by omega) (by show b.val * 2048 + s.val + 8 = _; omega)

/-- A causal convolution of three taps at a position. -/
def conv (w : Fin 3 → EReal) (f : Fin 4096 → EReal) (b q : ℕ) : EReal :=
  w 0 * pad f b (q - 2) + w 1 * pad f b (q - 1) + w 2 * pad f b q

/-- The logistic function. -/
def sg (a : EReal) : EReal := Ideal.div 1 (1 + Ideal.exp (-a))

/-- The logistic function through the hyperbolic tangent, at every extended real. -/
theorem sg_eq (a : EReal) : Ideal.ofBits .f32 0x3F000000#32 * Ideal.tanh (Ideal.ofBits .f32 0x3F000000#32 * a)
    + Ideal.ofBits .f32 0x3F000000#32 = sg a := by
  rw [Reals.ofBits_half]
  unfold sg
  induction a with
  | bot =>
    rw [EReal.coe_mul_bot_of_pos (by norm_num), EReal.neg_bot, Ideal.tanh_bot, Ideal.exp_top, ← EReal.coe_one]
    rw [Reals.neg_coe, Reals.mul_coe, Reals.add_coe, EReal.coe_add_top]
    norm_num [Ideal.div]
  | top =>
    rw [EReal.coe_mul_top_of_pos (by norm_num), EReal.neg_top, Ideal.tanh_top, Ideal.exp_bot, ← EReal.coe_one]
    rw [Reals.mul_coe, Reals.add_coe, add_zero, Reals.div_coe _ one_ne_zero]
    norm_num
  | coe x =>
    rw [Reals.mul_coe, Ideal.tanh_coe, Reals.mul_coe, Reals.add_coe, Seq.sg_eq, Reals.neg_coe, Ideal.exp_coe, ← EReal.coe_one,
      Reals.add_coe, Reals.div_coe _ (by positivity)]
    exact congrArg Real.toEReal (one_div _).symm

end Cert.Rows

end
-- ==== Proof.FfnFwd.Math.lean ====
/- The feed-forward part of a layer over the extended reals: what the kernel and the reference both compute. -/
module

public import proofs.«01_k».proof.Proof.Lib.Rows

@[expose] public section

noncomputable section

namespace Cert.FfnFwdMath

open Idealize.ShloMosaic Cert.Seq Cert.Rows
open scoped BigOperators

/-- The six arguments: rows, gain, up matrix, convolution weights, down matrix and the next norm's gain. -/
structure Args where
  x : FVec Ideal ⟨3, ![2, 2048, 1024]⟩ .f32
  g : FVec Ideal ⟨1, ![1024]⟩ .f32
  u : FVec Ideal ⟨2, ![1024, 5632]⟩ .f32
  w : FVec Ideal ⟨2, ![3, 5632]⟩ .f32
  d : FVec Ideal ⟨2, ![2816, 1024]⟩ .f32
  n : FVec Ideal ⟨1, ![1024]⟩ .f32

/-- A column of the gated rows, from its block. -/
def fcol (p : Fin 4) (k : Fin 704) : Fin 2816 := ⟨p.val * 704 + k.val, by omega⟩
/-- A column of the pre-activations, from its half and its column in the half. -/
def half (s : Fin 2) (f : Fin 2816) : Fin 5632 := ⟨s.val * 2816 + f.val, by omega⟩

variable (A : Args)

/-- The normalised rows. -/
def xn (i : Fin 4096) (k : Fin 1024) : EReal := nrm (row A.x i) (vec A.g) k
/-- The pre-activations. -/
def pre (s : Fin 2) (f : Fin 2816) (i : Fin 4096) : EReal := ∑ k, xn A i k * mat A.u k (half s f)
/-- The convolution weights of a column. -/
def cw (s : Fin 2) (f : Fin 2816) (j : Fin 3) : EReal := mat A.w j (half s f)
/-- The convolved column at a position. -/
def cv (s : Fin 2) (f : Fin 2816) (b q : ℕ) : EReal := conv (cw A s f) (pre A s f) b q
/-- The gated column. -/
def act (f : Fin 2816) (i : Fin 4096) : EReal :=
  cv A 0 f (i.val / 2048) (i.val % 2048 + 8) * sg (cv A 0 f (i.val / 2048) (i.val % 2048 + 8)) * cv A 1 f (i.val / 2048) (i.val % 2048 + 8)
/-- The rows after the feed-forward part. -/
def out (i : Fin 4096) (k : Fin 1024) : EReal := row A.x i k + ∑ f, act A f i * mat A.d f k

/-- The four results. -/
def Out (i : Shape.Idx ⟨2, ![4096, 1024]⟩) : EReal := out A (i 0) (i 1)
def Next (i : Shape.Idx ⟨2, ![4096, 1024]⟩) : EReal := nrm (out A (i 0)) (vec A.n) (i 1)
def Act (i : Shape.Idx ⟨3, ![4, 4096, 704]⟩) : EReal := act A (fcol (i 0) (i 2)) (i 1)
def Pre (i : Shape.Idx ⟨4, ![2, 4, 4096, 704]⟩) : EReal := pre A (i 0) (fcol (i 1) (i 3)) (i 2)

/-- The sum over the columns, block by block. -/
theorem sum_blocks (F : Fin 2816 → EReal) : ∑ f, F f = ∑ p : Fin 4, ∑ l : Fin 704, F (fcol p l) :=
  Fin.sum_univ_tiles 4 704 rfl F

end Cert.FfnFwdMath

end
-- ==== Proof.FfnFwd.Tile.lean ====
/- What one grid point of the feed-forward kernel computes from its blocks, stated once for the four pairs of feed-forward
   blocks, and its values over the extended reals. -/
module

public import proofs.«01_k».proof.Proof.Gen.FfnFwdIdeal.Frame
public import proofs.«01_k».proof.Proof.FfnFwd.Math
public import Idealize.ShloMosaic.Lib.Claim
public import Idealize.ShloMosaic.Lib.Pipeline.ValueKit

@[expose] public section

set_option maxRecDepth 16384

noncomputable section

namespace Cert.FfnTile

open Idealize.ShloMosaic Idealize.ShloMosaic.TcCoe Idealize.SL.Sem
open Cert.FfnFwdIdeal Cert.FfnFwdIdeal.Gen Cert.Rows
open Cert.FfnFwdMath (Args fcol xn pre cv)
open scoped BigOperators

/-- A point's blocks: the window of 264 rows that is zero where the sequence has not begun and one elsewhere, the normalised
    rows of the point and the sixteen before them, the three weights, and the residual's rows. -/
structure Tile where
  edge : FVec Ideal S264x1 .f32
  own : Vec Ideal S256x1024 .bf16
  before : Vec Ideal S16x1024 .bf16
  up : Vec Ideal S8x704x1024 .bf16
  conv : Vec Ideal S2x4x3x704 .f32
  down : Vec Ideal S4x704x1024 .bf16
  res : Vec Ideal S256x1024 .f32

variable (B : Tile)

/-- The sixteen normalised rows before the point's own rows, and its own rows. -/
def rows272 : FVec Ideal S272x1024 .bf16 :=
  k0_pay6 (View.ld (Val := Elt Ideal) B.before r0_0) (View.ld (Val := Elt Ideal) B.own r0_1)

theorem inb4 {a b : ℕ} (s : Fin 2) (p : Fin 4) (k : Fin 4) :
    (![(s : ℕ), (p : ℕ), 0, 0] : Fin 4 → ℕ) k + (![1, 1, a, b] : Fin 4 → ℕ) k ≤ (![2, 4, a, b] : Fin 4 → ℕ) k := by
  have := s.isLt
  have := p.isLt
  match k with
  | 0 => show (s : ℕ) + 1 ≤ 2; omega
  | 1 => show (p : ℕ) + 1 ≤ 4; omega
  | 2 => show 0 + a ≤ a; omega
  | 3 => show 0 + b ≤ b; omega
theorem inb3 {n a b : ℕ} (p : Fin n) (k : Fin 3) :
    (![(p : ℕ), 0, 0] : Fin 3 → ℕ) k + (![1, a, b] : Fin 3 → ℕ) k ≤ (![n, a, b] : Fin 3 → ℕ) k := by
  have := p.isLt
  match k with
  | 0 => show (p : ℕ) + 1 ≤ n; omega
  | 1 => show 0 + a ≤ a; omega
  | 2 => show 0 + b ≤ b; omega

/-- The convolution weights of one half and one pair. -/
def taps (s : Fin 2) (p : Fin 4) : Vec Ideal S1x1x3x704 .f32 :=
  View.ld (Val := Elt Ideal) B.conv (Rect.unit ![s, p, 0, 0] ![1, 1, 3, 704] (inb4 s p))
/-- One block of the up matrix. -/
def wu (q : Fin 8) : Vec Ideal S1x704x1024 .bf16 :=
  View.ld (Val := Elt Ideal) B.up (Rect.unit ![q, 0, 0] ![1, 704, 1024] (inb3 q))
/-- One half's block of a pair. -/
def wup (s : Fin 2) (p : Fin 4) : Vec Ideal S1x704x1024 .bf16 := wu B ⟨4 * s.val + p.val, by omega⟩
/-- The pair's rows of the down matrix. -/
def wd (p : Fin 4) : Vec Ideal S1x704x1024 .bf16 :=
  View.ld (Val := Elt Ideal) B.down (Rect.unit ![p, 0, 0] ![1, 704, 1024] (inb3 p))

/-- The pre-activations of one half and one pair, as stored. -/
def stored (s : Fin 2) (p : Fin 4) : FVec Ideal S1x1x256x704 .bf16 := k0_pay13 (rows272 B) (wup B s p)
/-- The window of pre-activations. -/
def win (s : Fin 2) (p : Fin 4) : FVec Ideal S264x704 .f32 := k0_pay14 B.edge (rows272 B) (wup B s p)
/-- The convolved rows. -/
def conv (s : Fin 2) (p : Fin 4) : FVec Ideal S256x704 .f32 := k0_pay25 (win B s p) (taps B s p)
/-- The logistic function of the convolved gate. -/
def gate (p : Fin 4) : FVec Ideal S256x704 .f32 :=
  addf (mulf (broadcast S256x704 (Scalar.ofBits .f32 0x3F000000#32))
      (tanh (mulf (broadcast S256x704 (Scalar.ofBits .f32 0x3F000000#32)) (conv B 0 p))))
    (broadcast S256x704 (Scalar.ofBits .f32 0x3F000000#32))
/-- The gated rows, as stored. -/
def gated (p : Fin 4) : FVec Ideal S1x256x704 .bf16 := k0_pay2 (conv B 0 p) (conv B 1 p) (gate B p)
/-- One more pair's part of the result. -/
def step (a : FVec Ideal S256x1024 .f32) (p : Fin 4) : FVec Ideal S256x1024 .f32 :=
  k0_pay3 a (conv B 0 p) (conv B 1 p) (gate B p) (wd B p)
/-- The residual and the first three pairs' parts. -/
def three : FVec Ideal S256x1024 .f32 :=
  step B (step B (step B (k0_pay7 (View.ld (Val := Elt Ideal) B.res r0_1)) 0) 1) 2
/-- The next norm of the result, under its gain. -/
def next (g : Vec Ideal S1x1024 .f32) : FVec Ideal S256x1024 .bf16 :=
  k0_pay4 (three B) (conv B 0 3) (conv B 1 3) (gate B 3) (wd B 3) g

/-- The gated rows before they are stored. -/
def act (p : Fin 4) : FVec Ideal S256x704 .bf16 := k0_pay1 (conv B 0 p) (conv B 1 p) (gate B p)
/-- A pair's part added to the rows so far. -/
def plus (a : FVec Ideal S256x1024 .f32) (h : FVec Ideal S256x704 .bf16) (w : Vec Ideal S1x704x1024 .bf16) : FVec Ideal S256x1024 .f32 :=
  addf a (matmul dot_S256x704_S704x1024_S256x1024_1_0_0_1_n_n none h
    (show FVec Ideal S704x1024 .bf16 from shapeCast S704x1024 w shapeCasts_S1x704x1024_S704x1024)
    (constant S256x1024 .f32 0x00000000#32))
theorem rows_whole (x0 : Vec Ideal S256x1024 .bf16) (x1 : Vec Ideal S16x1024 .bf16) :
    k0_pay6 (F := Ideal) (View.ld x1 r0_0) (View.ld x0 r0_1) = k0_pay6 x1 x0 := by
  simp (disch := decide) only [View.ld_unit_lit']
theorem rows_eq : rows272 B = k0_pay6 B.before B.own := rows_whole _ _
theorem res_whole (x : Vec Ideal S256x1024 .f32) : k0_pay7 (F := Ideal) (View.ld x r0_1) = k0_pay7 x := by
  simp (disch := decide) only [View.ld_unit_lit']
theorem three_whole : three B = step B (step B (step B (k0_pay7 B.res) 0) 1) 2 :=
  congrArg (fun a => step B (step B (step B a 0) 1) 2) (res_whole _)
/-- A piece of a family with one pair in each piece, read at the index of the whole. -/
theorem of_piece3 {G : Fin 4 → Vec Ideal S1x256x704 .bf16} {P : Vec Ideal S1x256x704 .bf16}
    {y : S4x256x704.Idx} {x : S1x256x704.Idx} {a : ℕ}
    (h0 : (y 0 : ℕ) = a) (h1 : (y 1 : ℕ) = x 1) (h2 : (y 2 : ℕ) = x 2) (h : ∀ (ha : a < 4), P = G ⟨a, ha⟩) :
    P x = G (y 0) (ix3 0 (y 1) (y 2)) := by
  have x0 : (x 0 : ℕ) < 1 := (x 0).isLt
  have e : ix3 0 (y 1) (y 2) = x := by
    funext a
    match a with
    | 0 => exact Fin.ext (show 0 = (x 0 : ℕ) by omega)
    | 1 => exact Fin.ext h1
    | 2 => exact Fin.ext h2
  subst h0
  exact (congrFun (h (y 0).isLt) x).trans (congrArg _ e.symm)
/-- The same for a family with one half and one pair in each piece. -/
theorem of_piece4 {G : Fin 2 → Fin 4 → Vec Ideal S1x1x256x704 .bf16} {P : Vec Ideal S1x1x256x704 .bf16}
    {y : S2x4x256x704.Idx} {x : S1x1x256x704.Idx} {a b : ℕ}
    (h0 : (y 0 : ℕ) = a) (h1 : (y 1 : ℕ) = b) (h2 : (y 2 : ℕ) = x 2) (h3 : (y 3 : ℕ) = x 3)
    (h : ∀ (ha : a < 2) (hb : b < 4), P = G ⟨a, ha⟩ ⟨b, hb⟩) :
    P x = G (y 0) (y 1) (ix4 0 0 (y 2) (y 3)) := by
  have x0 : (x 0 : ℕ) < 1 := (x 0).isLt
  have x1 : (x 1 : ℕ) < 1 := (x 1).isLt
  have e : ix4 0 0 (y 2) (y 3) = x := by
    funext a
    match a with
    | 0 => exact Fin.ext (show 0 = (x 0 : ℕ) by omega)
    | 1 => exact Fin.ext (show 0 = (x 1 : ℕ) by omega)
    | 2 => exact Fin.ext h2
    | 3 => exact Fin.ext h3
  subst h0 h1
  exact (congrFun (h (y 0).isLt (y 1).isLt) x).trans (congrArg _ e.symm)

/-- Row `p` of point `n`'s own rows and of the sixteen before them. -/
def rowAt (n : Fin 16) (p : Fin 256) : Fin 4096 := ⟨n.val * 256 + p.val, by omega⟩
def rowBefore (n : Fin 16) (p : Fin 16) : Fin 4096 := ⟨(16 * n.val - 1) * 16 + p.val, by omega⟩

/-- The blocks of point `n`, given the arguments. -/
structure Tile.Of (B : Tile) (A : Args) (n : Fin 16) : Prop where
  edge : ∀ j : Fin 264, B.edge (ix2 j 0) = if j.val < 8 ∧ n.val % 8 = 0 then (0 : EReal) else 1
  own : ∀ r k, B.own (ix2 r k) = xn A (rowAt n r) k
  before : ∀ r k, B.before (ix2 r k) = xn A (rowBefore n r) k
  up : ∀ q k l, B.up (ix3 q k l) = mat A.u l ⟨q.val * 704 + k.val, by omega⟩
  conv : ∀ s p j k, B.conv (ix4 s p j k) = FfnFwdMath.cw A s (fcol p k) j
  down : ∀ p k l, B.down (ix3 p k l) = mat A.d (fcol p k) l
  res : ∀ r k, B.res (ix2 r k) = row A.x (rowAt n r) k

variable {B} {A : Args} {n : Fin 16} (h : B.Of A n)
include h

theorem wd_ld (p : Fin 4) (k : Fin 704) (l : Fin 1024) : wd B p (ix3 0 k l) = mat A.d (fcol p k) l := by
  unfold wd
  rw [View.ld_apply]
  refine Eq.trans (congrArg B.down ?_) (h.down p k l)
  funext a
  match a with
  | 0 => exact Fin.ext (show p.val + 1 * 0 = p.val by omega)
  | 1 => exact Fin.ext (show 0 + 1 * k.val = k.val by omega)
  | 2 => exact Fin.ext (show 0 + 1 * l.val = l.val by omega)

theorem wup_ld (s : Fin 2) (p : Fin 4) (k : Fin 704) (l : Fin 1024) :
    wup B s p (ix3 0 k l) = mat A.u l (FfnFwdMath.half s (fcol p k)) := by
  unfold wup wu
  rw [View.ld_apply]
  refine Eq.trans (congrArg B.up ?_)
    ((h.up ⟨4 * s.val + p.val, by omega⟩ k l).trans ?_)
  · funext a
    match a with
    | 0 => exact Fin.ext (show 4 * s.val + p.val + 1 * 0 = 4 * s.val + p.val by omega)
    | 1 => exact Fin.ext (show 0 + 1 * k.val = k.val by omega)
    | 2 => exact Fin.ext (show 0 + 1 * l.val = l.val by omega)
  · refine congrArg (fun x => mat A.u l x) (Fin.ext ?_)
    show (4 * s.val + p.val) * 704 + k.val = s.val * 2816 + (p.val * 704 + k.val)
    omega

theorem taps_ld (s : Fin 2) (p : Fin 4) (j : Fin 3) (k : Fin 704) :
    taps B s p (ix4 0 0 j k) = FfnFwdMath.cw A s (fcol p k) j := by
  unfold taps
  rw [View.ld_apply]
  refine Eq.trans (congrArg B.conv ?_) (h.conv s p j k)
  funext a
  match a with
  | 0 => exact Fin.ext (show s.val + 1 * 0 = s.val by omega)
  | 1 => exact Fin.ext (show p.val + 1 * 0 = p.val by omega)
  | 2 => exact Fin.ext (show 0 + 1 * j.val = j.val by omega)
  | 3 => exact Fin.ext (show 0 + 1 * k.val = k.val by omega)

theorem rows_at (j : Fin 272) (l : Fin 1024) : rows272 B (ix2 j l) =
    xn A (if hj : j.val < 16 then rowBefore n ⟨j.val, hj⟩ else rowAt n ⟨j.val - 16, by omega⟩) l := by
  rw [rows_eq]
  pointwise [k0_pay6]
  simp only [h.own, h.before]
  split_ifs <;> rfl

omit h in
theorem rowAt_div (r : Fin 256) : (rowAt n r).val / 2048 = n.val / 8 := by
  show (n.val * 256 + r.val) / 2048 = _
  omega
omit h in
theorem rowAt_mod (r : Fin 256) : (rowAt n r).val % 2048 + 8 = 256 * (n.val % 8) + (8 + r.val) := by
  show (n.val * 256 + r.val) % 2048 + 8 = _
  omega

theorem win_at (s : Fin 2) (p : Fin 4) (j : Fin 264) (k : Fin 704) :
    win B s p (ix2 j k) = pad (pre A s (fcol p k)) (n.val / 8) (256 * (n.val % 8) + j.val) := by
  unfold win
  pointwise [k0_pay14, k0_pay12]
  simp only [rows_at h, wup_ld h, h.edge]
  refine Eq.trans (b := pre A s (fcol p k) (if hj : 8 + j.val < 16 then rowBefore n ⟨8 + j.val, hj⟩
    else rowAt n ⟨8 + j.val - 16, by omega⟩) * _) rfl ?_
  by_cases a : j.val < 8 ∧ n.val % 8 = 0
  · rw [if_pos a, mul_zero, pad_lt _ (by omega)]
  · rw [if_neg a, mul_one]
    refine (pad_eq _ _ ?_ ?_ ?_).symm
    · omega
    · omega
    · split_ifs
      · show (16 * n.val - 1) * 16 + (8 + j.val) + 8 = _
        omega
      · show n.val * 256 + (8 + j.val - 16) + 8 = _
        omega

theorem conv_at (s : Fin 2) (p : Fin 4) (r : Fin 256) (k : Fin 704) :
    conv B s p (ix2 r k) = cv A s (fcol p k) ((rowAt n r).val / 2048) ((rowAt n r).val % 2048 + 8) := by
  unfold conv
  pointwise [k0_pay25]
  simp only [win_at h, taps_ld h]
  unfold cv Rows.conv
  rw [rowAt_div, rowAt_mod,
    show ((8 + r.val + 264 - 1) % 264 + 264 - 1) % 264 = 8 + r.val - 2 by omega, show (8 + r.val + 264 - 1) % 264 = 8 + r.val - 1 by omega,
    show 256 * (n.val % 8) + (8 + r.val - 2) = 256 * (n.val % 8) + (8 + r.val) - 2 by omega,
    show 256 * (n.val % 8) + (8 + r.val - 1) = 256 * (n.val % 8) + (8 + r.val) - 1 by omega]

theorem gate_at (p : Fin 4) (r : Fin 256) (k : Fin 704) :
    gate B p (ix2 r k) = sg (cv A 0 (fcol p k) ((rowAt n r).val / 2048) ((rowAt n r).val % 2048 + 8)) := by
  rw [← conv_at h, ← sg_eq]
  rfl

theorem act_at (p : Fin 4) (r : Fin 256) (k : Fin 704) :
    act B p (ix2 r k) = FfnFwdMath.act A (fcol p k) (rowAt n r) := by
  unfold act
  pointwise [k0_pay1]
  rw [conv_at h, conv_at h, gate_at h]
  rfl

theorem gated_at (p : Fin 4) (r : Fin 256) (k : Fin 704) :
    gated B p (ix3 0 r k) = FfnFwdMath.act A (fcol p k) (rowAt n r) := by
  refine Eq.trans (b := act B p (ix2 r k)) ?_ (act_at h p r k)
  unfold gated
  pointwise [k0_pay2]
  rfl

theorem stored_at (s : Fin 2) (p : Fin 4) (r : Fin 256) (k : Fin 704) :
    stored B s p (ix4 0 0 r k) = pre A s (fcol p k) (rowAt n r) := by
  unfold stored
  pointwise [k0_pay13, k0_pay12]
  simp only [rows_at h, wup_ld h]
  refine congrArg (pre A s (fcol p k)) ?_
  rw [dif_neg (by omega)]
  exact congrArg (rowAt n) (Fin.ext (by show 16 + r.val - 16 = r.val; omega))

theorem step_at (a : FVec Ideal S256x1024 .f32) (p : Fin 4) (r : Fin 256) (k : Fin 1024) :
    step B a p (ix2 r k) = a (ix2 r k) + ∑ l, FfnFwdMath.act A (fcol p l) (rowAt n r) * mat A.d (fcol p l) k := by
  refine Eq.trans (b := plus a (act B p) (wd B p) (ix2 r k)) rfl ?_
  pointwise [plus]
  simp only [act_at h, wd_ld h]

theorem out_at (r : Fin 256) (k : Fin 1024) : step B (three B) 3 (ix2 r k) = FfnFwdMath.out A (rowAt n r) k := by
  have hx : k0_pay7 (F := Ideal) B.res (ix2 r k) = row A.x (rowAt n r) k := by
    pointwise [k0_pay7]
    exact h.res r k
  rw [three_whole]
  simp only [step_at h]
  rw [hx]
  unfold FfnFwdMath.out
  rw [FfnFwdMath.sum_blocks, Fin.sum_univ_four]
  simp only [add_assoc]

theorem next_at (g : Vec Ideal S1x1024 .f32) (hg : ∀ k, g (ix2 0 k) = vec A.n k) (r : Fin 256) (k : Fin 1024) :
    next B g (ix2 r k) = nrm (FfnFwdMath.out A (rowAt n r)) (vec A.n) k := by
  have ho : ∀ k, k0_pay3 (three B) (conv B 0 3) (conv B 1 3) (gate B 3) (wd B 3) (ix2 r k)
    = FfnFwdMath.out A (rowAt n r) k := fun k => out_at h r k
  unfold next
  pointwise [k0_pay4]
  simp only [ho, hg]
  rfl

end Cert.FfnTile

end
-- ==== Proof.FfnFwd.Block.lean ====
/- What one grid point of the feed-forward kernel leaves in the blocks of its results. -/
module

public import proofs.«01_k».proof.Proof.FfnFwd.Tile
public import Idealize.ShloMosaic.Lib.Tactic

@[expose] public section

set_option maxRecDepth 16384

noncomputable section

namespace Cert.FfnFwdIdeal.Block

open Idealize.ShloMosaic Idealize.ShloMosaic.TcCoe Idealize.ShloMosaic.Tactic Idealize.SL.Sem
open Idealize.ShloMosaic.Pipeline (Dat)
open Cert.FfnFwdIdeal Cert.FfnFwdIdeal.Gen
open Cert.FfnTile (Tile conv gate gated step three next stored wd wu act of_piece3 of_piece4 rows_eq)

variable (m : (ℓ : Loc nD τ sig) → Buf (Elt Ideal) ℓ) (c : Dev nD) (t : Fin cfg0.N)

/-- The point's blocks. -/
def tile : Tile :=
  ⟨k0_pay5 (grid0.coords t), iblk m c 0 t, iblk m c 1 t, iblk m c 2 t, iblk m c 3 t, iblk m c 4 t, iblk m c 5 t⟩

/-- A value of the body at the point's blocks. -/
def val {α : Type} (f : grid0.Coords → Vec Ideal S256x1024 .bf16 → Vec Ideal S16x1024 .bf16 → Vec Ideal S8x704x1024 .bf16
    → Vec Ideal S2x4x3x704 .f32 → Vec Ideal S4x704x1024 .bf16 → Vec Ideal S256x1024 .f32 → Vec Ideal S1x1024 .f32 → α) : α :=
  f (grid0.coords t) (iblk m c 0 t) (iblk m c 1 t) (iblk m c 2 t) (iblk m c 3 t) (iblk m c 4 t) (iblk m c 5 t) (iblk m c 6 t)

theorem out7 : (dats m 0 c).after 7 t = step (tile m c t) (three (tile m c t)) 3 := by
  rw [after0_7]; frame_out
  sl_kernel_rfl

theorem out8 : (dats m 0 c).after 8 t = next (tile m c t) (iblk m c 6 t) := by
  rw [after0_8]; frame_out
  sl_kernel_rfl

/-- The four pairs' gated rows, as the body spells them. -/
theorem gated0 : k0_pay20 (val m c t k0_pay62) (val m c t k0_pay63) (val m c t k0_pay64) (val m c t k0_pay65) (val m c t k0_pay66) (val m c t k0_pay67) = gated (tile m c t) 0 := by sl_kernel_rfl
theorem gated1 : k0_pay33 (val m c t k0_pay68) (val m c t k0_pay69) (val m c t k0_pay70) = gated (tile m c t) 1 := by sl_kernel_rfl
theorem gated2 : k0_pay46 (val m c t k0_pay74) (val m c t k0_pay75) (val m c t k0_pay76) = gated (tile m c t) 2 := by sl_kernel_rfl
theorem gated3 : k0_pay2 (val m c t k0_pay83) (val m c t k0_pay84) (val m c t k0_pay85) = gated (tile m c t) 3 := by sl_kernel_rfl

theorem out9 (y : S4x256x704.Idx) : (dats m 0 c).after 9 t y = gated (tile m c t) (y 0) (ix3 0 (y 1) (y 2)) := by
  rw [after0_9]; frame_out
  canon_tiles x h
  all_goals
    rw [show (x 0 : ℕ) = 0 by omega] at h0
  · exact of_piece3 h0 h1 h2 fun _ => gated3 m c t
  · exact of_piece3 h0 h1 h2 fun _ => gated2 m c t
  · exact of_piece3 h0 h1 h2 fun _ => gated1 m c t
  · exact of_piece3 h0 h1 h2 fun _ => gated0 m c t

/-- The stored pre-activations, as the body spells them. -/
theorem stored13 : k0_pay57 (val m c t k0_pay61) (wu (tile m c t) 7) = stored (tile m c t) 1 3 := by sl_kernel_rfl
theorem stored03 : k0_pay49 (val m c t k0_pay61) (wu (tile m c t) 3) = stored (tile m c t) 0 3 := by sl_kernel_rfl
theorem stored12 : k0_pay42 (val m c t k0_pay61) (wu (tile m c t) 6) = stored (tile m c t) 1 2 := by sl_kernel_rfl
theorem stored02 : k0_pay36 (val m c t k0_pay61) (wu (tile m c t) 2) = stored (tile m c t) 0 2 := by sl_kernel_rfl
theorem stored11 : k0_pay27 (val m c t k0_pay61) (wu (tile m c t) 5) = stored (tile m c t) 1 1 := by sl_kernel_rfl
theorem stored01 : k0_pay23 (val m c t k0_pay61) (wu (tile m c t) 1) = stored (tile m c t) 0 1 := by sl_kernel_rfl
theorem stored10 : k0_pay13 (val m c t k0_pay61) (wu (tile m c t) 4) = stored (tile m c t) 1 0 := by sl_kernel_rfl
theorem stored00 : k0_pay9 (iblk m c 1 t) (iblk m c 0 t) (View.ld (Val := Elt Ideal) (iblk m c 2 t) r0_2) = stored (tile m c t) 0 0 := by
  unfold stored
  rw [rows_eq]
  sl_kernel_rfl

theorem out10 (y : S2x4x256x704.Idx) : (dats m 0 c).after 10 t y = stored (tile m c t) (y 0) (y 1) (ix4 0 0 (y 2) (y 3)) := by
  rw [after0_10]; frame_out
  canon_tiles x h
  all_goals
    rw [show (x 0 : ℕ) = 0 by omega] at h0
    rw [show (x 1 : ℕ) = 0 by omega] at h1
  · exact of_piece4 h0 h1 h2 h3 fun _ _ => stored13 m c t
  · exact of_piece4 h0 h1 h2 h3 fun _ _ => stored03 m c t
  · exact of_piece4 h0 h1 h2 h3 fun _ _ => stored12 m c t
  · exact of_piece4 h0 h1 h2 h3 fun _ _ => stored02 m c t
  · exact of_piece4 h0 h1 h2 h3 fun _ _ => stored11 m c t
  · exact of_piece4 h0 h1 h2 h3 fun _ _ => stored01 m c t
  · exact of_piece4 h0 h1 h2 h3 fun _ _ => stored10 m c t
  · exact of_piece4 h0 h1 h2 h3 fun _ _ => stored00 m c t

end Cert.FfnFwdIdeal.Block

end
-- ==== Proof.FfnFwd.Pay.lean ====
/- The blocks of one grid point of the feed-forward kernel, over the extended reals. -/
module

public import proofs.«01_k».proof.Proof.FfnFwd.Block

@[expose] public section

set_option maxRecDepth 16384

noncomputable section

namespace Cert.FfnFwdIdeal.Block

open Idealize.ShloMosaic Idealize.ShloMosaic.TcCoe Idealize.SL.Sem
open Cert.FfnFwdIdeal Cert.FfnFwdIdeal.Gen Cert.Rows Cert.FfnTile
open Cert.FfnFwdMath (Args fcol xn)
open scoped BigOperators

variable (m : (ℓ : Loc nD τ sig) → Buf (Elt Ideal) ℓ) (c : Dev nD) (t : Fin cfg0.N)

/-- The arguments. -/
def args : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- The block index of every window. -/
theorem idx : ∀ t : Fin cfg0.N, win0_0.index t = ![t.val, 0] ∧ win0_1.index t = ![16 * t.val - 1, 0]
    ∧ win0_2.index t = ![0, 0, 0] ∧ win0_3.index t = ![0, 0, 0, 0] ∧ win0_4.index t = ![0, 0, 0]
    ∧ win0_5.index t = ![t.val, 0] ∧ win0_6.index t = ![0, 0] ∧ win0_7.index t = ![t.val, 0]
    ∧ win0_8.index t = ![t.val, 0] ∧ win0_9.index t = ![0, t.val, 0] ∧ win0_10.index t = ![0, 0, t.val, 0] ∧ t.val < 16 :=
  (by decide +kernel : ∀ t : Fin grid0.N, _)

theorem lt16 : t.val < 16 := (idx t).2.2.2.2.2.2.2.2.2.2.2

/-- The point's number. -/
def pt : Fin 16 := ⟨t.val, lt16 t⟩

theorem hm_at (r : Fin 256) (k : Fin 1024) :
    (show Vec Ideal S256x1024 .bf16 from iblk m c 0 t) (ix2 r k) = xn (args m c) (rowAt (pt t) r) k := by
  blk_simp [iblk]
  entry_read
  pointwise
  refine Eq.trans (b := xn (args m c) (((View.whole main_v22).slice (win0_0.rect t)).emb (ix2 r k) 0)
    (((View.whole main_v22).slice (win0_0.rect t)).emb (ix2 r k) 1)) rfl ?_
  refine congrArg₂ (xn (args m c)) (Fin.ext ?_) (Fin.ext ?_)
  · blk_simp [rowAt, pt, idx t]
  · blk_simp [idx t]
theorem hp_at (r : Fin 16) (k : Fin 1024) :
    (show Vec Ideal S16x1024 .bf16 from iblk m c 1 t) (ix2 r k) = xn (args m c) (rowBefore (pt t) r) k := by
  blk_simp [iblk]
  entry_read
  pointwise
  refine Eq.trans (b := xn (args m c) (((View.whole main_v22).slice (win0_1.rect t)).emb (ix2 r k) 0)
    (((View.whole main_v22).slice (win0_1.rect t)).emb (ix2 r k) 1)) rfl ?_
  refine congrArg₂ (xn (args m c)) (Fin.ext ?_) (Fin.ext ?_)
  · blk_simp [rowBefore, pt, idx t]
  · blk_simp [idx t]
theorem wu_at (q : Fin 8) (k : Fin 704) (l : Fin 1024) :
    (show Vec Ideal S8x704x1024 .bf16 from iblk m c 2 t) (ix3 q k l) = mat (args m c).u l ⟨q.val * 704 + k.val, by omega⟩ := by
  rw [mat]
  blk_simp [iblk]
  entry_read
  pointwise
  blk_ext [idx t]
theorem cw_at (s : Fin 2) (p : Fin 4) (j : Fin 3) (k : Fin 704) :
    (show Vec Ideal S2x4x3x704 .f32 from iblk m c 3 t) (ix4 s p j k) = FfnFwdMath.cw (args m c) s (fcol p k) j := by
  rw [FfnFwdMath.cw, mat]
  blk_simp [iblk]
  entry_read
  pointwise
  blk_ext [idx t, fcol, FfnFwdMath.half]
theorem wd_at (p : Fin 4) (k : Fin 704) (l : Fin 1024) :
    (show Vec Ideal S4x704x1024 .bf16 from iblk m c 4 t) (ix3 p k l) = mat (args m c).d (fcol p k) l := by
  rw [mat]
  blk_simp [iblk]
  entry_read
  pointwise
  blk_ext [idx t, fcol]
theorem x_at (r : Fin 256) (k : Fin 1024) :
    (show Vec Ideal S256x1024 .f32 from iblk m c 5 t) (ix2 r k) = row (args m c).x (rowAt (pt t) r) k := by
  rw [row]
  blk_simp [iblk]
  entry_read
  pointwise
  blk_ext [rowAt, pt, idx t]
theorem g_at (k : Fin 1024) :
    (show Vec Ideal S1x1024 .f32 from iblk m c 6 t) (ix2 0 k) = vec (args m c).n k := by
  rw [vec]
  blk_simp [iblk]
  entry_read
  pointwise
  blk_ext [idx t]

theorem edge_sel (j : Fin 264) : ∃ w : BitVec 32, k0_pay5 (F := Ideal) (grid0.coords t) (ix2 j 0) = Scalar.select (IntOp.cmpi .slt (BitVec.ofNat 32 j.val) 8#32)
      (((w.toInt : ℝ) : EReal)) 1 ∧ w = if t.val % 8 = 0 then 0#32 else 1#32 := by
  refine ⟨?w, ?a, ?b⟩
  case a =>
    pointwise [k0_pay5]
    rfl
  case b =>
    clear j
    revert t
    decide +kernel

theorem edge_at (j : Fin 264) : k0_pay5 (F := Ideal) (grid0.coords t) (ix2 j 0) = if j.val < 8 ∧ t.val % 8 = 0 then (0 : EReal) else 1 := by
  have h1 : ∀ j : Fin 264, IntOp.cmpi .slt (BitVec.ofNat 32 j.val) 8#32 = if j.val < 8 then 1#1 else 0#1 := by
    decide +kernel
  obtain ⟨w, e, hw⟩ := edge_sel t j
  rw [e, h1, hw]
  by_cases a : j.val < 8
  · by_cases b : t.val % 8 = 0
    · simp [a, b, Scalar.select]
    · simp [a, b, Scalar.select]
  · simp [a, Scalar.select]

/-- The point's blocks, from the arguments. -/
theorem tile_of : (tile m c t).Of (args m c) (pt t) :=
  ⟨edge_at t, hm_at m c t, hp_at m c t, wu_at m c t, cw_at m c t, wd_at m c t, x_at m c t⟩

end Cert.FfnFwdIdeal.Block

end
-- ==== Proof.FfnFwd.Array.lean ====
/- The feed-forward part: the kernel's four result arrays after the run. -/
module

public import proofs.«01_k».proof.Proof.FfnFwd.Pay

@[expose] public section

set_option maxRecDepth 16384

noncomputable section

namespace Cert.FfnFwdIdeal.Block

open Idealize.ShloMosaic Idealize.ShloMosaic.TcCoe Idealize.SL.Sem
open Cert.FfnFwdIdeal Cert.FfnFwdIdeal.Gen
open Cert.FfnFwdMath (Out Next Act Pre)
open Cert.FfnTile

variable {m : (ℓ : Loc nD τ sig) → Buf (Elt Ideal) ℓ} {c : Dev nD}

theorem final7 : (dats m 0 c).arrAt 7 (cfgs 0).N = Out (args m c) := by
  refine (dats m 0 c).arrAt_eq_of_covers 7 _ (by decide +kernel) fun t _ y => ?_
  blk_simp
  refine (congrFun (out7 m c t) y).trans ?_
  idx_vars y
  refine (out_at (tile_of m c t) y0 y1).trans ?_
  refine congrArg (fun i : S4096x1024.Idx => Out (args m c) i) (a₁ := (ix2 (rowAt (pt t) y0) y1 : S4096x1024.Idx)) ?_
  blk_ext [rowAt, pt, idx t]

theorem final8 : (dats m 0 c).arrAt 8 (cfgs 0).N = Next (args m c) := by
  refine (dats m 0 c).arrAt_eq_of_covers 8 _ (by decide +kernel) fun t _ y => ?_
  blk_simp
  refine (congrFun (out8 m c t) y).trans ?_
  idx_vars y
  refine (next_at (tile_of m c t) _ (g_at m c t) y0 y1).trans ?_
  refine congrArg (fun i : S4096x1024.Idx => Next (args m c) i) (a₁ := (ix2 (rowAt (pt t) y0) y1 : S4096x1024.Idx)) ?_
  blk_ext [rowAt, pt, idx t]

theorem final9 : (dats m 0 c).arrAt 9 (cfgs 0).N = Act (args m c) := by
  refine (dats m 0 c).arrAt_eq_of_covers 9 _ (by decide +kernel) fun t _ y => ?_
  blk_simp
  refine (out9 m c t y).trans ?_
  idx_vars y
  refine (gated_at (tile_of m c t) y0 y1 y2).trans ?_
  refine congrArg (fun i : S4x4096x704.Idx => Act (args m c) i) (a₁ := (ix3 y0 (rowAt (pt t) y1) y2 : S4x4096x704.Idx)) ?_
  blk_ext [rowAt, pt, idx t]

theorem final10 : (dats m 0 c).arrAt 10 (cfgs 0).N = Pre (args m c) := by
  refine (dats m 0 c).arrAt_eq_of_covers 10 _ (by decide +kernel) fun t _ y => ?_
  blk_simp
  refine (out10 m c t y).trans ?_
  idx_vars y
  refine (stored_at (tile_of m c t) y0 y1 y2 y3).trans ?_
  refine congrArg (fun i : S2x4x4096x704.Idx => Pre (args m c) i) (a₁ := (ix4 y0 y1 (rowAt (pt t) y2) y3 : S2x4x4096x704.Idx)) ?_
  blk_ext [rowAt, pt, idx t]

end Cert.FfnFwdIdeal.Block

end
-- ==== Proof.FfnFwd.Ref.lean ====
/- The reference of the feed-forward part, stage by stage, over the extended reals. -/
module

public import proofs.«01_k».proof.Proof.Gen.FfnFwdRefIdeal.Read
public import proofs.«01_k».proof.Proof.FfnFwd.Math

@[expose] public section

set_option maxRecDepth 16384

noncomputable section

namespace Cert.FfnFwdRefIdeal.Stage

open Idealize.ShloMosaic Cert.FfnFwdRefIdeal Cert.FfnFwdRefIdeal.Gen Cert.FfnFwdRefIdeal.Read Cert.Rows
open Cert.Seq (at2 at2_div at2_mod at2_row)
open Cert.FfnFwdMath (Args xn pre cw cv act out half fcol Out Next Act Pre)
open scoped BigOperators

variable (A : Args)

theorem v12 (b : Fin 2) (s : Fin 2048) (k : Fin 1024) : val_main_v12 (F := Ideal) A.x A.g (ix3 b s k) = xn A (at2 b s) k := by
  unfold xn nrm rinv
  simp only [row_at2]
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v13 (b : Fin 2) (s : Fin 2048) (h : Fin 2) (f : Fin 2816) :
    val_main_v13 (F := Ideal) A.x A.g A.u (ix3 b s (half h f)) = pre A h f (at2 b s) := by
  pointwise [val_main_v13]
  simp only [v12]
  rfl

/-- The pre-activations with two rows of zeros before each sequence. -/
theorem v15 (b : Fin 2) (q : Fin 2050) (h : Fin 2) (f : Fin 2816) :
    val_main_v15 (F := Ideal) A.x A.g A.u (ix3 b q (half h f)) = pad (pre A h f) b.val (q.val + 6) := by
  pointwise [val_main_v15, val_main_v14, val_main_cst_2]
  by_cases hq : q.val < 2
  · rw [dif_pos hq, pad_lt _ (by omega)]
  · rw [dif_neg hq, v13]
    have e : q.val + 6 = (q.val - 2) + 8 := by omega
    rw [e, pad_at (pre A h f) b ⟨q.val - 2, by omega⟩]

theorem v37 (b : Fin 2) (s : Fin 2048) (h : Fin 2) (f : Fin 2816) :
    val_main_v37 (F := Ideal) A.x A.g A.u A.w (ix3 b s (half h f)) = cv A h f b.val (s.val + 8) := by
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_v18, val_main_v17, val_main_v16, val_main_cst_3]
  simp only [v15]
  unfold cv conv
  rw [show s.val + 8 - 2 = s.val + 6 by omega, show s.val + 8 - 1 = 1 + s.val + 6 by omega, show 2 + s.val + 6 = s.val + 8 by omega]
  exact congrArg₂ (· + ·) (congrArg₂ (· + ·) (mul_comm _ _) (mul_comm _ _)) (mul_comm _ _)

/-- The gated rows. -/
theorem v41 (b : Fin 2) (s : Fin 2048) (f : Fin 2816) :
    val_main_v41 (F := Ideal) A.x A.g A.u A.w (ix3 b s f) = act A f (at2 b s) := by
  have h0 : ∀ l : Fin 5632, l = half 0 f → val_main_v37 (F := Ideal) A.x A.g A.u A.w (ix3 b s l) = cv A 0 f b.val (s.val + 8) :=
    fun l e => by rw [e, v37]
  have h1 : ∀ l : Fin 5632, l = half 1 f → val_main_v37 (F := Ideal) A.x A.g A.u A.w (ix3 b s l) = cv A 1 f b.val (s.val + 8) :=
    fun l e => by rw [e, v37]
  unfold act sg
  rw [at2_div, at2_mod]
  pointwise [val_main_v41, val_main_v40, val_main_v39, val_main_v38, val_main_call0_v5, val_main_call0_v4, val_main_call0_v3,
    val_main_call0_v2, val_main_call0_v1, val_main_call0_v0, val_main_call0_cst, val_main_call0_cst_0]
  rw [h0 _ (Fin.ext (by show f.val = 0 * 2816 + f.val; omega)), h1 _ (Fin.ext (by show 2816 + f.val = 1 * 2816 + f.val; omega))]

theorem v43 (b : Fin 2) (s : Fin 2048) (k : Fin 1024) :
    val_main_v43 (F := Ideal) A.x A.g A.u A.w A.d (ix3 b s k) = out A (at2 b s) k := by
  unfold out
  rw [row_at2]
  pointwise [val_main_v43, val_main_v42]
  simp only [v41]
  rfl

theorem v56 (b : Fin 2) (s : Fin 2048) (k : Fin 1024) :
    val_main_v56 (F := Ideal) A.x A.g A.u A.w A.d A.n (ix3 b s k) = nrm (out A (at2 b s)) (vec A.n) k := by
  pointwise [val_main_v56, val_main_v55, val_main_v54, val_main_v53, val_main_v52, val_main_v51, val_main_v50, val_main_v49, val_main_v48, val_main_v47, val_main_v46, val_main_v45, val_main_v44, val_main_cst_4, val_main_cst_5, val_main_cst_6]
  simp only [v43]
  rfl

theorem res0 : val_main_v63 (F := Ideal) A.x A.g A.u A.w A.d = Out A := by
  funext i
  idx_vars i
  pointwise [val_main_v63]
  exact (v43 A _ _ _).trans (congrArg (fun i => out A i i1) (at2_row i0))

theorem res1 : val_main_v65 (F := Ideal) A.x A.g A.u A.w A.d A.n = Next A := by
  funext i
  idx_vars i
  pointwise [val_main_v65, val_main_v64]
  exact (v56 A _ _ _).trans (congrArg (fun i => nrm (out A i) (vec A.n) i1) (at2_row i0))

theorem res2 : val_main_v59 (F := Ideal) A.x A.g A.u A.w = Act A := by
  funext i
  idx_vars i
  pointwise [val_main_v59, val_main_v58, val_main_v57]
  refine (v41 A _ _ _).trans ?_
  exact congrArg (fun i => act A (fcol i0 i2) i) (at2_row i1)

theorem res3 : val_main_v62 (F := Ideal) A.x A.g A.u = Pre A := by
  have h : ∀ (b : Fin 2) (s : Fin 2048) (l : Fin 5632) (h : Fin 2) (f : Fin 2816), l = half h f →
      val_main_v13 (F := Ideal) A.x A.g A.u (ix3 b s l) = pre A h f (at2 b s) := fun b s l h f e => by rw [e, v13]
  funext i
  idx_vars i
  pointwise [val_main_v62, val_main_v61, val_main_v60]
  refine (h _ _ _ i0 (fcol i1 i3) (Fin.ext ?_)).trans ?_
  · show i0.val * 2816 + i1.val * 704 + i3.val = i0.val * 2816 + (i1.val * 704 + i3.val)
    omega
  · exact congrArg (fun i => pre A i0 (fcol i1 i3) i) (at2_row i2)

end Cert.FfnFwdRefIdeal.Stage

end
-- ==== Proof.FfnFwd.Claim.lean ====
/- The feed-forward part: the kernel's four results and the reference's are equal, for any arguments. -/
module

public import proofs.«01_k».proof.Defs
public import proofs.«01_k».proof.Proof.FfnFwd.Array
public import proofs.«01_k».proof.Proof.FfnFwd.Ref
public import proofs.«01_k».proof.Proof.Gen.FfnFwdIdeal.Value
public import proofs.«01_k».proof.Proof.Gen.FfnFwdRefIdeal.Run
public import Idealize.ShloMosaic.Adequacy
public import Idealize.ShloMosaic.Init

@[expose] public section

noncomputable section

namespace Cert.Proof

open Idealize.ShloMosaic Idealize.SL.Sem

/-- The reference's arguments as launched. -/
def ffnFwdArgs (m' : (ℓ : Loc Cert.FfnFwdRefIdeal.nD Cert.FfnFwdRefIdeal.τ Cert.FfnFwdRefIdeal.sig) → Buf (Elt Ideal) ℓ)
    (c : Dev Cert.FfnFwdRefIdeal.nD) : Cert.FfnFwdMath.Args :=
  ⟨StableHlo.launchContents m' c (Proc.tc.devRef Cert.FfnFwdRefIdeal.main_arg0),
    StableHlo.launchContents m' c (Proc.tc.devRef Cert.FfnFwdRefIdeal.main_arg1),
    StableHlo.launchContents m' c (Proc.tc.devRef Cert.FfnFwdRefIdeal.main_arg2),
    StableHlo.launchContents m' c (Proc.tc.devRef Cert.FfnFwdRefIdeal.main_arg3),
    StableHlo.launchContents m' c (Proc.tc.devRef Cert.FfnFwdRefIdeal.main_arg4),
    StableHlo.launchContents m' c (Proc.tc.devRef Cert.FfnFwdRefIdeal.main_arg5)⟩

/-- They are the kernel's where the two agree. -/
theorem ffnFwdArgs_eq {m : (ℓ : Loc Cert.FfnFwdIdeal.nD Cert.FfnFwdIdeal.τ Cert.FfnFwdIdeal.sig) → Buf (Elt Ideal) ℓ}
    {m' : (ℓ : Loc Cert.FfnFwdRefIdeal.nD Cert.FfnFwdRefIdeal.τ Cert.FfnFwdRefIdeal.sig) → Buf (Elt Ideal) ℓ} {c : Dev Cert.FfnFwdRefIdeal.nD}
    (h0 : m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0))
    (h1 : m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1))
    (h2 : m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2))
    (h3 : m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3))
    (h4 : m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4))
    (h5 : m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) :
    ffnFwdArgs m' c = Cert.FfnFwdIdeal.Block.args m c := by
  unfold ffnFwdArgs Cert.FfnFwdIdeal.Block.args
  rw [← h0, ← h1, ← h2, ← h3, ← h4, ← h5]

theorem ffn_fwd_algebraic : Cert.algebraic_FfnFwdIdeal_FfnFwdRefIdeal := by
  intro m g m' g' hpre hagree
  have e : ∀ c, ffnFwdArgs m' c = Cert.FfnFwdIdeal.Block.args m c := fun c =>
    ffnFwdArgs_eq (hagree c).1 (hagree c).2.1 (hagree c).2.2.1 (hagree c).2.2.2.1 (hagree c).2.2.2.2.1 (hagree c).2.2.2.2.2
  refine ⟨fun c => Cert.FfnFwdMath.Out (Cert.FfnFwdIdeal.Block.args m c), fun c => Cert.FfnFwdMath.Next (Cert.FfnFwdIdeal.Block.args m c),
    fun c => Cert.FfnFwdMath.Act (Cert.FfnFwdIdeal.Block.args m c), fun c => Cert.FfnFwdMath.Pre (Cert.FfnFwdIdeal.Block.args m c), ?_, ?_⟩
  · refine (θ_run Cert.FfnFwdIdeal.defs _ _).mono (fun r h c => ?_) (Cert.FfnFwdIdeal.Value.run_blocks m g)
    obtain ⟨h1, h2, h3, h4, hk⟩ := h c
    exact ⟨h1.trans Cert.FfnFwdIdeal.Block.final7, h2.trans Cert.FfnFwdIdeal.Block.final8,
      h3.trans Cert.FfnFwdIdeal.Block.final9, h4.trans Cert.FfnFwdIdeal.Block.final10, hk⟩
  · refine (θ_run Cert.FfnFwdRefIdeal.defs _ _).mono (fun r h c => ?_) (Cert.FfnFwdRefIdeal.Value.run m' g')
    obtain ⟨h1, h2, h3, h4, hk⟩ := h c
    have e := e c
    have q1 := (Cert.FfnFwdRefIdeal.Stage.res0 (ffnFwdArgs m' c)).trans (congrArg Cert.FfnFwdMath.Out e)
    have q2 := (Cert.FfnFwdRefIdeal.Stage.res1 (ffnFwdArgs m' c)).trans (congrArg Cert.FfnFwdMath.Next e)
    have q3 := (Cert.FfnFwdRefIdeal.Stage.res2 (ffnFwdArgs m' c)).trans (congrArg Cert.FfnFwdMath.Act e)
    have q4 := (Cert.FfnFwdRefIdeal.Stage.res3 (ffnFwdArgs m' c)).trans (congrArg Cert.FfnFwdMath.Pre e)
    have p1 := h1.trans (Cert.FfnFwdRefIdeal.Read.val_main_v63_eq m' c)
    have p2 := h2.trans (Cert.FfnFwdRefIdeal.Read.val_main_v65_eq m' c)
    have p3 := h3.trans (Cert.FfnFwdRefIdeal.Read.val_main_v59_eq m' c)
    have p4 := h4.trans (Cert.FfnFwdRefIdeal.Read.val_main_v62_eq _ _ _)
    exact ⟨p1.trans q1, p2.trans q2, p3.trans q3, p4.trans q4, hk⟩

/-- The reference leaves its arguments unchanged; it declares no semaphore. -/
theorem ffn_fwd_ref_frame : Cert.quiescent_FfnFwdRefIdeal := fun m ρ _ =>
  (θ_run Cert.FfnFwdRefIdeal.defs _ _).mono (fun r h => ⟨fun c => (h c).2.2.2.2, sem_eq_zero_of_no_sems (by decide) r.2⟩)
    (Cert.FfnFwdRefIdeal.Value.run m ρ)

end Cert.Proof

end
-- ==== Proof.FfnLast.Block.lean ====
/- What one grid point of the last feed-forward kernel leaves in the blocks of its results. -/
module

public import proofs.«01_k».proof.Proof.Gen.FfnLastIdeal.Frame
public import proofs.«01_k».proof.Proof.FfnFwd.Tile
public import Idealize.ShloMosaic.Lib.Tactic

@[expose] public section

set_option maxRecDepth 16384

noncomputable section

namespace Cert.FfnLastIdeal.Block

open Idealize.ShloMosaic Idealize.ShloMosaic.TcCoe Idealize.ShloMosaic.Tactic Idealize.SL.Sem
open Idealize.ShloMosaic.Pipeline (Dat)
open Cert.FfnLastIdeal Cert.FfnLastIdeal.Gen
open Cert.FfnTile (Tile conv gate gated step three next stored wd wu act of_piece3 of_piece4 rows_eq)

variable (m : (ℓ : Loc nD τ sig) → Buf (Elt Ideal) ℓ) (c : Dev nD) (t : Fin cfg0.N)

/-- The point's blocks. -/
def tile : Tile :=
  ⟨k0_pay4 (grid0.coords t), iblk m c 0 t, iblk m c 1 t, iblk m c 2 t, iblk m c 3 t, iblk m c 4 t, iblk m c 5 t⟩

/-- A value of the body at the point's blocks. -/
def val {α : Type} (f : grid0.Coords → Vec Ideal S256x1024 .bf16 → Vec Ideal S16x1024 .bf16 → Vec Ideal S8x704x1024 .bf16
    → Vec Ideal S2x4x3x704 .f32 → Vec Ideal S4x704x1024 .bf16 → Vec Ideal S256x1024 .f32 → α) : α :=
  f (grid0.coords t) (iblk m c 0 t) (iblk m c 1 t) (iblk m c 2 t) (iblk m c 3 t) (iblk m c 4 t) (iblk m c 5 t)

theorem out6 : (dats m 0 c).after 6 t = step (tile m c t) (three (tile m c t)) 3 := by
  rw [after0_6]
  unfold out0_6
  exact (View.canon_cons_unit_lit' _ _ _ (by decide)).trans (by sl_kernel_rfl)

/-- The four pairs' gated rows, as the body spells them. -/
theorem gated0 : k0_pay19 (val m c t k0_pay61) (val m c t k0_pay62) (val m c t k0_pay63) (val m c t k0_pay64) (val m c t k0_pay65) (val m c t k0_pay66) = gated (tile m c t) 0 := by sl_kernel_rfl
theorem gated1 : k0_pay32 (val m c t k0_pay67) (val m c t k0_pay68) (val m c t k0_pay69) = gated (tile m c t) 1 := by sl_kernel_rfl
theorem gated2 : k0_pay45 (val m c t k0_pay73) (val m c t k0_pay74) (val m c t k0_pay75) = gated (tile m c t) 2 := by sl_kernel_rfl
theorem gated3 : k0_pay2 (val m c t k0_pay81) (val m c t k0_pay82) (val m c t k0_pay83) = gated (tile m c t) 3 := by sl_kernel_rfl

theorem out7 (y : S4x256x704.Idx) : (dats m 0 c).after 7 t y = gated (tile m c t) (y 0) (ix3 0 (y 1) (y 2)) := by
  rw [after0_7]; frame_out
  canon_tiles x h
  all_goals
    rw [show (x 0 : ℕ) = 0 by omega] at h0
  · exact of_piece3 h0 h1 h2 fun _ => gated3 m c t
  · exact of_piece3 h0 h1 h2 fun _ => gated2 m c t
  · exact of_piece3 h0 h1 h2 fun _ => gated1 m c t
  · exact of_piece3 h0 h1 h2 fun _ => gated0 m c t

/-- The stored pre-activations, as the body spells them. -/
theorem stored13 : k0_pay56 (val m c t k0_pay60) (wu (tile m c t) 7) = stored (tile m c t) 1 3 := by sl_kernel_rfl
theorem stored03 : k0_pay48 (val m c t k0_pay60) (wu (tile m c t) 3) = stored (tile m c t) 0 3 := by sl_kernel_rfl
theorem stored12 : k0_pay41 (val m c t k0_pay60) (wu (tile m c t) 6) = stored (tile m c t) 1 2 := by sl_kernel_rfl
theorem stored02 : k0_pay35 (val m c t k0_pay60) (wu (tile m c t) 2) = stored (tile m c t) 0 2 := by sl_kernel_rfl
theorem stored11 : k0_pay26 (val m c t k0_pay60) (wu (tile m c t) 5) = stored (tile m c t) 1 1 := by sl_kernel_rfl
theorem stored01 : k0_pay22 (val m c t k0_pay60) (wu (tile m c t) 1) = stored (tile m c t) 0 1 := by sl_kernel_rfl
theorem stored10 : k0_pay12 (val m c t k0_pay60) (wu (tile m c t) 4) = stored (tile m c t) 1 0 := by sl_kernel_rfl
theorem stored00 : k0_pay8 (iblk m c 1 t) (iblk m c 0 t) (View.ld (Val := Elt Ideal) (iblk m c 2 t) r0_2) = stored (tile m c t) 0 0 := by
  unfold stored
  rw [rows_eq]
  sl_kernel_rfl

theorem out8 (y : S2x4x256x704.Idx) : (dats m 0 c).after 8 t y = stored (tile m c t) (y 0) (y 1) (ix4 0 0 (y 2) (y 3)) := by
  rw [after0_8]; frame_out
  canon_tiles x h
  all_goals
    rw [show (x 0 : ℕ) = 0 by omega] at h0
    rw [show (x 1 : ℕ) = 0 by omega] at h1
  · exact of_piece4 h0 h1 h2 h3 fun _ _ => stored13 m c t
  · exact of_piece4 h0 h1 h2 h3 fun _ _ => stored03 m c t
  · exact of_piece4 h0 h1 h2 h3 fun _ _ => stored12 m c t
  · exact of_piece4 h0 h1 h2 h3 fun _ _ => stored02 m c t
  · exact of_piece4 h0 h1 h2 h3 fun _ _ => stored11 m c t
  · exact of_piece4 h0 h1 h2 h3 fun _ _ => stored01 m c t
  · exact of_piece4 h0 h1 h2 h3 fun _ _ => stored10 m c t
  · exact of_piece4 h0 h1 h2 h3 fun _ _ => stored00 m c t

end Cert.FfnLastIdeal.Block

end
-- ==== Proof.FfnLast.Pay.lean ====
/- The blocks of one grid point of the last feed-forward kernel, over the extended reals. -/
module

public import proofs.«01_k».proof.Proof.FfnLast.Block
public import proofs.«01_k».proof.Proof.FfnFwd.Pay

@[expose] public section

set_option maxRecDepth 16384

noncomputable section

namespace Cert.FfnLastIdeal.Block

open Idealize.ShloMosaic Idealize.ShloMosaic.TcCoe Idealize.SL.Sem
open Cert.FfnLastIdeal Cert.FfnLastIdeal.Gen Cert.Rows Cert.FfnTile
open Cert.FfnFwdMath (Args fcol xn)
open scoped BigOperators

variable (m : (ℓ : Loc nD τ sig) → Buf (Elt Ideal) ℓ) (c : Dev nD) (t : Fin cfg0.N)

/-- The arguments; no norm follows, so the last one stands for none. -/
def args : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg1)⟩

/-- The block index of every window. -/
theorem idx : ∀ t : Fin cfg0.N, win0_0.index t = ![t.val, 0] ∧ win0_1.index t = ![16 * t.val - 1, 0]
    ∧ win0_2.index t = ![0, 0, 0] ∧ win0_3.index t = ![0, 0, 0, 0] ∧ win0_4.index t = ![0, 0, 0]
    ∧ win0_5.index t = ![t.val, 0] ∧ win0_6.index t = ![t.val, 0] ∧ win0_7.index t = ![0, t.val, 0]
    ∧ win0_8.index t = ![0, 0, t.val, 0] ∧ t.val < 16 :=
  (by decide +kernel : ∀ t : Fin grid0.N, _)

theorem lt16 : t.val < 16 := (idx t).2.2.2.2.2.2.2.2.2

/-- The point's number. -/
def pt : Fin 16 := ⟨t.val, lt16 t⟩

theorem hm_at (r : Fin 256) (k : Fin 1024) :
    (show Vec Ideal S256x1024 .bf16 from iblk m c 0 t) (ix2 r k) = xn (args m c) (rowAt (pt t) r) k := by
  blk_simp [iblk]
  entry_read
  pointwise
  refine Eq.trans (b := xn (args m c) (((View.whole main_v22).slice (win0_0.rect t)).emb (ix2 r k) 0)
    (((View.whole main_v22).slice (win0_0.rect t)).emb (ix2 r k) 1)) rfl ?_
  refine congrArg₂ (xn (args m c)) (Fin.ext ?_) (Fin.ext ?_)
  · blk_simp [rowAt, pt, idx t]
  · blk_simp [idx t]
theorem hp_at (r : Fin 16) (k : Fin 1024) :
    (show Vec Ideal S16x1024 .bf16 from iblk m c 1 t) (ix2 r k) = xn (args m c) (rowBefore (pt t) r) k := by
  blk_simp [iblk]
  entry_read
  pointwise
  refine Eq.trans (b := xn (args m c) (((View.whole main_v22).slice (win0_1.rect t)).emb (ix2 r k) 0)
    (((View.whole main_v22).slice (win0_1.rect t)).emb (ix2 r k) 1)) rfl ?_
  refine congrArg₂ (xn (args m c)) (Fin.ext ?_) (Fin.ext ?_)
  · blk_simp [rowBefore, pt, idx t]
  · blk_simp [idx t]
theorem wu_at (q : Fin 8) (k : Fin 704) (l : Fin 1024) :
    (show Vec Ideal S8x704x1024 .bf16 from iblk m c 2 t) (ix3 q k l) = mat (args m c).u l ⟨q.val * 704 + k.val, by omega⟩ := by
  rw [mat]
  blk_simp [iblk]
  entry_read
  pointwise
  blk_ext [idx t]
theorem cw_at (s : Fin 2) (p : Fin 4) (j : Fin 3) (k : Fin 704) :
    (show Vec Ideal S2x4x3x704 .f32 from iblk m c 3 t) (ix4 s p j k) = FfnFwdMath.cw (args m c) s (fcol p k) j := by
  rw [FfnFwdMath.cw, mat]
  blk_simp [iblk]
  entry_read
  pointwise
  blk_ext [idx t, fcol, FfnFwdMath.half]
theorem wd_at (p : Fin 4) (k : Fin 704) (l : Fin 1024) :
    (show Vec Ideal S4x704x1024 .bf16 from iblk m c 4 t) (ix3 p k l) = mat (args m c).d (fcol p k) l := by
  rw [mat]
  blk_simp [iblk]
  entry_read
  pointwise
  blk_ext [idx t, fcol]
theorem x_at (r : Fin 256) (k : Fin 1024) :
    (show Vec Ideal S256x1024 .f32 from iblk m c 5 t) (ix2 r k) = row (args m c).x (rowAt (pt t) r) k := by
  rw [row]
  blk_simp [iblk]
  entry_read
  pointwise
  blk_ext [rowAt, pt, idx t]
/-- The window at the edge is the other feed-forward call's. -/
theorem edge_at (j : Fin 264) : k0_pay4 (F := Ideal) (grid0.coords t) (ix2 j 0) = if j.val < 8 ∧ t.val % 8 = 0 then (0 : EReal) else 1 :=
  Eq.trans (b := Cert.FfnFwdIdeal.Gen.k0_pay5 (F := Ideal) (Cert.FfnFwdIdeal.grid0.coords t) (ix2 j 0)) (by sl_kernel_rfl)
    (Cert.FfnFwdIdeal.Block.edge_at t j)

/-- The point's blocks, from the arguments. -/
theorem tile_of : (tile m c t).Of (args m c) (pt t) :=
  ⟨edge_at t, hm_at m c t, hp_at m c t, wu_at m c t, cw_at m c t, wd_at m c t, x_at m c t⟩

end Cert.FfnLastIdeal.Block

end
-- ==== Proof.FfnLast.Array.lean ====
/- The last feed-forward part: the kernel's three result arrays after the run. -/
module

public import proofs.«01_k».proof.Proof.FfnLast.Pay

@[expose] public section

set_option maxRecDepth 16384

noncomputable section

namespace Cert.FfnLastIdeal.Block

open Idealize.ShloMosaic Idealize.ShloMosaic.TcCoe Idealize.SL.Sem
open Cert.FfnLastIdeal Cert.FfnLastIdeal.Gen
open Cert.FfnFwdMath (Out Act Pre)
open Cert.FfnTile

variable {m : (ℓ : Loc nD τ sig) → Buf (Elt Ideal) ℓ} {c : Dev nD}

theorem final6 : (dats m 0 c).arrAt 6 (cfgs 0).N = Out (args m c) := by
  refine (dats m 0 c).arrAt_eq_of_covers 6 _ (by decide +kernel) fun t _ y => ?_
  blk_simp
  refine (congrFun (out6 m c t) y).trans ?_
  idx_vars y
  refine (out_at (tile_of m c t) y0 y1).trans ?_
  refine congrArg (fun i : S4096x1024.Idx => Out (args m c) i) (a₁ := (ix2 (rowAt (pt t) y0) y1 : S4096x1024.Idx)) ?_
  blk_ext [rowAt, pt, idx t]

theorem final7 : (dats m 0 c).arrAt 7 (cfgs 0).N = Act (args m c) := by
  refine (dats m 0 c).arrAt_eq_of_covers 7 _ (by decide +kernel) fun t _ y => ?_
  blk_simp
  refine (out7 m c t y).trans ?_
  idx_vars y
  refine (gated_at (tile_of m c t) y0 y1 y2).trans ?_
  refine congrArg (fun i : S4x4096x704.Idx => Act (args m c) i) (a₁ := (ix3 y0 (rowAt (pt t) y1) y2 : S4x4096x704.Idx)) ?_
  blk_ext [rowAt, pt, idx t]

theorem final8 : (dats m 0 c).arrAt 8 (cfgs 0).N = Pre (args m c) := by
  refine (dats m 0 c).arrAt_eq_of_covers 8 _ (by decide +kernel) fun t _ y => ?_
  blk_simp
  refine (out8 m c t y).trans ?_
  idx_vars y
  refine (stored_at (tile_of m c t) y0 y1 y2 y3).trans ?_
  refine congrArg (fun i : S2x4x4096x704.Idx => Pre (args m c) i) (a₁ := (ix4 y0 y1 (rowAt (pt t) y2) y3 : S2x4x4096x704.Idx)) ?_
  blk_ext [rowAt, pt, idx t]

end Cert.FfnLastIdeal.Block

end
-- ==== Proof.FfnLast.Ref.lean ====
/- The reference of the last feed-forward part: its lines are those of the other one, without the next norm. -/
module

public import proofs.«01_k».proof.Proof.Gen.FfnLastRefIdeal.Read
public import proofs.«01_k».proof.Proof.FfnFwd.Ref
public import Idealize.ShloMosaic.Lib.Tactic

@[expose] public section

noncomputable section

namespace Cert.FfnLastRefIdeal.Stage

open Idealize.ShloMosaic Idealize.ShloMosaic.Tactic Cert.FfnLastRefIdeal.Read
open Cert.FfnFwdMath (Args Out Act Pre)

variable (A : Args)

theorem res0 : val_main_v50 (F := Ideal) A.x A.g A.u A.w A.d = Out A :=
  Eq.trans (b := Cert.FfnFwdRefIdeal.Read.val_main_v63 (F := Ideal) A.x A.g A.u A.w A.d) (by sl_kernel_rfl)
    (Cert.FfnFwdRefIdeal.Stage.res0 A)
theorem res1 : val_main_v46 (F := Ideal) A.x A.g A.u A.w = Act A :=
  Eq.trans (b := Cert.FfnFwdRefIdeal.Read.val_main_v59 (F := Ideal) A.x A.g A.u A.w) (by sl_kernel_rfl)
    (Cert.FfnFwdRefIdeal.Stage.res2 A)
theorem res2 : val_main_v49 (F := Ideal) A.x A.g A.u = Pre A :=
  Eq.trans (b := Cert.FfnFwdRefIdeal.Read.val_main_v62 (F := Ideal) A.x A.g A.u) (by sl_kernel_rfl)
    (Cert.FfnFwdRefIdeal.Stage.res3 A)

end Cert.FfnLastRefIdeal.Stage

end
-- ==== Proof.FfnLast.Claim.lean ====
/- The last feed-forward part: the kernel's three results and the reference's are equal, for any arguments. -/
module

public import proofs.«01_k».proof.Defs
public import proofs.«01_k».proof.Proof.FfnLast.Array
public import proofs.«01_k».proof.Proof.FfnLast.Ref
public import proofs.«01_k».proof.Proof.Gen.FfnLastIdeal.Value
public import proofs.«01_k».proof.Proof.Gen.FfnLastRefIdeal.Run
public import Idealize.ShloMosaic.Adequacy
public import Idealize.ShloMosaic.Init

@[expose] public section

noncomputable section

namespace Cert.Proof

open Idealize.ShloMosaic Idealize.SL.Sem

/-- The reference's arguments as launched. -/
def ffnLastArgs (m' : (ℓ : Loc Cert.FfnLastRefIdeal.nD Cert.FfnLastRefIdeal.τ Cert.FfnLastRefIdeal.sig) → Buf (Elt Ideal) ℓ)
    (c : Dev Cert.FfnLastRefIdeal.nD) : Cert.FfnFwdMath.Args :=
  ⟨StableHlo.launchContents m' c (Proc.tc.devRef Cert.FfnLastRefIdeal.main_arg0),
    StableHlo.launchContents m' c (Proc.tc.devRef Cert.FfnLastRefIdeal.main_arg1),
    StableHlo.launchContents m' c (Proc.tc.devRef Cert.FfnLastRefIdeal.main_arg2),
    StableHlo.launchContents m' c (Proc.tc.devRef Cert.FfnLastRefIdeal.main_arg3),
    StableHlo.launchContents m' c (Proc.tc.devRef Cert.FfnLastRefIdeal.main_arg4),
    StableHlo.launchContents m' c (Proc.tc.devRef Cert.FfnLastRefIdeal.main_arg1)⟩

/-- They are the kernel's where the two agree. -/
theorem ffnLastArgs_eq {m : (ℓ : Loc Cert.FfnLastIdeal.nD Cert.FfnLastIdeal.τ Cert.FfnLastIdeal.sig) → Buf (Elt Ideal) ℓ}
    {m' : (ℓ : Loc Cert.FfnLastRefIdeal.nD Cert.FfnLastRefIdeal.τ Cert.FfnLastRefIdeal.sig) → Buf (Elt Ideal) ℓ} {c : Dev Cert.FfnLastRefIdeal.nD}
    (h0 : m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0))
    (h1 : m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1))
    (h2 : m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2))
    (h3 : m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3))
    (h4 : m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)) :
    ffnLastArgs m' c = Cert.FfnLastIdeal.Block.args m c := by
  unfold ffnLastArgs Cert.FfnLastIdeal.Block.args
  rw [← h0, ← h1, ← h2, ← h3, ← h4]

theorem ffn_last_algebraic : Cert.algebraic_FfnLastIdeal_FfnLastRefIdeal := by
  intro m g m' g' hpre hagree
  have e : ∀ c, ffnLastArgs m' c = Cert.FfnLastIdeal.Block.args m c := fun c =>
    ffnLastArgs_eq (hagree c).1 (hagree c).2.1 (hagree c).2.2.1 (hagree c).2.2.2.1 (hagree c).2.2.2.2
  refine ⟨fun c => Cert.FfnFwdMath.Out (Cert.FfnLastIdeal.Block.args m c), fun c => Cert.FfnFwdMath.Act (Cert.FfnLastIdeal.Block.args m c),
    fun c => Cert.FfnFwdMath.Pre (Cert.FfnLastIdeal.Block.args m c), ?_, ?_⟩
  · refine (θ_run Cert.FfnLastIdeal.defs _ _).mono (fun r h c => ?_) (Cert.FfnLastIdeal.Value.run_blocks m g)
    obtain ⟨h1, h2, h3, hk⟩ := h c
    exact ⟨h1.trans Cert.FfnLastIdeal.Block.final6, h2.trans Cert.FfnLastIdeal.Block.final7,
      h3.trans Cert.FfnLastIdeal.Block.final8, hk⟩
  · refine (θ_run Cert.FfnLastRefIdeal.defs _ _).mono (fun r h c => ?_) (Cert.FfnLastRefIdeal.Value.run m' g')
    obtain ⟨h1, h2, h3, hk⟩ := h c
    have e := e c
    have q1 := (Cert.FfnLastRefIdeal.Stage.res0 (ffnLastArgs m' c)).trans (congrArg Cert.FfnFwdMath.Out e)
    have q2 := (Cert.FfnLastRefIdeal.Stage.res1 (ffnLastArgs m' c)).trans (congrArg Cert.FfnFwdMath.Act e)
    have q3 := (Cert.FfnLastRefIdeal.Stage.res2 (ffnLastArgs m' c)).trans (congrArg Cert.FfnFwdMath.Pre e)
    have p1 := h1.trans (Cert.FfnLastRefIdeal.Read.val_main_v50_eq m' c)
    have p2 := h2.trans (Cert.FfnLastRefIdeal.Read.val_main_v46_eq m' c)
    have p3 := h3.trans (Cert.FfnLastRefIdeal.Read.val_main_v49_eq _ _ _)
    exact ⟨p1.trans q1, p2.trans q2, p3.trans q3, hk⟩

/-- The reference leaves its arguments unchanged; it declares no semaphore. -/
theorem ffn_last_ref_frame : Cert.quiescent_FfnLastRefIdeal := fun m ρ _ =>
  (θ_run Cert.FfnLastRefIdeal.defs _ _).mono (fun r h => ⟨fun c => (h c).2.2.2, sem_eq_zero_of_no_sems (by decide) r.2⟩)
    (Cert.FfnLastRefIdeal.Value.run m ρ)

end Cert.Proof

end
-- ==== Proof.ConvFwd.Block.lean ====
/- What one grid point of the mixing kernel computes, stated once for the four chunks of rows. -/
module

public import proofs.«01_k».proof.Proof.Gen.ConvFwdIdeal.Frame
public import Idealize.ShloMosaic.Lib.Claim
public import Idealize.ShloMosaic.Lib.Pipeline.ValueKit

@[expose] public section

set_option maxRecDepth 16384

noncomputable section

namespace Cert.ConvFwdIdeal.Block

open Idealize.ShloMosaic Idealize.ShloMosaic.TcCoe Idealize.SL.Sem
open Idealize.ShloMosaic.Pipeline (Dat)
open Cert.ConvFwdIdeal Cert.ConvFwdIdeal.Gen

/-- A chunk's rows with the eight before them, and its own rows. -/
abbrev Win : Type := FVec Ideal S520x128 .f32
abbrev Own : Type := FVec Ideal S512x128 .f32

/-- A window moved down by one row. -/
def down (v : Win) : Win := dynamicRotate 0 1#32 none v rotates_S520x128_d0

/-- One row of the convolution weights, along the window. -/
def tap (w : Vec Ideal S3x128 .f32) (j : Fin 3) : Win :=
  match j with
  | 0 => broadcastTo S520x128 (extractStridedSlice S1x128 ![0, 0] w slices_S3x128_o0_0_S1x128) broadcasts_S1x128_S520x128
  | 1 => broadcastTo S520x128 (extractStridedSlice S1x128 ![1, 0] w slices_S3x128_o1_0_S1x128) broadcasts_S1x128_S520x128
  | 2 => broadcastTo S520x128 (extractStridedSlice S1x128 ![2, 0] w slices_S3x128_o2_0_S1x128) broadcasts_S1x128_S520x128

/-- The convolution along the window. -/
def conv (w : Vec Ideal S3x128 .f32) (z : Win) : Win :=
  addf (addf (mulf (tap w 0) (down (down z))) (mulf (tap w 1) (down z))) (mulf (tap w 2) z)

/-- A product with the matrix of the two groups. -/
def dot (v : FVec Ideal S512x128 .bf16) : Own :=
  matmul dot_S512x128_S128x128_S512x128_1_0_0_1_n_n none v k0_pay1 (constant S512x128 .f32 0x00000000#32)
/-- The mean over each group of 64 columns, in two halves of the value's precision. -/
def mean (v : Own) : Own :=
  mulf (addf (dot (truncf .bf16 v bitsLt_bf16_f32))
      (dot (truncf .bf16 (subf v (extf .f32 (truncf .bf16 v bitsLt_bf16_f32) bitsLt_bf16_f32)) bitsLt_bf16_f32)))
    (broadcast S512x128 (Scalar.ofBits .f32 0x3C800000#32))
/-- The reciprocal root mean square of each group. -/
def rsq (y : Own) : Own := rsqrt (addf (mean (mulf y y)) (broadcast S512x128 (Scalar.ofBits .f32 0x358637BD#32)))

variable (m : (ℓ : Loc nD τ sig) → Buf (Elt Ideal) ℓ) (c : Dev nD) (t : Fin cfg0.N)

theorem inb_prev (n : Fin 4) (a : Fin 2) : (![n.val * 512 - 16, 0] : Fin 2 → ℕ) a + S16x128.size a ≤ S2048x128.size a := by
  fin_cases n <;> fin_cases a <;> decide
theorem inb_own (n : Fin 4) (a : Fin 2) : (![n.val * 512, 0] : Fin 2 → ℕ) a + S512x128.size a ≤ S2048x128.size a := by
  fin_cases n <;> fin_cases a <;> decide

section
variable (x : Vec Ideal S2048x128 .f32) (n : Fin 4)
/-- The sixteen rows before a chunk, and its own rows. -/
def prev : Vec Ideal S16x128 .f32 := View.ld (Val := Elt Ideal) x (Rect.unit ![n.val * 512 - 16, 0] S16x128.size (inb_prev n))
def own : Vec Ideal S512x128 .f32 := View.ld (Val := Elt Ideal) x (Rect.unit ![n.val * 512, 0] S512x128.size (inb_own n))
/-- The window of a chunk: the rows before the first chunk at zero. -/
def win : Win :=
  concatenate S520x128 0
    [⟨S8x128, mulf (k0_pay9 (prev x n) : FVec Ideal S8x128 .f32)
        (broadcast S8x128 (Scalar.sitofp .f32 (Scalar.extui (Scalar.cmpi .sgt (BitVec.ofNat 32 n.val) 0#32) : BitVec 32)))⟩,
      ⟨S512x128, k0_pay6 (own x n)⟩] concatenates_S8x128_S512x128_S520x128_d0
end

/-- The product the convolution runs over. -/
def z (n : Fin 4) : Win := mulf (win (iblk m c 1 t) n) (win (iblk m c 2 t) n)
/-- The gated product on the chunk's own rows. -/
def y (n : Fin 4) : Own :=
  mulf (k0_pay6 (own (iblk m c 0 t) n))
    (extractStridedSlice S512x128 ![8, 0] (conv (iblk m c 3 t) (z m c t n)) slices_S520x128_o8_0_S512x128)
/-- What a chunk stores. -/
def chunk (n : Fin 4) : FVec Ideal S512x128 .bf16 :=
  truncf .bf16 (mulf (mulf (y m c t n) (rsq (y m c t n)))
    (broadcastTo S512x128 (k0_pay2 (iblk m c 4 t)) broadcasts_S1x128_S512x128)) bitsLt_bf16_f32

/-- A piece of a family with one chunk in each piece, read at the index of the whole. -/
theorem of_chunk {G : Fin 4 → FVec Ideal S512x128 .bf16} {P : FVec Ideal S512x128 .bf16}
    {y : S2048x128.Idx} {x : S512x128.Idx} {n : ℕ} (h0 : (y 0 : ℕ) = n * 512 + x 0) (h1 : (y 1 : ℕ) = x 1)
    (h : ∀ hn : n < 4, P = G ⟨n, hn⟩) :
    P x = G ⟨(y 0).val / 512, by have : (y 0 : ℕ) < 2048 := (y 0).isLt; omega⟩ (ix2 ⟨(y 0).val % 512, by omega⟩ (y 1)) := by
  have x0 : (x 0 : ℕ) < 512 := (x 0).isLt
  have y0 : (y 0 : ℕ) < 2048 := (y 0).isLt
  have e : ix2 ⟨(y 0).val % 512, by omega⟩ (y 1) = x := by
    funext a
    match a with
    | 0 => exact Fin.ext (show (y 0 : ℕ) % 512 = (x 0 : ℕ) by omega)
    | 1 => exact Fin.ext h1
  have en : n = (y 0).val / 512 := by omega
  subst en
  exact (congrFun (h (by omega)) x).trans (congrArg _ e.symm)

theorem out5 (i : S2048x128.Idx) : (dats m 0 c).after 5 t i =
    chunk m c t ⟨(i 0).val / 512, by have : (i 0 : ℕ) < 2048 := (i 0).isLt; omega⟩ (ix2 ⟨(i 0).val % 512, by omega⟩ (i 1)) := by
  rw [after0_5]; unfold outsAt0; frame_out
  canon_tiles x h
  all_goals
    first
      | (have e : (i 0 : ℕ) = 0 * 512 + x 0 := by omega); exact of_chunk e h1 fun _ => by sl_kernel_rfl
      | (have e : (i 0 : ℕ) = 1 * 512 + x 0 := by omega); exact of_chunk e h1 fun _ => by sl_kernel_rfl
      | (have e : (i 0 : ℕ) = 2 * 512 + x 0 := by omega); exact of_chunk e h1 fun _ => by sl_kernel_rfl
      | (have e : (i 0 : ℕ) = 3 * 512 + x 0 := by omega); exact of_chunk e h1 fun _ => by sl_kernel_rfl

end Cert.ConvFwdIdeal.Block

end
-- ==== Proof.ConvFwd.Math.lean ====
/- The short gated convolution and its group norm, over the reals: what the kernel and the reference both compute. -/
module

public import proofs.«01_k».proof.Proof.Conv.Math

@[expose] public section

noncomputable section

namespace Cert.ConvFwdMath

open Idealize.ShloMosaic Cert.Norm Cert.Seq Cert.ConvMath

/-- The five arguments that the result is computed from: rows, gain, projection matrix, convolution weights, gain of the
    group norm. Nothing stands for the two that only the gradient takes. -/
def five (x : FVec Ideal ⟨3, ![2, 2048, 1024]⟩ .f32) (g : FVec Ideal ⟨1, ![1024]⟩ .f32) (u : FVec Ideal ⟨2, ![1024, 3072]⟩ .f32)
    (w : FVec Ideal ⟨2, ![3, 512]⟩ .f32) (h : FVec Ideal ⟨1, ![512]⟩ .f32) : Args :=
  ⟨x, g, u, w, h, fun _ => ((0 : ℝ) : EReal), fun _ => ((0 : ℝ) : EReal)⟩

variable (A : Args)

/-- The normalised gated product at a position, times the gain. -/
def out (l : Fin 512) (b q : ℕ) : ℝ := gy A l b q * Group.rs (grp A l b q) * vec A.h l

/-- The result: the columns of the array that is written into, then those of the convolution. -/
def Res (p : FVec Ideal ⟨2, ![4096, 1024]⟩ .bf16) (i : Shape.Idx ⟨2, ![4096, 1024]⟩) : EReal :=
  if h : (i 1).val < 512 then p i
  else ((out A ⟨(i 1).val - 512, by have : (i 1).val < 1024 := (i 1).isLt; omega⟩ ((i 0).val / 2048) ((i 0).val % 2048 + 8) : ℝ) : EReal)

theorem Res_lo (p : FVec Ideal ⟨2, ![4096, 1024]⟩ .bf16) (i : Fin 4096) (l : Fin 1024) (h : l.val < 512) :
    Res A p (ix2 i l) = p (ix2 i l) := dif_pos h
theorem Res_hi (p : FVec Ideal ⟨2, ![4096, 1024]⟩ .bf16) (i : Fin 4096) (l : Fin 1024) (h : ¬ l.val < 512) : Res A p (ix2 i l) =
    ((out A ⟨l.val - 512, by omega⟩ (i.val / 2048) (i.val % 2048 + 8) : ℝ) : EReal) := dif_neg h

end Cert.ConvFwdMath

end
-- ==== Proof.ConvFwd.Pay.lean ====
/- One grid point of the mixing kernel, over the reals. -/
module

public import proofs.«01_k».proof.Proof.ConvFwd.Block
public import proofs.«01_k».proof.Proof.ConvFwd.Math

@[expose] public section

set_option maxRecDepth 16384

noncomputable section

namespace Cert.ConvFwdIdeal.Block

open Idealize.ShloMosaic Idealize.ShloMosaic.TcCoe Idealize.SL.Sem
open Cert.ConvFwdIdeal Cert.ConvFwdIdeal.Gen
open Cert.Reals Cert.Norm Cert.Seq Cert.ConvMath
open scoped BigOperators

variable (m : (ℓ : Loc nD τ sig) → Buf (Elt Ideal) ℓ) (c : Dev nD) (t : Fin cfg0.N)

/-- The arguments that the convolution is computed from. -/
def args : Args :=
  ConvFwdMath.five (m ((c : Thread nD τ).loc main_arg0)) (m ((c : Thread nD τ).loc main_arg1)) (m ((c : Thread nD τ).loc main_arg2))
    (m ((c : Thread nD τ).loc main_arg3)) (m ((c : Thread nD τ).loc main_arg4))

/-- The block index of every window. -/
theorem idx : ∀ t : Fin cfg0.N, win0_0.index t = ![t.val / 4, 12 + t.val % 4] ∧ win0_1.index t = ![t.val / 4, 16 + t.val % 4]
    ∧ win0_2.index t = ![t.val / 4, 20 + t.val % 4] ∧ win0_3.index t = ![0, t.val % 4] ∧ win0_4.index t = ![0, t.val % 4]
    ∧ win0_5.index t = ![t.val / 4, 4 + t.val % 4] ∧ t.val < 8 :=
  (by decide +kernel : ∀ t : Fin grid0.N, _)

theorem lt8 : t.val < 8 := (idx t).2.2.2.2.2.2

/-- A row of the point's sequence among all rows, and a column of its block among all columns. -/
def rowAt (r : Fin 2048) : Fin 4096 := ⟨t.val / 4 * 2048 + r.val, by have := lt8 t; omega⟩
def colAt (k : Fin 128) : Fin 512 := ⟨t.val % 4 * 128 + k.val, by omega⟩

/-- A factor of a row, as the host lines compute it. -/
theorem pj_val {A : Args} (hA : A.Real) (i : Fin 4096) (l : Fin 3072) {s : Fin 3} {f : Fin 512} (h : l = pcol s f) :
    ∑ x, A.x (ix3 ⟨i.val / 2048, by omega⟩ ⟨i.val % 2048, by omega⟩ x) * Ideal.rsqrt (Ideal.div
        (∑ x, A.x (ix3 ⟨i.val / 2048, by omega⟩ ⟨i.val % 2048, by omega⟩ x)
          * A.x (ix3 ⟨i.val / 2048, by omega⟩ ⟨i.val % 2048, by omega⟩ x)) (Ideal.ofBits .f32 1149239296#32)
        + Ideal.ofBits .f32 897988541#32) * A.g (ix1 x) * A.u (ix2 x l) = ((pj A s f i : ℝ) : EReal) := by
  have hx : ∀ x, A.x (ix3 ⟨i.val / 2048, by omega⟩ ⟨i.val % 2048, by omega⟩ x) = ((row A.x i x : ℝ) : EReal) :=
    fun x => coe_re (hA.x _)
  have hg : ∀ x, A.g (ix1 x) = ((vec A.g x : ℝ) : EReal) := fun x => coe_re (hA.g _)
  have hu : ∀ x, A.u (ix2 x l) = ((mat A.u x l : ℝ) : EReal) := fun x => coe_re (hA.u _)
  have hr : Ideal.rsqrt (Ideal.div (∑ x, ((row A.x i x : ℝ) : EReal) * ((row A.x i x : ℝ) : EReal))
      (Ideal.ofBits .f32 1149239296#32) + Ideal.ofBits .f32 897988541#32) = ((rs (row A.x i) : ℝ) : EReal) := by
    simp only [mul_coe, coe_sum, ofBits_1024, ofBits_eps, add_coe, div_coe _ (by norm_num : (1024 : ℝ) ≠ 0)]
    exact rsqrt_coe (ms_pos (row A.x i))
  subst h
  simp only [hx, hg, hu]
  rw [hr]
  simp only [mul_coe, coe_sum]
  rfl

section
variable (hA : (args m c).Real) (r : Fin 2048) (k : Fin 128)
include hA

theorem gb_blk : (show Vec Ideal S2048x128 .f32 from iblk m c 0 t) (ix2 r k) = ((pj (args m c) 0 (colAt t k) (rowAt t r) : ℝ) : EReal) := by
  blk_simp [iblk]
  entry_read
  pointwise
  refine (pj_val hA (((View.whole main_v16).slice (win0_0.rect t)).emb (ix2 r k) 0) _ (s := 0) (f := colAt t k) ?_).trans ?_
  · refine Fin.ext ?_
    blk_simp [idx t, colAt, pcol]
    show (12 + t.val % 4) * 128 + k.val = 1536 + 0 * 512 + (t.val % 4 * 128 + k.val)
    omega
  · refine congrArg (fun i => ((pj (args m c) 0 (colAt t k) i : ℝ) : EReal)) (Fin.ext ?_)
    blk_simp [rowAt, idx t]
theorem gc_blk : (show Vec Ideal S2048x128 .f32 from iblk m c 1 t) (ix2 r k) = ((pj (args m c) 1 (colAt t k) (rowAt t r) : ℝ) : EReal) := by
  blk_simp [iblk]
  entry_read
  pointwise
  refine (pj_val hA (((View.whole main_v16).slice (win0_1.rect t)).emb (ix2 r k) 0) _ (s := 1) (f := colAt t k) ?_).trans ?_
  · refine Fin.ext ?_
    blk_simp [idx t, colAt, pcol]
    show (16 + t.val % 4) * 128 + k.val = 1536 + 1 * 512 + (t.val % 4 * 128 + k.val)
    omega
  · refine congrArg (fun i => ((pj (args m c) 1 (colAt t k) i : ℝ) : EReal)) (Fin.ext ?_)
    blk_simp [rowAt, idx t]
theorem gu_blk : (show Vec Ideal S2048x128 .f32 from iblk m c 2 t) (ix2 r k) = ((pj (args m c) 2 (colAt t k) (rowAt t r) : ℝ) : EReal) := by
  blk_simp [iblk]
  entry_read
  pointwise
  refine (pj_val hA (((View.whole main_v16).slice (win0_2.rect t)).emb (ix2 r k) 0) _ (s := 2) (f := colAt t k) ?_).trans ?_
  · refine Fin.ext ?_
    blk_simp [idx t, colAt, pcol]
    show (20 + t.val % 4) * 128 + k.val = 1536 + 2 * 512 + (t.val % 4 * 128 + k.val)
    omega
  · refine congrArg (fun i => ((pj (args m c) 2 (colAt t k) i : ℝ) : EReal)) (Fin.ext ?_)
    blk_simp [rowAt, idx t]
omit r in
theorem w_blk (j : Fin 3) : (show Vec Ideal S3x128 .f32 from iblk m c 3 t) (ix2 j k) = ((cw (args m c) (colAt t k) j : ℝ) : EReal) := by
  rw [cw, mat, ← coe_re (hA.w _)]
  blk_simp [iblk]
  entry_read
  pointwise
  blk_ext [colAt, idx t]
omit r in
theorem h_blk : (show Vec Ideal S1x128 .f32 from iblk m c 4 t) (ix2 0 k) = ((vec (args m c).h (colAt t k) : ℝ) : EReal) := by
  rw [vec, ← coe_re (hA.h _)]
  blk_simp [iblk]
  entry_read
  pointwise
  blk_ext [colAt, idx t]
end

variable {m c}

/-- The factor for the rows before a chunk: zero where they lie outside the sequence. -/
def loR (n : Fin 4) : ℝ := if n.val = 0 then 0 else 1

theorem lo_at (n : Fin 4) : (((Scalar.extui (Scalar.cmpi .sgt (BitVec.ofNat 32 n.val) 0#32) : BitVec 32).toInt : ℝ)) = loR n := by
  have e : (Scalar.extui (Scalar.cmpi .sgt (BitVec.ofNat 32 n.val) 0#32) : BitVec 32).toInt = if n.val = 0 then 0 else 1 := by
    revert n; decide +kernel
  rw [e, loR]
  split <;> simp

section
variable (x : Vec Ideal S2048x128 .f32) (n : Fin 4) (k : Fin 128)
theorem prev_at (r : Fin 16) : prev x n (ix2 r k) = x (ix2 ⟨n.val * 512 - 16 + r.val, by omega⟩ k) := by
  unfold prev
  rw [View.ld_apply]
  refine congrArg x ?_
  funext a
  match a with
  | 0 => exact Fin.ext (show n.val * 512 - 16 + 1 * r.val = n.val * 512 - 16 + r.val by omega)
  | 1 => exact Fin.ext (show 0 + 1 * k.val = k.val by omega)
theorem own_at (r : Fin 512) : own x n (ix2 r k) = x (ix2 ⟨n.val * 512 + r.val, by omega⟩ k) := by
  unfold own
  rw [View.ld_apply]
  refine congrArg x ?_
  funext a
  match a with
  | 0 => exact Fin.ext (show n.val * 512 + 1 * r.val = n.val * 512 + r.val by omega)
  | 1 => exact Fin.ext (show 0 + 1 * k.val = k.val by omega)
end

/-- Two pieces of rows, those outside the sequence at zero, are a column at its positions. -/
theorem pad_pieces (f : Fin 4096 → ℝ) (n : Fin 4) (j : Fin 520) :
    (if h : j.val < 8 then f (rowAt t ⟨n.val * 512 - 16 + (8 + j.val), by omega⟩) * loR n
      else f (rowAt t ⟨n.val * 512 + (j.val - 8), by omega⟩)) = Seq.pad f (t.val / 4) (n.val * 512 + j.val) := by
  have ht := lt8 t
  unfold loR
  split_ifs with h1 h2
  · rw [pad_lt _ (by omega), mul_zero]
  · rw [mul_one]
    refine (pad_eq f _ (by omega) (by omega) ?_).symm
    show t.val / 4 * 2048 + (n.val * 512 - 16 + (8 + j.val)) + 8 = _
    omega
  · refine (pad_eq f _ (by omega) (by omega) ?_).symm
    show t.val / 4 * 2048 + (n.val * 512 + (j.val - 8)) + 8 = _
    omega

theorem win_at {x : Vec Ideal S2048x128 .f32} {f : Fin 4096 → ℝ} {k : Fin 128}
    (hx : ∀ r : Fin 2048, x (ix2 r k) = ((f (rowAt t r) : ℝ) : EReal)) (n : Fin 4) (j : Fin 520) :
    win x n (ix2 j k) = ((Seq.pad f (t.val / 4) (n.val * 512 + j.val) : ℝ) : EReal) := by
  unfold win
  rw [← pad_pieces]
  pointwise [k0_pay9, k0_pay6]
  simp only [prev_at, own_at, hx, lo_at, mul_coe]
  split_ifs <;> rfl

/-! ## The arithmetic of a window -/

theorem down_at (v : Win) (j : Fin 520) (k : Fin 128) (h : 1 ≤ j.val) : down v (ix2 j k) = v (ix2 ⟨j.val - 1, by omega⟩ k) := by
  unfold down
  pointwise
  exact congrArg (fun i => v (ix2 i k)) (Fin.ext (by show (j.val + 520 - 1) % 520 = j.val - 1; omega))
theorem tap_at {w : Vec Ideal S3x128 .f32} (i : Fin 3) (j : Fin 520) (k : Fin 128) : tap w i (ix2 j k) = w (ix2 i k) := by
  match i with
  | 0 => unfold tap; pointwise
  | 1 => unfold tap; pointwise
  | 2 => unfold tap; pointwise

theorem conv_at (w : Vec Ideal S3x128 .f32) (v : Win) (j : Fin 520) (k : Fin 128) (h : 2 ≤ j.val) : conv w v (ix2 j k) =
    w (ix2 0 k) * v (ix2 ⟨j.val - 2, by omega⟩ k) + w (ix2 1 k) * v (ix2 ⟨j.val - 1, by omega⟩ k) + w (ix2 2 k) * v (ix2 j k) := by
  unfold conv
  pointwise
  rw [tap_at, tap_at, tap_at, down_at _ _ _ (by omega), down_at _ _ _ (by show 1 ≤ j.val - 1; omega), down_at _ _ _ (by omega)]
  rfl

/-- The matrix of the groups: one where two columns lie in one group. -/
theorem pay1_at (a b : Fin 128) : (k0_pay1 (F := Ideal)) (ix2 a b) = if a.val / 64 = b.val / 64 then (1 : EReal) else 0 := by
  have h6 : ∀ a : Fin 128, IntOp.shrsi .vector (BitVec.ofNat 32 a.val) 6#32 = BitVec.ofNat 32 (a.val / 64) := by decide +kernel
  have h2 : ∀ a b : Fin 2, BitVec.setWidth 32 (IntOp.cmpi .eq (BitVec.ofNat 32 a.val) (BitVec.ofNat 32 b.val))
      = if a.val = b.val then 1#32 else 0#32 := by decide +kernel
  pointwise [k0_pay1]
  rw [h6, h6, h2 ⟨a.val / 64, by omega⟩ ⟨b.val / 64, by omega⟩]
  dsimp only
  split
  · exact (Ideal.scalar_sitofp_def (φ := .f32) 1#32).trans (by simp)
  · exact (Ideal.scalar_sitofp_def (φ := .f32) 0#32).trans (by simp)

theorem dot_at (v : FVec Ideal S512x128 .bf16) (j : Fin 512) (k : Fin 128) :
    dot v (ix2 j k) = ∑ l : Fin 64, v (ix2 j ⟨k.val / 64 * 64 + l.val, by omega⟩) := by
  unfold dot
  pointwise
  rw [Fin.sum_univ_tiles 2 64 rfl]
  rw [Finset.sum_eq_single (⟨k.val / 64, by omega⟩ : Fin 2)]
  · refine Finset.sum_congr rfl fun l _ => ?_
    rw [pay1_at, if_pos (by show (k.val / 64 * 64 + l.val) / 64 = k.val / 64; omega), mul_one]
  · intro p _ hp
    refine Finset.sum_eq_zero fun l _ => ?_
    rw [pay1_at, if_neg, mul_zero]
    intro e
    refine hp (Fin.ext ?_)
    have e' : (p.val * 64 + l.val) / 64 = k.val / 64 := e
    show p.val = k.val / 64
    omega
  · intro h
    exact absurd (Finset.mem_univ _) h

/-- The mean over a group, of reals. -/
theorem mean_at {v : Own} {j : Fin 512} {k : Fin 128} {f : Fin 64 → ℝ}
    (hv : ∀ l : Fin 64, v (ix2 j ⟨k.val / 64 * 64 + l.val, by omega⟩) = ((f l : ℝ) : EReal)) :
    mean v (ix2 j k) = (((∑ l, f l) / 64 : ℝ) : EReal) := by
  have h1 : ∀ l : Fin 64, (truncf .bf16 v bitsLt_bf16_f32 : FVec Ideal S512x128 .bf16) (ix2 j ⟨k.val / 64 * 64 + l.val, by omega⟩)
      = ((f l : ℝ) : EReal) := fun l => by pointwise; exact hv l
  have h2 : ∀ l : Fin 64, (truncf .bf16 (subf v (extf .f32 (truncf .bf16 v bitsLt_bf16_f32) bitsLt_bf16_f32)) bitsLt_bf16_f32 :
      FVec Ideal S512x128 .bf16) (ix2 j ⟨k.val / 64 * 64 + l.val, by omega⟩) = ((0 : ℝ) : EReal) := fun l => by
    pointwise
    rw [hv l, sub_coe, sub_self]
  unfold mean
  pointwise
  rw [dot_at, dot_at]
  simp only [h1, h2]
  rw [coe_sum, coe_sum, Group.ofBits_inv64, add_coe, mul_coe, Finset.sum_const_zero, add_zero, mul_one_div]

/-! ## The chunk's values, over the reals -/

theorem col_group (k : Fin 128) (l : Fin 64) : colAt t ⟨k.val / 64 * 64 + l.val, by omega⟩ = gcol (colAt t k) l :=
  Fin.ext (by show t.val % 4 * 128 + (k.val / 64 * 64 + l.val) = (t.val % 4 * 128 + k.val) / 64 * 64 + l.val; omega)

variable (hA : (args m c).Real) (n : Fin 4) (k : Fin 128)
include hA

theorem z_at (j : Fin 520) :
    z m c t n (ix2 j k) = ((Seq.pad (ConvMath.z (args m c) (colAt t k)) (t.val / 4) (n.val * 512 + j.val) : ℝ) : EReal) := by
  unfold z
  pointwise
  rw [win_at t (fun r => gc_blk m c t hA r k) n j, win_at t (fun r => gu_blk m c t hA r k) n j, mul_coe]
  exact congrArg _ (pad_mul _ _ _ _).symm

theorem cv_at (j : Fin 520) (h : 2 ≤ j.val) : conv (iblk m c 3 t) (z m c t n) (ix2 j k) =
    ((ConvMath.cv (args m c) (colAt t k) (t.val / 4) (n.val * 512 + j.val) : ℝ) : EReal) := by
  have hw : ∀ i, (iblk m c 3 t : Vec Ideal S3x128 .f32) (ix2 i k) = ((cw (args m c) (colAt t k) i : ℝ) : EReal) := fun i => w_blk m c t hA k i
  rw [conv_at _ _ _ _ h, hw, hw, hw, z_at t hA, z_at t hA, z_at t hA]
  simp only [mul_coe, add_coe]
  unfold ConvMath.cv Seq.conv
  rw [Nat.add_sub_assoc h, Nat.add_sub_assoc (by omega : 1 ≤ j.val)]

theorem y_at (r : Fin 512) : y m c t n (ix2 r k) =
    ((gy (args m c) (colAt t k) (t.val / 4) (n.val * 512 + r.val + 8) : ℝ) : EReal) := by
  have ht := lt8 t
  have hb : ∀ r, (iblk m c 0 t : Vec Ideal S2048x128 .f32) (ix2 r k) = ((pj (args m c) 0 (colAt t k) (rowAt t r) : ℝ) : EReal) :=
    fun r => gb_blk m c t hA r k
  have hc : ∀ j : Fin 520, 2 ≤ j.val → _ := fun j h => cv_at t hA n k j h
  unfold y
  generalize conv (iblk m c 3 t) (z m c t n) = C at hc ⊢
  pointwise [k0_pay6]
  rw [own_at, hb, hc _ (by show 2 ≤ 8 + r.val; omega), mul_coe]
  unfold gy
  rw [show n.val * 512 + (8 + r.val) = n.val * 512 + r.val + 8 by omega]
  refine congrArg (fun p => ((p * _ : ℝ) : EReal)) (pad_eq _ _ (by omega) (by omega) ?_).symm
  show t.val / 4 * 2048 + (n.val * 512 + r.val) + 8 = _
  omega

theorem rsq_at (r : Fin 512) : rsq (y m c t n) (ix2 r k) =
    ((Group.rs (grp (args m c) (colAt t k) (t.val / 4) (n.val * 512 + r.val + 8)) : ℝ) : EReal) := by
  unfold rsq
  pointwise
  rw [mean_at (f := fun l => grp (args m c) (colAt t k) (t.val / 4) (n.val * 512 + r.val + 8) l
    * grp (args m c) (colAt t k) (t.val / 4) (n.val * 512 + r.val + 8) l) fun l => ?_]
  · rw [ofBits_eps, add_coe]
    exact rsqrt_coe (Group.ms_pos _)
  · pointwise
    rw [y_at t hA n _ r, col_group, mul_coe]
    rfl

theorem chunk_at (r : Fin 512) : chunk m c t n (ix2 r k) =
    ((ConvFwdMath.out (args m c) (colAt t k) (t.val / 4) (n.val * 512 + r.val + 8) : ℝ) : EReal) := by
  have hh : (iblk m c 4 t : Vec Ideal S1x128 .f32) (ix2 0 k) = ((vec (args m c).h (colAt t k) : ℝ) : EReal) := h_blk m c t hA k
  unfold chunk
  pointwise [k0_pay2]
  rw [y_at t hA n k r, rsq_at t hA n k r, hh, mul_coe, mul_coe]
  rfl

end Cert.ConvFwdIdeal.Block

end
-- ==== Proof.ConvFwd.Array.lean ====
/- The short gated convolution: the kernel's result array after the run. -/
module

public import proofs.«01_k».proof.Proof.ConvFwd.Pay
public import proofs.«01_k».proof.Proof.Gen.ConvFwdIdeal.Value

@[expose] public section

set_option maxRecDepth 16384

noncomputable section

namespace Cert.ConvFwdIdeal.Block

open Idealize.ShloMosaic Idealize.ShloMosaic.TcCoe Idealize.SL.Sem
open Cert.ConvFwdIdeal Cert.ConvFwdIdeal.Gen Cert.ConvMath

variable {m : (ℓ : Loc nD τ sig) → Buf (Elt Ideal) ℓ} {c : Dev nD}

/-- The array that is written into. -/
def into (m : (ℓ : Loc nD τ sig) → Buf (Elt Ideal) ℓ) (c : Dev nD) : FVec Ideal S4096x1024 .bf16 := m ((c : Thread nD τ).loc main_arg5)

/-- An element of the result in the columns of a point's block. -/
theorem res_at (t : Fin cfg0.N) (i : Fin 4096) (l : Fin 1024) (r : Fin 2048) (k : Fin 128)
    (hi : i.val = t.val / 4 * 2048 + r.val) (hl : l.val = (4 + t.val % 4) * 128 + k.val) : ConvFwdMath.Res (args m c) (into m c) (ix2 i l) =
    ((ConvFwdMath.out (args m c) (colAt t k) (t.val / 4) (r.val + 8) : ℝ) : EReal) := by
  rw [ConvFwdMath.Res_hi _ _ _ _ (by omega)]
  have e : (⟨l.val - 512, by omega⟩ : Fin 512) = colAt t k := Fin.ext (by show l.val - 512 = t.val % 4 * 128 + k.val; omega)
  rw [e, show i.val / 2048 = t.val / 4 by omega, show i.val % 2048 = r.val by omega]

theorem final5 (hA : (args m c).Real) : (dats m 0 c).arrAt 5 (cfgs 0).N = ConvFwdMath.Res (args m c) (into m c) := by
  refine (dats m 0 c).arrAt_eq_of_coversWhere_of_agree 5 _ (fun β => 4 ≤ β (1 : Fin 2)) (by decide +kernel) (fun t _ y => ?_) (fun j hj => ?_)
  · blk_simp
    refine (out5 m c t y).trans ?_
    idx_vars y
    refine (chunk_at t hA _ _ _).trans (Eq.symm ?_)
    refine (congrArg (ConvFwdMath.Res (args m c) (into m c)) (a₂ := (ix2 (rowAt t y0) ⟨(4 + t.val % 4) * 128 + y1.val, by omega⟩ : S4096x1024.Idx)) ?_).trans ?_
    · blk_ext [rowAt, idx t]
    · refine (res_at t _ _ y0 y1 rfl rfl).trans ?_
      refine congrArg (fun q => ((ConvFwdMath.out (args m c) (colAt t y1) (t.val / 4) (q + 8) : ℝ) : EReal)) ?_
      show y0.val = y0.val / 512 * 512 + y0.val % 512
      omega
  · blk_simp [Pipeline.Window.cell_apply] at hj
    idx_vars j
    refine Eq.trans ?_ (ConvFwdMath.Res_lo (args m c) (into m c) j0 j1 (by omega)).symm
    show V m c main_v18 (ix2 j0 j1) = m ((c : Thread nD τ).loc main_arg5) (ix2 j0 j1)
    entry_read
    rfl

end Cert.ConvFwdIdeal.Block

end
-- ==== Proof.ConvFwd.Ref.lean ====
/- The reference of the short gated convolution, stage by stage, over the reals. -/
module

public import proofs.«01_k».proof.Proof.Gen.ConvFwdRefIdeal.Read
public import proofs.«01_k».proof.Proof.ConvFwd.Math

@[expose] public section

set_option maxRecDepth 16384

noncomputable section

namespace Cert.ConvFwdRefIdeal.Stage

open Idealize.ShloMosaic Cert.ConvFwdRefIdeal Cert.ConvFwdRefIdeal.Gen Cert.ConvFwdRefIdeal.Read Cert.Reals Cert.Norm Cert.Seq Cert.ConvMath
open scoped BigOperators

/-- Column `k` of group `e` among all columns. -/
def gl (e : Fin 8) (k : Fin 64) : Fin 512 := ⟨e.val * 64 + k.val, by omega⟩

theorem gcol_gl (e : Fin 8) (k j : Fin 64) : gcol (gl e k) j = gl e j :=
  Fin.ext (by show (e.val * 64 + k.val) / 64 * 64 + j.val = e.val * 64 + j.val; omega)
theorem gl_div (l : Fin 512) : gl ⟨l.val / 64, by omega⟩ ⟨l.val % 64, by omega⟩ = l :=
  Fin.ext (by show l.val / 64 * 64 + l.val % 64 = l.val; omega)

variable {A : Args} (hA : A.Real)

/-- A group of the gated product. -/
def gv (A : Args) (e : Fin 8) (b q : ℕ) (j : Fin 64) : ℝ := gy A (gl e j) b q

theorem grp_gl (e : Fin 8) (k : Fin 64) (b q : ℕ) : grp A (gl e k) b q = gv A e b q :=
  funext fun j => by unfold grp gv; rw [gcol_gl]

include hA

theorem scale_at (b : Fin 2) (s : Fin 2048) : val_main_v7 (F := Ideal) A.x (ix3 b s 0) = ((rs (row A.x (at2 b s)) : ℝ) : EReal) := by
  pointwise [val_main_v7, val_main_v6, val_main_v5, val_main_v4, val_main_v3, val_main_v2, val_main_v1, val_main_v0, val_main_cst, val_main_cst_0, val_main_cst_1]
  simp only [row_at hA.x, mul_coe, coe_sum, ofBits_1024, ofBits_eps, add_coe, div_coe _ (by norm_num : (1024 : ℝ) ≠ 0)]
  exact rsqrt_coe (ms_pos _)

theorem g_at (k : Fin 1024) : A.g (ix1 k) = ((vec A.g k : ℝ) : EReal) := coe_re (hA.g _)
theorem u_at (k : Fin 1024) (l : Fin 3072) : A.u (ix2 k l) = ((mat A.u k l : ℝ) : EReal) := coe_re (hA.u _)
theorem w_at (j : Fin 3) (l : Fin 512) : A.w (ix2 j l) = ((cw A l j : ℝ) : EReal) := coe_re (hA.w _)
theorem h_at (l : Fin 512) : A.h (ix1 l) = ((vec A.h l : ℝ) : EReal) := coe_re (hA.h _)

/-! The three factors. -/

theorem proj_at (b : Fin 2) (s : Fin 2048) (r : Fin 3) (f : Fin 512) (l : Fin 3072) (h : l = pcol r f) :
    val_main_v13 (F := Ideal) A.x A.g A.u (ix3 b s l) = ((pj A r f (at2 b s) : ℝ) : EReal) := by
  subst h
  pointwise [val_main_v13, val_main_v12, val_main_v11, val_main_v10, val_main_v9, val_main_v8]
  simp only [scale_at hA, row_at hA.x, g_at hA, u_at hA, mul_coe, coe_sum]
  rfl

theorem first_at (b : Fin 2) (s : Fin 2048) (f : Fin 512) :
    val_main_v15 (F := Ideal) A.x A.g A.u (ix3 b s f) = ((pj A 0 f (at2 b s) : ℝ) : EReal) := by
  pointwise [val_main_v15, val_main_v14]
  refine proj_at hA b s 0 f _ (Fin.ext ?_)
  simp only [pcol]
  show _ = 1536 + 0 * 512 + f.val
  omega
theorem second_at (b : Fin 2) (s : Fin 2048) (f : Fin 512) :
    val_main_v16 (F := Ideal) A.x A.g A.u (ix3 b s f) = ((pj A 1 f (at2 b s) : ℝ) : EReal) := by
  pointwise [val_main_v16, val_main_v14]
  refine proj_at hA b s 1 f _ (Fin.ext ?_)
  simp only [pcol]
  show _ = 1536 + 1 * 512 + f.val
  omega
theorem third_at (b : Fin 2) (s : Fin 2048) (f : Fin 512) :
    val_main_v17 (F := Ideal) A.x A.g A.u (ix3 b s f) = ((pj A 2 f (at2 b s) : ℝ) : EReal) := by
  pointwise [val_main_v17, val_main_v14]
  refine proj_at hA b s 2 f _ (Fin.ext ?_)
  simp only [pcol]
  show _ = 1536 + 2 * 512 + f.val
  omega

/-- The product the convolution runs over, with two rows of zeros before each sequence. -/
theorem padded_at (b : Fin 2) (q : Fin 2050) (f : Fin 512) :
    val_main_v20 (F := Ideal) A.x A.g A.u (ix3 b q f) = ((Seq.pad (ConvMath.z A f) b.val (q.val + 6) : ℝ) : EReal) := by
  pointwise [val_main_v20, val_main_v19, val_main_v18, val_main_cst_2]
  by_cases hq : q.val < 2
  · rw [dif_pos hq, pad_lt _ (by omega)]
    rfl
  · rw [dif_neg hq, second_at hA, third_at hA, mul_coe]
    have e : q.val + 6 = (q.val - 2) + 8 := by omega
    rw [e, pad_at (ConvMath.z A f) b ⟨q.val - 2, by omega⟩]
    rfl

/-- The convolved columns. -/
theorem conv_at (b : Fin 2) (s : Fin 2048) (f : Fin 512) :
    val_main_v42 (F := Ideal) A.x A.g A.u A.w (ix3 b s f) = ((ConvMath.cv A f b.val (s.val + 8) : ℝ) : EReal) := by
  pointwise [val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24,
    val_main_v23, val_main_v22, val_main_v21, val_main_cst_3]
  simp only [padded_at hA, w_at hA, mul_coe, add_coe]
  unfold ConvMath.cv Seq.conv
  rw [show s.val + 8 - 2 = s.val + 6 by omega, show s.val + 8 - 1 = 1 + s.val + 6 by omega, show 2 + s.val + 6 = s.val + 8 by omega]
  refine congrArg Real.toEReal ?_
  ring

/-- The gated product in its groups. -/
theorem gated_at (b : Fin 2) (s : Fin 2048) (e : Fin 8) (k : Fin 64) :
    val_main_v44 (F := Ideal) A.x A.g A.u A.w (ix4 b s e k) = ((gv A e b.val (s.val + 8) k : ℝ) : EReal) := by
  pointwise [val_main_v44, val_main_v43]
  refine (congrArg₂ (· * ·) (first_at hA b s (gl e k)) (conv_at hA b s (gl e k))).trans ?_
  rw [mul_coe]
  unfold gv gy
  rw [pad_at]

theorem group_at (b : Fin 2) (s : Fin 2048) (e : Fin 8) :
    val_main_v53 (F := Ideal) A.x A.g A.u A.w (ix4 b s e 0) = ((Group.rs (gv A e b.val (s.val + 8)) : ℝ) : EReal) := by
  pointwise [val_main_v53, val_main_v52, val_main_v51, val_main_v50, val_main_v49, val_main_v48, val_main_v47, val_main_v46, val_main_cst_4, val_main_cst_5, val_main_cst_6]
  simp only [gated_at hA, mul_coe, coe_sum, Group.ofBits_64, ofBits_eps, add_coe, div_coe _ (by norm_num : (64 : ℝ) ≠ 0)]
  exact rsqrt_coe (Group.ms_pos _)

/-- The normalised product, times the gain. -/
theorem normed_at (b : Fin 2) (s : Fin 2048) (l : Fin 512) :
    val_main_v59 (F := Ideal) A.x A.g A.u A.w A.h (ix3 b s l) = ((ConvFwdMath.out A l b.val (s.val + 8) : ℝ) : EReal) := by
  have hh : val_main_v45 (F := Ideal) A.h (ix2 ⟨l.val / 64, by omega⟩ ⟨l.val % 64, by omega⟩) = ((vec A.h l : ℝ) : EReal) := by
    pointwise [val_main_v45]
    exact h_at hA l
  pointwise [val_main_v59, val_main_v58, val_main_v57, val_main_v56, val_main_v55, val_main_v54]
  rw [gated_at hA, group_at hA, hh, mul_coe, mul_coe, ← grp_gl _ ⟨l.val % 64, by omega⟩, gl_div]
  refine congrArg (fun y => ((y * Group.rs (grp A l b.val (s.val + 8)) * vec A.h l : ℝ) : EReal)) ?_
  exact congrArg (fun l => gy A l b.val (s.val + 8)) (gcol_place l)

/-! ### The result -/

theorem result (p : FVec Ideal S4096x1024 .bf16) : val_main_v63 (F := Ideal) A.x A.g A.u A.w A.h p = ConvFwdMath.Res A p := by
  funext i
  idx_vars i
  pointwise [val_main_v63, val_main_v62, val_main_v61, val_main_v60]
  by_cases h : i1.val < 512
  · rw [dif_pos h]
    exact (ConvFwdMath.Res_lo A p i0 i1 h).symm
  · rw [dif_neg h, normed_at hA]
    exact (ConvFwdMath.Res_hi A p i0 i1 h).symm

end Cert.ConvFwdRefIdeal.Stage

end
-- ==== Proof.ConvFwd.Claim.lean ====
/- The short gated convolution: the kernel's result and the reference's are equal wherever the arguments the convolution
   is computed from are finite. -/
module

public import proofs.«01_k».proof.Defs
public import proofs.«01_k».proof.Proof.ConvFwd.Array
public import proofs.«01_k».proof.Proof.ConvFwd.Ref
public import proofs.«01_k».proof.Proof.Gen.ConvFwdRefIdeal.Run
public import Idealize.ShloMosaic.Adequacy
public import Idealize.ShloMosaic.Init

@[expose] public section

noncomputable section

namespace Cert.Proof

open Idealize.ShloMosaic Idealize.SL.Sem

instance pre_finite_conv_fwd : Cert.Pre_finite_conv_fwd.Facts where
  bcast_S_S2x2048x1024 := by decide
  reducesTo_S2x2048x1024_S_d0_1_2 := by decide
  h_S_ := by decide
  bcast_S_S1024 := by decide
  reducesTo_S1024_S_d0 := by decide
  bcast_S_S1024x3072 := by decide
  reducesTo_S1024x3072_S_d0_1 := by decide
  bcast_S_S3x512 := by decide
  reducesTo_S3x512_S_d0_1 := by decide
  bcast_S_S512 := by decide
  reducesTo_S512_S_d0 := by decide

/-- Where the condition holds, every element the convolution is computed from is a real. -/
theorem reals_of_finite_conv_fwd {x : FVec Ideal ⟨3, ![2, 2048, 1024]⟩ .f32} {g : FVec Ideal ⟨1, ![1024]⟩ .f32}
    {u : FVec Ideal ⟨2, ![1024, 3072]⟩ .f32} {w : FVec Ideal ⟨2, ![3, 512]⟩ .f32} {h : FVec Ideal ⟨1, ![512]⟩ .f32}
    {p : FVec Ideal ⟨2, ![4096, 1024]⟩ .bf16}
    (hf : Cert.Pre_finite_conv_fwd.fn (F := Ideal) x g u w h p = fun _ => 1#1) : (Cert.ConvFwdMath.five x g u w h).Real := by
  have h0 := congrFun hf fun a => a.elim0
  obtain ⟨h1, hh⟩ := Cert.Reals.andi_eq_one h0
  obtain ⟨h2, hw⟩ := Cert.Reals.andi_eq_one h1
  obtain ⟨h3, hu⟩ := Cert.Reals.andi_eq_one h2
  obtain ⟨hx, hg⟩ := Cert.Reals.andi_eq_one h3
  exact ⟨Cert.Reals.real_of_all x _ _ _ _ _ hx, Cert.Reals.real_of_all g _ _ _ _ _ hg, Cert.Reals.real_of_all u _ _ _ _ _ hu,
    Cert.Reals.real_of_all w _ _ _ _ _ hw, Cert.Reals.real_of_all h _ _ _ _ _ hh, fun _ => ⟨0, rfl⟩⟩

/-- The reference's arguments as launched, those the convolution is computed from and the array written into. -/
def convFwdArgs (m' : (ℓ : Loc Cert.ConvFwdRefIdeal.nD Cert.ConvFwdRefIdeal.τ Cert.ConvFwdRefIdeal.sig) → Buf (Elt Ideal) ℓ)
    (c : Dev Cert.ConvFwdRefIdeal.nD) : Cert.ConvMath.Args :=
  Cert.ConvFwdMath.five (StableHlo.launchContents m' c (Proc.tc.devRef Cert.ConvFwdRefIdeal.main_arg0))
    (StableHlo.launchContents m' c (Proc.tc.devRef Cert.ConvFwdRefIdeal.main_arg1))
    (StableHlo.launchContents m' c (Proc.tc.devRef Cert.ConvFwdRefIdeal.main_arg2))
    (StableHlo.launchContents m' c (Proc.tc.devRef Cert.ConvFwdRefIdeal.main_arg3))
    (StableHlo.launchContents m' c (Proc.tc.devRef Cert.ConvFwdRefIdeal.main_arg4))
def convFwdInto (m' : (ℓ : Loc Cert.ConvFwdRefIdeal.nD Cert.ConvFwdRefIdeal.τ Cert.ConvFwdRefIdeal.sig) → Buf (Elt Ideal) ℓ)
    (c : Dev Cert.ConvFwdRefIdeal.nD) : FVec Ideal ⟨2, ![4096, 1024]⟩ .bf16 :=
  StableHlo.launchContents m' c (Proc.tc.devRef Cert.ConvFwdRefIdeal.main_arg5)

/-- They are the kernel's where the two agree. -/
theorem convFwdArgs_eq {m : (ℓ : Loc Cert.ConvFwdIdeal.nD Cert.ConvFwdIdeal.τ Cert.ConvFwdIdeal.sig) → Buf (Elt Ideal) ℓ}
    {m' : (ℓ : Loc Cert.ConvFwdRefIdeal.nD Cert.ConvFwdRefIdeal.τ Cert.ConvFwdRefIdeal.sig) → Buf (Elt Ideal) ℓ} {c : Dev Cert.ConvFwdRefIdeal.nD}
    (h0 : m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0))
    (h1 : m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1))
    (h2 : m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2))
    (h3 : m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3))
    (h4 : m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) :
    convFwdArgs m' c = Cert.ConvFwdIdeal.Block.args m c := by
  unfold Cert.ConvFwdIdeal.Block.args
  rw [← h0, ← h1, ← h2, ← h3, ← h4]
  rfl

theorem conv_fwd_algebraic : Cert.algebraic_ConvFwdIdeal_ConvFwdRefIdeal_pre_finite_conv_fwd := by
  intro m g m' g' hpre hagree
  have hA : ∀ c, (Cert.ConvFwdIdeal.Block.args m c).Real := fun c => reals_of_finite_conv_fwd (hpre c)
  have e : ∀ c, convFwdArgs m' c = Cert.ConvFwdIdeal.Block.args m c := fun c =>
    convFwdArgs_eq (hagree c).1 (hagree c).2.1 (hagree c).2.2.1 (hagree c).2.2.2.1 (hagree c).2.2.2.2.1
  have ep : ∀ c, convFwdInto m' c = Cert.ConvFwdIdeal.Block.into m c := fun c => (hagree c).2.2.2.2.2
  have hB : ∀ c, (convFwdArgs m' c).Real := fun c => (e c).symm ▸ hA c
  refine ⟨fun c => Cert.ConvFwdMath.Res (Cert.ConvFwdIdeal.Block.args m c) (Cert.ConvFwdIdeal.Block.into m c), ?_, ?_⟩
  · refine (θ_run Cert.ConvFwdIdeal.defs _ _).mono (fun r h c => ?_) (Cert.ConvFwdIdeal.Value.run_blocks m g)
    exact ⟨(h c).1.trans (Cert.ConvFwdIdeal.Block.final5 (hA c)), (h c).2⟩
  · refine (θ_run Cert.ConvFwdRefIdeal.defs _ _).mono (fun r h c => ?_) (Cert.ConvFwdRefIdeal.Value.run m' g')
    have q := (Cert.ConvFwdRefIdeal.Stage.result (hB c) (convFwdInto m' c)).trans (congrArg₂ Cert.ConvFwdMath.Res (e c) (ep c))
    have p := (h c).1.trans (Cert.ConvFwdRefIdeal.Read.val_main_v63_eq m' c)
    exact ⟨p.trans q, (h c).2⟩

/-- The reference leaves its arguments unchanged; it declares no semaphore. -/
theorem conv_fwd_ref_frame : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run m ρ)

end Cert.Proof

end
-- ==== Proof.Mix.Value.lean ====
/- The output projection of the mixer with the residual and the next norm: the kernel's result arrays after the run, and
   the reference's. -/
module

public import proofs.«01_k».proof.Proof.Gen.MixIdeal.Frame
public import proofs.«01_k».proof.Proof.Gen.MixRefIdeal.Read
public import proofs.«01_k».proof.Proof.Lib.Rows
public import Idealize.ShloMosaic.Lib.Claim
public import Idealize.ShloMosaic.Lib.Pipeline.ValueKit

@[expose] public section

set_option maxRecDepth 16384

noncomputable section

namespace Cert.MixIdeal.Block

open Idealize.ShloMosaic Idealize.ShloMosaic.TcCoe Idealize.SL.Sem
open Idealize.ShloMosaic.Pipeline (Dat)
open Cert.MixIdeal Cert.MixIdeal.Gen Cert.Rows
open scoped BigOperators

/-- The arguments: the two halves of the mixer's output, the projection, the residual and the next norm's gain. -/
structure Args where
  a : FVec Ideal S2x2048x512 .f32
  b : FVec Ideal S2x2048x512 .f32
  w : FVec Ideal S1024x1024 .f32
  x : FVec Ideal S2x2048x1024 .f32
  g : FVec Ideal S1024 .f32

/-- A row of the mixer's output. -/
def both (A : Args) (i : Fin 4096) (k : Fin 1024) : EReal :=
  if h : k.val < 512 then row A.a i ⟨k.val, h⟩ else row A.b i ⟨k.val - 512, by omega⟩

/-- A row after the projection and the residual. -/
def mid (A : Args) (i : Fin 4096) (k : Fin 1024) : EReal := (∑ l, both A i l * mat A.w l k) + row A.x i k

/-- The two results. -/
def XMid (A : Args) (i : S4096x1024.Idx) : EReal := mid A (i 0) (i 1)
def H2 (A : Args) (i : S4096x1024.Idx) : EReal := nrm (mid A (i 0)) (vec A.g) (i 1)

theorem pay1 (B : FVec Ideal S512x1024 .bf16) (W : FVec Ideal S1024x1024 .bf16) (X : FVec Ideal S512x1024 .f32) (p : Fin 512)
    (k : Fin 1024) : k0_pay1 (F := Ideal) B W X (ix2 p k) = (∑ l, B (ix2 p l) * W (ix2 l k)) + X (ix2 p k) := by
  pointwise [k0_pay1]

theorem pay2 (B : FVec Ideal S512x1024 .bf16) (W : FVec Ideal S1024x1024 .bf16) (X : FVec Ideal S512x1024 .f32)
    (G : FVec Ideal S1x1024 .f32) (p : Fin 512) (k : Fin 1024) :
    k0_pay2 (F := Ideal) B W X G (ix2 p k) = nrm (fun l => k0_pay1 (F := Ideal) B W X (ix2 p l)) (fun l => G (ix2 0 l)) k := by
  pointwise [k0_pay2]
  rfl

/-- The block index of every window. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ t.val < 8 :=
  (by decide +kernel : ∀ t : Fin grid0.N, _)

/-- Row `p` of grid point `t`'s block. -/
def at512 (t : Fin cfg0.N) (p : Fin 512) : Fin 4096 := ⟨t.val * 512 + p.val, by have := (idx t).2.2.2.2.2.2; omega⟩

variable (m : (ℓ : Loc nD τ sig) → Buf (Elt Ideal) ℓ) (c : Dev nD) (t : Fin cfg0.N)

/-- The arguments of a run. -/
def args : Args :=
  ⟨m ((c : Thread nD τ).loc main_arg0), m ((c : Thread nD τ).loc main_arg1), m ((c : Thread nD τ).loc main_arg2),
    m ((c : Thread nD τ).loc main_arg3), m ((c : Thread nD τ).loc main_arg4)⟩

theorem blk0 (p : Fin 512) (k : Fin 1024) :
    (show FVec Ideal S512x1024 .bf16 from iblk m c 0 t) (ix2 p k) = both (args m c) (at512 t p) k := by
  unfold both
  blk_simp [iblk]
  entry_read
  pointwise
  blk_simp [at512, idx t]
  rfl

theorem blk1 (p k : Fin 1024) :
    (show FVec Ideal S1024x1024 .bf16 from iblk m c 1 t) (ix2 p k) = mat (args m c).w p k := by
  rw [mat]
  blk_simp [iblk]
  entry_read
  pointwise
  blk_ext [idx t]

theorem blk2 (p : Fin 512) (k : Fin 1024) :
    (show FVec Ideal S512x1024 .f32 from iblk m c 2 t) (ix2 p k) = row (args m c).x (at512 t p) k := by
  rw [row]
  blk_simp [iblk]
  entry_read
  pointwise
  blk_ext [at512, idx t]

theorem blk3 (k : Fin 1024) :
    (show FVec Ideal S1x1024 .f32 from iblk m c 3 t) (ix2 0 k) = vec (args m c).g k := by
  rw [vec]
  blk_simp [iblk]
  entry_read
  pointwise
  blk_ext [idx t]

theorem mid_at (p : Fin 512) (k : Fin 1024) :
    k0_pay1 (F := Ideal) (iblk m c 0 t) (iblk m c 1 t) (iblk m c 2 t) (ix2 p k) = mid (args m c) (at512 t p) k := by
  refine (pay1 _ _ _ p k).trans ?_
  exact congrArg₂ (· + ·) (Finset.sum_congr rfl fun l _ => congrArg₂ (· * ·) (blk0 m c t p l) (blk1 m c t l k)) (blk2 m c t p k)

theorem final4 : (dats m 0 c).arrAt 4 (cfgs 0).N = XMid (args m c) := by
  refine (dats m 0 c).arrAt_eq_of_covers 4 _ (by decide +kernel) fun t _ y => ?_
  blk_simp
  rw [after0_4]
  frame_out
  idx_vars y
  refine (mid_at m c t y0 y1).trans ?_
  refine congrArg (fun i : S4096x1024.Idx => XMid (args m c) i) (a₁ := (ix2 (at512 t y0) y1 : S4096x1024.Idx)) ?_
  blk_ext [at512, idx t]

theorem final5 : (dats m 0 c).arrAt 5 (cfgs 0).N = H2 (args m c) := by
  refine (dats m 0 c).arrAt_eq_of_covers 5 _ (by decide +kernel) fun t _ y => ?_
  blk_simp
  rw [after0_5]
  frame_out
  idx_vars y
  refine (pay2 _ _ _ _ y0 y1).trans ?_
  refine (congrArg₂ (fun v g => nrm v g y1) (funext (mid_at m c t y0)) (funext (blk3 m c t))).trans ?_
  refine congrArg (fun i : S4096x1024.Idx => H2 (args m c) i) (a₁ := (ix2 (at512 t y0) y1 : S4096x1024.Idx)) ?_
  blk_ext [at512, idx t]

end Cert.MixIdeal.Block

namespace Cert.MixRefIdeal.Stage

open Idealize.ShloMosaic Cert.MixRefIdeal Cert.MixRefIdeal.Gen Cert.MixRefIdeal.Read Cert.Rows Cert.Seq
open Cert.MixIdeal.Block (Args both mid XMid H2)
open scoped BigOperators

variable (A : Args)

theorem v2 (b : Fin 2) (s : Fin 2048) (k : Fin 1024) :
    val_main_v2 (F := Ideal) A.a A.b A.w A.x (ix3 b s k) = mid A (at2 b s) k := by
  unfold mid both
  simp only [row_at2]
  pointwise [val_main_v2, val_main_v1, val_main_v0]
  rw [add_comm]
  rfl

theorem v15 (b : Fin 2) (s : Fin 2048) (k : Fin 1024) :
    val_main_v15 (F := Ideal) A.a A.b A.w A.x A.g (ix3 b s k) = nrm (mid A (at2 b s)) (vec A.g) k := by
  pointwise [val_main_v15, val_main_v14, val_main_v13, val_main_v12, val_main_v11, val_main_v10, val_main_v9, val_main_v8, val_main_v7, val_main_v6, val_main_v5, val_main_v4, val_main_v3, val_main_cst, val_main_cst_0, val_main_cst_1]
  simp only [v2]
  rfl

theorem res0 : val_main_v16 (F := Ideal) A.a A.b A.w A.x = XMid A := by
  funext i
  idx_vars i
  pointwise [val_main_v16]
  exact (v2 A _ _ _).trans (congrArg (fun i => mid A i i1) (at2_row i0))

theorem res1 : val_main_v18 (F := Ideal) A.a A.b A.w A.x A.g = H2 A := by
  funext i
  idx_vars i
  pointwise [val_main_v18, val_main_v17]
  exact (v15 A _ _ _).trans (congrArg (fun i => nrm (mid A i) (vec A.g) i1) (at2_row i0))

end Cert.MixRefIdeal.Stage

end
-- ==== Proof.Mix.Claim.lean ====
/- The output projection of the mixer with the residual and the next norm: the kernel's two results and the reference's are
   equal, for any arguments. -/
module

public import proofs.«01_k».proof.Defs
public import proofs.«01_k».proof.Proof.Mix.Value
public import proofs.«01_k».proof.Proof.Gen.MixIdeal.Value
public import proofs.«01_k».proof.Proof.Gen.MixRefIdeal.Run
public import Idealize.ShloMosaic.Adequacy
public import Idealize.ShloMosaic.Init

@[expose] public section

noncomputable section

namespace Cert.Proof

open Idealize.ShloMosaic Idealize.SL.Sem

theorem mix_algebraic : Cert.algebraic_MixIdeal_MixRefIdeal := by
  pair_intro
  · run_from Cert.MixIdeal.Gen.run_main m g
  · run_from Cert.MixRefIdeal.Value.run m' g'
    · rw [Cert.MixIdeal.Block.final4]
      exact (Cert.MixRefIdeal.Read.val_main_v16_eq _ _ _ _).trans (Cert.MixRefIdeal.Stage.res0 (Cert.MixIdeal.Block.args m c))
    · rw [Cert.MixIdeal.Block.final5]
      exact (Cert.MixRefIdeal.Read.val_main_v18_eq _ _ _ _ _).trans (Cert.MixRefIdeal.Stage.res1 (Cert.MixIdeal.Block.args m c))

/-- The reference leaves its arguments unchanged; it declares no semaphore. -/
theorem mix_ref_frame : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run m ρ)

end Cert.Proof

end
-- ==== Proof.Rms.Value.lean ====
/- The norm of the activations: the kernel's result array after the run, and the reference's. -/
module

public import proofs.«01_k».proof.Proof.Gen.RmsIdeal.Frame
public import proofs.«01_k».proof.Proof.Gen.RmsRefIdeal.Read
public import proofs.«01_k».proof.Proof.Lib.Rows
public import Idealize.ShloMosaic.Lib.Claim
public import Idealize.ShloMosaic.Lib.Pipeline.ValueKit

@[expose] public section

set_option maxRecDepth 16384

noncomputable section

namespace Cert.RmsIdeal.Block

open Idealize.ShloMosaic Idealize.ShloMosaic.TcCoe Idealize.SL.Sem
open Idealize.ShloMosaic.Pipeline (Dat)
open Cert.RmsIdeal Cert.RmsIdeal.Gen Cert.Rows
open scoped BigOperators

variable (m : (ℓ : Loc nD τ sig) → Buf (Elt Ideal) ℓ)

/-- The arguments. -/
abbrev argX (c : Dev nD) : FVec Ideal S2x2048x1024 .f32 := m ((c : Thread nD τ).loc main_arg0)
abbrev argG (c : Dev nD) : FVec Ideal S1024 .f32 := m ((c : Thread nD τ).loc main_arg1)

/-- The normalised rows. -/
def H (X : FVec Ideal S2x2048x1024 .f32) (G : FVec Ideal S1024 .f32) (i : S4096x1024.Idx) : EReal :=
  nrm (row X (i 0)) (vec G) (i 1)

theorem pay (X : FVec Ideal S512x1024 .f32) (G : FVec Ideal S1x1024 .f32) (p : Fin 512) (k : Fin 1024) :
    k0_pay1 (F := Ideal) X G (ix2 p k) = nrm (fun l => X (ix2 p l)) (fun l => G (ix2 0 l)) k := by
  pointwise [k0_pay1]
  rfl

/-- The block index of every window. -/
theorem idx : ∀ t : Fin cfg0.N, win0_0.index t = ![t.val, 0] ∧ win0_1.index t = ![0, 0] ∧ win0_2.index t = ![t.val, 0]
    ∧ t.val < 8 :=
  (by decide +kernel : ∀ t : Fin grid0.N, _)

/-- Row `p` of grid point `t`'s block. -/
def at512 (t : Fin cfg0.N) (p : Fin 512) : Fin 4096 := ⟨t.val * 512 + p.val, by have := (idx t).2.2.2; omega⟩

theorem blk0 (c : Dev nD) (t : Fin cfg0.N) (p : Fin 512) (k : Fin 1024) :
    (show FVec Ideal S512x1024 .f32 from iblk m c 0 t) (ix2 p k) = row (argX m c) (at512 t p) k := by
  rw [row]
  blk_simp [iblk]
  entry_read
  pointwise
  blk_ext [at512, idx t]

theorem blk1 (c : Dev nD) (t : Fin cfg0.N) (k : Fin 1024) :
    (show FVec Ideal S1x1024 .f32 from iblk m c 1 t) (ix2 0 k) = vec (argG m c) k := by
  rw [vec]
  blk_simp [iblk]
  entry_read
  pointwise
  blk_ext [idx t]

theorem out2 (c : Dev nD) (t : Fin cfg0.N) (y : S512x1024.Idx) :
    out0_2 (F := Ideal) (iblk m c 0 t) (iblk m c 1 t) y = H (argX m c) (argG m c) (((cfg0.win 2).blk t).view.emb y) := by
  have e : out0_2 (F := Ideal) (iblk m c 0 t) (iblk m c 1 t) = k0_pay1 (F := Ideal) (iblk m c 0 t) (iblk m c 1 t) := by
    frame_out
  rw [e]
  idx_vars y
  refine (pay _ _ y0 y1).trans ?_
  refine (congrArg₂ (fun v g => nrm v g y1) (funext (blk0 m c t y0)) (funext (blk1 m c t))).trans ?_
  refine congrArg (fun i : S4096x1024.Idx => H (argX m c) (argG m c) i) (a₁ := (ix2 (at512 t y0) y1 : S4096x1024.Idx)) ?_
  blk_ext [at512, idx t]

theorem final2 (c : Dev nD) : (dats m 0 c).arrAt 2 (cfgs 0).N = H (argX m c) (argG m c) := by
  refine (dats m 0 c).arrAt_eq_of_covers 2 _ (by decide +kernel) fun t _ y => ?_
  blk_simp
  rw [after0_2]
  exact out2 m c t y

end Cert.RmsIdeal.Block

namespace Cert.RmsRefIdeal.Stage

open Idealize.ShloMosaic Cert.RmsRefIdeal Cert.RmsRefIdeal.Gen Cert.RmsRefIdeal.Read Cert.Rows
open scoped BigOperators

variable (X : FVec Ideal S2x2048x1024 .f32) (G : FVec Ideal S1024 .f32)

theorem v12 (b : Fin 2) (s : Fin 2048) (k : Fin 1024) :
    val_main_v12 (F := Ideal) X G (ix3 b s k) = nrm (fun l => X (ix3 b s l)) (vec G) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem res : val_main_v14 (F := Ideal) X G = Cert.RmsIdeal.Block.H X G := by
  funext i
  idx_vars i
  pointwise [val_main_v14, val_main_v13]
  exact v12 X G _ _ _

end Cert.RmsRefIdeal.Stage

end
-- ==== Proof.Rms.Claim.lean ====
/- The norm of the activations: the kernel's result and the reference's are equal, for any arguments. -/
module

public import proofs.«01_k».proof.Defs
public import proofs.«01_k».proof.Proof.Rms.Value
public import proofs.«01_k».proof.Proof.Gen.RmsIdeal.Value
public import proofs.«01_k».proof.Proof.Gen.RmsRefIdeal.Run
public import Idealize.ShloMosaic.Adequacy
public import Idealize.ShloMosaic.Init

@[expose] public section

noncomputable section

namespace Cert.Proof

open Idealize.ShloMosaic Idealize.SL.Sem

theorem rms_algebraic : Cert.algebraic_RmsIdeal_RmsRefIdeal := by
  pair_intro
  · run_from Cert.RmsIdeal.Gen.run_main m g
  · run_from Cert.RmsRefIdeal.Value.run m' g'
    · rw [Cert.RmsIdeal.Block.final2]
      exact (Cert.RmsRefIdeal.Read.val_main_v14_eq _ _).trans (Cert.RmsRefIdeal.Stage.res _ _)

/-- The reference leaves its arguments unchanged; it declares no semaphore. -/
theorem rms_ref_frame : Cert.quiescent_RmsRefIdeal := fun m ρ _ =>
  (θ_run Cert.RmsRefIdeal.defs _ _).mono (fun r h => ⟨fun c => (h c).2, sem_eq_zero_of_no_sems (by decide) r.2⟩)
    (Cert.RmsRefIdeal.Value.run m ρ)

end Cert.Proof

end
-- ==== Proof.Up.Value.lean ====
/- A weight's gradient, the product of the transposed cotangent and the activations: the kernel's result array after the run,
   and the reference's. -/
module

public import proofs.«01_k».proof.Proof.Gen.UpIdeal.Frame
public import proofs.«01_k».proof.Proof.Gen.UpRefIdeal.Read
public import proofs.«01_k».proof.Proof.Lib.Rows
public import Idealize.ShloMosaic.Lib.Claim
public import Idealize.ShloMosaic.Lib.Pipeline.ValueKit

@[expose] public section

set_option maxRecDepth 16384

noncomputable section

namespace Cert.UpIdeal.Block

open Idealize.ShloMosaic Idealize.ShloMosaic.TcCoe Idealize.SL.Sem
open Idealize.ShloMosaic.Pipeline (Dat)
open Cert.UpIdeal Cert.UpIdeal.Gen Cert.Rows
open scoped BigOperators

/-- The arguments: the activations and the cotangent of their product with the weight. -/
structure Args where
  h : FVec Ideal S2x2048x1024 .f32
  d : FVec Ideal S2x2048x5632 .f32

/-- The weight's gradient at output column `n` of the weight and input column `k`: a sum over all rows. -/
def grad (A : Args) (n : Fin 5632) (k : Fin 1024) : EReal := ∑ i, row A.d i n * row A.h i k

/-- The column of the weight that chunk `j` holds at place `p`. -/
def col (j : Fin 8) (p : Fin 704) : Fin 5632 := ⟨j.val * 704 + p.val, by omega⟩

/-- The result: the gradient in chunks of the weight's columns. -/
def G (A : Args) (i : S8x704x1024.Idx) : EReal := grad A (col (i 0) (i 1)) (i 2)

/-- The body's four products over 1024 rows each are one product over all rows. -/
theorem pay1 (D : FVec Ideal S1x4096x704 .bf16) (H : FVec Ideal S4096x1024 .bf16) (p : Fin 704) (k : Fin 1024) :
    k0_pay1 (F := Ideal) (View.ld (Val := Elt Ideal) D r0_0) (View.ld (Val := Elt Ideal) H r0_1) (View.ld (Val := Elt Ideal) D r0_2)
      (View.ld (Val := Elt Ideal) H r0_3) (View.ld (Val := Elt Ideal) D r0_4) (View.ld (Val := Elt Ideal) H r0_5)
      (View.ld (Val := Elt Ideal) D r0_6) (View.ld (Val := Elt Ideal) H r0_7) (ix3 0 p k)
      = ∑ i : Fin 4096, D (ix3 0 i p) * H (ix2 i k) := by
  rw [Fin.sum_univ_tiles 4 1024 rfl, Fin.sum_univ_four]
  pointwise [k0_pay1]

/-- The block index of every window. -/
theorem idx : ∀ t : Fin cfg0.N, win0_0.index t = ![t.val, 0, 0] ∧ win0_1.index t = ![0, 0] ∧ win0_2.index t = ![t.val, 0, 0]
    ∧ t.val < 8 :=
  (by decide +kernel : ∀ t : Fin grid0.N, _)

variable (m : (ℓ : Loc nD τ sig) → Buf (Elt Ideal) ℓ) (c : Dev nD) (t : Fin cfg0.N)

/-- The arguments of a run. -/
def args : Args := ⟨m ((c : Thread nD τ).loc main_arg0), m ((c : Thread nD τ).loc main_arg1)⟩

/-- The chunk of grid point `t`. -/
def chunk : Fin 8 := ⟨t.val, (idx t).2.2.2⟩

theorem blk0 (i : Fin 4096) (p : Fin 704) :
    (show FVec Ideal S1x4096x704 .bf16 from iblk m c 0 t) (ix3 0 i p) = row (args m c).d i (col (chunk t) p) := by
  rw [row]
  blk_simp [iblk]
  entry_read
  pointwise
  blk_ext [col, chunk, idx t]

theorem blk1 (i : Fin 4096) (k : Fin 1024) :
    (show FVec Ideal S4096x1024 .bf16 from iblk m c 1 t) (ix2 i k) = row (args m c).h i k := by
  rw [row]
  blk_simp [iblk]
  entry_read
  pointwise
  blk_ext [idx t]

theorem final2 : (dats m 0 c).arrAt 2 (cfgs 0).N = G (args m c) := by
  refine (dats m 0 c).arrAt_eq_of_covers 2 _ (by decide +kernel) fun t _ y => ?_
  blk_simp
  rw [after0_2]
  unfold out0_2
  frame_out
  idx_vars y
  obtain rfl : y0 = 0 := Subsingleton.elim _ _
  refine (pay1 _ _ y1 y2).trans ?_
  refine (Finset.sum_congr rfl fun i _ => congrArg₂ (· * ·) (blk0 m c t i y1) (blk1 m c t i y2)).trans ?_
  refine congrArg (fun i : S8x704x1024.Idx => G (args m c) i) (a₁ := (ix3 (chunk t) y1 y2 : S8x704x1024.Idx)) ?_
  blk_ext [chunk, idx t]

end Cert.UpIdeal.Block

namespace Cert.UpRefIdeal.Stage

open Idealize.ShloMosaic Cert.UpRefIdeal Cert.UpRefIdeal.Gen Cert.UpRefIdeal.Read Cert.Rows
open Cert.UpIdeal.Block (Args grad col G)
open scoped BigOperators

variable (A : Args)

theorem v3 (n : Fin 5632) (k : Fin 1024) : val_main_v3 (F := Ideal) A.h A.d (ix2 n k) = grad A n k := by
  unfold grad
  pointwise [val_main_v3, val_main_v2, val_main_v1, val_main_v0]
  rfl

theorem res : val_main_v5 (F := Ideal) A.h A.d = G A := by
  funext i
  idx_vars i
  pointwise [val_main_v5, val_main_v4]
  exact (v3 A _ _).trans rfl

end Cert.UpRefIdeal.Stage

end
-- ==== Proof.Up.Claim.lean ====
/- A weight's gradient: the kernel's result and the reference's are equal, for any arguments. -/
module

public import proofs.«01_k».proof.Defs
public import proofs.«01_k».proof.Proof.Up.Value
public import proofs.«01_k».proof.Proof.Gen.UpIdeal.Value
public import proofs.«01_k».proof.Proof.Gen.UpRefIdeal.Run
public import Idealize.ShloMosaic.Adequacy
public import Idealize.ShloMosaic.Init

@[expose] public section

noncomputable section

namespace Cert.Proof

open Idealize.ShloMosaic Idealize.SL.Sem

theorem up_algebraic : Cert.algebraic_UpIdeal_UpRefIdeal := by
  pair_intro
  · run_from Cert.UpIdeal.Gen.run_main m g
  · run_from Cert.UpRefIdeal.Value.run m' g'
    rw [Cert.UpIdeal.Block.final2]
    exact (Cert.UpRefIdeal.Read.val_main_v5_eq _ _).trans (Cert.UpRefIdeal.Stage.res (Cert.UpIdeal.Block.args m c))

/-- The reference leaves its arguments unchanged; it declares no semaphore. -/
theorem up_ref_frame : Cert.quiescent_UpRefIdeal := fun m ρ _ =>
  (θ_run Cert.UpRefIdeal.defs _ _).mono (fun r h => ⟨fun c => (h c).2, sem_eq_zero_of_no_sems (by decide) r.2⟩)
    (Cert.UpRefIdeal.Value.run m ρ)

end Cert.Proof

end
-- ==== Proof.Adam.Value.lean ====
/- The optimiser's step on a weight, from the devices' parts of its gradient: the kernel's four result arrays after the run,
   and the reference's. -/
module

public import proofs.«01_k».proof.Proof.Gen.AdamIdeal.Frame
public import proofs.«01_k».proof.Proof.Gen.AdamRefIdeal.Read
public import Idealize.ShloMosaic.Lib.Claim
public import Idealize.ShloMosaic.Lib.Pipeline.ValueKit
public import Idealize.ShloMosaic.Lib.Tactic

@[expose] public section

set_option maxRecDepth 16384

noncomputable section

namespace Cert.AdamIdeal.Block

open Idealize.ShloMosaic Idealize.ShloMosaic.TcCoe Idealize.SL.Sem Idealize.ShloMosaic.Tactic
open Idealize.ShloMosaic.Pipeline (Dat)
open Cert.AdamIdeal Cert.AdamIdeal.Gen
open scoped BigOperators

/-- The arguments: the devices' parts of the gradient for each layer, the weight and the optimiser's two averages. -/
structure Args where
  a : FVec Ideal S8x1024x704 .f32
  b : FVec Ideal S8x1024x704 .f32
  w : FVec Ideal S2x1024x704 .f32
  m : FVec Ideal S2x1024x704 .f32
  v : FVec Ideal S2x1024x704 .f32

/-- The new first average of an entry, from the old one and the gradient. -/
def mean (m g : EReal) : EReal := Ideal.ofBits .f32 0x3F666666#32 * m + Ideal.ofBits .f32 0x3DCCCCCD#32 * g

/-- The new second average. -/
def var (v g : EReal) : EReal := Ideal.ofBits .f32 0x3F7FBE77#32 * v + Ideal.ofBits .f32 0x3A83126F#32 * (g * g)

/-- The weight's change, from the new averages and the weight. -/
def change (m v w : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32)
    + Ideal.ofBits .f32 0x3C23D70A#32 * w)

/-- The gradient of layer `l` at column `p` and row `k` of the weight: the sum of the devices' parts. -/
def grad (A : Args) (l : Fin 2) (p : Fin 704) (k : Fin 1024) : EReal :=
  if l.val < 1 then ∑ j, A.a (ix3 j k p) else ∑ j, A.b (ix3 j k p)

/-- The four results, with the weight's two axes exchanged. -/
def RG (A : Args) (i : S2x704x1024.Idx) : EReal := grad A (i 0) (i 1) (i 2)
def RM (A : Args) (i : S2x704x1024.Idx) : EReal := mean (A.m (ix3 (i 0) (i 2) (i 1))) (RG A i)
def RV (A : Args) (i : S2x704x1024.Idx) : EReal := var (A.v (ix3 (i 0) (i 2) (i 1))) (RG A i)
def RD (A : Args) (i : S2x704x1024.Idx) : EReal := change (RM A i) (RV A i) (A.w (ix3 (i 0) (i 2) (i 1)))

/-- The part of a block that is read at offset `o`. -/
abbrev part (D : FVec Ideal S8x176x1024 .bf16) (o : Fin 3 → Nat)
    (h : ∀ a, o a + S1x176x1024.size a ≤ S8x176x1024.size a) : Vec Ideal S1x176x1024 .bf16 :=
  View.ld (Val := Elt Ideal) D (Rect.unit (s := S8x176x1024) o S1x176x1024.size h)

/-- The sum of eight parts as the body spells it. -/
def total (D : FVec Ideal S8x176x1024 .bf16) : FVec Ideal S1x176x1024 .f32 :=
  k0_pay4 (k0_pay2 (F := Ideal)
    (part D ![0, 0, 0] inb_S8x176x1024_S1x176x1024_0_0_0)
    (part D ![1, 0, 0] inb_S8x176x1024_S1x176x1024_1_0_0)
    (part D ![2, 0, 0] inb_S8x176x1024_S1x176x1024_2_0_0)
    (part D ![3, 0, 0] inb_S8x176x1024_S1x176x1024_3_0_0)
    (part D ![4, 0, 0] inb_S8x176x1024_S1x176x1024_4_0_0)
    (part D ![5, 0, 0] inb_S8x176x1024_S1x176x1024_5_0_0)
    (part D ![6, 0, 0] inb_S8x176x1024_S1x176x1024_6_0_0)
    (part D ![7, 0, 0] inb_S8x176x1024_S1x176x1024_7_0_0))

theorem total_at (D : FVec Ideal S8x176x1024 .bf16) (p : Fin 176) (k : Fin 1024) :
    total D (ix3 0 p k) = ∑ j, D (ix3 j p k) := by
  rw [Fin.sum_univ_eight]
  pointwise [total, part, k0_pay4, k0_pay2]

theorem mean_at (g m : FVec Ideal S1x176x1024 .f32) (p : Fin 176) (k : Fin 1024) :
    k0_pay9 (F := Ideal) g m (ix3 0 p k) = mean (m (ix3 0 p k)) (g (ix3 0 p k)) := by
  pointwise [k0_pay9, k0_pay7, k0_pay6]
  rfl

theorem var_at (g v : FVec Ideal S1x176x1024 .f32) (p : Fin 176) (k : Fin 1024) :
    k0_pay10 (F := Ideal) g v (ix3 0 p k) = var (v (ix3 0 p k)) (g (ix3 0 p k)) := by
  pointwise [k0_pay10, k0_pay8, k0_pay6]
  rfl

theorem change_at (g w m v : FVec Ideal S1x176x1024 .f32) (p : Fin 176) (k : Fin 1024) :
    k0_pay1 (F := Ideal) (k0_pay7 g m) (k0_pay8 g v) k0_pay11 w (ix3 0 p k)
      = change (mean (m (ix3 0 p k)) (g (ix3 0 p k))) (var (v (ix3 0 p k)) (g (ix3 0 p k))) (w (ix3 0 p k)) := by
  pointwise [k0_pay1, k0_pay8, k0_pay7, k0_pay6, k0_pay11]
  rfl

/-- The block index of every window. -/
theorem idx : ∀ t : Fin cfg0.N, win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] ∧ t.val < 8 :=
  (by decide +kernel : ∀ t : Fin grid0.N, _)

/-- The block index of each layer's parts, at the points that read them. -/
theorem idx_a : ∀ t : Fin cfg0.N, t.val < 4 → win0_0.index t = ![0, t.val % 4, 0] :=
  (by decide +kernel : ∀ t : Fin grid0.N, _)
theorem idx_b : ∀ t : Fin cfg0.N, ¬ t.val < 4 → win0_1.index t = ![0, t.val % 4, 0] :=
  (by decide +kernel : ∀ t : Fin grid0.N, _)

variable (m : (ℓ : Loc nD τ sig) → Buf (Elt Ideal) ℓ) (c : Dev nD) (t : Fin cfg0.N)

/-- The arguments of a run. -/
def args : Args :=
  ⟨m ((c : Thread nD τ).loc main_arg0), m ((c : Thread nD τ).loc main_arg1), m ((c : Thread nD τ).loc main_arg2),
    m ((c : Thread nD τ).loc main_arg3), m ((c : Thread nD τ).loc main_arg4)⟩

/-- The layer of grid point `t`, and row `p` of its block. -/
def layer : Fin 2 := ⟨t.val / 4, by have := (idx t).2.2.2.2.2.2.2; omega⟩
def at176 (p : Fin 176) : Fin 704 := ⟨t.val % 4 * 176 + p.val, by omega⟩

/-- The place of a block's entry in a result. -/
def place (p : Fin 176) (k : Fin 1024) : S2x704x1024.Idx := ix3 (layer t) (at176 t p) k

theorem blk0 (h : t.val < 4) (j : Fin 8) (p : Fin 176) (k : Fin 1024) :
    (show FVec Ideal S8x176x1024 .bf16 from iblk m c 0 t) (ix3 j p k) = (args m c).a (ix3 j k (at176 t p)) := by
  blk_simp [iblk]
  entry_read
  pointwise
  blk_ext [at176, idx_a t h]

theorem blk1 (h : ¬ t.val < 4) (j : Fin 8) (p : Fin 176) (k : Fin 1024) :
    (show FVec Ideal S8x176x1024 .bf16 from iblk m c 1 t) (ix3 j p k) = (args m c).b (ix3 j k (at176 t p)) := by
  blk_simp [iblk]
  entry_read
  pointwise
  blk_ext [at176, idx_b t h]

theorem blk2 (p : Fin 176) (k : Fin 1024) :
    (show FVec Ideal S1x176x1024 .f32 from iblk m c 2 t) (ix3 0 p k) = (args m c).w (ix3 (layer t) k (at176 t p)) := by
  blk_simp [iblk]
  entry_read
  pointwise
  blk_ext [layer, at176, idx t]

theorem blk3 (p : Fin 176) (k : Fin 1024) :
    (show FVec Ideal S1x176x1024 .f32 from iblk m c 3 t) (ix3 0 p k) = (args m c).m (ix3 (layer t) k (at176 t p)) := by
  blk_simp [iblk]
  entry_read
  pointwise
  blk_ext [layer, at176, idx t]

theorem blk4 (p : Fin 176) (k : Fin 1024) :
    (show FVec Ideal S1x176x1024 .f32 from iblk m c 4 t) (ix3 0 p k) = (args m c).v (ix3 (layer t) k (at176 t p)) := by
  blk_simp [iblk]
  entry_read
  pointwise
  blk_ext [layer, at176, idx t]

/-- The gradient's block at grid point `t`. -/
def landed : FVec Ideal S1x176x1024 .f32 := if t.val < 4 then total (iblk m c 0 t) else total (iblk m c 1 t)

theorem landed_at (p : Fin 176) (k : Fin 1024) : landed m c t (ix3 0 p k) = RG (args m c) (place t p k) := by
  unfold landed
  by_cases h : t.val < 4
  · rw [if_pos h, total_at]
    have hl : (layer t).val < 1 := by unfold layer; dsimp only; omega
    exact (Finset.sum_congr rfl fun j _ => blk0 m c t h j p k).trans (if_pos hl).symm
  · rw [if_neg h, total_at]
    have hl : ¬ (layer t).val < 1 := by unfold layer; dsimp only; omega
    exact (Finset.sum_congr rfl fun j _ => blk1 m c t h j p k).trans (if_neg hl).symm

/-- What the body leaves at grid point `t`, from the gradient's block. -/
theorem outs : outsAt0 m c t.val t.isLt = (landed m c t,
    k0_pay1 (F := Ideal) (k0_pay7 (landed m c t) (iblk m c 3 t)) (k0_pay8 (landed m c t) (iblk m c 4 t)) k0_pay11 (iblk m c 2 t),
    k0_pay9 (F := Ideal) (landed m c t) (iblk m c 3 t), k0_pay10 (F := Ideal) (landed m c t) (iblk m c 4 t)) := by
  unfold landed
  by_cases h : t.val < 4
  · rw [if_pos h, outsAt0_A m c t h (by omega)]
    refine Prod.ext ?_ (Prod.ext ?_ (Prod.ext ?_ ?_))
    · frame_out; sl_kernel_rfl
    · frame_out; sl_kernel_rfl
    · frame_out; sl_kernel_rfl
    · frame_out; sl_kernel_rfl
  · rw [if_neg h, outsAt0_B m c t h (by omega)]
    refine Prod.ext ?_ (Prod.ext ?_ (Prod.ext ?_ ?_))
    · frame_out; sl_kernel_rfl
    · frame_out; sl_kernel_rfl
    · frame_out; sl_kernel_rfl
    · frame_out; sl_kernel_rfl

theorem final5 : (dats m 0 c).arrAt 5 (cfgs 0).N = RG (args m c) := by
  refine (dats m 0 c).arrAt_eq_of_covers 5 _ (by decide +kernel) fun t _ y => ?_
  blk_simp
  rw [after0_5, outs]
  idx_vars y
  obtain rfl : y0 = 0 := Subsingleton.elim _ _
  refine (landed_at m c t y1 y2).trans ?_
  refine congrArg (fun i : S2x704x1024.Idx => RG (args m c) i) ?_
  blk_ext [place, layer, at176, idx t]

theorem final6 : (dats m 0 c).arrAt 6 (cfgs 0).N = RD (args m c) := by
  refine (dats m 0 c).arrAt_eq_of_covers 6 _ (by decide +kernel) fun t _ y => ?_
  blk_simp
  rw [after0_6, outs]
  idx_vars y
  obtain rfl : y0 = 0 := Subsingleton.elim _ _
  refine (change_at _ _ _ _ y1 y2).trans ?_
  rw [landed_at]
  refine (congr (congrArg₂ change (congrArg (mean · _) (blk3 m c t y1 y2)) (congrArg (var · _) (blk4 m c t y1 y2)))
    (blk2 m c t y1 y2)).trans ?_
  refine congrArg (fun i : S2x704x1024.Idx => RD (args m c) i) (a₁ := place t y1 y2) ?_
  blk_ext [place, layer, at176, idx t]

theorem final7 : (dats m 0 c).arrAt 7 (cfgs 0).N = RM (args m c) := by
  refine (dats m 0 c).arrAt_eq_of_covers 7 _ (by decide +kernel) fun t _ y => ?_
  blk_simp
  rw [after0_7, outs]
  idx_vars y
  obtain rfl : y0 = 0 := Subsingleton.elim _ _
  refine (mean_at _ _ y1 y2).trans ?_
  rw [landed_at]
  refine (congrArg (mean · _) (blk3 m c t y1 y2)).trans ?_
  refine congrArg (fun i : S2x704x1024.Idx => RM (args m c) i) (a₁ := place t y1 y2) ?_
  blk_ext [place, layer, at176, idx t]

theorem final8 : (dats m 0 c).arrAt 8 (cfgs 0).N = RV (args m c) := by
  refine (dats m 0 c).arrAt_eq_of_covers 8 _ (by decide +kernel) fun t _ y => ?_
  blk_simp
  rw [after0_8, outs]
  idx_vars y
  obtain rfl : y0 = 0 := Subsingleton.elim _ _
  refine (var_at _ _ y1 y2).trans ?_
  rw [landed_at]
  refine (congrArg (var · _) (blk4 m c t y1 y2)).trans ?_
  refine congrArg (fun i : S2x704x1024.Idx => RV (args m c) i) (a₁ := place t y1 y2) ?_
  blk_ext [place, layer, at176, idx t]

end Cert.AdamIdeal.Block

namespace Cert.AdamRefIdeal.Stage

open Idealize.ShloMosaic Cert.AdamRefIdeal Cert.AdamRefIdeal.Gen Cert.AdamRefIdeal.Read
open Cert.AdamIdeal.Block (Args grad mean var change RG RM RV RD)
open scoped BigOperators

variable (A : Args)

theorem v4 (l : Fin 2) (k : Fin 1024) (p : Fin 704) : val_main_v4 (F := Ideal) A.a A.b (ix3 l k p) = grad A l p k := by
  unfold grad
  pointwise [val_main_v4, val_main_v3, val_main_v2, val_main_v1, val_main_v0, val_main_cst, val_main_cst_0]
  split <;> rfl

theorem v9 (l : Fin 2) (k : Fin 1024) (p : Fin 704) :
    val_main_v9 (F := Ideal) A.a A.b A.m (ix3 l k p) = mean (A.m (ix3 l k p)) (grad A l p k) := by
  pointwise [val_main_v9, val_main_v8, val_main_v7, val_main_v6, val_main_v5, val_main_cst_1, val_main_cst_2]
  rw [v4]
  rfl

theorem v15 (l : Fin 2) (k : Fin 1024) (p : Fin 704) :
    val_main_v15 (F := Ideal) A.a A.b A.v (ix3 l k p) = var (A.v (ix3 l k p)) (grad A l p k) := by
  pointwise [val_main_v15, val_main_v14, val_main_v13, val_main_v12, val_main_v11, val_main_v10, val_main_cst_3, val_main_cst_4]
  rw [v4]
  rfl

theorem v28 (l : Fin 2) (k : Fin 1024) (p : Fin 704) :
    val_main_v28 (F := Ideal) A.a A.b A.w A.m A.v (ix3 l k p)
      = change (mean (A.m (ix3 l k p)) (grad A l p k)) (var (A.v (ix3 l k p)) (grad A l p k)) (A.w (ix3 l k p)) := by
  pointwise [val_main_v28, val_main_v27, val_main_v26, val_main_v25, val_main_v24, val_main_v23, val_main_v22, val_main_v21,
    val_main_v20, val_main_v19, val_main_v18, val_main_v17, val_main_v16, val_main_cst_5, val_main_cst_6, val_main_cst_7,
    val_main_cst_8, val_main_cst_9]
  rw [v9, v15]
  rfl

theorem res0 : val_main_v29 (F := Ideal) A.a A.b = RG A := by
  funext i
  idx_vars i
  pointwise [val_main_v29]
  exact v4 A _ _ _

theorem res1 : val_main_v30 (F := Ideal) A.a A.b A.w A.m A.v = RD A := by
  funext i
  idx_vars i
  pointwise [val_main_v30]
  exact v28 A _ _ _

theorem res2 : val_main_v31 (F := Ideal) A.a A.b A.m = RM A := by
  funext i
  idx_vars i
  pointwise [val_main_v31]
  exact v9 A _ _ _

theorem res3 : val_main_v32 (F := Ideal) A.a A.b A.v = RV A := by
  funext i
  idx_vars i
  pointwise [val_main_v32]
  exact v15 A _ _ _

end Cert.AdamRefIdeal.Stage

end
-- ==== Proof.Adam.Claim.lean ====
/- The optimiser's step on one weight: the kernel's four results and the reference's are equal, for any arguments. -/
module

public import proofs.«01_k».proof.Defs
public import proofs.«01_k».proof.Proof.Adam.Value
public import proofs.«01_k».proof.Proof.Gen.AdamIdeal.Value
public import proofs.«01_k».proof.Proof.Gen.AdamRefIdeal.Run
public import Idealize.ShloMosaic.Adequacy
public import Idealize.ShloMosaic.Init

@[expose] public section

noncomputable section

namespace Cert.Proof

open Idealize.ShloMosaic Idealize.SL.Sem

theorem adam_algebraic : Cert.algebraic_AdamIdeal_AdamRefIdeal := by
  pair_intro
  · run_from Cert.AdamIdeal.Gen.run_main m g
  · run_from Cert.AdamRefIdeal.Value.run m' g'
    · rw [Cert.AdamIdeal.Block.final5]
      exact (Cert.AdamRefIdeal.Read.val_main_v29_eq _ _).trans (Cert.AdamRefIdeal.Stage.res0 (Cert.AdamIdeal.Block.args m c))
    · rw [Cert.AdamIdeal.Block.final6]
      exact (Cert.AdamRefIdeal.Read.val_main_v30_eq _ _ _ _ _).trans (Cert.AdamRefIdeal.Stage.res1 (Cert.AdamIdeal.Block.args m c))
    · rw [Cert.AdamIdeal.Block.final7]
      exact (Cert.AdamRefIdeal.Read.val_main_v31_eq _ _ _).trans (Cert.AdamRefIdeal.Stage.res2 (Cert.AdamIdeal.Block.args m c))
    · rw [Cert.AdamIdeal.Block.final8]
      exact (Cert.AdamRefIdeal.Read.val_main_v32_eq _ _ _).trans (Cert.AdamRefIdeal.Stage.res3 (Cert.AdamIdeal.Block.args m c))

/-- The reference leaves its arguments unchanged; it declares no semaphore. -/
theorem adam_ref_frame : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run m ρ)

end Cert.Proof

end
-- ==== Proof.AttnFwd.Run.lean ====
/- The attention forward kernel's body at a grid point: it runs to its end and gives every buffer back.

   Nothing is said of what it computes: whatever is held, if the inputs' buffers can be read from it and the others
   can be read and written, it is held again at the end. -/
module

public import proofs.«01_k».proof.Proof.Lib.Safe
public import proofs.«01_k».proof.Proof.Gen.AttnFwdIdeal.Launch
public import proofs.«01_k».proof.Proof.Gen.AttnFwdIdeal.Points
public import proofs.«01_k».proof.Proof.Gen.AttnFwdIdeal.Skeleton
public import Idealize.ShloMosaic.Lib.Pipeline.FrameBody
public import Idealize.ShloMosaic.Lib.Tactic

@[expose] public section

set_option maxRecDepth 65536

noncomputable section

namespace Cert.AttnFwdIdeal.Body

open Cert.AttnFwdIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x128 .f32) (harg5 : arg5.IsWhole)
  (arg6 : Memref sig .tc .vmem S8x256 .f32) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x128 .bf16) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x128 .f32) (harg14 : arg14.IsWhole)
  (arg15 : Memref sig .tc .vmem S2048x128 .f32) (harg15 : arg15.IsWhole)
  (arg16 : Memref sig .tc .vmem S2048x128 .f32) (harg16 : arg16.IsWhole)
  (arg17 : Memref sig .tc .vmem S2048x128 .f32) (harg17 : arg17.IsWhole)
  (arg18 : Memref sig .tc .vmem S2048x128 .f32) (harg18 : arg18.IsWhole)
  (S : sProp (MT nD τ sig Unit (Elt F) ℕ (UR sig nD τ) ℕ)) (x2 x3 x4 : Vec F S2048x128 .f32) (x5 : Vec F S1x128 .f32) (x6 : Vec F S8x256 .f32)

/-- A program of the kernel's core that runs on `S` and gives it back. -/
abbrev Kept {α : Type} (p : Prog (TpuEff nD τ sig (Elt F) Λ₀ .tc) α) : Prop :=
  Safe (Ix := Unit) (Name := ℕ) (U := UR sig nD τ) (Lvl := ℕ) (defs₀ (F := F)) Variants.none (c : Thread nD τ) S p

section Body

variable
  [Reads (c : Thread nD τ) S arg2] [Reads (c : Thread nD τ) S arg3] [Reads (c : Thread nD τ) S arg4] [Reads (c : Thread nD τ) S arg5] [Reads (c : Thread nD τ) S arg6] [Reads (c : Thread nD τ) S arg7] [Reads (c : Thread nD τ) S arg8] [Reads (c : Thread nD τ) S arg9] [Reads (c : Thread nD τ) S arg10] [Reads (c : Thread nD τ) S arg11] [Reads (c : Thread nD τ) S arg12] [Reads (c : Thread nD τ) S arg13] [Reads (c : Thread nD τ) S arg14] [Reads (c : Thread nD τ) S arg15] [Reads (c : Thread nD τ) S arg16] [Reads (c : Thread nD τ) S arg17] [Reads (c : Thread nD τ) S arg18]
  [Holds (c : Thread nD τ) S arg7] [Holds (c : Thread nD τ) S arg8] [Holds (c : Thread nD τ) S arg9] [Holds (c : Thread nD τ) S arg10] [Holds (c : Thread nD τ) S arg11] [Holds (c : Thread nD τ) S arg12] [Holds (c : Thread nD τ) S arg13] [Holds (c : Thread nD τ) S arg14] [Holds (c : Thread nD τ) S arg15] [Holds (c : Thread nD τ) S arg16] [Holds (c : Thread nD τ) S arg17] [Holds (c : Thread nD τ) S arg18]

set_option maxHeartbeats 4000000 in
/-- The body's first part gives back what is held. -/
theorem part111_safe : Kept c S (k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  unfold Kept
  rw [k0_part111_eq_skeleton]; unfold k0_part111_skel
  repeat first
    | with_reducible exact Safe.pure _
    | with_reducible exact Safe.load _ _ _
    | with_reducible exact Safe.store _ _ _ _ _ _
    | with_reducible refine Safe.bind ?_ (fun _ => ?_)
    | refine Safe.bind ?_ (fun _ => ?_)
    | exact Safe.pure _

set_option maxHeartbeats 4000000 in
/-- Its second part too. -/
theorem part112_safe (v4 v8 v13 v18 v2764) : Kept c S (k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4 v8 v13 v18 v2764) := by
  unfold Kept
  rw [k0_part112_eq_skeleton]; unfold k0_part112_skel
  repeat first
    | with_reducible exact Safe.pure _
    | with_reducible exact Safe.load _ _ _
    | with_reducible exact Safe.store _ _ _ _ _ _
    | with_reducible refine Safe.bind ?_ (fun _ => ?_)
    | refine Safe.bind ?_ (fun _ => ?_)
    | exact Safe.pure _

/-- The whole body. -/
theorem run : Kept c S (cc0_attn_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  unfold Kept
  rw [cc0_attn_fwd_eq_skeleton]; unfold cc0_attn_fwd_skel
  refine Safe.bind (by apply part111_safe) (fun _ => ?_)
  refine Safe.bind (by apply part112_safe) (fun _ => ?_)
  repeat first
    | with_reducible exact Safe.pure _
    | with_reducible exact Safe.load _ _ _
    | with_reducible exact Safe.store _ _ _ _ _ _
    | with_reducible refine Safe.bind ?_ (fun _ => ?_)
    | refine Safe.bind ?_ (fun _ => ?_)
    | exact Safe.pure _

end Body

/-- What is held, taken apart: the scratch buffers and the results' at some contents, the inputs' at their blocks, and
    anything else. -/
def parts : sProp (MT nD τ sig Unit (Elt F) ℕ (UR sig nD τ) ℕ) :=
  iprop((some' (c : Thread nD τ) arg10 ∗ some' (c : Thread nD τ) arg11 ∗ some' (c : Thread nD τ) arg12 ∗ some' (c : Thread nD τ) arg13 ∗ some' (c : Thread nD τ) arg14 ∗ some' (c : Thread nD τ) arg15 ∗ some' (c : Thread nD τ) arg16 ∗ some' (c : Thread nD τ) arg17 ∗ some' (c : Thread nD τ) arg18)
    ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
    ∗ some' (c : Thread nD τ) arg7 ∗ some' (c : Thread nD τ) arg8 ∗ some' (c : Thread nD τ) arg9
    ∗ S)

theorem run_parts :
    parts c arg2 arg3 arg4 arg5 arg6 arg7 arg8 arg9 arg10 arg11 arg12 arg13 arg14 arg15 arg16 arg17 arg18 S x2 x3 x4 x5 x6 ⊢ wp frame (wpE (defs₀ (F := F)) Variants.none (c : Thread nD τ) none) Set.univ (cc0_attn_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ =>
      parts c arg2 arg3 arg4 arg5 arg6 arg7 arg8 arg9 arg10 arg11 arg12 arg13 arg14 arg15 arg16 arg17 arg18 S x2 x3 x4 x5 x6) := by
  unfold parts
  exact run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _

end Cert.AttnFwdIdeal.Body

end
-- ==== Proof.AttnFwd.Frame.lean ====
/- The attention forward kernel runs to its end, whatever it computes.

   Eight points. Each takes the inputs' blocks and gives them back, and leaves the three results' blocks and its scratch
   buffers at contents left open; so each of these is held between points at some contents. -/
module

public import proofs.«01_k».proof.Proof.AttnFwd.Run
public import proofs.«01_k».proof.Proof.Gen.AttnFwdIdeal.Frame
public import Idealize.ShloMosaic.Lib.ViewIndex

@[expose] public section

set_option maxRecDepth 16384

noncomputable section

namespace Cert.AttnFwdIdeal.Body

open Cert.AttnFwdIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole buffers at some contents -/

theorem some_whole (c : Dev nD) (b : Ref sig .tc) :
    (iprop(∃ f : Buf (Elt F) ((c : Thread nD τ).loc b), ((c : Thread nD τ).loc b) ↦{fullShare} f) : sProp 𝕄)
      = some' (c : Thread nD τ) (Memref.whole b) := by
  have e : (Memref.whole b).view.set = Finset.univ := View.set_whole b
  unfold some'
  show _ = iprop(∃ f : Buf (Elt F) ((c : Thread nD τ).loc b), ((c : Thread nD τ).loc b) ↦[(Memref.whole b).view.set]{fullShare} f)
  rw [e]

/-- A buffer at some contents, read as values or not. -/
theorem some_owns (c : Dev nD) {sp : Space} {s : Shape} {e : EltTy} (M : Memref sig .tc sp s e) :
    (some' (c : Thread nD τ) M : sProp 𝕄) ⊢ iprop(∃ X, owns (c : Thread nD τ) M fullShare X) := by
  unfold some' owns
  iintro ⟨%f, H⟩
  iexists _; iexists f
  isplitr; · ipureintro; rfl
  iexact H
theorem owns_some (c : Dev nD) {sp : Space} {s : Shape} {e : EltTy} (M : Memref sig .tc sp s e) (X : s.Idx → Elt F e) :
    (owns (c : Thread nD τ) M fullShare X : sProp 𝕄) ⊢ some' (c : Thread nD τ) M := by
  unfold some' owns
  iintro ⟨%f, -, H⟩
  iexists f; iexact H

/-! ## The proof data -/

/-- The scratch buffers at some contents. -/
def scratch (c : Dev nD) : sProp 𝕄 :=
  iprop(some' (c : Thread nD τ) (Memref.whole cc0_scratch0)
    ∗ some' (c : Thread nD τ) (Memref.whole cc0_scratch1)
    ∗ some' (c : Thread nD τ) (Memref.whole cc0_scratch2)
    ∗ some' (c : Thread nD τ) (Memref.whole cc0_scratch3)
    ∗ some' (c : Thread nD τ) (Memref.whole cc0_scratch4)
    ∗ some' (c : Thread nD τ) (Memref.whole cc0_scratch5)
    ∗ some' (c : Thread nD τ) (Memref.whole cc0_scratch6)
    ∗ some' (c : Thread nD τ) (Memref.whole cc0_scratch7)
    ∗ some' (c : Thread nD τ) (Memref.whole cc0_scratch8))

theorem invariant_eq (c : Dev nD) : (Pipeline.ΦA spec0 c : sProp 𝕄) = iprop(scratch (F := F) c ∗ ∃ r, prngReg c r) := by
  unfold Pipeline.ΦA
  rw [scopedRest0_eq]; simp only [some_whole]; rfl

/-- The proof data: the inputs' buffers at their blocks, the results' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (cfg := cfg0) 5 t
    | ⟨6, _⟩ => Dat.unnamed (cfg := cfg0) 6 t
    | ⟨7, _⟩ => Dat.unnamed (cfg := cfg0) 7 t
    | ⟨_ + 8, h⟩ => absurd h (Nat.not_lt.2 (Nat.le_add_left _ _))
  Φ _ := Pipeline.ΦA spec0 c
  q w := Pipeline.shareOf spec0 w
  owed _ := 0

/-- The windows nothing is said of: the results. -/
def results : Fin cfg0.W → Bool := ![false, false, false, false, false, true, true, true]

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

theorem live : ∀ (w : Fin cfg0.W) (t : Fin cfg0.N), cfg0.idle w (grid0.coords t) = false := by decide +kernel

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

/-! ## The body at a point -/

/-- What the body holds at point `t`, before and after. -/
abbrev held (c : Dev nD) (t : Fin cfg0.N) : sProp 𝕄 :=
  parts c (st0_0 t) (st0_1 t) (st0_2 t) (st0_3 t) (st0_4 t) (st0_5 t) (st0_6 t) (st0_7 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8)
    iprop((∃ r, prngReg c r) ∗ ∃ W, owes (c : Thread nD τ) 0 W) (iblk m c 0 t) (iblk m c 1 t) (iblk m c 2 t) (iblk m c 3 t) (iblk m c 4 t)

theorem step (c : Dev nD) (t : Fin cfg0.N) :
    held m c t ⊢ wp frame (wpE (defs₀ (F := F)) Variants.none c none) Set.univ (bodyAt0 t) (fun _ => held m c t) := by
  have h := run_parts (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
    iprop((∃ r, prngReg c r) ∗ ∃ W, owes (c : Thread nD τ) 0 W) (iblk m c 0 t) (iblk m c 1 t) (iblk m c 2 t) (iblk m c 3 t) (iblk m c 4 t)
  convert h

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (∃ X, owns (c : Thread nD τ) (st0_5 t) fullShare X)
    ∗ (∃ X, owns (c : Thread nD τ) (st0_6 t) fullShare X)
    ∗ (∃ X, owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  have enter : bodyPre m c t ⊢ held m c t := by
    unfold bodyPre held parts
    simp only [before0_0, before0_1, before0_2, before0_3, before0_4]
    rw [show (dats m 0 c).Φ t.castSucc = Pipeline.ΦA spec0 c from rfl, invariant_eq]
    unfold Dat.owesAt Pipeline.owesWithin scratch
    rw [show (dats m 0 c).owed t.castSucc = 0 from rfl]
    iintro ⟨⟨HS, Hg⟩, ⟨%W, -, HW⟩, ⟨%d0, H0⟩, ⟨%d1, H1⟩, ⟨%d2, H2⟩, ⟨%d3, H3⟩, ⟨%d4, H4⟩, ⟨%X5, H5⟩, ⟨%X6, H6⟩, ⟨%X7, H7⟩⟩
    isplitl [HS]; · iexact HS
    isplitl [H0]; · iexact H0
    isplitl [H1]; · iexact H1
    isplitl [H2]; · iexact H2
    isplitl [H3]; · iexact H3
    isplitl [H4]; · iexact H4
    isplitl [H5]; · iapply (owns_some c (st0_5 t) X5); iexact H5
    isplitl [H6]; · iapply (owns_some c (st0_6 t) X6); iexact H6
    isplitl [H7]; · iapply (owns_some c (st0_7 t) X7); iexact H7
    isplitl [Hg]; · iexact Hg
    iexists W; iexact HW
  have leave : held m c t ⊢ bodyPost m c t := by
    unfold bodyPost held parts
    simp only [leaves_eq, after0_0, after0_1, after0_2, after0_3, after0_4]
    rw [show (dats m 0 c).Φ t.succ = Pipeline.ΦA spec0 c from rfl, invariant_eq]
    unfold Dat.owesAt Pipeline.owesWithin scratch
    rw [show (dats m 0 c).owed t.succ = 0 from rfl]
    iintro ⟨HS, H0, H1, H2, H3, H4, H5, H6, H7, Hg, ⟨%W, HW⟩⟩
    isplitl [HS Hg]
    · isplitl [HS]; · iexact HS
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iapply (some_owns c (st0_5 t)); iexact H5
    isplitl [H6]; · iapply (some_owns c (st0_6 t)); iexact H6
    iapply (some_owns c (st0_7 t)); iexact H7
  exact enter.trans ((step m c t).trans (wp_mono _ _ _ fun _ => leave))

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ results := fun t => by
  rw [bigSep_W0, bigSep_W0, defs₀_row]
  exact triple_restated (sound_body m c t) rfl .rfl fun _ => .rfl

/-! ## The run and the frame -/

set_option backward.isDefEq.respectTransparency.types false in
/-- Every run ends, with the host's buffers as the host left them and every counter at zero. -/
theorem run_main : θ_run defs (onTc (τ := τ) (main (F := F))) ⟨m, fun _ => 0, ρ⟩
    (fun r => Pipeline.RDat.FramePost (cfgs 0) (fun c => (dats m 0 c).toRForget results) (V m) r ∧ r.2.sem = fun _ => 0) :=
  Pipeline.θ_run_frame_forget_shared (Q' := _) cfgs (dats m) (0 : Fin 1) launch₀0 defs₀ Variants.none results m ρ main
    (hbody := fun c => (body_obligation m c).loose) (hq := fun _ _ _ => rfl)
    (howed := fun _ _ => rfl) (V := V m) (hmain := hmain m Variants.none) (hA := A_eq m) (hΦ := fun _ _ => rfl)

/-- The frame: the kernel's program runs to its end, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c)⟩, h.2⟩) (run_main m ρ)

end Cert.AttnFwdIdeal.Body

end
-- ==== Proof.AttnFwd.Claim.lean ====
/- The claims of the attention forward call: its two programs run to their ends. -/
module

public import proofs.«01_k».proof.Defs
public import proofs.«01_k».proof.Proof.AttnFwd.Frame
public import proofs.«01_k».proof.Proof.Gen.AttnFwd

@[expose] public section

set_option maxRecDepth 65536

noncomputable section

namespace Cert.Proof

open Idealize.ShloMosaic Idealize.ShloMosaic.TcCoe Idealize.ShloMosaic.Tactic Idealize.SL.Sem

/-- The kernel's two programs have the same text. -/
theorem attn_fwd_defs : Cert.AttnFwd.defs (F := Bits) = Cert.AttnFwdIdeal.defs (F := Bits) := by sl_kernel_rfl
theorem attn_fwd_main : Cert.AttnFwd.main (F := Bits) = Cert.AttnFwdIdeal.main (F := Bits) := by sl_kernel_rfl

theorem attn_fwd_frame : Cert.quiescent_AttnFwd := fun m ρ _ => by
  have h := Cert.AttnFwdIdeal.Body.frame (F := Bits) m ρ
  rw [← attn_fwd_defs, ← attn_fwd_main] at h
  exact h

theorem attn_fwd_ideal_frame : Cert.quiescent_AttnFwdIdeal := fun m ρ _ => Cert.AttnFwdIdeal.Body.frame (F := Ideal) m ρ

end Cert.Proof

end
-- ==== Proof.lean ====
/- What is claimed of the training step's calls, put together from the modules that prove each call. -/
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.LossIdeal.Value
public import proofs.«01_k».proof.Proof.Gen.H1
public import proofs.«01_k».proof.Proof.Gen.H1Ideal.Value
public import proofs.«01_k».proof.Proof.Gen.H1RefIdeal.Run
public import proofs.«01_k».proof.Proof.Gen.H1RefIdeal.Read
public import proofs.«01_k».proof.Proof.Gen.H1.Frame
public import proofs.«01_k».proof.Proof.Gen.H1Ideal.Frame
public import proofs.«01_k».proof.Proof.Gen.Attn.Frame
public import proofs.«01_k».proof.Proof.Gen.Attn.Skeleton
public import proofs.«01_k».proof.Proof.Gen.Attn.Launch
public import proofs.«01_k».proof.Proof.Gen.Attn.Points
public import proofs.«01_k».proof.Proof.Gen.AttnIdeal.Frame
public import proofs.«01_k».proof.Proof.Gen.AttnIdeal.Skeleton
public import proofs.«01_k».proof.Proof.Gen.AttnIdeal.Launch
public import proofs.«01_k».proof.Proof.Gen.AttnIdeal.Points
public import proofs.«01_k».proof.Proof.Loss.Claim
public import proofs.«01_k».proof.Proof.H1.Claim
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Ffn.Claim
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Skeleton
public import proofs.«01_k».proof.Proof.Gen.ConvIdeal.Points
public import proofs.«01_k».proof.Proof.Gen.ConvIdeal.Launch
public import proofs.«01_k».proof.Proof.Gen.ConvRefIdeal
public import proofs.«01_k».proof.Proof.Gen.ConvRefIdeal.Run
public import proofs.«01_k».proof.Proof.Gen.ConvRefIdeal.Read
public import proofs.«01_k».proof.Proof.Conv.Claim
public import proofs.«01_k».proof.Proof.Gen.Attn
public import proofs.«01_k».proof.Proof.Gen.AttnIdeal
public import proofs.«01_k».proof.Proof.Attn.Claim
public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsRefIdeal
public import proofs.«01_k».proof.Proof.Gen.RmsRefIdeal.Run
public import proofs.«01_k».proof.Proof.Gen.RmsRefIdeal.Read
public import proofs.«01_k».proof.Proof.Gen.RmsIdeal.Value
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.Gen.MixIdeal.Value
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.FfnFwdIdeal.Value
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.ConvFwdIdeal.Skeleton
public import proofs.«01_k».proof.Proof.Gen.ConvFwdIdeal.Points
public import proofs.«01_k».proof.Proof.Gen.ConvFwdIdeal.Launch
public import proofs.«01_k».proof.Proof.Gen.ConvFwdIdeal.Value
public import proofs.«01_k».proof.Proof.Gen.FfnLast
public import proofs.«01_k».proof.Proof.Gen.FfnLast.Frame
public import proofs.«01_k».proof.Proof.Gen.FfnLastIdeal
public import proofs.«01_k».proof.Proof.Gen.FfnLastIdeal.Frame
public import proofs.«01_k».proof.Proof.Gen.FfnLastRefIdeal
public import proofs.«01_k».proof.Proof.Gen.FfnLastRefIdeal.Run
public import proofs.«01_k».proof.Proof.Gen.FfnLastRefIdeal.Read
public import proofs.«01_k».proof.Proof.Gen.FfnLastIdeal.Value
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.UpIdeal.Value
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.AdamIdeal.Value
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.FfnFwd.Claim
public import proofs.«01_k».proof.Proof.FfnLast.Claim
public import proofs.«01_k».proof.Proof.ConvFwd.Claim
public import proofs.«01_k».proof.Proof.Mix.Claim
public import proofs.«01_k».proof.Proof.Rms.Claim
public import proofs.«01_k».proof.Proof.Up.Claim
public import proofs.«01_k».proof.Proof.Adam.Claim
public import proofs.«01_k».proof.Proof.AttnFwd.Claim
public import Idealize.ShloMosaic.Adequacy
public import Idealize.ShloMosaic.Init

@[expose] public section

noncomputable section

namespace Cert.Proof

open Idealize.ShloMosaic Idealize.SL.Sem

theorem claim : Cert.Claim := ⟨Cert.Loss.Gen.facts, Cert.LossIdeal.Gen.facts, Cert.LossRefIdeal.Gen.facts,
  Cert.H1.Gen.facts, Cert.H1Ideal.Gen.facts, Cert.H1RefIdeal.Gen.facts,
  Cert.Ffn.Gen.facts, Cert.FfnIdeal.Gen.facts, Cert.FfnRefIdeal.Gen.facts,
  Cert.Conv.Gen.facts, Cert.ConvIdeal.Gen.facts, Cert.ConvRefIdeal.Gen.facts,
  Cert.Attn.Gen.facts, Cert.AttnIdeal.Gen.facts,
  Cert.FfnFwd.Gen.facts, Cert.FfnFwdIdeal.Gen.facts, Cert.FfnFwdRefIdeal.Gen.facts,
  Cert.FfnLast.Gen.facts, Cert.FfnLastIdeal.Gen.facts, Cert.FfnLastRefIdeal.Gen.facts,
  Cert.ConvFwd.Gen.facts, Cert.ConvFwdIdeal.Gen.facts, Cert.ConvFwdRefIdeal.Gen.facts,
  Cert.Mix.Gen.facts, Cert.MixIdeal.Gen.facts, Cert.MixRefIdeal.Gen.facts,
  Cert.Rms.Gen.facts, Cert.RmsIdeal.Gen.facts, Cert.RmsRefIdeal.Gen.facts,
  Cert.Up.Gen.facts, Cert.UpIdeal.Gen.facts, Cert.UpRefIdeal.Gen.facts,
  Cert.Adam.Gen.facts, Cert.AdamIdeal.Gen.facts, Cert.AdamRefIdeal.Gen.facts,
  Cert.AttnFwd.Gen.facts, Cert.AttnFwdIdeal.Gen.facts,
  pre_finite, pre_finite_h1, pre_finite_ffn, pre_finite_conv, pre_finite_conv_fwd,
  fun m ρ _ => Cert.Loss.Gen.frame m ρ, fun m ρ _ => Cert.LossIdeal.Gen.frame m ρ, fun m ρ _ => Cert.LossIdeal.Gen.frame m ρ,
  loss_ref_frame, fun m ρ _ => loss_ref_frame m ρ trivial,
  fun m ρ _ => Cert.H1.Gen.frame m ρ, fun m ρ _ => Cert.H1Ideal.Gen.frame m ρ, fun m ρ _ => Cert.H1Ideal.Gen.frame m ρ,
  h1_ref_frame, fun m ρ _ => h1_ref_frame m ρ trivial,
  fun m ρ _ => Cert.Ffn.Gen.frame m ρ, fun m ρ _ => Cert.FfnIdeal.Gen.frame m ρ, fun m ρ _ => Cert.FfnIdeal.Gen.frame m ρ,
  ffn_ref_frame, fun m ρ _ => ffn_ref_frame m ρ trivial,
  conv_frame, fun m ρ _ => Cert.ConvIdeal.Body.frame (F := Ideal) m ρ,
  fun m ρ _ => Cert.ConvIdeal.Body.frame (F := Ideal) m ρ, conv_ref_frame, fun m ρ _ => conv_ref_frame m ρ trivial,
  attn_frame, attn_ideal_frame,
  fun m ρ _ => Cert.FfnFwd.Gen.frame m ρ, fun m ρ _ => Cert.FfnFwdIdeal.Gen.frame m ρ, ffn_fwd_ref_frame,
  fun m ρ _ => Cert.FfnLast.Gen.frame m ρ, fun m ρ _ => Cert.FfnLastIdeal.Gen.frame m ρ, ffn_last_ref_frame,
  fun m ρ _ => Cert.ConvFwd.Gen.frame m ρ, fun m ρ _ => Cert.ConvFwdIdeal.Gen.frame m ρ, fun m ρ _ => Cert.ConvFwdIdeal.Gen.frame m ρ,
  conv_fwd_ref_frame, fun m ρ _ => conv_fwd_ref_frame m ρ trivial,
  fun m ρ _ => Cert.Mix.Gen.frame m ρ, fun m ρ _ => Cert.MixIdeal.Gen.frame m ρ, mix_ref_frame,
  fun m ρ _ => Cert.Rms.Gen.frame m ρ, fun m ρ _ => Cert.RmsIdeal.Gen.frame m ρ, rms_ref_frame,
  fun m ρ _ => Cert.Up.Gen.frame m ρ, fun m ρ _ => Cert.UpIdeal.Gen.frame m ρ, up_ref_frame,
  fun m ρ _ => Cert.Adam.Gen.frame m ρ, fun m ρ _ => Cert.AdamIdeal.Gen.frame m ρ, adam_ref_frame,
  attn_fwd_frame, attn_fwd_ideal_frame,
  trivial, loss_algebraic, trivial, h1_algebraic, trivial, ffn_algebraic, trivial, conv_algebraic, trivial,
  trivial, ffn_fwd_algebraic, trivial, ffn_last_algebraic, trivial, conv_fwd_algebraic, trivial, mix_algebraic, trivial, rms_algebraic,
  trivial, up_algebraic, trivial, adam_algebraic, trivial⟩

end Cert.Proof

end
